-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_ActKernel (m : (ℓ : Loc Cert.ActKernel.nD Cert.ActKernel.τ Cert.ActKernel.sig) → Buf (Elt Bits) ℓ) : Prop :=
  True

def Pre_ActKernelIdeal (m : (ℓ : Loc Cert.ActKernelIdeal.nD Cert.ActKernelIdeal.τ Cert.ActKernelIdeal.sig) → Buf (Elt Ideal) ℓ) : Prop :=
  True

def Pre_ActReferenceIdeal (m : (ℓ : Loc Cert.ActReferenceIdeal.nD Cert.ActReferenceIdeal.τ Cert.ActReferenceIdeal.sig) → Buf (Elt Ideal) ℓ) : Prop :=
  True

def Pre_Ff2Kernel (m : (ℓ : Loc Cert.Ff2Kernel.nD Cert.Ff2Kernel.τ Cert.Ff2Kernel.sig) → Buf (Elt Bits) ℓ) : Prop :=
  True

def Pre_Ff2KernelIdeal (m : (ℓ : Loc Cert.Ff2KernelIdeal.nD Cert.Ff2KernelIdeal.τ Cert.Ff2KernelIdeal.sig) → Buf (Elt Ideal) ℓ) : Prop :=
  True

def Pre_Ff2ReferenceIdeal (m : (ℓ : Loc Cert.Ff2ReferenceIdeal.nD Cert.Ff2ReferenceIdeal.τ Cert.Ff2ReferenceIdeal.sig) → Buf (Elt Ideal) ℓ) : Prop :=
  True

def Pre_Ff1Kernel (m : (ℓ : Loc Cert.Ff1Kernel.nD Cert.Ff1Kernel.τ Cert.Ff1Kernel.sig) → Buf (Elt Bits) ℓ) : Prop :=
  True

def Pre_Ff1KernelIdeal (m : (ℓ : Loc Cert.Ff1KernelIdeal.nD Cert.Ff1KernelIdeal.τ Cert.Ff1KernelIdeal.sig) → Buf (Elt Ideal) ℓ) : Prop :=
  True

def Pre_Ff1ReferenceIdeal (m : (ℓ : Loc Cert.Ff1ReferenceIdeal.nD Cert.Ff1ReferenceIdeal.τ Cert.Ff1ReferenceIdeal.sig) → Buf (Elt Ideal) ℓ) : Prop :=
  True

def Pre_WinKernel (m : (ℓ : Loc Cert.WinKernel.nD Cert.WinKernel.τ Cert.WinKernel.sig) → Buf (Elt Bits) ℓ) : Prop :=
  True

def Pre_WinKernelIdeal (m : (ℓ : Loc Cert.WinKernelIdeal.nD Cert.WinKernelIdeal.τ Cert.WinKernelIdeal.sig) → Buf (Elt Ideal) ℓ) : Prop :=
  True

def Pre_WinReferenceIdeal (m : (ℓ : Loc Cert.WinReferenceIdeal.nD Cert.WinReferenceIdeal.τ Cert.WinReferenceIdeal.sig) → Buf (Elt Ideal) ℓ) : Prop :=
  True

def Pre_Dh1Kernel (m : (ℓ : Loc Cert.Dh1Kernel.nD Cert.Dh1Kernel.τ Cert.Dh1Kernel.sig) → Buf (Elt Bits) ℓ) : Prop :=
  True

def Pre_Dh1KernelIdeal (m : (ℓ : Loc Cert.Dh1KernelIdeal.nD Cert.Dh1KernelIdeal.τ Cert.Dh1KernelIdeal.sig) → Buf (Elt Ideal) ℓ) : Prop :=
  True

def Pre_Dh1ReferenceIdeal (m : (ℓ : Loc Cert.Dh1ReferenceIdeal.nD Cert.Dh1ReferenceIdeal.τ Cert.Dh1ReferenceIdeal.sig) → Buf (Elt Ideal) ℓ) : Prop :=
  True

def Pre_Dh3Kernel (m : (ℓ : Loc Cert.Dh3Kernel.nD Cert.Dh3Kernel.τ Cert.Dh3Kernel.sig) → Buf (Elt Bits) ℓ) : Prop :=
  True

def Pre_Dh3KernelIdeal (m : (ℓ : Loc Cert.Dh3KernelIdeal.nD Cert.Dh3KernelIdeal.τ Cert.Dh3KernelIdeal.sig) → Buf (Elt Ideal) ℓ) : Prop :=
  True

def Pre_Dh3ReferenceIdeal (m : (ℓ : Loc Cert.Dh3ReferenceIdeal.nD Cert.Dh3ReferenceIdeal.τ Cert.Dh3ReferenceIdeal.sig) → Buf (Elt Ideal) ℓ) : Prop :=
  True

def Pre_RmsKernel (m : (ℓ : Loc Cert.RmsKernel.nD Cert.RmsKernel.τ Cert.RmsKernel.sig) → Buf (Elt Bits) ℓ) : Prop :=
  True

def Pre_RmsKernelIdeal (m : (ℓ : Loc Cert.RmsKernelIdeal.nD Cert.RmsKernelIdeal.τ Cert.RmsKernelIdeal.sig) → Buf (Elt Ideal) ℓ) : Prop :=
  True

def Pre_RmsReferenceIdeal (m : (ℓ : Loc Cert.RmsReferenceIdeal.nD Cert.RmsReferenceIdeal.τ Cert.RmsReferenceIdeal.sig) → Buf (Elt Ideal) ℓ) : Prop :=
  True

def Pre_PjKernel (m : (ℓ : Loc Cert.PjKernel.nD Cert.PjKernel.τ Cert.PjKernel.sig) → Buf (Elt Bits) ℓ) : Prop :=
  True

def Pre_PjKernelIdeal (m : (ℓ : Loc Cert.PjKernelIdeal.nD Cert.PjKernelIdeal.τ Cert.PjKernelIdeal.sig) → Buf (Elt Ideal) ℓ) : Prop :=
  True

def Pre_PjReferenceIdeal (m : (ℓ : Loc Cert.PjReferenceIdeal.nD Cert.PjReferenceIdeal.τ Cert.PjReferenceIdeal.sig) → Buf (Elt Ideal) ℓ) : Prop :=
  True

def Pre_UpKernel (m : (ℓ : Loc Cert.UpKernel.nD Cert.UpKernel.τ Cert.UpKernel.sig) → Buf (Elt Bits) ℓ) : Prop :=
  True

def Pre_UpKernelIdeal (m : (ℓ : Loc Cert.UpKernelIdeal.nD Cert.UpKernelIdeal.τ Cert.UpKernelIdeal.sig) → Buf (Elt Ideal) ℓ) : Prop :=
  True

def Pre_UpReferenceIdeal (m : (ℓ : Loc Cert.UpReferenceIdeal.nD Cert.UpReferenceIdeal.τ Cert.UpReferenceIdeal.sig) → Buf (Elt Ideal) ℓ) : Prop :=
  True

def Pre_DnKernel (m : (ℓ : Loc Cert.DnKernel.nD Cert.DnKernel.τ Cert.DnKernel.sig) → Buf (Elt Bits) ℓ) : Prop :=
  True

def Pre_DnKernelIdeal (m : (ℓ : Loc Cert.DnKernelIdeal.nD Cert.DnKernelIdeal.τ Cert.DnKernelIdeal.sig) → Buf (Elt Ideal) ℓ) : Prop :=
  True

def Pre_DnReferenceIdeal (m : (ℓ : Loc Cert.DnReferenceIdeal.nD Cert.DnReferenceIdeal.τ Cert.DnReferenceIdeal.sig) → Buf (Elt Ideal) ℓ) : Prop :=
  True

def Pre_MfKernel (m : (ℓ : Loc Cert.MfKernel.nD Cert.MfKernel.τ Cert.MfKernel.sig) → Buf (Elt Bits) ℓ) : Prop :=
  True

def Pre_MfKernelIdeal (m : (ℓ : Loc Cert.MfKernelIdeal.nD Cert.MfKernelIdeal.τ Cert.MfKernelIdeal.sig) → Buf (Elt Ideal) ℓ) : Prop :=
  True

def Pre_MfReferenceIdeal (m : (ℓ : Loc Cert.MfReferenceIdeal.nD Cert.MfReferenceIdeal.τ Cert.MfReferenceIdeal.sig) → Buf (Elt Ideal) ℓ) : Prop :=
  True

def Pre_WoKernel (m : (ℓ : Loc Cert.WoKernel.nD Cert.WoKernel.τ Cert.WoKernel.sig) → Buf (Elt Bits) ℓ) : Prop :=
  True

def Pre_WoKernelIdeal (m : (ℓ : Loc Cert.WoKernelIdeal.nD Cert.WoKernelIdeal.τ Cert.WoKernelIdeal.sig) → Buf (Elt Ideal) ℓ) : Prop :=
  True

def Pre_WoReferenceIdeal (m : (ℓ : Loc Cert.WoReferenceIdeal.nD Cert.WoReferenceIdeal.τ Cert.WoReferenceIdeal.sig) → Buf (Elt Ideal) ℓ) : Prop :=
  True

def Pre_CoKernel (m : (ℓ : Loc Cert.CoKernel.nD Cert.CoKernel.τ Cert.CoKernel.sig) → Buf (Elt Bits) ℓ) : Prop :=
  True

def Pre_CoKernelIdeal (m : (ℓ : Loc Cert.CoKernelIdeal.nD Cert.CoKernelIdeal.τ Cert.CoKernelIdeal.sig) → Buf (Elt Ideal) ℓ) : Prop :=
  True

def Pre_CoReferenceIdeal (m : (ℓ : Loc Cert.CoReferenceIdeal.nD Cert.CoReferenceIdeal.τ Cert.CoReferenceIdeal.sig) → Buf (Elt Ideal) ℓ) : Prop :=
  True

def Pre_CqKernel (m : (ℓ : Loc Cert.CqKernel.nD Cert.CqKernel.τ Cert.CqKernel.sig) → Buf (Elt Bits) ℓ) : Prop :=
  True

def Pre_CqKernelIdeal (m : (ℓ : Loc Cert.CqKernelIdeal.nD Cert.CqKernelIdeal.τ Cert.CqKernelIdeal.sig) → Buf (Elt Ideal) ℓ) : Prop :=
  True

def Pre_CqReferenceIdeal (m : (ℓ : Loc Cert.CqReferenceIdeal.nD Cert.CqReferenceIdeal.τ Cert.CqReferenceIdeal.sig) → Buf (Elt Ideal) ℓ) : Prop :=
  True

def Pre_DmKernel (m : (ℓ : Loc Cert.DmKernel.nD Cert.DmKernel.τ Cert.DmKernel.sig) → Buf (Elt Bits) ℓ) : Prop :=
  True

def Pre_DmKernelIdeal (m : (ℓ : Loc Cert.DmKernelIdeal.nD Cert.DmKernelIdeal.τ Cert.DmKernelIdeal.sig) → Buf (Elt Ideal) ℓ) : Prop :=
  True

def Pre_DmReferenceIdeal (m : (ℓ : Loc Cert.DmReferenceIdeal.nD Cert.DmReferenceIdeal.τ Cert.DmReferenceIdeal.sig) → Buf (Elt Ideal) ℓ) : Prop :=
  True

def Pre_DbKernel (m : (ℓ : Loc Cert.DbKernel.nD Cert.DbKernel.τ Cert.DbKernel.sig) → Buf (Elt Bits) ℓ) : Prop :=
  True

def Pre_DbKernelIdeal (m : (ℓ : Loc Cert.DbKernelIdeal.nD Cert.DbKernelIdeal.τ Cert.DbKernelIdeal.sig) → Buf (Elt Ideal) ℓ) : Prop :=
  True

def Pre_DbReferenceIdeal (m : (ℓ : Loc Cert.DbReferenceIdeal.nD Cert.DbReferenceIdeal.τ Cert.DbReferenceIdeal.sig) → Buf (Elt Ideal) ℓ) : Prop :=
  True

def Pre_DxKernel (m : (ℓ : Loc Cert.DxKernel.nD Cert.DxKernel.τ Cert.DxKernel.sig) → Buf (Elt Bits) ℓ) : Prop :=
  True

def Pre_DxKernelIdeal (m : (ℓ : Loc Cert.DxKernelIdeal.nD Cert.DxKernelIdeal.τ Cert.DxKernelIdeal.sig) → Buf (Elt Ideal) ℓ) : Prop :=
  True

def Pre_DxReferenceIdeal (m : (ℓ : Loc Cert.DxReferenceIdeal.nD Cert.DxReferenceIdeal.τ Cert.DxReferenceIdeal.sig) → Buf (Elt Ideal) ℓ) : Prop :=
  True

def Pre_WuKernel (m : (ℓ : Loc Cert.WuKernel.nD Cert.WuKernel.τ Cert.WuKernel.sig) → Buf (Elt Bits) ℓ) : Prop :=
  True

def Pre_WuKernelIdeal (m : (ℓ : Loc Cert.WuKernelIdeal.nD Cert.WuKernelIdeal.τ Cert.WuKernelIdeal.sig) → Buf (Elt Ideal) ℓ) : Prop :=
  True

def Pre_WuReferenceIdeal (m : (ℓ : Loc Cert.WuReferenceIdeal.nD Cert.WuReferenceIdeal.τ Cert.WuReferenceIdeal.sig) → Buf (Elt Ideal) ℓ) : Prop :=
  True

def Pre_DwoKernel (m : (ℓ : Loc Cert.DwoKernel.nD Cert.DwoKernel.τ Cert.DwoKernel.sig) → Buf (Elt Bits) ℓ) : Prop :=
  True

def Pre_DwoKernelIdeal (m : (ℓ : Loc Cert.DwoKernelIdeal.nD Cert.DwoKernelIdeal.τ Cert.DwoKernelIdeal.sig) → Buf (Elt Ideal) ℓ) : Prop :=
  True

def Pre_DwoReferenceIdeal (m : (ℓ : Loc Cert.DwoReferenceIdeal.nD Cert.DwoReferenceIdeal.τ Cert.DwoReferenceIdeal.sig) → Buf (Elt Ideal) ℓ) : Prop :=
  True

def Pre_DwqKernel (m : (ℓ : Loc Cert.DwqKernel.nD Cert.DwqKernel.τ Cert.DwqKernel.sig) → Buf (Elt Bits) ℓ) : Prop :=
  True

def Pre_DwqKernelIdeal (m : (ℓ : Loc Cert.DwqKernelIdeal.nD Cert.DwqKernelIdeal.τ Cert.DwqKernelIdeal.sig) → Buf (Elt Ideal) ℓ) : Prop :=
  True

def Pre_DwqReferenceIdeal (m : (ℓ : Loc Cert.DwqReferenceIdeal.nD Cert.DwqReferenceIdeal.τ Cert.DwqReferenceIdeal.sig) → Buf (Elt Ideal) ℓ) : Prop :=
  True

def Pre_LsKernel (m : (ℓ : Loc Cert.LsKernel.nD Cert.LsKernel.τ Cert.LsKernel.sig) → Buf (Elt Bits) ℓ) : Prop :=
  True

def Pre_LsKernelIdeal (m : (ℓ : Loc Cert.LsKernelIdeal.nD Cert.LsKernelIdeal.τ Cert.LsKernelIdeal.sig) → Buf (Elt Ideal) ℓ) : Prop :=
  True

def Pre_LsReferenceIdeal (m : (ℓ : Loc Cert.LsReferenceIdeal.nD Cert.LsReferenceIdeal.τ Cert.LsReferenceIdeal.sig) → Buf (Elt Ideal) ℓ) : Prop :=
  True

def Pre_AvKernel (m : (ℓ : Loc Cert.AvKernel.nD Cert.AvKernel.τ Cert.AvKernel.sig) → Buf (Elt Bits) ℓ) : Prop :=
  True

def Pre_AvKernelIdeal (m : (ℓ : Loc Cert.AvKernelIdeal.nD Cert.AvKernelIdeal.τ Cert.AvKernelIdeal.sig) → Buf (Elt Ideal) ℓ) : Prop :=
  True

def Pre_AvReferenceIdeal (m : (ℓ : Loc Cert.AvReferenceIdeal.nD Cert.AvReferenceIdeal.τ Cert.AvReferenceIdeal.sig) → Buf (Elt Ideal) ℓ) : Prop :=
  True

def Pre_AhKernel (m : (ℓ : Loc Cert.AhKernel.nD Cert.AhKernel.τ Cert.AhKernel.sig) → Buf (Elt Bits) ℓ) : Prop :=
  True

def Pre_AhKernelIdeal (m : (ℓ : Loc Cert.AhKernelIdeal.nD Cert.AhKernelIdeal.τ Cert.AhKernelIdeal.sig) → Buf (Elt Ideal) ℓ) : Prop :=
  True

def Pre_AhReferenceIdeal (m : (ℓ : Loc Cert.AhReferenceIdeal.nD Cert.AhReferenceIdeal.τ Cert.AhReferenceIdeal.sig) → Buf (Elt Ideal) ℓ) : Prop :=
  True

def Pre_AwKernel (m : (ℓ : Loc Cert.AwKernel.nD Cert.AwKernel.τ Cert.AwKernel.sig) → Buf (Elt Bits) ℓ) : Prop :=
  True

def Pre_AwKernelIdeal (m : (ℓ : Loc Cert.AwKernelIdeal.nD Cert.AwKernelIdeal.τ Cert.AwKernelIdeal.sig) → Buf (Elt Ideal) ℓ) : Prop :=
  True

def Pre_AwReferenceIdeal (m : (ℓ : Loc Cert.AwReferenceIdeal.nD Cert.AwReferenceIdeal.τ Cert.AwReferenceIdeal.sig) → Buf (Elt Ideal) ℓ) : Prop :=
  True

def Pre_AfKernel (m : (ℓ : Loc Cert.AfKernel.nD Cert.AfKernel.τ Cert.AfKernel.sig) → Buf (Elt Bits) ℓ) : Prop :=
  True

def Pre_AfKernelIdeal (m : (ℓ : Loc Cert.AfKernelIdeal.nD Cert.AfKernelIdeal.τ Cert.AfKernelIdeal.sig) → Buf (Elt Ideal) ℓ) : Prop :=
  True

def Pre_AfReferenceIdeal (m : (ℓ : Loc Cert.AfReferenceIdeal.nD Cert.AfReferenceIdeal.τ Cert.AfReferenceIdeal.sig) → Buf (Elt Ideal) ℓ) : Prop :=
  True

def Pre_ArKernel (m : (ℓ : Loc Cert.ArKernel.nD Cert.ArKernel.τ Cert.ArKernel.sig) → Buf (Elt Bits) ℓ) : Prop :=
  True

def Pre_ArKernelIdeal (m : (ℓ : Loc Cert.ArKernelIdeal.nD Cert.ArKernelIdeal.τ Cert.ArKernelIdeal.sig) → Buf (Elt Ideal) ℓ) : Prop :=
  True

def Pre_ArReferenceIdeal (m : (ℓ : Loc Cert.ArReferenceIdeal.nD Cert.ArReferenceIdeal.τ Cert.ArReferenceIdeal.sig) → Buf (Elt Ideal) ℓ) : Prop :=
  True

def Pre_AgKernel (m : (ℓ : Loc Cert.AgKernel.nD Cert.AgKernel.τ Cert.AgKernel.sig) → Buf (Elt Bits) ℓ) : Prop :=
  True

def Pre_AgKernelIdeal (m : (ℓ : Loc Cert.AgKernelIdeal.nD Cert.AgKernelIdeal.τ Cert.AgKernelIdeal.sig) → Buf (Elt Ideal) ℓ) : Prop :=
  True

def Pre_AgReferenceIdeal (m : (ℓ : Loc Cert.AgReferenceIdeal.nD Cert.AgReferenceIdeal.τ Cert.AgReferenceIdeal.sig) → Buf (Elt Ideal) ℓ) : Prop :=
  True

def Pre_ApKernel (m : (ℓ : Loc Cert.ApKernel.nD Cert.ApKernel.τ Cert.ApKernel.sig) → Buf (Elt Bits) ℓ) : Prop :=
  True

def Pre_ApKernelIdeal (m : (ℓ : Loc Cert.ApKernelIdeal.nD Cert.ApKernelIdeal.τ Cert.ApKernelIdeal.sig) → Buf (Elt Ideal) ℓ) : Prop :=
  True

def Pre_ApReferenceIdeal (m : (ℓ : Loc Cert.ApReferenceIdeal.nD Cert.ApReferenceIdeal.τ Cert.ApReferenceIdeal.sig) → Buf (Elt Ideal) ℓ) : Prop :=
  True

def Pre_AaKernel (m : (ℓ : Loc Cert.AaKernel.nD Cert.AaKernel.τ Cert.AaKernel.sig) → Buf (Elt Bits) ℓ) : Prop :=
  True

def Pre_AaKernelIdeal (m : (ℓ : Loc Cert.AaKernelIdeal.nD Cert.AaKernelIdeal.τ Cert.AaKernelIdeal.sig) → Buf (Elt Ideal) ℓ) : Prop :=
  True

def Pre_AaReferenceIdeal (m : (ℓ : Loc Cert.AaReferenceIdeal.nD Cert.AaReferenceIdeal.τ Cert.AaReferenceIdeal.sig) → Buf (Elt Ideal) ℓ) : Prop :=
  True

def Pre_AlKernel (m : (ℓ : Loc Cert.AlKernel.nD Cert.AlKernel.τ Cert.AlKernel.sig) → Buf (Elt Bits) ℓ) : Prop :=
  True

def Pre_AlKernelIdeal (m : (ℓ : Loc Cert.AlKernelIdeal.nD Cert.AlKernelIdeal.τ Cert.AlKernelIdeal.sig) → Buf (Elt Ideal) ℓ) : Prop :=
  True

def Pre_AlReferenceIdeal (m : (ℓ : Loc Cert.AlReferenceIdeal.nD Cert.AlReferenceIdeal.τ Cert.AlReferenceIdeal.sig) → Buf (Elt Ideal) ℓ) : Prop :=
  True

def Pre_AiKernel (m : (ℓ : Loc Cert.AiKernel.nD Cert.AiKernel.τ Cert.AiKernel.sig) → Buf (Elt Bits) ℓ) : Prop :=
  True

def Pre_AiKernelIdeal (m : (ℓ : Loc Cert.AiKernelIdeal.nD Cert.AiKernelIdeal.τ Cert.AiKernelIdeal.sig) → Buf (Elt Ideal) ℓ) : Prop :=
  True

def Pre_AiReferenceIdeal (m : (ℓ : Loc Cert.AiReferenceIdeal.nD Cert.AiReferenceIdeal.τ Cert.AiReferenceIdeal.sig) → Buf (Elt Ideal) ℓ) : Prop :=
  True

def Pre_AcKernel (m : (ℓ : Loc Cert.AcKernel.nD Cert.AcKernel.τ Cert.AcKernel.sig) → Buf (Elt Bits) ℓ) : Prop :=
  True

def Pre_AcKernelIdeal (m : (ℓ : Loc Cert.AcKernelIdeal.nD Cert.AcKernelIdeal.τ Cert.AcKernelIdeal.sig) → Buf (Elt Ideal) ℓ) : Prop :=
  True

def Pre_AcReferenceIdeal (m : (ℓ : Loc Cert.AcReferenceIdeal.nD Cert.AcReferenceIdeal.τ Cert.AcReferenceIdeal.sig) → Buf (Elt Ideal) ℓ) : Prop :=
  True

def Pre_AuKernel (m : (ℓ : Loc Cert.AuKernel.nD Cert.AuKernel.τ Cert.AuKernel.sig) → Buf (Elt Bits) ℓ) : Prop :=
  True

def Pre_AuKernelIdeal (m : (ℓ : Loc Cert.AuKernelIdeal.nD Cert.AuKernelIdeal.τ Cert.AuKernelIdeal.sig) → Buf (Elt Ideal) ℓ) : Prop :=
  True

def Pre_AuReferenceIdeal (m : (ℓ : Loc Cert.AuReferenceIdeal.nD Cert.AuReferenceIdeal.τ Cert.AuReferenceIdeal.sig) → Buf (Elt Ideal) ℓ) : Prop :=
  True

def Pre_AsKernel (m : (ℓ : Loc Cert.AsKernel.nD Cert.AsKernel.τ Cert.AsKernel.sig) → Buf (Elt Bits) ℓ) : Prop :=
  True

def Pre_AsKernelIdeal (m : (ℓ : Loc Cert.AsKernelIdeal.nD Cert.AsKernelIdeal.τ Cert.AsKernelIdeal.sig) → Buf (Elt Ideal) ℓ) : Prop :=
  True

def Pre_AsReferenceIdeal (m : (ℓ : Loc Cert.AsReferenceIdeal.nD Cert.AsReferenceIdeal.τ Cert.AsReferenceIdeal.sig) → Buf (Elt Ideal) ℓ) : Prop :=
  True

def Pre_AmKernel (m : (ℓ : Loc Cert.AmKernel.nD Cert.AmKernel.τ Cert.AmKernel.sig) → Buf (Elt Bits) ℓ) : Prop :=
  True

def Pre_AmKernelIdeal (m : (ℓ : Loc Cert.AmKernelIdeal.nD Cert.AmKernelIdeal.τ Cert.AmKernelIdeal.sig) → Buf (Elt Ideal) ℓ) : Prop :=
  True

def Pre_AmReferenceIdeal (m : (ℓ : Loc Cert.AmReferenceIdeal.nD Cert.AmReferenceIdeal.τ Cert.AmReferenceIdeal.sig) → Buf (Elt Ideal) ℓ) : Prop :=
  True

def Pre_AoKernel (m : (ℓ : Loc Cert.AoKernel.nD Cert.AoKernel.τ Cert.AoKernel.sig) → Buf (Elt Bits) ℓ) : Prop :=
  True

def Pre_AoKernelIdeal (m : (ℓ : Loc Cert.AoKernelIdeal.nD Cert.AoKernelIdeal.τ Cert.AoKernelIdeal.sig) → Buf (Elt Ideal) ℓ) : Prop :=
  True

def Pre_AoReferenceIdeal (m : (ℓ : Loc Cert.AoReferenceIdeal.nD Cert.AoReferenceIdeal.τ Cert.AoReferenceIdeal.sig) → Buf (Elt Ideal) ℓ) : Prop :=
  True

def Pre_AqKernel (m : (ℓ : Loc Cert.AqKernel.nD Cert.AqKernel.τ Cert.AqKernel.sig) → Buf (Elt Bits) ℓ) : Prop :=
  True

def Pre_AqKernelIdeal (m : (ℓ : Loc Cert.AqKernelIdeal.nD Cert.AqKernelIdeal.τ Cert.AqKernelIdeal.sig) → Buf (Elt Ideal) ℓ) : Prop :=
  True

def Pre_AqReferenceIdeal (m : (ℓ : Loc Cert.AqReferenceIdeal.nD Cert.AqReferenceIdeal.τ Cert.AqReferenceIdeal.sig) → Buf (Elt Ideal) ℓ) : Prop :=
  True

def Pre_AxKernel (m : (ℓ : Loc Cert.AxKernel.nD Cert.AxKernel.τ Cert.AxKernel.sig) → Buf (Elt Bits) ℓ) : Prop :=
  True

def Pre_AxKernelIdeal (m : (ℓ : Loc Cert.AxKernelIdeal.nD Cert.AxKernelIdeal.τ Cert.AxKernelIdeal.sig) → Buf (Elt Ideal) ℓ) : Prop :=
  True

def Pre_AxReferenceIdeal (m : (ℓ : Loc Cert.AxReferenceIdeal.nD Cert.AxReferenceIdeal.τ Cert.AxReferenceIdeal.sig) → Buf (Elt Ideal) ℓ) : Prop :=
  True

def Pre_CkvKernel (m : (ℓ : Loc Cert.CkvKernel.nD Cert.CkvKernel.τ Cert.CkvKernel.sig) → Buf (Elt Bits) ℓ) : Prop :=
  True

def Pre_CkvKernelIdeal (m : (ℓ : Loc Cert.CkvKernelIdeal.nD Cert.CkvKernelIdeal.τ Cert.CkvKernelIdeal.sig) → Buf (Elt Ideal) ℓ) : Prop :=
  True

def Pre_CkvReferenceIdeal (m : (ℓ : Loc Cert.CkvReferenceIdeal.nD Cert.CkvReferenceIdeal.τ Cert.CkvReferenceIdeal.sig) → Buf (Elt Ideal) ℓ) : Prop :=
  True

def Pre_DwkvKernel (m : (ℓ : Loc Cert.DwkvKernel.nD Cert.DwkvKernel.τ Cert.DwkvKernel.sig) → Buf (Elt Bits) ℓ) : Prop :=
  True

def Pre_DwkvKernelIdeal (m : (ℓ : Loc Cert.DwkvKernelIdeal.nD Cert.DwkvKernelIdeal.τ Cert.DwkvKernelIdeal.sig) → Buf (Elt Ideal) ℓ) : Prop :=
  True

def Pre_DwkvReferenceIdeal (m : (ℓ : Loc Cert.DwkvReferenceIdeal.nD Cert.DwkvReferenceIdeal.τ Cert.DwkvReferenceIdeal.sig) → Buf (Elt Ideal) ℓ) : Prop :=
  True

def Pre_DmemKernel (m : (ℓ : Loc Cert.DmemKernel.nD Cert.DmemKernel.τ Cert.DmemKernel.sig) → Buf (Elt Bits) ℓ) : Prop :=
  True

def Pre_DmemKernelIdeal (m : (ℓ : Loc Cert.DmemKernelIdeal.nD Cert.DmemKernelIdeal.τ Cert.DmemKernelIdeal.sig) → Buf (Elt Ideal) ℓ) : Prop :=
  True

def Pre_DmemReferenceIdeal (m : (ℓ : Loc Cert.DmemReferenceIdeal.nD Cert.DmemReferenceIdeal.τ Cert.DmemReferenceIdeal.sig) → Buf (Elt Ideal) ℓ) : Prop :=
  True

def Pre_Dh2Kernel (m : (ℓ : Loc Cert.Dh2Kernel.nD Cert.Dh2Kernel.τ Cert.Dh2Kernel.sig) → Buf (Elt Bits) ℓ) : Prop :=
  True

def Pre_Dh2KernelIdeal (m : (ℓ : Loc Cert.Dh2KernelIdeal.nD Cert.Dh2KernelIdeal.τ Cert.Dh2KernelIdeal.sig) → Buf (Elt Ideal) ℓ) : Prop :=
  True

def Pre_Dh2ReferenceIdeal (m : (ℓ : Loc Cert.Dh2ReferenceIdeal.nD Cert.Dh2ReferenceIdeal.τ Cert.Dh2ReferenceIdeal.sig) → Buf (Elt Ideal) ℓ) : Prop :=
  True

def Pre_FmKernel (m : (ℓ : Loc Cert.FmKernel.nD Cert.FmKernel.τ Cert.FmKernel.sig) → Buf (Elt Bits) ℓ) : Prop :=
  True

def Pre_FmKernelIdeal (m : (ℓ : Loc Cert.FmKernelIdeal.nD Cert.FmKernelIdeal.τ Cert.FmKernelIdeal.sig) → Buf (Elt Ideal) ℓ) : Prop :=
  True

def Pre_FmReferenceIdeal (m : (ℓ : Loc Cert.FmReferenceIdeal.nD Cert.FmReferenceIdeal.τ Cert.FmReferenceIdeal.sig) → Buf (Elt Ideal) ℓ) : Prop :=
  True

def Pre_FpKernel (m : (ℓ : Loc Cert.FpKernel.nD Cert.FpKernel.τ Cert.FpKernel.sig) → Buf (Elt Bits) ℓ) : Prop :=
  True

def Pre_FpKernelIdeal (m : (ℓ : Loc Cert.FpKernelIdeal.nD Cert.FpKernelIdeal.τ Cert.FpKernelIdeal.sig) → Buf (Elt Ideal) ℓ) : Prop :=
  True

def Pre_FpReferenceIdeal (m : (ℓ : Loc Cert.FpReferenceIdeal.nD Cert.FpReferenceIdeal.τ Cert.FpReferenceIdeal.sig) → Buf (Elt Ideal) ℓ) : Prop :=
  True

def Pre_RmemKernel (m : (ℓ : Loc Cert.RmemKernel.nD Cert.RmemKernel.τ Cert.RmemKernel.sig) → Buf (Elt Bits) ℓ) : Prop :=
  True

def Pre_RmemKernelIdeal (m : (ℓ : Loc Cert.RmemKernelIdeal.nD Cert.RmemKernelIdeal.τ Cert.RmemKernelIdeal.sig) → Buf (Elt Ideal) ℓ) : Prop :=
  True

def Pre_RmemReferenceIdeal (m : (ℓ : Loc Cert.RmemReferenceIdeal.nD Cert.RmemReferenceIdeal.τ Cert.RmemReferenceIdeal.sig) → Buf (Elt Ideal) ℓ) : Prop :=
  True

def Pre_DlKernel (m : (ℓ : Loc Cert.DlKernel.nD Cert.DlKernel.τ Cert.DlKernel.sig) → Buf (Elt Bits) ℓ) : Prop :=
  True

def Pre_DlKernelIdeal (m : (ℓ : Loc Cert.DlKernelIdeal.nD Cert.DlKernelIdeal.τ Cert.DlKernelIdeal.sig) → Buf (Elt Ideal) ℓ) : Prop :=
  True

def Pre_DlReferenceIdeal (m : (ℓ : Loc Cert.DlReferenceIdeal.nD Cert.DlReferenceIdeal.τ Cert.DlReferenceIdeal.sig) → Buf (Elt Ideal) ℓ) : Prop :=
  True

def Pre_GluKernel (m : (ℓ : Loc Cert.GluKernel.nD Cert.GluKernel.τ Cert.GluKernel.sig) → Buf (Elt Bits) ℓ) : Prop :=
  True

def Pre_GluKernelIdeal (m : (ℓ : Loc Cert.GluKernelIdeal.nD Cert.GluKernelIdeal.τ Cert.GluKernelIdeal.sig) → Buf (Elt Ideal) ℓ) : Prop :=
  True

def Pre_GluReferenceIdeal (m : (ℓ : Loc Cert.GluReferenceIdeal.nD Cert.GluReferenceIdeal.τ Cert.GluReferenceIdeal.sig) → Buf (Elt Ideal) ℓ) : Prop :=
  True

def Pre_MixKernel (m : (ℓ : Loc Cert.MixKernel.nD Cert.MixKernel.τ Cert.MixKernel.sig) → Buf (Elt Bits) ℓ) : Prop :=
  True

def Pre_MixKernelIdeal (m : (ℓ : Loc Cert.MixKernelIdeal.nD Cert.MixKernelIdeal.τ Cert.MixKernelIdeal.sig) → Buf (Elt Ideal) ℓ) : Prop :=
  True

def Pre_MixReferenceIdeal (m : (ℓ : Loc Cert.MixReferenceIdeal.nD Cert.MixReferenceIdeal.τ Cert.MixReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_ActKernel [hActKernel : Cert.ActKernel.Facts] : Prop :=
  ∀ (m : (ℓ : Loc Cert.ActKernel.nD Cert.ActKernel.τ Cert.ActKernel.sig) → Buf (Elt Bits) ℓ) (g : Dev Cert.ActKernel.nD → PrngReg), Pre_ActKernel m →
    θ_run (Cert.ActKernel.defs (F := Bits)) (onTc (τ := Cert.ActKernel.τ) (Cert.ActKernel.main (F := Bits))) ⟨m, fun _ => 0, g⟩ (fun r => (∀ c : Dev Cert.ActKernel.nD,
      r.2.mem ((c.tc : Thread Cert.ActKernel.nD Cert.ActKernel.τ).loc Cert.ActKernel.main_arg0) = m ((c.tc : Thread Cert.ActKernel.nD Cert.ActKernel.τ).loc Cert.ActKernel.main_arg0)
      ∧ r.2.mem ((c.tc : Thread Cert.ActKernel.nD Cert.ActKernel.τ).loc Cert.ActKernel.main_arg1) = m ((c.tc : Thread Cert.ActKernel.nD Cert.ActKernel.τ).loc Cert.ActKernel.main_arg1)
      ∧ r.2.mem ((c.tc : Thread Cert.ActKernel.nD Cert.ActKernel.τ).loc Cert.ActKernel.main_arg2) = m ((c.tc : Thread Cert.ActKernel.nD Cert.ActKernel.τ).loc Cert.ActKernel.main_arg2))
      ∧ r.2.sem = fun _ => 0)

def quiescent_ActKernelIdeal [hActKernelIdeal : Cert.ActKernelIdeal.Facts] : Prop :=
  ∀ (m : (ℓ : Loc Cert.ActKernelIdeal.nD Cert.ActKernelIdeal.τ Cert.ActKernelIdeal.sig) → Buf (Elt Ideal) ℓ) (g : Dev Cert.ActKernelIdeal.nD → PrngReg), Pre_ActKernelIdeal m →
    θ_run (Cert.ActKernelIdeal.defs (F := Ideal)) (onTc (τ := Cert.ActKernelIdeal.τ) (Cert.ActKernelIdeal.main (F := Ideal))) ⟨m, fun _ => 0, g⟩ (fun r => (∀ c : Dev Cert.ActKernelIdeal.nD,
      r.2.mem ((c.tc : Thread Cert.ActKernelIdeal.nD Cert.ActKernelIdeal.τ).loc Cert.ActKernelIdeal.main_arg0) = m ((c.tc : Thread Cert.ActKernelIdeal.nD Cert.ActKernelIdeal.τ).loc Cert.ActKernelIdeal.main_arg0)
      ∧ r.2.mem ((c.tc : Thread Cert.ActKernelIdeal.nD Cert.ActKernelIdeal.τ).loc Cert.ActKernelIdeal.main_arg1) = m ((c.tc : Thread Cert.ActKernelIdeal.nD Cert.ActKernelIdeal.τ).loc Cert.ActKernelIdeal.main_arg1)
      ∧ r.2.mem ((c.tc : Thread Cert.ActKernelIdeal.nD Cert.ActKernelIdeal.τ).loc Cert.ActKernelIdeal.main_arg2) = m ((c.tc : Thread Cert.ActKernelIdeal.nD Cert.ActKernelIdeal.τ).loc Cert.ActKernelIdeal.main_arg2))
      ∧ r.2.sem = fun _ => 0)

def quiescent_ActReferenceIdeal [hActReferenceIdeal : Cert.ActReferenceIdeal.Facts] : Prop :=
  ∀ (m : (ℓ : Loc Cert.ActReferenceIdeal.nD Cert.ActReferenceIdeal.τ Cert.ActReferenceIdeal.sig) → Buf (Elt Ideal) ℓ) (g : Dev Cert.ActReferenceIdeal.nD → PrngReg), Pre_ActReferenceIdeal m →
    θ_run (Cert.ActReferenceIdeal.defs (F := Ideal)) (onTc (τ := Cert.ActReferenceIdeal.τ) (Cert.ActReferenceIdeal.main (F := Ideal))) ⟨m, fun _ => 0, g⟩ (fun r => (∀ c : Dev Cert.ActReferenceIdeal.nD,
      r.2.mem ((c.tc : Thread Cert.ActReferenceIdeal.nD Cert.ActReferenceIdeal.τ).loc Cert.ActReferenceIdeal.main_arg0) = m ((c.tc : Thread Cert.ActReferenceIdeal.nD Cert.ActReferenceIdeal.τ).loc Cert.ActReferenceIdeal.main_arg0)
      ∧ r.2.mem ((c.tc : Thread Cert.ActReferenceIdeal.nD Cert.ActReferenceIdeal.τ).loc Cert.ActReferenceIdeal.main_arg1) = m ((c.tc : Thread Cert.ActReferenceIdeal.nD Cert.ActReferenceIdeal.τ).loc Cert.ActReferenceIdeal.main_arg1)
      ∧ r.2.mem ((c.tc : Thread Cert.ActReferenceIdeal.nD Cert.ActReferenceIdeal.τ).loc Cert.ActReferenceIdeal.main_arg2) = m ((c.tc : Thread Cert.ActReferenceIdeal.nD Cert.ActReferenceIdeal.τ).loc Cert.ActReferenceIdeal.main_arg2))
      ∧ r.2.sem = fun _ => 0)

def quiescent_Ff2Kernel [hFf2Kernel : Cert.Ff2Kernel.Facts] : Prop :=
  ∀ (m : (ℓ : Loc Cert.Ff2Kernel.nD Cert.Ff2Kernel.τ Cert.Ff2Kernel.sig) → Buf (Elt Bits) ℓ) (g : Dev Cert.Ff2Kernel.nD → PrngReg), Pre_Ff2Kernel m →
    θ_run (Cert.Ff2Kernel.defs (F := Bits)) (onTc (τ := Cert.Ff2Kernel.τ) (Cert.Ff2Kernel.main (F := Bits))) ⟨m, fun _ => 0, g⟩ (fun r => (∀ c : Dev Cert.Ff2Kernel.nD,
      r.2.mem ((c.tc : Thread Cert.Ff2Kernel.nD Cert.Ff2Kernel.τ).loc Cert.Ff2Kernel.main_arg0) = m ((c.tc : Thread Cert.Ff2Kernel.nD Cert.Ff2Kernel.τ).loc Cert.Ff2Kernel.main_arg0)
      ∧ r.2.mem ((c.tc : Thread Cert.Ff2Kernel.nD Cert.Ff2Kernel.τ).loc Cert.Ff2Kernel.main_arg1) = m ((c.tc : Thread Cert.Ff2Kernel.nD Cert.Ff2Kernel.τ).loc Cert.Ff2Kernel.main_arg1))
      ∧ r.2.sem = fun _ => 0)

def quiescent_Ff2KernelIdeal [hFf2KernelIdeal : Cert.Ff2KernelIdeal.Facts] : Prop :=
  ∀ (m : (ℓ : Loc Cert.Ff2KernelIdeal.nD Cert.Ff2KernelIdeal.τ Cert.Ff2KernelIdeal.sig) → Buf (Elt Ideal) ℓ) (g : Dev Cert.Ff2KernelIdeal.nD → PrngReg), Pre_Ff2KernelIdeal m →
    θ_run (Cert.Ff2KernelIdeal.defs (F := Ideal)) (onTc (τ := Cert.Ff2KernelIdeal.τ) (Cert.Ff2KernelIdeal.main (F := Ideal))) ⟨m, fun _ => 0, g⟩ (fun r => (∀ c : Dev Cert.Ff2KernelIdeal.nD,
      r.2.mem ((c.tc : Thread Cert.Ff2KernelIdeal.nD Cert.Ff2KernelIdeal.τ).loc Cert.Ff2KernelIdeal.main_arg0) = m ((c.tc : Thread Cert.Ff2KernelIdeal.nD Cert.Ff2KernelIdeal.τ).loc Cert.Ff2KernelIdeal.main_arg0)
      ∧ r.2.mem ((c.tc : Thread Cert.Ff2KernelIdeal.nD Cert.Ff2KernelIdeal.τ).loc Cert.Ff2KernelIdeal.main_arg1) = m ((c.tc : Thread Cert.Ff2KernelIdeal.nD Cert.Ff2KernelIdeal.τ).loc Cert.Ff2KernelIdeal.main_arg1))
      ∧ r.2.sem = fun _ => 0)

def quiescent_Ff2ReferenceIdeal [hFf2ReferenceIdeal : Cert.Ff2ReferenceIdeal.Facts] : Prop :=
  ∀ (m : (ℓ : Loc Cert.Ff2ReferenceIdeal.nD Cert.Ff2ReferenceIdeal.τ Cert.Ff2ReferenceIdeal.sig) → Buf (Elt Ideal) ℓ) (g : Dev Cert.Ff2ReferenceIdeal.nD → PrngReg), Pre_Ff2ReferenceIdeal m →
    θ_run (Cert.Ff2ReferenceIdeal.defs (F := Ideal)) (onTc (τ := Cert.Ff2ReferenceIdeal.τ) (Cert.Ff2ReferenceIdeal.main (F := Ideal))) ⟨m, fun _ => 0, g⟩ (fun r => (∀ c : Dev Cert.Ff2ReferenceIdeal.nD,
      r.2.mem ((c.tc : Thread Cert.Ff2ReferenceIdeal.nD Cert.Ff2ReferenceIdeal.τ).loc Cert.Ff2ReferenceIdeal.main_arg0) = m ((c.tc : Thread Cert.Ff2ReferenceIdeal.nD Cert.Ff2ReferenceIdeal.τ).loc Cert.Ff2ReferenceIdeal.main_arg0)
      ∧ r.2.mem ((c.tc : Thread Cert.Ff2ReferenceIdeal.nD Cert.Ff2ReferenceIdeal.τ).loc Cert.Ff2ReferenceIdeal.main_arg1) = m ((c.tc : Thread Cert.Ff2ReferenceIdeal.nD Cert.Ff2ReferenceIdeal.τ).loc Cert.Ff2ReferenceIdeal.main_arg1))
      ∧ r.2.sem = fun _ => 0)

def quiescent_Ff1Kernel [hFf1Kernel : Cert.Ff1Kernel.Facts] : Prop :=
  ∀ (m : (ℓ : Loc Cert.Ff1Kernel.nD Cert.Ff1Kernel.τ Cert.Ff1Kernel.sig) → Buf (Elt Bits) ℓ) (g : Dev Cert.Ff1Kernel.nD → PrngReg), Pre_Ff1Kernel m →
    θ_run (Cert.Ff1Kernel.defs (F := Bits)) (onTc (τ := Cert.Ff1Kernel.τ) (Cert.Ff1Kernel.main (F := Bits))) ⟨m, fun _ => 0, g⟩ (fun r => (∀ c : Dev Cert.Ff1Kernel.nD,
      r.2.mem ((c.tc : Thread Cert.Ff1Kernel.nD Cert.Ff1Kernel.τ).loc Cert.Ff1Kernel.main_arg0) = m ((c.tc : Thread Cert.Ff1Kernel.nD Cert.Ff1Kernel.τ).loc Cert.Ff1Kernel.main_arg0)
      ∧ r.2.mem ((c.tc : Thread Cert.Ff1Kernel.nD Cert.Ff1Kernel.τ).loc Cert.Ff1Kernel.main_arg1) = m ((c.tc : Thread Cert.Ff1Kernel.nD Cert.Ff1Kernel.τ).loc Cert.Ff1Kernel.main_arg1))
      ∧ r.2.sem = fun _ => 0)

def quiescent_Ff1KernelIdeal [hFf1KernelIdeal : Cert.Ff1KernelIdeal.Facts] : Prop :=
  ∀ (m : (ℓ : Loc Cert.Ff1KernelIdeal.nD Cert.Ff1KernelIdeal.τ Cert.Ff1KernelIdeal.sig) → Buf (Elt Ideal) ℓ) (g : Dev Cert.Ff1KernelIdeal.nD → PrngReg), Pre_Ff1KernelIdeal m →
    θ_run (Cert.Ff1KernelIdeal.defs (F := Ideal)) (onTc (τ := Cert.Ff1KernelIdeal.τ) (Cert.Ff1KernelIdeal.main (F := Ideal))) ⟨m, fun _ => 0, g⟩ (fun r => (∀ c : Dev Cert.Ff1KernelIdeal.nD,
      r.2.mem ((c.tc : Thread Cert.Ff1KernelIdeal.nD Cert.Ff1KernelIdeal.τ).loc Cert.Ff1KernelIdeal.main_arg0) = m ((c.tc : Thread Cert.Ff1KernelIdeal.nD Cert.Ff1KernelIdeal.τ).loc Cert.Ff1KernelIdeal.main_arg0)
      ∧ r.2.mem ((c.tc : Thread Cert.Ff1KernelIdeal.nD Cert.Ff1KernelIdeal.τ).loc Cert.Ff1KernelIdeal.main_arg1) = m ((c.tc : Thread Cert.Ff1KernelIdeal.nD Cert.Ff1KernelIdeal.τ).loc Cert.Ff1KernelIdeal.main_arg1))
      ∧ r.2.sem = fun _ => 0)

def quiescent_Ff1ReferenceIdeal [hFf1ReferenceIdeal : Cert.Ff1ReferenceIdeal.Facts] : Prop :=
  ∀ (m : (ℓ : Loc Cert.Ff1ReferenceIdeal.nD Cert.Ff1ReferenceIdeal.τ Cert.Ff1ReferenceIdeal.sig) → Buf (Elt Ideal) ℓ) (g : Dev Cert.Ff1ReferenceIdeal.nD → PrngReg), Pre_Ff1ReferenceIdeal m →
    θ_run (Cert.Ff1ReferenceIdeal.defs (F := Ideal)) (onTc (τ := Cert.Ff1ReferenceIdeal.τ) (Cert.Ff1ReferenceIdeal.main (F := Ideal))) ⟨m, fun _ => 0, g⟩ (fun r => (∀ c : Dev Cert.Ff1ReferenceIdeal.nD,
      r.2.mem ((c.tc : Thread Cert.Ff1ReferenceIdeal.nD Cert.Ff1ReferenceIdeal.τ).loc Cert.Ff1ReferenceIdeal.main_arg0) = m ((c.tc : Thread Cert.Ff1ReferenceIdeal.nD Cert.Ff1ReferenceIdeal.τ).loc Cert.Ff1ReferenceIdeal.main_arg0)
      ∧ r.2.mem ((c.tc : Thread Cert.Ff1ReferenceIdeal.nD Cert.Ff1ReferenceIdeal.τ).loc Cert.Ff1ReferenceIdeal.main_arg1) = m ((c.tc : Thread Cert.Ff1ReferenceIdeal.nD Cert.Ff1ReferenceIdeal.τ).loc Cert.Ff1ReferenceIdeal.main_arg1))
      ∧ r.2.sem = fun _ => 0)

def quiescent_WinKernel [hWinKernel : Cert.WinKernel.Facts] : Prop :=
  ∀ (m : (ℓ : Loc Cert.WinKernel.nD Cert.WinKernel.τ Cert.WinKernel.sig) → Buf (Elt Bits) ℓ) (g : Dev Cert.WinKernel.nD → PrngReg), Pre_WinKernel m →
    θ_run (Cert.WinKernel.defs (F := Bits)) (onTc (τ := Cert.WinKernel.τ) (Cert.WinKernel.main (F := Bits))) ⟨m, fun _ => 0, g⟩ (fun r => (∀ c : Dev Cert.WinKernel.nD,
      r.2.mem ((c.tc : Thread Cert.WinKernel.nD Cert.WinKernel.τ).loc Cert.WinKernel.main_arg0) = m ((c.tc : Thread Cert.WinKernel.nD Cert.WinKernel.τ).loc Cert.WinKernel.main_arg0)
      ∧ r.2.mem ((c.tc : Thread Cert.WinKernel.nD Cert.WinKernel.τ).loc Cert.WinKernel.main_arg1) = m ((c.tc : Thread Cert.WinKernel.nD Cert.WinKernel.τ).loc Cert.WinKernel.main_arg1))
      ∧ r.2.sem = fun _ => 0)

def quiescent_WinKernelIdeal [hWinKernelIdeal : Cert.WinKernelIdeal.Facts] : Prop :=
  ∀ (m : (ℓ : Loc Cert.WinKernelIdeal.nD Cert.WinKernelIdeal.τ Cert.WinKernelIdeal.sig) → Buf (Elt Ideal) ℓ) (g : Dev Cert.WinKernelIdeal.nD → PrngReg), Pre_WinKernelIdeal m →
    θ_run (Cert.WinKernelIdeal.defs (F := Ideal)) (onTc (τ := Cert.WinKernelIdeal.τ) (Cert.WinKernelIdeal.main (F := Ideal))) ⟨m, fun _ => 0, g⟩ (fun r => (∀ c : Dev Cert.WinKernelIdeal.nD,
      r.2.mem ((c.tc : Thread Cert.WinKernelIdeal.nD Cert.WinKernelIdeal.τ).loc Cert.WinKernelIdeal.main_arg0) = m ((c.tc : Thread Cert.WinKernelIdeal.nD Cert.WinKernelIdeal.τ).loc Cert.WinKernelIdeal.main_arg0)
      ∧ r.2.mem ((c.tc : Thread Cert.WinKernelIdeal.nD Cert.WinKernelIdeal.τ).loc Cert.WinKernelIdeal.main_arg1) = m ((c.tc : Thread Cert.WinKernelIdeal.nD Cert.WinKernelIdeal.τ).loc Cert.WinKernelIdeal.main_arg1))
      ∧ r.2.sem = fun _ => 0)

def quiescent_WinReferenceIdeal [hWinReferenceIdeal : Cert.WinReferenceIdeal.Facts] : Prop :=
  ∀ (m : (ℓ : Loc Cert.WinReferenceIdeal.nD Cert.WinReferenceIdeal.τ Cert.WinReferenceIdeal.sig) → Buf (Elt Ideal) ℓ) (g : Dev Cert.WinReferenceIdeal.nD → PrngReg), Pre_WinReferenceIdeal m →
    θ_run (Cert.WinReferenceIdeal.defs (F := Ideal)) (onTc (τ := Cert.WinReferenceIdeal.τ) (Cert.WinReferenceIdeal.main (F := Ideal))) ⟨m, fun _ => 0, g⟩ (fun r => (∀ c : Dev Cert.WinReferenceIdeal.nD,
      r.2.mem ((c.tc : Thread Cert.WinReferenceIdeal.nD Cert.WinReferenceIdeal.τ).loc Cert.WinReferenceIdeal.main_arg0) = m ((c.tc : Thread Cert.WinReferenceIdeal.nD Cert.WinReferenceIdeal.τ).loc Cert.WinReferenceIdeal.main_arg0)
      ∧ r.2.mem ((c.tc : Thread Cert.WinReferenceIdeal.nD Cert.WinReferenceIdeal.τ).loc Cert.WinReferenceIdeal.main_arg1) = m ((c.tc : Thread Cert.WinReferenceIdeal.nD Cert.WinReferenceIdeal.τ).loc Cert.WinReferenceIdeal.main_arg1))
      ∧ r.2.sem = fun _ => 0)

def quiescent_Dh1Kernel [hDh1Kernel : Cert.Dh1Kernel.Facts] : Prop :=
  ∀ (m : (ℓ : Loc Cert.Dh1Kernel.nD Cert.Dh1Kernel.τ Cert.Dh1Kernel.sig) → Buf (Elt Bits) ℓ) (g : Dev Cert.Dh1Kernel.nD → PrngReg), Pre_Dh1Kernel m →
    θ_run (Cert.Dh1Kernel.defs (F := Bits)) (onTc (τ := Cert.Dh1Kernel.τ) (Cert.Dh1Kernel.main (F := Bits))) ⟨m, fun _ => 0, g⟩ (fun r => (∀ c : Dev Cert.Dh1Kernel.nD,
      r.2.mem ((c.tc : Thread Cert.Dh1Kernel.nD Cert.Dh1Kernel.τ).loc Cert.Dh1Kernel.main_arg0) = m ((c.tc : Thread Cert.Dh1Kernel.nD Cert.Dh1Kernel.τ).loc Cert.Dh1Kernel.main_arg0)
      ∧ r.2.mem ((c.tc : Thread Cert.Dh1Kernel.nD Cert.Dh1Kernel.τ).loc Cert.Dh1Kernel.main_arg1) = m ((c.tc : Thread Cert.Dh1Kernel.nD Cert.Dh1Kernel.τ).loc Cert.Dh1Kernel.main_arg1)
      ∧ r.2.mem ((c.tc : Thread Cert.Dh1Kernel.nD Cert.Dh1Kernel.τ).loc Cert.Dh1Kernel.main_arg2) = m ((c.tc : Thread Cert.Dh1Kernel.nD Cert.Dh1Kernel.τ).loc Cert.Dh1Kernel.main_arg2)
      ∧ r.2.mem ((c.tc : Thread Cert.Dh1Kernel.nD Cert.Dh1Kernel.τ).loc Cert.Dh1Kernel.main_arg3) = m ((c.tc : Thread Cert.Dh1Kernel.nD Cert.Dh1Kernel.τ).loc Cert.Dh1Kernel.main_arg3)
      ∧ r.2.mem ((c.tc : Thread Cert.Dh1Kernel.nD Cert.Dh1Kernel.τ).loc Cert.Dh1Kernel.main_arg4) = m ((c.tc : Thread Cert.Dh1Kernel.nD Cert.Dh1Kernel.τ).loc Cert.Dh1Kernel.main_arg4))
      ∧ r.2.sem = fun _ => 0)

def quiescent_Dh1KernelIdeal [hDh1KernelIdeal : Cert.Dh1KernelIdeal.Facts] : Prop :=
  ∀ (m : (ℓ : Loc Cert.Dh1KernelIdeal.nD Cert.Dh1KernelIdeal.τ Cert.Dh1KernelIdeal.sig) → Buf (Elt Ideal) ℓ) (g : Dev Cert.Dh1KernelIdeal.nD → PrngReg), Pre_Dh1KernelIdeal m →
    θ_run (Cert.Dh1KernelIdeal.defs (F := Ideal)) (onTc (τ := Cert.Dh1KernelIdeal.τ) (Cert.Dh1KernelIdeal.main (F := Ideal))) ⟨m, fun _ => 0, g⟩ (fun r => (∀ c : Dev Cert.Dh1KernelIdeal.nD,
      r.2.mem ((c.tc : Thread Cert.Dh1KernelIdeal.nD Cert.Dh1KernelIdeal.τ).loc Cert.Dh1KernelIdeal.main_arg0) = m ((c.tc : Thread Cert.Dh1KernelIdeal.nD Cert.Dh1KernelIdeal.τ).loc Cert.Dh1KernelIdeal.main_arg0)
      ∧ r.2.mem ((c.tc : Thread Cert.Dh1KernelIdeal.nD Cert.Dh1KernelIdeal.τ).loc Cert.Dh1KernelIdeal.main_arg1) = m ((c.tc : Thread Cert.Dh1KernelIdeal.nD Cert.Dh1KernelIdeal.τ).loc Cert.Dh1KernelIdeal.main_arg1)
      ∧ r.2.mem ((c.tc : Thread Cert.Dh1KernelIdeal.nD Cert.Dh1KernelIdeal.τ).loc Cert.Dh1KernelIdeal.main_arg2) = m ((c.tc : Thread Cert.Dh1KernelIdeal.nD Cert.Dh1KernelIdeal.τ).loc Cert.Dh1KernelIdeal.main_arg2)
      ∧ r.2.mem ((c.tc : Thread Cert.Dh1KernelIdeal.nD Cert.Dh1KernelIdeal.τ).loc Cert.Dh1KernelIdeal.main_arg3) = m ((c.tc : Thread Cert.Dh1KernelIdeal.nD Cert.Dh1KernelIdeal.τ).loc Cert.Dh1KernelIdeal.main_arg3)
      ∧ r.2.mem ((c.tc : Thread Cert.Dh1KernelIdeal.nD Cert.Dh1KernelIdeal.τ).loc Cert.Dh1KernelIdeal.main_arg4) = m ((c.tc : Thread Cert.Dh1KernelIdeal.nD Cert.Dh1KernelIdeal.τ).loc Cert.Dh1KernelIdeal.main_arg4))
      ∧ r.2.sem = fun _ => 0)

def quiescent_Dh1ReferenceIdeal [hDh1ReferenceIdeal : Cert.Dh1ReferenceIdeal.Facts] : Prop :=
  ∀ (m : (ℓ : Loc Cert.Dh1ReferenceIdeal.nD Cert.Dh1ReferenceIdeal.τ Cert.Dh1ReferenceIdeal.sig) → Buf (Elt Ideal) ℓ) (g : Dev Cert.Dh1ReferenceIdeal.nD → PrngReg), Pre_Dh1ReferenceIdeal m →
    θ_run (Cert.Dh1ReferenceIdeal.defs (F := Ideal)) (onTc (τ := Cert.Dh1ReferenceIdeal.τ) (Cert.Dh1ReferenceIdeal.main (F := Ideal))) ⟨m, fun _ => 0, g⟩ (fun r => (∀ c : Dev Cert.Dh1ReferenceIdeal.nD,
      r.2.mem ((c.tc : Thread Cert.Dh1ReferenceIdeal.nD Cert.Dh1ReferenceIdeal.τ).loc Cert.Dh1ReferenceIdeal.main_arg0) = m ((c.tc : Thread Cert.Dh1ReferenceIdeal.nD Cert.Dh1ReferenceIdeal.τ).loc Cert.Dh1ReferenceIdeal.main_arg0)
      ∧ r.2.mem ((c.tc : Thread Cert.Dh1ReferenceIdeal.nD Cert.Dh1ReferenceIdeal.τ).loc Cert.Dh1ReferenceIdeal.main_arg1) = m ((c.tc : Thread Cert.Dh1ReferenceIdeal.nD Cert.Dh1ReferenceIdeal.τ).loc Cert.Dh1ReferenceIdeal.main_arg1)
      ∧ r.2.mem ((c.tc : Thread Cert.Dh1ReferenceIdeal.nD Cert.Dh1ReferenceIdeal.τ).loc Cert.Dh1ReferenceIdeal.main_arg2) = m ((c.tc : Thread Cert.Dh1ReferenceIdeal.nD Cert.Dh1ReferenceIdeal.τ).loc Cert.Dh1ReferenceIdeal.main_arg2)
      ∧ r.2.mem ((c.tc : Thread Cert.Dh1ReferenceIdeal.nD Cert.Dh1ReferenceIdeal.τ).loc Cert.Dh1ReferenceIdeal.main_arg3) = m ((c.tc : Thread Cert.Dh1ReferenceIdeal.nD Cert.Dh1ReferenceIdeal.τ).loc Cert.Dh1ReferenceIdeal.main_arg3)
      ∧ r.2.mem ((c.tc : Thread Cert.Dh1ReferenceIdeal.nD Cert.Dh1ReferenceIdeal.τ).loc Cert.Dh1ReferenceIdeal.main_arg4) = m ((c.tc : Thread Cert.Dh1ReferenceIdeal.nD Cert.Dh1ReferenceIdeal.τ).loc Cert.Dh1ReferenceIdeal.main_arg4))
      ∧ r.2.sem = fun _ => 0)

def quiescent_Dh3Kernel [hDh3Kernel : Cert.Dh3Kernel.Facts] : Prop :=
  ∀ (m : (ℓ : Loc Cert.Dh3Kernel.nD Cert.Dh3Kernel.τ Cert.Dh3Kernel.sig) → Buf (Elt Bits) ℓ) (g : Dev Cert.Dh3Kernel.nD → PrngReg), Pre_Dh3Kernel m →
    θ_run (Cert.Dh3Kernel.defs (F := Bits)) (onTc (τ := Cert.Dh3Kernel.τ) (Cert.Dh3Kernel.main (F := Bits))) ⟨m, fun _ => 0, g⟩ (fun r => (∀ c : Dev Cert.Dh3Kernel.nD,
      r.2.mem ((c.tc : Thread Cert.Dh3Kernel.nD Cert.Dh3Kernel.τ).loc Cert.Dh3Kernel.main_arg0) = m ((c.tc : Thread Cert.Dh3Kernel.nD Cert.Dh3Kernel.τ).loc Cert.Dh3Kernel.main_arg0)
      ∧ r.2.mem ((c.tc : Thread Cert.Dh3Kernel.nD Cert.Dh3Kernel.τ).loc Cert.Dh3Kernel.main_arg1) = m ((c.tc : Thread Cert.Dh3Kernel.nD Cert.Dh3Kernel.τ).loc Cert.Dh3Kernel.main_arg1)
      ∧ r.2.mem ((c.tc : Thread Cert.Dh3Kernel.nD Cert.Dh3Kernel.τ).loc Cert.Dh3Kernel.main_arg2) = m ((c.tc : Thread Cert.Dh3Kernel.nD Cert.Dh3Kernel.τ).loc Cert.Dh3Kernel.main_arg2)
      ∧ r.2.mem ((c.tc : Thread Cert.Dh3Kernel.nD Cert.Dh3Kernel.τ).loc Cert.Dh3Kernel.main_arg3) = m ((c.tc : Thread Cert.Dh3Kernel.nD Cert.Dh3Kernel.τ).loc Cert.Dh3Kernel.main_arg3)
      ∧ r.2.mem ((c.tc : Thread Cert.Dh3Kernel.nD Cert.Dh3Kernel.τ).loc Cert.Dh3Kernel.main_arg4) = m ((c.tc : Thread Cert.Dh3Kernel.nD Cert.Dh3Kernel.τ).loc Cert.Dh3Kernel.main_arg4))
      ∧ r.2.sem = fun _ => 0)

def quiescent_Dh3KernelIdeal [hDh3KernelIdeal : Cert.Dh3KernelIdeal.Facts] : Prop :=
  ∀ (m : (ℓ : Loc Cert.Dh3KernelIdeal.nD Cert.Dh3KernelIdeal.τ Cert.Dh3KernelIdeal.sig) → Buf (Elt Ideal) ℓ) (g : Dev Cert.Dh3KernelIdeal.nD → PrngReg), Pre_Dh3KernelIdeal m →
    θ_run (Cert.Dh3KernelIdeal.defs (F := Ideal)) (onTc (τ := Cert.Dh3KernelIdeal.τ) (Cert.Dh3KernelIdeal.main (F := Ideal))) ⟨m, fun _ => 0, g⟩ (fun r => (∀ c : Dev Cert.Dh3KernelIdeal.nD,
      r.2.mem ((c.tc : Thread Cert.Dh3KernelIdeal.nD Cert.Dh3KernelIdeal.τ).loc Cert.Dh3KernelIdeal.main_arg0) = m ((c.tc : Thread Cert.Dh3KernelIdeal.nD Cert.Dh3KernelIdeal.τ).loc Cert.Dh3KernelIdeal.main_arg0)
      ∧ r.2.mem ((c.tc : Thread Cert.Dh3KernelIdeal.nD Cert.Dh3KernelIdeal.τ).loc Cert.Dh3KernelIdeal.main_arg1) = m ((c.tc : Thread Cert.Dh3KernelIdeal.nD Cert.Dh3KernelIdeal.τ).loc Cert.Dh3KernelIdeal.main_arg1)
      ∧ r.2.mem ((c.tc : Thread Cert.Dh3KernelIdeal.nD Cert.Dh3KernelIdeal.τ).loc Cert.Dh3KernelIdeal.main_arg2) = m ((c.tc : Thread Cert.Dh3KernelIdeal.nD Cert.Dh3KernelIdeal.τ).loc Cert.Dh3KernelIdeal.main_arg2)
      ∧ r.2.mem ((c.tc : Thread Cert.Dh3KernelIdeal.nD Cert.Dh3KernelIdeal.τ).loc Cert.Dh3KernelIdeal.main_arg3) = m ((c.tc : Thread Cert.Dh3KernelIdeal.nD Cert.Dh3KernelIdeal.τ).loc Cert.Dh3KernelIdeal.main_arg3)
      ∧ r.2.mem ((c.tc : Thread Cert.Dh3KernelIdeal.nD Cert.Dh3KernelIdeal.τ).loc Cert.Dh3KernelIdeal.main_arg4) = m ((c.tc : Thread Cert.Dh3KernelIdeal.nD Cert.Dh3KernelIdeal.τ).loc Cert.Dh3KernelIdeal.main_arg4))
      ∧ r.2.sem = fun _ => 0)

def quiescent_Dh3ReferenceIdeal [hDh3ReferenceIdeal : Cert.Dh3ReferenceIdeal.Facts] : Prop :=
  ∀ (m : (ℓ : Loc Cert.Dh3ReferenceIdeal.nD Cert.Dh3ReferenceIdeal.τ Cert.Dh3ReferenceIdeal.sig) → Buf (Elt Ideal) ℓ) (g : Dev Cert.Dh3ReferenceIdeal.nD → PrngReg), Pre_Dh3ReferenceIdeal m →
    θ_run (Cert.Dh3ReferenceIdeal.defs (F := Ideal)) (onTc (τ := Cert.Dh3ReferenceIdeal.τ) (Cert.Dh3ReferenceIdeal.main (F := Ideal))) ⟨m, fun _ => 0, g⟩ (fun r => (∀ c : Dev Cert.Dh3ReferenceIdeal.nD,
      r.2.mem ((c.tc : Thread Cert.Dh3ReferenceIdeal.nD Cert.Dh3ReferenceIdeal.τ).loc Cert.Dh3ReferenceIdeal.main_arg0) = m ((c.tc : Thread Cert.Dh3ReferenceIdeal.nD Cert.Dh3ReferenceIdeal.τ).loc Cert.Dh3ReferenceIdeal.main_arg0)
      ∧ r.2.mem ((c.tc : Thread Cert.Dh3ReferenceIdeal.nD Cert.Dh3ReferenceIdeal.τ).loc Cert.Dh3ReferenceIdeal.main_arg1) = m ((c.tc : Thread Cert.Dh3ReferenceIdeal.nD Cert.Dh3ReferenceIdeal.τ).loc Cert.Dh3ReferenceIdeal.main_arg1)
      ∧ r.2.mem ((c.tc : Thread Cert.Dh3ReferenceIdeal.nD Cert.Dh3ReferenceIdeal.τ).loc Cert.Dh3ReferenceIdeal.main_arg2) = m ((c.tc : Thread Cert.Dh3ReferenceIdeal.nD Cert.Dh3ReferenceIdeal.τ).loc Cert.Dh3ReferenceIdeal.main_arg2)
      ∧ r.2.mem ((c.tc : Thread Cert.Dh3ReferenceIdeal.nD Cert.Dh3ReferenceIdeal.τ).loc Cert.Dh3ReferenceIdeal.main_arg3) = m ((c.tc : Thread Cert.Dh3ReferenceIdeal.nD Cert.Dh3ReferenceIdeal.τ).loc Cert.Dh3ReferenceIdeal.main_arg3)
      ∧ r.2.mem ((c.tc : Thread Cert.Dh3ReferenceIdeal.nD Cert.Dh3ReferenceIdeal.τ).loc Cert.Dh3ReferenceIdeal.main_arg4) = m ((c.tc : Thread Cert.Dh3ReferenceIdeal.nD Cert.Dh3ReferenceIdeal.τ).loc Cert.Dh3ReferenceIdeal.main_arg4))
      ∧ r.2.sem = fun _ => 0)

def quiescent_RmsKernel [hRmsKernel : Cert.RmsKernel.Facts] : Prop :=
  ∀ (m : (ℓ : Loc Cert.RmsKernel.nD Cert.RmsKernel.τ Cert.RmsKernel.sig) → Buf (Elt Bits) ℓ) (g : Dev Cert.RmsKernel.nD → PrngReg), Pre_RmsKernel m →
    θ_run (Cert.RmsKernel.defs (F := Bits)) (onTc (τ := Cert.RmsKernel.τ) (Cert.RmsKernel.main (F := Bits))) ⟨m, fun _ => 0, g⟩ (fun r => (∀ c : Dev Cert.RmsKernel.nD,
      r.2.mem ((c.tc : Thread Cert.RmsKernel.nD Cert.RmsKernel.τ).loc Cert.RmsKernel.main_arg0) = m ((c.tc : Thread Cert.RmsKernel.nD Cert.RmsKernel.τ).loc Cert.RmsKernel.main_arg0)
      ∧ r.2.mem ((c.tc : Thread Cert.RmsKernel.nD Cert.RmsKernel.τ).loc Cert.RmsKernel.main_arg1) = m ((c.tc : Thread Cert.RmsKernel.nD Cert.RmsKernel.τ).loc Cert.RmsKernel.main_arg1)
      ∧ r.2.mem ((c.tc : Thread Cert.RmsKernel.nD Cert.RmsKernel.τ).loc Cert.RmsKernel.main_arg2) = m ((c.tc : Thread Cert.RmsKernel.nD Cert.RmsKernel.τ).loc Cert.RmsKernel.main_arg2))
      ∧ r.2.sem = fun _ => 0)

def quiescent_RmsKernelIdeal [hRmsKernelIdeal : Cert.RmsKernelIdeal.Facts] : Prop :=
  ∀ (m : (ℓ : Loc Cert.RmsKernelIdeal.nD Cert.RmsKernelIdeal.τ Cert.RmsKernelIdeal.sig) → Buf (Elt Ideal) ℓ) (g : Dev Cert.RmsKernelIdeal.nD → PrngReg), Pre_RmsKernelIdeal m →
    θ_run (Cert.RmsKernelIdeal.defs (F := Ideal)) (onTc (τ := Cert.RmsKernelIdeal.τ) (Cert.RmsKernelIdeal.main (F := Ideal))) ⟨m, fun _ => 0, g⟩ (fun r => (∀ c : Dev Cert.RmsKernelIdeal.nD,
      r.2.mem ((c.tc : Thread Cert.RmsKernelIdeal.nD Cert.RmsKernelIdeal.τ).loc Cert.RmsKernelIdeal.main_arg0) = m ((c.tc : Thread Cert.RmsKernelIdeal.nD Cert.RmsKernelIdeal.τ).loc Cert.RmsKernelIdeal.main_arg0)
      ∧ r.2.mem ((c.tc : Thread Cert.RmsKernelIdeal.nD Cert.RmsKernelIdeal.τ).loc Cert.RmsKernelIdeal.main_arg1) = m ((c.tc : Thread Cert.RmsKernelIdeal.nD Cert.RmsKernelIdeal.τ).loc Cert.RmsKernelIdeal.main_arg1)
      ∧ r.2.mem ((c.tc : Thread Cert.RmsKernelIdeal.nD Cert.RmsKernelIdeal.τ).loc Cert.RmsKernelIdeal.main_arg2) = m ((c.tc : Thread Cert.RmsKernelIdeal.nD Cert.RmsKernelIdeal.τ).loc Cert.RmsKernelIdeal.main_arg2))
      ∧ r.2.sem = fun _ => 0)

def quiescent_RmsReferenceIdeal [hRmsReferenceIdeal : Cert.RmsReferenceIdeal.Facts] : Prop :=
  ∀ (m : (ℓ : Loc Cert.RmsReferenceIdeal.nD Cert.RmsReferenceIdeal.τ Cert.RmsReferenceIdeal.sig) → Buf (Elt Ideal) ℓ) (g : Dev Cert.RmsReferenceIdeal.nD → PrngReg), Pre_RmsReferenceIdeal m →
    θ_run (Cert.RmsReferenceIdeal.defs (F := Ideal)) (onTc (τ := Cert.RmsReferenceIdeal.τ) (Cert.RmsReferenceIdeal.main (F := Ideal))) ⟨m, fun _ => 0, g⟩ (fun r => (∀ c : Dev Cert.RmsReferenceIdeal.nD,
      r.2.mem ((c.tc : Thread Cert.RmsReferenceIdeal.nD Cert.RmsReferenceIdeal.τ).loc Cert.RmsReferenceIdeal.main_arg0) = m ((c.tc : Thread Cert.RmsReferenceIdeal.nD Cert.RmsReferenceIdeal.τ).loc Cert.RmsReferenceIdeal.main_arg0)
      ∧ r.2.mem ((c.tc : Thread Cert.RmsReferenceIdeal.nD Cert.RmsReferenceIdeal.τ).loc Cert.RmsReferenceIdeal.main_arg1) = m ((c.tc : Thread Cert.RmsReferenceIdeal.nD Cert.RmsReferenceIdeal.τ).loc Cert.RmsReferenceIdeal.main_arg1)
      ∧ r.2.mem ((c.tc : Thread Cert.RmsReferenceIdeal.nD Cert.RmsReferenceIdeal.τ).loc Cert.RmsReferenceIdeal.main_arg2) = m ((c.tc : Thread Cert.RmsReferenceIdeal.nD Cert.RmsReferenceIdeal.τ).loc Cert.RmsReferenceIdeal.main_arg2))
      ∧ r.2.sem = fun _ => 0)

def quiescent_PjKernel [hPjKernel : Cert.PjKernel.Facts] : Prop :=
  ∀ (m : (ℓ : Loc Cert.PjKernel.nD Cert.PjKernel.τ Cert.PjKernel.sig) → Buf (Elt Bits) ℓ) (g : Dev Cert.PjKernel.nD → PrngReg), Pre_PjKernel m →
    θ_run (Cert.PjKernel.defs (F := Bits)) (onTc (τ := Cert.PjKernel.τ) (Cert.PjKernel.main (F := Bits))) ⟨m, fun _ => 0, g⟩ (fun r => (∀ c : Dev Cert.PjKernel.nD,
      r.2.mem ((c.tc : Thread Cert.PjKernel.nD Cert.PjKernel.τ).loc Cert.PjKernel.main_arg0) = m ((c.tc : Thread Cert.PjKernel.nD Cert.PjKernel.τ).loc Cert.PjKernel.main_arg0)
      ∧ r.2.mem ((c.tc : Thread Cert.PjKernel.nD Cert.PjKernel.τ).loc Cert.PjKernel.main_arg1) = m ((c.tc : Thread Cert.PjKernel.nD Cert.PjKernel.τ).loc Cert.PjKernel.main_arg1))
      ∧ r.2.sem = fun _ => 0)

def quiescent_PjKernelIdeal [hPjKernelIdeal : Cert.PjKernelIdeal.Facts] : Prop :=
  ∀ (m : (ℓ : Loc Cert.PjKernelIdeal.nD Cert.PjKernelIdeal.τ Cert.PjKernelIdeal.sig) → Buf (Elt Ideal) ℓ) (g : Dev Cert.PjKernelIdeal.nD → PrngReg), Pre_PjKernelIdeal m →
    θ_run (Cert.PjKernelIdeal.defs (F := Ideal)) (onTc (τ := Cert.PjKernelIdeal.τ) (Cert.PjKernelIdeal.main (F := Ideal))) ⟨m, fun _ => 0, g⟩ (fun r => (∀ c : Dev Cert.PjKernelIdeal.nD,
      r.2.mem ((c.tc : Thread Cert.PjKernelIdeal.nD Cert.PjKernelIdeal.τ).loc Cert.PjKernelIdeal.main_arg0) = m ((c.tc : Thread Cert.PjKernelIdeal.nD Cert.PjKernelIdeal.τ).loc Cert.PjKernelIdeal.main_arg0)
      ∧ r.2.mem ((c.tc : Thread Cert.PjKernelIdeal.nD Cert.PjKernelIdeal.τ).loc Cert.PjKernelIdeal.main_arg1) = m ((c.tc : Thread Cert.PjKernelIdeal.nD Cert.PjKernelIdeal.τ).loc Cert.PjKernelIdeal.main_arg1))
      ∧ r.2.sem = fun _ => 0)

def quiescent_PjReferenceIdeal [hPjReferenceIdeal : Cert.PjReferenceIdeal.Facts] : Prop :=
  ∀ (m : (ℓ : Loc Cert.PjReferenceIdeal.nD Cert.PjReferenceIdeal.τ Cert.PjReferenceIdeal.sig) → Buf (Elt Ideal) ℓ) (g : Dev Cert.PjReferenceIdeal.nD → PrngReg), Pre_PjReferenceIdeal m →
    θ_run (Cert.PjReferenceIdeal.defs (F := Ideal)) (onTc (τ := Cert.PjReferenceIdeal.τ) (Cert.PjReferenceIdeal.main (F := Ideal))) ⟨m, fun _ => 0, g⟩ (fun r => (∀ c : Dev Cert.PjReferenceIdeal.nD,
      r.2.mem ((c.tc : Thread Cert.PjReferenceIdeal.nD Cert.PjReferenceIdeal.τ).loc Cert.PjReferenceIdeal.main_arg0) = m ((c.tc : Thread Cert.PjReferenceIdeal.nD Cert.PjReferenceIdeal.τ).loc Cert.PjReferenceIdeal.main_arg0)
      ∧ r.2.mem ((c.tc : Thread Cert.PjReferenceIdeal.nD Cert.PjReferenceIdeal.τ).loc Cert.PjReferenceIdeal.main_arg1) = m ((c.tc : Thread Cert.PjReferenceIdeal.nD Cert.PjReferenceIdeal.τ).loc Cert.PjReferenceIdeal.main_arg1))
      ∧ r.2.sem = fun _ => 0)

def quiescent_UpKernel [hUpKernel : Cert.UpKernel.Facts] : Prop :=
  ∀ (m : (ℓ : Loc Cert.UpKernel.nD Cert.UpKernel.τ Cert.UpKernel.sig) → Buf (Elt Bits) ℓ) (g : Dev Cert.UpKernel.nD → PrngReg), Pre_UpKernel m →
    θ_run (Cert.UpKernel.defs (F := Bits)) (onTc (τ := Cert.UpKernel.τ) (Cert.UpKernel.main (F := Bits))) ⟨m, fun _ => 0, g⟩ (fun r => (∀ c : Dev Cert.UpKernel.nD,
      r.2.mem ((c.tc : Thread Cert.UpKernel.nD Cert.UpKernel.τ).loc Cert.UpKernel.main_arg0) = m ((c.tc : Thread Cert.UpKernel.nD Cert.UpKernel.τ).loc Cert.UpKernel.main_arg0)
      ∧ r.2.mem ((c.tc : Thread Cert.UpKernel.nD Cert.UpKernel.τ).loc Cert.UpKernel.main_arg1) = m ((c.tc : Thread Cert.UpKernel.nD Cert.UpKernel.τ).loc Cert.UpKernel.main_arg1))
      ∧ r.2.sem = fun _ => 0)

def quiescent_UpKernelIdeal [hUpKernelIdeal : Cert.UpKernelIdeal.Facts] : Prop :=
  ∀ (m : (ℓ : Loc Cert.UpKernelIdeal.nD Cert.UpKernelIdeal.τ Cert.UpKernelIdeal.sig) → Buf (Elt Ideal) ℓ) (g : Dev Cert.UpKernelIdeal.nD → PrngReg), Pre_UpKernelIdeal m →
    θ_run (Cert.UpKernelIdeal.defs (F := Ideal)) (onTc (τ := Cert.UpKernelIdeal.τ) (Cert.UpKernelIdeal.main (F := Ideal))) ⟨m, fun _ => 0, g⟩ (fun r => (∀ c : Dev Cert.UpKernelIdeal.nD,
      r.2.mem ((c.tc : Thread Cert.UpKernelIdeal.nD Cert.UpKernelIdeal.τ).loc Cert.UpKernelIdeal.main_arg0) = m ((c.tc : Thread Cert.UpKernelIdeal.nD Cert.UpKernelIdeal.τ).loc Cert.UpKernelIdeal.main_arg0)
      ∧ r.2.mem ((c.tc : Thread Cert.UpKernelIdeal.nD Cert.UpKernelIdeal.τ).loc Cert.UpKernelIdeal.main_arg1) = m ((c.tc : Thread Cert.UpKernelIdeal.nD Cert.UpKernelIdeal.τ).loc Cert.UpKernelIdeal.main_arg1))
      ∧ r.2.sem = fun _ => 0)

def quiescent_UpReferenceIdeal [hUpReferenceIdeal : Cert.UpReferenceIdeal.Facts] : Prop :=
  ∀ (m : (ℓ : Loc Cert.UpReferenceIdeal.nD Cert.UpReferenceIdeal.τ Cert.UpReferenceIdeal.sig) → Buf (Elt Ideal) ℓ) (g : Dev Cert.UpReferenceIdeal.nD → PrngReg), Pre_UpReferenceIdeal m →
    θ_run (Cert.UpReferenceIdeal.defs (F := Ideal)) (onTc (τ := Cert.UpReferenceIdeal.τ) (Cert.UpReferenceIdeal.main (F := Ideal))) ⟨m, fun _ => 0, g⟩ (fun r => (∀ c : Dev Cert.UpReferenceIdeal.nD,
      r.2.mem ((c.tc : Thread Cert.UpReferenceIdeal.nD Cert.UpReferenceIdeal.τ).loc Cert.UpReferenceIdeal.main_arg0) = m ((c.tc : Thread Cert.UpReferenceIdeal.nD Cert.UpReferenceIdeal.τ).loc Cert.UpReferenceIdeal.main_arg0)
      ∧ r.2.mem ((c.tc : Thread Cert.UpReferenceIdeal.nD Cert.UpReferenceIdeal.τ).loc Cert.UpReferenceIdeal.main_arg1) = m ((c.tc : Thread Cert.UpReferenceIdeal.nD Cert.UpReferenceIdeal.τ).loc Cert.UpReferenceIdeal.main_arg1))
      ∧ r.2.sem = fun _ => 0)

def quiescent_DnKernel [hDnKernel : Cert.DnKernel.Facts] : Prop :=
  ∀ (m : (ℓ : Loc Cert.DnKernel.nD Cert.DnKernel.τ Cert.DnKernel.sig) → Buf (Elt Bits) ℓ) (g : Dev Cert.DnKernel.nD → PrngReg), Pre_DnKernel m →
    θ_run (Cert.DnKernel.defs (F := Bits)) (onTc (τ := Cert.DnKernel.τ) (Cert.DnKernel.main (F := Bits))) ⟨m, fun _ => 0, g⟩ (fun r => (∀ c : Dev Cert.DnKernel.nD,
      r.2.mem ((c.tc : Thread Cert.DnKernel.nD Cert.DnKernel.τ).loc Cert.DnKernel.main_arg0) = m ((c.tc : Thread Cert.DnKernel.nD Cert.DnKernel.τ).loc Cert.DnKernel.main_arg0)
      ∧ r.2.mem ((c.tc : Thread Cert.DnKernel.nD Cert.DnKernel.τ).loc Cert.DnKernel.main_arg1) = m ((c.tc : Thread Cert.DnKernel.nD Cert.DnKernel.τ).loc Cert.DnKernel.main_arg1)
      ∧ r.2.mem ((c.tc : Thread Cert.DnKernel.nD Cert.DnKernel.τ).loc Cert.DnKernel.main_arg2) = m ((c.tc : Thread Cert.DnKernel.nD Cert.DnKernel.τ).loc Cert.DnKernel.main_arg2)
      ∧ r.2.mem ((c.tc : Thread Cert.DnKernel.nD Cert.DnKernel.τ).loc Cert.DnKernel.main_arg3) = m ((c.tc : Thread Cert.DnKernel.nD Cert.DnKernel.τ).loc Cert.DnKernel.main_arg3)
      ∧ r.2.mem ((c.tc : Thread Cert.DnKernel.nD Cert.DnKernel.τ).loc Cert.DnKernel.main_arg4) = m ((c.tc : Thread Cert.DnKernel.nD Cert.DnKernel.τ).loc Cert.DnKernel.main_arg4))
      ∧ r.2.sem = fun _ => 0)

def quiescent_DnKernelIdeal [hDnKernelIdeal : Cert.DnKernelIdeal.Facts] : Prop :=
  ∀ (m : (ℓ : Loc Cert.DnKernelIdeal.nD Cert.DnKernelIdeal.τ Cert.DnKernelIdeal.sig) → Buf (Elt Ideal) ℓ) (g : Dev Cert.DnKernelIdeal.nD → PrngReg), Pre_DnKernelIdeal m →
    θ_run (Cert.DnKernelIdeal.defs (F := Ideal)) (onTc (τ := Cert.DnKernelIdeal.τ) (Cert.DnKernelIdeal.main (F := Ideal))) ⟨m, fun _ => 0, g⟩ (fun r => (∀ c : Dev Cert.DnKernelIdeal.nD,
      r.2.mem ((c.tc : Thread Cert.DnKernelIdeal.nD Cert.DnKernelIdeal.τ).loc Cert.DnKernelIdeal.main_arg0) = m ((c.tc : Thread Cert.DnKernelIdeal.nD Cert.DnKernelIdeal.τ).loc Cert.DnKernelIdeal.main_arg0)
      ∧ r.2.mem ((c.tc : Thread Cert.DnKernelIdeal.nD Cert.DnKernelIdeal.τ).loc Cert.DnKernelIdeal.main_arg1) = m ((c.tc : Thread Cert.DnKernelIdeal.nD Cert.DnKernelIdeal.τ).loc Cert.DnKernelIdeal.main_arg1)
      ∧ r.2.mem ((c.tc : Thread Cert.DnKernelIdeal.nD Cert.DnKernelIdeal.τ).loc Cert.DnKernelIdeal.main_arg2) = m ((c.tc : Thread Cert.DnKernelIdeal.nD Cert.DnKernelIdeal.τ).loc Cert.DnKernelIdeal.main_arg2)
      ∧ r.2.mem ((c.tc : Thread Cert.DnKernelIdeal.nD Cert.DnKernelIdeal.τ).loc Cert.DnKernelIdeal.main_arg3) = m ((c.tc : Thread Cert.DnKernelIdeal.nD Cert.DnKernelIdeal.τ).loc Cert.DnKernelIdeal.main_arg3)
      ∧ r.2.mem ((c.tc : Thread Cert.DnKernelIdeal.nD Cert.DnKernelIdeal.τ).loc Cert.DnKernelIdeal.main_arg4) = m ((c.tc : Thread Cert.DnKernelIdeal.nD Cert.DnKernelIdeal.τ).loc Cert.DnKernelIdeal.main_arg4))
      ∧ r.2.sem = fun _ => 0)

def quiescent_DnReferenceIdeal [hDnReferenceIdeal : Cert.DnReferenceIdeal.Facts] : Prop :=
  ∀ (m : (ℓ : Loc Cert.DnReferenceIdeal.nD Cert.DnReferenceIdeal.τ Cert.DnReferenceIdeal.sig) → Buf (Elt Ideal) ℓ) (g : Dev Cert.DnReferenceIdeal.nD → PrngReg), Pre_DnReferenceIdeal m →
    θ_run (Cert.DnReferenceIdeal.defs (F := Ideal)) (onTc (τ := Cert.DnReferenceIdeal.τ) (Cert.DnReferenceIdeal.main (F := Ideal))) ⟨m, fun _ => 0, g⟩ (fun r => (∀ c : Dev Cert.DnReferenceIdeal.nD,
      r.2.mem ((c.tc : Thread Cert.DnReferenceIdeal.nD Cert.DnReferenceIdeal.τ).loc Cert.DnReferenceIdeal.main_arg0) = m ((c.tc : Thread Cert.DnReferenceIdeal.nD Cert.DnReferenceIdeal.τ).loc Cert.DnReferenceIdeal.main_arg0)
      ∧ r.2.mem ((c.tc : Thread Cert.DnReferenceIdeal.nD Cert.DnReferenceIdeal.τ).loc Cert.DnReferenceIdeal.main_arg1) = m ((c.tc : Thread Cert.DnReferenceIdeal.nD Cert.DnReferenceIdeal.τ).loc Cert.DnReferenceIdeal.main_arg1)
      ∧ r.2.mem ((c.tc : Thread Cert.DnReferenceIdeal.nD Cert.DnReferenceIdeal.τ).loc Cert.DnReferenceIdeal.main_arg2) = m ((c.tc : Thread Cert.DnReferenceIdeal.nD Cert.DnReferenceIdeal.τ).loc Cert.DnReferenceIdeal.main_arg2)
      ∧ r.2.mem ((c.tc : Thread Cert.DnReferenceIdeal.nD Cert.DnReferenceIdeal.τ).loc Cert.DnReferenceIdeal.main_arg3) = m ((c.tc : Thread Cert.DnReferenceIdeal.nD Cert.DnReferenceIdeal.τ).loc Cert.DnReferenceIdeal.main_arg3)
      ∧ r.2.mem ((c.tc : Thread Cert.DnReferenceIdeal.nD Cert.DnReferenceIdeal.τ).loc Cert.DnReferenceIdeal.main_arg4) = m ((c.tc : Thread Cert.DnReferenceIdeal.nD Cert.DnReferenceIdeal.τ).loc Cert.DnReferenceIdeal.main_arg4))
      ∧ r.2.sem = fun _ => 0)

def quiescent_MfKernel [hMfKernel : Cert.MfKernel.Facts] : Prop :=
  ∀ (m : (ℓ : Loc Cert.MfKernel.nD Cert.MfKernel.τ Cert.MfKernel.sig) → Buf (Elt Bits) ℓ) (g : Dev Cert.MfKernel.nD → PrngReg), Pre_MfKernel m →
    θ_run (Cert.MfKernel.defs (F := Bits)) (onTc (τ := Cert.MfKernel.τ) (Cert.MfKernel.main (F := Bits))) ⟨m, fun _ => 0, g⟩ (fun r => (∀ c : Dev Cert.MfKernel.nD,
      r.2.mem ((c.tc : Thread Cert.MfKernel.nD Cert.MfKernel.τ).loc Cert.MfKernel.main_arg0) = m ((c.tc : Thread Cert.MfKernel.nD Cert.MfKernel.τ).loc Cert.MfKernel.main_arg0)
      ∧ r.2.mem ((c.tc : Thread Cert.MfKernel.nD Cert.MfKernel.τ).loc Cert.MfKernel.main_arg1) = m ((c.tc : Thread Cert.MfKernel.nD Cert.MfKernel.τ).loc Cert.MfKernel.main_arg1)
      ∧ r.2.mem ((c.tc : Thread Cert.MfKernel.nD Cert.MfKernel.τ).loc Cert.MfKernel.main_arg2) = m ((c.tc : Thread Cert.MfKernel.nD Cert.MfKernel.τ).loc Cert.MfKernel.main_arg2)
      ∧ r.2.mem ((c.tc : Thread Cert.MfKernel.nD Cert.MfKernel.τ).loc Cert.MfKernel.main_arg3) = m ((c.tc : Thread Cert.MfKernel.nD Cert.MfKernel.τ).loc Cert.MfKernel.main_arg3)
      ∧ r.2.mem ((c.tc : Thread Cert.MfKernel.nD Cert.MfKernel.τ).loc Cert.MfKernel.main_arg4) = m ((c.tc : Thread Cert.MfKernel.nD Cert.MfKernel.τ).loc Cert.MfKernel.main_arg4)
      ∧ r.2.mem ((c.tc : Thread Cert.MfKernel.nD Cert.MfKernel.τ).loc Cert.MfKernel.main_arg5) = m ((c.tc : Thread Cert.MfKernel.nD Cert.MfKernel.τ).loc Cert.MfKernel.main_arg5)
      ∧ r.2.mem ((c.tc : Thread Cert.MfKernel.nD Cert.MfKernel.τ).loc Cert.MfKernel.main_arg6) = m ((c.tc : Thread Cert.MfKernel.nD Cert.MfKernel.τ).loc Cert.MfKernel.main_arg6))
      ∧ r.2.sem = fun _ => 0)

def quiescent_MfKernelIdeal [hMfKernelIdeal : Cert.MfKernelIdeal.Facts] : Prop :=
  ∀ (m : (ℓ : Loc Cert.MfKernelIdeal.nD Cert.MfKernelIdeal.τ Cert.MfKernelIdeal.sig) → Buf (Elt Ideal) ℓ) (g : Dev Cert.MfKernelIdeal.nD → PrngReg), Pre_MfKernelIdeal m →
    θ_run (Cert.MfKernelIdeal.defs (F := Ideal)) (onTc (τ := Cert.MfKernelIdeal.τ) (Cert.MfKernelIdeal.main (F := Ideal))) ⟨m, fun _ => 0, g⟩ (fun r => (∀ c : Dev Cert.MfKernelIdeal.nD,
      r.2.mem ((c.tc : Thread Cert.MfKernelIdeal.nD Cert.MfKernelIdeal.τ).loc Cert.MfKernelIdeal.main_arg0) = m ((c.tc : Thread Cert.MfKernelIdeal.nD Cert.MfKernelIdeal.τ).loc Cert.MfKernelIdeal.main_arg0)
      ∧ r.2.mem ((c.tc : Thread Cert.MfKernelIdeal.nD Cert.MfKernelIdeal.τ).loc Cert.MfKernelIdeal.main_arg1) = m ((c.tc : Thread Cert.MfKernelIdeal.nD Cert.MfKernelIdeal.τ).loc Cert.MfKernelIdeal.main_arg1)
      ∧ r.2.mem ((c.tc : Thread Cert.MfKernelIdeal.nD Cert.MfKernelIdeal.τ).loc Cert.MfKernelIdeal.main_arg2) = m ((c.tc : Thread Cert.MfKernelIdeal.nD Cert.MfKernelIdeal.τ).loc Cert.MfKernelIdeal.main_arg2)
      ∧ r.2.mem ((c.tc : Thread Cert.MfKernelIdeal.nD Cert.MfKernelIdeal.τ).loc Cert.MfKernelIdeal.main_arg3) = m ((c.tc : Thread Cert.MfKernelIdeal.nD Cert.MfKernelIdeal.τ).loc Cert.MfKernelIdeal.main_arg3)
      ∧ r.2.mem ((c.tc : Thread Cert.MfKernelIdeal.nD Cert.MfKernelIdeal.τ).loc Cert.MfKernelIdeal.main_arg4) = m ((c.tc : Thread Cert.MfKernelIdeal.nD Cert.MfKernelIdeal.τ).loc Cert.MfKernelIdeal.main_arg4)
      ∧ r.2.mem ((c.tc : Thread Cert.MfKernelIdeal.nD Cert.MfKernelIdeal.τ).loc Cert.MfKernelIdeal.main_arg5) = m ((c.tc : Thread Cert.MfKernelIdeal.nD Cert.MfKernelIdeal.τ).loc Cert.MfKernelIdeal.main_arg5)
      ∧ r.2.mem ((c.tc : Thread Cert.MfKernelIdeal.nD Cert.MfKernelIdeal.τ).loc Cert.MfKernelIdeal.main_arg6) = m ((c.tc : Thread Cert.MfKernelIdeal.nD Cert.MfKernelIdeal.τ).loc Cert.MfKernelIdeal.main_arg6))
      ∧ r.2.sem = fun _ => 0)

def quiescent_MfReferenceIdeal [hMfReferenceIdeal : Cert.MfReferenceIdeal.Facts] : Prop :=
  ∀ (m : (ℓ : Loc Cert.MfReferenceIdeal.nD Cert.MfReferenceIdeal.τ Cert.MfReferenceIdeal.sig) → Buf (Elt Ideal) ℓ) (g : Dev Cert.MfReferenceIdeal.nD → PrngReg), Pre_MfReferenceIdeal m →
    θ_run (Cert.MfReferenceIdeal.defs (F := Ideal)) (onTc (τ := Cert.MfReferenceIdeal.τ) (Cert.MfReferenceIdeal.main (F := Ideal))) ⟨m, fun _ => 0, g⟩ (fun r => (∀ c : Dev Cert.MfReferenceIdeal.nD,
      r.2.mem ((c.tc : Thread Cert.MfReferenceIdeal.nD Cert.MfReferenceIdeal.τ).loc Cert.MfReferenceIdeal.main_arg0) = m ((c.tc : Thread Cert.MfReferenceIdeal.nD Cert.MfReferenceIdeal.τ).loc Cert.MfReferenceIdeal.main_arg0)
      ∧ r.2.mem ((c.tc : Thread Cert.MfReferenceIdeal.nD Cert.MfReferenceIdeal.τ).loc Cert.MfReferenceIdeal.main_arg1) = m ((c.tc : Thread Cert.MfReferenceIdeal.nD Cert.MfReferenceIdeal.τ).loc Cert.MfReferenceIdeal.main_arg1)
      ∧ r.2.mem ((c.tc : Thread Cert.MfReferenceIdeal.nD Cert.MfReferenceIdeal.τ).loc Cert.MfReferenceIdeal.main_arg2) = m ((c.tc : Thread Cert.MfReferenceIdeal.nD Cert.MfReferenceIdeal.τ).loc Cert.MfReferenceIdeal.main_arg2)
      ∧ r.2.mem ((c.tc : Thread Cert.MfReferenceIdeal.nD Cert.MfReferenceIdeal.τ).loc Cert.MfReferenceIdeal.main_arg3) = m ((c.tc : Thread Cert.MfReferenceIdeal.nD Cert.MfReferenceIdeal.τ).loc Cert.MfReferenceIdeal.main_arg3)
      ∧ r.2.mem ((c.tc : Thread Cert.MfReferenceIdeal.nD Cert.MfReferenceIdeal.τ).loc Cert.MfReferenceIdeal.main_arg4) = m ((c.tc : Thread Cert.MfReferenceIdeal.nD Cert.MfReferenceIdeal.τ).loc Cert.MfReferenceIdeal.main_arg4)
      ∧ r.2.mem ((c.tc : Thread Cert.MfReferenceIdeal.nD Cert.MfReferenceIdeal.τ).loc Cert.MfReferenceIdeal.main_arg5) = m ((c.tc : Thread Cert.MfReferenceIdeal.nD Cert.MfReferenceIdeal.τ).loc Cert.MfReferenceIdeal.main_arg5)
      ∧ r.2.mem ((c.tc : Thread Cert.MfReferenceIdeal.nD Cert.MfReferenceIdeal.τ).loc Cert.MfReferenceIdeal.main_arg6) = m ((c.tc : Thread Cert.MfReferenceIdeal.nD Cert.MfReferenceIdeal.τ).loc Cert.MfReferenceIdeal.main_arg6))
      ∧ r.2.sem = fun _ => 0)

def quiescent_WoKernel [hWoKernel : Cert.WoKernel.Facts] : Prop :=
  ∀ (m : (ℓ : Loc Cert.WoKernel.nD Cert.WoKernel.τ Cert.WoKernel.sig) → Buf (Elt Bits) ℓ) (g : Dev Cert.WoKernel.nD → PrngReg), Pre_WoKernel m →
    θ_run (Cert.WoKernel.defs (F := Bits)) (onTc (τ := Cert.WoKernel.τ) (Cert.WoKernel.main (F := Bits))) ⟨m, fun _ => 0, g⟩ (fun r => (∀ c : Dev Cert.WoKernel.nD,
      r.2.mem ((c.tc : Thread Cert.WoKernel.nD Cert.WoKernel.τ).loc Cert.WoKernel.main_arg0) = m ((c.tc : Thread Cert.WoKernel.nD Cert.WoKernel.τ).loc Cert.WoKernel.main_arg0)
      ∧ r.2.mem ((c.tc : Thread Cert.WoKernel.nD Cert.WoKernel.τ).loc Cert.WoKernel.main_arg1) = m ((c.tc : Thread Cert.WoKernel.nD Cert.WoKernel.τ).loc Cert.WoKernel.main_arg1)
      ∧ r.2.mem ((c.tc : Thread Cert.WoKernel.nD Cert.WoKernel.τ).loc Cert.WoKernel.main_arg2) = m ((c.tc : Thread Cert.WoKernel.nD Cert.WoKernel.τ).loc Cert.WoKernel.main_arg2)
      ∧ r.2.mem ((c.tc : Thread Cert.WoKernel.nD Cert.WoKernel.τ).loc Cert.WoKernel.main_arg3) = m ((c.tc : Thread Cert.WoKernel.nD Cert.WoKernel.τ).loc Cert.WoKernel.main_arg3)
      ∧ r.2.mem ((c.tc : Thread Cert.WoKernel.nD Cert.WoKernel.τ).loc Cert.WoKernel.main_arg4) = m ((c.tc : Thread Cert.WoKernel.nD Cert.WoKernel.τ).loc Cert.WoKernel.main_arg4))
      ∧ r.2.sem = fun _ => 0)

def quiescent_WoKernelIdeal [hWoKernelIdeal : Cert.WoKernelIdeal.Facts] : Prop :=
  ∀ (m : (ℓ : Loc Cert.WoKernelIdeal.nD Cert.WoKernelIdeal.τ Cert.WoKernelIdeal.sig) → Buf (Elt Ideal) ℓ) (g : Dev Cert.WoKernelIdeal.nD → PrngReg), Pre_WoKernelIdeal m →
    θ_run (Cert.WoKernelIdeal.defs (F := Ideal)) (onTc (τ := Cert.WoKernelIdeal.τ) (Cert.WoKernelIdeal.main (F := Ideal))) ⟨m, fun _ => 0, g⟩ (fun r => (∀ c : Dev Cert.WoKernelIdeal.nD,
      r.2.mem ((c.tc : Thread Cert.WoKernelIdeal.nD Cert.WoKernelIdeal.τ).loc Cert.WoKernelIdeal.main_arg0) = m ((c.tc : Thread Cert.WoKernelIdeal.nD Cert.WoKernelIdeal.τ).loc Cert.WoKernelIdeal.main_arg0)
      ∧ r.2.mem ((c.tc : Thread Cert.WoKernelIdeal.nD Cert.WoKernelIdeal.τ).loc Cert.WoKernelIdeal.main_arg1) = m ((c.tc : Thread Cert.WoKernelIdeal.nD Cert.WoKernelIdeal.τ).loc Cert.WoKernelIdeal.main_arg1)
      ∧ r.2.mem ((c.tc : Thread Cert.WoKernelIdeal.nD Cert.WoKernelIdeal.τ).loc Cert.WoKernelIdeal.main_arg2) = m ((c.tc : Thread Cert.WoKernelIdeal.nD Cert.WoKernelIdeal.τ).loc Cert.WoKernelIdeal.main_arg2)
      ∧ r.2.mem ((c.tc : Thread Cert.WoKernelIdeal.nD Cert.WoKernelIdeal.τ).loc Cert.WoKernelIdeal.main_arg3) = m ((c.tc : Thread Cert.WoKernelIdeal.nD Cert.WoKernelIdeal.τ).loc Cert.WoKernelIdeal.main_arg3)
      ∧ r.2.mem ((c.tc : Thread Cert.WoKernelIdeal.nD Cert.WoKernelIdeal.τ).loc Cert.WoKernelIdeal.main_arg4) = m ((c.tc : Thread Cert.WoKernelIdeal.nD Cert.WoKernelIdeal.τ).loc Cert.WoKernelIdeal.main_arg4))
      ∧ r.2.sem = fun _ => 0)

def quiescent_WoReferenceIdeal [hWoReferenceIdeal : Cert.WoReferenceIdeal.Facts] : Prop :=
  ∀ (m : (ℓ : Loc Cert.WoReferenceIdeal.nD Cert.WoReferenceIdeal.τ Cert.WoReferenceIdeal.sig) → Buf (Elt Ideal) ℓ) (g : Dev Cert.WoReferenceIdeal.nD → PrngReg), Pre_WoReferenceIdeal m →
    θ_run (Cert.WoReferenceIdeal.defs (F := Ideal)) (onTc (τ := Cert.WoReferenceIdeal.τ) (Cert.WoReferenceIdeal.main (F := Ideal))) ⟨m, fun _ => 0, g⟩ (fun r => (∀ c : Dev Cert.WoReferenceIdeal.nD,
      r.2.mem ((c.tc : Thread Cert.WoReferenceIdeal.nD Cert.WoReferenceIdeal.τ).loc Cert.WoReferenceIdeal.main_arg0) = m ((c.tc : Thread Cert.WoReferenceIdeal.nD Cert.WoReferenceIdeal.τ).loc Cert.WoReferenceIdeal.main_arg0)
      ∧ r.2.mem ((c.tc : Thread Cert.WoReferenceIdeal.nD Cert.WoReferenceIdeal.τ).loc Cert.WoReferenceIdeal.main_arg1) = m ((c.tc : Thread Cert.WoReferenceIdeal.nD Cert.WoReferenceIdeal.τ).loc Cert.WoReferenceIdeal.main_arg1)
      ∧ r.2.mem ((c.tc : Thread Cert.WoReferenceIdeal.nD Cert.WoReferenceIdeal.τ).loc Cert.WoReferenceIdeal.main_arg2) = m ((c.tc : Thread Cert.WoReferenceIdeal.nD Cert.WoReferenceIdeal.τ).loc Cert.WoReferenceIdeal.main_arg2)
      ∧ r.2.mem ((c.tc : Thread Cert.WoReferenceIdeal.nD Cert.WoReferenceIdeal.τ).loc Cert.WoReferenceIdeal.main_arg3) = m ((c.tc : Thread Cert.WoReferenceIdeal.nD Cert.WoReferenceIdeal.τ).loc Cert.WoReferenceIdeal.main_arg3)
      ∧ r.2.mem ((c.tc : Thread Cert.WoReferenceIdeal.nD Cert.WoReferenceIdeal.τ).loc Cert.WoReferenceIdeal.main_arg4) = m ((c.tc : Thread Cert.WoReferenceIdeal.nD Cert.WoReferenceIdeal.τ).loc Cert.WoReferenceIdeal.main_arg4))
      ∧ r.2.sem = fun _ => 0)

def quiescent_CoKernel [hCoKernel : Cert.CoKernel.Facts] : Prop :=
  ∀ (m : (ℓ : Loc Cert.CoKernel.nD Cert.CoKernel.τ Cert.CoKernel.sig) → Buf (Elt Bits) ℓ) (g : Dev Cert.CoKernel.nD → PrngReg), Pre_CoKernel m →
    θ_run (Cert.CoKernel.defs (F := Bits)) (onTc (τ := Cert.CoKernel.τ) (Cert.CoKernel.main (F := Bits))) ⟨m, fun _ => 0, g⟩ (fun r => (∀ c : Dev Cert.CoKernel.nD,
      r.2.mem ((c.tc : Thread Cert.CoKernel.nD Cert.CoKernel.τ).loc Cert.CoKernel.main_arg0) = m ((c.tc : Thread Cert.CoKernel.nD Cert.CoKernel.τ).loc Cert.CoKernel.main_arg0)
      ∧ r.2.mem ((c.tc : Thread Cert.CoKernel.nD Cert.CoKernel.τ).loc Cert.CoKernel.main_arg1) = m ((c.tc : Thread Cert.CoKernel.nD Cert.CoKernel.τ).loc Cert.CoKernel.main_arg1)
      ∧ r.2.mem ((c.tc : Thread Cert.CoKernel.nD Cert.CoKernel.τ).loc Cert.CoKernel.main_arg2) = m ((c.tc : Thread Cert.CoKernel.nD Cert.CoKernel.τ).loc Cert.CoKernel.main_arg2)
      ∧ r.2.mem ((c.tc : Thread Cert.CoKernel.nD Cert.CoKernel.τ).loc Cert.CoKernel.main_arg3) = m ((c.tc : Thread Cert.CoKernel.nD Cert.CoKernel.τ).loc Cert.CoKernel.main_arg3)
      ∧ r.2.mem ((c.tc : Thread Cert.CoKernel.nD Cert.CoKernel.τ).loc Cert.CoKernel.main_arg4) = m ((c.tc : Thread Cert.CoKernel.nD Cert.CoKernel.τ).loc Cert.CoKernel.main_arg4))
      ∧ r.2.sem = fun _ => 0)

def quiescent_CoKernelIdeal [hCoKernelIdeal : Cert.CoKernelIdeal.Facts] : Prop :=
  ∀ (m : (ℓ : Loc Cert.CoKernelIdeal.nD Cert.CoKernelIdeal.τ Cert.CoKernelIdeal.sig) → Buf (Elt Ideal) ℓ) (g : Dev Cert.CoKernelIdeal.nD → PrngReg), Pre_CoKernelIdeal m →
    θ_run (Cert.CoKernelIdeal.defs (F := Ideal)) (onTc (τ := Cert.CoKernelIdeal.τ) (Cert.CoKernelIdeal.main (F := Ideal))) ⟨m, fun _ => 0, g⟩ (fun r => (∀ c : Dev Cert.CoKernelIdeal.nD,
      r.2.mem ((c.tc : Thread Cert.CoKernelIdeal.nD Cert.CoKernelIdeal.τ).loc Cert.CoKernelIdeal.main_arg0) = m ((c.tc : Thread Cert.CoKernelIdeal.nD Cert.CoKernelIdeal.τ).loc Cert.CoKernelIdeal.main_arg0)
      ∧ r.2.mem ((c.tc : Thread Cert.CoKernelIdeal.nD Cert.CoKernelIdeal.τ).loc Cert.CoKernelIdeal.main_arg1) = m ((c.tc : Thread Cert.CoKernelIdeal.nD Cert.CoKernelIdeal.τ).loc Cert.CoKernelIdeal.main_arg1)
      ∧ r.2.mem ((c.tc : Thread Cert.CoKernelIdeal.nD Cert.CoKernelIdeal.τ).loc Cert.CoKernelIdeal.main_arg2) = m ((c.tc : Thread Cert.CoKernelIdeal.nD Cert.CoKernelIdeal.τ).loc Cert.CoKernelIdeal.main_arg2)
      ∧ r.2.mem ((c.tc : Thread Cert.CoKernelIdeal.nD Cert.CoKernelIdeal.τ).loc Cert.CoKernelIdeal.main_arg3) = m ((c.tc : Thread Cert.CoKernelIdeal.nD Cert.CoKernelIdeal.τ).loc Cert.CoKernelIdeal.main_arg3)
      ∧ r.2.mem ((c.tc : Thread Cert.CoKernelIdeal.nD Cert.CoKernelIdeal.τ).loc Cert.CoKernelIdeal.main_arg4) = m ((c.tc : Thread Cert.CoKernelIdeal.nD Cert.CoKernelIdeal.τ).loc Cert.CoKernelIdeal.main_arg4))
      ∧ r.2.sem = fun _ => 0)

def quiescent_CoReferenceIdeal [hCoReferenceIdeal : Cert.CoReferenceIdeal.Facts] : Prop :=
  ∀ (m : (ℓ : Loc Cert.CoReferenceIdeal.nD Cert.CoReferenceIdeal.τ Cert.CoReferenceIdeal.sig) → Buf (Elt Ideal) ℓ) (g : Dev Cert.CoReferenceIdeal.nD → PrngReg), Pre_CoReferenceIdeal m →
    θ_run (Cert.CoReferenceIdeal.defs (F := Ideal)) (onTc (τ := Cert.CoReferenceIdeal.τ) (Cert.CoReferenceIdeal.main (F := Ideal))) ⟨m, fun _ => 0, g⟩ (fun r => (∀ c : Dev Cert.CoReferenceIdeal.nD,
      r.2.mem ((c.tc : Thread Cert.CoReferenceIdeal.nD Cert.CoReferenceIdeal.τ).loc Cert.CoReferenceIdeal.main_arg0) = m ((c.tc : Thread Cert.CoReferenceIdeal.nD Cert.CoReferenceIdeal.τ).loc Cert.CoReferenceIdeal.main_arg0)
      ∧ r.2.mem ((c.tc : Thread Cert.CoReferenceIdeal.nD Cert.CoReferenceIdeal.τ).loc Cert.CoReferenceIdeal.main_arg1) = m ((c.tc : Thread Cert.CoReferenceIdeal.nD Cert.CoReferenceIdeal.τ).loc Cert.CoReferenceIdeal.main_arg1)
      ∧ r.2.mem ((c.tc : Thread Cert.CoReferenceIdeal.nD Cert.CoReferenceIdeal.τ).loc Cert.CoReferenceIdeal.main_arg2) = m ((c.tc : Thread Cert.CoReferenceIdeal.nD Cert.CoReferenceIdeal.τ).loc Cert.CoReferenceIdeal.main_arg2)
      ∧ r.2.mem ((c.tc : Thread Cert.CoReferenceIdeal.nD Cert.CoReferenceIdeal.τ).loc Cert.CoReferenceIdeal.main_arg3) = m ((c.tc : Thread Cert.CoReferenceIdeal.nD Cert.CoReferenceIdeal.τ).loc Cert.CoReferenceIdeal.main_arg3)
      ∧ r.2.mem ((c.tc : Thread Cert.CoReferenceIdeal.nD Cert.CoReferenceIdeal.τ).loc Cert.CoReferenceIdeal.main_arg4) = m ((c.tc : Thread Cert.CoReferenceIdeal.nD Cert.CoReferenceIdeal.τ).loc Cert.CoReferenceIdeal.main_arg4))
      ∧ r.2.sem = fun _ => 0)

def quiescent_CqKernel [hCqKernel : Cert.CqKernel.Facts] : Prop :=
  ∀ (m : (ℓ : Loc Cert.CqKernel.nD Cert.CqKernel.τ Cert.CqKernel.sig) → Buf (Elt Bits) ℓ) (g : Dev Cert.CqKernel.nD → PrngReg), Pre_CqKernel m →
    θ_run (Cert.CqKernel.defs (F := Bits)) (onTc (τ := Cert.CqKernel.τ) (Cert.CqKernel.main (F := Bits))) ⟨m, fun _ => 0, g⟩ (fun r => (∀ c : Dev Cert.CqKernel.nD,
      r.2.mem ((c.tc : Thread Cert.CqKernel.nD Cert.CqKernel.τ).loc Cert.CqKernel.main_arg0) = m ((c.tc : Thread Cert.CqKernel.nD Cert.CqKernel.τ).loc Cert.CqKernel.main_arg0)
      ∧ r.2.mem ((c.tc : Thread Cert.CqKernel.nD Cert.CqKernel.τ).loc Cert.CqKernel.main_arg1) = m ((c.tc : Thread Cert.CqKernel.nD Cert.CqKernel.τ).loc Cert.CqKernel.main_arg1))
      ∧ r.2.sem = fun _ => 0)

def quiescent_CqKernelIdeal [hCqKernelIdeal : Cert.CqKernelIdeal.Facts] : Prop :=
  ∀ (m : (ℓ : Loc Cert.CqKernelIdeal.nD Cert.CqKernelIdeal.τ Cert.CqKernelIdeal.sig) → Buf (Elt Ideal) ℓ) (g : Dev Cert.CqKernelIdeal.nD → PrngReg), Pre_CqKernelIdeal m →
    θ_run (Cert.CqKernelIdeal.defs (F := Ideal)) (onTc (τ := Cert.CqKernelIdeal.τ) (Cert.CqKernelIdeal.main (F := Ideal))) ⟨m, fun _ => 0, g⟩ (fun r => (∀ c : Dev Cert.CqKernelIdeal.nD,
      r.2.mem ((c.tc : Thread Cert.CqKernelIdeal.nD Cert.CqKernelIdeal.τ).loc Cert.CqKernelIdeal.main_arg0) = m ((c.tc : Thread Cert.CqKernelIdeal.nD Cert.CqKernelIdeal.τ).loc Cert.CqKernelIdeal.main_arg0)
      ∧ r.2.mem ((c.tc : Thread Cert.CqKernelIdeal.nD Cert.CqKernelIdeal.τ).loc Cert.CqKernelIdeal.main_arg1) = m ((c.tc : Thread Cert.CqKernelIdeal.nD Cert.CqKernelIdeal.τ).loc Cert.CqKernelIdeal.main_arg1))
      ∧ r.2.sem = fun _ => 0)

def quiescent_CqReferenceIdeal [hCqReferenceIdeal : Cert.CqReferenceIdeal.Facts] : Prop :=
  ∀ (m : (ℓ : Loc Cert.CqReferenceIdeal.nD Cert.CqReferenceIdeal.τ Cert.CqReferenceIdeal.sig) → Buf (Elt Ideal) ℓ) (g : Dev Cert.CqReferenceIdeal.nD → PrngReg), Pre_CqReferenceIdeal m →
    θ_run (Cert.CqReferenceIdeal.defs (F := Ideal)) (onTc (τ := Cert.CqReferenceIdeal.τ) (Cert.CqReferenceIdeal.main (F := Ideal))) ⟨m, fun _ => 0, g⟩ (fun r => (∀ c : Dev Cert.CqReferenceIdeal.nD,
      r.2.mem ((c.tc : Thread Cert.CqReferenceIdeal.nD Cert.CqReferenceIdeal.τ).loc Cert.CqReferenceIdeal.main_arg0) = m ((c.tc : Thread Cert.CqReferenceIdeal.nD Cert.CqReferenceIdeal.τ).loc Cert.CqReferenceIdeal.main_arg0)
      ∧ r.2.mem ((c.tc : Thread Cert.CqReferenceIdeal.nD Cert.CqReferenceIdeal.τ).loc Cert.CqReferenceIdeal.main_arg1) = m ((c.tc : Thread Cert.CqReferenceIdeal.nD Cert.CqReferenceIdeal.τ).loc Cert.CqReferenceIdeal.main_arg1))
      ∧ r.2.sem = fun _ => 0)

def quiescent_DmKernel [hDmKernel : Cert.DmKernel.Facts] : Prop :=
  ∀ (m : (ℓ : Loc Cert.DmKernel.nD Cert.DmKernel.τ Cert.DmKernel.sig) → Buf (Elt Bits) ℓ) (g : Dev Cert.DmKernel.nD → PrngReg), Pre_DmKernel m →
    θ_run (Cert.DmKernel.defs (F := Bits)) (onTc (τ := Cert.DmKernel.τ) (Cert.DmKernel.main (F := Bits))) ⟨m, fun _ => 0, g⟩ (fun r => (∀ c : Dev Cert.DmKernel.nD,
      r.2.mem ((c.tc : Thread Cert.DmKernel.nD Cert.DmKernel.τ).loc Cert.DmKernel.main_arg0) = m ((c.tc : Thread Cert.DmKernel.nD Cert.DmKernel.τ).loc Cert.DmKernel.main_arg0)
      ∧ r.2.mem ((c.tc : Thread Cert.DmKernel.nD Cert.DmKernel.τ).loc Cert.DmKernel.main_arg1) = m ((c.tc : Thread Cert.DmKernel.nD Cert.DmKernel.τ).loc Cert.DmKernel.main_arg1))
      ∧ r.2.sem = fun _ => 0)

def quiescent_DmKernelIdeal [hDmKernelIdeal : Cert.DmKernelIdeal.Facts] : Prop :=
  ∀ (m : (ℓ : Loc Cert.DmKernelIdeal.nD Cert.DmKernelIdeal.τ Cert.DmKernelIdeal.sig) → Buf (Elt Ideal) ℓ) (g : Dev Cert.DmKernelIdeal.nD → PrngReg), Pre_DmKernelIdeal m →
    θ_run (Cert.DmKernelIdeal.defs (F := Ideal)) (onTc (τ := Cert.DmKernelIdeal.τ) (Cert.DmKernelIdeal.main (F := Ideal))) ⟨m, fun _ => 0, g⟩ (fun r => (∀ c : Dev Cert.DmKernelIdeal.nD,
      r.2.mem ((c.tc : Thread Cert.DmKernelIdeal.nD Cert.DmKernelIdeal.τ).loc Cert.DmKernelIdeal.main_arg0) = m ((c.tc : Thread Cert.DmKernelIdeal.nD Cert.DmKernelIdeal.τ).loc Cert.DmKernelIdeal.main_arg0)
      ∧ r.2.mem ((c.tc : Thread Cert.DmKernelIdeal.nD Cert.DmKernelIdeal.τ).loc Cert.DmKernelIdeal.main_arg1) = m ((c.tc : Thread Cert.DmKernelIdeal.nD Cert.DmKernelIdeal.τ).loc Cert.DmKernelIdeal.main_arg1))
      ∧ r.2.sem = fun _ => 0)

def quiescent_DmReferenceIdeal [hDmReferenceIdeal : Cert.DmReferenceIdeal.Facts] : Prop :=
  ∀ (m : (ℓ : Loc Cert.DmReferenceIdeal.nD Cert.DmReferenceIdeal.τ Cert.DmReferenceIdeal.sig) → Buf (Elt Ideal) ℓ) (g : Dev Cert.DmReferenceIdeal.nD → PrngReg), Pre_DmReferenceIdeal m →
    θ_run (Cert.DmReferenceIdeal.defs (F := Ideal)) (onTc (τ := Cert.DmReferenceIdeal.τ) (Cert.DmReferenceIdeal.main (F := Ideal))) ⟨m, fun _ => 0, g⟩ (fun r => (∀ c : Dev Cert.DmReferenceIdeal.nD,
      r.2.mem ((c.tc : Thread Cert.DmReferenceIdeal.nD Cert.DmReferenceIdeal.τ).loc Cert.DmReferenceIdeal.main_arg0) = m ((c.tc : Thread Cert.DmReferenceIdeal.nD Cert.DmReferenceIdeal.τ).loc Cert.DmReferenceIdeal.main_arg0)
      ∧ r.2.mem ((c.tc : Thread Cert.DmReferenceIdeal.nD Cert.DmReferenceIdeal.τ).loc Cert.DmReferenceIdeal.main_arg1) = m ((c.tc : Thread Cert.DmReferenceIdeal.nD Cert.DmReferenceIdeal.τ).loc Cert.DmReferenceIdeal.main_arg1))
      ∧ r.2.sem = fun _ => 0)

def quiescent_DbKernel [hDbKernel : Cert.DbKernel.Facts] : Prop :=
  ∀ (m : (ℓ : Loc Cert.DbKernel.nD Cert.DbKernel.τ Cert.DbKernel.sig) → Buf (Elt Bits) ℓ) (g : Dev Cert.DbKernel.nD → PrngReg), Pre_DbKernel m →
    θ_run (Cert.DbKernel.defs (F := Bits)) (onTc (τ := Cert.DbKernel.τ) (Cert.DbKernel.main (F := Bits))) ⟨m, fun _ => 0, g⟩ (fun r => (∀ c : Dev Cert.DbKernel.nD,
      r.2.mem ((c.tc : Thread Cert.DbKernel.nD Cert.DbKernel.τ).loc Cert.DbKernel.main_arg0) = m ((c.tc : Thread Cert.DbKernel.nD Cert.DbKernel.τ).loc Cert.DbKernel.main_arg0)
      ∧ r.2.mem ((c.tc : Thread Cert.DbKernel.nD Cert.DbKernel.τ).loc Cert.DbKernel.main_arg1) = m ((c.tc : Thread Cert.DbKernel.nD Cert.DbKernel.τ).loc Cert.DbKernel.main_arg1))
      ∧ r.2.sem = fun _ => 0)

def quiescent_DbKernelIdeal [hDbKernelIdeal : Cert.DbKernelIdeal.Facts] : Prop :=
  ∀ (m : (ℓ : Loc Cert.DbKernelIdeal.nD Cert.DbKernelIdeal.τ Cert.DbKernelIdeal.sig) → Buf (Elt Ideal) ℓ) (g : Dev Cert.DbKernelIdeal.nD → PrngReg), Pre_DbKernelIdeal m →
    θ_run (Cert.DbKernelIdeal.defs (F := Ideal)) (onTc (τ := Cert.DbKernelIdeal.τ) (Cert.DbKernelIdeal.main (F := Ideal))) ⟨m, fun _ => 0, g⟩ (fun r => (∀ c : Dev Cert.DbKernelIdeal.nD,
      r.2.mem ((c.tc : Thread Cert.DbKernelIdeal.nD Cert.DbKernelIdeal.τ).loc Cert.DbKernelIdeal.main_arg0) = m ((c.tc : Thread Cert.DbKernelIdeal.nD Cert.DbKernelIdeal.τ).loc Cert.DbKernelIdeal.main_arg0)
      ∧ r.2.mem ((c.tc : Thread Cert.DbKernelIdeal.nD Cert.DbKernelIdeal.τ).loc Cert.DbKernelIdeal.main_arg1) = m ((c.tc : Thread Cert.DbKernelIdeal.nD Cert.DbKernelIdeal.τ).loc Cert.DbKernelIdeal.main_arg1))
      ∧ r.2.sem = fun _ => 0)

def quiescent_DbReferenceIdeal [hDbReferenceIdeal : Cert.DbReferenceIdeal.Facts] : Prop :=
  ∀ (m : (ℓ : Loc Cert.DbReferenceIdeal.nD Cert.DbReferenceIdeal.τ Cert.DbReferenceIdeal.sig) → Buf (Elt Ideal) ℓ) (g : Dev Cert.DbReferenceIdeal.nD → PrngReg), Pre_DbReferenceIdeal m →
    θ_run (Cert.DbReferenceIdeal.defs (F := Ideal)) (onTc (τ := Cert.DbReferenceIdeal.τ) (Cert.DbReferenceIdeal.main (F := Ideal))) ⟨m, fun _ => 0, g⟩ (fun r => (∀ c : Dev Cert.DbReferenceIdeal.nD,
      r.2.mem ((c.tc : Thread Cert.DbReferenceIdeal.nD Cert.DbReferenceIdeal.τ).loc Cert.DbReferenceIdeal.main_arg0) = m ((c.tc : Thread Cert.DbReferenceIdeal.nD Cert.DbReferenceIdeal.τ).loc Cert.DbReferenceIdeal.main_arg0)
      ∧ r.2.mem ((c.tc : Thread Cert.DbReferenceIdeal.nD Cert.DbReferenceIdeal.τ).loc Cert.DbReferenceIdeal.main_arg1) = m ((c.tc : Thread Cert.DbReferenceIdeal.nD Cert.DbReferenceIdeal.τ).loc Cert.DbReferenceIdeal.main_arg1))
      ∧ r.2.sem = fun _ => 0)

def quiescent_DxKernel [hDxKernel : Cert.DxKernel.Facts] : Prop :=
  ∀ (m : (ℓ : Loc Cert.DxKernel.nD Cert.DxKernel.τ Cert.DxKernel.sig) → Buf (Elt Bits) ℓ) (g : Dev Cert.DxKernel.nD → PrngReg), Pre_DxKernel m →
    θ_run (Cert.DxKernel.defs (F := Bits)) (onTc (τ := Cert.DxKernel.τ) (Cert.DxKernel.main (F := Bits))) ⟨m, fun _ => 0, g⟩ (fun r => (∀ c : Dev Cert.DxKernel.nD,
      r.2.mem ((c.tc : Thread Cert.DxKernel.nD Cert.DxKernel.τ).loc Cert.DxKernel.main_arg0) = m ((c.tc : Thread Cert.DxKernel.nD Cert.DxKernel.τ).loc Cert.DxKernel.main_arg0)
      ∧ r.2.mem ((c.tc : Thread Cert.DxKernel.nD Cert.DxKernel.τ).loc Cert.DxKernel.main_arg1) = m ((c.tc : Thread Cert.DxKernel.nD Cert.DxKernel.τ).loc Cert.DxKernel.main_arg1))
      ∧ r.2.sem = fun _ => 0)

def quiescent_DxKernelIdeal [hDxKernelIdeal : Cert.DxKernelIdeal.Facts] : Prop :=
  ∀ (m : (ℓ : Loc Cert.DxKernelIdeal.nD Cert.DxKernelIdeal.τ Cert.DxKernelIdeal.sig) → Buf (Elt Ideal) ℓ) (g : Dev Cert.DxKernelIdeal.nD → PrngReg), Pre_DxKernelIdeal m →
    θ_run (Cert.DxKernelIdeal.defs (F := Ideal)) (onTc (τ := Cert.DxKernelIdeal.τ) (Cert.DxKernelIdeal.main (F := Ideal))) ⟨m, fun _ => 0, g⟩ (fun r => (∀ c : Dev Cert.DxKernelIdeal.nD,
      r.2.mem ((c.tc : Thread Cert.DxKernelIdeal.nD Cert.DxKernelIdeal.τ).loc Cert.DxKernelIdeal.main_arg0) = m ((c.tc : Thread Cert.DxKernelIdeal.nD Cert.DxKernelIdeal.τ).loc Cert.DxKernelIdeal.main_arg0)
      ∧ r.2.mem ((c.tc : Thread Cert.DxKernelIdeal.nD Cert.DxKernelIdeal.τ).loc Cert.DxKernelIdeal.main_arg1) = m ((c.tc : Thread Cert.DxKernelIdeal.nD Cert.DxKernelIdeal.τ).loc Cert.DxKernelIdeal.main_arg1))
      ∧ r.2.sem = fun _ => 0)

def quiescent_DxReferenceIdeal [hDxReferenceIdeal : Cert.DxReferenceIdeal.Facts] : Prop :=
  ∀ (m : (ℓ : Loc Cert.DxReferenceIdeal.nD Cert.DxReferenceIdeal.τ Cert.DxReferenceIdeal.sig) → Buf (Elt Ideal) ℓ) (g : Dev Cert.DxReferenceIdeal.nD → PrngReg), Pre_DxReferenceIdeal m →
    θ_run (Cert.DxReferenceIdeal.defs (F := Ideal)) (onTc (τ := Cert.DxReferenceIdeal.τ) (Cert.DxReferenceIdeal.main (F := Ideal))) ⟨m, fun _ => 0, g⟩ (fun r => (∀ c : Dev Cert.DxReferenceIdeal.nD,
      r.2.mem ((c.tc : Thread Cert.DxReferenceIdeal.nD Cert.DxReferenceIdeal.τ).loc Cert.DxReferenceIdeal.main_arg0) = m ((c.tc : Thread Cert.DxReferenceIdeal.nD Cert.DxReferenceIdeal.τ).loc Cert.DxReferenceIdeal.main_arg0)
      ∧ r.2.mem ((c.tc : Thread Cert.DxReferenceIdeal.nD Cert.DxReferenceIdeal.τ).loc Cert.DxReferenceIdeal.main_arg1) = m ((c.tc : Thread Cert.DxReferenceIdeal.nD Cert.DxReferenceIdeal.τ).loc Cert.DxReferenceIdeal.main_arg1))
      ∧ r.2.sem = fun _ => 0)

def quiescent_WuKernel [hWuKernel : Cert.WuKernel.Facts] : Prop :=
  ∀ (m : (ℓ : Loc Cert.WuKernel.nD Cert.WuKernel.τ Cert.WuKernel.sig) → Buf (Elt Bits) ℓ) (g : Dev Cert.WuKernel.nD → PrngReg), Pre_WuKernel m →
    θ_run (Cert.WuKernel.defs (F := Bits)) (onTc (τ := Cert.WuKernel.τ) (Cert.WuKernel.main (F := Bits))) ⟨m, fun _ => 0, g⟩ (fun r => (∀ c : Dev Cert.WuKernel.nD,
      r.2.mem ((c.tc : Thread Cert.WuKernel.nD Cert.WuKernel.τ).loc Cert.WuKernel.main_arg0) = m ((c.tc : Thread Cert.WuKernel.nD Cert.WuKernel.τ).loc Cert.WuKernel.main_arg0)
      ∧ r.2.mem ((c.tc : Thread Cert.WuKernel.nD Cert.WuKernel.τ).loc Cert.WuKernel.main_arg1) = m ((c.tc : Thread Cert.WuKernel.nD Cert.WuKernel.τ).loc Cert.WuKernel.main_arg1))
      ∧ r.2.sem = fun _ => 0)

def quiescent_WuKernelIdeal [hWuKernelIdeal : Cert.WuKernelIdeal.Facts] : Prop :=
  ∀ (m : (ℓ : Loc Cert.WuKernelIdeal.nD Cert.WuKernelIdeal.τ Cert.WuKernelIdeal.sig) → Buf (Elt Ideal) ℓ) (g : Dev Cert.WuKernelIdeal.nD → PrngReg), Pre_WuKernelIdeal m →
    θ_run (Cert.WuKernelIdeal.defs (F := Ideal)) (onTc (τ := Cert.WuKernelIdeal.τ) (Cert.WuKernelIdeal.main (F := Ideal))) ⟨m, fun _ => 0, g⟩ (fun r => (∀ c : Dev Cert.WuKernelIdeal.nD,
      r.2.mem ((c.tc : Thread Cert.WuKernelIdeal.nD Cert.WuKernelIdeal.τ).loc Cert.WuKernelIdeal.main_arg0) = m ((c.tc : Thread Cert.WuKernelIdeal.nD Cert.WuKernelIdeal.τ).loc Cert.WuKernelIdeal.main_arg0)
      ∧ r.2.mem ((c.tc : Thread Cert.WuKernelIdeal.nD Cert.WuKernelIdeal.τ).loc Cert.WuKernelIdeal.main_arg1) = m ((c.tc : Thread Cert.WuKernelIdeal.nD Cert.WuKernelIdeal.τ).loc Cert.WuKernelIdeal.main_arg1))
      ∧ r.2.sem = fun _ => 0)

def quiescent_WuReferenceIdeal [hWuReferenceIdeal : Cert.WuReferenceIdeal.Facts] : Prop :=
  ∀ (m : (ℓ : Loc Cert.WuReferenceIdeal.nD Cert.WuReferenceIdeal.τ Cert.WuReferenceIdeal.sig) → Buf (Elt Ideal) ℓ) (g : Dev Cert.WuReferenceIdeal.nD → PrngReg), Pre_WuReferenceIdeal m →
    θ_run (Cert.WuReferenceIdeal.defs (F := Ideal)) (onTc (τ := Cert.WuReferenceIdeal.τ) (Cert.WuReferenceIdeal.main (F := Ideal))) ⟨m, fun _ => 0, g⟩ (fun r => (∀ c : Dev Cert.WuReferenceIdeal.nD,
      r.2.mem ((c.tc : Thread Cert.WuReferenceIdeal.nD Cert.WuReferenceIdeal.τ).loc Cert.WuReferenceIdeal.main_arg0) = m ((c.tc : Thread Cert.WuReferenceIdeal.nD Cert.WuReferenceIdeal.τ).loc Cert.WuReferenceIdeal.main_arg0)
      ∧ r.2.mem ((c.tc : Thread Cert.WuReferenceIdeal.nD Cert.WuReferenceIdeal.τ).loc Cert.WuReferenceIdeal.main_arg1) = m ((c.tc : Thread Cert.WuReferenceIdeal.nD Cert.WuReferenceIdeal.τ).loc Cert.WuReferenceIdeal.main_arg1))
      ∧ r.2.sem = fun _ => 0)

def quiescent_DwoKernel [hDwoKernel : Cert.DwoKernel.Facts] : Prop :=
  ∀ (m : (ℓ : Loc Cert.DwoKernel.nD Cert.DwoKernel.τ Cert.DwoKernel.sig) → Buf (Elt Bits) ℓ) (g : Dev Cert.DwoKernel.nD → PrngReg), Pre_DwoKernel m →
    θ_run (Cert.DwoKernel.defs (F := Bits)) (onTc (τ := Cert.DwoKernel.τ) (Cert.DwoKernel.main (F := Bits))) ⟨m, fun _ => 0, g⟩ (fun r => (∀ c : Dev Cert.DwoKernel.nD,
      r.2.mem ((c.tc : Thread Cert.DwoKernel.nD Cert.DwoKernel.τ).loc Cert.DwoKernel.main_arg0) = m ((c.tc : Thread Cert.DwoKernel.nD Cert.DwoKernel.τ).loc Cert.DwoKernel.main_arg0)
      ∧ r.2.mem ((c.tc : Thread Cert.DwoKernel.nD Cert.DwoKernel.τ).loc Cert.DwoKernel.main_arg1) = m ((c.tc : Thread Cert.DwoKernel.nD Cert.DwoKernel.τ).loc Cert.DwoKernel.main_arg1))
      ∧ r.2.sem = fun _ => 0)

def quiescent_DwoKernelIdeal [hDwoKernelIdeal : Cert.DwoKernelIdeal.Facts] : Prop :=
  ∀ (m : (ℓ : Loc Cert.DwoKernelIdeal.nD Cert.DwoKernelIdeal.τ Cert.DwoKernelIdeal.sig) → Buf (Elt Ideal) ℓ) (g : Dev Cert.DwoKernelIdeal.nD → PrngReg), Pre_DwoKernelIdeal m →
    θ_run (Cert.DwoKernelIdeal.defs (F := Ideal)) (onTc (τ := Cert.DwoKernelIdeal.τ) (Cert.DwoKernelIdeal.main (F := Ideal))) ⟨m, fun _ => 0, g⟩ (fun r => (∀ c : Dev Cert.DwoKernelIdeal.nD,
      r.2.mem ((c.tc : Thread Cert.DwoKernelIdeal.nD Cert.DwoKernelIdeal.τ).loc Cert.DwoKernelIdeal.main_arg0) = m ((c.tc : Thread Cert.DwoKernelIdeal.nD Cert.DwoKernelIdeal.τ).loc Cert.DwoKernelIdeal.main_arg0)
      ∧ r.2.mem ((c.tc : Thread Cert.DwoKernelIdeal.nD Cert.DwoKernelIdeal.τ).loc Cert.DwoKernelIdeal.main_arg1) = m ((c.tc : Thread Cert.DwoKernelIdeal.nD Cert.DwoKernelIdeal.τ).loc Cert.DwoKernelIdeal.main_arg1))
      ∧ r.2.sem = fun _ => 0)

def quiescent_DwoReferenceIdeal [hDwoReferenceIdeal : Cert.DwoReferenceIdeal.Facts] : Prop :=
  ∀ (m : (ℓ : Loc Cert.DwoReferenceIdeal.nD Cert.DwoReferenceIdeal.τ Cert.DwoReferenceIdeal.sig) → Buf (Elt Ideal) ℓ) (g : Dev Cert.DwoReferenceIdeal.nD → PrngReg), Pre_DwoReferenceIdeal m →
    θ_run (Cert.DwoReferenceIdeal.defs (F := Ideal)) (onTc (τ := Cert.DwoReferenceIdeal.τ) (Cert.DwoReferenceIdeal.main (F := Ideal))) ⟨m, fun _ => 0, g⟩ (fun r => (∀ c : Dev Cert.DwoReferenceIdeal.nD,
      r.2.mem ((c.tc : Thread Cert.DwoReferenceIdeal.nD Cert.DwoReferenceIdeal.τ).loc Cert.DwoReferenceIdeal.main_arg0) = m ((c.tc : Thread Cert.DwoReferenceIdeal.nD Cert.DwoReferenceIdeal.τ).loc Cert.DwoReferenceIdeal.main_arg0)
      ∧ r.2.mem ((c.tc : Thread Cert.DwoReferenceIdeal.nD Cert.DwoReferenceIdeal.τ).loc Cert.DwoReferenceIdeal.main_arg1) = m ((c.tc : Thread Cert.DwoReferenceIdeal.nD Cert.DwoReferenceIdeal.τ).loc Cert.DwoReferenceIdeal.main_arg1))
      ∧ r.2.sem = fun _ => 0)

def quiescent_DwqKernel [hDwqKernel : Cert.DwqKernel.Facts] : Prop :=
  ∀ (m : (ℓ : Loc Cert.DwqKernel.nD Cert.DwqKernel.τ Cert.DwqKernel.sig) → Buf (Elt Bits) ℓ) (g : Dev Cert.DwqKernel.nD → PrngReg), Pre_DwqKernel m →
    θ_run (Cert.DwqKernel.defs (F := Bits)) (onTc (τ := Cert.DwqKernel.τ) (Cert.DwqKernel.main (F := Bits))) ⟨m, fun _ => 0, g⟩ (fun r => (∀ c : Dev Cert.DwqKernel.nD,
      r.2.mem ((c.tc : Thread Cert.DwqKernel.nD Cert.DwqKernel.τ).loc Cert.DwqKernel.main_arg0) = m ((c.tc : Thread Cert.DwqKernel.nD Cert.DwqKernel.τ).loc Cert.DwqKernel.main_arg0)
      ∧ r.2.mem ((c.tc : Thread Cert.DwqKernel.nD Cert.DwqKernel.τ).loc Cert.DwqKernel.main_arg1) = m ((c.tc : Thread Cert.DwqKernel.nD Cert.DwqKernel.τ).loc Cert.DwqKernel.main_arg1))
      ∧ r.2.sem = fun _ => 0)

def quiescent_DwqKernelIdeal [hDwqKernelIdeal : Cert.DwqKernelIdeal.Facts] : Prop :=
  ∀ (m : (ℓ : Loc Cert.DwqKernelIdeal.nD Cert.DwqKernelIdeal.τ Cert.DwqKernelIdeal.sig) → Buf (Elt Ideal) ℓ) (g : Dev Cert.DwqKernelIdeal.nD → PrngReg), Pre_DwqKernelIdeal m →
    θ_run (Cert.DwqKernelIdeal.defs (F := Ideal)) (onTc (τ := Cert.DwqKernelIdeal.τ) (Cert.DwqKernelIdeal.main (F := Ideal))) ⟨m, fun _ => 0, g⟩ (fun r => (∀ c : Dev Cert.DwqKernelIdeal.nD,
      r.2.mem ((c.tc : Thread Cert.DwqKernelIdeal.nD Cert.DwqKernelIdeal.τ).loc Cert.DwqKernelIdeal.main_arg0) = m ((c.tc : Thread Cert.DwqKernelIdeal.nD Cert.DwqKernelIdeal.τ).loc Cert.DwqKernelIdeal.main_arg0)
      ∧ r.2.mem ((c.tc : Thread Cert.DwqKernelIdeal.nD Cert.DwqKernelIdeal.τ).loc Cert.DwqKernelIdeal.main_arg1) = m ((c.tc : Thread Cert.DwqKernelIdeal.nD Cert.DwqKernelIdeal.τ).loc Cert.DwqKernelIdeal.main_arg1))
      ∧ r.2.sem = fun _ => 0)

def quiescent_DwqReferenceIdeal [hDwqReferenceIdeal : Cert.DwqReferenceIdeal.Facts] : Prop :=
  ∀ (m : (ℓ : Loc Cert.DwqReferenceIdeal.nD Cert.DwqReferenceIdeal.τ Cert.DwqReferenceIdeal.sig) → Buf (Elt Ideal) ℓ) (g : Dev Cert.DwqReferenceIdeal.nD → PrngReg), Pre_DwqReferenceIdeal m →
    θ_run (Cert.DwqReferenceIdeal.defs (F := Ideal)) (onTc (τ := Cert.DwqReferenceIdeal.τ) (Cert.DwqReferenceIdeal.main (F := Ideal))) ⟨m, fun _ => 0, g⟩ (fun r => (∀ c : Dev Cert.DwqReferenceIdeal.nD,
      r.2.mem ((c.tc : Thread Cert.DwqReferenceIdeal.nD Cert.DwqReferenceIdeal.τ).loc Cert.DwqReferenceIdeal.main_arg0) = m ((c.tc : Thread Cert.DwqReferenceIdeal.nD Cert.DwqReferenceIdeal.τ).loc Cert.DwqReferenceIdeal.main_arg0)
      ∧ r.2.mem ((c.tc : Thread Cert.DwqReferenceIdeal.nD Cert.DwqReferenceIdeal.τ).loc Cert.DwqReferenceIdeal.main_arg1) = m ((c.tc : Thread Cert.DwqReferenceIdeal.nD Cert.DwqReferenceIdeal.τ).loc Cert.DwqReferenceIdeal.main_arg1))
      ∧ r.2.sem = fun _ => 0)

def quiescent_LsKernel [hLsKernel : Cert.LsKernel.Facts] : Prop :=
  ∀ (m : (ℓ : Loc Cert.LsKernel.nD Cert.LsKernel.τ Cert.LsKernel.sig) → Buf (Elt Bits) ℓ) (g : Dev Cert.LsKernel.nD → PrngReg), Pre_LsKernel m →
    θ_run (Cert.LsKernel.defs (F := Bits)) (onTc (τ := Cert.LsKernel.τ) (Cert.LsKernel.main (F := Bits))) ⟨m, fun _ => 0, g⟩ (fun r => (∀ c : Dev Cert.LsKernel.nD,
      r.2.mem ((c.tc : Thread Cert.LsKernel.nD Cert.LsKernel.τ).loc Cert.LsKernel.main_arg0) = m ((c.tc : Thread Cert.LsKernel.nD Cert.LsKernel.τ).loc Cert.LsKernel.main_arg0)
      ∧ r.2.mem ((c.tc : Thread Cert.LsKernel.nD Cert.LsKernel.τ).loc Cert.LsKernel.main_arg1) = m ((c.tc : Thread Cert.LsKernel.nD Cert.LsKernel.τ).loc Cert.LsKernel.main_arg1))
      ∧ r.2.sem = fun _ => 0)

def quiescent_LsKernelIdeal [hLsKernelIdeal : Cert.LsKernelIdeal.Facts] : Prop :=
  ∀ (m : (ℓ : Loc Cert.LsKernelIdeal.nD Cert.LsKernelIdeal.τ Cert.LsKernelIdeal.sig) → Buf (Elt Ideal) ℓ) (g : Dev Cert.LsKernelIdeal.nD → PrngReg), Pre_LsKernelIdeal m →
    θ_run (Cert.LsKernelIdeal.defs (F := Ideal)) (onTc (τ := Cert.LsKernelIdeal.τ) (Cert.LsKernelIdeal.main (F := Ideal))) ⟨m, fun _ => 0, g⟩ (fun r => (∀ c : Dev Cert.LsKernelIdeal.nD,
      r.2.mem ((c.tc : Thread Cert.LsKernelIdeal.nD Cert.LsKernelIdeal.τ).loc Cert.LsKernelIdeal.main_arg0) = m ((c.tc : Thread Cert.LsKernelIdeal.nD Cert.LsKernelIdeal.τ).loc Cert.LsKernelIdeal.main_arg0)
      ∧ r.2.mem ((c.tc : Thread Cert.LsKernelIdeal.nD Cert.LsKernelIdeal.τ).loc Cert.LsKernelIdeal.main_arg1) = m ((c.tc : Thread Cert.LsKernelIdeal.nD Cert.LsKernelIdeal.τ).loc Cert.LsKernelIdeal.main_arg1))
      ∧ r.2.sem = fun _ => 0)

def quiescent_LsReferenceIdeal [hLsReferenceIdeal : Cert.LsReferenceIdeal.Facts] : Prop :=
  ∀ (m : (ℓ : Loc Cert.LsReferenceIdeal.nD Cert.LsReferenceIdeal.τ Cert.LsReferenceIdeal.sig) → Buf (Elt Ideal) ℓ) (g : Dev Cert.LsReferenceIdeal.nD → PrngReg), Pre_LsReferenceIdeal m →
    θ_run (Cert.LsReferenceIdeal.defs (F := Ideal)) (onTc (τ := Cert.LsReferenceIdeal.τ) (Cert.LsReferenceIdeal.main (F := Ideal))) ⟨m, fun _ => 0, g⟩ (fun r => (∀ c : Dev Cert.LsReferenceIdeal.nD,
      r.2.mem ((c.tc : Thread Cert.LsReferenceIdeal.nD Cert.LsReferenceIdeal.τ).loc Cert.LsReferenceIdeal.main_arg0) = m ((c.tc : Thread Cert.LsReferenceIdeal.nD Cert.LsReferenceIdeal.τ).loc Cert.LsReferenceIdeal.main_arg0)
      ∧ r.2.mem ((c.tc : Thread Cert.LsReferenceIdeal.nD Cert.LsReferenceIdeal.τ).loc Cert.LsReferenceIdeal.main_arg1) = m ((c.tc : Thread Cert.LsReferenceIdeal.nD Cert.LsReferenceIdeal.τ).loc Cert.LsReferenceIdeal.main_arg1))
      ∧ r.2.sem = fun _ => 0)

def quiescent_AvKernel [hAvKernel : Cert.AvKernel.Facts] : Prop :=
  ∀ (m : (ℓ : Loc Cert.AvKernel.nD Cert.AvKernel.τ Cert.AvKernel.sig) → Buf (Elt Bits) ℓ) (g : Dev Cert.AvKernel.nD → PrngReg), Pre_AvKernel m →
    θ_run (Cert.AvKernel.defs (F := Bits)) (onTc (τ := Cert.AvKernel.τ) (Cert.AvKernel.main (F := Bits))) ⟨m, fun _ => 0, g⟩ (fun r => (∀ c : Dev Cert.AvKernel.nD,
      r.2.mem ((c.tc : Thread Cert.AvKernel.nD Cert.AvKernel.τ).loc Cert.AvKernel.main_arg0) = m ((c.tc : Thread Cert.AvKernel.nD Cert.AvKernel.τ).loc Cert.AvKernel.main_arg0)
      ∧ r.2.mem ((c.tc : Thread Cert.AvKernel.nD Cert.AvKernel.τ).loc Cert.AvKernel.main_arg1) = m ((c.tc : Thread Cert.AvKernel.nD Cert.AvKernel.τ).loc Cert.AvKernel.main_arg1)
      ∧ r.2.mem ((c.tc : Thread Cert.AvKernel.nD Cert.AvKernel.τ).loc Cert.AvKernel.main_arg2) = m ((c.tc : Thread Cert.AvKernel.nD Cert.AvKernel.τ).loc Cert.AvKernel.main_arg2)
      ∧ r.2.mem ((c.tc : Thread Cert.AvKernel.nD Cert.AvKernel.τ).loc Cert.AvKernel.main_arg3) = m ((c.tc : Thread Cert.AvKernel.nD Cert.AvKernel.τ).loc Cert.AvKernel.main_arg3)
      ∧ r.2.mem ((c.tc : Thread Cert.AvKernel.nD Cert.AvKernel.τ).loc Cert.AvKernel.main_arg4) = m ((c.tc : Thread Cert.AvKernel.nD Cert.AvKernel.τ).loc Cert.AvKernel.main_arg4))
      ∧ r.2.sem = fun _ => 0)

def quiescent_AvKernelIdeal [hAvKernelIdeal : Cert.AvKernelIdeal.Facts] : Prop :=
  ∀ (m : (ℓ : Loc Cert.AvKernelIdeal.nD Cert.AvKernelIdeal.τ Cert.AvKernelIdeal.sig) → Buf (Elt Ideal) ℓ) (g : Dev Cert.AvKernelIdeal.nD → PrngReg), Pre_AvKernelIdeal m →
    θ_run (Cert.AvKernelIdeal.defs (F := Ideal)) (onTc (τ := Cert.AvKernelIdeal.τ) (Cert.AvKernelIdeal.main (F := Ideal))) ⟨m, fun _ => 0, g⟩ (fun r => (∀ c : Dev Cert.AvKernelIdeal.nD,
      r.2.mem ((c.tc : Thread Cert.AvKernelIdeal.nD Cert.AvKernelIdeal.τ).loc Cert.AvKernelIdeal.main_arg0) = m ((c.tc : Thread Cert.AvKernelIdeal.nD Cert.AvKernelIdeal.τ).loc Cert.AvKernelIdeal.main_arg0)
      ∧ r.2.mem ((c.tc : Thread Cert.AvKernelIdeal.nD Cert.AvKernelIdeal.τ).loc Cert.AvKernelIdeal.main_arg1) = m ((c.tc : Thread Cert.AvKernelIdeal.nD Cert.AvKernelIdeal.τ).loc Cert.AvKernelIdeal.main_arg1)
      ∧ r.2.mem ((c.tc : Thread Cert.AvKernelIdeal.nD Cert.AvKernelIdeal.τ).loc Cert.AvKernelIdeal.main_arg2) = m ((c.tc : Thread Cert.AvKernelIdeal.nD Cert.AvKernelIdeal.τ).loc Cert.AvKernelIdeal.main_arg2)
      ∧ r.2.mem ((c.tc : Thread Cert.AvKernelIdeal.nD Cert.AvKernelIdeal.τ).loc Cert.AvKernelIdeal.main_arg3) = m ((c.tc : Thread Cert.AvKernelIdeal.nD Cert.AvKernelIdeal.τ).loc Cert.AvKernelIdeal.main_arg3)
      ∧ r.2.mem ((c.tc : Thread Cert.AvKernelIdeal.nD Cert.AvKernelIdeal.τ).loc Cert.AvKernelIdeal.main_arg4) = m ((c.tc : Thread Cert.AvKernelIdeal.nD Cert.AvKernelIdeal.τ).loc Cert.AvKernelIdeal.main_arg4))
      ∧ r.2.sem = fun _ => 0)

def quiescent_AvReferenceIdeal [hAvReferenceIdeal : Cert.AvReferenceIdeal.Facts] : Prop :=
  ∀ (m : (ℓ : Loc Cert.AvReferenceIdeal.nD Cert.AvReferenceIdeal.τ Cert.AvReferenceIdeal.sig) → Buf (Elt Ideal) ℓ) (g : Dev Cert.AvReferenceIdeal.nD → PrngReg), Pre_AvReferenceIdeal m →
    θ_run (Cert.AvReferenceIdeal.defs (F := Ideal)) (onTc (τ := Cert.AvReferenceIdeal.τ) (Cert.AvReferenceIdeal.main (F := Ideal))) ⟨m, fun _ => 0, g⟩ (fun r => (∀ c : Dev Cert.AvReferenceIdeal.nD,
      r.2.mem ((c.tc : Thread Cert.AvReferenceIdeal.nD Cert.AvReferenceIdeal.τ).loc Cert.AvReferenceIdeal.main_arg0) = m ((c.tc : Thread Cert.AvReferenceIdeal.nD Cert.AvReferenceIdeal.τ).loc Cert.AvReferenceIdeal.main_arg0)
      ∧ r.2.mem ((c.tc : Thread Cert.AvReferenceIdeal.nD Cert.AvReferenceIdeal.τ).loc Cert.AvReferenceIdeal.main_arg1) = m ((c.tc : Thread Cert.AvReferenceIdeal.nD Cert.AvReferenceIdeal.τ).loc Cert.AvReferenceIdeal.main_arg1)
      ∧ r.2.mem ((c.tc : Thread Cert.AvReferenceIdeal.nD Cert.AvReferenceIdeal.τ).loc Cert.AvReferenceIdeal.main_arg2) = m ((c.tc : Thread Cert.AvReferenceIdeal.nD Cert.AvReferenceIdeal.τ).loc Cert.AvReferenceIdeal.main_arg2)
      ∧ r.2.mem ((c.tc : Thread Cert.AvReferenceIdeal.nD Cert.AvReferenceIdeal.τ).loc Cert.AvReferenceIdeal.main_arg3) = m ((c.tc : Thread Cert.AvReferenceIdeal.nD Cert.AvReferenceIdeal.τ).loc Cert.AvReferenceIdeal.main_arg3)
      ∧ r.2.mem ((c.tc : Thread Cert.AvReferenceIdeal.nD Cert.AvReferenceIdeal.τ).loc Cert.AvReferenceIdeal.main_arg4) = m ((c.tc : Thread Cert.AvReferenceIdeal.nD Cert.AvReferenceIdeal.τ).loc Cert.AvReferenceIdeal.main_arg4))
      ∧ r.2.sem = fun _ => 0)

def quiescent_AhKernel [hAhKernel : Cert.AhKernel.Facts] : Prop :=
  ∀ (m : (ℓ : Loc Cert.AhKernel.nD Cert.AhKernel.τ Cert.AhKernel.sig) → Buf (Elt Bits) ℓ) (g : Dev Cert.AhKernel.nD → PrngReg), Pre_AhKernel m →
    θ_run (Cert.AhKernel.defs (F := Bits)) (onTc (τ := Cert.AhKernel.τ) (Cert.AhKernel.main (F := Bits))) ⟨m, fun _ => 0, g⟩ (fun r => (∀ c : Dev Cert.AhKernel.nD,
      r.2.mem ((c.tc : Thread Cert.AhKernel.nD Cert.AhKernel.τ).loc Cert.AhKernel.main_arg0) = m ((c.tc : Thread Cert.AhKernel.nD Cert.AhKernel.τ).loc Cert.AhKernel.main_arg0)
      ∧ r.2.mem ((c.tc : Thread Cert.AhKernel.nD Cert.AhKernel.τ).loc Cert.AhKernel.main_arg1) = m ((c.tc : Thread Cert.AhKernel.nD Cert.AhKernel.τ).loc Cert.AhKernel.main_arg1)
      ∧ r.2.mem ((c.tc : Thread Cert.AhKernel.nD Cert.AhKernel.τ).loc Cert.AhKernel.main_arg2) = m ((c.tc : Thread Cert.AhKernel.nD Cert.AhKernel.τ).loc Cert.AhKernel.main_arg2)
      ∧ r.2.mem ((c.tc : Thread Cert.AhKernel.nD Cert.AhKernel.τ).loc Cert.AhKernel.main_arg3) = m ((c.tc : Thread Cert.AhKernel.nD Cert.AhKernel.τ).loc Cert.AhKernel.main_arg3)
      ∧ r.2.mem ((c.tc : Thread Cert.AhKernel.nD Cert.AhKernel.τ).loc Cert.AhKernel.main_arg4) = m ((c.tc : Thread Cert.AhKernel.nD Cert.AhKernel.τ).loc Cert.AhKernel.main_arg4))
      ∧ r.2.sem = fun _ => 0)

def quiescent_AhKernelIdeal [hAhKernelIdeal : Cert.AhKernelIdeal.Facts] : Prop :=
  ∀ (m : (ℓ : Loc Cert.AhKernelIdeal.nD Cert.AhKernelIdeal.τ Cert.AhKernelIdeal.sig) → Buf (Elt Ideal) ℓ) (g : Dev Cert.AhKernelIdeal.nD → PrngReg), Pre_AhKernelIdeal m →
    θ_run (Cert.AhKernelIdeal.defs (F := Ideal)) (onTc (τ := Cert.AhKernelIdeal.τ) (Cert.AhKernelIdeal.main (F := Ideal))) ⟨m, fun _ => 0, g⟩ (fun r => (∀ c : Dev Cert.AhKernelIdeal.nD,
      r.2.mem ((c.tc : Thread Cert.AhKernelIdeal.nD Cert.AhKernelIdeal.τ).loc Cert.AhKernelIdeal.main_arg0) = m ((c.tc : Thread Cert.AhKernelIdeal.nD Cert.AhKernelIdeal.τ).loc Cert.AhKernelIdeal.main_arg0)
      ∧ r.2.mem ((c.tc : Thread Cert.AhKernelIdeal.nD Cert.AhKernelIdeal.τ).loc Cert.AhKernelIdeal.main_arg1) = m ((c.tc : Thread Cert.AhKernelIdeal.nD Cert.AhKernelIdeal.τ).loc Cert.AhKernelIdeal.main_arg1)
      ∧ r.2.mem ((c.tc : Thread Cert.AhKernelIdeal.nD Cert.AhKernelIdeal.τ).loc Cert.AhKernelIdeal.main_arg2) = m ((c.tc : Thread Cert.AhKernelIdeal.nD Cert.AhKernelIdeal.τ).loc Cert.AhKernelIdeal.main_arg2)
      ∧ r.2.mem ((c.tc : Thread Cert.AhKernelIdeal.nD Cert.AhKernelIdeal.τ).loc Cert.AhKernelIdeal.main_arg3) = m ((c.tc : Thread Cert.AhKernelIdeal.nD Cert.AhKernelIdeal.τ).loc Cert.AhKernelIdeal.main_arg3)
      ∧ r.2.mem ((c.tc : Thread Cert.AhKernelIdeal.nD Cert.AhKernelIdeal.τ).loc Cert.AhKernelIdeal.main_arg4) = m ((c.tc : Thread Cert.AhKernelIdeal.nD Cert.AhKernelIdeal.τ).loc Cert.AhKernelIdeal.main_arg4))
      ∧ r.2.sem = fun _ => 0)

def quiescent_AhReferenceIdeal [hAhReferenceIdeal : Cert.AhReferenceIdeal.Facts] : Prop :=
  ∀ (m : (ℓ : Loc Cert.AhReferenceIdeal.nD Cert.AhReferenceIdeal.τ Cert.AhReferenceIdeal.sig) → Buf (Elt Ideal) ℓ) (g : Dev Cert.AhReferenceIdeal.nD → PrngReg), Pre_AhReferenceIdeal m →
    θ_run (Cert.AhReferenceIdeal.defs (F := Ideal)) (onTc (τ := Cert.AhReferenceIdeal.τ) (Cert.AhReferenceIdeal.main (F := Ideal))) ⟨m, fun _ => 0, g⟩ (fun r => (∀ c : Dev Cert.AhReferenceIdeal.nD,
      r.2.mem ((c.tc : Thread Cert.AhReferenceIdeal.nD Cert.AhReferenceIdeal.τ).loc Cert.AhReferenceIdeal.main_arg0) = m ((c.tc : Thread Cert.AhReferenceIdeal.nD Cert.AhReferenceIdeal.τ).loc Cert.AhReferenceIdeal.main_arg0)
      ∧ r.2.mem ((c.tc : Thread Cert.AhReferenceIdeal.nD Cert.AhReferenceIdeal.τ).loc Cert.AhReferenceIdeal.main_arg1) = m ((c.tc : Thread Cert.AhReferenceIdeal.nD Cert.AhReferenceIdeal.τ).loc Cert.AhReferenceIdeal.main_arg1)
      ∧ r.2.mem ((c.tc : Thread Cert.AhReferenceIdeal.nD Cert.AhReferenceIdeal.τ).loc Cert.AhReferenceIdeal.main_arg2) = m ((c.tc : Thread Cert.AhReferenceIdeal.nD Cert.AhReferenceIdeal.τ).loc Cert.AhReferenceIdeal.main_arg2)
      ∧ r.2.mem ((c.tc : Thread Cert.AhReferenceIdeal.nD Cert.AhReferenceIdeal.τ).loc Cert.AhReferenceIdeal.main_arg3) = m ((c.tc : Thread Cert.AhReferenceIdeal.nD Cert.AhReferenceIdeal.τ).loc Cert.AhReferenceIdeal.main_arg3)
      ∧ r.2.mem ((c.tc : Thread Cert.AhReferenceIdeal.nD Cert.AhReferenceIdeal.τ).loc Cert.AhReferenceIdeal.main_arg4) = m ((c.tc : Thread Cert.AhReferenceIdeal.nD Cert.AhReferenceIdeal.τ).loc Cert.AhReferenceIdeal.main_arg4))
      ∧ r.2.sem = fun _ => 0)

def quiescent_AwKernel [hAwKernel : Cert.AwKernel.Facts] : Prop :=
  ∀ (m : (ℓ : Loc Cert.AwKernel.nD Cert.AwKernel.τ Cert.AwKernel.sig) → Buf (Elt Bits) ℓ) (g : Dev Cert.AwKernel.nD → PrngReg), Pre_AwKernel m →
    θ_run (Cert.AwKernel.defs (F := Bits)) (onTc (τ := Cert.AwKernel.τ) (Cert.AwKernel.main (F := Bits))) ⟨m, fun _ => 0, g⟩ (fun r => (∀ c : Dev Cert.AwKernel.nD,
      r.2.mem ((c.tc : Thread Cert.AwKernel.nD Cert.AwKernel.τ).loc Cert.AwKernel.main_arg0) = m ((c.tc : Thread Cert.AwKernel.nD Cert.AwKernel.τ).loc Cert.AwKernel.main_arg0)
      ∧ r.2.mem ((c.tc : Thread Cert.AwKernel.nD Cert.AwKernel.τ).loc Cert.AwKernel.main_arg1) = m ((c.tc : Thread Cert.AwKernel.nD Cert.AwKernel.τ).loc Cert.AwKernel.main_arg1)
      ∧ r.2.mem ((c.tc : Thread Cert.AwKernel.nD Cert.AwKernel.τ).loc Cert.AwKernel.main_arg2) = m ((c.tc : Thread Cert.AwKernel.nD Cert.AwKernel.τ).loc Cert.AwKernel.main_arg2)
      ∧ r.2.mem ((c.tc : Thread Cert.AwKernel.nD Cert.AwKernel.τ).loc Cert.AwKernel.main_arg3) = m ((c.tc : Thread Cert.AwKernel.nD Cert.AwKernel.τ).loc Cert.AwKernel.main_arg3)
      ∧ r.2.mem ((c.tc : Thread Cert.AwKernel.nD Cert.AwKernel.τ).loc Cert.AwKernel.main_arg4) = m ((c.tc : Thread Cert.AwKernel.nD Cert.AwKernel.τ).loc Cert.AwKernel.main_arg4))
      ∧ r.2.sem = fun _ => 0)

def quiescent_AwKernelIdeal [hAwKernelIdeal : Cert.AwKernelIdeal.Facts] : Prop :=
  ∀ (m : (ℓ : Loc Cert.AwKernelIdeal.nD Cert.AwKernelIdeal.τ Cert.AwKernelIdeal.sig) → Buf (Elt Ideal) ℓ) (g : Dev Cert.AwKernelIdeal.nD → PrngReg), Pre_AwKernelIdeal m →
    θ_run (Cert.AwKernelIdeal.defs (F := Ideal)) (onTc (τ := Cert.AwKernelIdeal.τ) (Cert.AwKernelIdeal.main (F := Ideal))) ⟨m, fun _ => 0, g⟩ (fun r => (∀ c : Dev Cert.AwKernelIdeal.nD,
      r.2.mem ((c.tc : Thread Cert.AwKernelIdeal.nD Cert.AwKernelIdeal.τ).loc Cert.AwKernelIdeal.main_arg0) = m ((c.tc : Thread Cert.AwKernelIdeal.nD Cert.AwKernelIdeal.τ).loc Cert.AwKernelIdeal.main_arg0)
      ∧ r.2.mem ((c.tc : Thread Cert.AwKernelIdeal.nD Cert.AwKernelIdeal.τ).loc Cert.AwKernelIdeal.main_arg1) = m ((c.tc : Thread Cert.AwKernelIdeal.nD Cert.AwKernelIdeal.τ).loc Cert.AwKernelIdeal.main_arg1)
      ∧ r.2.mem ((c.tc : Thread Cert.AwKernelIdeal.nD Cert.AwKernelIdeal.τ).loc Cert.AwKernelIdeal.main_arg2) = m ((c.tc : Thread Cert.AwKernelIdeal.nD Cert.AwKernelIdeal.τ).loc Cert.AwKernelIdeal.main_arg2)
      ∧ r.2.mem ((c.tc : Thread Cert.AwKernelIdeal.nD Cert.AwKernelIdeal.τ).loc Cert.AwKernelIdeal.main_arg3) = m ((c.tc : Thread Cert.AwKernelIdeal.nD Cert.AwKernelIdeal.τ).loc Cert.AwKernelIdeal.main_arg3)
      ∧ r.2.mem ((c.tc : Thread Cert.AwKernelIdeal.nD Cert.AwKernelIdeal.τ).loc Cert.AwKernelIdeal.main_arg4) = m ((c.tc : Thread Cert.AwKernelIdeal.nD Cert.AwKernelIdeal.τ).loc Cert.AwKernelIdeal.main_arg4))
      ∧ r.2.sem = fun _ => 0)

def quiescent_AwReferenceIdeal [hAwReferenceIdeal : Cert.AwReferenceIdeal.Facts] : Prop :=
  ∀ (m : (ℓ : Loc Cert.AwReferenceIdeal.nD Cert.AwReferenceIdeal.τ Cert.AwReferenceIdeal.sig) → Buf (Elt Ideal) ℓ) (g : Dev Cert.AwReferenceIdeal.nD → PrngReg), Pre_AwReferenceIdeal m →
    θ_run (Cert.AwReferenceIdeal.defs (F := Ideal)) (onTc (τ := Cert.AwReferenceIdeal.τ) (Cert.AwReferenceIdeal.main (F := Ideal))) ⟨m, fun _ => 0, g⟩ (fun r => (∀ c : Dev Cert.AwReferenceIdeal.nD,
      r.2.mem ((c.tc : Thread Cert.AwReferenceIdeal.nD Cert.AwReferenceIdeal.τ).loc Cert.AwReferenceIdeal.main_arg0) = m ((c.tc : Thread Cert.AwReferenceIdeal.nD Cert.AwReferenceIdeal.τ).loc Cert.AwReferenceIdeal.main_arg0)
      ∧ r.2.mem ((c.tc : Thread Cert.AwReferenceIdeal.nD Cert.AwReferenceIdeal.τ).loc Cert.AwReferenceIdeal.main_arg1) = m ((c.tc : Thread Cert.AwReferenceIdeal.nD Cert.AwReferenceIdeal.τ).loc Cert.AwReferenceIdeal.main_arg1)
      ∧ r.2.mem ((c.tc : Thread Cert.AwReferenceIdeal.nD Cert.AwReferenceIdeal.τ).loc Cert.AwReferenceIdeal.main_arg2) = m ((c.tc : Thread Cert.AwReferenceIdeal.nD Cert.AwReferenceIdeal.τ).loc Cert.AwReferenceIdeal.main_arg2)
      ∧ r.2.mem ((c.tc : Thread Cert.AwReferenceIdeal.nD Cert.AwReferenceIdeal.τ).loc Cert.AwReferenceIdeal.main_arg3) = m ((c.tc : Thread Cert.AwReferenceIdeal.nD Cert.AwReferenceIdeal.τ).loc Cert.AwReferenceIdeal.main_arg3)
      ∧ r.2.mem ((c.tc : Thread Cert.AwReferenceIdeal.nD Cert.AwReferenceIdeal.τ).loc Cert.AwReferenceIdeal.main_arg4) = m ((c.tc : Thread Cert.AwReferenceIdeal.nD Cert.AwReferenceIdeal.τ).loc Cert.AwReferenceIdeal.main_arg4))
      ∧ r.2.sem = fun _ => 0)

def quiescent_AfKernel [hAfKernel : Cert.AfKernel.Facts] : Prop :=
  ∀ (m : (ℓ : Loc Cert.AfKernel.nD Cert.AfKernel.τ Cert.AfKernel.sig) → Buf (Elt Bits) ℓ) (g : Dev Cert.AfKernel.nD → PrngReg), Pre_AfKernel m →
    θ_run (Cert.AfKernel.defs (F := Bits)) (onTc (τ := Cert.AfKernel.τ) (Cert.AfKernel.main (F := Bits))) ⟨m, fun _ => 0, g⟩ (fun r => (∀ c : Dev Cert.AfKernel.nD,
      r.2.mem ((c.tc : Thread Cert.AfKernel.nD Cert.AfKernel.τ).loc Cert.AfKernel.main_arg0) = m ((c.tc : Thread Cert.AfKernel.nD Cert.AfKernel.τ).loc Cert.AfKernel.main_arg0)
      ∧ r.2.mem ((c.tc : Thread Cert.AfKernel.nD Cert.AfKernel.τ).loc Cert.AfKernel.main_arg1) = m ((c.tc : Thread Cert.AfKernel.nD Cert.AfKernel.τ).loc Cert.AfKernel.main_arg1)
      ∧ r.2.mem ((c.tc : Thread Cert.AfKernel.nD Cert.AfKernel.τ).loc Cert.AfKernel.main_arg2) = m ((c.tc : Thread Cert.AfKernel.nD Cert.AfKernel.τ).loc Cert.AfKernel.main_arg2)
      ∧ r.2.mem ((c.tc : Thread Cert.AfKernel.nD Cert.AfKernel.τ).loc Cert.AfKernel.main_arg3) = m ((c.tc : Thread Cert.AfKernel.nD Cert.AfKernel.τ).loc Cert.AfKernel.main_arg3)
      ∧ r.2.mem ((c.tc : Thread Cert.AfKernel.nD Cert.AfKernel.τ).loc Cert.AfKernel.main_arg4) = m ((c.tc : Thread Cert.AfKernel.nD Cert.AfKernel.τ).loc Cert.AfKernel.main_arg4))
      ∧ r.2.sem = fun _ => 0)

def quiescent_AfKernelIdeal [hAfKernelIdeal : Cert.AfKernelIdeal.Facts] : Prop :=
  ∀ (m : (ℓ : Loc Cert.AfKernelIdeal.nD Cert.AfKernelIdeal.τ Cert.AfKernelIdeal.sig) → Buf (Elt Ideal) ℓ) (g : Dev Cert.AfKernelIdeal.nD → PrngReg), Pre_AfKernelIdeal m →
    θ_run (Cert.AfKernelIdeal.defs (F := Ideal)) (onTc (τ := Cert.AfKernelIdeal.τ) (Cert.AfKernelIdeal.main (F := Ideal))) ⟨m, fun _ => 0, g⟩ (fun r => (∀ c : Dev Cert.AfKernelIdeal.nD,
      r.2.mem ((c.tc : Thread Cert.AfKernelIdeal.nD Cert.AfKernelIdeal.τ).loc Cert.AfKernelIdeal.main_arg0) = m ((c.tc : Thread Cert.AfKernelIdeal.nD Cert.AfKernelIdeal.τ).loc Cert.AfKernelIdeal.main_arg0)
      ∧ r.2.mem ((c.tc : Thread Cert.AfKernelIdeal.nD Cert.AfKernelIdeal.τ).loc Cert.AfKernelIdeal.main_arg1) = m ((c.tc : Thread Cert.AfKernelIdeal.nD Cert.AfKernelIdeal.τ).loc Cert.AfKernelIdeal.main_arg1)
      ∧ r.2.mem ((c.tc : Thread Cert.AfKernelIdeal.nD Cert.AfKernelIdeal.τ).loc Cert.AfKernelIdeal.main_arg2) = m ((c.tc : Thread Cert.AfKernelIdeal.nD Cert.AfKernelIdeal.τ).loc Cert.AfKernelIdeal.main_arg2)
      ∧ r.2.mem ((c.tc : Thread Cert.AfKernelIdeal.nD Cert.AfKernelIdeal.τ).loc Cert.AfKernelIdeal.main_arg3) = m ((c.tc : Thread Cert.AfKernelIdeal.nD Cert.AfKernelIdeal.τ).loc Cert.AfKernelIdeal.main_arg3)
      ∧ r.2.mem ((c.tc : Thread Cert.AfKernelIdeal.nD Cert.AfKernelIdeal.τ).loc Cert.AfKernelIdeal.main_arg4) = m ((c.tc : Thread Cert.AfKernelIdeal.nD Cert.AfKernelIdeal.τ).loc Cert.AfKernelIdeal.main_arg4))
      ∧ r.2.sem = fun _ => 0)

def quiescent_AfReferenceIdeal [hAfReferenceIdeal : Cert.AfReferenceIdeal.Facts] : Prop :=
  ∀ (m : (ℓ : Loc Cert.AfReferenceIdeal.nD Cert.AfReferenceIdeal.τ Cert.AfReferenceIdeal.sig) → Buf (Elt Ideal) ℓ) (g : Dev Cert.AfReferenceIdeal.nD → PrngReg), Pre_AfReferenceIdeal m →
    θ_run (Cert.AfReferenceIdeal.defs (F := Ideal)) (onTc (τ := Cert.AfReferenceIdeal.τ) (Cert.AfReferenceIdeal.main (F := Ideal))) ⟨m, fun _ => 0, g⟩ (fun r => (∀ c : Dev Cert.AfReferenceIdeal.nD,
      r.2.mem ((c.tc : Thread Cert.AfReferenceIdeal.nD Cert.AfReferenceIdeal.τ).loc Cert.AfReferenceIdeal.main_arg0) = m ((c.tc : Thread Cert.AfReferenceIdeal.nD Cert.AfReferenceIdeal.τ).loc Cert.AfReferenceIdeal.main_arg0)
      ∧ r.2.mem ((c.tc : Thread Cert.AfReferenceIdeal.nD Cert.AfReferenceIdeal.τ).loc Cert.AfReferenceIdeal.main_arg1) = m ((c.tc : Thread Cert.AfReferenceIdeal.nD Cert.AfReferenceIdeal.τ).loc Cert.AfReferenceIdeal.main_arg1)
      ∧ r.2.mem ((c.tc : Thread Cert.AfReferenceIdeal.nD Cert.AfReferenceIdeal.τ).loc Cert.AfReferenceIdeal.main_arg2) = m ((c.tc : Thread Cert.AfReferenceIdeal.nD Cert.AfReferenceIdeal.τ).loc Cert.AfReferenceIdeal.main_arg2)
      ∧ r.2.mem ((c.tc : Thread Cert.AfReferenceIdeal.nD Cert.AfReferenceIdeal.τ).loc Cert.AfReferenceIdeal.main_arg3) = m ((c.tc : Thread Cert.AfReferenceIdeal.nD Cert.AfReferenceIdeal.τ).loc Cert.AfReferenceIdeal.main_arg3)
      ∧ r.2.mem ((c.tc : Thread Cert.AfReferenceIdeal.nD Cert.AfReferenceIdeal.τ).loc Cert.AfReferenceIdeal.main_arg4) = m ((c.tc : Thread Cert.AfReferenceIdeal.nD Cert.AfReferenceIdeal.τ).loc Cert.AfReferenceIdeal.main_arg4))
      ∧ r.2.sem = fun _ => 0)

def quiescent_ArKernel [hArKernel : Cert.ArKernel.Facts] : Prop :=
  ∀ (m : (ℓ : Loc Cert.ArKernel.nD Cert.ArKernel.τ Cert.ArKernel.sig) → Buf (Elt Bits) ℓ) (g : Dev Cert.ArKernel.nD → PrngReg), Pre_ArKernel m →
    θ_run (Cert.ArKernel.defs (F := Bits)) (onTc (τ := Cert.ArKernel.τ) (Cert.ArKernel.main (F := Bits))) ⟨m, fun _ => 0, g⟩ (fun r => (∀ c : Dev Cert.ArKernel.nD,
      r.2.mem ((c.tc : Thread Cert.ArKernel.nD Cert.ArKernel.τ).loc Cert.ArKernel.main_arg0) = m ((c.tc : Thread Cert.ArKernel.nD Cert.ArKernel.τ).loc Cert.ArKernel.main_arg0)
      ∧ r.2.mem ((c.tc : Thread Cert.ArKernel.nD Cert.ArKernel.τ).loc Cert.ArKernel.main_arg1) = m ((c.tc : Thread Cert.ArKernel.nD Cert.ArKernel.τ).loc Cert.ArKernel.main_arg1)
      ∧ r.2.mem ((c.tc : Thread Cert.ArKernel.nD Cert.ArKernel.τ).loc Cert.ArKernel.main_arg2) = m ((c.tc : Thread Cert.ArKernel.nD Cert.ArKernel.τ).loc Cert.ArKernel.main_arg2)
      ∧ r.2.mem ((c.tc : Thread Cert.ArKernel.nD Cert.ArKernel.τ).loc Cert.ArKernel.main_arg3) = m ((c.tc : Thread Cert.ArKernel.nD Cert.ArKernel.τ).loc Cert.ArKernel.main_arg3)
      ∧ r.2.mem ((c.tc : Thread Cert.ArKernel.nD Cert.ArKernel.τ).loc Cert.ArKernel.main_arg4) = m ((c.tc : Thread Cert.ArKernel.nD Cert.ArKernel.τ).loc Cert.ArKernel.main_arg4))
      ∧ r.2.sem = fun _ => 0)

def quiescent_ArKernelIdeal [hArKernelIdeal : Cert.ArKernelIdeal.Facts] : Prop :=
  ∀ (m : (ℓ : Loc Cert.ArKernelIdeal.nD Cert.ArKernelIdeal.τ Cert.ArKernelIdeal.sig) → Buf (Elt Ideal) ℓ) (g : Dev Cert.ArKernelIdeal.nD → PrngReg), Pre_ArKernelIdeal m →
    θ_run (Cert.ArKernelIdeal.defs (F := Ideal)) (onTc (τ := Cert.ArKernelIdeal.τ) (Cert.ArKernelIdeal.main (F := Ideal))) ⟨m, fun _ => 0, g⟩ (fun r => (∀ c : Dev Cert.ArKernelIdeal.nD,
      r.2.mem ((c.tc : Thread Cert.ArKernelIdeal.nD Cert.ArKernelIdeal.τ).loc Cert.ArKernelIdeal.main_arg0) = m ((c.tc : Thread Cert.ArKernelIdeal.nD Cert.ArKernelIdeal.τ).loc Cert.ArKernelIdeal.main_arg0)
      ∧ r.2.mem ((c.tc : Thread Cert.ArKernelIdeal.nD Cert.ArKernelIdeal.τ).loc Cert.ArKernelIdeal.main_arg1) = m ((c.tc : Thread Cert.ArKernelIdeal.nD Cert.ArKernelIdeal.τ).loc Cert.ArKernelIdeal.main_arg1)
      ∧ r.2.mem ((c.tc : Thread Cert.ArKernelIdeal.nD Cert.ArKernelIdeal.τ).loc Cert.ArKernelIdeal.main_arg2) = m ((c.tc : Thread Cert.ArKernelIdeal.nD Cert.ArKernelIdeal.τ).loc Cert.ArKernelIdeal.main_arg2)
      ∧ r.2.mem ((c.tc : Thread Cert.ArKernelIdeal.nD Cert.ArKernelIdeal.τ).loc Cert.ArKernelIdeal.main_arg3) = m ((c.tc : Thread Cert.ArKernelIdeal.nD Cert.ArKernelIdeal.τ).loc Cert.ArKernelIdeal.main_arg3)
      ∧ r.2.mem ((c.tc : Thread Cert.ArKernelIdeal.nD Cert.ArKernelIdeal.τ).loc Cert.ArKernelIdeal.main_arg4) = m ((c.tc : Thread Cert.ArKernelIdeal.nD Cert.ArKernelIdeal.τ).loc Cert.ArKernelIdeal.main_arg4))
      ∧ r.2.sem = fun _ => 0)

def quiescent_ArReferenceIdeal [hArReferenceIdeal : Cert.ArReferenceIdeal.Facts] : Prop :=
  ∀ (m : (ℓ : Loc Cert.ArReferenceIdeal.nD Cert.ArReferenceIdeal.τ Cert.ArReferenceIdeal.sig) → Buf (Elt Ideal) ℓ) (g : Dev Cert.ArReferenceIdeal.nD → PrngReg), Pre_ArReferenceIdeal m →
    θ_run (Cert.ArReferenceIdeal.defs (F := Ideal)) (onTc (τ := Cert.ArReferenceIdeal.τ) (Cert.ArReferenceIdeal.main (F := Ideal))) ⟨m, fun _ => 0, g⟩ (fun r => (∀ c : Dev Cert.ArReferenceIdeal.nD,
      r.2.mem ((c.tc : Thread Cert.ArReferenceIdeal.nD Cert.ArReferenceIdeal.τ).loc Cert.ArReferenceIdeal.main_arg0) = m ((c.tc : Thread Cert.ArReferenceIdeal.nD Cert.ArReferenceIdeal.τ).loc Cert.ArReferenceIdeal.main_arg0)
      ∧ r.2.mem ((c.tc : Thread Cert.ArReferenceIdeal.nD Cert.ArReferenceIdeal.τ).loc Cert.ArReferenceIdeal.main_arg1) = m ((c.tc : Thread Cert.ArReferenceIdeal.nD Cert.ArReferenceIdeal.τ).loc Cert.ArReferenceIdeal.main_arg1)
      ∧ r.2.mem ((c.tc : Thread Cert.ArReferenceIdeal.nD Cert.ArReferenceIdeal.τ).loc Cert.ArReferenceIdeal.main_arg2) = m ((c.tc : Thread Cert.ArReferenceIdeal.nD Cert.ArReferenceIdeal.τ).loc Cert.ArReferenceIdeal.main_arg2)
      ∧ r.2.mem ((c.tc : Thread Cert.ArReferenceIdeal.nD Cert.ArReferenceIdeal.τ).loc Cert.ArReferenceIdeal.main_arg3) = m ((c.tc : Thread Cert.ArReferenceIdeal.nD Cert.ArReferenceIdeal.τ).loc Cert.ArReferenceIdeal.main_arg3)
      ∧ r.2.mem ((c.tc : Thread Cert.ArReferenceIdeal.nD Cert.ArReferenceIdeal.τ).loc Cert.ArReferenceIdeal.main_arg4) = m ((c.tc : Thread Cert.ArReferenceIdeal.nD Cert.ArReferenceIdeal.τ).loc Cert.ArReferenceIdeal.main_arg4))
      ∧ r.2.sem = fun _ => 0)

def quiescent_AgKernel [hAgKernel : Cert.AgKernel.Facts] : Prop :=
  ∀ (m : (ℓ : Loc Cert.AgKernel.nD Cert.AgKernel.τ Cert.AgKernel.sig) → Buf (Elt Bits) ℓ) (g : Dev Cert.AgKernel.nD → PrngReg), Pre_AgKernel m →
    θ_run (Cert.AgKernel.defs (F := Bits)) (onTc (τ := Cert.AgKernel.τ) (Cert.AgKernel.main (F := Bits))) ⟨m, fun _ => 0, g⟩ (fun r => (∀ c : Dev Cert.AgKernel.nD,
      r.2.mem ((c.tc : Thread Cert.AgKernel.nD Cert.AgKernel.τ).loc Cert.AgKernel.main_arg0) = m ((c.tc : Thread Cert.AgKernel.nD Cert.AgKernel.τ).loc Cert.AgKernel.main_arg0)
      ∧ r.2.mem ((c.tc : Thread Cert.AgKernel.nD Cert.AgKernel.τ).loc Cert.AgKernel.main_arg1) = m ((c.tc : Thread Cert.AgKernel.nD Cert.AgKernel.τ).loc Cert.AgKernel.main_arg1)
      ∧ r.2.mem ((c.tc : Thread Cert.AgKernel.nD Cert.AgKernel.τ).loc Cert.AgKernel.main_arg2) = m ((c.tc : Thread Cert.AgKernel.nD Cert.AgKernel.τ).loc Cert.AgKernel.main_arg2)
      ∧ r.2.mem ((c.tc : Thread Cert.AgKernel.nD Cert.AgKernel.τ).loc Cert.AgKernel.main_arg3) = m ((c.tc : Thread Cert.AgKernel.nD Cert.AgKernel.τ).loc Cert.AgKernel.main_arg3)
      ∧ r.2.mem ((c.tc : Thread Cert.AgKernel.nD Cert.AgKernel.τ).loc Cert.AgKernel.main_arg4) = m ((c.tc : Thread Cert.AgKernel.nD Cert.AgKernel.τ).loc Cert.AgKernel.main_arg4))
      ∧ r.2.sem = fun _ => 0)

def quiescent_AgKernelIdeal [hAgKernelIdeal : Cert.AgKernelIdeal.Facts] : Prop :=
  ∀ (m : (ℓ : Loc Cert.AgKernelIdeal.nD Cert.AgKernelIdeal.τ Cert.AgKernelIdeal.sig) → Buf (Elt Ideal) ℓ) (g : Dev Cert.AgKernelIdeal.nD → PrngReg), Pre_AgKernelIdeal m →
    θ_run (Cert.AgKernelIdeal.defs (F := Ideal)) (onTc (τ := Cert.AgKernelIdeal.τ) (Cert.AgKernelIdeal.main (F := Ideal))) ⟨m, fun _ => 0, g⟩ (fun r => (∀ c : Dev Cert.AgKernelIdeal.nD,
      r.2.mem ((c.tc : Thread Cert.AgKernelIdeal.nD Cert.AgKernelIdeal.τ).loc Cert.AgKernelIdeal.main_arg0) = m ((c.tc : Thread Cert.AgKernelIdeal.nD Cert.AgKernelIdeal.τ).loc Cert.AgKernelIdeal.main_arg0)
      ∧ r.2.mem ((c.tc : Thread Cert.AgKernelIdeal.nD Cert.AgKernelIdeal.τ).loc Cert.AgKernelIdeal.main_arg1) = m ((c.tc : Thread Cert.AgKernelIdeal.nD Cert.AgKernelIdeal.τ).loc Cert.AgKernelIdeal.main_arg1)
      ∧ r.2.mem ((c.tc : Thread Cert.AgKernelIdeal.nD Cert.AgKernelIdeal.τ).loc Cert.AgKernelIdeal.main_arg2) = m ((c.tc : Thread Cert.AgKernelIdeal.nD Cert.AgKernelIdeal.τ).loc Cert.AgKernelIdeal.main_arg2)
      ∧ r.2.mem ((c.tc : Thread Cert.AgKernelIdeal.nD Cert.AgKernelIdeal.τ).loc Cert.AgKernelIdeal.main_arg3) = m ((c.tc : Thread Cert.AgKernelIdeal.nD Cert.AgKernelIdeal.τ).loc Cert.AgKernelIdeal.main_arg3)
      ∧ r.2.mem ((c.tc : Thread Cert.AgKernelIdeal.nD Cert.AgKernelIdeal.τ).loc Cert.AgKernelIdeal.main_arg4) = m ((c.tc : Thread Cert.AgKernelIdeal.nD Cert.AgKernelIdeal.τ).loc Cert.AgKernelIdeal.main_arg4))
      ∧ r.2.sem = fun _ => 0)

def quiescent_AgReferenceIdeal [hAgReferenceIdeal : Cert.AgReferenceIdeal.Facts] : Prop :=
  ∀ (m : (ℓ : Loc Cert.AgReferenceIdeal.nD Cert.AgReferenceIdeal.τ Cert.AgReferenceIdeal.sig) → Buf (Elt Ideal) ℓ) (g : Dev Cert.AgReferenceIdeal.nD → PrngReg), Pre_AgReferenceIdeal m →
    θ_run (Cert.AgReferenceIdeal.defs (F := Ideal)) (onTc (τ := Cert.AgReferenceIdeal.τ) (Cert.AgReferenceIdeal.main (F := Ideal))) ⟨m, fun _ => 0, g⟩ (fun r => (∀ c : Dev Cert.AgReferenceIdeal.nD,
      r.2.mem ((c.tc : Thread Cert.AgReferenceIdeal.nD Cert.AgReferenceIdeal.τ).loc Cert.AgReferenceIdeal.main_arg0) = m ((c.tc : Thread Cert.AgReferenceIdeal.nD Cert.AgReferenceIdeal.τ).loc Cert.AgReferenceIdeal.main_arg0)
      ∧ r.2.mem ((c.tc : Thread Cert.AgReferenceIdeal.nD Cert.AgReferenceIdeal.τ).loc Cert.AgReferenceIdeal.main_arg1) = m ((c.tc : Thread Cert.AgReferenceIdeal.nD Cert.AgReferenceIdeal.τ).loc Cert.AgReferenceIdeal.main_arg1)
      ∧ r.2.mem ((c.tc : Thread Cert.AgReferenceIdeal.nD Cert.AgReferenceIdeal.τ).loc Cert.AgReferenceIdeal.main_arg2) = m ((c.tc : Thread Cert.AgReferenceIdeal.nD Cert.AgReferenceIdeal.τ).loc Cert.AgReferenceIdeal.main_arg2)
      ∧ r.2.mem ((c.tc : Thread Cert.AgReferenceIdeal.nD Cert.AgReferenceIdeal.τ).loc Cert.AgReferenceIdeal.main_arg3) = m ((c.tc : Thread Cert.AgReferenceIdeal.nD Cert.AgReferenceIdeal.τ).loc Cert.AgReferenceIdeal.main_arg3)
      ∧ r.2.mem ((c.tc : Thread Cert.AgReferenceIdeal.nD Cert.AgReferenceIdeal.τ).loc Cert.AgReferenceIdeal.main_arg4) = m ((c.tc : Thread Cert.AgReferenceIdeal.nD Cert.AgReferenceIdeal.τ).loc Cert.AgReferenceIdeal.main_arg4))
      ∧ r.2.sem = fun _ => 0)

def quiescent_ApKernel [hApKernel : Cert.ApKernel.Facts] : Prop :=
  ∀ (m : (ℓ : Loc Cert.ApKernel.nD Cert.ApKernel.τ Cert.ApKernel.sig) → Buf (Elt Bits) ℓ) (g : Dev Cert.ApKernel.nD → PrngReg), Pre_ApKernel m →
    θ_run (Cert.ApKernel.defs (F := Bits)) (onTc (τ := Cert.ApKernel.τ) (Cert.ApKernel.main (F := Bits))) ⟨m, fun _ => 0, g⟩ (fun r => (∀ c : Dev Cert.ApKernel.nD,
      r.2.mem ((c.tc : Thread Cert.ApKernel.nD Cert.ApKernel.τ).loc Cert.ApKernel.main_arg0) = m ((c.tc : Thread Cert.ApKernel.nD Cert.ApKernel.τ).loc Cert.ApKernel.main_arg0)
      ∧ r.2.mem ((c.tc : Thread Cert.ApKernel.nD Cert.ApKernel.τ).loc Cert.ApKernel.main_arg1) = m ((c.tc : Thread Cert.ApKernel.nD Cert.ApKernel.τ).loc Cert.ApKernel.main_arg1)
      ∧ r.2.mem ((c.tc : Thread Cert.ApKernel.nD Cert.ApKernel.τ).loc Cert.ApKernel.main_arg2) = m ((c.tc : Thread Cert.ApKernel.nD Cert.ApKernel.τ).loc Cert.ApKernel.main_arg2)
      ∧ r.2.mem ((c.tc : Thread Cert.ApKernel.nD Cert.ApKernel.τ).loc Cert.ApKernel.main_arg3) = m ((c.tc : Thread Cert.ApKernel.nD Cert.ApKernel.τ).loc Cert.ApKernel.main_arg3)
      ∧ r.2.mem ((c.tc : Thread Cert.ApKernel.nD Cert.ApKernel.τ).loc Cert.ApKernel.main_arg4) = m ((c.tc : Thread Cert.ApKernel.nD Cert.ApKernel.τ).loc Cert.ApKernel.main_arg4))
      ∧ r.2.sem = fun _ => 0)

def quiescent_ApKernelIdeal [hApKernelIdeal : Cert.ApKernelIdeal.Facts] : Prop :=
  ∀ (m : (ℓ : Loc Cert.ApKernelIdeal.nD Cert.ApKernelIdeal.τ Cert.ApKernelIdeal.sig) → Buf (Elt Ideal) ℓ) (g : Dev Cert.ApKernelIdeal.nD → PrngReg), Pre_ApKernelIdeal m →
    θ_run (Cert.ApKernelIdeal.defs (F := Ideal)) (onTc (τ := Cert.ApKernelIdeal.τ) (Cert.ApKernelIdeal.main (F := Ideal))) ⟨m, fun _ => 0, g⟩ (fun r => (∀ c : Dev Cert.ApKernelIdeal.nD,
      r.2.mem ((c.tc : Thread Cert.ApKernelIdeal.nD Cert.ApKernelIdeal.τ).loc Cert.ApKernelIdeal.main_arg0) = m ((c.tc : Thread Cert.ApKernelIdeal.nD Cert.ApKernelIdeal.τ).loc Cert.ApKernelIdeal.main_arg0)
      ∧ r.2.mem ((c.tc : Thread Cert.ApKernelIdeal.nD Cert.ApKernelIdeal.τ).loc Cert.ApKernelIdeal.main_arg1) = m ((c.tc : Thread Cert.ApKernelIdeal.nD Cert.ApKernelIdeal.τ).loc Cert.ApKernelIdeal.main_arg1)
      ∧ r.2.mem ((c.tc : Thread Cert.ApKernelIdeal.nD Cert.ApKernelIdeal.τ).loc Cert.ApKernelIdeal.main_arg2) = m ((c.tc : Thread Cert.ApKernelIdeal.nD Cert.ApKernelIdeal.τ).loc Cert.ApKernelIdeal.main_arg2)
      ∧ r.2.mem ((c.tc : Thread Cert.ApKernelIdeal.nD Cert.ApKernelIdeal.τ).loc Cert.ApKernelIdeal.main_arg3) = m ((c.tc : Thread Cert.ApKernelIdeal.nD Cert.ApKernelIdeal.τ).loc Cert.ApKernelIdeal.main_arg3)
      ∧ r.2.mem ((c.tc : Thread Cert.ApKernelIdeal.nD Cert.ApKernelIdeal.τ).loc Cert.ApKernelIdeal.main_arg4) = m ((c.tc : Thread Cert.ApKernelIdeal.nD Cert.ApKernelIdeal.τ).loc Cert.ApKernelIdeal.main_arg4))
      ∧ r.2.sem = fun _ => 0)

def quiescent_ApReferenceIdeal [hApReferenceIdeal : Cert.ApReferenceIdeal.Facts] : Prop :=
  ∀ (m : (ℓ : Loc Cert.ApReferenceIdeal.nD Cert.ApReferenceIdeal.τ Cert.ApReferenceIdeal.sig) → Buf (Elt Ideal) ℓ) (g : Dev Cert.ApReferenceIdeal.nD → PrngReg), Pre_ApReferenceIdeal m →
    θ_run (Cert.ApReferenceIdeal.defs (F := Ideal)) (onTc (τ := Cert.ApReferenceIdeal.τ) (Cert.ApReferenceIdeal.main (F := Ideal))) ⟨m, fun _ => 0, g⟩ (fun r => (∀ c : Dev Cert.ApReferenceIdeal.nD,
      r.2.mem ((c.tc : Thread Cert.ApReferenceIdeal.nD Cert.ApReferenceIdeal.τ).loc Cert.ApReferenceIdeal.main_arg0) = m ((c.tc : Thread Cert.ApReferenceIdeal.nD Cert.ApReferenceIdeal.τ).loc Cert.ApReferenceIdeal.main_arg0)
      ∧ r.2.mem ((c.tc : Thread Cert.ApReferenceIdeal.nD Cert.ApReferenceIdeal.τ).loc Cert.ApReferenceIdeal.main_arg1) = m ((c.tc : Thread Cert.ApReferenceIdeal.nD Cert.ApReferenceIdeal.τ).loc Cert.ApReferenceIdeal.main_arg1)
      ∧ r.2.mem ((c.tc : Thread Cert.ApReferenceIdeal.nD Cert.ApReferenceIdeal.τ).loc Cert.ApReferenceIdeal.main_arg2) = m ((c.tc : Thread Cert.ApReferenceIdeal.nD Cert.ApReferenceIdeal.τ).loc Cert.ApReferenceIdeal.main_arg2)
      ∧ r.2.mem ((c.tc : Thread Cert.ApReferenceIdeal.nD Cert.ApReferenceIdeal.τ).loc Cert.ApReferenceIdeal.main_arg3) = m ((c.tc : Thread Cert.ApReferenceIdeal.nD Cert.ApReferenceIdeal.τ).loc Cert.ApReferenceIdeal.main_arg3)
      ∧ r.2.mem ((c.tc : Thread Cert.ApReferenceIdeal.nD Cert.ApReferenceIdeal.τ).loc Cert.ApReferenceIdeal.main_arg4) = m ((c.tc : Thread Cert.ApReferenceIdeal.nD Cert.ApReferenceIdeal.τ).loc Cert.ApReferenceIdeal.main_arg4))
      ∧ r.2.sem = fun _ => 0)

def quiescent_AaKernel [hAaKernel : Cert.AaKernel.Facts] : Prop :=
  ∀ (m : (ℓ : Loc Cert.AaKernel.nD Cert.AaKernel.τ Cert.AaKernel.sig) → Buf (Elt Bits) ℓ) (g : Dev Cert.AaKernel.nD → PrngReg), Pre_AaKernel m →
    θ_run (Cert.AaKernel.defs (F := Bits)) (onTc (τ := Cert.AaKernel.τ) (Cert.AaKernel.main (F := Bits))) ⟨m, fun _ => 0, g⟩ (fun r => (∀ c : Dev Cert.AaKernel.nD,
      r.2.mem ((c.tc : Thread Cert.AaKernel.nD Cert.AaKernel.τ).loc Cert.AaKernel.main_arg0) = m ((c.tc : Thread Cert.AaKernel.nD Cert.AaKernel.τ).loc Cert.AaKernel.main_arg0)
      ∧ r.2.mem ((c.tc : Thread Cert.AaKernel.nD Cert.AaKernel.τ).loc Cert.AaKernel.main_arg1) = m ((c.tc : Thread Cert.AaKernel.nD Cert.AaKernel.τ).loc Cert.AaKernel.main_arg1)
      ∧ r.2.mem ((c.tc : Thread Cert.AaKernel.nD Cert.AaKernel.τ).loc Cert.AaKernel.main_arg2) = m ((c.tc : Thread Cert.AaKernel.nD Cert.AaKernel.τ).loc Cert.AaKernel.main_arg2)
      ∧ r.2.mem ((c.tc : Thread Cert.AaKernel.nD Cert.AaKernel.τ).loc Cert.AaKernel.main_arg3) = m ((c.tc : Thread Cert.AaKernel.nD Cert.AaKernel.τ).loc Cert.AaKernel.main_arg3)
      ∧ r.2.mem ((c.tc : Thread Cert.AaKernel.nD Cert.AaKernel.τ).loc Cert.AaKernel.main_arg4) = m ((c.tc : Thread Cert.AaKernel.nD Cert.AaKernel.τ).loc Cert.AaKernel.main_arg4))
      ∧ r.2.sem = fun _ => 0)

def quiescent_AaKernelIdeal [hAaKernelIdeal : Cert.AaKernelIdeal.Facts] : Prop :=
  ∀ (m : (ℓ : Loc Cert.AaKernelIdeal.nD Cert.AaKernelIdeal.τ Cert.AaKernelIdeal.sig) → Buf (Elt Ideal) ℓ) (g : Dev Cert.AaKernelIdeal.nD → PrngReg), Pre_AaKernelIdeal m →
    θ_run (Cert.AaKernelIdeal.defs (F := Ideal)) (onTc (τ := Cert.AaKernelIdeal.τ) (Cert.AaKernelIdeal.main (F := Ideal))) ⟨m, fun _ => 0, g⟩ (fun r => (∀ c : Dev Cert.AaKernelIdeal.nD,
      r.2.mem ((c.tc : Thread Cert.AaKernelIdeal.nD Cert.AaKernelIdeal.τ).loc Cert.AaKernelIdeal.main_arg0) = m ((c.tc : Thread Cert.AaKernelIdeal.nD Cert.AaKernelIdeal.τ).loc Cert.AaKernelIdeal.main_arg0)
      ∧ r.2.mem ((c.tc : Thread Cert.AaKernelIdeal.nD Cert.AaKernelIdeal.τ).loc Cert.AaKernelIdeal.main_arg1) = m ((c.tc : Thread Cert.AaKernelIdeal.nD Cert.AaKernelIdeal.τ).loc Cert.AaKernelIdeal.main_arg1)
      ∧ r.2.mem ((c.tc : Thread Cert.AaKernelIdeal.nD Cert.AaKernelIdeal.τ).loc Cert.AaKernelIdeal.main_arg2) = m ((c.tc : Thread Cert.AaKernelIdeal.nD Cert.AaKernelIdeal.τ).loc Cert.AaKernelIdeal.main_arg2)
      ∧ r.2.mem ((c.tc : Thread Cert.AaKernelIdeal.nD Cert.AaKernelIdeal.τ).loc Cert.AaKernelIdeal.main_arg3) = m ((c.tc : Thread Cert.AaKernelIdeal.nD Cert.AaKernelIdeal.τ).loc Cert.AaKernelIdeal.main_arg3)
      ∧ r.2.mem ((c.tc : Thread Cert.AaKernelIdeal.nD Cert.AaKernelIdeal.τ).loc Cert.AaKernelIdeal.main_arg4) = m ((c.tc : Thread Cert.AaKernelIdeal.nD Cert.AaKernelIdeal.τ).loc Cert.AaKernelIdeal.main_arg4))
      ∧ r.2.sem = fun _ => 0)

def quiescent_AaReferenceIdeal [hAaReferenceIdeal : Cert.AaReferenceIdeal.Facts] : Prop :=
  ∀ (m : (ℓ : Loc Cert.AaReferenceIdeal.nD Cert.AaReferenceIdeal.τ Cert.AaReferenceIdeal.sig) → Buf (Elt Ideal) ℓ) (g : Dev Cert.AaReferenceIdeal.nD → PrngReg), Pre_AaReferenceIdeal m →
    θ_run (Cert.AaReferenceIdeal.defs (F := Ideal)) (onTc (τ := Cert.AaReferenceIdeal.τ) (Cert.AaReferenceIdeal.main (F := Ideal))) ⟨m, fun _ => 0, g⟩ (fun r => (∀ c : Dev Cert.AaReferenceIdeal.nD,
      r.2.mem ((c.tc : Thread Cert.AaReferenceIdeal.nD Cert.AaReferenceIdeal.τ).loc Cert.AaReferenceIdeal.main_arg0) = m ((c.tc : Thread Cert.AaReferenceIdeal.nD Cert.AaReferenceIdeal.τ).loc Cert.AaReferenceIdeal.main_arg0)
      ∧ r.2.mem ((c.tc : Thread Cert.AaReferenceIdeal.nD Cert.AaReferenceIdeal.τ).loc Cert.AaReferenceIdeal.main_arg1) = m ((c.tc : Thread Cert.AaReferenceIdeal.nD Cert.AaReferenceIdeal.τ).loc Cert.AaReferenceIdeal.main_arg1)
      ∧ r.2.mem ((c.tc : Thread Cert.AaReferenceIdeal.nD Cert.AaReferenceIdeal.τ).loc Cert.AaReferenceIdeal.main_arg2) = m ((c.tc : Thread Cert.AaReferenceIdeal.nD Cert.AaReferenceIdeal.τ).loc Cert.AaReferenceIdeal.main_arg2)
      ∧ r.2.mem ((c.tc : Thread Cert.AaReferenceIdeal.nD Cert.AaReferenceIdeal.τ).loc Cert.AaReferenceIdeal.main_arg3) = m ((c.tc : Thread Cert.AaReferenceIdeal.nD Cert.AaReferenceIdeal.τ).loc Cert.AaReferenceIdeal.main_arg3)
      ∧ r.2.mem ((c.tc : Thread Cert.AaReferenceIdeal.nD Cert.AaReferenceIdeal.τ).loc Cert.AaReferenceIdeal.main_arg4) = m ((c.tc : Thread Cert.AaReferenceIdeal.nD Cert.AaReferenceIdeal.τ).loc Cert.AaReferenceIdeal.main_arg4))
      ∧ r.2.sem = fun _ => 0)

def quiescent_AlKernel [hAlKernel : Cert.AlKernel.Facts] : Prop :=
  ∀ (m : (ℓ : Loc Cert.AlKernel.nD Cert.AlKernel.τ Cert.AlKernel.sig) → Buf (Elt Bits) ℓ) (g : Dev Cert.AlKernel.nD → PrngReg), Pre_AlKernel m →
    θ_run (Cert.AlKernel.defs (F := Bits)) (onTc (τ := Cert.AlKernel.τ) (Cert.AlKernel.main (F := Bits))) ⟨m, fun _ => 0, g⟩ (fun r => (∀ c : Dev Cert.AlKernel.nD,
      r.2.mem ((c.tc : Thread Cert.AlKernel.nD Cert.AlKernel.τ).loc Cert.AlKernel.main_arg0) = m ((c.tc : Thread Cert.AlKernel.nD Cert.AlKernel.τ).loc Cert.AlKernel.main_arg0)
      ∧ r.2.mem ((c.tc : Thread Cert.AlKernel.nD Cert.AlKernel.τ).loc Cert.AlKernel.main_arg1) = m ((c.tc : Thread Cert.AlKernel.nD Cert.AlKernel.τ).loc Cert.AlKernel.main_arg1)
      ∧ r.2.mem ((c.tc : Thread Cert.AlKernel.nD Cert.AlKernel.τ).loc Cert.AlKernel.main_arg2) = m ((c.tc : Thread Cert.AlKernel.nD Cert.AlKernel.τ).loc Cert.AlKernel.main_arg2)
      ∧ r.2.mem ((c.tc : Thread Cert.AlKernel.nD Cert.AlKernel.τ).loc Cert.AlKernel.main_arg3) = m ((c.tc : Thread Cert.AlKernel.nD Cert.AlKernel.τ).loc Cert.AlKernel.main_arg3)
      ∧ r.2.mem ((c.tc : Thread Cert.AlKernel.nD Cert.AlKernel.τ).loc Cert.AlKernel.main_arg4) = m ((c.tc : Thread Cert.AlKernel.nD Cert.AlKernel.τ).loc Cert.AlKernel.main_arg4))
      ∧ r.2.sem = fun _ => 0)

def quiescent_AlKernelIdeal [hAlKernelIdeal : Cert.AlKernelIdeal.Facts] : Prop :=
  ∀ (m : (ℓ : Loc Cert.AlKernelIdeal.nD Cert.AlKernelIdeal.τ Cert.AlKernelIdeal.sig) → Buf (Elt Ideal) ℓ) (g : Dev Cert.AlKernelIdeal.nD → PrngReg), Pre_AlKernelIdeal m →
    θ_run (Cert.AlKernelIdeal.defs (F := Ideal)) (onTc (τ := Cert.AlKernelIdeal.τ) (Cert.AlKernelIdeal.main (F := Ideal))) ⟨m, fun _ => 0, g⟩ (fun r => (∀ c : Dev Cert.AlKernelIdeal.nD,
      r.2.mem ((c.tc : Thread Cert.AlKernelIdeal.nD Cert.AlKernelIdeal.τ).loc Cert.AlKernelIdeal.main_arg0) = m ((c.tc : Thread Cert.AlKernelIdeal.nD Cert.AlKernelIdeal.τ).loc Cert.AlKernelIdeal.main_arg0)
      ∧ r.2.mem ((c.tc : Thread Cert.AlKernelIdeal.nD Cert.AlKernelIdeal.τ).loc Cert.AlKernelIdeal.main_arg1) = m ((c.tc : Thread Cert.AlKernelIdeal.nD Cert.AlKernelIdeal.τ).loc Cert.AlKernelIdeal.main_arg1)
      ∧ r.2.mem ((c.tc : Thread Cert.AlKernelIdeal.nD Cert.AlKernelIdeal.τ).loc Cert.AlKernelIdeal.main_arg2) = m ((c.tc : Thread Cert.AlKernelIdeal.nD Cert.AlKernelIdeal.τ).loc Cert.AlKernelIdeal.main_arg2)
      ∧ r.2.mem ((c.tc : Thread Cert.AlKernelIdeal.nD Cert.AlKernelIdeal.τ).loc Cert.AlKernelIdeal.main_arg3) = m ((c.tc : Thread Cert.AlKernelIdeal.nD Cert.AlKernelIdeal.τ).loc Cert.AlKernelIdeal.main_arg3)
      ∧ r.2.mem ((c.tc : Thread Cert.AlKernelIdeal.nD Cert.AlKernelIdeal.τ).loc Cert.AlKernelIdeal.main_arg4) = m ((c.tc : Thread Cert.AlKernelIdeal.nD Cert.AlKernelIdeal.τ).loc Cert.AlKernelIdeal.main_arg4))
      ∧ r.2.sem = fun _ => 0)

def quiescent_AlReferenceIdeal [hAlReferenceIdeal : Cert.AlReferenceIdeal.Facts] : Prop :=
  ∀ (m : (ℓ : Loc Cert.AlReferenceIdeal.nD Cert.AlReferenceIdeal.τ Cert.AlReferenceIdeal.sig) → Buf (Elt Ideal) ℓ) (g : Dev Cert.AlReferenceIdeal.nD → PrngReg), Pre_AlReferenceIdeal m →
    θ_run (Cert.AlReferenceIdeal.defs (F := Ideal)) (onTc (τ := Cert.AlReferenceIdeal.τ) (Cert.AlReferenceIdeal.main (F := Ideal))) ⟨m, fun _ => 0, g⟩ (fun r => (∀ c : Dev Cert.AlReferenceIdeal.nD,
      r.2.mem ((c.tc : Thread Cert.AlReferenceIdeal.nD Cert.AlReferenceIdeal.τ).loc Cert.AlReferenceIdeal.main_arg0) = m ((c.tc : Thread Cert.AlReferenceIdeal.nD Cert.AlReferenceIdeal.τ).loc Cert.AlReferenceIdeal.main_arg0)
      ∧ r.2.mem ((c.tc : Thread Cert.AlReferenceIdeal.nD Cert.AlReferenceIdeal.τ).loc Cert.AlReferenceIdeal.main_arg1) = m ((c.tc : Thread Cert.AlReferenceIdeal.nD Cert.AlReferenceIdeal.τ).loc Cert.AlReferenceIdeal.main_arg1)
      ∧ r.2.mem ((c.tc : Thread Cert.AlReferenceIdeal.nD Cert.AlReferenceIdeal.τ).loc Cert.AlReferenceIdeal.main_arg2) = m ((c.tc : Thread Cert.AlReferenceIdeal.nD Cert.AlReferenceIdeal.τ).loc Cert.AlReferenceIdeal.main_arg2)
      ∧ r.2.mem ((c.tc : Thread Cert.AlReferenceIdeal.nD Cert.AlReferenceIdeal.τ).loc Cert.AlReferenceIdeal.main_arg3) = m ((c.tc : Thread Cert.AlReferenceIdeal.nD Cert.AlReferenceIdeal.τ).loc Cert.AlReferenceIdeal.main_arg3)
      ∧ r.2.mem ((c.tc : Thread Cert.AlReferenceIdeal.nD Cert.AlReferenceIdeal.τ).loc Cert.AlReferenceIdeal.main_arg4) = m ((c.tc : Thread Cert.AlReferenceIdeal.nD Cert.AlReferenceIdeal.τ).loc Cert.AlReferenceIdeal.main_arg4))
      ∧ r.2.sem = fun _ => 0)

def quiescent_AiKernel [hAiKernel : Cert.AiKernel.Facts] : Prop :=
  ∀ (m : (ℓ : Loc Cert.AiKernel.nD Cert.AiKernel.τ Cert.AiKernel.sig) → Buf (Elt Bits) ℓ) (g : Dev Cert.AiKernel.nD → PrngReg), Pre_AiKernel m →
    θ_run (Cert.AiKernel.defs (F := Bits)) (onTc (τ := Cert.AiKernel.τ) (Cert.AiKernel.main (F := Bits))) ⟨m, fun _ => 0, g⟩ (fun r => (∀ c : Dev Cert.AiKernel.nD,
      r.2.mem ((c.tc : Thread Cert.AiKernel.nD Cert.AiKernel.τ).loc Cert.AiKernel.main_arg0) = m ((c.tc : Thread Cert.AiKernel.nD Cert.AiKernel.τ).loc Cert.AiKernel.main_arg0)
      ∧ r.2.mem ((c.tc : Thread Cert.AiKernel.nD Cert.AiKernel.τ).loc Cert.AiKernel.main_arg1) = m ((c.tc : Thread Cert.AiKernel.nD Cert.AiKernel.τ).loc Cert.AiKernel.main_arg1)
      ∧ r.2.mem ((c.tc : Thread Cert.AiKernel.nD Cert.AiKernel.τ).loc Cert.AiKernel.main_arg2) = m ((c.tc : Thread Cert.AiKernel.nD Cert.AiKernel.τ).loc Cert.AiKernel.main_arg2)
      ∧ r.2.mem ((c.tc : Thread Cert.AiKernel.nD Cert.AiKernel.τ).loc Cert.AiKernel.main_arg3) = m ((c.tc : Thread Cert.AiKernel.nD Cert.AiKernel.τ).loc Cert.AiKernel.main_arg3)
      ∧ r.2.mem ((c.tc : Thread Cert.AiKernel.nD Cert.AiKernel.τ).loc Cert.AiKernel.main_arg4) = m ((c.tc : Thread Cert.AiKernel.nD Cert.AiKernel.τ).loc Cert.AiKernel.main_arg4))
      ∧ r.2.sem = fun _ => 0)

def quiescent_AiKernelIdeal [hAiKernelIdeal : Cert.AiKernelIdeal.Facts] : Prop :=
  ∀ (m : (ℓ : Loc Cert.AiKernelIdeal.nD Cert.AiKernelIdeal.τ Cert.AiKernelIdeal.sig) → Buf (Elt Ideal) ℓ) (g : Dev Cert.AiKernelIdeal.nD → PrngReg), Pre_AiKernelIdeal m →
    θ_run (Cert.AiKernelIdeal.defs (F := Ideal)) (onTc (τ := Cert.AiKernelIdeal.τ) (Cert.AiKernelIdeal.main (F := Ideal))) ⟨m, fun _ => 0, g⟩ (fun r => (∀ c : Dev Cert.AiKernelIdeal.nD,
      r.2.mem ((c.tc : Thread Cert.AiKernelIdeal.nD Cert.AiKernelIdeal.τ).loc Cert.AiKernelIdeal.main_arg0) = m ((c.tc : Thread Cert.AiKernelIdeal.nD Cert.AiKernelIdeal.τ).loc Cert.AiKernelIdeal.main_arg0)
      ∧ r.2.mem ((c.tc : Thread Cert.AiKernelIdeal.nD Cert.AiKernelIdeal.τ).loc Cert.AiKernelIdeal.main_arg1) = m ((c.tc : Thread Cert.AiKernelIdeal.nD Cert.AiKernelIdeal.τ).loc Cert.AiKernelIdeal.main_arg1)
      ∧ r.2.mem ((c.tc : Thread Cert.AiKernelIdeal.nD Cert.AiKernelIdeal.τ).loc Cert.AiKernelIdeal.main_arg2) = m ((c.tc : Thread Cert.AiKernelIdeal.nD Cert.AiKernelIdeal.τ).loc Cert.AiKernelIdeal.main_arg2)
      ∧ r.2.mem ((c.tc : Thread Cert.AiKernelIdeal.nD Cert.AiKernelIdeal.τ).loc Cert.AiKernelIdeal.main_arg3) = m ((c.tc : Thread Cert.AiKernelIdeal.nD Cert.AiKernelIdeal.τ).loc Cert.AiKernelIdeal.main_arg3)
      ∧ r.2.mem ((c.tc : Thread Cert.AiKernelIdeal.nD Cert.AiKernelIdeal.τ).loc Cert.AiKernelIdeal.main_arg4) = m ((c.tc : Thread Cert.AiKernelIdeal.nD Cert.AiKernelIdeal.τ).loc Cert.AiKernelIdeal.main_arg4))
      ∧ r.2.sem = fun _ => 0)

def quiescent_AiReferenceIdeal [hAiReferenceIdeal : Cert.AiReferenceIdeal.Facts] : Prop :=
  ∀ (m : (ℓ : Loc Cert.AiReferenceIdeal.nD Cert.AiReferenceIdeal.τ Cert.AiReferenceIdeal.sig) → Buf (Elt Ideal) ℓ) (g : Dev Cert.AiReferenceIdeal.nD → PrngReg), Pre_AiReferenceIdeal m →
    θ_run (Cert.AiReferenceIdeal.defs (F := Ideal)) (onTc (τ := Cert.AiReferenceIdeal.τ) (Cert.AiReferenceIdeal.main (F := Ideal))) ⟨m, fun _ => 0, g⟩ (fun r => (∀ c : Dev Cert.AiReferenceIdeal.nD,
      r.2.mem ((c.tc : Thread Cert.AiReferenceIdeal.nD Cert.AiReferenceIdeal.τ).loc Cert.AiReferenceIdeal.main_arg0) = m ((c.tc : Thread Cert.AiReferenceIdeal.nD Cert.AiReferenceIdeal.τ).loc Cert.AiReferenceIdeal.main_arg0)
      ∧ r.2.mem ((c.tc : Thread Cert.AiReferenceIdeal.nD Cert.AiReferenceIdeal.τ).loc Cert.AiReferenceIdeal.main_arg1) = m ((c.tc : Thread Cert.AiReferenceIdeal.nD Cert.AiReferenceIdeal.τ).loc Cert.AiReferenceIdeal.main_arg1)
      ∧ r.2.mem ((c.tc : Thread Cert.AiReferenceIdeal.nD Cert.AiReferenceIdeal.τ).loc Cert.AiReferenceIdeal.main_arg2) = m ((c.tc : Thread Cert.AiReferenceIdeal.nD Cert.AiReferenceIdeal.τ).loc Cert.AiReferenceIdeal.main_arg2)
      ∧ r.2.mem ((c.tc : Thread Cert.AiReferenceIdeal.nD Cert.AiReferenceIdeal.τ).loc Cert.AiReferenceIdeal.main_arg3) = m ((c.tc : Thread Cert.AiReferenceIdeal.nD Cert.AiReferenceIdeal.τ).loc Cert.AiReferenceIdeal.main_arg3)
      ∧ r.2.mem ((c.tc : Thread Cert.AiReferenceIdeal.nD Cert.AiReferenceIdeal.τ).loc Cert.AiReferenceIdeal.main_arg4) = m ((c.tc : Thread Cert.AiReferenceIdeal.nD Cert.AiReferenceIdeal.τ).loc Cert.AiReferenceIdeal.main_arg4))
      ∧ r.2.sem = fun _ => 0)

def quiescent_AcKernel [hAcKernel : Cert.AcKernel.Facts] : Prop :=
  ∀ (m : (ℓ : Loc Cert.AcKernel.nD Cert.AcKernel.τ Cert.AcKernel.sig) → Buf (Elt Bits) ℓ) (g : Dev Cert.AcKernel.nD → PrngReg), Pre_AcKernel m →
    θ_run (Cert.AcKernel.defs (F := Bits)) (onTc (τ := Cert.AcKernel.τ) (Cert.AcKernel.main (F := Bits))) ⟨m, fun _ => 0, g⟩ (fun r => (∀ c : Dev Cert.AcKernel.nD,
      r.2.mem ((c.tc : Thread Cert.AcKernel.nD Cert.AcKernel.τ).loc Cert.AcKernel.main_arg0) = m ((c.tc : Thread Cert.AcKernel.nD Cert.AcKernel.τ).loc Cert.AcKernel.main_arg0)
      ∧ r.2.mem ((c.tc : Thread Cert.AcKernel.nD Cert.AcKernel.τ).loc Cert.AcKernel.main_arg1) = m ((c.tc : Thread Cert.AcKernel.nD Cert.AcKernel.τ).loc Cert.AcKernel.main_arg1)
      ∧ r.2.mem ((c.tc : Thread Cert.AcKernel.nD Cert.AcKernel.τ).loc Cert.AcKernel.main_arg2) = m ((c.tc : Thread Cert.AcKernel.nD Cert.AcKernel.τ).loc Cert.AcKernel.main_arg2)
      ∧ r.2.mem ((c.tc : Thread Cert.AcKernel.nD Cert.AcKernel.τ).loc Cert.AcKernel.main_arg3) = m ((c.tc : Thread Cert.AcKernel.nD Cert.AcKernel.τ).loc Cert.AcKernel.main_arg3)
      ∧ r.2.mem ((c.tc : Thread Cert.AcKernel.nD Cert.AcKernel.τ).loc Cert.AcKernel.main_arg4) = m ((c.tc : Thread Cert.AcKernel.nD Cert.AcKernel.τ).loc Cert.AcKernel.main_arg4))
      ∧ r.2.sem = fun _ => 0)

def quiescent_AcKernelIdeal [hAcKernelIdeal : Cert.AcKernelIdeal.Facts] : Prop :=
  ∀ (m : (ℓ : Loc Cert.AcKernelIdeal.nD Cert.AcKernelIdeal.τ Cert.AcKernelIdeal.sig) → Buf (Elt Ideal) ℓ) (g : Dev Cert.AcKernelIdeal.nD → PrngReg), Pre_AcKernelIdeal m →
    θ_run (Cert.AcKernelIdeal.defs (F := Ideal)) (onTc (τ := Cert.AcKernelIdeal.τ) (Cert.AcKernelIdeal.main (F := Ideal))) ⟨m, fun _ => 0, g⟩ (fun r => (∀ c : Dev Cert.AcKernelIdeal.nD,
      r.2.mem ((c.tc : Thread Cert.AcKernelIdeal.nD Cert.AcKernelIdeal.τ).loc Cert.AcKernelIdeal.main_arg0) = m ((c.tc : Thread Cert.AcKernelIdeal.nD Cert.AcKernelIdeal.τ).loc Cert.AcKernelIdeal.main_arg0)
      ∧ r.2.mem ((c.tc : Thread Cert.AcKernelIdeal.nD Cert.AcKernelIdeal.τ).loc Cert.AcKernelIdeal.main_arg1) = m ((c.tc : Thread Cert.AcKernelIdeal.nD Cert.AcKernelIdeal.τ).loc Cert.AcKernelIdeal.main_arg1)
      ∧ r.2.mem ((c.tc : Thread Cert.AcKernelIdeal.nD Cert.AcKernelIdeal.τ).loc Cert.AcKernelIdeal.main_arg2) = m ((c.tc : Thread Cert.AcKernelIdeal.nD Cert.AcKernelIdeal.τ).loc Cert.AcKernelIdeal.main_arg2)
      ∧ r.2.mem ((c.tc : Thread Cert.AcKernelIdeal.nD Cert.AcKernelIdeal.τ).loc Cert.AcKernelIdeal.main_arg3) = m ((c.tc : Thread Cert.AcKernelIdeal.nD Cert.AcKernelIdeal.τ).loc Cert.AcKernelIdeal.main_arg3)
      ∧ r.2.mem ((c.tc : Thread Cert.AcKernelIdeal.nD Cert.AcKernelIdeal.τ).loc Cert.AcKernelIdeal.main_arg4) = m ((c.tc : Thread Cert.AcKernelIdeal.nD Cert.AcKernelIdeal.τ).loc Cert.AcKernelIdeal.main_arg4))
      ∧ r.2.sem = fun _ => 0)

def quiescent_AcReferenceIdeal [hAcReferenceIdeal : Cert.AcReferenceIdeal.Facts] : Prop :=
  ∀ (m : (ℓ : Loc Cert.AcReferenceIdeal.nD Cert.AcReferenceIdeal.τ Cert.AcReferenceIdeal.sig) → Buf (Elt Ideal) ℓ) (g : Dev Cert.AcReferenceIdeal.nD → PrngReg), Pre_AcReferenceIdeal m →
    θ_run (Cert.AcReferenceIdeal.defs (F := Ideal)) (onTc (τ := Cert.AcReferenceIdeal.τ) (Cert.AcReferenceIdeal.main (F := Ideal))) ⟨m, fun _ => 0, g⟩ (fun r => (∀ c : Dev Cert.AcReferenceIdeal.nD,
      r.2.mem ((c.tc : Thread Cert.AcReferenceIdeal.nD Cert.AcReferenceIdeal.τ).loc Cert.AcReferenceIdeal.main_arg0) = m ((c.tc : Thread Cert.AcReferenceIdeal.nD Cert.AcReferenceIdeal.τ).loc Cert.AcReferenceIdeal.main_arg0)
      ∧ r.2.mem ((c.tc : Thread Cert.AcReferenceIdeal.nD Cert.AcReferenceIdeal.τ).loc Cert.AcReferenceIdeal.main_arg1) = m ((c.tc : Thread Cert.AcReferenceIdeal.nD Cert.AcReferenceIdeal.τ).loc Cert.AcReferenceIdeal.main_arg1)
      ∧ r.2.mem ((c.tc : Thread Cert.AcReferenceIdeal.nD Cert.AcReferenceIdeal.τ).loc Cert.AcReferenceIdeal.main_arg2) = m ((c.tc : Thread Cert.AcReferenceIdeal.nD Cert.AcReferenceIdeal.τ).loc Cert.AcReferenceIdeal.main_arg2)
      ∧ r.2.mem ((c.tc : Thread Cert.AcReferenceIdeal.nD Cert.AcReferenceIdeal.τ).loc Cert.AcReferenceIdeal.main_arg3) = m ((c.tc : Thread Cert.AcReferenceIdeal.nD Cert.AcReferenceIdeal.τ).loc Cert.AcReferenceIdeal.main_arg3)
      ∧ r.2.mem ((c.tc : Thread Cert.AcReferenceIdeal.nD Cert.AcReferenceIdeal.τ).loc Cert.AcReferenceIdeal.main_arg4) = m ((c.tc : Thread Cert.AcReferenceIdeal.nD Cert.AcReferenceIdeal.τ).loc Cert.AcReferenceIdeal.main_arg4))
      ∧ r.2.sem = fun _ => 0)

def quiescent_AuKernel [hAuKernel : Cert.AuKernel.Facts] : Prop :=
  ∀ (m : (ℓ : Loc Cert.AuKernel.nD Cert.AuKernel.τ Cert.AuKernel.sig) → Buf (Elt Bits) ℓ) (g : Dev Cert.AuKernel.nD → PrngReg), Pre_AuKernel m →
    θ_run (Cert.AuKernel.defs (F := Bits)) (onTc (τ := Cert.AuKernel.τ) (Cert.AuKernel.main (F := Bits))) ⟨m, fun _ => 0, g⟩ (fun r => (∀ c : Dev Cert.AuKernel.nD,
      r.2.mem ((c.tc : Thread Cert.AuKernel.nD Cert.AuKernel.τ).loc Cert.AuKernel.main_arg0) = m ((c.tc : Thread Cert.AuKernel.nD Cert.AuKernel.τ).loc Cert.AuKernel.main_arg0)
      ∧ r.2.mem ((c.tc : Thread Cert.AuKernel.nD Cert.AuKernel.τ).loc Cert.AuKernel.main_arg1) = m ((c.tc : Thread Cert.AuKernel.nD Cert.AuKernel.τ).loc Cert.AuKernel.main_arg1)
      ∧ r.2.mem ((c.tc : Thread Cert.AuKernel.nD Cert.AuKernel.τ).loc Cert.AuKernel.main_arg2) = m ((c.tc : Thread Cert.AuKernel.nD Cert.AuKernel.τ).loc Cert.AuKernel.main_arg2)
      ∧ r.2.mem ((c.tc : Thread Cert.AuKernel.nD Cert.AuKernel.τ).loc Cert.AuKernel.main_arg3) = m ((c.tc : Thread Cert.AuKernel.nD Cert.AuKernel.τ).loc Cert.AuKernel.main_arg3)
      ∧ r.2.mem ((c.tc : Thread Cert.AuKernel.nD Cert.AuKernel.τ).loc Cert.AuKernel.main_arg4) = m ((c.tc : Thread Cert.AuKernel.nD Cert.AuKernel.τ).loc Cert.AuKernel.main_arg4))
      ∧ r.2.sem = fun _ => 0)

def quiescent_AuKernelIdeal [hAuKernelIdeal : Cert.AuKernelIdeal.Facts] : Prop :=
  ∀ (m : (ℓ : Loc Cert.AuKernelIdeal.nD Cert.AuKernelIdeal.τ Cert.AuKernelIdeal.sig) → Buf (Elt Ideal) ℓ) (g : Dev Cert.AuKernelIdeal.nD → PrngReg), Pre_AuKernelIdeal m →
    θ_run (Cert.AuKernelIdeal.defs (F := Ideal)) (onTc (τ := Cert.AuKernelIdeal.τ) (Cert.AuKernelIdeal.main (F := Ideal))) ⟨m, fun _ => 0, g⟩ (fun r => (∀ c : Dev Cert.AuKernelIdeal.nD,
      r.2.mem ((c.tc : Thread Cert.AuKernelIdeal.nD Cert.AuKernelIdeal.τ).loc Cert.AuKernelIdeal.main_arg0) = m ((c.tc : Thread Cert.AuKernelIdeal.nD Cert.AuKernelIdeal.τ).loc Cert.AuKernelIdeal.main_arg0)
      ∧ r.2.mem ((c.tc : Thread Cert.AuKernelIdeal.nD Cert.AuKernelIdeal.τ).loc Cert.AuKernelIdeal.main_arg1) = m ((c.tc : Thread Cert.AuKernelIdeal.nD Cert.AuKernelIdeal.τ).loc Cert.AuKernelIdeal.main_arg1)
      ∧ r.2.mem ((c.tc : Thread Cert.AuKernelIdeal.nD Cert.AuKernelIdeal.τ).loc Cert.AuKernelIdeal.main_arg2) = m ((c.tc : Thread Cert.AuKernelIdeal.nD Cert.AuKernelIdeal.τ).loc Cert.AuKernelIdeal.main_arg2)
      ∧ r.2.mem ((c.tc : Thread Cert.AuKernelIdeal.nD Cert.AuKernelIdeal.τ).loc Cert.AuKernelIdeal.main_arg3) = m ((c.tc : Thread Cert.AuKernelIdeal.nD Cert.AuKernelIdeal.τ).loc Cert.AuKernelIdeal.main_arg3)
      ∧ r.2.mem ((c.tc : Thread Cert.AuKernelIdeal.nD Cert.AuKernelIdeal.τ).loc Cert.AuKernelIdeal.main_arg4) = m ((c.tc : Thread Cert.AuKernelIdeal.nD Cert.AuKernelIdeal.τ).loc Cert.AuKernelIdeal.main_arg4))
      ∧ r.2.sem = fun _ => 0)

def quiescent_AuReferenceIdeal [hAuReferenceIdeal : Cert.AuReferenceIdeal.Facts] : Prop :=
  ∀ (m : (ℓ : Loc Cert.AuReferenceIdeal.nD Cert.AuReferenceIdeal.τ Cert.AuReferenceIdeal.sig) → Buf (Elt Ideal) ℓ) (g : Dev Cert.AuReferenceIdeal.nD → PrngReg), Pre_AuReferenceIdeal m →
    θ_run (Cert.AuReferenceIdeal.defs (F := Ideal)) (onTc (τ := Cert.AuReferenceIdeal.τ) (Cert.AuReferenceIdeal.main (F := Ideal))) ⟨m, fun _ => 0, g⟩ (fun r => (∀ c : Dev Cert.AuReferenceIdeal.nD,
      r.2.mem ((c.tc : Thread Cert.AuReferenceIdeal.nD Cert.AuReferenceIdeal.τ).loc Cert.AuReferenceIdeal.main_arg0) = m ((c.tc : Thread Cert.AuReferenceIdeal.nD Cert.AuReferenceIdeal.τ).loc Cert.AuReferenceIdeal.main_arg0)
      ∧ r.2.mem ((c.tc : Thread Cert.AuReferenceIdeal.nD Cert.AuReferenceIdeal.τ).loc Cert.AuReferenceIdeal.main_arg1) = m ((c.tc : Thread Cert.AuReferenceIdeal.nD Cert.AuReferenceIdeal.τ).loc Cert.AuReferenceIdeal.main_arg1)
      ∧ r.2.mem ((c.tc : Thread Cert.AuReferenceIdeal.nD Cert.AuReferenceIdeal.τ).loc Cert.AuReferenceIdeal.main_arg2) = m ((c.tc : Thread Cert.AuReferenceIdeal.nD Cert.AuReferenceIdeal.τ).loc Cert.AuReferenceIdeal.main_arg2)
      ∧ r.2.mem ((c.tc : Thread Cert.AuReferenceIdeal.nD Cert.AuReferenceIdeal.τ).loc Cert.AuReferenceIdeal.main_arg3) = m ((c.tc : Thread Cert.AuReferenceIdeal.nD Cert.AuReferenceIdeal.τ).loc Cert.AuReferenceIdeal.main_arg3)
      ∧ r.2.mem ((c.tc : Thread Cert.AuReferenceIdeal.nD Cert.AuReferenceIdeal.τ).loc Cert.AuReferenceIdeal.main_arg4) = m ((c.tc : Thread Cert.AuReferenceIdeal.nD Cert.AuReferenceIdeal.τ).loc Cert.AuReferenceIdeal.main_arg4))
      ∧ r.2.sem = fun _ => 0)

def quiescent_AsKernel [hAsKernel : Cert.AsKernel.Facts] : Prop :=
  ∀ (m : (ℓ : Loc Cert.AsKernel.nD Cert.AsKernel.τ Cert.AsKernel.sig) → Buf (Elt Bits) ℓ) (g : Dev Cert.AsKernel.nD → PrngReg), Pre_AsKernel m →
    θ_run (Cert.AsKernel.defs (F := Bits)) (onTc (τ := Cert.AsKernel.τ) (Cert.AsKernel.main (F := Bits))) ⟨m, fun _ => 0, g⟩ (fun r => (∀ c : Dev Cert.AsKernel.nD,
      r.2.mem ((c.tc : Thread Cert.AsKernel.nD Cert.AsKernel.τ).loc Cert.AsKernel.main_arg0) = m ((c.tc : Thread Cert.AsKernel.nD Cert.AsKernel.τ).loc Cert.AsKernel.main_arg0)
      ∧ r.2.mem ((c.tc : Thread Cert.AsKernel.nD Cert.AsKernel.τ).loc Cert.AsKernel.main_arg1) = m ((c.tc : Thread Cert.AsKernel.nD Cert.AsKernel.τ).loc Cert.AsKernel.main_arg1)
      ∧ r.2.mem ((c.tc : Thread Cert.AsKernel.nD Cert.AsKernel.τ).loc Cert.AsKernel.main_arg2) = m ((c.tc : Thread Cert.AsKernel.nD Cert.AsKernel.τ).loc Cert.AsKernel.main_arg2)
      ∧ r.2.mem ((c.tc : Thread Cert.AsKernel.nD Cert.AsKernel.τ).loc Cert.AsKernel.main_arg3) = m ((c.tc : Thread Cert.AsKernel.nD Cert.AsKernel.τ).loc Cert.AsKernel.main_arg3)
      ∧ r.2.mem ((c.tc : Thread Cert.AsKernel.nD Cert.AsKernel.τ).loc Cert.AsKernel.main_arg4) = m ((c.tc : Thread Cert.AsKernel.nD Cert.AsKernel.τ).loc Cert.AsKernel.main_arg4))
      ∧ r.2.sem = fun _ => 0)

def quiescent_AsKernelIdeal [hAsKernelIdeal : Cert.AsKernelIdeal.Facts] : Prop :=
  ∀ (m : (ℓ : Loc Cert.AsKernelIdeal.nD Cert.AsKernelIdeal.τ Cert.AsKernelIdeal.sig) → Buf (Elt Ideal) ℓ) (g : Dev Cert.AsKernelIdeal.nD → PrngReg), Pre_AsKernelIdeal m →
    θ_run (Cert.AsKernelIdeal.defs (F := Ideal)) (onTc (τ := Cert.AsKernelIdeal.τ) (Cert.AsKernelIdeal.main (F := Ideal))) ⟨m, fun _ => 0, g⟩ (fun r => (∀ c : Dev Cert.AsKernelIdeal.nD,
      r.2.mem ((c.tc : Thread Cert.AsKernelIdeal.nD Cert.AsKernelIdeal.τ).loc Cert.AsKernelIdeal.main_arg0) = m ((c.tc : Thread Cert.AsKernelIdeal.nD Cert.AsKernelIdeal.τ).loc Cert.AsKernelIdeal.main_arg0)
      ∧ r.2.mem ((c.tc : Thread Cert.AsKernelIdeal.nD Cert.AsKernelIdeal.τ).loc Cert.AsKernelIdeal.main_arg1) = m ((c.tc : Thread Cert.AsKernelIdeal.nD Cert.AsKernelIdeal.τ).loc Cert.AsKernelIdeal.main_arg1)
      ∧ r.2.mem ((c.tc : Thread Cert.AsKernelIdeal.nD Cert.AsKernelIdeal.τ).loc Cert.AsKernelIdeal.main_arg2) = m ((c.tc : Thread Cert.AsKernelIdeal.nD Cert.AsKernelIdeal.τ).loc Cert.AsKernelIdeal.main_arg2)
      ∧ r.2.mem ((c.tc : Thread Cert.AsKernelIdeal.nD Cert.AsKernelIdeal.τ).loc Cert.AsKernelIdeal.main_arg3) = m ((c.tc : Thread Cert.AsKernelIdeal.nD Cert.AsKernelIdeal.τ).loc Cert.AsKernelIdeal.main_arg3)
      ∧ r.2.mem ((c.tc : Thread Cert.AsKernelIdeal.nD Cert.AsKernelIdeal.τ).loc Cert.AsKernelIdeal.main_arg4) = m ((c.tc : Thread Cert.AsKernelIdeal.nD Cert.AsKernelIdeal.τ).loc Cert.AsKernelIdeal.main_arg4))
      ∧ r.2.sem = fun _ => 0)

def quiescent_AsReferenceIdeal [hAsReferenceIdeal : Cert.AsReferenceIdeal.Facts] : Prop :=
  ∀ (m : (ℓ : Loc Cert.AsReferenceIdeal.nD Cert.AsReferenceIdeal.τ Cert.AsReferenceIdeal.sig) → Buf (Elt Ideal) ℓ) (g : Dev Cert.AsReferenceIdeal.nD → PrngReg), Pre_AsReferenceIdeal m →
    θ_run (Cert.AsReferenceIdeal.defs (F := Ideal)) (onTc (τ := Cert.AsReferenceIdeal.τ) (Cert.AsReferenceIdeal.main (F := Ideal))) ⟨m, fun _ => 0, g⟩ (fun r => (∀ c : Dev Cert.AsReferenceIdeal.nD,
      r.2.mem ((c.tc : Thread Cert.AsReferenceIdeal.nD Cert.AsReferenceIdeal.τ).loc Cert.AsReferenceIdeal.main_arg0) = m ((c.tc : Thread Cert.AsReferenceIdeal.nD Cert.AsReferenceIdeal.τ).loc Cert.AsReferenceIdeal.main_arg0)
      ∧ r.2.mem ((c.tc : Thread Cert.AsReferenceIdeal.nD Cert.AsReferenceIdeal.τ).loc Cert.AsReferenceIdeal.main_arg1) = m ((c.tc : Thread Cert.AsReferenceIdeal.nD Cert.AsReferenceIdeal.τ).loc Cert.AsReferenceIdeal.main_arg1)
      ∧ r.2.mem ((c.tc : Thread Cert.AsReferenceIdeal.nD Cert.AsReferenceIdeal.τ).loc Cert.AsReferenceIdeal.main_arg2) = m ((c.tc : Thread Cert.AsReferenceIdeal.nD Cert.AsReferenceIdeal.τ).loc Cert.AsReferenceIdeal.main_arg2)
      ∧ r.2.mem ((c.tc : Thread Cert.AsReferenceIdeal.nD Cert.AsReferenceIdeal.τ).loc Cert.AsReferenceIdeal.main_arg3) = m ((c.tc : Thread Cert.AsReferenceIdeal.nD Cert.AsReferenceIdeal.τ).loc Cert.AsReferenceIdeal.main_arg3)
      ∧ r.2.mem ((c.tc : Thread Cert.AsReferenceIdeal.nD Cert.AsReferenceIdeal.τ).loc Cert.AsReferenceIdeal.main_arg4) = m ((c.tc : Thread Cert.AsReferenceIdeal.nD Cert.AsReferenceIdeal.τ).loc Cert.AsReferenceIdeal.main_arg4))
      ∧ r.2.sem = fun _ => 0)

def quiescent_AmKernel [hAmKernel : Cert.AmKernel.Facts] : Prop :=
  ∀ (m : (ℓ : Loc Cert.AmKernel.nD Cert.AmKernel.τ Cert.AmKernel.sig) → Buf (Elt Bits) ℓ) (g : Dev Cert.AmKernel.nD → PrngReg), Pre_AmKernel m →
    θ_run (Cert.AmKernel.defs (F := Bits)) (onTc (τ := Cert.AmKernel.τ) (Cert.AmKernel.main (F := Bits))) ⟨m, fun _ => 0, g⟩ (fun r => (∀ c : Dev Cert.AmKernel.nD,
      r.2.mem ((c.tc : Thread Cert.AmKernel.nD Cert.AmKernel.τ).loc Cert.AmKernel.main_arg0) = m ((c.tc : Thread Cert.AmKernel.nD Cert.AmKernel.τ).loc Cert.AmKernel.main_arg0)
      ∧ r.2.mem ((c.tc : Thread Cert.AmKernel.nD Cert.AmKernel.τ).loc Cert.AmKernel.main_arg1) = m ((c.tc : Thread Cert.AmKernel.nD Cert.AmKernel.τ).loc Cert.AmKernel.main_arg1)
      ∧ r.2.mem ((c.tc : Thread Cert.AmKernel.nD Cert.AmKernel.τ).loc Cert.AmKernel.main_arg2) = m ((c.tc : Thread Cert.AmKernel.nD Cert.AmKernel.τ).loc Cert.AmKernel.main_arg2)
      ∧ r.2.mem ((c.tc : Thread Cert.AmKernel.nD Cert.AmKernel.τ).loc Cert.AmKernel.main_arg3) = m ((c.tc : Thread Cert.AmKernel.nD Cert.AmKernel.τ).loc Cert.AmKernel.main_arg3)
      ∧ r.2.mem ((c.tc : Thread Cert.AmKernel.nD Cert.AmKernel.τ).loc Cert.AmKernel.main_arg4) = m ((c.tc : Thread Cert.AmKernel.nD Cert.AmKernel.τ).loc Cert.AmKernel.main_arg4))
      ∧ r.2.sem = fun _ => 0)

def quiescent_AmKernelIdeal [hAmKernelIdeal : Cert.AmKernelIdeal.Facts] : Prop :=
  ∀ (m : (ℓ : Loc Cert.AmKernelIdeal.nD Cert.AmKernelIdeal.τ Cert.AmKernelIdeal.sig) → Buf (Elt Ideal) ℓ) (g : Dev Cert.AmKernelIdeal.nD → PrngReg), Pre_AmKernelIdeal m →
    θ_run (Cert.AmKernelIdeal.defs (F := Ideal)) (onTc (τ := Cert.AmKernelIdeal.τ) (Cert.AmKernelIdeal.main (F := Ideal))) ⟨m, fun _ => 0, g⟩ (fun r => (∀ c : Dev Cert.AmKernelIdeal.nD,
      r.2.mem ((c.tc : Thread Cert.AmKernelIdeal.nD Cert.AmKernelIdeal.τ).loc Cert.AmKernelIdeal.main_arg0) = m ((c.tc : Thread Cert.AmKernelIdeal.nD Cert.AmKernelIdeal.τ).loc Cert.AmKernelIdeal.main_arg0)
      ∧ r.2.mem ((c.tc : Thread Cert.AmKernelIdeal.nD Cert.AmKernelIdeal.τ).loc Cert.AmKernelIdeal.main_arg1) = m ((c.tc : Thread Cert.AmKernelIdeal.nD Cert.AmKernelIdeal.τ).loc Cert.AmKernelIdeal.main_arg1)
      ∧ r.2.mem ((c.tc : Thread Cert.AmKernelIdeal.nD Cert.AmKernelIdeal.τ).loc Cert.AmKernelIdeal.main_arg2) = m ((c.tc : Thread Cert.AmKernelIdeal.nD Cert.AmKernelIdeal.τ).loc Cert.AmKernelIdeal.main_arg2)
      ∧ r.2.mem ((c.tc : Thread Cert.AmKernelIdeal.nD Cert.AmKernelIdeal.τ).loc Cert.AmKernelIdeal.main_arg3) = m ((c.tc : Thread Cert.AmKernelIdeal.nD Cert.AmKernelIdeal.τ).loc Cert.AmKernelIdeal.main_arg3)
      ∧ r.2.mem ((c.tc : Thread Cert.AmKernelIdeal.nD Cert.AmKernelIdeal.τ).loc Cert.AmKernelIdeal.main_arg4) = m ((c.tc : Thread Cert.AmKernelIdeal.nD Cert.AmKernelIdeal.τ).loc Cert.AmKernelIdeal.main_arg4))
      ∧ r.2.sem = fun _ => 0)

def quiescent_AmReferenceIdeal [hAmReferenceIdeal : Cert.AmReferenceIdeal.Facts] : Prop :=
  ∀ (m : (ℓ : Loc Cert.AmReferenceIdeal.nD Cert.AmReferenceIdeal.τ Cert.AmReferenceIdeal.sig) → Buf (Elt Ideal) ℓ) (g : Dev Cert.AmReferenceIdeal.nD → PrngReg), Pre_AmReferenceIdeal m →
    θ_run (Cert.AmReferenceIdeal.defs (F := Ideal)) (onTc (τ := Cert.AmReferenceIdeal.τ) (Cert.AmReferenceIdeal.main (F := Ideal))) ⟨m, fun _ => 0, g⟩ (fun r => (∀ c : Dev Cert.AmReferenceIdeal.nD,
      r.2.mem ((c.tc : Thread Cert.AmReferenceIdeal.nD Cert.AmReferenceIdeal.τ).loc Cert.AmReferenceIdeal.main_arg0) = m ((c.tc : Thread Cert.AmReferenceIdeal.nD Cert.AmReferenceIdeal.τ).loc Cert.AmReferenceIdeal.main_arg0)
      ∧ r.2.mem ((c.tc : Thread Cert.AmReferenceIdeal.nD Cert.AmReferenceIdeal.τ).loc Cert.AmReferenceIdeal.main_arg1) = m ((c.tc : Thread Cert.AmReferenceIdeal.nD Cert.AmReferenceIdeal.τ).loc Cert.AmReferenceIdeal.main_arg1)
      ∧ r.2.mem ((c.tc : Thread Cert.AmReferenceIdeal.nD Cert.AmReferenceIdeal.τ).loc Cert.AmReferenceIdeal.main_arg2) = m ((c.tc : Thread Cert.AmReferenceIdeal.nD Cert.AmReferenceIdeal.τ).loc Cert.AmReferenceIdeal.main_arg2)
      ∧ r.2.mem ((c.tc : Thread Cert.AmReferenceIdeal.nD Cert.AmReferenceIdeal.τ).loc Cert.AmReferenceIdeal.main_arg3) = m ((c.tc : Thread Cert.AmReferenceIdeal.nD Cert.AmReferenceIdeal.τ).loc Cert.AmReferenceIdeal.main_arg3)
      ∧ r.2.mem ((c.tc : Thread Cert.AmReferenceIdeal.nD Cert.AmReferenceIdeal.τ).loc Cert.AmReferenceIdeal.main_arg4) = m ((c.tc : Thread Cert.AmReferenceIdeal.nD Cert.AmReferenceIdeal.τ).loc Cert.AmReferenceIdeal.main_arg4))
      ∧ r.2.sem = fun _ => 0)

def quiescent_AoKernel [hAoKernel : Cert.AoKernel.Facts] : Prop :=
  ∀ (m : (ℓ : Loc Cert.AoKernel.nD Cert.AoKernel.τ Cert.AoKernel.sig) → Buf (Elt Bits) ℓ) (g : Dev Cert.AoKernel.nD → PrngReg), Pre_AoKernel m →
    θ_run (Cert.AoKernel.defs (F := Bits)) (onTc (τ := Cert.AoKernel.τ) (Cert.AoKernel.main (F := Bits))) ⟨m, fun _ => 0, g⟩ (fun r => (∀ c : Dev Cert.AoKernel.nD,
      r.2.mem ((c.tc : Thread Cert.AoKernel.nD Cert.AoKernel.τ).loc Cert.AoKernel.main_arg0) = m ((c.tc : Thread Cert.AoKernel.nD Cert.AoKernel.τ).loc Cert.AoKernel.main_arg0)
      ∧ r.2.mem ((c.tc : Thread Cert.AoKernel.nD Cert.AoKernel.τ).loc Cert.AoKernel.main_arg1) = m ((c.tc : Thread Cert.AoKernel.nD Cert.AoKernel.τ).loc Cert.AoKernel.main_arg1)
      ∧ r.2.mem ((c.tc : Thread Cert.AoKernel.nD Cert.AoKernel.τ).loc Cert.AoKernel.main_arg2) = m ((c.tc : Thread Cert.AoKernel.nD Cert.AoKernel.τ).loc Cert.AoKernel.main_arg2)
      ∧ r.2.mem ((c.tc : Thread Cert.AoKernel.nD Cert.AoKernel.τ).loc Cert.AoKernel.main_arg3) = m ((c.tc : Thread Cert.AoKernel.nD Cert.AoKernel.τ).loc Cert.AoKernel.main_arg3)
      ∧ r.2.mem ((c.tc : Thread Cert.AoKernel.nD Cert.AoKernel.τ).loc Cert.AoKernel.main_arg4) = m ((c.tc : Thread Cert.AoKernel.nD Cert.AoKernel.τ).loc Cert.AoKernel.main_arg4))
      ∧ r.2.sem = fun _ => 0)

def quiescent_AoKernelIdeal [hAoKernelIdeal : Cert.AoKernelIdeal.Facts] : Prop :=
  ∀ (m : (ℓ : Loc Cert.AoKernelIdeal.nD Cert.AoKernelIdeal.τ Cert.AoKernelIdeal.sig) → Buf (Elt Ideal) ℓ) (g : Dev Cert.AoKernelIdeal.nD → PrngReg), Pre_AoKernelIdeal m →
    θ_run (Cert.AoKernelIdeal.defs (F := Ideal)) (onTc (τ := Cert.AoKernelIdeal.τ) (Cert.AoKernelIdeal.main (F := Ideal))) ⟨m, fun _ => 0, g⟩ (fun r => (∀ c : Dev Cert.AoKernelIdeal.nD,
      r.2.mem ((c.tc : Thread Cert.AoKernelIdeal.nD Cert.AoKernelIdeal.τ).loc Cert.AoKernelIdeal.main_arg0) = m ((c.tc : Thread Cert.AoKernelIdeal.nD Cert.AoKernelIdeal.τ).loc Cert.AoKernelIdeal.main_arg0)
      ∧ r.2.mem ((c.tc : Thread Cert.AoKernelIdeal.nD Cert.AoKernelIdeal.τ).loc Cert.AoKernelIdeal.main_arg1) = m ((c.tc : Thread Cert.AoKernelIdeal.nD Cert.AoKernelIdeal.τ).loc Cert.AoKernelIdeal.main_arg1)
      ∧ r.2.mem ((c.tc : Thread Cert.AoKernelIdeal.nD Cert.AoKernelIdeal.τ).loc Cert.AoKernelIdeal.main_arg2) = m ((c.tc : Thread Cert.AoKernelIdeal.nD Cert.AoKernelIdeal.τ).loc Cert.AoKernelIdeal.main_arg2)
      ∧ r.2.mem ((c.tc : Thread Cert.AoKernelIdeal.nD Cert.AoKernelIdeal.τ).loc Cert.AoKernelIdeal.main_arg3) = m ((c.tc : Thread Cert.AoKernelIdeal.nD Cert.AoKernelIdeal.τ).loc Cert.AoKernelIdeal.main_arg3)
      ∧ r.2.mem ((c.tc : Thread Cert.AoKernelIdeal.nD Cert.AoKernelIdeal.τ).loc Cert.AoKernelIdeal.main_arg4) = m ((c.tc : Thread Cert.AoKernelIdeal.nD Cert.AoKernelIdeal.τ).loc Cert.AoKernelIdeal.main_arg4))
      ∧ r.2.sem = fun _ => 0)

def quiescent_AoReferenceIdeal [hAoReferenceIdeal : Cert.AoReferenceIdeal.Facts] : Prop :=
  ∀ (m : (ℓ : Loc Cert.AoReferenceIdeal.nD Cert.AoReferenceIdeal.τ Cert.AoReferenceIdeal.sig) → Buf (Elt Ideal) ℓ) (g : Dev Cert.AoReferenceIdeal.nD → PrngReg), Pre_AoReferenceIdeal m →
    θ_run (Cert.AoReferenceIdeal.defs (F := Ideal)) (onTc (τ := Cert.AoReferenceIdeal.τ) (Cert.AoReferenceIdeal.main (F := Ideal))) ⟨m, fun _ => 0, g⟩ (fun r => (∀ c : Dev Cert.AoReferenceIdeal.nD,
      r.2.mem ((c.tc : Thread Cert.AoReferenceIdeal.nD Cert.AoReferenceIdeal.τ).loc Cert.AoReferenceIdeal.main_arg0) = m ((c.tc : Thread Cert.AoReferenceIdeal.nD Cert.AoReferenceIdeal.τ).loc Cert.AoReferenceIdeal.main_arg0)
      ∧ r.2.mem ((c.tc : Thread Cert.AoReferenceIdeal.nD Cert.AoReferenceIdeal.τ).loc Cert.AoReferenceIdeal.main_arg1) = m ((c.tc : Thread Cert.AoReferenceIdeal.nD Cert.AoReferenceIdeal.τ).loc Cert.AoReferenceIdeal.main_arg1)
      ∧ r.2.mem ((c.tc : Thread Cert.AoReferenceIdeal.nD Cert.AoReferenceIdeal.τ).loc Cert.AoReferenceIdeal.main_arg2) = m ((c.tc : Thread Cert.AoReferenceIdeal.nD Cert.AoReferenceIdeal.τ).loc Cert.AoReferenceIdeal.main_arg2)
      ∧ r.2.mem ((c.tc : Thread Cert.AoReferenceIdeal.nD Cert.AoReferenceIdeal.τ).loc Cert.AoReferenceIdeal.main_arg3) = m ((c.tc : Thread Cert.AoReferenceIdeal.nD Cert.AoReferenceIdeal.τ).loc Cert.AoReferenceIdeal.main_arg3)
      ∧ r.2.mem ((c.tc : Thread Cert.AoReferenceIdeal.nD Cert.AoReferenceIdeal.τ).loc Cert.AoReferenceIdeal.main_arg4) = m ((c.tc : Thread Cert.AoReferenceIdeal.nD Cert.AoReferenceIdeal.τ).loc Cert.AoReferenceIdeal.main_arg4))
      ∧ r.2.sem = fun _ => 0)

def quiescent_AqKernel [hAqKernel : Cert.AqKernel.Facts] : Prop :=
  ∀ (m : (ℓ : Loc Cert.AqKernel.nD Cert.AqKernel.τ Cert.AqKernel.sig) → Buf (Elt Bits) ℓ) (g : Dev Cert.AqKernel.nD → PrngReg), Pre_AqKernel m →
    θ_run (Cert.AqKernel.defs (F := Bits)) (onTc (τ := Cert.AqKernel.τ) (Cert.AqKernel.main (F := Bits))) ⟨m, fun _ => 0, g⟩ (fun r => (∀ c : Dev Cert.AqKernel.nD,
      r.2.mem ((c.tc : Thread Cert.AqKernel.nD Cert.AqKernel.τ).loc Cert.AqKernel.main_arg0) = m ((c.tc : Thread Cert.AqKernel.nD Cert.AqKernel.τ).loc Cert.AqKernel.main_arg0)
      ∧ r.2.mem ((c.tc : Thread Cert.AqKernel.nD Cert.AqKernel.τ).loc Cert.AqKernel.main_arg1) = m ((c.tc : Thread Cert.AqKernel.nD Cert.AqKernel.τ).loc Cert.AqKernel.main_arg1)
      ∧ r.2.mem ((c.tc : Thread Cert.AqKernel.nD Cert.AqKernel.τ).loc Cert.AqKernel.main_arg2) = m ((c.tc : Thread Cert.AqKernel.nD Cert.AqKernel.τ).loc Cert.AqKernel.main_arg2)
      ∧ r.2.mem ((c.tc : Thread Cert.AqKernel.nD Cert.AqKernel.τ).loc Cert.AqKernel.main_arg3) = m ((c.tc : Thread Cert.AqKernel.nD Cert.AqKernel.τ).loc Cert.AqKernel.main_arg3)
      ∧ r.2.mem ((c.tc : Thread Cert.AqKernel.nD Cert.AqKernel.τ).loc Cert.AqKernel.main_arg4) = m ((c.tc : Thread Cert.AqKernel.nD Cert.AqKernel.τ).loc Cert.AqKernel.main_arg4))
      ∧ r.2.sem = fun _ => 0)

def quiescent_AqKernelIdeal [hAqKernelIdeal : Cert.AqKernelIdeal.Facts] : Prop :=
  ∀ (m : (ℓ : Loc Cert.AqKernelIdeal.nD Cert.AqKernelIdeal.τ Cert.AqKernelIdeal.sig) → Buf (Elt Ideal) ℓ) (g : Dev Cert.AqKernelIdeal.nD → PrngReg), Pre_AqKernelIdeal m →
    θ_run (Cert.AqKernelIdeal.defs (F := Ideal)) (onTc (τ := Cert.AqKernelIdeal.τ) (Cert.AqKernelIdeal.main (F := Ideal))) ⟨m, fun _ => 0, g⟩ (fun r => (∀ c : Dev Cert.AqKernelIdeal.nD,
      r.2.mem ((c.tc : Thread Cert.AqKernelIdeal.nD Cert.AqKernelIdeal.τ).loc Cert.AqKernelIdeal.main_arg0) = m ((c.tc : Thread Cert.AqKernelIdeal.nD Cert.AqKernelIdeal.τ).loc Cert.AqKernelIdeal.main_arg0)
      ∧ r.2.mem ((c.tc : Thread Cert.AqKernelIdeal.nD Cert.AqKernelIdeal.τ).loc Cert.AqKernelIdeal.main_arg1) = m ((c.tc : Thread Cert.AqKernelIdeal.nD Cert.AqKernelIdeal.τ).loc Cert.AqKernelIdeal.main_arg1)
      ∧ r.2.mem ((c.tc : Thread Cert.AqKernelIdeal.nD Cert.AqKernelIdeal.τ).loc Cert.AqKernelIdeal.main_arg2) = m ((c.tc : Thread Cert.AqKernelIdeal.nD Cert.AqKernelIdeal.τ).loc Cert.AqKernelIdeal.main_arg2)
      ∧ r.2.mem ((c.tc : Thread Cert.AqKernelIdeal.nD Cert.AqKernelIdeal.τ).loc Cert.AqKernelIdeal.main_arg3) = m ((c.tc : Thread Cert.AqKernelIdeal.nD Cert.AqKernelIdeal.τ).loc Cert.AqKernelIdeal.main_arg3)
      ∧ r.2.mem ((c.tc : Thread Cert.AqKernelIdeal.nD Cert.AqKernelIdeal.τ).loc Cert.AqKernelIdeal.main_arg4) = m ((c.tc : Thread Cert.AqKernelIdeal.nD Cert.AqKernelIdeal.τ).loc Cert.AqKernelIdeal.main_arg4))
      ∧ r.2.sem = fun _ => 0)

def quiescent_AqReferenceIdeal [hAqReferenceIdeal : Cert.AqReferenceIdeal.Facts] : Prop :=
  ∀ (m : (ℓ : Loc Cert.AqReferenceIdeal.nD Cert.AqReferenceIdeal.τ Cert.AqReferenceIdeal.sig) → Buf (Elt Ideal) ℓ) (g : Dev Cert.AqReferenceIdeal.nD → PrngReg), Pre_AqReferenceIdeal m →
    θ_run (Cert.AqReferenceIdeal.defs (F := Ideal)) (onTc (τ := Cert.AqReferenceIdeal.τ) (Cert.AqReferenceIdeal.main (F := Ideal))) ⟨m, fun _ => 0, g⟩ (fun r => (∀ c : Dev Cert.AqReferenceIdeal.nD,
      r.2.mem ((c.tc : Thread Cert.AqReferenceIdeal.nD Cert.AqReferenceIdeal.τ).loc Cert.AqReferenceIdeal.main_arg0) = m ((c.tc : Thread Cert.AqReferenceIdeal.nD Cert.AqReferenceIdeal.τ).loc Cert.AqReferenceIdeal.main_arg0)
      ∧ r.2.mem ((c.tc : Thread Cert.AqReferenceIdeal.nD Cert.AqReferenceIdeal.τ).loc Cert.AqReferenceIdeal.main_arg1) = m ((c.tc : Thread Cert.AqReferenceIdeal.nD Cert.AqReferenceIdeal.τ).loc Cert.AqReferenceIdeal.main_arg1)
      ∧ r.2.mem ((c.tc : Thread Cert.AqReferenceIdeal.nD Cert.AqReferenceIdeal.τ).loc Cert.AqReferenceIdeal.main_arg2) = m ((c.tc : Thread Cert.AqReferenceIdeal.nD Cert.AqReferenceIdeal.τ).loc Cert.AqReferenceIdeal.main_arg2)
      ∧ r.2.mem ((c.tc : Thread Cert.AqReferenceIdeal.nD Cert.AqReferenceIdeal.τ).loc Cert.AqReferenceIdeal.main_arg3) = m ((c.tc : Thread Cert.AqReferenceIdeal.nD Cert.AqReferenceIdeal.τ).loc Cert.AqReferenceIdeal.main_arg3)
      ∧ r.2.mem ((c.tc : Thread Cert.AqReferenceIdeal.nD Cert.AqReferenceIdeal.τ).loc Cert.AqReferenceIdeal.main_arg4) = m ((c.tc : Thread Cert.AqReferenceIdeal.nD Cert.AqReferenceIdeal.τ).loc Cert.AqReferenceIdeal.main_arg4))
      ∧ r.2.sem = fun _ => 0)

def quiescent_AxKernel [hAxKernel : Cert.AxKernel.Facts] : Prop :=
  ∀ (m : (ℓ : Loc Cert.AxKernel.nD Cert.AxKernel.τ Cert.AxKernel.sig) → Buf (Elt Bits) ℓ) (g : Dev Cert.AxKernel.nD → PrngReg), Pre_AxKernel m →
    θ_run (Cert.AxKernel.defs (F := Bits)) (onTc (τ := Cert.AxKernel.τ) (Cert.AxKernel.main (F := Bits))) ⟨m, fun _ => 0, g⟩ (fun r => (∀ c : Dev Cert.AxKernel.nD,
      r.2.mem ((c.tc : Thread Cert.AxKernel.nD Cert.AxKernel.τ).loc Cert.AxKernel.main_arg0) = m ((c.tc : Thread Cert.AxKernel.nD Cert.AxKernel.τ).loc Cert.AxKernel.main_arg0)
      ∧ r.2.mem ((c.tc : Thread Cert.AxKernel.nD Cert.AxKernel.τ).loc Cert.AxKernel.main_arg1) = m ((c.tc : Thread Cert.AxKernel.nD Cert.AxKernel.τ).loc Cert.AxKernel.main_arg1)
      ∧ r.2.mem ((c.tc : Thread Cert.AxKernel.nD Cert.AxKernel.τ).loc Cert.AxKernel.main_arg2) = m ((c.tc : Thread Cert.AxKernel.nD Cert.AxKernel.τ).loc Cert.AxKernel.main_arg2)
      ∧ r.2.mem ((c.tc : Thread Cert.AxKernel.nD Cert.AxKernel.τ).loc Cert.AxKernel.main_arg3) = m ((c.tc : Thread Cert.AxKernel.nD Cert.AxKernel.τ).loc Cert.AxKernel.main_arg3)
      ∧ r.2.mem ((c.tc : Thread Cert.AxKernel.nD Cert.AxKernel.τ).loc Cert.AxKernel.main_arg4) = m ((c.tc : Thread Cert.AxKernel.nD Cert.AxKernel.τ).loc Cert.AxKernel.main_arg4))
      ∧ r.2.sem = fun _ => 0)

def quiescent_AxKernelIdeal [hAxKernelIdeal : Cert.AxKernelIdeal.Facts] : Prop :=
  ∀ (m : (ℓ : Loc Cert.AxKernelIdeal.nD Cert.AxKernelIdeal.τ Cert.AxKernelIdeal.sig) → Buf (Elt Ideal) ℓ) (g : Dev Cert.AxKernelIdeal.nD → PrngReg), Pre_AxKernelIdeal m →
    θ_run (Cert.AxKernelIdeal.defs (F := Ideal)) (onTc (τ := Cert.AxKernelIdeal.τ) (Cert.AxKernelIdeal.main (F := Ideal))) ⟨m, fun _ => 0, g⟩ (fun r => (∀ c : Dev Cert.AxKernelIdeal.nD,
      r.2.mem ((c.tc : Thread Cert.AxKernelIdeal.nD Cert.AxKernelIdeal.τ).loc Cert.AxKernelIdeal.main_arg0) = m ((c.tc : Thread Cert.AxKernelIdeal.nD Cert.AxKernelIdeal.τ).loc Cert.AxKernelIdeal.main_arg0)
      ∧ r.2.mem ((c.tc : Thread Cert.AxKernelIdeal.nD Cert.AxKernelIdeal.τ).loc Cert.AxKernelIdeal.main_arg1) = m ((c.tc : Thread Cert.AxKernelIdeal.nD Cert.AxKernelIdeal.τ).loc Cert.AxKernelIdeal.main_arg1)
      ∧ r.2.mem ((c.tc : Thread Cert.AxKernelIdeal.nD Cert.AxKernelIdeal.τ).loc Cert.AxKernelIdeal.main_arg2) = m ((c.tc : Thread Cert.AxKernelIdeal.nD Cert.AxKernelIdeal.τ).loc Cert.AxKernelIdeal.main_arg2)
      ∧ r.2.mem ((c.tc : Thread Cert.AxKernelIdeal.nD Cert.AxKernelIdeal.τ).loc Cert.AxKernelIdeal.main_arg3) = m ((c.tc : Thread Cert.AxKernelIdeal.nD Cert.AxKernelIdeal.τ).loc Cert.AxKernelIdeal.main_arg3)
      ∧ r.2.mem ((c.tc : Thread Cert.AxKernelIdeal.nD Cert.AxKernelIdeal.τ).loc Cert.AxKernelIdeal.main_arg4) = m ((c.tc : Thread Cert.AxKernelIdeal.nD Cert.AxKernelIdeal.τ).loc Cert.AxKernelIdeal.main_arg4))
      ∧ r.2.sem = fun _ => 0)

def quiescent_AxReferenceIdeal [hAxReferenceIdeal : Cert.AxReferenceIdeal.Facts] : Prop :=
  ∀ (m : (ℓ : Loc Cert.AxReferenceIdeal.nD Cert.AxReferenceIdeal.τ Cert.AxReferenceIdeal.sig) → Buf (Elt Ideal) ℓ) (g : Dev Cert.AxReferenceIdeal.nD → PrngReg), Pre_AxReferenceIdeal m →
    θ_run (Cert.AxReferenceIdeal.defs (F := Ideal)) (onTc (τ := Cert.AxReferenceIdeal.τ) (Cert.AxReferenceIdeal.main (F := Ideal))) ⟨m, fun _ => 0, g⟩ (fun r => (∀ c : Dev Cert.AxReferenceIdeal.nD,
      r.2.mem ((c.tc : Thread Cert.AxReferenceIdeal.nD Cert.AxReferenceIdeal.τ).loc Cert.AxReferenceIdeal.main_arg0) = m ((c.tc : Thread Cert.AxReferenceIdeal.nD Cert.AxReferenceIdeal.τ).loc Cert.AxReferenceIdeal.main_arg0)
      ∧ r.2.mem ((c.tc : Thread Cert.AxReferenceIdeal.nD Cert.AxReferenceIdeal.τ).loc Cert.AxReferenceIdeal.main_arg1) = m ((c.tc : Thread Cert.AxReferenceIdeal.nD Cert.AxReferenceIdeal.τ).loc Cert.AxReferenceIdeal.main_arg1)
      ∧ r.2.mem ((c.tc : Thread Cert.AxReferenceIdeal.nD Cert.AxReferenceIdeal.τ).loc Cert.AxReferenceIdeal.main_arg2) = m ((c.tc : Thread Cert.AxReferenceIdeal.nD Cert.AxReferenceIdeal.τ).loc Cert.AxReferenceIdeal.main_arg2)
      ∧ r.2.mem ((c.tc : Thread Cert.AxReferenceIdeal.nD Cert.AxReferenceIdeal.τ).loc Cert.AxReferenceIdeal.main_arg3) = m ((c.tc : Thread Cert.AxReferenceIdeal.nD Cert.AxReferenceIdeal.τ).loc Cert.AxReferenceIdeal.main_arg3)
      ∧ r.2.mem ((c.tc : Thread Cert.AxReferenceIdeal.nD Cert.AxReferenceIdeal.τ).loc Cert.AxReferenceIdeal.main_arg4) = m ((c.tc : Thread Cert.AxReferenceIdeal.nD Cert.AxReferenceIdeal.τ).loc Cert.AxReferenceIdeal.main_arg4))
      ∧ r.2.sem = fun _ => 0)

def quiescent_CkvKernel [hCkvKernel : Cert.CkvKernel.Facts] : Prop :=
  ∀ (m : (ℓ : Loc Cert.CkvKernel.nD Cert.CkvKernel.τ Cert.CkvKernel.sig) → Buf (Elt Bits) ℓ) (g : Dev Cert.CkvKernel.nD → PrngReg), Pre_CkvKernel m →
    θ_run (Cert.CkvKernel.defs (F := Bits)) (onTc (τ := Cert.CkvKernel.τ) (Cert.CkvKernel.main (F := Bits))) ⟨m, fun _ => 0, g⟩ (fun r => (∀ c : Dev Cert.CkvKernel.nD,
      r.2.mem ((c.tc : Thread Cert.CkvKernel.nD Cert.CkvKernel.τ).loc Cert.CkvKernel.main_arg0) = m ((c.tc : Thread Cert.CkvKernel.nD Cert.CkvKernel.τ).loc Cert.CkvKernel.main_arg0)
      ∧ r.2.mem ((c.tc : Thread Cert.CkvKernel.nD Cert.CkvKernel.τ).loc Cert.CkvKernel.main_arg1) = m ((c.tc : Thread Cert.CkvKernel.nD Cert.CkvKernel.τ).loc Cert.CkvKernel.main_arg1))
      ∧ r.2.sem = fun _ => 0)

def quiescent_CkvKernelIdeal [hCkvKernelIdeal : Cert.CkvKernelIdeal.Facts] : Prop :=
  ∀ (m : (ℓ : Loc Cert.CkvKernelIdeal.nD Cert.CkvKernelIdeal.τ Cert.CkvKernelIdeal.sig) → Buf (Elt Ideal) ℓ) (g : Dev Cert.CkvKernelIdeal.nD → PrngReg), Pre_CkvKernelIdeal m →
    θ_run (Cert.CkvKernelIdeal.defs (F := Ideal)) (onTc (τ := Cert.CkvKernelIdeal.τ) (Cert.CkvKernelIdeal.main (F := Ideal))) ⟨m, fun _ => 0, g⟩ (fun r => (∀ c : Dev Cert.CkvKernelIdeal.nD,
      r.2.mem ((c.tc : Thread Cert.CkvKernelIdeal.nD Cert.CkvKernelIdeal.τ).loc Cert.CkvKernelIdeal.main_arg0) = m ((c.tc : Thread Cert.CkvKernelIdeal.nD Cert.CkvKernelIdeal.τ).loc Cert.CkvKernelIdeal.main_arg0)
      ∧ r.2.mem ((c.tc : Thread Cert.CkvKernelIdeal.nD Cert.CkvKernelIdeal.τ).loc Cert.CkvKernelIdeal.main_arg1) = m ((c.tc : Thread Cert.CkvKernelIdeal.nD Cert.CkvKernelIdeal.τ).loc Cert.CkvKernelIdeal.main_arg1))
      ∧ r.2.sem = fun _ => 0)

def quiescent_CkvReferenceIdeal [hCkvReferenceIdeal : Cert.CkvReferenceIdeal.Facts] : Prop :=
  ∀ (m : (ℓ : Loc Cert.CkvReferenceIdeal.nD Cert.CkvReferenceIdeal.τ Cert.CkvReferenceIdeal.sig) → Buf (Elt Ideal) ℓ) (g : Dev Cert.CkvReferenceIdeal.nD → PrngReg), Pre_CkvReferenceIdeal m →
    θ_run (Cert.CkvReferenceIdeal.defs (F := Ideal)) (onTc (τ := Cert.CkvReferenceIdeal.τ) (Cert.CkvReferenceIdeal.main (F := Ideal))) ⟨m, fun _ => 0, g⟩ (fun r => (∀ c : Dev Cert.CkvReferenceIdeal.nD,
      r.2.mem ((c.tc : Thread Cert.CkvReferenceIdeal.nD Cert.CkvReferenceIdeal.τ).loc Cert.CkvReferenceIdeal.main_arg0) = m ((c.tc : Thread Cert.CkvReferenceIdeal.nD Cert.CkvReferenceIdeal.τ).loc Cert.CkvReferenceIdeal.main_arg0)
      ∧ r.2.mem ((c.tc : Thread Cert.CkvReferenceIdeal.nD Cert.CkvReferenceIdeal.τ).loc Cert.CkvReferenceIdeal.main_arg1) = m ((c.tc : Thread Cert.CkvReferenceIdeal.nD Cert.CkvReferenceIdeal.τ).loc Cert.CkvReferenceIdeal.main_arg1))
      ∧ r.2.sem = fun _ => 0)

def quiescent_DwkvKernel [hDwkvKernel : Cert.DwkvKernel.Facts] : Prop :=
  ∀ (m : (ℓ : Loc Cert.DwkvKernel.nD Cert.DwkvKernel.τ Cert.DwkvKernel.sig) → Buf (Elt Bits) ℓ) (g : Dev Cert.DwkvKernel.nD → PrngReg), Pre_DwkvKernel m →
    θ_run (Cert.DwkvKernel.defs (F := Bits)) (onTc (τ := Cert.DwkvKernel.τ) (Cert.DwkvKernel.main (F := Bits))) ⟨m, fun _ => 0, g⟩ (fun r => (∀ c : Dev Cert.DwkvKernel.nD,
      r.2.mem ((c.tc : Thread Cert.DwkvKernel.nD Cert.DwkvKernel.τ).loc Cert.DwkvKernel.main_arg0) = m ((c.tc : Thread Cert.DwkvKernel.nD Cert.DwkvKernel.τ).loc Cert.DwkvKernel.main_arg0)
      ∧ r.2.mem ((c.tc : Thread Cert.DwkvKernel.nD Cert.DwkvKernel.τ).loc Cert.DwkvKernel.main_arg1) = m ((c.tc : Thread Cert.DwkvKernel.nD Cert.DwkvKernel.τ).loc Cert.DwkvKernel.main_arg1))
      ∧ r.2.sem = fun _ => 0)

def quiescent_DwkvKernelIdeal [hDwkvKernelIdeal : Cert.DwkvKernelIdeal.Facts] : Prop :=
  ∀ (m : (ℓ : Loc Cert.DwkvKernelIdeal.nD Cert.DwkvKernelIdeal.τ Cert.DwkvKernelIdeal.sig) → Buf (Elt Ideal) ℓ) (g : Dev Cert.DwkvKernelIdeal.nD → PrngReg), Pre_DwkvKernelIdeal m →
    θ_run (Cert.DwkvKernelIdeal.defs (F := Ideal)) (onTc (τ := Cert.DwkvKernelIdeal.τ) (Cert.DwkvKernelIdeal.main (F := Ideal))) ⟨m, fun _ => 0, g⟩ (fun r => (∀ c : Dev Cert.DwkvKernelIdeal.nD,
      r.2.mem ((c.tc : Thread Cert.DwkvKernelIdeal.nD Cert.DwkvKernelIdeal.τ).loc Cert.DwkvKernelIdeal.main_arg0) = m ((c.tc : Thread Cert.DwkvKernelIdeal.nD Cert.DwkvKernelIdeal.τ).loc Cert.DwkvKernelIdeal.main_arg0)
      ∧ r.2.mem ((c.tc : Thread Cert.DwkvKernelIdeal.nD Cert.DwkvKernelIdeal.τ).loc Cert.DwkvKernelIdeal.main_arg1) = m ((c.tc : Thread Cert.DwkvKernelIdeal.nD Cert.DwkvKernelIdeal.τ).loc Cert.DwkvKernelIdeal.main_arg1))
      ∧ r.2.sem = fun _ => 0)

def quiescent_DwkvReferenceIdeal [hDwkvReferenceIdeal : Cert.DwkvReferenceIdeal.Facts] : Prop :=
  ∀ (m : (ℓ : Loc Cert.DwkvReferenceIdeal.nD Cert.DwkvReferenceIdeal.τ Cert.DwkvReferenceIdeal.sig) → Buf (Elt Ideal) ℓ) (g : Dev Cert.DwkvReferenceIdeal.nD → PrngReg), Pre_DwkvReferenceIdeal m →
    θ_run (Cert.DwkvReferenceIdeal.defs (F := Ideal)) (onTc (τ := Cert.DwkvReferenceIdeal.τ) (Cert.DwkvReferenceIdeal.main (F := Ideal))) ⟨m, fun _ => 0, g⟩ (fun r => (∀ c : Dev Cert.DwkvReferenceIdeal.nD,
      r.2.mem ((c.tc : Thread Cert.DwkvReferenceIdeal.nD Cert.DwkvReferenceIdeal.τ).loc Cert.DwkvReferenceIdeal.main_arg0) = m ((c.tc : Thread Cert.DwkvReferenceIdeal.nD Cert.DwkvReferenceIdeal.τ).loc Cert.DwkvReferenceIdeal.main_arg0)
      ∧ r.2.mem ((c.tc : Thread Cert.DwkvReferenceIdeal.nD Cert.DwkvReferenceIdeal.τ).loc Cert.DwkvReferenceIdeal.main_arg1) = m ((c.tc : Thread Cert.DwkvReferenceIdeal.nD Cert.DwkvReferenceIdeal.τ).loc Cert.DwkvReferenceIdeal.main_arg1))
      ∧ r.2.sem = fun _ => 0)

def quiescent_DmemKernel [hDmemKernel : Cert.DmemKernel.Facts] : Prop :=
  ∀ (m : (ℓ : Loc Cert.DmemKernel.nD Cert.DmemKernel.τ Cert.DmemKernel.sig) → Buf (Elt Bits) ℓ) (g : Dev Cert.DmemKernel.nD → PrngReg), Pre_DmemKernel m →
    θ_run (Cert.DmemKernel.defs (F := Bits)) (onTc (τ := Cert.DmemKernel.τ) (Cert.DmemKernel.main (F := Bits))) ⟨m, fun _ => 0, g⟩ (fun r => (∀ c : Dev Cert.DmemKernel.nD,
      r.2.mem ((c.tc : Thread Cert.DmemKernel.nD Cert.DmemKernel.τ).loc Cert.DmemKernel.main_arg0) = m ((c.tc : Thread Cert.DmemKernel.nD Cert.DmemKernel.τ).loc Cert.DmemKernel.main_arg0)
      ∧ r.2.mem ((c.tc : Thread Cert.DmemKernel.nD Cert.DmemKernel.τ).loc Cert.DmemKernel.main_arg1) = m ((c.tc : Thread Cert.DmemKernel.nD Cert.DmemKernel.τ).loc Cert.DmemKernel.main_arg1))
      ∧ r.2.sem = fun _ => 0)

def quiescent_DmemKernelIdeal [hDmemKernelIdeal : Cert.DmemKernelIdeal.Facts] : Prop :=
  ∀ (m : (ℓ : Loc Cert.DmemKernelIdeal.nD Cert.DmemKernelIdeal.τ Cert.DmemKernelIdeal.sig) → Buf (Elt Ideal) ℓ) (g : Dev Cert.DmemKernelIdeal.nD → PrngReg), Pre_DmemKernelIdeal m →
    θ_run (Cert.DmemKernelIdeal.defs (F := Ideal)) (onTc (τ := Cert.DmemKernelIdeal.τ) (Cert.DmemKernelIdeal.main (F := Ideal))) ⟨m, fun _ => 0, g⟩ (fun r => (∀ c : Dev Cert.DmemKernelIdeal.nD,
      r.2.mem ((c.tc : Thread Cert.DmemKernelIdeal.nD Cert.DmemKernelIdeal.τ).loc Cert.DmemKernelIdeal.main_arg0) = m ((c.tc : Thread Cert.DmemKernelIdeal.nD Cert.DmemKernelIdeal.τ).loc Cert.DmemKernelIdeal.main_arg0)
      ∧ r.2.mem ((c.tc : Thread Cert.DmemKernelIdeal.nD Cert.DmemKernelIdeal.τ).loc Cert.DmemKernelIdeal.main_arg1) = m ((c.tc : Thread Cert.DmemKernelIdeal.nD Cert.DmemKernelIdeal.τ).loc Cert.DmemKernelIdeal.main_arg1))
      ∧ r.2.sem = fun _ => 0)

def quiescent_DmemReferenceIdeal [hDmemReferenceIdeal : Cert.DmemReferenceIdeal.Facts] : Prop :=
  ∀ (m : (ℓ : Loc Cert.DmemReferenceIdeal.nD Cert.DmemReferenceIdeal.τ Cert.DmemReferenceIdeal.sig) → Buf (Elt Ideal) ℓ) (g : Dev Cert.DmemReferenceIdeal.nD → PrngReg), Pre_DmemReferenceIdeal m →
    θ_run (Cert.DmemReferenceIdeal.defs (F := Ideal)) (onTc (τ := Cert.DmemReferenceIdeal.τ) (Cert.DmemReferenceIdeal.main (F := Ideal))) ⟨m, fun _ => 0, g⟩ (fun r => (∀ c : Dev Cert.DmemReferenceIdeal.nD,
      r.2.mem ((c.tc : Thread Cert.DmemReferenceIdeal.nD Cert.DmemReferenceIdeal.τ).loc Cert.DmemReferenceIdeal.main_arg0) = m ((c.tc : Thread Cert.DmemReferenceIdeal.nD Cert.DmemReferenceIdeal.τ).loc Cert.DmemReferenceIdeal.main_arg0)
      ∧ r.2.mem ((c.tc : Thread Cert.DmemReferenceIdeal.nD Cert.DmemReferenceIdeal.τ).loc Cert.DmemReferenceIdeal.main_arg1) = m ((c.tc : Thread Cert.DmemReferenceIdeal.nD Cert.DmemReferenceIdeal.τ).loc Cert.DmemReferenceIdeal.main_arg1))
      ∧ r.2.sem = fun _ => 0)

def quiescent_Dh2Kernel [hDh2Kernel : Cert.Dh2Kernel.Facts] : Prop :=
  ∀ (m : (ℓ : Loc Cert.Dh2Kernel.nD Cert.Dh2Kernel.τ Cert.Dh2Kernel.sig) → Buf (Elt Bits) ℓ) (g : Dev Cert.Dh2Kernel.nD → PrngReg), Pre_Dh2Kernel m →
    θ_run (Cert.Dh2Kernel.defs (F := Bits)) (onTc (τ := Cert.Dh2Kernel.τ) (Cert.Dh2Kernel.main (F := Bits))) ⟨m, fun _ => 0, g⟩ (fun r => (∀ c : Dev Cert.Dh2Kernel.nD,
      r.2.mem ((c.tc : Thread Cert.Dh2Kernel.nD Cert.Dh2Kernel.τ).loc Cert.Dh2Kernel.main_arg0) = m ((c.tc : Thread Cert.Dh2Kernel.nD Cert.Dh2Kernel.τ).loc Cert.Dh2Kernel.main_arg0)
      ∧ r.2.mem ((c.tc : Thread Cert.Dh2Kernel.nD Cert.Dh2Kernel.τ).loc Cert.Dh2Kernel.main_arg1) = m ((c.tc : Thread Cert.Dh2Kernel.nD Cert.Dh2Kernel.τ).loc Cert.Dh2Kernel.main_arg1)
      ∧ r.2.mem ((c.tc : Thread Cert.Dh2Kernel.nD Cert.Dh2Kernel.τ).loc Cert.Dh2Kernel.main_arg2) = m ((c.tc : Thread Cert.Dh2Kernel.nD Cert.Dh2Kernel.τ).loc Cert.Dh2Kernel.main_arg2)
      ∧ r.2.mem ((c.tc : Thread Cert.Dh2Kernel.nD Cert.Dh2Kernel.τ).loc Cert.Dh2Kernel.main_arg3) = m ((c.tc : Thread Cert.Dh2Kernel.nD Cert.Dh2Kernel.τ).loc Cert.Dh2Kernel.main_arg3)
      ∧ r.2.mem ((c.tc : Thread Cert.Dh2Kernel.nD Cert.Dh2Kernel.τ).loc Cert.Dh2Kernel.main_arg4) = m ((c.tc : Thread Cert.Dh2Kernel.nD Cert.Dh2Kernel.τ).loc Cert.Dh2Kernel.main_arg4))
      ∧ r.2.sem = fun _ => 0)

def quiescent_Dh2KernelIdeal [hDh2KernelIdeal : Cert.Dh2KernelIdeal.Facts] : Prop :=
  ∀ (m : (ℓ : Loc Cert.Dh2KernelIdeal.nD Cert.Dh2KernelIdeal.τ Cert.Dh2KernelIdeal.sig) → Buf (Elt Ideal) ℓ) (g : Dev Cert.Dh2KernelIdeal.nD → PrngReg), Pre_Dh2KernelIdeal m →
    θ_run (Cert.Dh2KernelIdeal.defs (F := Ideal)) (onTc (τ := Cert.Dh2KernelIdeal.τ) (Cert.Dh2KernelIdeal.main (F := Ideal))) ⟨m, fun _ => 0, g⟩ (fun r => (∀ c : Dev Cert.Dh2KernelIdeal.nD,
      r.2.mem ((c.tc : Thread Cert.Dh2KernelIdeal.nD Cert.Dh2KernelIdeal.τ).loc Cert.Dh2KernelIdeal.main_arg0) = m ((c.tc : Thread Cert.Dh2KernelIdeal.nD Cert.Dh2KernelIdeal.τ).loc Cert.Dh2KernelIdeal.main_arg0)
      ∧ r.2.mem ((c.tc : Thread Cert.Dh2KernelIdeal.nD Cert.Dh2KernelIdeal.τ).loc Cert.Dh2KernelIdeal.main_arg1) = m ((c.tc : Thread Cert.Dh2KernelIdeal.nD Cert.Dh2KernelIdeal.τ).loc Cert.Dh2KernelIdeal.main_arg1)
      ∧ r.2.mem ((c.tc : Thread Cert.Dh2KernelIdeal.nD Cert.Dh2KernelIdeal.τ).loc Cert.Dh2KernelIdeal.main_arg2) = m ((c.tc : Thread Cert.Dh2KernelIdeal.nD Cert.Dh2KernelIdeal.τ).loc Cert.Dh2KernelIdeal.main_arg2)
      ∧ r.2.mem ((c.tc : Thread Cert.Dh2KernelIdeal.nD Cert.Dh2KernelIdeal.τ).loc Cert.Dh2KernelIdeal.main_arg3) = m ((c.tc : Thread Cert.Dh2KernelIdeal.nD Cert.Dh2KernelIdeal.τ).loc Cert.Dh2KernelIdeal.main_arg3)
      ∧ r.2.mem ((c.tc : Thread Cert.Dh2KernelIdeal.nD Cert.Dh2KernelIdeal.τ).loc Cert.Dh2KernelIdeal.main_arg4) = m ((c.tc : Thread Cert.Dh2KernelIdeal.nD Cert.Dh2KernelIdeal.τ).loc Cert.Dh2KernelIdeal.main_arg4))
      ∧ r.2.sem = fun _ => 0)

def quiescent_Dh2ReferenceIdeal [hDh2ReferenceIdeal : Cert.Dh2ReferenceIdeal.Facts] : Prop :=
  ∀ (m : (ℓ : Loc Cert.Dh2ReferenceIdeal.nD Cert.Dh2ReferenceIdeal.τ Cert.Dh2ReferenceIdeal.sig) → Buf (Elt Ideal) ℓ) (g : Dev Cert.Dh2ReferenceIdeal.nD → PrngReg), Pre_Dh2ReferenceIdeal m →
    θ_run (Cert.Dh2ReferenceIdeal.defs (F := Ideal)) (onTc (τ := Cert.Dh2ReferenceIdeal.τ) (Cert.Dh2ReferenceIdeal.main (F := Ideal))) ⟨m, fun _ => 0, g⟩ (fun r => (∀ c : Dev Cert.Dh2ReferenceIdeal.nD,
      r.2.mem ((c.tc : Thread Cert.Dh2ReferenceIdeal.nD Cert.Dh2ReferenceIdeal.τ).loc Cert.Dh2ReferenceIdeal.main_arg0) = m ((c.tc : Thread Cert.Dh2ReferenceIdeal.nD Cert.Dh2ReferenceIdeal.τ).loc Cert.Dh2ReferenceIdeal.main_arg0)
      ∧ r.2.mem ((c.tc : Thread Cert.Dh2ReferenceIdeal.nD Cert.Dh2ReferenceIdeal.τ).loc Cert.Dh2ReferenceIdeal.main_arg1) = m ((c.tc : Thread Cert.Dh2ReferenceIdeal.nD Cert.Dh2ReferenceIdeal.τ).loc Cert.Dh2ReferenceIdeal.main_arg1)
      ∧ r.2.mem ((c.tc : Thread Cert.Dh2ReferenceIdeal.nD Cert.Dh2ReferenceIdeal.τ).loc Cert.Dh2ReferenceIdeal.main_arg2) = m ((c.tc : Thread Cert.Dh2ReferenceIdeal.nD Cert.Dh2ReferenceIdeal.τ).loc Cert.Dh2ReferenceIdeal.main_arg2)
      ∧ r.2.mem ((c.tc : Thread Cert.Dh2ReferenceIdeal.nD Cert.Dh2ReferenceIdeal.τ).loc Cert.Dh2ReferenceIdeal.main_arg3) = m ((c.tc : Thread Cert.Dh2ReferenceIdeal.nD Cert.Dh2ReferenceIdeal.τ).loc Cert.Dh2ReferenceIdeal.main_arg3)
      ∧ r.2.mem ((c.tc : Thread Cert.Dh2ReferenceIdeal.nD Cert.Dh2ReferenceIdeal.τ).loc Cert.Dh2ReferenceIdeal.main_arg4) = m ((c.tc : Thread Cert.Dh2ReferenceIdeal.nD Cert.Dh2ReferenceIdeal.τ).loc Cert.Dh2ReferenceIdeal.main_arg4))
      ∧ r.2.sem = fun _ => 0)

def quiescent_FmKernel [hFmKernel : Cert.FmKernel.Facts] : Prop :=
  ∀ (m : (ℓ : Loc Cert.FmKernel.nD Cert.FmKernel.τ Cert.FmKernel.sig) → Buf (Elt Bits) ℓ) (g : Dev Cert.FmKernel.nD → PrngReg), Pre_FmKernel m →
    θ_run (Cert.FmKernel.defs (F := Bits)) (onTc (τ := Cert.FmKernel.τ) (Cert.FmKernel.main (F := Bits))) ⟨m, fun _ => 0, g⟩ (fun r => (∀ c : Dev Cert.FmKernel.nD,
      r.2.mem ((c.tc : Thread Cert.FmKernel.nD Cert.FmKernel.τ).loc Cert.FmKernel.main_arg0) = m ((c.tc : Thread Cert.FmKernel.nD Cert.FmKernel.τ).loc Cert.FmKernel.main_arg0)
      ∧ r.2.mem ((c.tc : Thread Cert.FmKernel.nD Cert.FmKernel.τ).loc Cert.FmKernel.main_arg1) = m ((c.tc : Thread Cert.FmKernel.nD Cert.FmKernel.τ).loc Cert.FmKernel.main_arg1))
      ∧ r.2.sem = fun _ => 0)

def quiescent_FmKernelIdeal [hFmKernelIdeal : Cert.FmKernelIdeal.Facts] : Prop :=
  ∀ (m : (ℓ : Loc Cert.FmKernelIdeal.nD Cert.FmKernelIdeal.τ Cert.FmKernelIdeal.sig) → Buf (Elt Ideal) ℓ) (g : Dev Cert.FmKernelIdeal.nD → PrngReg), Pre_FmKernelIdeal m →
    θ_run (Cert.FmKernelIdeal.defs (F := Ideal)) (onTc (τ := Cert.FmKernelIdeal.τ) (Cert.FmKernelIdeal.main (F := Ideal))) ⟨m, fun _ => 0, g⟩ (fun r => (∀ c : Dev Cert.FmKernelIdeal.nD,
      r.2.mem ((c.tc : Thread Cert.FmKernelIdeal.nD Cert.FmKernelIdeal.τ).loc Cert.FmKernelIdeal.main_arg0) = m ((c.tc : Thread Cert.FmKernelIdeal.nD Cert.FmKernelIdeal.τ).loc Cert.FmKernelIdeal.main_arg0)
      ∧ r.2.mem ((c.tc : Thread Cert.FmKernelIdeal.nD Cert.FmKernelIdeal.τ).loc Cert.FmKernelIdeal.main_arg1) = m ((c.tc : Thread Cert.FmKernelIdeal.nD Cert.FmKernelIdeal.τ).loc Cert.FmKernelIdeal.main_arg1))
      ∧ r.2.sem = fun _ => 0)

def quiescent_FmReferenceIdeal [hFmReferenceIdeal : Cert.FmReferenceIdeal.Facts] : Prop :=
  ∀ (m : (ℓ : Loc Cert.FmReferenceIdeal.nD Cert.FmReferenceIdeal.τ Cert.FmReferenceIdeal.sig) → Buf (Elt Ideal) ℓ) (g : Dev Cert.FmReferenceIdeal.nD → PrngReg), Pre_FmReferenceIdeal m →
    θ_run (Cert.FmReferenceIdeal.defs (F := Ideal)) (onTc (τ := Cert.FmReferenceIdeal.τ) (Cert.FmReferenceIdeal.main (F := Ideal))) ⟨m, fun _ => 0, g⟩ (fun r => (∀ c : Dev Cert.FmReferenceIdeal.nD,
      r.2.mem ((c.tc : Thread Cert.FmReferenceIdeal.nD Cert.FmReferenceIdeal.τ).loc Cert.FmReferenceIdeal.main_arg0) = m ((c.tc : Thread Cert.FmReferenceIdeal.nD Cert.FmReferenceIdeal.τ).loc Cert.FmReferenceIdeal.main_arg0)
      ∧ r.2.mem ((c.tc : Thread Cert.FmReferenceIdeal.nD Cert.FmReferenceIdeal.τ).loc Cert.FmReferenceIdeal.main_arg1) = m ((c.tc : Thread Cert.FmReferenceIdeal.nD Cert.FmReferenceIdeal.τ).loc Cert.FmReferenceIdeal.main_arg1))
      ∧ r.2.sem = fun _ => 0)

def quiescent_FpKernel [hFpKernel : Cert.FpKernel.Facts] : Prop :=
  ∀ (m : (ℓ : Loc Cert.FpKernel.nD Cert.FpKernel.τ Cert.FpKernel.sig) → Buf (Elt Bits) ℓ) (g : Dev Cert.FpKernel.nD → PrngReg), Pre_FpKernel m →
    θ_run (Cert.FpKernel.defs (F := Bits)) (onTc (τ := Cert.FpKernel.τ) (Cert.FpKernel.main (F := Bits))) ⟨m, fun _ => 0, g⟩ (fun r => (∀ c : Dev Cert.FpKernel.nD,
      r.2.mem ((c.tc : Thread Cert.FpKernel.nD Cert.FpKernel.τ).loc Cert.FpKernel.main_arg0) = m ((c.tc : Thread Cert.FpKernel.nD Cert.FpKernel.τ).loc Cert.FpKernel.main_arg0)
      ∧ r.2.mem ((c.tc : Thread Cert.FpKernel.nD Cert.FpKernel.τ).loc Cert.FpKernel.main_arg1) = m ((c.tc : Thread Cert.FpKernel.nD Cert.FpKernel.τ).loc Cert.FpKernel.main_arg1))
      ∧ r.2.sem = fun _ => 0)

def quiescent_FpKernelIdeal [hFpKernelIdeal : Cert.FpKernelIdeal.Facts] : Prop :=
  ∀ (m : (ℓ : Loc Cert.FpKernelIdeal.nD Cert.FpKernelIdeal.τ Cert.FpKernelIdeal.sig) → Buf (Elt Ideal) ℓ) (g : Dev Cert.FpKernelIdeal.nD → PrngReg), Pre_FpKernelIdeal m →
    θ_run (Cert.FpKernelIdeal.defs (F := Ideal)) (onTc (τ := Cert.FpKernelIdeal.τ) (Cert.FpKernelIdeal.main (F := Ideal))) ⟨m, fun _ => 0, g⟩ (fun r => (∀ c : Dev Cert.FpKernelIdeal.nD,
      r.2.mem ((c.tc : Thread Cert.FpKernelIdeal.nD Cert.FpKernelIdeal.τ).loc Cert.FpKernelIdeal.main_arg0) = m ((c.tc : Thread Cert.FpKernelIdeal.nD Cert.FpKernelIdeal.τ).loc Cert.FpKernelIdeal.main_arg0)
      ∧ r.2.mem ((c.tc : Thread Cert.FpKernelIdeal.nD Cert.FpKernelIdeal.τ).loc Cert.FpKernelIdeal.main_arg1) = m ((c.tc : Thread Cert.FpKernelIdeal.nD Cert.FpKernelIdeal.τ).loc Cert.FpKernelIdeal.main_arg1))
      ∧ r.2.sem = fun _ => 0)

def quiescent_FpReferenceIdeal [hFpReferenceIdeal : Cert.FpReferenceIdeal.Facts] : Prop :=
  ∀ (m : (ℓ : Loc Cert.FpReferenceIdeal.nD Cert.FpReferenceIdeal.τ Cert.FpReferenceIdeal.sig) → Buf (Elt Ideal) ℓ) (g : Dev Cert.FpReferenceIdeal.nD → PrngReg), Pre_FpReferenceIdeal m →
    θ_run (Cert.FpReferenceIdeal.defs (F := Ideal)) (onTc (τ := Cert.FpReferenceIdeal.τ) (Cert.FpReferenceIdeal.main (F := Ideal))) ⟨m, fun _ => 0, g⟩ (fun r => (∀ c : Dev Cert.FpReferenceIdeal.nD,
      r.2.mem ((c.tc : Thread Cert.FpReferenceIdeal.nD Cert.FpReferenceIdeal.τ).loc Cert.FpReferenceIdeal.main_arg0) = m ((c.tc : Thread Cert.FpReferenceIdeal.nD Cert.FpReferenceIdeal.τ).loc Cert.FpReferenceIdeal.main_arg0)
      ∧ r.2.mem ((c.tc : Thread Cert.FpReferenceIdeal.nD Cert.FpReferenceIdeal.τ).loc Cert.FpReferenceIdeal.main_arg1) = m ((c.tc : Thread Cert.FpReferenceIdeal.nD Cert.FpReferenceIdeal.τ).loc Cert.FpReferenceIdeal.main_arg1))
      ∧ r.2.sem = fun _ => 0)

def quiescent_RmemKernel [hRmemKernel : Cert.RmemKernel.Facts] : Prop :=
  ∀ (m : (ℓ : Loc Cert.RmemKernel.nD Cert.RmemKernel.τ Cert.RmemKernel.sig) → Buf (Elt Bits) ℓ) (g : Dev Cert.RmemKernel.nD → PrngReg), Pre_RmemKernel m →
    θ_run (Cert.RmemKernel.defs (F := Bits)) (onTc (τ := Cert.RmemKernel.τ) (Cert.RmemKernel.main (F := Bits))) ⟨m, fun _ => 0, g⟩ (fun r => (∀ c : Dev Cert.RmemKernel.nD,
      r.2.mem ((c.tc : Thread Cert.RmemKernel.nD Cert.RmemKernel.τ).loc Cert.RmemKernel.main_arg0) = m ((c.tc : Thread Cert.RmemKernel.nD Cert.RmemKernel.τ).loc Cert.RmemKernel.main_arg0)
      ∧ r.2.mem ((c.tc : Thread Cert.RmemKernel.nD Cert.RmemKernel.τ).loc Cert.RmemKernel.main_arg1) = m ((c.tc : Thread Cert.RmemKernel.nD Cert.RmemKernel.τ).loc Cert.RmemKernel.main_arg1)
      ∧ r.2.mem ((c.tc : Thread Cert.RmemKernel.nD Cert.RmemKernel.τ).loc Cert.RmemKernel.main_arg2) = m ((c.tc : Thread Cert.RmemKernel.nD Cert.RmemKernel.τ).loc Cert.RmemKernel.main_arg2))
      ∧ r.2.sem = fun _ => 0)

def quiescent_RmemKernelIdeal [hRmemKernelIdeal : Cert.RmemKernelIdeal.Facts] : Prop :=
  ∀ (m : (ℓ : Loc Cert.RmemKernelIdeal.nD Cert.RmemKernelIdeal.τ Cert.RmemKernelIdeal.sig) → Buf (Elt Ideal) ℓ) (g : Dev Cert.RmemKernelIdeal.nD → PrngReg), Pre_RmemKernelIdeal m →
    θ_run (Cert.RmemKernelIdeal.defs (F := Ideal)) (onTc (τ := Cert.RmemKernelIdeal.τ) (Cert.RmemKernelIdeal.main (F := Ideal))) ⟨m, fun _ => 0, g⟩ (fun r => (∀ c : Dev Cert.RmemKernelIdeal.nD,
      r.2.mem ((c.tc : Thread Cert.RmemKernelIdeal.nD Cert.RmemKernelIdeal.τ).loc Cert.RmemKernelIdeal.main_arg0) = m ((c.tc : Thread Cert.RmemKernelIdeal.nD Cert.RmemKernelIdeal.τ).loc Cert.RmemKernelIdeal.main_arg0)
      ∧ r.2.mem ((c.tc : Thread Cert.RmemKernelIdeal.nD Cert.RmemKernelIdeal.τ).loc Cert.RmemKernelIdeal.main_arg1) = m ((c.tc : Thread Cert.RmemKernelIdeal.nD Cert.RmemKernelIdeal.τ).loc Cert.RmemKernelIdeal.main_arg1)
      ∧ r.2.mem ((c.tc : Thread Cert.RmemKernelIdeal.nD Cert.RmemKernelIdeal.τ).loc Cert.RmemKernelIdeal.main_arg2) = m ((c.tc : Thread Cert.RmemKernelIdeal.nD Cert.RmemKernelIdeal.τ).loc Cert.RmemKernelIdeal.main_arg2))
      ∧ r.2.sem = fun _ => 0)

def quiescent_RmemReferenceIdeal [hRmemReferenceIdeal : Cert.RmemReferenceIdeal.Facts] : Prop :=
  ∀ (m : (ℓ : Loc Cert.RmemReferenceIdeal.nD Cert.RmemReferenceIdeal.τ Cert.RmemReferenceIdeal.sig) → Buf (Elt Ideal) ℓ) (g : Dev Cert.RmemReferenceIdeal.nD → PrngReg), Pre_RmemReferenceIdeal m →
    θ_run (Cert.RmemReferenceIdeal.defs (F := Ideal)) (onTc (τ := Cert.RmemReferenceIdeal.τ) (Cert.RmemReferenceIdeal.main (F := Ideal))) ⟨m, fun _ => 0, g⟩ (fun r => (∀ c : Dev Cert.RmemReferenceIdeal.nD,
      r.2.mem ((c.tc : Thread Cert.RmemReferenceIdeal.nD Cert.RmemReferenceIdeal.τ).loc Cert.RmemReferenceIdeal.main_arg0) = m ((c.tc : Thread Cert.RmemReferenceIdeal.nD Cert.RmemReferenceIdeal.τ).loc Cert.RmemReferenceIdeal.main_arg0)
      ∧ r.2.mem ((c.tc : Thread Cert.RmemReferenceIdeal.nD Cert.RmemReferenceIdeal.τ).loc Cert.RmemReferenceIdeal.main_arg1) = m ((c.tc : Thread Cert.RmemReferenceIdeal.nD Cert.RmemReferenceIdeal.τ).loc Cert.RmemReferenceIdeal.main_arg1)
      ∧ r.2.mem ((c.tc : Thread Cert.RmemReferenceIdeal.nD Cert.RmemReferenceIdeal.τ).loc Cert.RmemReferenceIdeal.main_arg2) = m ((c.tc : Thread Cert.RmemReferenceIdeal.nD Cert.RmemReferenceIdeal.τ).loc Cert.RmemReferenceIdeal.main_arg2))
      ∧ r.2.sem = fun _ => 0)

def quiescent_DlKernel [hDlKernel : Cert.DlKernel.Facts] : Prop :=
  ∀ (m : (ℓ : Loc Cert.DlKernel.nD Cert.DlKernel.τ Cert.DlKernel.sig) → Buf (Elt Bits) ℓ) (g : Dev Cert.DlKernel.nD → PrngReg), Pre_DlKernel m →
    θ_run (Cert.DlKernel.defs (F := Bits)) (onTc (τ := Cert.DlKernel.τ) (Cert.DlKernel.main (F := Bits))) ⟨m, fun _ => 0, g⟩ (fun r => (∀ c : Dev Cert.DlKernel.nD,
      r.2.mem ((c.tc : Thread Cert.DlKernel.nD Cert.DlKernel.τ).loc Cert.DlKernel.main_arg0) = m ((c.tc : Thread Cert.DlKernel.nD Cert.DlKernel.τ).loc Cert.DlKernel.main_arg0)
      ∧ r.2.mem ((c.tc : Thread Cert.DlKernel.nD Cert.DlKernel.τ).loc Cert.DlKernel.main_arg1) = m ((c.tc : Thread Cert.DlKernel.nD Cert.DlKernel.τ).loc Cert.DlKernel.main_arg1)
      ∧ r.2.mem ((c.tc : Thread Cert.DlKernel.nD Cert.DlKernel.τ).loc Cert.DlKernel.main_arg2) = m ((c.tc : Thread Cert.DlKernel.nD Cert.DlKernel.τ).loc Cert.DlKernel.main_arg2)
      ∧ r.2.mem ((c.tc : Thread Cert.DlKernel.nD Cert.DlKernel.τ).loc Cert.DlKernel.main_arg3) = m ((c.tc : Thread Cert.DlKernel.nD Cert.DlKernel.τ).loc Cert.DlKernel.main_arg3))
      ∧ r.2.sem = fun _ => 0)

def quiescent_DlKernelIdeal [hDlKernelIdeal : Cert.DlKernelIdeal.Facts] : Prop :=
  ∀ (m : (ℓ : Loc Cert.DlKernelIdeal.nD Cert.DlKernelIdeal.τ Cert.DlKernelIdeal.sig) → Buf (Elt Ideal) ℓ) (g : Dev Cert.DlKernelIdeal.nD → PrngReg), Pre_DlKernelIdeal m →
    θ_run (Cert.DlKernelIdeal.defs (F := Ideal)) (onTc (τ := Cert.DlKernelIdeal.τ) (Cert.DlKernelIdeal.main (F := Ideal))) ⟨m, fun _ => 0, g⟩ (fun r => (∀ c : Dev Cert.DlKernelIdeal.nD,
      r.2.mem ((c.tc : Thread Cert.DlKernelIdeal.nD Cert.DlKernelIdeal.τ).loc Cert.DlKernelIdeal.main_arg0) = m ((c.tc : Thread Cert.DlKernelIdeal.nD Cert.DlKernelIdeal.τ).loc Cert.DlKernelIdeal.main_arg0)
      ∧ r.2.mem ((c.tc : Thread Cert.DlKernelIdeal.nD Cert.DlKernelIdeal.τ).loc Cert.DlKernelIdeal.main_arg1) = m ((c.tc : Thread Cert.DlKernelIdeal.nD Cert.DlKernelIdeal.τ).loc Cert.DlKernelIdeal.main_arg1)
      ∧ r.2.mem ((c.tc : Thread Cert.DlKernelIdeal.nD Cert.DlKernelIdeal.τ).loc Cert.DlKernelIdeal.main_arg2) = m ((c.tc : Thread Cert.DlKernelIdeal.nD Cert.DlKernelIdeal.τ).loc Cert.DlKernelIdeal.main_arg2)
      ∧ r.2.mem ((c.tc : Thread Cert.DlKernelIdeal.nD Cert.DlKernelIdeal.τ).loc Cert.DlKernelIdeal.main_arg3) = m ((c.tc : Thread Cert.DlKernelIdeal.nD Cert.DlKernelIdeal.τ).loc Cert.DlKernelIdeal.main_arg3))
      ∧ r.2.sem = fun _ => 0)

def quiescent_DlReferenceIdeal [hDlReferenceIdeal : Cert.DlReferenceIdeal.Facts] : Prop :=
  ∀ (m : (ℓ : Loc Cert.DlReferenceIdeal.nD Cert.DlReferenceIdeal.τ Cert.DlReferenceIdeal.sig) → Buf (Elt Ideal) ℓ) (g : Dev Cert.DlReferenceIdeal.nD → PrngReg), Pre_DlReferenceIdeal m →
    θ_run (Cert.DlReferenceIdeal.defs (F := Ideal)) (onTc (τ := Cert.DlReferenceIdeal.τ) (Cert.DlReferenceIdeal.main (F := Ideal))) ⟨m, fun _ => 0, g⟩ (fun r => (∀ c : Dev Cert.DlReferenceIdeal.nD,
      r.2.mem ((c.tc : Thread Cert.DlReferenceIdeal.nD Cert.DlReferenceIdeal.τ).loc Cert.DlReferenceIdeal.main_arg0) = m ((c.tc : Thread Cert.DlReferenceIdeal.nD Cert.DlReferenceIdeal.τ).loc Cert.DlReferenceIdeal.main_arg0)
      ∧ r.2.mem ((c.tc : Thread Cert.DlReferenceIdeal.nD Cert.DlReferenceIdeal.τ).loc Cert.DlReferenceIdeal.main_arg1) = m ((c.tc : Thread Cert.DlReferenceIdeal.nD Cert.DlReferenceIdeal.τ).loc Cert.DlReferenceIdeal.main_arg1)
      ∧ r.2.mem ((c.tc : Thread Cert.DlReferenceIdeal.nD Cert.DlReferenceIdeal.τ).loc Cert.DlReferenceIdeal.main_arg2) = m ((c.tc : Thread Cert.DlReferenceIdeal.nD Cert.DlReferenceIdeal.τ).loc Cert.DlReferenceIdeal.main_arg2)
      ∧ r.2.mem ((c.tc : Thread Cert.DlReferenceIdeal.nD Cert.DlReferenceIdeal.τ).loc Cert.DlReferenceIdeal.main_arg3) = m ((c.tc : Thread Cert.DlReferenceIdeal.nD Cert.DlReferenceIdeal.τ).loc Cert.DlReferenceIdeal.main_arg3))
      ∧ r.2.sem = fun _ => 0)

def quiescent_GluKernel [hGluKernel : Cert.GluKernel.Facts] : Prop :=
  ∀ (m : (ℓ : Loc Cert.GluKernel.nD Cert.GluKernel.τ Cert.GluKernel.sig) → Buf (Elt Bits) ℓ) (g : Dev Cert.GluKernel.nD → PrngReg), Pre_GluKernel m →
    θ_run (Cert.GluKernel.defs (F := Bits)) (onTc (τ := Cert.GluKernel.τ) (Cert.GluKernel.main (F := Bits))) ⟨m, fun _ => 0, g⟩ (fun r => (∀ c : Dev Cert.GluKernel.nD,
      r.2.mem ((c.tc : Thread Cert.GluKernel.nD Cert.GluKernel.τ).loc Cert.GluKernel.main_arg0) = m ((c.tc : Thread Cert.GluKernel.nD Cert.GluKernel.τ).loc Cert.GluKernel.main_arg0)
      ∧ r.2.mem ((c.tc : Thread Cert.GluKernel.nD Cert.GluKernel.τ).loc Cert.GluKernel.main_arg1) = m ((c.tc : Thread Cert.GluKernel.nD Cert.GluKernel.τ).loc Cert.GluKernel.main_arg1)
      ∧ r.2.mem ((c.tc : Thread Cert.GluKernel.nD Cert.GluKernel.τ).loc Cert.GluKernel.main_arg2) = m ((c.tc : Thread Cert.GluKernel.nD Cert.GluKernel.τ).loc Cert.GluKernel.main_arg2))
      ∧ r.2.sem = fun _ => 0)

def quiescent_GluKernelIdeal [hGluKernelIdeal : Cert.GluKernelIdeal.Facts] : Prop :=
  ∀ (m : (ℓ : Loc Cert.GluKernelIdeal.nD Cert.GluKernelIdeal.τ Cert.GluKernelIdeal.sig) → Buf (Elt Ideal) ℓ) (g : Dev Cert.GluKernelIdeal.nD → PrngReg), Pre_GluKernelIdeal m →
    θ_run (Cert.GluKernelIdeal.defs (F := Ideal)) (onTc (τ := Cert.GluKernelIdeal.τ) (Cert.GluKernelIdeal.main (F := Ideal))) ⟨m, fun _ => 0, g⟩ (fun r => (∀ c : Dev Cert.GluKernelIdeal.nD,
      r.2.mem ((c.tc : Thread Cert.GluKernelIdeal.nD Cert.GluKernelIdeal.τ).loc Cert.GluKernelIdeal.main_arg0) = m ((c.tc : Thread Cert.GluKernelIdeal.nD Cert.GluKernelIdeal.τ).loc Cert.GluKernelIdeal.main_arg0)
      ∧ r.2.mem ((c.tc : Thread Cert.GluKernelIdeal.nD Cert.GluKernelIdeal.τ).loc Cert.GluKernelIdeal.main_arg1) = m ((c.tc : Thread Cert.GluKernelIdeal.nD Cert.GluKernelIdeal.τ).loc Cert.GluKernelIdeal.main_arg1)
      ∧ r.2.mem ((c.tc : Thread Cert.GluKernelIdeal.nD Cert.GluKernelIdeal.τ).loc Cert.GluKernelIdeal.main_arg2) = m ((c.tc : Thread Cert.GluKernelIdeal.nD Cert.GluKernelIdeal.τ).loc Cert.GluKernelIdeal.main_arg2))
      ∧ r.2.sem = fun _ => 0)

def quiescent_GluReferenceIdeal [hGluReferenceIdeal : Cert.GluReferenceIdeal.Facts] : Prop :=
  ∀ (m : (ℓ : Loc Cert.GluReferenceIdeal.nD Cert.GluReferenceIdeal.τ Cert.GluReferenceIdeal.sig) → Buf (Elt Ideal) ℓ) (g : Dev Cert.GluReferenceIdeal.nD → PrngReg), Pre_GluReferenceIdeal m →
    θ_run (Cert.GluReferenceIdeal.defs (F := Ideal)) (onTc (τ := Cert.GluReferenceIdeal.τ) (Cert.GluReferenceIdeal.main (F := Ideal))) ⟨m, fun _ => 0, g⟩ (fun r => (∀ c : Dev Cert.GluReferenceIdeal.nD,
      r.2.mem ((c.tc : Thread Cert.GluReferenceIdeal.nD Cert.GluReferenceIdeal.τ).loc Cert.GluReferenceIdeal.main_arg0) = m ((c.tc : Thread Cert.GluReferenceIdeal.nD Cert.GluReferenceIdeal.τ).loc Cert.GluReferenceIdeal.main_arg0)
      ∧ r.2.mem ((c.tc : Thread Cert.GluReferenceIdeal.nD Cert.GluReferenceIdeal.τ).loc Cert.GluReferenceIdeal.main_arg1) = m ((c.tc : Thread Cert.GluReferenceIdeal.nD Cert.GluReferenceIdeal.τ).loc Cert.GluReferenceIdeal.main_arg1)
      ∧ r.2.mem ((c.tc : Thread Cert.GluReferenceIdeal.nD Cert.GluReferenceIdeal.τ).loc Cert.GluReferenceIdeal.main_arg2) = m ((c.tc : Thread Cert.GluReferenceIdeal.nD Cert.GluReferenceIdeal.τ).loc Cert.GluReferenceIdeal.main_arg2))
      ∧ r.2.sem = fun _ => 0)

def quiescent_MixKernel [hMixKernel : Cert.MixKernel.Facts] : Prop :=
  ∀ (m : (ℓ : Loc Cert.MixKernel.nD Cert.MixKernel.τ Cert.MixKernel.sig) → Buf (Elt Bits) ℓ) (g : Dev Cert.MixKernel.nD → PrngReg), Pre_MixKernel m →
    θ_run (Cert.MixKernel.defs (F := Bits)) (onTc (τ := Cert.MixKernel.τ) (Cert.MixKernel.main (F := Bits))) ⟨m, fun _ => 0, g⟩ (fun r => (∀ c : Dev Cert.MixKernel.nD,
      r.2.mem ((c.tc : Thread Cert.MixKernel.nD Cert.MixKernel.τ).loc Cert.MixKernel.main_arg0) = m ((c.tc : Thread Cert.MixKernel.nD Cert.MixKernel.τ).loc Cert.MixKernel.main_arg0)
      ∧ r.2.mem ((c.tc : Thread Cert.MixKernel.nD Cert.MixKernel.τ).loc Cert.MixKernel.main_arg1) = m ((c.tc : Thread Cert.MixKernel.nD Cert.MixKernel.τ).loc Cert.MixKernel.main_arg1)
      ∧ r.2.mem ((c.tc : Thread Cert.MixKernel.nD Cert.MixKernel.τ).loc Cert.MixKernel.main_arg2) = m ((c.tc : Thread Cert.MixKernel.nD Cert.MixKernel.τ).loc Cert.MixKernel.main_arg2)
      ∧ r.2.mem ((c.tc : Thread Cert.MixKernel.nD Cert.MixKernel.τ).loc Cert.MixKernel.main_arg3) = m ((c.tc : Thread Cert.MixKernel.nD Cert.MixKernel.τ).loc Cert.MixKernel.main_arg3)
      ∧ r.2.mem ((c.tc : Thread Cert.MixKernel.nD Cert.MixKernel.τ).loc Cert.MixKernel.main_arg4) = m ((c.tc : Thread Cert.MixKernel.nD Cert.MixKernel.τ).loc Cert.MixKernel.main_arg4)
      ∧ r.2.mem ((c.tc : Thread Cert.MixKernel.nD Cert.MixKernel.τ).loc Cert.MixKernel.main_arg5) = m ((c.tc : Thread Cert.MixKernel.nD Cert.MixKernel.τ).loc Cert.MixKernel.main_arg5))
      ∧ r.2.sem = fun _ => 0)

def quiescent_MixKernelIdeal [hMixKernelIdeal : Cert.MixKernelIdeal.Facts] : Prop :=
  ∀ (m : (ℓ : Loc Cert.MixKernelIdeal.nD Cert.MixKernelIdeal.τ Cert.MixKernelIdeal.sig) → Buf (Elt Ideal) ℓ) (g : Dev Cert.MixKernelIdeal.nD → PrngReg), Pre_MixKernelIdeal m →
    θ_run (Cert.MixKernelIdeal.defs (F := Ideal)) (onTc (τ := Cert.MixKernelIdeal.τ) (Cert.MixKernelIdeal.main (F := Ideal))) ⟨m, fun _ => 0, g⟩ (fun r => (∀ c : Dev Cert.MixKernelIdeal.nD,
      r.2.mem ((c.tc : Thread Cert.MixKernelIdeal.nD Cert.MixKernelIdeal.τ).loc Cert.MixKernelIdeal.main_arg0) = m ((c.tc : Thread Cert.MixKernelIdeal.nD Cert.MixKernelIdeal.τ).loc Cert.MixKernelIdeal.main_arg0)
      ∧ r.2.mem ((c.tc : Thread Cert.MixKernelIdeal.nD Cert.MixKernelIdeal.τ).loc Cert.MixKernelIdeal.main_arg1) = m ((c.tc : Thread Cert.MixKernelIdeal.nD Cert.MixKernelIdeal.τ).loc Cert.MixKernelIdeal.main_arg1)
      ∧ r.2.mem ((c.tc : Thread Cert.MixKernelIdeal.nD Cert.MixKernelIdeal.τ).loc Cert.MixKernelIdeal.main_arg2) = m ((c.tc : Thread Cert.MixKernelIdeal.nD Cert.MixKernelIdeal.τ).loc Cert.MixKernelIdeal.main_arg2)
      ∧ r.2.mem ((c.tc : Thread Cert.MixKernelIdeal.nD Cert.MixKernelIdeal.τ).loc Cert.MixKernelIdeal.main_arg3) = m ((c.tc : Thread Cert.MixKernelIdeal.nD Cert.MixKernelIdeal.τ).loc Cert.MixKernelIdeal.main_arg3)
      ∧ r.2.mem ((c.tc : Thread Cert.MixKernelIdeal.nD Cert.MixKernelIdeal.τ).loc Cert.MixKernelIdeal.main_arg4) = m ((c.tc : Thread Cert.MixKernelIdeal.nD Cert.MixKernelIdeal.τ).loc Cert.MixKernelIdeal.main_arg4)
      ∧ r.2.mem ((c.tc : Thread Cert.MixKernelIdeal.nD Cert.MixKernelIdeal.τ).loc Cert.MixKernelIdeal.main_arg5) = m ((c.tc : Thread Cert.MixKernelIdeal.nD Cert.MixKernelIdeal.τ).loc Cert.MixKernelIdeal.main_arg5))
      ∧ r.2.sem = fun _ => 0)

def quiescent_MixReferenceIdeal [hMixReferenceIdeal : Cert.MixReferenceIdeal.Facts] : Prop :=
  ∀ (m : (ℓ : Loc Cert.MixReferenceIdeal.nD Cert.MixReferenceIdeal.τ Cert.MixReferenceIdeal.sig) → Buf (Elt Ideal) ℓ) (g : Dev Cert.MixReferenceIdeal.nD → PrngReg), Pre_MixReferenceIdeal m →
    θ_run (Cert.MixReferenceIdeal.defs (F := Ideal)) (onTc (τ := Cert.MixReferenceIdeal.τ) (Cert.MixReferenceIdeal.main (F := Ideal))) ⟨m, fun _ => 0, g⟩ (fun r => (∀ c : Dev Cert.MixReferenceIdeal.nD,
      r.2.mem ((c.tc : Thread Cert.MixReferenceIdeal.nD Cert.MixReferenceIdeal.τ).loc Cert.MixReferenceIdeal.main_arg0) = m ((c.tc : Thread Cert.MixReferenceIdeal.nD Cert.MixReferenceIdeal.τ).loc Cert.MixReferenceIdeal.main_arg0)
      ∧ r.2.mem ((c.tc : Thread Cert.MixReferenceIdeal.nD Cert.MixReferenceIdeal.τ).loc Cert.MixReferenceIdeal.main_arg1) = m ((c.tc : Thread Cert.MixReferenceIdeal.nD Cert.MixReferenceIdeal.τ).loc Cert.MixReferenceIdeal.main_arg1)
      ∧ r.2.mem ((c.tc : Thread Cert.MixReferenceIdeal.nD Cert.MixReferenceIdeal.τ).loc Cert.MixReferenceIdeal.main_arg2) = m ((c.tc : Thread Cert.MixReferenceIdeal.nD Cert.MixReferenceIdeal.τ).loc Cert.MixReferenceIdeal.main_arg2)
      ∧ r.2.mem ((c.tc : Thread Cert.MixReferenceIdeal.nD Cert.MixReferenceIdeal.τ).loc Cert.MixReferenceIdeal.main_arg3) = m ((c.tc : Thread Cert.MixReferenceIdeal.nD Cert.MixReferenceIdeal.τ).loc Cert.MixReferenceIdeal.main_arg3)
      ∧ r.2.mem ((c.tc : Thread Cert.MixReferenceIdeal.nD Cert.MixReferenceIdeal.τ).loc Cert.MixReferenceIdeal.main_arg4) = m ((c.tc : Thread Cert.MixReferenceIdeal.nD Cert.MixReferenceIdeal.τ).loc Cert.MixReferenceIdeal.main_arg4)
      ∧ r.2.mem ((c.tc : Thread Cert.MixReferenceIdeal.nD Cert.MixReferenceIdeal.τ).loc Cert.MixReferenceIdeal.main_arg5) = m ((c.tc : Thread Cert.MixReferenceIdeal.nD Cert.MixReferenceIdeal.τ).loc Cert.MixReferenceIdeal.main_arg5))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)) (v3 : (c : Dev Cert.KernelIdeal.nD) → Buf (Elt Ideal) ((c.tc : Thread Cert.KernelIdeal.nD Cert.KernelIdeal.τ).loc Cert.KernelIdeal.main_v0_3)) (v4 : (c : Dev Cert.KernelIdeal.nD) → Buf (Elt Ideal) ((c.tc : Thread Cert.KernelIdeal.nD Cert.KernelIdeal.τ).loc Cert.KernelIdeal.main_v0_4)) (v5 : (c : Dev Cert.KernelIdeal.nD) → Buf (Elt Ideal) ((c.tc : Thread Cert.KernelIdeal.nD Cert.KernelIdeal.τ).loc Cert.KernelIdeal.main_v0_5)) (v6 : (c : Dev Cert.KernelIdeal.nD) → Buf (Elt Ideal) ((c.tc : Thread Cert.KernelIdeal.nD Cert.KernelIdeal.τ).loc Cert.KernelIdeal.main_v0_6)) (v7 : (c : Dev Cert.KernelIdeal.nD) → Buf (Elt Ideal) ((c.tc : Thread Cert.KernelIdeal.nD Cert.KernelIdeal.τ).loc Cert.KernelIdeal.main_v0_7)) (v8 : (c : Dev Cert.KernelIdeal.nD) → Buf (Elt Ideal) ((c.tc : Thread Cert.KernelIdeal.nD Cert.KernelIdeal.τ).loc Cert.KernelIdeal.main_v0_8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_v0_3) = v3 c
          ∧ r.2.mem ((c.tc : Thread Cert.KernelIdeal.nD Cert.KernelIdeal.τ).loc Cert.KernelIdeal.main_v0_4) = v4 c
          ∧ r.2.mem ((c.tc : Thread Cert.KernelIdeal.nD Cert.KernelIdeal.τ).loc Cert.KernelIdeal.main_v0_5) = v5 c
          ∧ r.2.mem ((c.tc : Thread Cert.KernelIdeal.nD Cert.KernelIdeal.τ).loc Cert.KernelIdeal.main_v0_6) = v6 c
          ∧ r.2.mem ((c.tc : Thread Cert.KernelIdeal.nD Cert.KernelIdeal.τ).loc Cert.KernelIdeal.main_v0_7) = v7 c
          ∧ r.2.mem ((c.tc : Thread Cert.KernelIdeal.nD Cert.KernelIdeal.τ).loc Cert.KernelIdeal.main_v0_8) = v8 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v113) = v0 c
          ∧ r.2.mem ((c.tc : Thread Cert.ReferenceIdeal.nD Cert.ReferenceIdeal.τ).loc Cert.ReferenceIdeal.main_v114) = v1 c
          ∧ r.2.mem ((c.tc : Thread Cert.ReferenceIdeal.nD Cert.ReferenceIdeal.τ).loc Cert.ReferenceIdeal.main_v115) = v2 c
          ∧ r.2.mem ((c.tc : Thread Cert.ReferenceIdeal.nD Cert.ReferenceIdeal.τ).loc Cert.ReferenceIdeal.main_v116) = v3 c
          ∧ r.2.mem ((c.tc : Thread Cert.ReferenceIdeal.nD Cert.ReferenceIdeal.τ).loc Cert.ReferenceIdeal.main_v117) = v4 c
          ∧ r.2.mem ((c.tc : Thread Cert.ReferenceIdeal.nD Cert.ReferenceIdeal.τ).loc Cert.ReferenceIdeal.main_v118) = v5 c
          ∧ r.2.mem ((c.tc : Thread Cert.ReferenceIdeal.nD Cert.ReferenceIdeal.τ).loc Cert.ReferenceIdeal.main_v119) = v6 c
          ∧ r.2.mem ((c.tc : Thread Cert.ReferenceIdeal.nD Cert.ReferenceIdeal.τ).loc Cert.ReferenceIdeal.main_v120) = v7 c
          ∧ r.2.mem ((c.tc : Thread Cert.ReferenceIdeal.nD Cert.ReferenceIdeal.τ).loc Cert.ReferenceIdeal.main_v125) = v8 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def preserves_ActKernel_ActKernelIdeal : Prop :=
  True

def algebraic_ActKernelIdeal_ActReferenceIdeal [hActKernelIdeal : Cert.ActKernelIdeal.Facts] [hActReferenceIdeal : Cert.ActReferenceIdeal.Facts] : Prop :=
  ∀ (m : (ℓ : Loc Cert.ActKernelIdeal.nD Cert.ActKernelIdeal.τ Cert.ActKernelIdeal.sig) → Buf (Elt Ideal) ℓ) (g : Dev Cert.ActKernelIdeal.nD → PrngReg)
    (m' : (ℓ : Loc Cert.ActReferenceIdeal.nD Cert.ActReferenceIdeal.τ Cert.ActReferenceIdeal.sig) → Buf (Elt Ideal) ℓ) (g' : Dev Cert.ActReferenceIdeal.nD → PrngReg), Pre_ActKernelIdeal m →
    (∀ c : Dev Cert.ActKernelIdeal.nD,
      m' ((c.tc : Thread Cert.ActReferenceIdeal.nD Cert.ActReferenceIdeal.τ).loc Cert.ActReferenceIdeal.main_arg0) = m ((c.tc : Thread Cert.ActKernelIdeal.nD Cert.ActKernelIdeal.τ).loc Cert.ActKernelIdeal.main_arg0)
      ∧ m' ((c.tc : Thread Cert.ActReferenceIdeal.nD Cert.ActReferenceIdeal.τ).loc Cert.ActReferenceIdeal.main_arg1) = m ((c.tc : Thread Cert.ActKernelIdeal.nD Cert.ActKernelIdeal.τ).loc Cert.ActKernelIdeal.main_arg1)
      ∧ m' ((c.tc : Thread Cert.ActReferenceIdeal.nD Cert.ActReferenceIdeal.τ).loc Cert.ActReferenceIdeal.main_arg2) = m ((c.tc : Thread Cert.ActKernelIdeal.nD Cert.ActKernelIdeal.τ).loc Cert.ActKernelIdeal.main_arg2)) →
    ∃ (v0 : (c : Dev Cert.ActKernelIdeal.nD) → Buf (Elt Ideal) ((c.tc : Thread Cert.ActKernelIdeal.nD Cert.ActKernelIdeal.τ).loc Cert.ActKernelIdeal.main_v0)),
      θ_run (Cert.ActKernelIdeal.defs (F := Ideal)) (onTc (τ := Cert.ActKernelIdeal.τ) (Cert.ActKernelIdeal.main (F := Ideal))) ⟨m, fun _ => 0, g⟩ (fun r => ∀ c : Dev Cert.ActKernelIdeal.nD,
          r.2.mem ((c.tc : Thread Cert.ActKernelIdeal.nD Cert.ActKernelIdeal.τ).loc Cert.ActKernelIdeal.main_v0) = v0 c
          ∧ r.2.mem ((c.tc : Thread Cert.ActKernelIdeal.nD Cert.ActKernelIdeal.τ).loc Cert.ActKernelIdeal.main_arg0) = m ((c.tc : Thread Cert.ActKernelIdeal.nD Cert.ActKernelIdeal.τ).loc Cert.ActKernelIdeal.main_arg0)
          ∧ r.2.mem ((c.tc : Thread Cert.ActKernelIdeal.nD Cert.ActKernelIdeal.τ).loc Cert.ActKernelIdeal.main_arg1) = m ((c.tc : Thread Cert.ActKernelIdeal.nD Cert.ActKernelIdeal.τ).loc Cert.ActKernelIdeal.main_arg1)
          ∧ r.2.mem ((c.tc : Thread Cert.ActKernelIdeal.nD Cert.ActKernelIdeal.τ).loc Cert.ActKernelIdeal.main_arg2) = m ((c.tc : Thread Cert.ActKernelIdeal.nD Cert.ActKernelIdeal.τ).loc Cert.ActKernelIdeal.main_arg2))
      ∧ θ_run (Cert.ActReferenceIdeal.defs (F := Ideal)) (onTc (τ := Cert.ActReferenceIdeal.τ) (Cert.ActReferenceIdeal.main (F := Ideal))) ⟨m', fun _ => 0, g'⟩ (fun r => ∀ c : Dev Cert.ActReferenceIdeal.nD,
          r.2.mem ((c.tc : Thread Cert.ActReferenceIdeal.nD Cert.ActReferenceIdeal.τ).loc Cert.ActReferenceIdeal.main_v14) = v0 c
          ∧ r.2.mem ((c.tc : Thread Cert.ActReferenceIdeal.nD Cert.ActReferenceIdeal.τ).loc Cert.ActReferenceIdeal.main_arg0) = m' ((c.tc : Thread Cert.ActReferenceIdeal.nD Cert.ActReferenceIdeal.τ).loc Cert.ActReferenceIdeal.main_arg0)
          ∧ r.2.mem ((c.tc : Thread Cert.ActReferenceIdeal.nD Cert.ActReferenceIdeal.τ).loc Cert.ActReferenceIdeal.main_arg1) = m' ((c.tc : Thread Cert.ActReferenceIdeal.nD Cert.ActReferenceIdeal.τ).loc Cert.ActReferenceIdeal.main_arg1)
          ∧ r.2.mem ((c.tc : Thread Cert.ActReferenceIdeal.nD Cert.ActReferenceIdeal.τ).loc Cert.ActReferenceIdeal.main_arg2) = m' ((c.tc : Thread Cert.ActReferenceIdeal.nD Cert.ActReferenceIdeal.τ).loc Cert.ActReferenceIdeal.main_arg2))

def preserves_Ff2Kernel_Ff2KernelIdeal : Prop :=
  True

def algebraic_Ff2KernelIdeal_Ff2ReferenceIdeal [hFf2KernelIdeal : Cert.Ff2KernelIdeal.Facts] [hFf2ReferenceIdeal : Cert.Ff2ReferenceIdeal.Facts] : Prop :=
  ∀ (m : (ℓ : Loc Cert.Ff2KernelIdeal.nD Cert.Ff2KernelIdeal.τ Cert.Ff2KernelIdeal.sig) → Buf (Elt Ideal) ℓ) (g : Dev Cert.Ff2KernelIdeal.nD → PrngReg)
    (m' : (ℓ : Loc Cert.Ff2ReferenceIdeal.nD Cert.Ff2ReferenceIdeal.τ Cert.Ff2ReferenceIdeal.sig) → Buf (Elt Ideal) ℓ) (g' : Dev Cert.Ff2ReferenceIdeal.nD → PrngReg), Pre_Ff2KernelIdeal m →
    (∀ c : Dev Cert.Ff2KernelIdeal.nD,
      m' ((c.tc : Thread Cert.Ff2ReferenceIdeal.nD Cert.Ff2ReferenceIdeal.τ).loc Cert.Ff2ReferenceIdeal.main_arg0) = m ((c.tc : Thread Cert.Ff2KernelIdeal.nD Cert.Ff2KernelIdeal.τ).loc Cert.Ff2KernelIdeal.main_arg0)
      ∧ m' ((c.tc : Thread Cert.Ff2ReferenceIdeal.nD Cert.Ff2ReferenceIdeal.τ).loc Cert.Ff2ReferenceIdeal.main_arg1) = m ((c.tc : Thread Cert.Ff2KernelIdeal.nD Cert.Ff2KernelIdeal.τ).loc Cert.Ff2KernelIdeal.main_arg1)) →
    ∃ (v0 : (c : Dev Cert.Ff2KernelIdeal.nD) → Buf (Elt Ideal) ((c.tc : Thread Cert.Ff2KernelIdeal.nD Cert.Ff2KernelIdeal.τ).loc Cert.Ff2KernelIdeal.main_v0)),
      θ_run (Cert.Ff2KernelIdeal.defs (F := Ideal)) (onTc (τ := Cert.Ff2KernelIdeal.τ) (Cert.Ff2KernelIdeal.main (F := Ideal))) ⟨m, fun _ => 0, g⟩ (fun r => ∀ c : Dev Cert.Ff2KernelIdeal.nD,
          r.2.mem ((c.tc : Thread Cert.Ff2KernelIdeal.nD Cert.Ff2KernelIdeal.τ).loc Cert.Ff2KernelIdeal.main_v0) = v0 c
          ∧ r.2.mem ((c.tc : Thread Cert.Ff2KernelIdeal.nD Cert.Ff2KernelIdeal.τ).loc Cert.Ff2KernelIdeal.main_arg0) = m ((c.tc : Thread Cert.Ff2KernelIdeal.nD Cert.Ff2KernelIdeal.τ).loc Cert.Ff2KernelIdeal.main_arg0)
          ∧ r.2.mem ((c.tc : Thread Cert.Ff2KernelIdeal.nD Cert.Ff2KernelIdeal.τ).loc Cert.Ff2KernelIdeal.main_arg1) = m ((c.tc : Thread Cert.Ff2KernelIdeal.nD Cert.Ff2KernelIdeal.τ).loc Cert.Ff2KernelIdeal.main_arg1))
      ∧ θ_run (Cert.Ff2ReferenceIdeal.defs (F := Ideal)) (onTc (τ := Cert.Ff2ReferenceIdeal.τ) (Cert.Ff2ReferenceIdeal.main (F := Ideal))) ⟨m', fun _ => 0, g'⟩ (fun r => ∀ c : Dev Cert.Ff2ReferenceIdeal.nD,
          r.2.mem ((c.tc : Thread Cert.Ff2ReferenceIdeal.nD Cert.Ff2ReferenceIdeal.τ).loc Cert.Ff2ReferenceIdeal.main_v5) = v0 c
          ∧ r.2.mem ((c.tc : Thread Cert.Ff2ReferenceIdeal.nD Cert.Ff2ReferenceIdeal.τ).loc Cert.Ff2ReferenceIdeal.main_arg0) = m' ((c.tc : Thread Cert.Ff2ReferenceIdeal.nD Cert.Ff2ReferenceIdeal.τ).loc Cert.Ff2ReferenceIdeal.main_arg0)
          ∧ r.2.mem ((c.tc : Thread Cert.Ff2ReferenceIdeal.nD Cert.Ff2ReferenceIdeal.τ).loc Cert.Ff2ReferenceIdeal.main_arg1) = m' ((c.tc : Thread Cert.Ff2ReferenceIdeal.nD Cert.Ff2ReferenceIdeal.τ).loc Cert.Ff2ReferenceIdeal.main_arg1))

def preserves_Ff1Kernel_Ff1KernelIdeal : Prop :=
  True

def algebraic_Ff1KernelIdeal_Ff1ReferenceIdeal [hFf1KernelIdeal : Cert.Ff1KernelIdeal.Facts] [hFf1ReferenceIdeal : Cert.Ff1ReferenceIdeal.Facts] : Prop :=
  ∀ (m : (ℓ : Loc Cert.Ff1KernelIdeal.nD Cert.Ff1KernelIdeal.τ Cert.Ff1KernelIdeal.sig) → Buf (Elt Ideal) ℓ) (g : Dev Cert.Ff1KernelIdeal.nD → PrngReg)
    (m' : (ℓ : Loc Cert.Ff1ReferenceIdeal.nD Cert.Ff1ReferenceIdeal.τ Cert.Ff1ReferenceIdeal.sig) → Buf (Elt Ideal) ℓ) (g' : Dev Cert.Ff1ReferenceIdeal.nD → PrngReg), Pre_Ff1KernelIdeal m →
    (∀ c : Dev Cert.Ff1KernelIdeal.nD,
      m' ((c.tc : Thread Cert.Ff1ReferenceIdeal.nD Cert.Ff1ReferenceIdeal.τ).loc Cert.Ff1ReferenceIdeal.main_arg0) = m ((c.tc : Thread Cert.Ff1KernelIdeal.nD Cert.Ff1KernelIdeal.τ).loc Cert.Ff1KernelIdeal.main_arg0)
      ∧ m' ((c.tc : Thread Cert.Ff1ReferenceIdeal.nD Cert.Ff1ReferenceIdeal.τ).loc Cert.Ff1ReferenceIdeal.main_arg1) = m ((c.tc : Thread Cert.Ff1KernelIdeal.nD Cert.Ff1KernelIdeal.τ).loc Cert.Ff1KernelIdeal.main_arg1)) →
    ∃ (v0 : (c : Dev Cert.Ff1KernelIdeal.nD) → Buf (Elt Ideal) ((c.tc : Thread Cert.Ff1KernelIdeal.nD Cert.Ff1KernelIdeal.τ).loc Cert.Ff1KernelIdeal.main_v0)),
      θ_run (Cert.Ff1KernelIdeal.defs (F := Ideal)) (onTc (τ := Cert.Ff1KernelIdeal.τ) (Cert.Ff1KernelIdeal.main (F := Ideal))) ⟨m, fun _ => 0, g⟩ (fun r => ∀ c : Dev Cert.Ff1KernelIdeal.nD,
          r.2.mem ((c.tc : Thread Cert.Ff1KernelIdeal.nD Cert.Ff1KernelIdeal.τ).loc Cert.Ff1KernelIdeal.main_v0) = v0 c
          ∧ r.2.mem ((c.tc : Thread Cert.Ff1KernelIdeal.nD Cert.Ff1KernelIdeal.τ).loc Cert.Ff1KernelIdeal.main_arg0) = m ((c.tc : Thread Cert.Ff1KernelIdeal.nD Cert.Ff1KernelIdeal.τ).loc Cert.Ff1KernelIdeal.main_arg0)
          ∧ r.2.mem ((c.tc : Thread Cert.Ff1KernelIdeal.nD Cert.Ff1KernelIdeal.τ).loc Cert.Ff1KernelIdeal.main_arg1) = m ((c.tc : Thread Cert.Ff1KernelIdeal.nD Cert.Ff1KernelIdeal.τ).loc Cert.Ff1KernelIdeal.main_arg1))
      ∧ θ_run (Cert.Ff1ReferenceIdeal.defs (F := Ideal)) (onTc (τ := Cert.Ff1ReferenceIdeal.τ) (Cert.Ff1ReferenceIdeal.main (F := Ideal))) ⟨m', fun _ => 0, g'⟩ (fun r => ∀ c : Dev Cert.Ff1ReferenceIdeal.nD,
          r.2.mem ((c.tc : Thread Cert.Ff1ReferenceIdeal.nD Cert.Ff1ReferenceIdeal.τ).loc Cert.Ff1ReferenceIdeal.main_v5) = v0 c
          ∧ r.2.mem ((c.tc : Thread Cert.Ff1ReferenceIdeal.nD Cert.Ff1ReferenceIdeal.τ).loc Cert.Ff1ReferenceIdeal.main_arg0) = m' ((c.tc : Thread Cert.Ff1ReferenceIdeal.nD Cert.Ff1ReferenceIdeal.τ).loc Cert.Ff1ReferenceIdeal.main_arg0)
          ∧ r.2.mem ((c.tc : Thread Cert.Ff1ReferenceIdeal.nD Cert.Ff1ReferenceIdeal.τ).loc Cert.Ff1ReferenceIdeal.main_arg1) = m' ((c.tc : Thread Cert.Ff1ReferenceIdeal.nD Cert.Ff1ReferenceIdeal.τ).loc Cert.Ff1ReferenceIdeal.main_arg1))

def preserves_WinKernel_WinKernelIdeal : Prop :=
  True

def algebraic_WinKernelIdeal_WinReferenceIdeal [hWinKernelIdeal : Cert.WinKernelIdeal.Facts] [hWinReferenceIdeal : Cert.WinReferenceIdeal.Facts] : Prop :=
  ∀ (m : (ℓ : Loc Cert.WinKernelIdeal.nD Cert.WinKernelIdeal.τ Cert.WinKernelIdeal.sig) → Buf (Elt Ideal) ℓ) (g : Dev Cert.WinKernelIdeal.nD → PrngReg)
    (m' : (ℓ : Loc Cert.WinReferenceIdeal.nD Cert.WinReferenceIdeal.τ Cert.WinReferenceIdeal.sig) → Buf (Elt Ideal) ℓ) (g' : Dev Cert.WinReferenceIdeal.nD → PrngReg), Pre_WinKernelIdeal m →
    (∀ c : Dev Cert.WinKernelIdeal.nD,
      m' ((c.tc : Thread Cert.WinReferenceIdeal.nD Cert.WinReferenceIdeal.τ).loc Cert.WinReferenceIdeal.main_arg0) = m ((c.tc : Thread Cert.WinKernelIdeal.nD Cert.WinKernelIdeal.τ).loc Cert.WinKernelIdeal.main_arg0)
      ∧ m' ((c.tc : Thread Cert.WinReferenceIdeal.nD Cert.WinReferenceIdeal.τ).loc Cert.WinReferenceIdeal.main_arg1) = m ((c.tc : Thread Cert.WinKernelIdeal.nD Cert.WinKernelIdeal.τ).loc Cert.WinKernelIdeal.main_arg1)) →
    ∃ (v0 : (c : Dev Cert.WinKernelIdeal.nD) → Buf (Elt Ideal) ((c.tc : Thread Cert.WinKernelIdeal.nD Cert.WinKernelIdeal.τ).loc Cert.WinKernelIdeal.main_v0)),
      θ_run (Cert.WinKernelIdeal.defs (F := Ideal)) (onTc (τ := Cert.WinKernelIdeal.τ) (Cert.WinKernelIdeal.main (F := Ideal))) ⟨m, fun _ => 0, g⟩ (fun r => ∀ c : Dev Cert.WinKernelIdeal.nD,
          r.2.mem ((c.tc : Thread Cert.WinKernelIdeal.nD Cert.WinKernelIdeal.τ).loc Cert.WinKernelIdeal.main_v0) = v0 c
          ∧ r.2.mem ((c.tc : Thread Cert.WinKernelIdeal.nD Cert.WinKernelIdeal.τ).loc Cert.WinKernelIdeal.main_arg0) = m ((c.tc : Thread Cert.WinKernelIdeal.nD Cert.WinKernelIdeal.τ).loc Cert.WinKernelIdeal.main_arg0)
          ∧ r.2.mem ((c.tc : Thread Cert.WinKernelIdeal.nD Cert.WinKernelIdeal.τ).loc Cert.WinKernelIdeal.main_arg1) = m ((c.tc : Thread Cert.WinKernelIdeal.nD Cert.WinKernelIdeal.τ).loc Cert.WinKernelIdeal.main_arg1))
      ∧ θ_run (Cert.WinReferenceIdeal.defs (F := Ideal)) (onTc (τ := Cert.WinReferenceIdeal.τ) (Cert.WinReferenceIdeal.main (F := Ideal))) ⟨m', fun _ => 0, g'⟩ (fun r => ∀ c : Dev Cert.WinReferenceIdeal.nD,
          r.2.mem ((c.tc : Thread Cert.WinReferenceIdeal.nD Cert.WinReferenceIdeal.τ).loc Cert.WinReferenceIdeal.main_v5) = v0 c
          ∧ r.2.mem ((c.tc : Thread Cert.WinReferenceIdeal.nD Cert.WinReferenceIdeal.τ).loc Cert.WinReferenceIdeal.main_arg0) = m' ((c.tc : Thread Cert.WinReferenceIdeal.nD Cert.WinReferenceIdeal.τ).loc Cert.WinReferenceIdeal.main_arg0)
          ∧ r.2.mem ((c.tc : Thread Cert.WinReferenceIdeal.nD Cert.WinReferenceIdeal.τ).loc Cert.WinReferenceIdeal.main_arg1) = m' ((c.tc : Thread Cert.WinReferenceIdeal.nD Cert.WinReferenceIdeal.τ).loc Cert.WinReferenceIdeal.main_arg1))

def preserves_Dh1Kernel_Dh1KernelIdeal : Prop :=
  True

def algebraic_Dh1KernelIdeal_Dh1ReferenceIdeal [hDh1KernelIdeal : Cert.Dh1KernelIdeal.Facts] [hDh1ReferenceIdeal : Cert.Dh1ReferenceIdeal.Facts] : Prop :=
  ∀ (m : (ℓ : Loc Cert.Dh1KernelIdeal.nD Cert.Dh1KernelIdeal.τ Cert.Dh1KernelIdeal.sig) → Buf (Elt Ideal) ℓ) (g : Dev Cert.Dh1KernelIdeal.nD → PrngReg)
    (m' : (ℓ : Loc Cert.Dh1ReferenceIdeal.nD Cert.Dh1ReferenceIdeal.τ Cert.Dh1ReferenceIdeal.sig) → Buf (Elt Ideal) ℓ) (g' : Dev Cert.Dh1ReferenceIdeal.nD → PrngReg), Pre_Dh1KernelIdeal m →
    (∀ c : Dev Cert.Dh1KernelIdeal.nD,
      m' ((c.tc : Thread Cert.Dh1ReferenceIdeal.nD Cert.Dh1ReferenceIdeal.τ).loc Cert.Dh1ReferenceIdeal.main_arg0) = m ((c.tc : Thread Cert.Dh1KernelIdeal.nD Cert.Dh1KernelIdeal.τ).loc Cert.Dh1KernelIdeal.main_arg0)
      ∧ m' ((c.tc : Thread Cert.Dh1ReferenceIdeal.nD Cert.Dh1ReferenceIdeal.τ).loc Cert.Dh1ReferenceIdeal.main_arg1) = m ((c.tc : Thread Cert.Dh1KernelIdeal.nD Cert.Dh1KernelIdeal.τ).loc Cert.Dh1KernelIdeal.main_arg1)
      ∧ m' ((c.tc : Thread Cert.Dh1ReferenceIdeal.nD Cert.Dh1ReferenceIdeal.τ).loc Cert.Dh1ReferenceIdeal.main_arg2) = m ((c.tc : Thread Cert.Dh1KernelIdeal.nD Cert.Dh1KernelIdeal.τ).loc Cert.Dh1KernelIdeal.main_arg2)
      ∧ m' ((c.tc : Thread Cert.Dh1ReferenceIdeal.nD Cert.Dh1ReferenceIdeal.τ).loc Cert.Dh1ReferenceIdeal.main_arg3) = m ((c.tc : Thread Cert.Dh1KernelIdeal.nD Cert.Dh1KernelIdeal.τ).loc Cert.Dh1KernelIdeal.main_arg3)
      ∧ m' ((c.tc : Thread Cert.Dh1ReferenceIdeal.nD Cert.Dh1ReferenceIdeal.τ).loc Cert.Dh1ReferenceIdeal.main_arg4) = m ((c.tc : Thread Cert.Dh1KernelIdeal.nD Cert.Dh1KernelIdeal.τ).loc Cert.Dh1KernelIdeal.main_arg4)) →
    ∃ (v0 : (c : Dev Cert.Dh1KernelIdeal.nD) → Buf (Elt Ideal) ((c.tc : Thread Cert.Dh1KernelIdeal.nD Cert.Dh1KernelIdeal.τ).loc Cert.Dh1KernelIdeal.main_v0_0)) (v1 : (c : Dev Cert.Dh1KernelIdeal.nD) → Buf (Elt Ideal) ((c.tc : Thread Cert.Dh1KernelIdeal.nD Cert.Dh1KernelIdeal.τ).loc Cert.Dh1KernelIdeal.main_v0_1)),
      θ_run (Cert.Dh1KernelIdeal.defs (F := Ideal)) (onTc (τ := Cert.Dh1KernelIdeal.τ) (Cert.Dh1KernelIdeal.main (F := Ideal))) ⟨m, fun _ => 0, g⟩ (fun r => ∀ c : Dev Cert.Dh1KernelIdeal.nD,
          r.2.mem ((c.tc : Thread Cert.Dh1KernelIdeal.nD Cert.Dh1KernelIdeal.τ).loc Cert.Dh1KernelIdeal.main_v0_0) = v0 c
          ∧ r.2.mem ((c.tc : Thread Cert.Dh1KernelIdeal.nD Cert.Dh1KernelIdeal.τ).loc Cert.Dh1KernelIdeal.main_v0_1) = v1 c
          ∧ r.2.mem ((c.tc : Thread Cert.Dh1KernelIdeal.nD Cert.Dh1KernelIdeal.τ).loc Cert.Dh1KernelIdeal.main_arg0) = m ((c.tc : Thread Cert.Dh1KernelIdeal.nD Cert.Dh1KernelIdeal.τ).loc Cert.Dh1KernelIdeal.main_arg0)
          ∧ r.2.mem ((c.tc : Thread Cert.Dh1KernelIdeal.nD Cert.Dh1KernelIdeal.τ).loc Cert.Dh1KernelIdeal.main_arg1) = m ((c.tc : Thread Cert.Dh1KernelIdeal.nD Cert.Dh1KernelIdeal.τ).loc Cert.Dh1KernelIdeal.main_arg1)
          ∧ r.2.mem ((c.tc : Thread Cert.Dh1KernelIdeal.nD Cert.Dh1KernelIdeal.τ).loc Cert.Dh1KernelIdeal.main_arg2) = m ((c.tc : Thread Cert.Dh1KernelIdeal.nD Cert.Dh1KernelIdeal.τ).loc Cert.Dh1KernelIdeal.main_arg2)
          ∧ r.2.mem ((c.tc : Thread Cert.Dh1KernelIdeal.nD Cert.Dh1KernelIdeal.τ).loc Cert.Dh1KernelIdeal.main_arg3) = m ((c.tc : Thread Cert.Dh1KernelIdeal.nD Cert.Dh1KernelIdeal.τ).loc Cert.Dh1KernelIdeal.main_arg3)
          ∧ r.2.mem ((c.tc : Thread Cert.Dh1KernelIdeal.nD Cert.Dh1KernelIdeal.τ).loc Cert.Dh1KernelIdeal.main_arg4) = m ((c.tc : Thread Cert.Dh1KernelIdeal.nD Cert.Dh1KernelIdeal.τ).loc Cert.Dh1KernelIdeal.main_arg4))
      ∧ θ_run (Cert.Dh1ReferenceIdeal.defs (F := Ideal)) (onTc (τ := Cert.Dh1ReferenceIdeal.τ) (Cert.Dh1ReferenceIdeal.main (F := Ideal))) ⟨m', fun _ => 0, g'⟩ (fun r => ∀ c : Dev Cert.Dh1ReferenceIdeal.nD,
          r.2.mem ((c.tc : Thread Cert.Dh1ReferenceIdeal.nD Cert.Dh1ReferenceIdeal.τ).loc Cert.Dh1ReferenceIdeal.main_v38) = v0 c
          ∧ r.2.mem ((c.tc : Thread Cert.Dh1ReferenceIdeal.nD Cert.Dh1ReferenceIdeal.τ).loc Cert.Dh1ReferenceIdeal.main_v21) = v1 c
          ∧ r.2.mem ((c.tc : Thread Cert.Dh1ReferenceIdeal.nD Cert.Dh1ReferenceIdeal.τ).loc Cert.Dh1ReferenceIdeal.main_arg0) = m' ((c.tc : Thread Cert.Dh1ReferenceIdeal.nD Cert.Dh1ReferenceIdeal.τ).loc Cert.Dh1ReferenceIdeal.main_arg0)
          ∧ r.2.mem ((c.tc : Thread Cert.Dh1ReferenceIdeal.nD Cert.Dh1ReferenceIdeal.τ).loc Cert.Dh1ReferenceIdeal.main_arg1) = m' ((c.tc : Thread Cert.Dh1ReferenceIdeal.nD Cert.Dh1ReferenceIdeal.τ).loc Cert.Dh1ReferenceIdeal.main_arg1)
          ∧ r.2.mem ((c.tc : Thread Cert.Dh1ReferenceIdeal.nD Cert.Dh1ReferenceIdeal.τ).loc Cert.Dh1ReferenceIdeal.main_arg2) = m' ((c.tc : Thread Cert.Dh1ReferenceIdeal.nD Cert.Dh1ReferenceIdeal.τ).loc Cert.Dh1ReferenceIdeal.main_arg2)
          ∧ r.2.mem ((c.tc : Thread Cert.Dh1ReferenceIdeal.nD Cert.Dh1ReferenceIdeal.τ).loc Cert.Dh1ReferenceIdeal.main_arg3) = m' ((c.tc : Thread Cert.Dh1ReferenceIdeal.nD Cert.Dh1ReferenceIdeal.τ).loc Cert.Dh1ReferenceIdeal.main_arg3)
          ∧ r.2.mem ((c.tc : Thread Cert.Dh1ReferenceIdeal.nD Cert.Dh1ReferenceIdeal.τ).loc Cert.Dh1ReferenceIdeal.main_arg4) = m' ((c.tc : Thread Cert.Dh1ReferenceIdeal.nD Cert.Dh1ReferenceIdeal.τ).loc Cert.Dh1ReferenceIdeal.main_arg4))

def preserves_Dh3Kernel_Dh3KernelIdeal : Prop :=
  True

def algebraic_Dh3KernelIdeal_Dh3ReferenceIdeal [hDh3KernelIdeal : Cert.Dh3KernelIdeal.Facts] [hDh3ReferenceIdeal : Cert.Dh3ReferenceIdeal.Facts] : Prop :=
  ∀ (m : (ℓ : Loc Cert.Dh3KernelIdeal.nD Cert.Dh3KernelIdeal.τ Cert.Dh3KernelIdeal.sig) → Buf (Elt Ideal) ℓ) (g : Dev Cert.Dh3KernelIdeal.nD → PrngReg)
    (m' : (ℓ : Loc Cert.Dh3ReferenceIdeal.nD Cert.Dh3ReferenceIdeal.τ Cert.Dh3ReferenceIdeal.sig) → Buf (Elt Ideal) ℓ) (g' : Dev Cert.Dh3ReferenceIdeal.nD → PrngReg), Pre_Dh3KernelIdeal m →
    (∀ c : Dev Cert.Dh3KernelIdeal.nD,
      m' ((c.tc : Thread Cert.Dh3ReferenceIdeal.nD Cert.Dh3ReferenceIdeal.τ).loc Cert.Dh3ReferenceIdeal.main_arg0) = m ((c.tc : Thread Cert.Dh3KernelIdeal.nD Cert.Dh3KernelIdeal.τ).loc Cert.Dh3KernelIdeal.main_arg0)
      ∧ m' ((c.tc : Thread Cert.Dh3ReferenceIdeal.nD Cert.Dh3ReferenceIdeal.τ).loc Cert.Dh3ReferenceIdeal.main_arg1) = m ((c.tc : Thread Cert.Dh3KernelIdeal.nD Cert.Dh3KernelIdeal.τ).loc Cert.Dh3KernelIdeal.main_arg1)
      ∧ m' ((c.tc : Thread Cert.Dh3ReferenceIdeal.nD Cert.Dh3ReferenceIdeal.τ).loc Cert.Dh3ReferenceIdeal.main_arg2) = m ((c.tc : Thread Cert.Dh3KernelIdeal.nD Cert.Dh3KernelIdeal.τ).loc Cert.Dh3KernelIdeal.main_arg2)
      ∧ m' ((c.tc : Thread Cert.Dh3ReferenceIdeal.nD Cert.Dh3ReferenceIdeal.τ).loc Cert.Dh3ReferenceIdeal.main_arg3) = m ((c.tc : Thread Cert.Dh3KernelIdeal.nD Cert.Dh3KernelIdeal.τ).loc Cert.Dh3KernelIdeal.main_arg3)
      ∧ m' ((c.tc : Thread Cert.Dh3ReferenceIdeal.nD Cert.Dh3ReferenceIdeal.τ).loc Cert.Dh3ReferenceIdeal.main_arg4) = m ((c.tc : Thread Cert.Dh3KernelIdeal.nD Cert.Dh3KernelIdeal.τ).loc Cert.Dh3KernelIdeal.main_arg4)) →
    ∃ (v0 : (c : Dev Cert.Dh3KernelIdeal.nD) → Buf (Elt Ideal) ((c.tc : Thread Cert.Dh3KernelIdeal.nD Cert.Dh3KernelIdeal.τ).loc Cert.Dh3KernelIdeal.main_v0_0)) (v1 : (c : Dev Cert.Dh3KernelIdeal.nD) → Buf (Elt Ideal) ((c.tc : Thread Cert.Dh3KernelIdeal.nD Cert.Dh3KernelIdeal.τ).loc Cert.Dh3KernelIdeal.main_v0_1)),
      θ_run (Cert.Dh3KernelIdeal.defs (F := Ideal)) (onTc (τ := Cert.Dh3KernelIdeal.τ) (Cert.Dh3KernelIdeal.main (F := Ideal))) ⟨m, fun _ => 0, g⟩ (fun r => ∀ c : Dev Cert.Dh3KernelIdeal.nD,
          r.2.mem ((c.tc : Thread Cert.Dh3KernelIdeal.nD Cert.Dh3KernelIdeal.τ).loc Cert.Dh3KernelIdeal.main_v0_0) = v0 c
          ∧ r.2.mem ((c.tc : Thread Cert.Dh3KernelIdeal.nD Cert.Dh3KernelIdeal.τ).loc Cert.Dh3KernelIdeal.main_v0_1) = v1 c
          ∧ r.2.mem ((c.tc : Thread Cert.Dh3KernelIdeal.nD Cert.Dh3KernelIdeal.τ).loc Cert.Dh3KernelIdeal.main_arg0) = m ((c.tc : Thread Cert.Dh3KernelIdeal.nD Cert.Dh3KernelIdeal.τ).loc Cert.Dh3KernelIdeal.main_arg0)
          ∧ r.2.mem ((c.tc : Thread Cert.Dh3KernelIdeal.nD Cert.Dh3KernelIdeal.τ).loc Cert.Dh3KernelIdeal.main_arg1) = m ((c.tc : Thread Cert.Dh3KernelIdeal.nD Cert.Dh3KernelIdeal.τ).loc Cert.Dh3KernelIdeal.main_arg1)
          ∧ r.2.mem ((c.tc : Thread Cert.Dh3KernelIdeal.nD Cert.Dh3KernelIdeal.τ).loc Cert.Dh3KernelIdeal.main_arg2) = m ((c.tc : Thread Cert.Dh3KernelIdeal.nD Cert.Dh3KernelIdeal.τ).loc Cert.Dh3KernelIdeal.main_arg2)
          ∧ r.2.mem ((c.tc : Thread Cert.Dh3KernelIdeal.nD Cert.Dh3KernelIdeal.τ).loc Cert.Dh3KernelIdeal.main_arg3) = m ((c.tc : Thread Cert.Dh3KernelIdeal.nD Cert.Dh3KernelIdeal.τ).loc Cert.Dh3KernelIdeal.main_arg3)
          ∧ r.2.mem ((c.tc : Thread Cert.Dh3KernelIdeal.nD Cert.Dh3KernelIdeal.τ).loc Cert.Dh3KernelIdeal.main_arg4) = m ((c.tc : Thread Cert.Dh3KernelIdeal.nD Cert.Dh3KernelIdeal.τ).loc Cert.Dh3KernelIdeal.main_arg4))
      ∧ θ_run (Cert.Dh3ReferenceIdeal.defs (F := Ideal)) (onTc (τ := Cert.Dh3ReferenceIdeal.τ) (Cert.Dh3ReferenceIdeal.main (F := Ideal))) ⟨m', fun _ => 0, g'⟩ (fun r => ∀ c : Dev Cert.Dh3ReferenceIdeal.nD,
          r.2.mem ((c.tc : Thread Cert.Dh3ReferenceIdeal.nD Cert.Dh3ReferenceIdeal.τ).loc Cert.Dh3ReferenceIdeal.main_v38) = v0 c
          ∧ r.2.mem ((c.tc : Thread Cert.Dh3ReferenceIdeal.nD Cert.Dh3ReferenceIdeal.τ).loc Cert.Dh3ReferenceIdeal.main_v21) = v1 c
          ∧ r.2.mem ((c.tc : Thread Cert.Dh3ReferenceIdeal.nD Cert.Dh3ReferenceIdeal.τ).loc Cert.Dh3ReferenceIdeal.main_arg0) = m' ((c.tc : Thread Cert.Dh3ReferenceIdeal.nD Cert.Dh3ReferenceIdeal.τ).loc Cert.Dh3ReferenceIdeal.main_arg0)
          ∧ r.2.mem ((c.tc : Thread Cert.Dh3ReferenceIdeal.nD Cert.Dh3ReferenceIdeal.τ).loc Cert.Dh3ReferenceIdeal.main_arg1) = m' ((c.tc : Thread Cert.Dh3ReferenceIdeal.nD Cert.Dh3ReferenceIdeal.τ).loc Cert.Dh3ReferenceIdeal.main_arg1)
          ∧ r.2.mem ((c.tc : Thread Cert.Dh3ReferenceIdeal.nD Cert.Dh3ReferenceIdeal.τ).loc Cert.Dh3ReferenceIdeal.main_arg2) = m' ((c.tc : Thread Cert.Dh3ReferenceIdeal.nD Cert.Dh3ReferenceIdeal.τ).loc Cert.Dh3ReferenceIdeal.main_arg2)
          ∧ r.2.mem ((c.tc : Thread Cert.Dh3ReferenceIdeal.nD Cert.Dh3ReferenceIdeal.τ).loc Cert.Dh3ReferenceIdeal.main_arg3) = m' ((c.tc : Thread Cert.Dh3ReferenceIdeal.nD Cert.Dh3ReferenceIdeal.τ).loc Cert.Dh3ReferenceIdeal.main_arg3)
          ∧ r.2.mem ((c.tc : Thread Cert.Dh3ReferenceIdeal.nD Cert.Dh3ReferenceIdeal.τ).loc Cert.Dh3ReferenceIdeal.main_arg4) = m' ((c.tc : Thread Cert.Dh3ReferenceIdeal.nD Cert.Dh3ReferenceIdeal.τ).loc Cert.Dh3ReferenceIdeal.main_arg4))

def preserves_RmsKernel_RmsKernelIdeal : Prop :=
  True

def algebraic_RmsKernelIdeal_RmsReferenceIdeal [hRmsKernelIdeal : Cert.RmsKernelIdeal.Facts] [hRmsReferenceIdeal : Cert.RmsReferenceIdeal.Facts] : Prop :=
  ∀ (m : (ℓ : Loc Cert.RmsKernelIdeal.nD Cert.RmsKernelIdeal.τ Cert.RmsKernelIdeal.sig) → Buf (Elt Ideal) ℓ) (g : Dev Cert.RmsKernelIdeal.nD → PrngReg)
    (m' : (ℓ : Loc Cert.RmsReferenceIdeal.nD Cert.RmsReferenceIdeal.τ Cert.RmsReferenceIdeal.sig) → Buf (Elt Ideal) ℓ) (g' : Dev Cert.RmsReferenceIdeal.nD → PrngReg), Pre_RmsKernelIdeal m →
    (∀ c : Dev Cert.RmsKernelIdeal.nD,
      m' ((c.tc : Thread Cert.RmsReferenceIdeal.nD Cert.RmsReferenceIdeal.τ).loc Cert.RmsReferenceIdeal.main_arg0) = m ((c.tc : Thread Cert.RmsKernelIdeal.nD Cert.RmsKernelIdeal.τ).loc Cert.RmsKernelIdeal.main_arg0)
      ∧ m' ((c.tc : Thread Cert.RmsReferenceIdeal.nD Cert.RmsReferenceIdeal.τ).loc Cert.RmsReferenceIdeal.main_arg1) = m ((c.tc : Thread Cert.RmsKernelIdeal.nD Cert.RmsKernelIdeal.τ).loc Cert.RmsKernelIdeal.main_arg1)
      ∧ m' ((c.tc : Thread Cert.RmsReferenceIdeal.nD Cert.RmsReferenceIdeal.τ).loc Cert.RmsReferenceIdeal.main_arg2) = m ((c.tc : Thread Cert.RmsKernelIdeal.nD Cert.RmsKernelIdeal.τ).loc Cert.RmsKernelIdeal.main_arg2)) →
    ∃ (v0 : (c : Dev Cert.RmsKernelIdeal.nD) → Buf (Elt Ideal) ((c.tc : Thread Cert.RmsKernelIdeal.nD Cert.RmsKernelIdeal.τ).loc Cert.RmsKernelIdeal.main_v0_0)) (v1 : (c : Dev Cert.RmsKernelIdeal.nD) → Buf (Elt Ideal) ((c.tc : Thread Cert.RmsKernelIdeal.nD Cert.RmsKernelIdeal.τ).loc Cert.RmsKernelIdeal.main_v0_1)),
      θ_run (Cert.RmsKernelIdeal.defs (F := Ideal)) (onTc (τ := Cert.RmsKernelIdeal.τ) (Cert.RmsKernelIdeal.main (F := Ideal))) ⟨m, fun _ => 0, g⟩ (fun r => ∀ c : Dev Cert.RmsKernelIdeal.nD,
          r.2.mem ((c.tc : Thread Cert.RmsKernelIdeal.nD Cert.RmsKernelIdeal.τ).loc Cert.RmsKernelIdeal.main_v0_0) = v0 c
          ∧ r.2.mem ((c.tc : Thread Cert.RmsKernelIdeal.nD Cert.RmsKernelIdeal.τ).loc Cert.RmsKernelIdeal.main_v0_1) = v1 c
          ∧ r.2.mem ((c.tc : Thread Cert.RmsKernelIdeal.nD Cert.RmsKernelIdeal.τ).loc Cert.RmsKernelIdeal.main_arg0) = m ((c.tc : Thread Cert.RmsKernelIdeal.nD Cert.RmsKernelIdeal.τ).loc Cert.RmsKernelIdeal.main_arg0)
          ∧ r.2.mem ((c.tc : Thread Cert.RmsKernelIdeal.nD Cert.RmsKernelIdeal.τ).loc Cert.RmsKernelIdeal.main_arg1) = m ((c.tc : Thread Cert.RmsKernelIdeal.nD Cert.RmsKernelIdeal.τ).loc Cert.RmsKernelIdeal.main_arg1)
          ∧ r.2.mem ((c.tc : Thread Cert.RmsKernelIdeal.nD Cert.RmsKernelIdeal.τ).loc Cert.RmsKernelIdeal.main_arg2) = m ((c.tc : Thread Cert.RmsKernelIdeal.nD Cert.RmsKernelIdeal.τ).loc Cert.RmsKernelIdeal.main_arg2))
      ∧ θ_run (Cert.RmsReferenceIdeal.defs (F := Ideal)) (onTc (τ := Cert.RmsReferenceIdeal.τ) (Cert.RmsReferenceIdeal.main (F := Ideal))) ⟨m', fun _ => 0, g'⟩ (fun r => ∀ c : Dev Cert.RmsReferenceIdeal.nD,
          r.2.mem ((c.tc : Thread Cert.RmsReferenceIdeal.nD Cert.RmsReferenceIdeal.τ).loc Cert.RmsReferenceIdeal.main_v34) = v0 c
          ∧ r.2.mem ((c.tc : Thread Cert.RmsReferenceIdeal.nD Cert.RmsReferenceIdeal.τ).loc Cert.RmsReferenceIdeal.main_v17) = v1 c
          ∧ r.2.mem ((c.tc : Thread Cert.RmsReferenceIdeal.nD Cert.RmsReferenceIdeal.τ).loc Cert.RmsReferenceIdeal.main_arg0) = m' ((c.tc : Thread Cert.RmsReferenceIdeal.nD Cert.RmsReferenceIdeal.τ).loc Cert.RmsReferenceIdeal.main_arg0)
          ∧ r.2.mem ((c.tc : Thread Cert.RmsReferenceIdeal.nD Cert.RmsReferenceIdeal.τ).loc Cert.RmsReferenceIdeal.main_arg1) = m' ((c.tc : Thread Cert.RmsReferenceIdeal.nD Cert.RmsReferenceIdeal.τ).loc Cert.RmsReferenceIdeal.main_arg1)
          ∧ r.2.mem ((c.tc : Thread Cert.RmsReferenceIdeal.nD Cert.RmsReferenceIdeal.τ).loc Cert.RmsReferenceIdeal.main_arg2) = m' ((c.tc : Thread Cert.RmsReferenceIdeal.nD Cert.RmsReferenceIdeal.τ).loc Cert.RmsReferenceIdeal.main_arg2))

def preserves_PjKernel_PjKernelIdeal : Prop :=
  True

def algebraic_PjKernelIdeal_PjReferenceIdeal [hPjKernelIdeal : Cert.PjKernelIdeal.Facts] [hPjReferenceIdeal : Cert.PjReferenceIdeal.Facts] : Prop :=
  ∀ (m : (ℓ : Loc Cert.PjKernelIdeal.nD Cert.PjKernelIdeal.τ Cert.PjKernelIdeal.sig) → Buf (Elt Ideal) ℓ) (g : Dev Cert.PjKernelIdeal.nD → PrngReg)
    (m' : (ℓ : Loc Cert.PjReferenceIdeal.nD Cert.PjReferenceIdeal.τ Cert.PjReferenceIdeal.sig) → Buf (Elt Ideal) ℓ) (g' : Dev Cert.PjReferenceIdeal.nD → PrngReg), Pre_PjKernelIdeal m →
    (∀ c : Dev Cert.PjKernelIdeal.nD,
      m' ((c.tc : Thread Cert.PjReferenceIdeal.nD Cert.PjReferenceIdeal.τ).loc Cert.PjReferenceIdeal.main_arg0) = m ((c.tc : Thread Cert.PjKernelIdeal.nD Cert.PjKernelIdeal.τ).loc Cert.PjKernelIdeal.main_arg0)
      ∧ m' ((c.tc : Thread Cert.PjReferenceIdeal.nD Cert.PjReferenceIdeal.τ).loc Cert.PjReferenceIdeal.main_arg1) = m ((c.tc : Thread Cert.PjKernelIdeal.nD Cert.PjKernelIdeal.τ).loc Cert.PjKernelIdeal.main_arg1)) →
    ∃ (v0 : (c : Dev Cert.PjKernelIdeal.nD) → Buf (Elt Ideal) ((c.tc : Thread Cert.PjKernelIdeal.nD Cert.PjKernelIdeal.τ).loc Cert.PjKernelIdeal.main_v0)),
      θ_run (Cert.PjKernelIdeal.defs (F := Ideal)) (onTc (τ := Cert.PjKernelIdeal.τ) (Cert.PjKernelIdeal.main (F := Ideal))) ⟨m, fun _ => 0, g⟩ (fun r => ∀ c : Dev Cert.PjKernelIdeal.nD,
          r.2.mem ((c.tc : Thread Cert.PjKernelIdeal.nD Cert.PjKernelIdeal.τ).loc Cert.PjKernelIdeal.main_v0) = v0 c
          ∧ r.2.mem ((c.tc : Thread Cert.PjKernelIdeal.nD Cert.PjKernelIdeal.τ).loc Cert.PjKernelIdeal.main_arg0) = m ((c.tc : Thread Cert.PjKernelIdeal.nD Cert.PjKernelIdeal.τ).loc Cert.PjKernelIdeal.main_arg0)
          ∧ r.2.mem ((c.tc : Thread Cert.PjKernelIdeal.nD Cert.PjKernelIdeal.τ).loc Cert.PjKernelIdeal.main_arg1) = m ((c.tc : Thread Cert.PjKernelIdeal.nD Cert.PjKernelIdeal.τ).loc Cert.PjKernelIdeal.main_arg1))
      ∧ θ_run (Cert.PjReferenceIdeal.defs (F := Ideal)) (onTc (τ := Cert.PjReferenceIdeal.τ) (Cert.PjReferenceIdeal.main (F := Ideal))) ⟨m', fun _ => 0, g'⟩ (fun r => ∀ c : Dev Cert.PjReferenceIdeal.nD,
          r.2.mem ((c.tc : Thread Cert.PjReferenceIdeal.nD Cert.PjReferenceIdeal.τ).loc Cert.PjReferenceIdeal.main_v2) = v0 c
          ∧ r.2.mem ((c.tc : Thread Cert.PjReferenceIdeal.nD Cert.PjReferenceIdeal.τ).loc Cert.PjReferenceIdeal.main_arg0) = m' ((c.tc : Thread Cert.PjReferenceIdeal.nD Cert.PjReferenceIdeal.τ).loc Cert.PjReferenceIdeal.main_arg0)
          ∧ r.2.mem ((c.tc : Thread Cert.PjReferenceIdeal.nD Cert.PjReferenceIdeal.τ).loc Cert.PjReferenceIdeal.main_arg1) = m' ((c.tc : Thread Cert.PjReferenceIdeal.nD Cert.PjReferenceIdeal.τ).loc Cert.PjReferenceIdeal.main_arg1))

def preserves_UpKernel_UpKernelIdeal : Prop :=
  True

def algebraic_UpKernelIdeal_UpReferenceIdeal [hUpKernelIdeal : Cert.UpKernelIdeal.Facts] [hUpReferenceIdeal : Cert.UpReferenceIdeal.Facts] : Prop :=
  ∀ (m : (ℓ : Loc Cert.UpKernelIdeal.nD Cert.UpKernelIdeal.τ Cert.UpKernelIdeal.sig) → Buf (Elt Ideal) ℓ) (g : Dev Cert.UpKernelIdeal.nD → PrngReg)
    (m' : (ℓ : Loc Cert.UpReferenceIdeal.nD Cert.UpReferenceIdeal.τ Cert.UpReferenceIdeal.sig) → Buf (Elt Ideal) ℓ) (g' : Dev Cert.UpReferenceIdeal.nD → PrngReg), Pre_UpKernelIdeal m →
    (∀ c : Dev Cert.UpKernelIdeal.nD,
      m' ((c.tc : Thread Cert.UpReferenceIdeal.nD Cert.UpReferenceIdeal.τ).loc Cert.UpReferenceIdeal.main_arg0) = m ((c.tc : Thread Cert.UpKernelIdeal.nD Cert.UpKernelIdeal.τ).loc Cert.UpKernelIdeal.main_arg0)
      ∧ m' ((c.tc : Thread Cert.UpReferenceIdeal.nD Cert.UpReferenceIdeal.τ).loc Cert.UpReferenceIdeal.main_arg1) = m ((c.tc : Thread Cert.UpKernelIdeal.nD Cert.UpKernelIdeal.τ).loc Cert.UpKernelIdeal.main_arg1)) →
    ∃ (v0 : (c : Dev Cert.UpKernelIdeal.nD) → Buf (Elt Ideal) ((c.tc : Thread Cert.UpKernelIdeal.nD Cert.UpKernelIdeal.τ).loc Cert.UpKernelIdeal.main_v0_0)) (v1 : (c : Dev Cert.UpKernelIdeal.nD) → Buf (Elt Ideal) ((c.tc : Thread Cert.UpKernelIdeal.nD Cert.UpKernelIdeal.τ).loc Cert.UpKernelIdeal.main_v0_1)),
      θ_run (Cert.UpKernelIdeal.defs (F := Ideal)) (onTc (τ := Cert.UpKernelIdeal.τ) (Cert.UpKernelIdeal.main (F := Ideal))) ⟨m, fun _ => 0, g⟩ (fun r => ∀ c : Dev Cert.UpKernelIdeal.nD,
          r.2.mem ((c.tc : Thread Cert.UpKernelIdeal.nD Cert.UpKernelIdeal.τ).loc Cert.UpKernelIdeal.main_v0_0) = v0 c
          ∧ r.2.mem ((c.tc : Thread Cert.UpKernelIdeal.nD Cert.UpKernelIdeal.τ).loc Cert.UpKernelIdeal.main_v0_1) = v1 c
          ∧ r.2.mem ((c.tc : Thread Cert.UpKernelIdeal.nD Cert.UpKernelIdeal.τ).loc Cert.UpKernelIdeal.main_arg0) = m ((c.tc : Thread Cert.UpKernelIdeal.nD Cert.UpKernelIdeal.τ).loc Cert.UpKernelIdeal.main_arg0)
          ∧ r.2.mem ((c.tc : Thread Cert.UpKernelIdeal.nD Cert.UpKernelIdeal.τ).loc Cert.UpKernelIdeal.main_arg1) = m ((c.tc : Thread Cert.UpKernelIdeal.nD Cert.UpKernelIdeal.τ).loc Cert.UpKernelIdeal.main_arg1))
      ∧ θ_run (Cert.UpReferenceIdeal.defs (F := Ideal)) (onTc (τ := Cert.UpReferenceIdeal.τ) (Cert.UpReferenceIdeal.main (F := Ideal))) ⟨m', fun _ => 0, g'⟩ (fun r => ∀ c : Dev Cert.UpReferenceIdeal.nD,
          r.2.mem ((c.tc : Thread Cert.UpReferenceIdeal.nD Cert.UpReferenceIdeal.τ).loc Cert.UpReferenceIdeal.main_v2) = v0 c
          ∧ r.2.mem ((c.tc : Thread Cert.UpReferenceIdeal.nD Cert.UpReferenceIdeal.τ).loc Cert.UpReferenceIdeal.main_v5) = v1 c
          ∧ r.2.mem ((c.tc : Thread Cert.UpReferenceIdeal.nD Cert.UpReferenceIdeal.τ).loc Cert.UpReferenceIdeal.main_arg0) = m' ((c.tc : Thread Cert.UpReferenceIdeal.nD Cert.UpReferenceIdeal.τ).loc Cert.UpReferenceIdeal.main_arg0)
          ∧ r.2.mem ((c.tc : Thread Cert.UpReferenceIdeal.nD Cert.UpReferenceIdeal.τ).loc Cert.UpReferenceIdeal.main_arg1) = m' ((c.tc : Thread Cert.UpReferenceIdeal.nD Cert.UpReferenceIdeal.τ).loc Cert.UpReferenceIdeal.main_arg1))

def preserves_DnKernel_DnKernelIdeal : Prop :=
  True

def algebraic_DnKernelIdeal_DnReferenceIdeal [hDnKernelIdeal : Cert.DnKernelIdeal.Facts] [hDnReferenceIdeal : Cert.DnReferenceIdeal.Facts] : Prop :=
  ∀ (m : (ℓ : Loc Cert.DnKernelIdeal.nD Cert.DnKernelIdeal.τ Cert.DnKernelIdeal.sig) → Buf (Elt Ideal) ℓ) (g : Dev Cert.DnKernelIdeal.nD → PrngReg)
    (m' : (ℓ : Loc Cert.DnReferenceIdeal.nD Cert.DnReferenceIdeal.τ Cert.DnReferenceIdeal.sig) → Buf (Elt Ideal) ℓ) (g' : Dev Cert.DnReferenceIdeal.nD → PrngReg), Pre_DnKernelIdeal m →
    (∀ c : Dev Cert.DnKernelIdeal.nD,
      m' ((c.tc : Thread Cert.DnReferenceIdeal.nD Cert.DnReferenceIdeal.τ).loc Cert.DnReferenceIdeal.main_arg0) = m ((c.tc : Thread Cert.DnKernelIdeal.nD Cert.DnKernelIdeal.τ).loc Cert.DnKernelIdeal.main_arg0)
      ∧ m' ((c.tc : Thread Cert.DnReferenceIdeal.nD Cert.DnReferenceIdeal.τ).loc Cert.DnReferenceIdeal.main_arg1) = m ((c.tc : Thread Cert.DnKernelIdeal.nD Cert.DnKernelIdeal.τ).loc Cert.DnKernelIdeal.main_arg1)
      ∧ m' ((c.tc : Thread Cert.DnReferenceIdeal.nD Cert.DnReferenceIdeal.τ).loc Cert.DnReferenceIdeal.main_arg2) = m ((c.tc : Thread Cert.DnKernelIdeal.nD Cert.DnKernelIdeal.τ).loc Cert.DnKernelIdeal.main_arg2)
      ∧ m' ((c.tc : Thread Cert.DnReferenceIdeal.nD Cert.DnReferenceIdeal.τ).loc Cert.DnReferenceIdeal.main_arg3) = m ((c.tc : Thread Cert.DnKernelIdeal.nD Cert.DnKernelIdeal.τ).loc Cert.DnKernelIdeal.main_arg3)
      ∧ m' ((c.tc : Thread Cert.DnReferenceIdeal.nD Cert.DnReferenceIdeal.τ).loc Cert.DnReferenceIdeal.main_arg4) = m ((c.tc : Thread Cert.DnKernelIdeal.nD Cert.DnKernelIdeal.τ).loc Cert.DnKernelIdeal.main_arg4)) →
    ∃ (v0 : (c : Dev Cert.DnKernelIdeal.nD) → Buf (Elt Ideal) ((c.tc : Thread Cert.DnKernelIdeal.nD Cert.DnKernelIdeal.τ).loc Cert.DnKernelIdeal.main_v0_0)) (v1 : (c : Dev Cert.DnKernelIdeal.nD) → Buf (Elt Ideal) ((c.tc : Thread Cert.DnKernelIdeal.nD Cert.DnKernelIdeal.τ).loc Cert.DnKernelIdeal.main_v0_1)) (v2 : (c : Dev Cert.DnKernelIdeal.nD) → Buf (Elt Ideal) ((c.tc : Thread Cert.DnKernelIdeal.nD Cert.DnKernelIdeal.τ).loc Cert.DnKernelIdeal.main_v0_2)),
      θ_run (Cert.DnKernelIdeal.defs (F := Ideal)) (onTc (τ := Cert.DnKernelIdeal.τ) (Cert.DnKernelIdeal.main (F := Ideal))) ⟨m, fun _ => 0, g⟩ (fun r => ∀ c : Dev Cert.DnKernelIdeal.nD,
          r.2.mem ((c.tc : Thread Cert.DnKernelIdeal.nD Cert.DnKernelIdeal.τ).loc Cert.DnKernelIdeal.main_v0_0) = v0 c
          ∧ r.2.mem ((c.tc : Thread Cert.DnKernelIdeal.nD Cert.DnKernelIdeal.τ).loc Cert.DnKernelIdeal.main_v0_1) = v1 c
          ∧ r.2.mem ((c.tc : Thread Cert.DnKernelIdeal.nD Cert.DnKernelIdeal.τ).loc Cert.DnKernelIdeal.main_v0_2) = v2 c
          ∧ r.2.mem ((c.tc : Thread Cert.DnKernelIdeal.nD Cert.DnKernelIdeal.τ).loc Cert.DnKernelIdeal.main_arg0) = m ((c.tc : Thread Cert.DnKernelIdeal.nD Cert.DnKernelIdeal.τ).loc Cert.DnKernelIdeal.main_arg0)
          ∧ r.2.mem ((c.tc : Thread Cert.DnKernelIdeal.nD Cert.DnKernelIdeal.τ).loc Cert.DnKernelIdeal.main_arg1) = m ((c.tc : Thread Cert.DnKernelIdeal.nD Cert.DnKernelIdeal.τ).loc Cert.DnKernelIdeal.main_arg1)
          ∧ r.2.mem ((c.tc : Thread Cert.DnKernelIdeal.nD Cert.DnKernelIdeal.τ).loc Cert.DnKernelIdeal.main_arg2) = m ((c.tc : Thread Cert.DnKernelIdeal.nD Cert.DnKernelIdeal.τ).loc Cert.DnKernelIdeal.main_arg2)
          ∧ r.2.mem ((c.tc : Thread Cert.DnKernelIdeal.nD Cert.DnKernelIdeal.τ).loc Cert.DnKernelIdeal.main_arg3) = m ((c.tc : Thread Cert.DnKernelIdeal.nD Cert.DnKernelIdeal.τ).loc Cert.DnKernelIdeal.main_arg3)
          ∧ r.2.mem ((c.tc : Thread Cert.DnKernelIdeal.nD Cert.DnKernelIdeal.τ).loc Cert.DnKernelIdeal.main_arg4) = m ((c.tc : Thread Cert.DnKernelIdeal.nD Cert.DnKernelIdeal.τ).loc Cert.DnKernelIdeal.main_arg4))
      ∧ θ_run (Cert.DnReferenceIdeal.defs (F := Ideal)) (onTc (τ := Cert.DnReferenceIdeal.τ) (Cert.DnReferenceIdeal.main (F := Ideal))) ⟨m', fun _ => 0, g'⟩ (fun r => ∀ c : Dev Cert.DnReferenceIdeal.nD,
          r.2.mem ((c.tc : Thread Cert.DnReferenceIdeal.nD Cert.DnReferenceIdeal.τ).loc Cert.DnReferenceIdeal.main_v2) = v0 c
          ∧ r.2.mem ((c.tc : Thread Cert.DnReferenceIdeal.nD Cert.DnReferenceIdeal.τ).loc Cert.DnReferenceIdeal.main_v15) = v1 c
          ∧ r.2.mem ((c.tc : Thread Cert.DnReferenceIdeal.nD Cert.DnReferenceIdeal.τ).loc Cert.DnReferenceIdeal.main_v28) = v2 c
          ∧ r.2.mem ((c.tc : Thread Cert.DnReferenceIdeal.nD Cert.DnReferenceIdeal.τ).loc Cert.DnReferenceIdeal.main_arg0) = m' ((c.tc : Thread Cert.DnReferenceIdeal.nD Cert.DnReferenceIdeal.τ).loc Cert.DnReferenceIdeal.main_arg0)
          ∧ r.2.mem ((c.tc : Thread Cert.DnReferenceIdeal.nD Cert.DnReferenceIdeal.τ).loc Cert.DnReferenceIdeal.main_arg1) = m' ((c.tc : Thread Cert.DnReferenceIdeal.nD Cert.DnReferenceIdeal.τ).loc Cert.DnReferenceIdeal.main_arg1)
          ∧ r.2.mem ((c.tc : Thread Cert.DnReferenceIdeal.nD Cert.DnReferenceIdeal.τ).loc Cert.DnReferenceIdeal.main_arg2) = m' ((c.tc : Thread Cert.DnReferenceIdeal.nD Cert.DnReferenceIdeal.τ).loc Cert.DnReferenceIdeal.main_arg2)
          ∧ r.2.mem ((c.tc : Thread Cert.DnReferenceIdeal.nD Cert.DnReferenceIdeal.τ).loc Cert.DnReferenceIdeal.main_arg3) = m' ((c.tc : Thread Cert.DnReferenceIdeal.nD Cert.DnReferenceIdeal.τ).loc Cert.DnReferenceIdeal.main_arg3)
          ∧ r.2.mem ((c.tc : Thread Cert.DnReferenceIdeal.nD Cert.DnReferenceIdeal.τ).loc Cert.DnReferenceIdeal.main_arg4) = m' ((c.tc : Thread Cert.DnReferenceIdeal.nD Cert.DnReferenceIdeal.τ).loc Cert.DnReferenceIdeal.main_arg4))

def preserves_MfKernel_MfKernelIdeal : Prop :=
  True

def algebraic_MfKernelIdeal_MfReferenceIdeal [hMfKernelIdeal : Cert.MfKernelIdeal.Facts] [hMfReferenceIdeal : Cert.MfReferenceIdeal.Facts] : Prop :=
  ∀ (m : (ℓ : Loc Cert.MfKernelIdeal.nD Cert.MfKernelIdeal.τ Cert.MfKernelIdeal.sig) → Buf (Elt Ideal) ℓ) (g : Dev Cert.MfKernelIdeal.nD → PrngReg)
    (m' : (ℓ : Loc Cert.MfReferenceIdeal.nD Cert.MfReferenceIdeal.τ Cert.MfReferenceIdeal.sig) → Buf (Elt Ideal) ℓ) (g' : Dev Cert.MfReferenceIdeal.nD → PrngReg), Pre_MfKernelIdeal m →
    (∀ c : Dev Cert.MfKernelIdeal.nD,
      m' ((c.tc : Thread Cert.MfReferenceIdeal.nD Cert.MfReferenceIdeal.τ).loc Cert.MfReferenceIdeal.main_arg0) = m ((c.tc : Thread Cert.MfKernelIdeal.nD Cert.MfKernelIdeal.τ).loc Cert.MfKernelIdeal.main_arg0)
      ∧ m' ((c.tc : Thread Cert.MfReferenceIdeal.nD Cert.MfReferenceIdeal.τ).loc Cert.MfReferenceIdeal.main_arg1) = m ((c.tc : Thread Cert.MfKernelIdeal.nD Cert.MfKernelIdeal.τ).loc Cert.MfKernelIdeal.main_arg1)
      ∧ m' ((c.tc : Thread Cert.MfReferenceIdeal.nD Cert.MfReferenceIdeal.τ).loc Cert.MfReferenceIdeal.main_arg2) = m ((c.tc : Thread Cert.MfKernelIdeal.nD Cert.MfKernelIdeal.τ).loc Cert.MfKernelIdeal.main_arg2)
      ∧ m' ((c.tc : Thread Cert.MfReferenceIdeal.nD Cert.MfReferenceIdeal.τ).loc Cert.MfReferenceIdeal.main_arg3) = m ((c.tc : Thread Cert.MfKernelIdeal.nD Cert.MfKernelIdeal.τ).loc Cert.MfKernelIdeal.main_arg3)
      ∧ m' ((c.tc : Thread Cert.MfReferenceIdeal.nD Cert.MfReferenceIdeal.τ).loc Cert.MfReferenceIdeal.main_arg4) = m ((c.tc : Thread Cert.MfKernelIdeal.nD Cert.MfKernelIdeal.τ).loc Cert.MfKernelIdeal.main_arg4)
      ∧ m' ((c.tc : Thread Cert.MfReferenceIdeal.nD Cert.MfReferenceIdeal.τ).loc Cert.MfReferenceIdeal.main_arg5) = m ((c.tc : Thread Cert.MfKernelIdeal.nD Cert.MfKernelIdeal.τ).loc Cert.MfKernelIdeal.main_arg5)
      ∧ m' ((c.tc : Thread Cert.MfReferenceIdeal.nD Cert.MfReferenceIdeal.τ).loc Cert.MfReferenceIdeal.main_arg6) = m ((c.tc : Thread Cert.MfKernelIdeal.nD Cert.MfKernelIdeal.τ).loc Cert.MfKernelIdeal.main_arg6)) →
    ∃ (v0 : (c : Dev Cert.MfKernelIdeal.nD) → Buf (Elt Ideal) ((c.tc : Thread Cert.MfKernelIdeal.nD Cert.MfKernelIdeal.τ).loc Cert.MfKernelIdeal.main_v0)),
      θ_run (Cert.MfKernelIdeal.defs (F := Ideal)) (onTc (τ := Cert.MfKernelIdeal.τ) (Cert.MfKernelIdeal.main (F := Ideal))) ⟨m, fun _ => 0, g⟩ (fun r => ∀ c : Dev Cert.MfKernelIdeal.nD,
          r.2.mem ((c.tc : Thread Cert.MfKernelIdeal.nD Cert.MfKernelIdeal.τ).loc Cert.MfKernelIdeal.main_v0) = v0 c
          ∧ r.2.mem ((c.tc : Thread Cert.MfKernelIdeal.nD Cert.MfKernelIdeal.τ).loc Cert.MfKernelIdeal.main_arg0) = m ((c.tc : Thread Cert.MfKernelIdeal.nD Cert.MfKernelIdeal.τ).loc Cert.MfKernelIdeal.main_arg0)
          ∧ r.2.mem ((c.tc : Thread Cert.MfKernelIdeal.nD Cert.MfKernelIdeal.τ).loc Cert.MfKernelIdeal.main_arg1) = m ((c.tc : Thread Cert.MfKernelIdeal.nD Cert.MfKernelIdeal.τ).loc Cert.MfKernelIdeal.main_arg1)
          ∧ r.2.mem ((c.tc : Thread Cert.MfKernelIdeal.nD Cert.MfKernelIdeal.τ).loc Cert.MfKernelIdeal.main_arg2) = m ((c.tc : Thread Cert.MfKernelIdeal.nD Cert.MfKernelIdeal.τ).loc Cert.MfKernelIdeal.main_arg2)
          ∧ r.2.mem ((c.tc : Thread Cert.MfKernelIdeal.nD Cert.MfKernelIdeal.τ).loc Cert.MfKernelIdeal.main_arg3) = m ((c.tc : Thread Cert.MfKernelIdeal.nD Cert.MfKernelIdeal.τ).loc Cert.MfKernelIdeal.main_arg3)
          ∧ r.2.mem ((c.tc : Thread Cert.MfKernelIdeal.nD Cert.MfKernelIdeal.τ).loc Cert.MfKernelIdeal.main_arg4) = m ((c.tc : Thread Cert.MfKernelIdeal.nD Cert.MfKernelIdeal.τ).loc Cert.MfKernelIdeal.main_arg4)
          ∧ r.2.mem ((c.tc : Thread Cert.MfKernelIdeal.nD Cert.MfKernelIdeal.τ).loc Cert.MfKernelIdeal.main_arg5) = m ((c.tc : Thread Cert.MfKernelIdeal.nD Cert.MfKernelIdeal.τ).loc Cert.MfKernelIdeal.main_arg5)
          ∧ r.2.mem ((c.tc : Thread Cert.MfKernelIdeal.nD Cert.MfKernelIdeal.τ).loc Cert.MfKernelIdeal.main_arg6) = m ((c.tc : Thread Cert.MfKernelIdeal.nD Cert.MfKernelIdeal.τ).loc Cert.MfKernelIdeal.main_arg6))
      ∧ θ_run (Cert.MfReferenceIdeal.defs (F := Ideal)) (onTc (τ := Cert.MfReferenceIdeal.τ) (Cert.MfReferenceIdeal.main (F := Ideal))) ⟨m', fun _ => 0, g'⟩ (fun r => ∀ c : Dev Cert.MfReferenceIdeal.nD,
          r.2.mem ((c.tc : Thread Cert.MfReferenceIdeal.nD Cert.MfReferenceIdeal.τ).loc Cert.MfReferenceIdeal.main_v46) = v0 c
          ∧ r.2.mem ((c.tc : Thread Cert.MfReferenceIdeal.nD Cert.MfReferenceIdeal.τ).loc Cert.MfReferenceIdeal.main_arg0) = m' ((c.tc : Thread Cert.MfReferenceIdeal.nD Cert.MfReferenceIdeal.τ).loc Cert.MfReferenceIdeal.main_arg0)
          ∧ r.2.mem ((c.tc : Thread Cert.MfReferenceIdeal.nD Cert.MfReferenceIdeal.τ).loc Cert.MfReferenceIdeal.main_arg1) = m' ((c.tc : Thread Cert.MfReferenceIdeal.nD Cert.MfReferenceIdeal.τ).loc Cert.MfReferenceIdeal.main_arg1)
          ∧ r.2.mem ((c.tc : Thread Cert.MfReferenceIdeal.nD Cert.MfReferenceIdeal.τ).loc Cert.MfReferenceIdeal.main_arg2) = m' ((c.tc : Thread Cert.MfReferenceIdeal.nD Cert.MfReferenceIdeal.τ).loc Cert.MfReferenceIdeal.main_arg2)
          ∧ r.2.mem ((c.tc : Thread Cert.MfReferenceIdeal.nD Cert.MfReferenceIdeal.τ).loc Cert.MfReferenceIdeal.main_arg3) = m' ((c.tc : Thread Cert.MfReferenceIdeal.nD Cert.MfReferenceIdeal.τ).loc Cert.MfReferenceIdeal.main_arg3)
          ∧ r.2.mem ((c.tc : Thread Cert.MfReferenceIdeal.nD Cert.MfReferenceIdeal.τ).loc Cert.MfReferenceIdeal.main_arg4) = m' ((c.tc : Thread Cert.MfReferenceIdeal.nD Cert.MfReferenceIdeal.τ).loc Cert.MfReferenceIdeal.main_arg4)
          ∧ r.2.mem ((c.tc : Thread Cert.MfReferenceIdeal.nD Cert.MfReferenceIdeal.τ).loc Cert.MfReferenceIdeal.main_arg5) = m' ((c.tc : Thread Cert.MfReferenceIdeal.nD Cert.MfReferenceIdeal.τ).loc Cert.MfReferenceIdeal.main_arg5)
          ∧ r.2.mem ((c.tc : Thread Cert.MfReferenceIdeal.nD Cert.MfReferenceIdeal.τ).loc Cert.MfReferenceIdeal.main_arg6) = m' ((c.tc : Thread Cert.MfReferenceIdeal.nD Cert.MfReferenceIdeal.τ).loc Cert.MfReferenceIdeal.main_arg6))

def preserves_WoKernel_WoKernelIdeal : Prop :=
  True

def algebraic_WoKernelIdeal_WoReferenceIdeal [hWoKernelIdeal : Cert.WoKernelIdeal.Facts] [hWoReferenceIdeal : Cert.WoReferenceIdeal.Facts] : Prop :=
  ∀ (m : (ℓ : Loc Cert.WoKernelIdeal.nD Cert.WoKernelIdeal.τ Cert.WoKernelIdeal.sig) → Buf (Elt Ideal) ℓ) (g : Dev Cert.WoKernelIdeal.nD → PrngReg)
    (m' : (ℓ : Loc Cert.WoReferenceIdeal.nD Cert.WoReferenceIdeal.τ Cert.WoReferenceIdeal.sig) → Buf (Elt Ideal) ℓ) (g' : Dev Cert.WoReferenceIdeal.nD → PrngReg), Pre_WoKernelIdeal m →
    (∀ c : Dev Cert.WoKernelIdeal.nD,
      m' ((c.tc : Thread Cert.WoReferenceIdeal.nD Cert.WoReferenceIdeal.τ).loc Cert.WoReferenceIdeal.main_arg0) = m ((c.tc : Thread Cert.WoKernelIdeal.nD Cert.WoKernelIdeal.τ).loc Cert.WoKernelIdeal.main_arg0)
      ∧ m' ((c.tc : Thread Cert.WoReferenceIdeal.nD Cert.WoReferenceIdeal.τ).loc Cert.WoReferenceIdeal.main_arg1) = m ((c.tc : Thread Cert.WoKernelIdeal.nD Cert.WoKernelIdeal.τ).loc Cert.WoKernelIdeal.main_arg1)
      ∧ m' ((c.tc : Thread Cert.WoReferenceIdeal.nD Cert.WoReferenceIdeal.τ).loc Cert.WoReferenceIdeal.main_arg2) = m ((c.tc : Thread Cert.WoKernelIdeal.nD Cert.WoKernelIdeal.τ).loc Cert.WoKernelIdeal.main_arg2)
      ∧ m' ((c.tc : Thread Cert.WoReferenceIdeal.nD Cert.WoReferenceIdeal.τ).loc Cert.WoReferenceIdeal.main_arg3) = m ((c.tc : Thread Cert.WoKernelIdeal.nD Cert.WoKernelIdeal.τ).loc Cert.WoKernelIdeal.main_arg3)
      ∧ m' ((c.tc : Thread Cert.WoReferenceIdeal.nD Cert.WoReferenceIdeal.τ).loc Cert.WoReferenceIdeal.main_arg4) = m ((c.tc : Thread Cert.WoKernelIdeal.nD Cert.WoKernelIdeal.τ).loc Cert.WoKernelIdeal.main_arg4)) →
    ∃ (v0 : (c : Dev Cert.WoKernelIdeal.nD) → Buf (Elt Ideal) ((c.tc : Thread Cert.WoKernelIdeal.nD Cert.WoKernelIdeal.τ).loc Cert.WoKernelIdeal.main_v0_0)) (v1 : (c : Dev Cert.WoKernelIdeal.nD) → Buf (Elt Ideal) ((c.tc : Thread Cert.WoKernelIdeal.nD Cert.WoKernelIdeal.τ).loc Cert.WoKernelIdeal.main_v0_1)) (v2 : (c : Dev Cert.WoKernelIdeal.nD) → Buf (Elt Ideal) ((c.tc : Thread Cert.WoKernelIdeal.nD Cert.WoKernelIdeal.τ).loc Cert.WoKernelIdeal.main_v0_2)),
      θ_run (Cert.WoKernelIdeal.defs (F := Ideal)) (onTc (τ := Cert.WoKernelIdeal.τ) (Cert.WoKernelIdeal.main (F := Ideal))) ⟨m, fun _ => 0, g⟩ (fun r => ∀ c : Dev Cert.WoKernelIdeal.nD,
          r.2.mem ((c.tc : Thread Cert.WoKernelIdeal.nD Cert.WoKernelIdeal.τ).loc Cert.WoKernelIdeal.main_v0_0) = v0 c
          ∧ r.2.mem ((c.tc : Thread Cert.WoKernelIdeal.nD Cert.WoKernelIdeal.τ).loc Cert.WoKernelIdeal.main_v0_1) = v1 c
          ∧ r.2.mem ((c.tc : Thread Cert.WoKernelIdeal.nD Cert.WoKernelIdeal.τ).loc Cert.WoKernelIdeal.main_v0_2) = v2 c
          ∧ r.2.mem ((c.tc : Thread Cert.WoKernelIdeal.nD Cert.WoKernelIdeal.τ).loc Cert.WoKernelIdeal.main_arg0) = m ((c.tc : Thread Cert.WoKernelIdeal.nD Cert.WoKernelIdeal.τ).loc Cert.WoKernelIdeal.main_arg0)
          ∧ r.2.mem ((c.tc : Thread Cert.WoKernelIdeal.nD Cert.WoKernelIdeal.τ).loc Cert.WoKernelIdeal.main_arg1) = m ((c.tc : Thread Cert.WoKernelIdeal.nD Cert.WoKernelIdeal.τ).loc Cert.WoKernelIdeal.main_arg1)
          ∧ r.2.mem ((c.tc : Thread Cert.WoKernelIdeal.nD Cert.WoKernelIdeal.τ).loc Cert.WoKernelIdeal.main_arg2) = m ((c.tc : Thread Cert.WoKernelIdeal.nD Cert.WoKernelIdeal.τ).loc Cert.WoKernelIdeal.main_arg2)
          ∧ r.2.mem ((c.tc : Thread Cert.WoKernelIdeal.nD Cert.WoKernelIdeal.τ).loc Cert.WoKernelIdeal.main_arg3) = m ((c.tc : Thread Cert.WoKernelIdeal.nD Cert.WoKernelIdeal.τ).loc Cert.WoKernelIdeal.main_arg3)
          ∧ r.2.mem ((c.tc : Thread Cert.WoKernelIdeal.nD Cert.WoKernelIdeal.τ).loc Cert.WoKernelIdeal.main_arg4) = m ((c.tc : Thread Cert.WoKernelIdeal.nD Cert.WoKernelIdeal.τ).loc Cert.WoKernelIdeal.main_arg4))
      ∧ θ_run (Cert.WoReferenceIdeal.defs (F := Ideal)) (onTc (τ := Cert.WoReferenceIdeal.τ) (Cert.WoReferenceIdeal.main (F := Ideal))) ⟨m', fun _ => 0, g'⟩ (fun r => ∀ c : Dev Cert.WoReferenceIdeal.nD,
          r.2.mem ((c.tc : Thread Cert.WoReferenceIdeal.nD Cert.WoReferenceIdeal.τ).loc Cert.WoReferenceIdeal.main_v2) = v0 c
          ∧ r.2.mem ((c.tc : Thread Cert.WoReferenceIdeal.nD Cert.WoReferenceIdeal.τ).loc Cert.WoReferenceIdeal.main_v15) = v1 c
          ∧ r.2.mem ((c.tc : Thread Cert.WoReferenceIdeal.nD Cert.WoReferenceIdeal.τ).loc Cert.WoReferenceIdeal.main_v28) = v2 c
          ∧ r.2.mem ((c.tc : Thread Cert.WoReferenceIdeal.nD Cert.WoReferenceIdeal.τ).loc Cert.WoReferenceIdeal.main_arg0) = m' ((c.tc : Thread Cert.WoReferenceIdeal.nD Cert.WoReferenceIdeal.τ).loc Cert.WoReferenceIdeal.main_arg0)
          ∧ r.2.mem ((c.tc : Thread Cert.WoReferenceIdeal.nD Cert.WoReferenceIdeal.τ).loc Cert.WoReferenceIdeal.main_arg1) = m' ((c.tc : Thread Cert.WoReferenceIdeal.nD Cert.WoReferenceIdeal.τ).loc Cert.WoReferenceIdeal.main_arg1)
          ∧ r.2.mem ((c.tc : Thread Cert.WoReferenceIdeal.nD Cert.WoReferenceIdeal.τ).loc Cert.WoReferenceIdeal.main_arg2) = m' ((c.tc : Thread Cert.WoReferenceIdeal.nD Cert.WoReferenceIdeal.τ).loc Cert.WoReferenceIdeal.main_arg2)
          ∧ r.2.mem ((c.tc : Thread Cert.WoReferenceIdeal.nD Cert.WoReferenceIdeal.τ).loc Cert.WoReferenceIdeal.main_arg3) = m' ((c.tc : Thread Cert.WoReferenceIdeal.nD Cert.WoReferenceIdeal.τ).loc Cert.WoReferenceIdeal.main_arg3)
          ∧ r.2.mem ((c.tc : Thread Cert.WoReferenceIdeal.nD Cert.WoReferenceIdeal.τ).loc Cert.WoReferenceIdeal.main_arg4) = m' ((c.tc : Thread Cert.WoReferenceIdeal.nD Cert.WoReferenceIdeal.τ).loc Cert.WoReferenceIdeal.main_arg4))

def preserves_CoKernel_CoKernelIdeal : Prop :=
  True

def algebraic_CoKernelIdeal_CoReferenceIdeal [hCoKernelIdeal : Cert.CoKernelIdeal.Facts] [hCoReferenceIdeal : Cert.CoReferenceIdeal.Facts] : Prop :=
  ∀ (m : (ℓ : Loc Cert.CoKernelIdeal.nD Cert.CoKernelIdeal.τ Cert.CoKernelIdeal.sig) → Buf (Elt Ideal) ℓ) (g : Dev Cert.CoKernelIdeal.nD → PrngReg)
    (m' : (ℓ : Loc Cert.CoReferenceIdeal.nD Cert.CoReferenceIdeal.τ Cert.CoReferenceIdeal.sig) → Buf (Elt Ideal) ℓ) (g' : Dev Cert.CoReferenceIdeal.nD → PrngReg), Pre_CoKernelIdeal m →
    (∀ c : Dev Cert.CoKernelIdeal.nD,
      m' ((c.tc : Thread Cert.CoReferenceIdeal.nD Cert.CoReferenceIdeal.τ).loc Cert.CoReferenceIdeal.main_arg0) = m ((c.tc : Thread Cert.CoKernelIdeal.nD Cert.CoKernelIdeal.τ).loc Cert.CoKernelIdeal.main_arg0)
      ∧ m' ((c.tc : Thread Cert.CoReferenceIdeal.nD Cert.CoReferenceIdeal.τ).loc Cert.CoReferenceIdeal.main_arg1) = m ((c.tc : Thread Cert.CoKernelIdeal.nD Cert.CoKernelIdeal.τ).loc Cert.CoKernelIdeal.main_arg1)
      ∧ m' ((c.tc : Thread Cert.CoReferenceIdeal.nD Cert.CoReferenceIdeal.τ).loc Cert.CoReferenceIdeal.main_arg2) = m ((c.tc : Thread Cert.CoKernelIdeal.nD Cert.CoKernelIdeal.τ).loc Cert.CoKernelIdeal.main_arg2)
      ∧ m' ((c.tc : Thread Cert.CoReferenceIdeal.nD Cert.CoReferenceIdeal.τ).loc Cert.CoReferenceIdeal.main_arg3) = m ((c.tc : Thread Cert.CoKernelIdeal.nD Cert.CoKernelIdeal.τ).loc Cert.CoKernelIdeal.main_arg3)
      ∧ m' ((c.tc : Thread Cert.CoReferenceIdeal.nD Cert.CoReferenceIdeal.τ).loc Cert.CoReferenceIdeal.main_arg4) = m ((c.tc : Thread Cert.CoKernelIdeal.nD Cert.CoKernelIdeal.τ).loc Cert.CoKernelIdeal.main_arg4)) →
    ∃ (v0 : (c : Dev Cert.CoKernelIdeal.nD) → Buf (Elt Ideal) ((c.tc : Thread Cert.CoKernelIdeal.nD Cert.CoKernelIdeal.τ).loc Cert.CoKernelIdeal.main_v0_0)) (v1 : (c : Dev Cert.CoKernelIdeal.nD) → Buf (Elt Ideal) ((c.tc : Thread Cert.CoKernelIdeal.nD Cert.CoKernelIdeal.τ).loc Cert.CoKernelIdeal.main_v0_1)) (v2 : (c : Dev Cert.CoKernelIdeal.nD) → Buf (Elt Ideal) ((c.tc : Thread Cert.CoKernelIdeal.nD Cert.CoKernelIdeal.τ).loc Cert.CoKernelIdeal.main_v0_2)),
      θ_run (Cert.CoKernelIdeal.defs (F := Ideal)) (onTc (τ := Cert.CoKernelIdeal.τ) (Cert.CoKernelIdeal.main (F := Ideal))) ⟨m, fun _ => 0, g⟩ (fun r => ∀ c : Dev Cert.CoKernelIdeal.nD,
          r.2.mem ((c.tc : Thread Cert.CoKernelIdeal.nD Cert.CoKernelIdeal.τ).loc Cert.CoKernelIdeal.main_v0_0) = v0 c
          ∧ r.2.mem ((c.tc : Thread Cert.CoKernelIdeal.nD Cert.CoKernelIdeal.τ).loc Cert.CoKernelIdeal.main_v0_1) = v1 c
          ∧ r.2.mem ((c.tc : Thread Cert.CoKernelIdeal.nD Cert.CoKernelIdeal.τ).loc Cert.CoKernelIdeal.main_v0_2) = v2 c
          ∧ r.2.mem ((c.tc : Thread Cert.CoKernelIdeal.nD Cert.CoKernelIdeal.τ).loc Cert.CoKernelIdeal.main_arg0) = m ((c.tc : Thread Cert.CoKernelIdeal.nD Cert.CoKernelIdeal.τ).loc Cert.CoKernelIdeal.main_arg0)
          ∧ r.2.mem ((c.tc : Thread Cert.CoKernelIdeal.nD Cert.CoKernelIdeal.τ).loc Cert.CoKernelIdeal.main_arg1) = m ((c.tc : Thread Cert.CoKernelIdeal.nD Cert.CoKernelIdeal.τ).loc Cert.CoKernelIdeal.main_arg1)
          ∧ r.2.mem ((c.tc : Thread Cert.CoKernelIdeal.nD Cert.CoKernelIdeal.τ).loc Cert.CoKernelIdeal.main_arg2) = m ((c.tc : Thread Cert.CoKernelIdeal.nD Cert.CoKernelIdeal.τ).loc Cert.CoKernelIdeal.main_arg2)
          ∧ r.2.mem ((c.tc : Thread Cert.CoKernelIdeal.nD Cert.CoKernelIdeal.τ).loc Cert.CoKernelIdeal.main_arg3) = m ((c.tc : Thread Cert.CoKernelIdeal.nD Cert.CoKernelIdeal.τ).loc Cert.CoKernelIdeal.main_arg3)
          ∧ r.2.mem ((c.tc : Thread Cert.CoKernelIdeal.nD Cert.CoKernelIdeal.τ).loc Cert.CoKernelIdeal.main_arg4) = m ((c.tc : Thread Cert.CoKernelIdeal.nD Cert.CoKernelIdeal.τ).loc Cert.CoKernelIdeal.main_arg4))
      ∧ θ_run (Cert.CoReferenceIdeal.defs (F := Ideal)) (onTc (τ := Cert.CoReferenceIdeal.τ) (Cert.CoReferenceIdeal.main (F := Ideal))) ⟨m', fun _ => 0, g'⟩ (fun r => ∀ c : Dev Cert.CoReferenceIdeal.nD,
          r.2.mem ((c.tc : Thread Cert.CoReferenceIdeal.nD Cert.CoReferenceIdeal.τ).loc Cert.CoReferenceIdeal.main_v2) = v0 c
          ∧ r.2.mem ((c.tc : Thread Cert.CoReferenceIdeal.nD Cert.CoReferenceIdeal.τ).loc Cert.CoReferenceIdeal.main_v15) = v1 c
          ∧ r.2.mem ((c.tc : Thread Cert.CoReferenceIdeal.nD Cert.CoReferenceIdeal.τ).loc Cert.CoReferenceIdeal.main_v28) = v2 c
          ∧ r.2.mem ((c.tc : Thread Cert.CoReferenceIdeal.nD Cert.CoReferenceIdeal.τ).loc Cert.CoReferenceIdeal.main_arg0) = m' ((c.tc : Thread Cert.CoReferenceIdeal.nD Cert.CoReferenceIdeal.τ).loc Cert.CoReferenceIdeal.main_arg0)
          ∧ r.2.mem ((c.tc : Thread Cert.CoReferenceIdeal.nD Cert.CoReferenceIdeal.τ).loc Cert.CoReferenceIdeal.main_arg1) = m' ((c.tc : Thread Cert.CoReferenceIdeal.nD Cert.CoReferenceIdeal.τ).loc Cert.CoReferenceIdeal.main_arg1)
          ∧ r.2.mem ((c.tc : Thread Cert.CoReferenceIdeal.nD Cert.CoReferenceIdeal.τ).loc Cert.CoReferenceIdeal.main_arg2) = m' ((c.tc : Thread Cert.CoReferenceIdeal.nD Cert.CoReferenceIdeal.τ).loc Cert.CoReferenceIdeal.main_arg2)
          ∧ r.2.mem ((c.tc : Thread Cert.CoReferenceIdeal.nD Cert.CoReferenceIdeal.τ).loc Cert.CoReferenceIdeal.main_arg3) = m' ((c.tc : Thread Cert.CoReferenceIdeal.nD Cert.CoReferenceIdeal.τ).loc Cert.CoReferenceIdeal.main_arg3)
          ∧ r.2.mem ((c.tc : Thread Cert.CoReferenceIdeal.nD Cert.CoReferenceIdeal.τ).loc Cert.CoReferenceIdeal.main_arg4) = m' ((c.tc : Thread Cert.CoReferenceIdeal.nD Cert.CoReferenceIdeal.τ).loc Cert.CoReferenceIdeal.main_arg4))

def preserves_CqKernel_CqKernelIdeal : Prop :=
  True

def algebraic_CqKernelIdeal_CqReferenceIdeal [hCqKernelIdeal : Cert.CqKernelIdeal.Facts] [hCqReferenceIdeal : Cert.CqReferenceIdeal.Facts] : Prop :=
  ∀ (m : (ℓ : Loc Cert.CqKernelIdeal.nD Cert.CqKernelIdeal.τ Cert.CqKernelIdeal.sig) → Buf (Elt Ideal) ℓ) (g : Dev Cert.CqKernelIdeal.nD → PrngReg)
    (m' : (ℓ : Loc Cert.CqReferenceIdeal.nD Cert.CqReferenceIdeal.τ Cert.CqReferenceIdeal.sig) → Buf (Elt Ideal) ℓ) (g' : Dev Cert.CqReferenceIdeal.nD → PrngReg), Pre_CqKernelIdeal m →
    (∀ c : Dev Cert.CqKernelIdeal.nD,
      m' ((c.tc : Thread Cert.CqReferenceIdeal.nD Cert.CqReferenceIdeal.τ).loc Cert.CqReferenceIdeal.main_arg0) = m ((c.tc : Thread Cert.CqKernelIdeal.nD Cert.CqKernelIdeal.τ).loc Cert.CqKernelIdeal.main_arg0)
      ∧ m' ((c.tc : Thread Cert.CqReferenceIdeal.nD Cert.CqReferenceIdeal.τ).loc Cert.CqReferenceIdeal.main_arg1) = m ((c.tc : Thread Cert.CqKernelIdeal.nD Cert.CqKernelIdeal.τ).loc Cert.CqKernelIdeal.main_arg1)) →
    ∃ (v0 : (c : Dev Cert.CqKernelIdeal.nD) → Buf (Elt Ideal) ((c.tc : Thread Cert.CqKernelIdeal.nD Cert.CqKernelIdeal.τ).loc Cert.CqKernelIdeal.main_v0)),
      θ_run (Cert.CqKernelIdeal.defs (F := Ideal)) (onTc (τ := Cert.CqKernelIdeal.τ) (Cert.CqKernelIdeal.main (F := Ideal))) ⟨m, fun _ => 0, g⟩ (fun r => ∀ c : Dev Cert.CqKernelIdeal.nD,
          r.2.mem ((c.tc : Thread Cert.CqKernelIdeal.nD Cert.CqKernelIdeal.τ).loc Cert.CqKernelIdeal.main_v0) = v0 c
          ∧ r.2.mem ((c.tc : Thread Cert.CqKernelIdeal.nD Cert.CqKernelIdeal.τ).loc Cert.CqKernelIdeal.main_arg0) = m ((c.tc : Thread Cert.CqKernelIdeal.nD Cert.CqKernelIdeal.τ).loc Cert.CqKernelIdeal.main_arg0)
          ∧ r.2.mem ((c.tc : Thread Cert.CqKernelIdeal.nD Cert.CqKernelIdeal.τ).loc Cert.CqKernelIdeal.main_arg1) = m ((c.tc : Thread Cert.CqKernelIdeal.nD Cert.CqKernelIdeal.τ).loc Cert.CqKernelIdeal.main_arg1))
      ∧ θ_run (Cert.CqReferenceIdeal.defs (F := Ideal)) (onTc (τ := Cert.CqReferenceIdeal.τ) (Cert.CqReferenceIdeal.main (F := Ideal))) ⟨m', fun _ => 0, g'⟩ (fun r => ∀ c : Dev Cert.CqReferenceIdeal.nD,
          r.2.mem ((c.tc : Thread Cert.CqReferenceIdeal.nD Cert.CqReferenceIdeal.τ).loc Cert.CqReferenceIdeal.main_v3) = v0 c
          ∧ r.2.mem ((c.tc : Thread Cert.CqReferenceIdeal.nD Cert.CqReferenceIdeal.τ).loc Cert.CqReferenceIdeal.main_arg0) = m' ((c.tc : Thread Cert.CqReferenceIdeal.nD Cert.CqReferenceIdeal.τ).loc Cert.CqReferenceIdeal.main_arg0)
          ∧ r.2.mem ((c.tc : Thread Cert.CqReferenceIdeal.nD Cert.CqReferenceIdeal.τ).loc Cert.CqReferenceIdeal.main_arg1) = m' ((c.tc : Thread Cert.CqReferenceIdeal.nD Cert.CqReferenceIdeal.τ).loc Cert.CqReferenceIdeal.main_arg1))

def preserves_DmKernel_DmKernelIdeal : Prop :=
  True

def algebraic_DmKernelIdeal_DmReferenceIdeal [hDmKernelIdeal : Cert.DmKernelIdeal.Facts] [hDmReferenceIdeal : Cert.DmReferenceIdeal.Facts] : Prop :=
  ∀ (m : (ℓ : Loc Cert.DmKernelIdeal.nD Cert.DmKernelIdeal.τ Cert.DmKernelIdeal.sig) → Buf (Elt Ideal) ℓ) (g : Dev Cert.DmKernelIdeal.nD → PrngReg)
    (m' : (ℓ : Loc Cert.DmReferenceIdeal.nD Cert.DmReferenceIdeal.τ Cert.DmReferenceIdeal.sig) → Buf (Elt Ideal) ℓ) (g' : Dev Cert.DmReferenceIdeal.nD → PrngReg), Pre_DmKernelIdeal m →
    (∀ c : Dev Cert.DmKernelIdeal.nD,
      m' ((c.tc : Thread Cert.DmReferenceIdeal.nD Cert.DmReferenceIdeal.τ).loc Cert.DmReferenceIdeal.main_arg0) = m ((c.tc : Thread Cert.DmKernelIdeal.nD Cert.DmKernelIdeal.τ).loc Cert.DmKernelIdeal.main_arg0)
      ∧ m' ((c.tc : Thread Cert.DmReferenceIdeal.nD Cert.DmReferenceIdeal.τ).loc Cert.DmReferenceIdeal.main_arg1) = m ((c.tc : Thread Cert.DmKernelIdeal.nD Cert.DmKernelIdeal.τ).loc Cert.DmKernelIdeal.main_arg1)) →
    ∃ (v0 : (c : Dev Cert.DmKernelIdeal.nD) → Buf (Elt Ideal) ((c.tc : Thread Cert.DmKernelIdeal.nD Cert.DmKernelIdeal.τ).loc Cert.DmKernelIdeal.main_v0)),
      θ_run (Cert.DmKernelIdeal.defs (F := Ideal)) (onTc (τ := Cert.DmKernelIdeal.τ) (Cert.DmKernelIdeal.main (F := Ideal))) ⟨m, fun _ => 0, g⟩ (fun r => ∀ c : Dev Cert.DmKernelIdeal.nD,
          r.2.mem ((c.tc : Thread Cert.DmKernelIdeal.nD Cert.DmKernelIdeal.τ).loc Cert.DmKernelIdeal.main_v0) = v0 c
          ∧ r.2.mem ((c.tc : Thread Cert.DmKernelIdeal.nD Cert.DmKernelIdeal.τ).loc Cert.DmKernelIdeal.main_arg0) = m ((c.tc : Thread Cert.DmKernelIdeal.nD Cert.DmKernelIdeal.τ).loc Cert.DmKernelIdeal.main_arg0)
          ∧ r.2.mem ((c.tc : Thread Cert.DmKernelIdeal.nD Cert.DmKernelIdeal.τ).loc Cert.DmKernelIdeal.main_arg1) = m ((c.tc : Thread Cert.DmKernelIdeal.nD Cert.DmKernelIdeal.τ).loc Cert.DmKernelIdeal.main_arg1))
      ∧ θ_run (Cert.DmReferenceIdeal.defs (F := Ideal)) (onTc (τ := Cert.DmReferenceIdeal.τ) (Cert.DmReferenceIdeal.main (F := Ideal))) ⟨m', fun _ => 0, g'⟩ (fun r => ∀ c : Dev Cert.DmReferenceIdeal.nD,
          r.2.mem ((c.tc : Thread Cert.DmReferenceIdeal.nD Cert.DmReferenceIdeal.τ).loc Cert.DmReferenceIdeal.main_v4) = v0 c
          ∧ r.2.mem ((c.tc : Thread Cert.DmReferenceIdeal.nD Cert.DmReferenceIdeal.τ).loc Cert.DmReferenceIdeal.main_arg0) = m' ((c.tc : Thread Cert.DmReferenceIdeal.nD Cert.DmReferenceIdeal.τ).loc Cert.DmReferenceIdeal.main_arg0)
          ∧ r.2.mem ((c.tc : Thread Cert.DmReferenceIdeal.nD Cert.DmReferenceIdeal.τ).loc Cert.DmReferenceIdeal.main_arg1) = m' ((c.tc : Thread Cert.DmReferenceIdeal.nD Cert.DmReferenceIdeal.τ).loc Cert.DmReferenceIdeal.main_arg1))

def preserves_DbKernel_DbKernelIdeal : Prop :=
  True

def algebraic_DbKernelIdeal_DbReferenceIdeal [hDbKernelIdeal : Cert.DbKernelIdeal.Facts] [hDbReferenceIdeal : Cert.DbReferenceIdeal.Facts] : Prop :=
  ∀ (m : (ℓ : Loc Cert.DbKernelIdeal.nD Cert.DbKernelIdeal.τ Cert.DbKernelIdeal.sig) → Buf (Elt Ideal) ℓ) (g : Dev Cert.DbKernelIdeal.nD → PrngReg)
    (m' : (ℓ : Loc Cert.DbReferenceIdeal.nD Cert.DbReferenceIdeal.τ Cert.DbReferenceIdeal.sig) → Buf (Elt Ideal) ℓ) (g' : Dev Cert.DbReferenceIdeal.nD → PrngReg), Pre_DbKernelIdeal m →
    (∀ c : Dev Cert.DbKernelIdeal.nD,
      m' ((c.tc : Thread Cert.DbReferenceIdeal.nD Cert.DbReferenceIdeal.τ).loc Cert.DbReferenceIdeal.main_arg0) = m ((c.tc : Thread Cert.DbKernelIdeal.nD Cert.DbKernelIdeal.τ).loc Cert.DbKernelIdeal.main_arg0)
      ∧ m' ((c.tc : Thread Cert.DbReferenceIdeal.nD Cert.DbReferenceIdeal.τ).loc Cert.DbReferenceIdeal.main_arg1) = m ((c.tc : Thread Cert.DbKernelIdeal.nD Cert.DbKernelIdeal.τ).loc Cert.DbKernelIdeal.main_arg1)) →
    ∃ (v0 : (c : Dev Cert.DbKernelIdeal.nD) → Buf (Elt Ideal) ((c.tc : Thread Cert.DbKernelIdeal.nD Cert.DbKernelIdeal.τ).loc Cert.DbKernelIdeal.main_v0)),
      θ_run (Cert.DbKernelIdeal.defs (F := Ideal)) (onTc (τ := Cert.DbKernelIdeal.τ) (Cert.DbKernelIdeal.main (F := Ideal))) ⟨m, fun _ => 0, g⟩ (fun r => ∀ c : Dev Cert.DbKernelIdeal.nD,
          r.2.mem ((c.tc : Thread Cert.DbKernelIdeal.nD Cert.DbKernelIdeal.τ).loc Cert.DbKernelIdeal.main_v0) = v0 c
          ∧ r.2.mem ((c.tc : Thread Cert.DbKernelIdeal.nD Cert.DbKernelIdeal.τ).loc Cert.DbKernelIdeal.main_arg0) = m ((c.tc : Thread Cert.DbKernelIdeal.nD Cert.DbKernelIdeal.τ).loc Cert.DbKernelIdeal.main_arg0)
          ∧ r.2.mem ((c.tc : Thread Cert.DbKernelIdeal.nD Cert.DbKernelIdeal.τ).loc Cert.DbKernelIdeal.main_arg1) = m ((c.tc : Thread Cert.DbKernelIdeal.nD Cert.DbKernelIdeal.τ).loc Cert.DbKernelIdeal.main_arg1))
      ∧ θ_run (Cert.DbReferenceIdeal.defs (F := Ideal)) (onTc (τ := Cert.DbReferenceIdeal.τ) (Cert.DbReferenceIdeal.main (F := Ideal))) ⟨m', fun _ => 0, g'⟩ (fun r => ∀ c : Dev Cert.DbReferenceIdeal.nD,
          r.2.mem ((c.tc : Thread Cert.DbReferenceIdeal.nD Cert.DbReferenceIdeal.τ).loc Cert.DbReferenceIdeal.main_v4) = v0 c
          ∧ r.2.mem ((c.tc : Thread Cert.DbReferenceIdeal.nD Cert.DbReferenceIdeal.τ).loc Cert.DbReferenceIdeal.main_arg0) = m' ((c.tc : Thread Cert.DbReferenceIdeal.nD Cert.DbReferenceIdeal.τ).loc Cert.DbReferenceIdeal.main_arg0)
          ∧ r.2.mem ((c.tc : Thread Cert.DbReferenceIdeal.nD Cert.DbReferenceIdeal.τ).loc Cert.DbReferenceIdeal.main_arg1) = m' ((c.tc : Thread Cert.DbReferenceIdeal.nD Cert.DbReferenceIdeal.τ).loc Cert.DbReferenceIdeal.main_arg1))

def preserves_DxKernel_DxKernelIdeal : Prop :=
  True

def algebraic_DxKernelIdeal_DxReferenceIdeal [hDxKernelIdeal : Cert.DxKernelIdeal.Facts] [hDxReferenceIdeal : Cert.DxReferenceIdeal.Facts] : Prop :=
  ∀ (m : (ℓ : Loc Cert.DxKernelIdeal.nD Cert.DxKernelIdeal.τ Cert.DxKernelIdeal.sig) → Buf (Elt Ideal) ℓ) (g : Dev Cert.DxKernelIdeal.nD → PrngReg)
    (m' : (ℓ : Loc Cert.DxReferenceIdeal.nD Cert.DxReferenceIdeal.τ Cert.DxReferenceIdeal.sig) → Buf (Elt Ideal) ℓ) (g' : Dev Cert.DxReferenceIdeal.nD → PrngReg), Pre_DxKernelIdeal m →
    (∀ c : Dev Cert.DxKernelIdeal.nD,
      m' ((c.tc : Thread Cert.DxReferenceIdeal.nD Cert.DxReferenceIdeal.τ).loc Cert.DxReferenceIdeal.main_arg0) = m ((c.tc : Thread Cert.DxKernelIdeal.nD Cert.DxKernelIdeal.τ).loc Cert.DxKernelIdeal.main_arg0)
      ∧ m' ((c.tc : Thread Cert.DxReferenceIdeal.nD Cert.DxReferenceIdeal.τ).loc Cert.DxReferenceIdeal.main_arg1) = m ((c.tc : Thread Cert.DxKernelIdeal.nD Cert.DxKernelIdeal.τ).loc Cert.DxKernelIdeal.main_arg1)) →
    ∃ (v0 : (c : Dev Cert.DxKernelIdeal.nD) → Buf (Elt Ideal) ((c.tc : Thread Cert.DxKernelIdeal.nD Cert.DxKernelIdeal.τ).loc Cert.DxKernelIdeal.main_v0)),
      θ_run (Cert.DxKernelIdeal.defs (F := Ideal)) (onTc (τ := Cert.DxKernelIdeal.τ) (Cert.DxKernelIdeal.main (F := Ideal))) ⟨m, fun _ => 0, g⟩ (fun r => ∀ c : Dev Cert.DxKernelIdeal.nD,
          r.2.mem ((c.tc : Thread Cert.DxKernelIdeal.nD Cert.DxKernelIdeal.τ).loc Cert.DxKernelIdeal.main_v0) = v0 c
          ∧ r.2.mem ((c.tc : Thread Cert.DxKernelIdeal.nD Cert.DxKernelIdeal.τ).loc Cert.DxKernelIdeal.main_arg0) = m ((c.tc : Thread Cert.DxKernelIdeal.nD Cert.DxKernelIdeal.τ).loc Cert.DxKernelIdeal.main_arg0)
          ∧ r.2.mem ((c.tc : Thread Cert.DxKernelIdeal.nD Cert.DxKernelIdeal.τ).loc Cert.DxKernelIdeal.main_arg1) = m ((c.tc : Thread Cert.DxKernelIdeal.nD Cert.DxKernelIdeal.τ).loc Cert.DxKernelIdeal.main_arg1))
      ∧ θ_run (Cert.DxReferenceIdeal.defs (F := Ideal)) (onTc (τ := Cert.DxReferenceIdeal.τ) (Cert.DxReferenceIdeal.main (F := Ideal))) ⟨m', fun _ => 0, g'⟩ (fun r => ∀ c : Dev Cert.DxReferenceIdeal.nD,
          r.2.mem ((c.tc : Thread Cert.DxReferenceIdeal.nD Cert.DxReferenceIdeal.τ).loc Cert.DxReferenceIdeal.main_v5) = v0 c
          ∧ r.2.mem ((c.tc : Thread Cert.DxReferenceIdeal.nD Cert.DxReferenceIdeal.τ).loc Cert.DxReferenceIdeal.main_arg0) = m' ((c.tc : Thread Cert.DxReferenceIdeal.nD Cert.DxReferenceIdeal.τ).loc Cert.DxReferenceIdeal.main_arg0)
          ∧ r.2.mem ((c.tc : Thread Cert.DxReferenceIdeal.nD Cert.DxReferenceIdeal.τ).loc Cert.DxReferenceIdeal.main_arg1) = m' ((c.tc : Thread Cert.DxReferenceIdeal.nD Cert.DxReferenceIdeal.τ).loc Cert.DxReferenceIdeal.main_arg1))

def preserves_WuKernel_WuKernelIdeal : Prop :=
  True

def algebraic_WuKernelIdeal_WuReferenceIdeal [hWuKernelIdeal : Cert.WuKernelIdeal.Facts] [hWuReferenceIdeal : Cert.WuReferenceIdeal.Facts] : Prop :=
  ∀ (m : (ℓ : Loc Cert.WuKernelIdeal.nD Cert.WuKernelIdeal.τ Cert.WuKernelIdeal.sig) → Buf (Elt Ideal) ℓ) (g : Dev Cert.WuKernelIdeal.nD → PrngReg)
    (m' : (ℓ : Loc Cert.WuReferenceIdeal.nD Cert.WuReferenceIdeal.τ Cert.WuReferenceIdeal.sig) → Buf (Elt Ideal) ℓ) (g' : Dev Cert.WuReferenceIdeal.nD → PrngReg), Pre_WuKernelIdeal m →
    (∀ c : Dev Cert.WuKernelIdeal.nD,
      m' ((c.tc : Thread Cert.WuReferenceIdeal.nD Cert.WuReferenceIdeal.τ).loc Cert.WuReferenceIdeal.main_arg0) = m ((c.tc : Thread Cert.WuKernelIdeal.nD Cert.WuKernelIdeal.τ).loc Cert.WuKernelIdeal.main_arg0)
      ∧ m' ((c.tc : Thread Cert.WuReferenceIdeal.nD Cert.WuReferenceIdeal.τ).loc Cert.WuReferenceIdeal.main_arg1) = m ((c.tc : Thread Cert.WuKernelIdeal.nD Cert.WuKernelIdeal.τ).loc Cert.WuKernelIdeal.main_arg1)) →
    ∃ (v0 : (c : Dev Cert.WuKernelIdeal.nD) → Buf (Elt Ideal) ((c.tc : Thread Cert.WuKernelIdeal.nD Cert.WuKernelIdeal.τ).loc Cert.WuKernelIdeal.main_v0)),
      θ_run (Cert.WuKernelIdeal.defs (F := Ideal)) (onTc (τ := Cert.WuKernelIdeal.τ) (Cert.WuKernelIdeal.main (F := Ideal))) ⟨m, fun _ => 0, g⟩ (fun r => ∀ c : Dev Cert.WuKernelIdeal.nD,
          r.2.mem ((c.tc : Thread Cert.WuKernelIdeal.nD Cert.WuKernelIdeal.τ).loc Cert.WuKernelIdeal.main_v0) = v0 c
          ∧ r.2.mem ((c.tc : Thread Cert.WuKernelIdeal.nD Cert.WuKernelIdeal.τ).loc Cert.WuKernelIdeal.main_arg0) = m ((c.tc : Thread Cert.WuKernelIdeal.nD Cert.WuKernelIdeal.τ).loc Cert.WuKernelIdeal.main_arg0)
          ∧ r.2.mem ((c.tc : Thread Cert.WuKernelIdeal.nD Cert.WuKernelIdeal.τ).loc Cert.WuKernelIdeal.main_arg1) = m ((c.tc : Thread Cert.WuKernelIdeal.nD Cert.WuKernelIdeal.τ).loc Cert.WuKernelIdeal.main_arg1))
      ∧ θ_run (Cert.WuReferenceIdeal.defs (F := Ideal)) (onTc (τ := Cert.WuReferenceIdeal.τ) (Cert.WuReferenceIdeal.main (F := Ideal))) ⟨m', fun _ => 0, g'⟩ (fun r => ∀ c : Dev Cert.WuReferenceIdeal.nD,
          r.2.mem ((c.tc : Thread Cert.WuReferenceIdeal.nD Cert.WuReferenceIdeal.τ).loc Cert.WuReferenceIdeal.main_v5) = v0 c
          ∧ r.2.mem ((c.tc : Thread Cert.WuReferenceIdeal.nD Cert.WuReferenceIdeal.τ).loc Cert.WuReferenceIdeal.main_arg0) = m' ((c.tc : Thread Cert.WuReferenceIdeal.nD Cert.WuReferenceIdeal.τ).loc Cert.WuReferenceIdeal.main_arg0)
          ∧ r.2.mem ((c.tc : Thread Cert.WuReferenceIdeal.nD Cert.WuReferenceIdeal.τ).loc Cert.WuReferenceIdeal.main_arg1) = m' ((c.tc : Thread Cert.WuReferenceIdeal.nD Cert.WuReferenceIdeal.τ).loc Cert.WuReferenceIdeal.main_arg1))

def preserves_DwoKernel_DwoKernelIdeal : Prop :=
  True

def algebraic_DwoKernelIdeal_DwoReferenceIdeal [hDwoKernelIdeal : Cert.DwoKernelIdeal.Facts] [hDwoReferenceIdeal : Cert.DwoReferenceIdeal.Facts] : Prop :=
  ∀ (m : (ℓ : Loc Cert.DwoKernelIdeal.nD Cert.DwoKernelIdeal.τ Cert.DwoKernelIdeal.sig) → Buf (Elt Ideal) ℓ) (g : Dev Cert.DwoKernelIdeal.nD → PrngReg)
    (m' : (ℓ : Loc Cert.DwoReferenceIdeal.nD Cert.DwoReferenceIdeal.τ Cert.DwoReferenceIdeal.sig) → Buf (Elt Ideal) ℓ) (g' : Dev Cert.DwoReferenceIdeal.nD → PrngReg), Pre_DwoKernelIdeal m →
    (∀ c : Dev Cert.DwoKernelIdeal.nD,
      m' ((c.tc : Thread Cert.DwoReferenceIdeal.nD Cert.DwoReferenceIdeal.τ).loc Cert.DwoReferenceIdeal.main_arg0) = m ((c.tc : Thread Cert.DwoKernelIdeal.nD Cert.DwoKernelIdeal.τ).loc Cert.DwoKernelIdeal.main_arg0)
      ∧ m' ((c.tc : Thread Cert.DwoReferenceIdeal.nD Cert.DwoReferenceIdeal.τ).loc Cert.DwoReferenceIdeal.main_arg1) = m ((c.tc : Thread Cert.DwoKernelIdeal.nD Cert.DwoKernelIdeal.τ).loc Cert.DwoKernelIdeal.main_arg1)) →
    ∃ (v0 : (c : Dev Cert.DwoKernelIdeal.nD) → Buf (Elt Ideal) ((c.tc : Thread Cert.DwoKernelIdeal.nD Cert.DwoKernelIdeal.τ).loc Cert.DwoKernelIdeal.main_v0)),
      θ_run (Cert.DwoKernelIdeal.defs (F := Ideal)) (onTc (τ := Cert.DwoKernelIdeal.τ) (Cert.DwoKernelIdeal.main (F := Ideal))) ⟨m, fun _ => 0, g⟩ (fun r => ∀ c : Dev Cert.DwoKernelIdeal.nD,
          r.2.mem ((c.tc : Thread Cert.DwoKernelIdeal.nD Cert.DwoKernelIdeal.τ).loc Cert.DwoKernelIdeal.main_v0) = v0 c
          ∧ r.2.mem ((c.tc : Thread Cert.DwoKernelIdeal.nD Cert.DwoKernelIdeal.τ).loc Cert.DwoKernelIdeal.main_arg0) = m ((c.tc : Thread Cert.DwoKernelIdeal.nD Cert.DwoKernelIdeal.τ).loc Cert.DwoKernelIdeal.main_arg0)
          ∧ r.2.mem ((c.tc : Thread Cert.DwoKernelIdeal.nD Cert.DwoKernelIdeal.τ).loc Cert.DwoKernelIdeal.main_arg1) = m ((c.tc : Thread Cert.DwoKernelIdeal.nD Cert.DwoKernelIdeal.τ).loc Cert.DwoKernelIdeal.main_arg1))
      ∧ θ_run (Cert.DwoReferenceIdeal.defs (F := Ideal)) (onTc (τ := Cert.DwoReferenceIdeal.τ) (Cert.DwoReferenceIdeal.main (F := Ideal))) ⟨m', fun _ => 0, g'⟩ (fun r => ∀ c : Dev Cert.DwoReferenceIdeal.nD,
          r.2.mem ((c.tc : Thread Cert.DwoReferenceIdeal.nD Cert.DwoReferenceIdeal.τ).loc Cert.DwoReferenceIdeal.main_v5) = v0 c
          ∧ r.2.mem ((c.tc : Thread Cert.DwoReferenceIdeal.nD Cert.DwoReferenceIdeal.τ).loc Cert.DwoReferenceIdeal.main_arg0) = m' ((c.tc : Thread Cert.DwoReferenceIdeal.nD Cert.DwoReferenceIdeal.τ).loc Cert.DwoReferenceIdeal.main_arg0)
          ∧ r.2.mem ((c.tc : Thread Cert.DwoReferenceIdeal.nD Cert.DwoReferenceIdeal.τ).loc Cert.DwoReferenceIdeal.main_arg1) = m' ((c.tc : Thread Cert.DwoReferenceIdeal.nD Cert.DwoReferenceIdeal.τ).loc Cert.DwoReferenceIdeal.main_arg1))

def preserves_DwqKernel_DwqKernelIdeal : Prop :=
  True

def algebraic_DwqKernelIdeal_DwqReferenceIdeal [hDwqKernelIdeal : Cert.DwqKernelIdeal.Facts] [hDwqReferenceIdeal : Cert.DwqReferenceIdeal.Facts] : Prop :=
  ∀ (m : (ℓ : Loc Cert.DwqKernelIdeal.nD Cert.DwqKernelIdeal.τ Cert.DwqKernelIdeal.sig) → Buf (Elt Ideal) ℓ) (g : Dev Cert.DwqKernelIdeal.nD → PrngReg)
    (m' : (ℓ : Loc Cert.DwqReferenceIdeal.nD Cert.DwqReferenceIdeal.τ Cert.DwqReferenceIdeal.sig) → Buf (Elt Ideal) ℓ) (g' : Dev Cert.DwqReferenceIdeal.nD → PrngReg), Pre_DwqKernelIdeal m →
    (∀ c : Dev Cert.DwqKernelIdeal.nD,
      m' ((c.tc : Thread Cert.DwqReferenceIdeal.nD Cert.DwqReferenceIdeal.τ).loc Cert.DwqReferenceIdeal.main_arg0) = m ((c.tc : Thread Cert.DwqKernelIdeal.nD Cert.DwqKernelIdeal.τ).loc Cert.DwqKernelIdeal.main_arg0)
      ∧ m' ((c.tc : Thread Cert.DwqReferenceIdeal.nD Cert.DwqReferenceIdeal.τ).loc Cert.DwqReferenceIdeal.main_arg1) = m ((c.tc : Thread Cert.DwqKernelIdeal.nD Cert.DwqKernelIdeal.τ).loc Cert.DwqKernelIdeal.main_arg1)) →
    ∃ (v0 : (c : Dev Cert.DwqKernelIdeal.nD) → Buf (Elt Ideal) ((c.tc : Thread Cert.DwqKernelIdeal.nD Cert.DwqKernelIdeal.τ).loc Cert.DwqKernelIdeal.main_v0)),
      θ_run (Cert.DwqKernelIdeal.defs (F := Ideal)) (onTc (τ := Cert.DwqKernelIdeal.τ) (Cert.DwqKernelIdeal.main (F := Ideal))) ⟨m, fun _ => 0, g⟩ (fun r => ∀ c : Dev Cert.DwqKernelIdeal.nD,
          r.2.mem ((c.tc : Thread Cert.DwqKernelIdeal.nD Cert.DwqKernelIdeal.τ).loc Cert.DwqKernelIdeal.main_v0) = v0 c
          ∧ r.2.mem ((c.tc : Thread Cert.DwqKernelIdeal.nD Cert.DwqKernelIdeal.τ).loc Cert.DwqKernelIdeal.main_arg0) = m ((c.tc : Thread Cert.DwqKernelIdeal.nD Cert.DwqKernelIdeal.τ).loc Cert.DwqKernelIdeal.main_arg0)
          ∧ r.2.mem ((c.tc : Thread Cert.DwqKernelIdeal.nD Cert.DwqKernelIdeal.τ).loc Cert.DwqKernelIdeal.main_arg1) = m ((c.tc : Thread Cert.DwqKernelIdeal.nD Cert.DwqKernelIdeal.τ).loc Cert.DwqKernelIdeal.main_arg1))
      ∧ θ_run (Cert.DwqReferenceIdeal.defs (F := Ideal)) (onTc (τ := Cert.DwqReferenceIdeal.τ) (Cert.DwqReferenceIdeal.main (F := Ideal))) ⟨m', fun _ => 0, g'⟩ (fun r => ∀ c : Dev Cert.DwqReferenceIdeal.nD,
          r.2.mem ((c.tc : Thread Cert.DwqReferenceIdeal.nD Cert.DwqReferenceIdeal.τ).loc Cert.DwqReferenceIdeal.main_v5) = v0 c
          ∧ r.2.mem ((c.tc : Thread Cert.DwqReferenceIdeal.nD Cert.DwqReferenceIdeal.τ).loc Cert.DwqReferenceIdeal.main_arg0) = m' ((c.tc : Thread Cert.DwqReferenceIdeal.nD Cert.DwqReferenceIdeal.τ).loc Cert.DwqReferenceIdeal.main_arg0)
          ∧ r.2.mem ((c.tc : Thread Cert.DwqReferenceIdeal.nD Cert.DwqReferenceIdeal.τ).loc Cert.DwqReferenceIdeal.main_arg1) = m' ((c.tc : Thread Cert.DwqReferenceIdeal.nD Cert.DwqReferenceIdeal.τ).loc Cert.DwqReferenceIdeal.main_arg1))

def preserves_LsKernel_LsKernelIdeal : Prop :=
  True

def algebraic_LsKernelIdeal_LsReferenceIdeal [hLsKernelIdeal : Cert.LsKernelIdeal.Facts] [hLsReferenceIdeal : Cert.LsReferenceIdeal.Facts] : Prop :=
  ∀ (m : (ℓ : Loc Cert.LsKernelIdeal.nD Cert.LsKernelIdeal.τ Cert.LsKernelIdeal.sig) → Buf (Elt Ideal) ℓ) (g : Dev Cert.LsKernelIdeal.nD → PrngReg)
    (m' : (ℓ : Loc Cert.LsReferenceIdeal.nD Cert.LsReferenceIdeal.τ Cert.LsReferenceIdeal.sig) → Buf (Elt Ideal) ℓ) (g' : Dev Cert.LsReferenceIdeal.nD → PrngReg), Pre_LsKernelIdeal m →
    (∀ c : Dev Cert.LsKernelIdeal.nD,
      m' ((c.tc : Thread Cert.LsReferenceIdeal.nD Cert.LsReferenceIdeal.τ).loc Cert.LsReferenceIdeal.main_arg0) = m ((c.tc : Thread Cert.LsKernelIdeal.nD Cert.LsKernelIdeal.τ).loc Cert.LsKernelIdeal.main_arg0)
      ∧ m' ((c.tc : Thread Cert.LsReferenceIdeal.nD Cert.LsReferenceIdeal.τ).loc Cert.LsReferenceIdeal.main_arg1) = m ((c.tc : Thread Cert.LsKernelIdeal.nD Cert.LsKernelIdeal.τ).loc Cert.LsKernelIdeal.main_arg1)) →
    ∃ (v0 : (c : Dev Cert.LsKernelIdeal.nD) → Buf (Elt Ideal) ((c.tc : Thread Cert.LsKernelIdeal.nD Cert.LsKernelIdeal.τ).loc Cert.LsKernelIdeal.main_v3)) (v1 : (c : Dev Cert.LsKernelIdeal.nD) → Buf (Elt Ideal) ((c.tc : Thread Cert.LsKernelIdeal.nD Cert.LsKernelIdeal.τ).loc Cert.LsKernelIdeal.main_v0_1)),
      θ_run (Cert.LsKernelIdeal.defs (F := Ideal)) (onTc (τ := Cert.LsKernelIdeal.τ) (Cert.LsKernelIdeal.main (F := Ideal))) ⟨m, fun _ => 0, g⟩ (fun r => ∀ c : Dev Cert.LsKernelIdeal.nD,
          r.2.mem ((c.tc : Thread Cert.LsKernelIdeal.nD Cert.LsKernelIdeal.τ).loc Cert.LsKernelIdeal.main_v3) = v0 c
          ∧ r.2.mem ((c.tc : Thread Cert.LsKernelIdeal.nD Cert.LsKernelIdeal.τ).loc Cert.LsKernelIdeal.main_v0_1) = v1 c
          ∧ r.2.mem ((c.tc : Thread Cert.LsKernelIdeal.nD Cert.LsKernelIdeal.τ).loc Cert.LsKernelIdeal.main_arg0) = m ((c.tc : Thread Cert.LsKernelIdeal.nD Cert.LsKernelIdeal.τ).loc Cert.LsKernelIdeal.main_arg0)
          ∧ r.2.mem ((c.tc : Thread Cert.LsKernelIdeal.nD Cert.LsKernelIdeal.τ).loc Cert.LsKernelIdeal.main_arg1) = m ((c.tc : Thread Cert.LsKernelIdeal.nD Cert.LsKernelIdeal.τ).loc Cert.LsKernelIdeal.main_arg1))
      ∧ θ_run (Cert.LsReferenceIdeal.defs (F := Ideal)) (onTc (τ := Cert.LsReferenceIdeal.τ) (Cert.LsReferenceIdeal.main (F := Ideal))) ⟨m', fun _ => 0, g'⟩ (fun r => ∀ c : Dev Cert.LsReferenceIdeal.nD,
          r.2.mem ((c.tc : Thread Cert.LsReferenceIdeal.nD Cert.LsReferenceIdeal.τ).loc Cert.LsReferenceIdeal.main_v8) = v0 c
          ∧ r.2.mem ((c.tc : Thread Cert.LsReferenceIdeal.nD Cert.LsReferenceIdeal.τ).loc Cert.LsReferenceIdeal.main_v14) = v1 c
          ∧ r.2.mem ((c.tc : Thread Cert.LsReferenceIdeal.nD Cert.LsReferenceIdeal.τ).loc Cert.LsReferenceIdeal.main_arg0) = m' ((c.tc : Thread Cert.LsReferenceIdeal.nD Cert.LsReferenceIdeal.τ).loc Cert.LsReferenceIdeal.main_arg0)
          ∧ r.2.mem ((c.tc : Thread Cert.LsReferenceIdeal.nD Cert.LsReferenceIdeal.τ).loc Cert.LsReferenceIdeal.main_arg1) = m' ((c.tc : Thread Cert.LsReferenceIdeal.nD Cert.LsReferenceIdeal.τ).loc Cert.LsReferenceIdeal.main_arg1))

def preserves_AvKernel_AvKernelIdeal : Prop :=
  True

def algebraic_AvKernelIdeal_AvReferenceIdeal [hAvKernelIdeal : Cert.AvKernelIdeal.Facts] [hAvReferenceIdeal : Cert.AvReferenceIdeal.Facts] : Prop :=
  ∀ (m : (ℓ : Loc Cert.AvKernelIdeal.nD Cert.AvKernelIdeal.τ Cert.AvKernelIdeal.sig) → Buf (Elt Ideal) ℓ) (g : Dev Cert.AvKernelIdeal.nD → PrngReg)
    (m' : (ℓ : Loc Cert.AvReferenceIdeal.nD Cert.AvReferenceIdeal.τ Cert.AvReferenceIdeal.sig) → Buf (Elt Ideal) ℓ) (g' : Dev Cert.AvReferenceIdeal.nD → PrngReg), Pre_AvKernelIdeal m →
    (∀ c : Dev Cert.AvKernelIdeal.nD,
      m' ((c.tc : Thread Cert.AvReferenceIdeal.nD Cert.AvReferenceIdeal.τ).loc Cert.AvReferenceIdeal.main_arg0) = m ((c.tc : Thread Cert.AvKernelIdeal.nD Cert.AvKernelIdeal.τ).loc Cert.AvKernelIdeal.main_arg0)
      ∧ m' ((c.tc : Thread Cert.AvReferenceIdeal.nD Cert.AvReferenceIdeal.τ).loc Cert.AvReferenceIdeal.main_arg1) = m ((c.tc : Thread Cert.AvKernelIdeal.nD Cert.AvKernelIdeal.τ).loc Cert.AvKernelIdeal.main_arg1)
      ∧ m' ((c.tc : Thread Cert.AvReferenceIdeal.nD Cert.AvReferenceIdeal.τ).loc Cert.AvReferenceIdeal.main_arg2) = m ((c.tc : Thread Cert.AvKernelIdeal.nD Cert.AvKernelIdeal.τ).loc Cert.AvKernelIdeal.main_arg2)
      ∧ m' ((c.tc : Thread Cert.AvReferenceIdeal.nD Cert.AvReferenceIdeal.τ).loc Cert.AvReferenceIdeal.main_arg3) = m ((c.tc : Thread Cert.AvKernelIdeal.nD Cert.AvKernelIdeal.τ).loc Cert.AvKernelIdeal.main_arg3)
      ∧ m' ((c.tc : Thread Cert.AvReferenceIdeal.nD Cert.AvReferenceIdeal.τ).loc Cert.AvReferenceIdeal.main_arg4) = m ((c.tc : Thread Cert.AvKernelIdeal.nD Cert.AvKernelIdeal.τ).loc Cert.AvKernelIdeal.main_arg4)) →
    ∃ (v0 : (c : Dev Cert.AvKernelIdeal.nD) → Buf (Elt Ideal) ((c.tc : Thread Cert.AvKernelIdeal.nD Cert.AvKernelIdeal.τ).loc Cert.AvKernelIdeal.main_v0_0)) (v1 : (c : Dev Cert.AvKernelIdeal.nD) → Buf (Elt Ideal) ((c.tc : Thread Cert.AvKernelIdeal.nD Cert.AvKernelIdeal.τ).loc Cert.AvKernelIdeal.main_v0_1)) (v2 : (c : Dev Cert.AvKernelIdeal.nD) → Buf (Elt Ideal) ((c.tc : Thread Cert.AvKernelIdeal.nD Cert.AvKernelIdeal.τ).loc Cert.AvKernelIdeal.main_v0_2)) (v3 : (c : Dev Cert.AvKernelIdeal.nD) → Buf (Elt Ideal) ((c.tc : Thread Cert.AvKernelIdeal.nD Cert.AvKernelIdeal.τ).loc Cert.AvKernelIdeal.main_v0_3)),
      θ_run (Cert.AvKernelIdeal.defs (F := Ideal)) (onTc (τ := Cert.AvKernelIdeal.τ) (Cert.AvKernelIdeal.main (F := Ideal))) ⟨m, fun _ => 0, g⟩ (fun r => ∀ c : Dev Cert.AvKernelIdeal.nD,
          r.2.mem ((c.tc : Thread Cert.AvKernelIdeal.nD Cert.AvKernelIdeal.τ).loc Cert.AvKernelIdeal.main_v0_0) = v0 c
          ∧ r.2.mem ((c.tc : Thread Cert.AvKernelIdeal.nD Cert.AvKernelIdeal.τ).loc Cert.AvKernelIdeal.main_v0_1) = v1 c
          ∧ r.2.mem ((c.tc : Thread Cert.AvKernelIdeal.nD Cert.AvKernelIdeal.τ).loc Cert.AvKernelIdeal.main_v0_2) = v2 c
          ∧ r.2.mem ((c.tc : Thread Cert.AvKernelIdeal.nD Cert.AvKernelIdeal.τ).loc Cert.AvKernelIdeal.main_v0_3) = v3 c
          ∧ r.2.mem ((c.tc : Thread Cert.AvKernelIdeal.nD Cert.AvKernelIdeal.τ).loc Cert.AvKernelIdeal.main_arg0) = m ((c.tc : Thread Cert.AvKernelIdeal.nD Cert.AvKernelIdeal.τ).loc Cert.AvKernelIdeal.main_arg0)
          ∧ r.2.mem ((c.tc : Thread Cert.AvKernelIdeal.nD Cert.AvKernelIdeal.τ).loc Cert.AvKernelIdeal.main_arg1) = m ((c.tc : Thread Cert.AvKernelIdeal.nD Cert.AvKernelIdeal.τ).loc Cert.AvKernelIdeal.main_arg1)
          ∧ r.2.mem ((c.tc : Thread Cert.AvKernelIdeal.nD Cert.AvKernelIdeal.τ).loc Cert.AvKernelIdeal.main_arg2) = m ((c.tc : Thread Cert.AvKernelIdeal.nD Cert.AvKernelIdeal.τ).loc Cert.AvKernelIdeal.main_arg2)
          ∧ r.2.mem ((c.tc : Thread Cert.AvKernelIdeal.nD Cert.AvKernelIdeal.τ).loc Cert.AvKernelIdeal.main_arg3) = m ((c.tc : Thread Cert.AvKernelIdeal.nD Cert.AvKernelIdeal.τ).loc Cert.AvKernelIdeal.main_arg3)
          ∧ r.2.mem ((c.tc : Thread Cert.AvKernelIdeal.nD Cert.AvKernelIdeal.τ).loc Cert.AvKernelIdeal.main_arg4) = m ((c.tc : Thread Cert.AvKernelIdeal.nD Cert.AvKernelIdeal.τ).loc Cert.AvKernelIdeal.main_arg4))
      ∧ θ_run (Cert.AvReferenceIdeal.defs (F := Ideal)) (onTc (τ := Cert.AvReferenceIdeal.τ) (Cert.AvReferenceIdeal.main (F := Ideal))) ⟨m', fun _ => 0, g'⟩ (fun r => ∀ c : Dev Cert.AvReferenceIdeal.nD,
          r.2.mem ((c.tc : Thread Cert.AvReferenceIdeal.nD Cert.AvReferenceIdeal.τ).loc Cert.AvReferenceIdeal.main_v0) = v0 c
          ∧ r.2.mem ((c.tc : Thread Cert.AvReferenceIdeal.nD Cert.AvReferenceIdeal.τ).loc Cert.AvReferenceIdeal.main_v24) = v1 c
          ∧ r.2.mem ((c.tc : Thread Cert.AvReferenceIdeal.nD Cert.AvReferenceIdeal.τ).loc Cert.AvReferenceIdeal.main_v5) = v2 c
          ∧ r.2.mem ((c.tc : Thread Cert.AvReferenceIdeal.nD Cert.AvReferenceIdeal.τ).loc Cert.AvReferenceIdeal.main_v11) = v3 c
          ∧ r.2.mem ((c.tc : Thread Cert.AvReferenceIdeal.nD Cert.AvReferenceIdeal.τ).loc Cert.AvReferenceIdeal.main_arg0) = m' ((c.tc : Thread Cert.AvReferenceIdeal.nD Cert.AvReferenceIdeal.τ).loc Cert.AvReferenceIdeal.main_arg0)
          ∧ r.2.mem ((c.tc : Thread Cert.AvReferenceIdeal.nD Cert.AvReferenceIdeal.τ).loc Cert.AvReferenceIdeal.main_arg1) = m' ((c.tc : Thread Cert.AvReferenceIdeal.nD Cert.AvReferenceIdeal.τ).loc Cert.AvReferenceIdeal.main_arg1)
          ∧ r.2.mem ((c.tc : Thread Cert.AvReferenceIdeal.nD Cert.AvReferenceIdeal.τ).loc Cert.AvReferenceIdeal.main_arg2) = m' ((c.tc : Thread Cert.AvReferenceIdeal.nD Cert.AvReferenceIdeal.τ).loc Cert.AvReferenceIdeal.main_arg2)
          ∧ r.2.mem ((c.tc : Thread Cert.AvReferenceIdeal.nD Cert.AvReferenceIdeal.τ).loc Cert.AvReferenceIdeal.main_arg3) = m' ((c.tc : Thread Cert.AvReferenceIdeal.nD Cert.AvReferenceIdeal.τ).loc Cert.AvReferenceIdeal.main_arg3)
          ∧ r.2.mem ((c.tc : Thread Cert.AvReferenceIdeal.nD Cert.AvReferenceIdeal.τ).loc Cert.AvReferenceIdeal.main_arg4) = m' ((c.tc : Thread Cert.AvReferenceIdeal.nD Cert.AvReferenceIdeal.τ).loc Cert.AvReferenceIdeal.main_arg4))

def preserves_AhKernel_AhKernelIdeal : Prop :=
  True

def algebraic_AhKernelIdeal_AhReferenceIdeal [hAhKernelIdeal : Cert.AhKernelIdeal.Facts] [hAhReferenceIdeal : Cert.AhReferenceIdeal.Facts] : Prop :=
  ∀ (m : (ℓ : Loc Cert.AhKernelIdeal.nD Cert.AhKernelIdeal.τ Cert.AhKernelIdeal.sig) → Buf (Elt Ideal) ℓ) (g : Dev Cert.AhKernelIdeal.nD → PrngReg)
    (m' : (ℓ : Loc Cert.AhReferenceIdeal.nD Cert.AhReferenceIdeal.τ Cert.AhReferenceIdeal.sig) → Buf (Elt Ideal) ℓ) (g' : Dev Cert.AhReferenceIdeal.nD → PrngReg), Pre_AhKernelIdeal m →
    (∀ c : Dev Cert.AhKernelIdeal.nD,
      m' ((c.tc : Thread Cert.AhReferenceIdeal.nD Cert.AhReferenceIdeal.τ).loc Cert.AhReferenceIdeal.main_arg0) = m ((c.tc : Thread Cert.AhKernelIdeal.nD Cert.AhKernelIdeal.τ).loc Cert.AhKernelIdeal.main_arg0)
      ∧ m' ((c.tc : Thread Cert.AhReferenceIdeal.nD Cert.AhReferenceIdeal.τ).loc Cert.AhReferenceIdeal.main_arg1) = m ((c.tc : Thread Cert.AhKernelIdeal.nD Cert.AhKernelIdeal.τ).loc Cert.AhKernelIdeal.main_arg1)
      ∧ m' ((c.tc : Thread Cert.AhReferenceIdeal.nD Cert.AhReferenceIdeal.τ).loc Cert.AhReferenceIdeal.main_arg2) = m ((c.tc : Thread Cert.AhKernelIdeal.nD Cert.AhKernelIdeal.τ).loc Cert.AhKernelIdeal.main_arg2)
      ∧ m' ((c.tc : Thread Cert.AhReferenceIdeal.nD Cert.AhReferenceIdeal.τ).loc Cert.AhReferenceIdeal.main_arg3) = m ((c.tc : Thread Cert.AhKernelIdeal.nD Cert.AhKernelIdeal.τ).loc Cert.AhKernelIdeal.main_arg3)
      ∧ m' ((c.tc : Thread Cert.AhReferenceIdeal.nD Cert.AhReferenceIdeal.τ).loc Cert.AhReferenceIdeal.main_arg4) = m ((c.tc : Thread Cert.AhKernelIdeal.nD Cert.AhKernelIdeal.τ).loc Cert.AhKernelIdeal.main_arg4)) →
    ∃ (v0 : (c : Dev Cert.AhKernelIdeal.nD) → Buf (Elt Ideal) ((c.tc : Thread Cert.AhKernelIdeal.nD Cert.AhKernelIdeal.τ).loc Cert.AhKernelIdeal.main_v0_0)) (v1 : (c : Dev Cert.AhKernelIdeal.nD) → Buf (Elt Ideal) ((c.tc : Thread Cert.AhKernelIdeal.nD Cert.AhKernelIdeal.τ).loc Cert.AhKernelIdeal.main_v0_1)) (v2 : (c : Dev Cert.AhKernelIdeal.nD) → Buf (Elt Ideal) ((c.tc : Thread Cert.AhKernelIdeal.nD Cert.AhKernelIdeal.τ).loc Cert.AhKernelIdeal.main_v0_2)) (v3 : (c : Dev Cert.AhKernelIdeal.nD) → Buf (Elt Ideal) ((c.tc : Thread Cert.AhKernelIdeal.nD Cert.AhKernelIdeal.τ).loc Cert.AhKernelIdeal.main_v0_3)),
      θ_run (Cert.AhKernelIdeal.defs (F := Ideal)) (onTc (τ := Cert.AhKernelIdeal.τ) (Cert.AhKernelIdeal.main (F := Ideal))) ⟨m, fun _ => 0, g⟩ (fun r => ∀ c : Dev Cert.AhKernelIdeal.nD,
          r.2.mem ((c.tc : Thread Cert.AhKernelIdeal.nD Cert.AhKernelIdeal.τ).loc Cert.AhKernelIdeal.main_v0_0) = v0 c
          ∧ r.2.mem ((c.tc : Thread Cert.AhKernelIdeal.nD Cert.AhKernelIdeal.τ).loc Cert.AhKernelIdeal.main_v0_1) = v1 c
          ∧ r.2.mem ((c.tc : Thread Cert.AhKernelIdeal.nD Cert.AhKernelIdeal.τ).loc Cert.AhKernelIdeal.main_v0_2) = v2 c
          ∧ r.2.mem ((c.tc : Thread Cert.AhKernelIdeal.nD Cert.AhKernelIdeal.τ).loc Cert.AhKernelIdeal.main_v0_3) = v3 c
          ∧ r.2.mem ((c.tc : Thread Cert.AhKernelIdeal.nD Cert.AhKernelIdeal.τ).loc Cert.AhKernelIdeal.main_arg0) = m ((c.tc : Thread Cert.AhKernelIdeal.nD Cert.AhKernelIdeal.τ).loc Cert.AhKernelIdeal.main_arg0)
          ∧ r.2.mem ((c.tc : Thread Cert.AhKernelIdeal.nD Cert.AhKernelIdeal.τ).loc Cert.AhKernelIdeal.main_arg1) = m ((c.tc : Thread Cert.AhKernelIdeal.nD Cert.AhKernelIdeal.τ).loc Cert.AhKernelIdeal.main_arg1)
          ∧ r.2.mem ((c.tc : Thread Cert.AhKernelIdeal.nD Cert.AhKernelIdeal.τ).loc Cert.AhKernelIdeal.main_arg2) = m ((c.tc : Thread Cert.AhKernelIdeal.nD Cert.AhKernelIdeal.τ).loc Cert.AhKernelIdeal.main_arg2)
          ∧ r.2.mem ((c.tc : Thread Cert.AhKernelIdeal.nD Cert.AhKernelIdeal.τ).loc Cert.AhKernelIdeal.main_arg3) = m ((c.tc : Thread Cert.AhKernelIdeal.nD Cert.AhKernelIdeal.τ).loc Cert.AhKernelIdeal.main_arg3)
          ∧ r.2.mem ((c.tc : Thread Cert.AhKernelIdeal.nD Cert.AhKernelIdeal.τ).loc Cert.AhKernelIdeal.main_arg4) = m ((c.tc : Thread Cert.AhKernelIdeal.nD Cert.AhKernelIdeal.τ).loc Cert.AhKernelIdeal.main_arg4))
      ∧ θ_run (Cert.AhReferenceIdeal.defs (F := Ideal)) (onTc (τ := Cert.AhReferenceIdeal.τ) (Cert.AhReferenceIdeal.main (F := Ideal))) ⟨m', fun _ => 0, g'⟩ (fun r => ∀ c : Dev Cert.AhReferenceIdeal.nD,
          r.2.mem ((c.tc : Thread Cert.AhReferenceIdeal.nD Cert.AhReferenceIdeal.τ).loc Cert.AhReferenceIdeal.main_v0) = v0 c
          ∧ r.2.mem ((c.tc : Thread Cert.AhReferenceIdeal.nD Cert.AhReferenceIdeal.τ).loc Cert.AhReferenceIdeal.main_v24) = v1 c
          ∧ r.2.mem ((c.tc : Thread Cert.AhReferenceIdeal.nD Cert.AhReferenceIdeal.τ).loc Cert.AhReferenceIdeal.main_v5) = v2 c
          ∧ r.2.mem ((c.tc : Thread Cert.AhReferenceIdeal.nD Cert.AhReferenceIdeal.τ).loc Cert.AhReferenceIdeal.main_v11) = v3 c
          ∧ r.2.mem ((c.tc : Thread Cert.AhReferenceIdeal.nD Cert.AhReferenceIdeal.τ).loc Cert.AhReferenceIdeal.main_arg0) = m' ((c.tc : Thread Cert.AhReferenceIdeal.nD Cert.AhReferenceIdeal.τ).loc Cert.AhReferenceIdeal.main_arg0)
          ∧ r.2.mem ((c.tc : Thread Cert.AhReferenceIdeal.nD Cert.AhReferenceIdeal.τ).loc Cert.AhReferenceIdeal.main_arg1) = m' ((c.tc : Thread Cert.AhReferenceIdeal.nD Cert.AhReferenceIdeal.τ).loc Cert.AhReferenceIdeal.main_arg1)
          ∧ r.2.mem ((c.tc : Thread Cert.AhReferenceIdeal.nD Cert.AhReferenceIdeal.τ).loc Cert.AhReferenceIdeal.main_arg2) = m' ((c.tc : Thread Cert.AhReferenceIdeal.nD Cert.AhReferenceIdeal.τ).loc Cert.AhReferenceIdeal.main_arg2)
          ∧ r.2.mem ((c.tc : Thread Cert.AhReferenceIdeal.nD Cert.AhReferenceIdeal.τ).loc Cert.AhReferenceIdeal.main_arg3) = m' ((c.tc : Thread Cert.AhReferenceIdeal.nD Cert.AhReferenceIdeal.τ).loc Cert.AhReferenceIdeal.main_arg3)
          ∧ r.2.mem ((c.tc : Thread Cert.AhReferenceIdeal.nD Cert.AhReferenceIdeal.τ).loc Cert.AhReferenceIdeal.main_arg4) = m' ((c.tc : Thread Cert.AhReferenceIdeal.nD Cert.AhReferenceIdeal.τ).loc Cert.AhReferenceIdeal.main_arg4))

def preserves_AwKernel_AwKernelIdeal : Prop :=
  True

def algebraic_AwKernelIdeal_AwReferenceIdeal [hAwKernelIdeal : Cert.AwKernelIdeal.Facts] [hAwReferenceIdeal : Cert.AwReferenceIdeal.Facts] : Prop :=
  ∀ (m : (ℓ : Loc Cert.AwKernelIdeal.nD Cert.AwKernelIdeal.τ Cert.AwKernelIdeal.sig) → Buf (Elt Ideal) ℓ) (g : Dev Cert.AwKernelIdeal.nD → PrngReg)
    (m' : (ℓ : Loc Cert.AwReferenceIdeal.nD Cert.AwReferenceIdeal.τ Cert.AwReferenceIdeal.sig) → Buf (Elt Ideal) ℓ) (g' : Dev Cert.AwReferenceIdeal.nD → PrngReg), Pre_AwKernelIdeal m →
    (∀ c : Dev Cert.AwKernelIdeal.nD,
      m' ((c.tc : Thread Cert.AwReferenceIdeal.nD Cert.AwReferenceIdeal.τ).loc Cert.AwReferenceIdeal.main_arg0) = m ((c.tc : Thread Cert.AwKernelIdeal.nD Cert.AwKernelIdeal.τ).loc Cert.AwKernelIdeal.main_arg0)
      ∧ m' ((c.tc : Thread Cert.AwReferenceIdeal.nD Cert.AwReferenceIdeal.τ).loc Cert.AwReferenceIdeal.main_arg1) = m ((c.tc : Thread Cert.AwKernelIdeal.nD Cert.AwKernelIdeal.τ).loc Cert.AwKernelIdeal.main_arg1)
      ∧ m' ((c.tc : Thread Cert.AwReferenceIdeal.nD Cert.AwReferenceIdeal.τ).loc Cert.AwReferenceIdeal.main_arg2) = m ((c.tc : Thread Cert.AwKernelIdeal.nD Cert.AwKernelIdeal.τ).loc Cert.AwKernelIdeal.main_arg2)
      ∧ m' ((c.tc : Thread Cert.AwReferenceIdeal.nD Cert.AwReferenceIdeal.τ).loc Cert.AwReferenceIdeal.main_arg3) = m ((c.tc : Thread Cert.AwKernelIdeal.nD Cert.AwKernelIdeal.τ).loc Cert.AwKernelIdeal.main_arg3)
      ∧ m' ((c.tc : Thread Cert.AwReferenceIdeal.nD Cert.AwReferenceIdeal.τ).loc Cert.AwReferenceIdeal.main_arg4) = m ((c.tc : Thread Cert.AwKernelIdeal.nD Cert.AwKernelIdeal.τ).loc Cert.AwKernelIdeal.main_arg4)) →
    ∃ (v0 : (c : Dev Cert.AwKernelIdeal.nD) → Buf (Elt Ideal) ((c.tc : Thread Cert.AwKernelIdeal.nD Cert.AwKernelIdeal.τ).loc Cert.AwKernelIdeal.main_v0_0)) (v1 : (c : Dev Cert.AwKernelIdeal.nD) → Buf (Elt Ideal) ((c.tc : Thread Cert.AwKernelIdeal.nD Cert.AwKernelIdeal.τ).loc Cert.AwKernelIdeal.main_v0_1)) (v2 : (c : Dev Cert.AwKernelIdeal.nD) → Buf (Elt Ideal) ((c.tc : Thread Cert.AwKernelIdeal.nD Cert.AwKernelIdeal.τ).loc Cert.AwKernelIdeal.main_v0_2)) (v3 : (c : Dev Cert.AwKernelIdeal.nD) → Buf (Elt Ideal) ((c.tc : Thread Cert.AwKernelIdeal.nD Cert.AwKernelIdeal.τ).loc Cert.AwKernelIdeal.main_v0_3)),
      θ_run (Cert.AwKernelIdeal.defs (F := Ideal)) (onTc (τ := Cert.AwKernelIdeal.τ) (Cert.AwKernelIdeal.main (F := Ideal))) ⟨m, fun _ => 0, g⟩ (fun r => ∀ c : Dev Cert.AwKernelIdeal.nD,
          r.2.mem ((c.tc : Thread Cert.AwKernelIdeal.nD Cert.AwKernelIdeal.τ).loc Cert.AwKernelIdeal.main_v0_0) = v0 c
          ∧ r.2.mem ((c.tc : Thread Cert.AwKernelIdeal.nD Cert.AwKernelIdeal.τ).loc Cert.AwKernelIdeal.main_v0_1) = v1 c
          ∧ r.2.mem ((c.tc : Thread Cert.AwKernelIdeal.nD Cert.AwKernelIdeal.τ).loc Cert.AwKernelIdeal.main_v0_2) = v2 c
          ∧ r.2.mem ((c.tc : Thread Cert.AwKernelIdeal.nD Cert.AwKernelIdeal.τ).loc Cert.AwKernelIdeal.main_v0_3) = v3 c
          ∧ r.2.mem ((c.tc : Thread Cert.AwKernelIdeal.nD Cert.AwKernelIdeal.τ).loc Cert.AwKernelIdeal.main_arg0) = m ((c.tc : Thread Cert.AwKernelIdeal.nD Cert.AwKernelIdeal.τ).loc Cert.AwKernelIdeal.main_arg0)
          ∧ r.2.mem ((c.tc : Thread Cert.AwKernelIdeal.nD Cert.AwKernelIdeal.τ).loc Cert.AwKernelIdeal.main_arg1) = m ((c.tc : Thread Cert.AwKernelIdeal.nD Cert.AwKernelIdeal.τ).loc Cert.AwKernelIdeal.main_arg1)
          ∧ r.2.mem ((c.tc : Thread Cert.AwKernelIdeal.nD Cert.AwKernelIdeal.τ).loc Cert.AwKernelIdeal.main_arg2) = m ((c.tc : Thread Cert.AwKernelIdeal.nD Cert.AwKernelIdeal.τ).loc Cert.AwKernelIdeal.main_arg2)
          ∧ r.2.mem ((c.tc : Thread Cert.AwKernelIdeal.nD Cert.AwKernelIdeal.τ).loc Cert.AwKernelIdeal.main_arg3) = m ((c.tc : Thread Cert.AwKernelIdeal.nD Cert.AwKernelIdeal.τ).loc Cert.AwKernelIdeal.main_arg3)
          ∧ r.2.mem ((c.tc : Thread Cert.AwKernelIdeal.nD Cert.AwKernelIdeal.τ).loc Cert.AwKernelIdeal.main_arg4) = m ((c.tc : Thread Cert.AwKernelIdeal.nD Cert.AwKernelIdeal.τ).loc Cert.AwKernelIdeal.main_arg4))
      ∧ θ_run (Cert.AwReferenceIdeal.defs (F := Ideal)) (onTc (τ := Cert.AwReferenceIdeal.τ) (Cert.AwReferenceIdeal.main (F := Ideal))) ⟨m', fun _ => 0, g'⟩ (fun r => ∀ c : Dev Cert.AwReferenceIdeal.nD,
          r.2.mem ((c.tc : Thread Cert.AwReferenceIdeal.nD Cert.AwReferenceIdeal.τ).loc Cert.AwReferenceIdeal.main_v0) = v0 c
          ∧ r.2.mem ((c.tc : Thread Cert.AwReferenceIdeal.nD Cert.AwReferenceIdeal.τ).loc Cert.AwReferenceIdeal.main_v24) = v1 c
          ∧ r.2.mem ((c.tc : Thread Cert.AwReferenceIdeal.nD Cert.AwReferenceIdeal.τ).loc Cert.AwReferenceIdeal.main_v5) = v2 c
          ∧ r.2.mem ((c.tc : Thread Cert.AwReferenceIdeal.nD Cert.AwReferenceIdeal.τ).loc Cert.AwReferenceIdeal.main_v11) = v3 c
          ∧ r.2.mem ((c.tc : Thread Cert.AwReferenceIdeal.nD Cert.AwReferenceIdeal.τ).loc Cert.AwReferenceIdeal.main_arg0) = m' ((c.tc : Thread Cert.AwReferenceIdeal.nD Cert.AwReferenceIdeal.τ).loc Cert.AwReferenceIdeal.main_arg0)
          ∧ r.2.mem ((c.tc : Thread Cert.AwReferenceIdeal.nD Cert.AwReferenceIdeal.τ).loc Cert.AwReferenceIdeal.main_arg1) = m' ((c.tc : Thread Cert.AwReferenceIdeal.nD Cert.AwReferenceIdeal.τ).loc Cert.AwReferenceIdeal.main_arg1)
          ∧ r.2.mem ((c.tc : Thread Cert.AwReferenceIdeal.nD Cert.AwReferenceIdeal.τ).loc Cert.AwReferenceIdeal.main_arg2) = m' ((c.tc : Thread Cert.AwReferenceIdeal.nD Cert.AwReferenceIdeal.τ).loc Cert.AwReferenceIdeal.main_arg2)
          ∧ r.2.mem ((c.tc : Thread Cert.AwReferenceIdeal.nD Cert.AwReferenceIdeal.τ).loc Cert.AwReferenceIdeal.main_arg3) = m' ((c.tc : Thread Cert.AwReferenceIdeal.nD Cert.AwReferenceIdeal.τ).loc Cert.AwReferenceIdeal.main_arg3)
          ∧ r.2.mem ((c.tc : Thread Cert.AwReferenceIdeal.nD Cert.AwReferenceIdeal.τ).loc Cert.AwReferenceIdeal.main_arg4) = m' ((c.tc : Thread Cert.AwReferenceIdeal.nD Cert.AwReferenceIdeal.τ).loc Cert.AwReferenceIdeal.main_arg4))

def preserves_AfKernel_AfKernelIdeal : Prop :=
  True

def algebraic_AfKernelIdeal_AfReferenceIdeal [hAfKernelIdeal : Cert.AfKernelIdeal.Facts] [hAfReferenceIdeal : Cert.AfReferenceIdeal.Facts] : Prop :=
  ∀ (m : (ℓ : Loc Cert.AfKernelIdeal.nD Cert.AfKernelIdeal.τ Cert.AfKernelIdeal.sig) → Buf (Elt Ideal) ℓ) (g : Dev Cert.AfKernelIdeal.nD → PrngReg)
    (m' : (ℓ : Loc Cert.AfReferenceIdeal.nD Cert.AfReferenceIdeal.τ Cert.AfReferenceIdeal.sig) → Buf (Elt Ideal) ℓ) (g' : Dev Cert.AfReferenceIdeal.nD → PrngReg), Pre_AfKernelIdeal m →
    (∀ c : Dev Cert.AfKernelIdeal.nD,
      m' ((c.tc : Thread Cert.AfReferenceIdeal.nD Cert.AfReferenceIdeal.τ).loc Cert.AfReferenceIdeal.main_arg0) = m ((c.tc : Thread Cert.AfKernelIdeal.nD Cert.AfKernelIdeal.τ).loc Cert.AfKernelIdeal.main_arg0)
      ∧ m' ((c.tc : Thread Cert.AfReferenceIdeal.nD Cert.AfReferenceIdeal.τ).loc Cert.AfReferenceIdeal.main_arg1) = m ((c.tc : Thread Cert.AfKernelIdeal.nD Cert.AfKernelIdeal.τ).loc Cert.AfKernelIdeal.main_arg1)
      ∧ m' ((c.tc : Thread Cert.AfReferenceIdeal.nD Cert.AfReferenceIdeal.τ).loc Cert.AfReferenceIdeal.main_arg2) = m ((c.tc : Thread Cert.AfKernelIdeal.nD Cert.AfKernelIdeal.τ).loc Cert.AfKernelIdeal.main_arg2)
      ∧ m' ((c.tc : Thread Cert.AfReferenceIdeal.nD Cert.AfReferenceIdeal.τ).loc Cert.AfReferenceIdeal.main_arg3) = m ((c.tc : Thread Cert.AfKernelIdeal.nD Cert.AfKernelIdeal.τ).loc Cert.AfKernelIdeal.main_arg3)
      ∧ m' ((c.tc : Thread Cert.AfReferenceIdeal.nD Cert.AfReferenceIdeal.τ).loc Cert.AfReferenceIdeal.main_arg4) = m ((c.tc : Thread Cert.AfKernelIdeal.nD Cert.AfKernelIdeal.τ).loc Cert.AfKernelIdeal.main_arg4)) →
    ∃ (v0 : (c : Dev Cert.AfKernelIdeal.nD) → Buf (Elt Ideal) ((c.tc : Thread Cert.AfKernelIdeal.nD Cert.AfKernelIdeal.τ).loc Cert.AfKernelIdeal.main_v0_0)) (v1 : (c : Dev Cert.AfKernelIdeal.nD) → Buf (Elt Ideal) ((c.tc : Thread Cert.AfKernelIdeal.nD Cert.AfKernelIdeal.τ).loc Cert.AfKernelIdeal.main_v0_1)) (v2 : (c : Dev Cert.AfKernelIdeal.nD) → Buf (Elt Ideal) ((c.tc : Thread Cert.AfKernelIdeal.nD Cert.AfKernelIdeal.τ).loc Cert.AfKernelIdeal.main_v0_2)) (v3 : (c : Dev Cert.AfKernelIdeal.nD) → Buf (Elt Ideal) ((c.tc : Thread Cert.AfKernelIdeal.nD Cert.AfKernelIdeal.τ).loc Cert.AfKernelIdeal.main_v0_3)),
      θ_run (Cert.AfKernelIdeal.defs (F := Ideal)) (onTc (τ := Cert.AfKernelIdeal.τ) (Cert.AfKernelIdeal.main (F := Ideal))) ⟨m, fun _ => 0, g⟩ (fun r => ∀ c : Dev Cert.AfKernelIdeal.nD,
          r.2.mem ((c.tc : Thread Cert.AfKernelIdeal.nD Cert.AfKernelIdeal.τ).loc Cert.AfKernelIdeal.main_v0_0) = v0 c
          ∧ r.2.mem ((c.tc : Thread Cert.AfKernelIdeal.nD Cert.AfKernelIdeal.τ).loc Cert.AfKernelIdeal.main_v0_1) = v1 c
          ∧ r.2.mem ((c.tc : Thread Cert.AfKernelIdeal.nD Cert.AfKernelIdeal.τ).loc Cert.AfKernelIdeal.main_v0_2) = v2 c
          ∧ r.2.mem ((c.tc : Thread Cert.AfKernelIdeal.nD Cert.AfKernelIdeal.τ).loc Cert.AfKernelIdeal.main_v0_3) = v3 c
          ∧ r.2.mem ((c.tc : Thread Cert.AfKernelIdeal.nD Cert.AfKernelIdeal.τ).loc Cert.AfKernelIdeal.main_arg0) = m ((c.tc : Thread Cert.AfKernelIdeal.nD Cert.AfKernelIdeal.τ).loc Cert.AfKernelIdeal.main_arg0)
          ∧ r.2.mem ((c.tc : Thread Cert.AfKernelIdeal.nD Cert.AfKernelIdeal.τ).loc Cert.AfKernelIdeal.main_arg1) = m ((c.tc : Thread Cert.AfKernelIdeal.nD Cert.AfKernelIdeal.τ).loc Cert.AfKernelIdeal.main_arg1)
          ∧ r.2.mem ((c.tc : Thread Cert.AfKernelIdeal.nD Cert.AfKernelIdeal.τ).loc Cert.AfKernelIdeal.main_arg2) = m ((c.tc : Thread Cert.AfKernelIdeal.nD Cert.AfKernelIdeal.τ).loc Cert.AfKernelIdeal.main_arg2)
          ∧ r.2.mem ((c.tc : Thread Cert.AfKernelIdeal.nD Cert.AfKernelIdeal.τ).loc Cert.AfKernelIdeal.main_arg3) = m ((c.tc : Thread Cert.AfKernelIdeal.nD Cert.AfKernelIdeal.τ).loc Cert.AfKernelIdeal.main_arg3)
          ∧ r.2.mem ((c.tc : Thread Cert.AfKernelIdeal.nD Cert.AfKernelIdeal.τ).loc Cert.AfKernelIdeal.main_arg4) = m ((c.tc : Thread Cert.AfKernelIdeal.nD Cert.AfKernelIdeal.τ).loc Cert.AfKernelIdeal.main_arg4))
      ∧ θ_run (Cert.AfReferenceIdeal.defs (F := Ideal)) (onTc (τ := Cert.AfReferenceIdeal.τ) (Cert.AfReferenceIdeal.main (F := Ideal))) ⟨m', fun _ => 0, g'⟩ (fun r => ∀ c : Dev Cert.AfReferenceIdeal.nD,
          r.2.mem ((c.tc : Thread Cert.AfReferenceIdeal.nD Cert.AfReferenceIdeal.τ).loc Cert.AfReferenceIdeal.main_v0) = v0 c
          ∧ r.2.mem ((c.tc : Thread Cert.AfReferenceIdeal.nD Cert.AfReferenceIdeal.τ).loc Cert.AfReferenceIdeal.main_v24) = v1 c
          ∧ r.2.mem ((c.tc : Thread Cert.AfReferenceIdeal.nD Cert.AfReferenceIdeal.τ).loc Cert.AfReferenceIdeal.main_v5) = v2 c
          ∧ r.2.mem ((c.tc : Thread Cert.AfReferenceIdeal.nD Cert.AfReferenceIdeal.τ).loc Cert.AfReferenceIdeal.main_v11) = v3 c
          ∧ r.2.mem ((c.tc : Thread Cert.AfReferenceIdeal.nD Cert.AfReferenceIdeal.τ).loc Cert.AfReferenceIdeal.main_arg0) = m' ((c.tc : Thread Cert.AfReferenceIdeal.nD Cert.AfReferenceIdeal.τ).loc Cert.AfReferenceIdeal.main_arg0)
          ∧ r.2.mem ((c.tc : Thread Cert.AfReferenceIdeal.nD Cert.AfReferenceIdeal.τ).loc Cert.AfReferenceIdeal.main_arg1) = m' ((c.tc : Thread Cert.AfReferenceIdeal.nD Cert.AfReferenceIdeal.τ).loc Cert.AfReferenceIdeal.main_arg1)
          ∧ r.2.mem ((c.tc : Thread Cert.AfReferenceIdeal.nD Cert.AfReferenceIdeal.τ).loc Cert.AfReferenceIdeal.main_arg2) = m' ((c.tc : Thread Cert.AfReferenceIdeal.nD Cert.AfReferenceIdeal.τ).loc Cert.AfReferenceIdeal.main_arg2)
          ∧ r.2.mem ((c.tc : Thread Cert.AfReferenceIdeal.nD Cert.AfReferenceIdeal.τ).loc Cert.AfReferenceIdeal.main_arg3) = m' ((c.tc : Thread Cert.AfReferenceIdeal.nD Cert.AfReferenceIdeal.τ).loc Cert.AfReferenceIdeal.main_arg3)
          ∧ r.2.mem ((c.tc : Thread Cert.AfReferenceIdeal.nD Cert.AfReferenceIdeal.τ).loc Cert.AfReferenceIdeal.main_arg4) = m' ((c.tc : Thread Cert.AfReferenceIdeal.nD Cert.AfReferenceIdeal.τ).loc Cert.AfReferenceIdeal.main_arg4))

def preserves_ArKernel_ArKernelIdeal : Prop :=
  True

def algebraic_ArKernelIdeal_ArReferenceIdeal [hArKernelIdeal : Cert.ArKernelIdeal.Facts] [hArReferenceIdeal : Cert.ArReferenceIdeal.Facts] : Prop :=
  ∀ (m : (ℓ : Loc Cert.ArKernelIdeal.nD Cert.ArKernelIdeal.τ Cert.ArKernelIdeal.sig) → Buf (Elt Ideal) ℓ) (g : Dev Cert.ArKernelIdeal.nD → PrngReg)
    (m' : (ℓ : Loc Cert.ArReferenceIdeal.nD Cert.ArReferenceIdeal.τ Cert.ArReferenceIdeal.sig) → Buf (Elt Ideal) ℓ) (g' : Dev Cert.ArReferenceIdeal.nD → PrngReg), Pre_ArKernelIdeal m →
    (∀ c : Dev Cert.ArKernelIdeal.nD,
      m' ((c.tc : Thread Cert.ArReferenceIdeal.nD Cert.ArReferenceIdeal.τ).loc Cert.ArReferenceIdeal.main_arg0) = m ((c.tc : Thread Cert.ArKernelIdeal.nD Cert.ArKernelIdeal.τ).loc Cert.ArKernelIdeal.main_arg0)
      ∧ m' ((c.tc : Thread Cert.ArReferenceIdeal.nD Cert.ArReferenceIdeal.τ).loc Cert.ArReferenceIdeal.main_arg1) = m ((c.tc : Thread Cert.ArKernelIdeal.nD Cert.ArKernelIdeal.τ).loc Cert.ArKernelIdeal.main_arg1)
      ∧ m' ((c.tc : Thread Cert.ArReferenceIdeal.nD Cert.ArReferenceIdeal.τ).loc Cert.ArReferenceIdeal.main_arg2) = m ((c.tc : Thread Cert.ArKernelIdeal.nD Cert.ArKernelIdeal.τ).loc Cert.ArKernelIdeal.main_arg2)
      ∧ m' ((c.tc : Thread Cert.ArReferenceIdeal.nD Cert.ArReferenceIdeal.τ).loc Cert.ArReferenceIdeal.main_arg3) = m ((c.tc : Thread Cert.ArKernelIdeal.nD Cert.ArKernelIdeal.τ).loc Cert.ArKernelIdeal.main_arg3)
      ∧ m' ((c.tc : Thread Cert.ArReferenceIdeal.nD Cert.ArReferenceIdeal.τ).loc Cert.ArReferenceIdeal.main_arg4) = m ((c.tc : Thread Cert.ArKernelIdeal.nD Cert.ArKernelIdeal.τ).loc Cert.ArKernelIdeal.main_arg4)) →
    ∃ (v0 : (c : Dev Cert.ArKernelIdeal.nD) → Buf (Elt Ideal) ((c.tc : Thread Cert.ArKernelIdeal.nD Cert.ArKernelIdeal.τ).loc Cert.ArKernelIdeal.main_v0_0)) (v1 : (c : Dev Cert.ArKernelIdeal.nD) → Buf (Elt Ideal) ((c.tc : Thread Cert.ArKernelIdeal.nD Cert.ArKernelIdeal.τ).loc Cert.ArKernelIdeal.main_v0_1)) (v2 : (c : Dev Cert.ArKernelIdeal.nD) → Buf (Elt Ideal) ((c.tc : Thread Cert.ArKernelIdeal.nD Cert.ArKernelIdeal.τ).loc Cert.ArKernelIdeal.main_v0_2)) (v3 : (c : Dev Cert.ArKernelIdeal.nD) → Buf (Elt Ideal) ((c.tc : Thread Cert.ArKernelIdeal.nD Cert.ArKernelIdeal.τ).loc Cert.ArKernelIdeal.main_v0_3)),
      θ_run (Cert.ArKernelIdeal.defs (F := Ideal)) (onTc (τ := Cert.ArKernelIdeal.τ) (Cert.ArKernelIdeal.main (F := Ideal))) ⟨m, fun _ => 0, g⟩ (fun r => ∀ c : Dev Cert.ArKernelIdeal.nD,
          r.2.mem ((c.tc : Thread Cert.ArKernelIdeal.nD Cert.ArKernelIdeal.τ).loc Cert.ArKernelIdeal.main_v0_0) = v0 c
          ∧ r.2.mem ((c.tc : Thread Cert.ArKernelIdeal.nD Cert.ArKernelIdeal.τ).loc Cert.ArKernelIdeal.main_v0_1) = v1 c
          ∧ r.2.mem ((c.tc : Thread Cert.ArKernelIdeal.nD Cert.ArKernelIdeal.τ).loc Cert.ArKernelIdeal.main_v0_2) = v2 c
          ∧ r.2.mem ((c.tc : Thread Cert.ArKernelIdeal.nD Cert.ArKernelIdeal.τ).loc Cert.ArKernelIdeal.main_v0_3) = v3 c
          ∧ r.2.mem ((c.tc : Thread Cert.ArKernelIdeal.nD Cert.ArKernelIdeal.τ).loc Cert.ArKernelIdeal.main_arg0) = m ((c.tc : Thread Cert.ArKernelIdeal.nD Cert.ArKernelIdeal.τ).loc Cert.ArKernelIdeal.main_arg0)
          ∧ r.2.mem ((c.tc : Thread Cert.ArKernelIdeal.nD Cert.ArKernelIdeal.τ).loc Cert.ArKernelIdeal.main_arg1) = m ((c.tc : Thread Cert.ArKernelIdeal.nD Cert.ArKernelIdeal.τ).loc Cert.ArKernelIdeal.main_arg1)
          ∧ r.2.mem ((c.tc : Thread Cert.ArKernelIdeal.nD Cert.ArKernelIdeal.τ).loc Cert.ArKernelIdeal.main_arg2) = m ((c.tc : Thread Cert.ArKernelIdeal.nD Cert.ArKernelIdeal.τ).loc Cert.ArKernelIdeal.main_arg2)
          ∧ r.2.mem ((c.tc : Thread Cert.ArKernelIdeal.nD Cert.ArKernelIdeal.τ).loc Cert.ArKernelIdeal.main_arg3) = m ((c.tc : Thread Cert.ArKernelIdeal.nD Cert.ArKernelIdeal.τ).loc Cert.ArKernelIdeal.main_arg3)
          ∧ r.2.mem ((c.tc : Thread Cert.ArKernelIdeal.nD Cert.ArKernelIdeal.τ).loc Cert.ArKernelIdeal.main_arg4) = m ((c.tc : Thread Cert.ArKernelIdeal.nD Cert.ArKernelIdeal.τ).loc Cert.ArKernelIdeal.main_arg4))
      ∧ θ_run (Cert.ArReferenceIdeal.defs (F := Ideal)) (onTc (τ := Cert.ArReferenceIdeal.τ) (Cert.ArReferenceIdeal.main (F := Ideal))) ⟨m', fun _ => 0, g'⟩ (fun r => ∀ c : Dev Cert.ArReferenceIdeal.nD,
          r.2.mem ((c.tc : Thread Cert.ArReferenceIdeal.nD Cert.ArReferenceIdeal.τ).loc Cert.ArReferenceIdeal.main_v0) = v0 c
          ∧ r.2.mem ((c.tc : Thread Cert.ArReferenceIdeal.nD Cert.ArReferenceIdeal.τ).loc Cert.ArReferenceIdeal.main_v24) = v1 c
          ∧ r.2.mem ((c.tc : Thread Cert.ArReferenceIdeal.nD Cert.ArReferenceIdeal.τ).loc Cert.ArReferenceIdeal.main_v5) = v2 c
          ∧ r.2.mem ((c.tc : Thread Cert.ArReferenceIdeal.nD Cert.ArReferenceIdeal.τ).loc Cert.ArReferenceIdeal.main_v11) = v3 c
          ∧ r.2.mem ((c.tc : Thread Cert.ArReferenceIdeal.nD Cert.ArReferenceIdeal.τ).loc Cert.ArReferenceIdeal.main_arg0) = m' ((c.tc : Thread Cert.ArReferenceIdeal.nD Cert.ArReferenceIdeal.τ).loc Cert.ArReferenceIdeal.main_arg0)
          ∧ r.2.mem ((c.tc : Thread Cert.ArReferenceIdeal.nD Cert.ArReferenceIdeal.τ).loc Cert.ArReferenceIdeal.main_arg1) = m' ((c.tc : Thread Cert.ArReferenceIdeal.nD Cert.ArReferenceIdeal.τ).loc Cert.ArReferenceIdeal.main_arg1)
          ∧ r.2.mem ((c.tc : Thread Cert.ArReferenceIdeal.nD Cert.ArReferenceIdeal.τ).loc Cert.ArReferenceIdeal.main_arg2) = m' ((c.tc : Thread Cert.ArReferenceIdeal.nD Cert.ArReferenceIdeal.τ).loc Cert.ArReferenceIdeal.main_arg2)
          ∧ r.2.mem ((c.tc : Thread Cert.ArReferenceIdeal.nD Cert.ArReferenceIdeal.τ).loc Cert.ArReferenceIdeal.main_arg3) = m' ((c.tc : Thread Cert.ArReferenceIdeal.nD Cert.ArReferenceIdeal.τ).loc Cert.ArReferenceIdeal.main_arg3)
          ∧ r.2.mem ((c.tc : Thread Cert.ArReferenceIdeal.nD Cert.ArReferenceIdeal.τ).loc Cert.ArReferenceIdeal.main_arg4) = m' ((c.tc : Thread Cert.ArReferenceIdeal.nD Cert.ArReferenceIdeal.τ).loc Cert.ArReferenceIdeal.main_arg4))

def preserves_AgKernel_AgKernelIdeal : Prop :=
  True

def algebraic_AgKernelIdeal_AgReferenceIdeal [hAgKernelIdeal : Cert.AgKernelIdeal.Facts] [hAgReferenceIdeal : Cert.AgReferenceIdeal.Facts] : Prop :=
  ∀ (m : (ℓ : Loc Cert.AgKernelIdeal.nD Cert.AgKernelIdeal.τ Cert.AgKernelIdeal.sig) → Buf (Elt Ideal) ℓ) (g : Dev Cert.AgKernelIdeal.nD → PrngReg)
    (m' : (ℓ : Loc Cert.AgReferenceIdeal.nD Cert.AgReferenceIdeal.τ Cert.AgReferenceIdeal.sig) → Buf (Elt Ideal) ℓ) (g' : Dev Cert.AgReferenceIdeal.nD → PrngReg), Pre_AgKernelIdeal m →
    (∀ c : Dev Cert.AgKernelIdeal.nD,
      m' ((c.tc : Thread Cert.AgReferenceIdeal.nD Cert.AgReferenceIdeal.τ).loc Cert.AgReferenceIdeal.main_arg0) = m ((c.tc : Thread Cert.AgKernelIdeal.nD Cert.AgKernelIdeal.τ).loc Cert.AgKernelIdeal.main_arg0)
      ∧ m' ((c.tc : Thread Cert.AgReferenceIdeal.nD Cert.AgReferenceIdeal.τ).loc Cert.AgReferenceIdeal.main_arg1) = m ((c.tc : Thread Cert.AgKernelIdeal.nD Cert.AgKernelIdeal.τ).loc Cert.AgKernelIdeal.main_arg1)
      ∧ m' ((c.tc : Thread Cert.AgReferenceIdeal.nD Cert.AgReferenceIdeal.τ).loc Cert.AgReferenceIdeal.main_arg2) = m ((c.tc : Thread Cert.AgKernelIdeal.nD Cert.AgKernelIdeal.τ).loc Cert.AgKernelIdeal.main_arg2)
      ∧ m' ((c.tc : Thread Cert.AgReferenceIdeal.nD Cert.AgReferenceIdeal.τ).loc Cert.AgReferenceIdeal.main_arg3) = m ((c.tc : Thread Cert.AgKernelIdeal.nD Cert.AgKernelIdeal.τ).loc Cert.AgKernelIdeal.main_arg3)
      ∧ m' ((c.tc : Thread Cert.AgReferenceIdeal.nD Cert.AgReferenceIdeal.τ).loc Cert.AgReferenceIdeal.main_arg4) = m ((c.tc : Thread Cert.AgKernelIdeal.nD Cert.AgKernelIdeal.τ).loc Cert.AgKernelIdeal.main_arg4)) →
    ∃ (v0 : (c : Dev Cert.AgKernelIdeal.nD) → Buf (Elt Ideal) ((c.tc : Thread Cert.AgKernelIdeal.nD Cert.AgKernelIdeal.τ).loc Cert.AgKernelIdeal.main_v0_0)) (v1 : (c : Dev Cert.AgKernelIdeal.nD) → Buf (Elt Ideal) ((c.tc : Thread Cert.AgKernelIdeal.nD Cert.AgKernelIdeal.τ).loc Cert.AgKernelIdeal.main_v0_1)) (v2 : (c : Dev Cert.AgKernelIdeal.nD) → Buf (Elt Ideal) ((c.tc : Thread Cert.AgKernelIdeal.nD Cert.AgKernelIdeal.τ).loc Cert.AgKernelIdeal.main_v0_2)) (v3 : (c : Dev Cert.AgKernelIdeal.nD) → Buf (Elt Ideal) ((c.tc : Thread Cert.AgKernelIdeal.nD Cert.AgKernelIdeal.τ).loc Cert.AgKernelIdeal.main_v0_3)),
      θ_run (Cert.AgKernelIdeal.defs (F := Ideal)) (onTc (τ := Cert.AgKernelIdeal.τ) (Cert.AgKernelIdeal.main (F := Ideal))) ⟨m, fun _ => 0, g⟩ (fun r => ∀ c : Dev Cert.AgKernelIdeal.nD,
          r.2.mem ((c.tc : Thread Cert.AgKernelIdeal.nD Cert.AgKernelIdeal.τ).loc Cert.AgKernelIdeal.main_v0_0) = v0 c
          ∧ r.2.mem ((c.tc : Thread Cert.AgKernelIdeal.nD Cert.AgKernelIdeal.τ).loc Cert.AgKernelIdeal.main_v0_1) = v1 c
          ∧ r.2.mem ((c.tc : Thread Cert.AgKernelIdeal.nD Cert.AgKernelIdeal.τ).loc Cert.AgKernelIdeal.main_v0_2) = v2 c
          ∧ r.2.mem ((c.tc : Thread Cert.AgKernelIdeal.nD Cert.AgKernelIdeal.τ).loc Cert.AgKernelIdeal.main_v0_3) = v3 c
          ∧ r.2.mem ((c.tc : Thread Cert.AgKernelIdeal.nD Cert.AgKernelIdeal.τ).loc Cert.AgKernelIdeal.main_arg0) = m ((c.tc : Thread Cert.AgKernelIdeal.nD Cert.AgKernelIdeal.τ).loc Cert.AgKernelIdeal.main_arg0)
          ∧ r.2.mem ((c.tc : Thread Cert.AgKernelIdeal.nD Cert.AgKernelIdeal.τ).loc Cert.AgKernelIdeal.main_arg1) = m ((c.tc : Thread Cert.AgKernelIdeal.nD Cert.AgKernelIdeal.τ).loc Cert.AgKernelIdeal.main_arg1)
          ∧ r.2.mem ((c.tc : Thread Cert.AgKernelIdeal.nD Cert.AgKernelIdeal.τ).loc Cert.AgKernelIdeal.main_arg2) = m ((c.tc : Thread Cert.AgKernelIdeal.nD Cert.AgKernelIdeal.τ).loc Cert.AgKernelIdeal.main_arg2)
          ∧ r.2.mem ((c.tc : Thread Cert.AgKernelIdeal.nD Cert.AgKernelIdeal.τ).loc Cert.AgKernelIdeal.main_arg3) = m ((c.tc : Thread Cert.AgKernelIdeal.nD Cert.AgKernelIdeal.τ).loc Cert.AgKernelIdeal.main_arg3)
          ∧ r.2.mem ((c.tc : Thread Cert.AgKernelIdeal.nD Cert.AgKernelIdeal.τ).loc Cert.AgKernelIdeal.main_arg4) = m ((c.tc : Thread Cert.AgKernelIdeal.nD Cert.AgKernelIdeal.τ).loc Cert.AgKernelIdeal.main_arg4))
      ∧ θ_run (Cert.AgReferenceIdeal.defs (F := Ideal)) (onTc (τ := Cert.AgReferenceIdeal.τ) (Cert.AgReferenceIdeal.main (F := Ideal))) ⟨m', fun _ => 0, g'⟩ (fun r => ∀ c : Dev Cert.AgReferenceIdeal.nD,
          r.2.mem ((c.tc : Thread Cert.AgReferenceIdeal.nD Cert.AgReferenceIdeal.τ).loc Cert.AgReferenceIdeal.main_v0) = v0 c
          ∧ r.2.mem ((c.tc : Thread Cert.AgReferenceIdeal.nD Cert.AgReferenceIdeal.τ).loc Cert.AgReferenceIdeal.main_v24) = v1 c
          ∧ r.2.mem ((c.tc : Thread Cert.AgReferenceIdeal.nD Cert.AgReferenceIdeal.τ).loc Cert.AgReferenceIdeal.main_v5) = v2 c
          ∧ r.2.mem ((c.tc : Thread Cert.AgReferenceIdeal.nD Cert.AgReferenceIdeal.τ).loc Cert.AgReferenceIdeal.main_v11) = v3 c
          ∧ r.2.mem ((c.tc : Thread Cert.AgReferenceIdeal.nD Cert.AgReferenceIdeal.τ).loc Cert.AgReferenceIdeal.main_arg0) = m' ((c.tc : Thread Cert.AgReferenceIdeal.nD Cert.AgReferenceIdeal.τ).loc Cert.AgReferenceIdeal.main_arg0)
          ∧ r.2.mem ((c.tc : Thread Cert.AgReferenceIdeal.nD Cert.AgReferenceIdeal.τ).loc Cert.AgReferenceIdeal.main_arg1) = m' ((c.tc : Thread Cert.AgReferenceIdeal.nD Cert.AgReferenceIdeal.τ).loc Cert.AgReferenceIdeal.main_arg1)
          ∧ r.2.mem ((c.tc : Thread Cert.AgReferenceIdeal.nD Cert.AgReferenceIdeal.τ).loc Cert.AgReferenceIdeal.main_arg2) = m' ((c.tc : Thread Cert.AgReferenceIdeal.nD Cert.AgReferenceIdeal.τ).loc Cert.AgReferenceIdeal.main_arg2)
          ∧ r.2.mem ((c.tc : Thread Cert.AgReferenceIdeal.nD Cert.AgReferenceIdeal.τ).loc Cert.AgReferenceIdeal.main_arg3) = m' ((c.tc : Thread Cert.AgReferenceIdeal.nD Cert.AgReferenceIdeal.τ).loc Cert.AgReferenceIdeal.main_arg3)
          ∧ r.2.mem ((c.tc : Thread Cert.AgReferenceIdeal.nD Cert.AgReferenceIdeal.τ).loc Cert.AgReferenceIdeal.main_arg4) = m' ((c.tc : Thread Cert.AgReferenceIdeal.nD Cert.AgReferenceIdeal.τ).loc Cert.AgReferenceIdeal.main_arg4))

def preserves_ApKernel_ApKernelIdeal : Prop :=
  True

def algebraic_ApKernelIdeal_ApReferenceIdeal [hApKernelIdeal : Cert.ApKernelIdeal.Facts] [hApReferenceIdeal : Cert.ApReferenceIdeal.Facts] : Prop :=
  ∀ (m : (ℓ : Loc Cert.ApKernelIdeal.nD Cert.ApKernelIdeal.τ Cert.ApKernelIdeal.sig) → Buf (Elt Ideal) ℓ) (g : Dev Cert.ApKernelIdeal.nD → PrngReg)
    (m' : (ℓ : Loc Cert.ApReferenceIdeal.nD Cert.ApReferenceIdeal.τ Cert.ApReferenceIdeal.sig) → Buf (Elt Ideal) ℓ) (g' : Dev Cert.ApReferenceIdeal.nD → PrngReg), Pre_ApKernelIdeal m →
    (∀ c : Dev Cert.ApKernelIdeal.nD,
      m' ((c.tc : Thread Cert.ApReferenceIdeal.nD Cert.ApReferenceIdeal.τ).loc Cert.ApReferenceIdeal.main_arg0) = m ((c.tc : Thread Cert.ApKernelIdeal.nD Cert.ApKernelIdeal.τ).loc Cert.ApKernelIdeal.main_arg0)
      ∧ m' ((c.tc : Thread Cert.ApReferenceIdeal.nD Cert.ApReferenceIdeal.τ).loc Cert.ApReferenceIdeal.main_arg1) = m ((c.tc : Thread Cert.ApKernelIdeal.nD Cert.ApKernelIdeal.τ).loc Cert.ApKernelIdeal.main_arg1)
      ∧ m' ((c.tc : Thread Cert.ApReferenceIdeal.nD Cert.ApReferenceIdeal.τ).loc Cert.ApReferenceIdeal.main_arg2) = m ((c.tc : Thread Cert.ApKernelIdeal.nD Cert.ApKernelIdeal.τ).loc Cert.ApKernelIdeal.main_arg2)
      ∧ m' ((c.tc : Thread Cert.ApReferenceIdeal.nD Cert.ApReferenceIdeal.τ).loc Cert.ApReferenceIdeal.main_arg3) = m ((c.tc : Thread Cert.ApKernelIdeal.nD Cert.ApKernelIdeal.τ).loc Cert.ApKernelIdeal.main_arg3)
      ∧ m' ((c.tc : Thread Cert.ApReferenceIdeal.nD Cert.ApReferenceIdeal.τ).loc Cert.ApReferenceIdeal.main_arg4) = m ((c.tc : Thread Cert.ApKernelIdeal.nD Cert.ApKernelIdeal.τ).loc Cert.ApKernelIdeal.main_arg4)) →
    ∃ (v0 : (c : Dev Cert.ApKernelIdeal.nD) → Buf (Elt Ideal) ((c.tc : Thread Cert.ApKernelIdeal.nD Cert.ApKernelIdeal.τ).loc Cert.ApKernelIdeal.main_v0_0)) (v1 : (c : Dev Cert.ApKernelIdeal.nD) → Buf (Elt Ideal) ((c.tc : Thread Cert.ApKernelIdeal.nD Cert.ApKernelIdeal.τ).loc Cert.ApKernelIdeal.main_v0_1)) (v2 : (c : Dev Cert.ApKernelIdeal.nD) → Buf (Elt Ideal) ((c.tc : Thread Cert.ApKernelIdeal.nD Cert.ApKernelIdeal.τ).loc Cert.ApKernelIdeal.main_v0_2)) (v3 : (c : Dev Cert.ApKernelIdeal.nD) → Buf (Elt Ideal) ((c.tc : Thread Cert.ApKernelIdeal.nD Cert.ApKernelIdeal.τ).loc Cert.ApKernelIdeal.main_v0_3)),
      θ_run (Cert.ApKernelIdeal.defs (F := Ideal)) (onTc (τ := Cert.ApKernelIdeal.τ) (Cert.ApKernelIdeal.main (F := Ideal))) ⟨m, fun _ => 0, g⟩ (fun r => ∀ c : Dev Cert.ApKernelIdeal.nD,
          r.2.mem ((c.tc : Thread Cert.ApKernelIdeal.nD Cert.ApKernelIdeal.τ).loc Cert.ApKernelIdeal.main_v0_0) = v0 c
          ∧ r.2.mem ((c.tc : Thread Cert.ApKernelIdeal.nD Cert.ApKernelIdeal.τ).loc Cert.ApKernelIdeal.main_v0_1) = v1 c
          ∧ r.2.mem ((c.tc : Thread Cert.ApKernelIdeal.nD Cert.ApKernelIdeal.τ).loc Cert.ApKernelIdeal.main_v0_2) = v2 c
          ∧ r.2.mem ((c.tc : Thread Cert.ApKernelIdeal.nD Cert.ApKernelIdeal.τ).loc Cert.ApKernelIdeal.main_v0_3) = v3 c
          ∧ r.2.mem ((c.tc : Thread Cert.ApKernelIdeal.nD Cert.ApKernelIdeal.τ).loc Cert.ApKernelIdeal.main_arg0) = m ((c.tc : Thread Cert.ApKernelIdeal.nD Cert.ApKernelIdeal.τ).loc Cert.ApKernelIdeal.main_arg0)
          ∧ r.2.mem ((c.tc : Thread Cert.ApKernelIdeal.nD Cert.ApKernelIdeal.τ).loc Cert.ApKernelIdeal.main_arg1) = m ((c.tc : Thread Cert.ApKernelIdeal.nD Cert.ApKernelIdeal.τ).loc Cert.ApKernelIdeal.main_arg1)
          ∧ r.2.mem ((c.tc : Thread Cert.ApKernelIdeal.nD Cert.ApKernelIdeal.τ).loc Cert.ApKernelIdeal.main_arg2) = m ((c.tc : Thread Cert.ApKernelIdeal.nD Cert.ApKernelIdeal.τ).loc Cert.ApKernelIdeal.main_arg2)
          ∧ r.2.mem ((c.tc : Thread Cert.ApKernelIdeal.nD Cert.ApKernelIdeal.τ).loc Cert.ApKernelIdeal.main_arg3) = m ((c.tc : Thread Cert.ApKernelIdeal.nD Cert.ApKernelIdeal.τ).loc Cert.ApKernelIdeal.main_arg3)
          ∧ r.2.mem ((c.tc : Thread Cert.ApKernelIdeal.nD Cert.ApKernelIdeal.τ).loc Cert.ApKernelIdeal.main_arg4) = m ((c.tc : Thread Cert.ApKernelIdeal.nD Cert.ApKernelIdeal.τ).loc Cert.ApKernelIdeal.main_arg4))
      ∧ θ_run (Cert.ApReferenceIdeal.defs (F := Ideal)) (onTc (τ := Cert.ApReferenceIdeal.τ) (Cert.ApReferenceIdeal.main (F := Ideal))) ⟨m', fun _ => 0, g'⟩ (fun r => ∀ c : Dev Cert.ApReferenceIdeal.nD,
          r.2.mem ((c.tc : Thread Cert.ApReferenceIdeal.nD Cert.ApReferenceIdeal.τ).loc Cert.ApReferenceIdeal.main_v0) = v0 c
          ∧ r.2.mem ((c.tc : Thread Cert.ApReferenceIdeal.nD Cert.ApReferenceIdeal.τ).loc Cert.ApReferenceIdeal.main_v24) = v1 c
          ∧ r.2.mem ((c.tc : Thread Cert.ApReferenceIdeal.nD Cert.ApReferenceIdeal.τ).loc Cert.ApReferenceIdeal.main_v5) = v2 c
          ∧ r.2.mem ((c.tc : Thread Cert.ApReferenceIdeal.nD Cert.ApReferenceIdeal.τ).loc Cert.ApReferenceIdeal.main_v11) = v3 c
          ∧ r.2.mem ((c.tc : Thread Cert.ApReferenceIdeal.nD Cert.ApReferenceIdeal.τ).loc Cert.ApReferenceIdeal.main_arg0) = m' ((c.tc : Thread Cert.ApReferenceIdeal.nD Cert.ApReferenceIdeal.τ).loc Cert.ApReferenceIdeal.main_arg0)
          ∧ r.2.mem ((c.tc : Thread Cert.ApReferenceIdeal.nD Cert.ApReferenceIdeal.τ).loc Cert.ApReferenceIdeal.main_arg1) = m' ((c.tc : Thread Cert.ApReferenceIdeal.nD Cert.ApReferenceIdeal.τ).loc Cert.ApReferenceIdeal.main_arg1)
          ∧ r.2.mem ((c.tc : Thread Cert.ApReferenceIdeal.nD Cert.ApReferenceIdeal.τ).loc Cert.ApReferenceIdeal.main_arg2) = m' ((c.tc : Thread Cert.ApReferenceIdeal.nD Cert.ApReferenceIdeal.τ).loc Cert.ApReferenceIdeal.main_arg2)
          ∧ r.2.mem ((c.tc : Thread Cert.ApReferenceIdeal.nD Cert.ApReferenceIdeal.τ).loc Cert.ApReferenceIdeal.main_arg3) = m' ((c.tc : Thread Cert.ApReferenceIdeal.nD Cert.ApReferenceIdeal.τ).loc Cert.ApReferenceIdeal.main_arg3)
          ∧ r.2.mem ((c.tc : Thread Cert.ApReferenceIdeal.nD Cert.ApReferenceIdeal.τ).loc Cert.ApReferenceIdeal.main_arg4) = m' ((c.tc : Thread Cert.ApReferenceIdeal.nD Cert.ApReferenceIdeal.τ).loc Cert.ApReferenceIdeal.main_arg4))

def preserves_AaKernel_AaKernelIdeal : Prop :=
  True

def algebraic_AaKernelIdeal_AaReferenceIdeal [hAaKernelIdeal : Cert.AaKernelIdeal.Facts] [hAaReferenceIdeal : Cert.AaReferenceIdeal.Facts] : Prop :=
  ∀ (m : (ℓ : Loc Cert.AaKernelIdeal.nD Cert.AaKernelIdeal.τ Cert.AaKernelIdeal.sig) → Buf (Elt Ideal) ℓ) (g : Dev Cert.AaKernelIdeal.nD → PrngReg)
    (m' : (ℓ : Loc Cert.AaReferenceIdeal.nD Cert.AaReferenceIdeal.τ Cert.AaReferenceIdeal.sig) → Buf (Elt Ideal) ℓ) (g' : Dev Cert.AaReferenceIdeal.nD → PrngReg), Pre_AaKernelIdeal m →
    (∀ c : Dev Cert.AaKernelIdeal.nD,
      m' ((c.tc : Thread Cert.AaReferenceIdeal.nD Cert.AaReferenceIdeal.τ).loc Cert.AaReferenceIdeal.main_arg0) = m ((c.tc : Thread Cert.AaKernelIdeal.nD Cert.AaKernelIdeal.τ).loc Cert.AaKernelIdeal.main_arg0)
      ∧ m' ((c.tc : Thread Cert.AaReferenceIdeal.nD Cert.AaReferenceIdeal.τ).loc Cert.AaReferenceIdeal.main_arg1) = m ((c.tc : Thread Cert.AaKernelIdeal.nD Cert.AaKernelIdeal.τ).loc Cert.AaKernelIdeal.main_arg1)
      ∧ m' ((c.tc : Thread Cert.AaReferenceIdeal.nD Cert.AaReferenceIdeal.τ).loc Cert.AaReferenceIdeal.main_arg2) = m ((c.tc : Thread Cert.AaKernelIdeal.nD Cert.AaKernelIdeal.τ).loc Cert.AaKernelIdeal.main_arg2)
      ∧ m' ((c.tc : Thread Cert.AaReferenceIdeal.nD Cert.AaReferenceIdeal.τ).loc Cert.AaReferenceIdeal.main_arg3) = m ((c.tc : Thread Cert.AaKernelIdeal.nD Cert.AaKernelIdeal.τ).loc Cert.AaKernelIdeal.main_arg3)
      ∧ m' ((c.tc : Thread Cert.AaReferenceIdeal.nD Cert.AaReferenceIdeal.τ).loc Cert.AaReferenceIdeal.main_arg4) = m ((c.tc : Thread Cert.AaKernelIdeal.nD Cert.AaKernelIdeal.τ).loc Cert.AaKernelIdeal.main_arg4)) →
    ∃ (v0 : (c : Dev Cert.AaKernelIdeal.nD) → Buf (Elt Ideal) ((c.tc : Thread Cert.AaKernelIdeal.nD Cert.AaKernelIdeal.τ).loc Cert.AaKernelIdeal.main_v0_0)) (v1 : (c : Dev Cert.AaKernelIdeal.nD) → Buf (Elt Ideal) ((c.tc : Thread Cert.AaKernelIdeal.nD Cert.AaKernelIdeal.τ).loc Cert.AaKernelIdeal.main_v0_1)) (v2 : (c : Dev Cert.AaKernelIdeal.nD) → Buf (Elt Ideal) ((c.tc : Thread Cert.AaKernelIdeal.nD Cert.AaKernelIdeal.τ).loc Cert.AaKernelIdeal.main_v0_2)) (v3 : (c : Dev Cert.AaKernelIdeal.nD) → Buf (Elt Ideal) ((c.tc : Thread Cert.AaKernelIdeal.nD Cert.AaKernelIdeal.τ).loc Cert.AaKernelIdeal.main_v0_3)),
      θ_run (Cert.AaKernelIdeal.defs (F := Ideal)) (onTc (τ := Cert.AaKernelIdeal.τ) (Cert.AaKernelIdeal.main (F := Ideal))) ⟨m, fun _ => 0, g⟩ (fun r => ∀ c : Dev Cert.AaKernelIdeal.nD,
          r.2.mem ((c.tc : Thread Cert.AaKernelIdeal.nD Cert.AaKernelIdeal.τ).loc Cert.AaKernelIdeal.main_v0_0) = v0 c
          ∧ r.2.mem ((c.tc : Thread Cert.AaKernelIdeal.nD Cert.AaKernelIdeal.τ).loc Cert.AaKernelIdeal.main_v0_1) = v1 c
          ∧ r.2.mem ((c.tc : Thread Cert.AaKernelIdeal.nD Cert.AaKernelIdeal.τ).loc Cert.AaKernelIdeal.main_v0_2) = v2 c
          ∧ r.2.mem ((c.tc : Thread Cert.AaKernelIdeal.nD Cert.AaKernelIdeal.τ).loc Cert.AaKernelIdeal.main_v0_3) = v3 c
          ∧ r.2.mem ((c.tc : Thread Cert.AaKernelIdeal.nD Cert.AaKernelIdeal.τ).loc Cert.AaKernelIdeal.main_arg0) = m ((c.tc : Thread Cert.AaKernelIdeal.nD Cert.AaKernelIdeal.τ).loc Cert.AaKernelIdeal.main_arg0)
          ∧ r.2.mem ((c.tc : Thread Cert.AaKernelIdeal.nD Cert.AaKernelIdeal.τ).loc Cert.AaKernelIdeal.main_arg1) = m ((c.tc : Thread Cert.AaKernelIdeal.nD Cert.AaKernelIdeal.τ).loc Cert.AaKernelIdeal.main_arg1)
          ∧ r.2.mem ((c.tc : Thread Cert.AaKernelIdeal.nD Cert.AaKernelIdeal.τ).loc Cert.AaKernelIdeal.main_arg2) = m ((c.tc : Thread Cert.AaKernelIdeal.nD Cert.AaKernelIdeal.τ).loc Cert.AaKernelIdeal.main_arg2)
          ∧ r.2.mem ((c.tc : Thread Cert.AaKernelIdeal.nD Cert.AaKernelIdeal.τ).loc Cert.AaKernelIdeal.main_arg3) = m ((c.tc : Thread Cert.AaKernelIdeal.nD Cert.AaKernelIdeal.τ).loc Cert.AaKernelIdeal.main_arg3)
          ∧ r.2.mem ((c.tc : Thread Cert.AaKernelIdeal.nD Cert.AaKernelIdeal.τ).loc Cert.AaKernelIdeal.main_arg4) = m ((c.tc : Thread Cert.AaKernelIdeal.nD Cert.AaKernelIdeal.τ).loc Cert.AaKernelIdeal.main_arg4))
      ∧ θ_run (Cert.AaReferenceIdeal.defs (F := Ideal)) (onTc (τ := Cert.AaReferenceIdeal.τ) (Cert.AaReferenceIdeal.main (F := Ideal))) ⟨m', fun _ => 0, g'⟩ (fun r => ∀ c : Dev Cert.AaReferenceIdeal.nD,
          r.2.mem ((c.tc : Thread Cert.AaReferenceIdeal.nD Cert.AaReferenceIdeal.τ).loc Cert.AaReferenceIdeal.main_v0) = v0 c
          ∧ r.2.mem ((c.tc : Thread Cert.AaReferenceIdeal.nD Cert.AaReferenceIdeal.τ).loc Cert.AaReferenceIdeal.main_v24) = v1 c
          ∧ r.2.mem ((c.tc : Thread Cert.AaReferenceIdeal.nD Cert.AaReferenceIdeal.τ).loc Cert.AaReferenceIdeal.main_v5) = v2 c
          ∧ r.2.mem ((c.tc : Thread Cert.AaReferenceIdeal.nD Cert.AaReferenceIdeal.τ).loc Cert.AaReferenceIdeal.main_v11) = v3 c
          ∧ r.2.mem ((c.tc : Thread Cert.AaReferenceIdeal.nD Cert.AaReferenceIdeal.τ).loc Cert.AaReferenceIdeal.main_arg0) = m' ((c.tc : Thread Cert.AaReferenceIdeal.nD Cert.AaReferenceIdeal.τ).loc Cert.AaReferenceIdeal.main_arg0)
          ∧ r.2.mem ((c.tc : Thread Cert.AaReferenceIdeal.nD Cert.AaReferenceIdeal.τ).loc Cert.AaReferenceIdeal.main_arg1) = m' ((c.tc : Thread Cert.AaReferenceIdeal.nD Cert.AaReferenceIdeal.τ).loc Cert.AaReferenceIdeal.main_arg1)
          ∧ r.2.mem ((c.tc : Thread Cert.AaReferenceIdeal.nD Cert.AaReferenceIdeal.τ).loc Cert.AaReferenceIdeal.main_arg2) = m' ((c.tc : Thread Cert.AaReferenceIdeal.nD Cert.AaReferenceIdeal.τ).loc Cert.AaReferenceIdeal.main_arg2)
          ∧ r.2.mem ((c.tc : Thread Cert.AaReferenceIdeal.nD Cert.AaReferenceIdeal.τ).loc Cert.AaReferenceIdeal.main_arg3) = m' ((c.tc : Thread Cert.AaReferenceIdeal.nD Cert.AaReferenceIdeal.τ).loc Cert.AaReferenceIdeal.main_arg3)
          ∧ r.2.mem ((c.tc : Thread Cert.AaReferenceIdeal.nD Cert.AaReferenceIdeal.τ).loc Cert.AaReferenceIdeal.main_arg4) = m' ((c.tc : Thread Cert.AaReferenceIdeal.nD Cert.AaReferenceIdeal.τ).loc Cert.AaReferenceIdeal.main_arg4))

def preserves_AlKernel_AlKernelIdeal : Prop :=
  True

def algebraic_AlKernelIdeal_AlReferenceIdeal [hAlKernelIdeal : Cert.AlKernelIdeal.Facts] [hAlReferenceIdeal : Cert.AlReferenceIdeal.Facts] : Prop :=
  ∀ (m : (ℓ : Loc Cert.AlKernelIdeal.nD Cert.AlKernelIdeal.τ Cert.AlKernelIdeal.sig) → Buf (Elt Ideal) ℓ) (g : Dev Cert.AlKernelIdeal.nD → PrngReg)
    (m' : (ℓ : Loc Cert.AlReferenceIdeal.nD Cert.AlReferenceIdeal.τ Cert.AlReferenceIdeal.sig) → Buf (Elt Ideal) ℓ) (g' : Dev Cert.AlReferenceIdeal.nD → PrngReg), Pre_AlKernelIdeal m →
    (∀ c : Dev Cert.AlKernelIdeal.nD,
      m' ((c.tc : Thread Cert.AlReferenceIdeal.nD Cert.AlReferenceIdeal.τ).loc Cert.AlReferenceIdeal.main_arg0) = m ((c.tc : Thread Cert.AlKernelIdeal.nD Cert.AlKernelIdeal.τ).loc Cert.AlKernelIdeal.main_arg0)
      ∧ m' ((c.tc : Thread Cert.AlReferenceIdeal.nD Cert.AlReferenceIdeal.τ).loc Cert.AlReferenceIdeal.main_arg1) = m ((c.tc : Thread Cert.AlKernelIdeal.nD Cert.AlKernelIdeal.τ).loc Cert.AlKernelIdeal.main_arg1)
      ∧ m' ((c.tc : Thread Cert.AlReferenceIdeal.nD Cert.AlReferenceIdeal.τ).loc Cert.AlReferenceIdeal.main_arg2) = m ((c.tc : Thread Cert.AlKernelIdeal.nD Cert.AlKernelIdeal.τ).loc Cert.AlKernelIdeal.main_arg2)
      ∧ m' ((c.tc : Thread Cert.AlReferenceIdeal.nD Cert.AlReferenceIdeal.τ).loc Cert.AlReferenceIdeal.main_arg3) = m ((c.tc : Thread Cert.AlKernelIdeal.nD Cert.AlKernelIdeal.τ).loc Cert.AlKernelIdeal.main_arg3)
      ∧ m' ((c.tc : Thread Cert.AlReferenceIdeal.nD Cert.AlReferenceIdeal.τ).loc Cert.AlReferenceIdeal.main_arg4) = m ((c.tc : Thread Cert.AlKernelIdeal.nD Cert.AlKernelIdeal.τ).loc Cert.AlKernelIdeal.main_arg4)) →
    ∃ (v0 : (c : Dev Cert.AlKernelIdeal.nD) → Buf (Elt Ideal) ((c.tc : Thread Cert.AlKernelIdeal.nD Cert.AlKernelIdeal.τ).loc Cert.AlKernelIdeal.main_v0_0)) (v1 : (c : Dev Cert.AlKernelIdeal.nD) → Buf (Elt Ideal) ((c.tc : Thread Cert.AlKernelIdeal.nD Cert.AlKernelIdeal.τ).loc Cert.AlKernelIdeal.main_v0_1)) (v2 : (c : Dev Cert.AlKernelIdeal.nD) → Buf (Elt Ideal) ((c.tc : Thread Cert.AlKernelIdeal.nD Cert.AlKernelIdeal.τ).loc Cert.AlKernelIdeal.main_v0_2)) (v3 : (c : Dev Cert.AlKernelIdeal.nD) → Buf (Elt Ideal) ((c.tc : Thread Cert.AlKernelIdeal.nD Cert.AlKernelIdeal.τ).loc Cert.AlKernelIdeal.main_v0_3)),
      θ_run (Cert.AlKernelIdeal.defs (F := Ideal)) (onTc (τ := Cert.AlKernelIdeal.τ) (Cert.AlKernelIdeal.main (F := Ideal))) ⟨m, fun _ => 0, g⟩ (fun r => ∀ c : Dev Cert.AlKernelIdeal.nD,
          r.2.mem ((c.tc : Thread Cert.AlKernelIdeal.nD Cert.AlKernelIdeal.τ).loc Cert.AlKernelIdeal.main_v0_0) = v0 c
          ∧ r.2.mem ((c.tc : Thread Cert.AlKernelIdeal.nD Cert.AlKernelIdeal.τ).loc Cert.AlKernelIdeal.main_v0_1) = v1 c
          ∧ r.2.mem ((c.tc : Thread Cert.AlKernelIdeal.nD Cert.AlKernelIdeal.τ).loc Cert.AlKernelIdeal.main_v0_2) = v2 c
          ∧ r.2.mem ((c.tc : Thread Cert.AlKernelIdeal.nD Cert.AlKernelIdeal.τ).loc Cert.AlKernelIdeal.main_v0_3) = v3 c
          ∧ r.2.mem ((c.tc : Thread Cert.AlKernelIdeal.nD Cert.AlKernelIdeal.τ).loc Cert.AlKernelIdeal.main_arg0) = m ((c.tc : Thread Cert.AlKernelIdeal.nD Cert.AlKernelIdeal.τ).loc Cert.AlKernelIdeal.main_arg0)
          ∧ r.2.mem ((c.tc : Thread Cert.AlKernelIdeal.nD Cert.AlKernelIdeal.τ).loc Cert.AlKernelIdeal.main_arg1) = m ((c.tc : Thread Cert.AlKernelIdeal.nD Cert.AlKernelIdeal.τ).loc Cert.AlKernelIdeal.main_arg1)
          ∧ r.2.mem ((c.tc : Thread Cert.AlKernelIdeal.nD Cert.AlKernelIdeal.τ).loc Cert.AlKernelIdeal.main_arg2) = m ((c.tc : Thread Cert.AlKernelIdeal.nD Cert.AlKernelIdeal.τ).loc Cert.AlKernelIdeal.main_arg2)
          ∧ r.2.mem ((c.tc : Thread Cert.AlKernelIdeal.nD Cert.AlKernelIdeal.τ).loc Cert.AlKernelIdeal.main_arg3) = m ((c.tc : Thread Cert.AlKernelIdeal.nD Cert.AlKernelIdeal.τ).loc Cert.AlKernelIdeal.main_arg3)
          ∧ r.2.mem ((c.tc : Thread Cert.AlKernelIdeal.nD Cert.AlKernelIdeal.τ).loc Cert.AlKernelIdeal.main_arg4) = m ((c.tc : Thread Cert.AlKernelIdeal.nD Cert.AlKernelIdeal.τ).loc Cert.AlKernelIdeal.main_arg4))
      ∧ θ_run (Cert.AlReferenceIdeal.defs (F := Ideal)) (onTc (τ := Cert.AlReferenceIdeal.τ) (Cert.AlReferenceIdeal.main (F := Ideal))) ⟨m', fun _ => 0, g'⟩ (fun r => ∀ c : Dev Cert.AlReferenceIdeal.nD,
          r.2.mem ((c.tc : Thread Cert.AlReferenceIdeal.nD Cert.AlReferenceIdeal.τ).loc Cert.AlReferenceIdeal.main_v0) = v0 c
          ∧ r.2.mem ((c.tc : Thread Cert.AlReferenceIdeal.nD Cert.AlReferenceIdeal.τ).loc Cert.AlReferenceIdeal.main_v24) = v1 c
          ∧ r.2.mem ((c.tc : Thread Cert.AlReferenceIdeal.nD Cert.AlReferenceIdeal.τ).loc Cert.AlReferenceIdeal.main_v5) = v2 c
          ∧ r.2.mem ((c.tc : Thread Cert.AlReferenceIdeal.nD Cert.AlReferenceIdeal.τ).loc Cert.AlReferenceIdeal.main_v11) = v3 c
          ∧ r.2.mem ((c.tc : Thread Cert.AlReferenceIdeal.nD Cert.AlReferenceIdeal.τ).loc Cert.AlReferenceIdeal.main_arg0) = m' ((c.tc : Thread Cert.AlReferenceIdeal.nD Cert.AlReferenceIdeal.τ).loc Cert.AlReferenceIdeal.main_arg0)
          ∧ r.2.mem ((c.tc : Thread Cert.AlReferenceIdeal.nD Cert.AlReferenceIdeal.τ).loc Cert.AlReferenceIdeal.main_arg1) = m' ((c.tc : Thread Cert.AlReferenceIdeal.nD Cert.AlReferenceIdeal.τ).loc Cert.AlReferenceIdeal.main_arg1)
          ∧ r.2.mem ((c.tc : Thread Cert.AlReferenceIdeal.nD Cert.AlReferenceIdeal.τ).loc Cert.AlReferenceIdeal.main_arg2) = m' ((c.tc : Thread Cert.AlReferenceIdeal.nD Cert.AlReferenceIdeal.τ).loc Cert.AlReferenceIdeal.main_arg2)
          ∧ r.2.mem ((c.tc : Thread Cert.AlReferenceIdeal.nD Cert.AlReferenceIdeal.τ).loc Cert.AlReferenceIdeal.main_arg3) = m' ((c.tc : Thread Cert.AlReferenceIdeal.nD Cert.AlReferenceIdeal.τ).loc Cert.AlReferenceIdeal.main_arg3)
          ∧ r.2.mem ((c.tc : Thread Cert.AlReferenceIdeal.nD Cert.AlReferenceIdeal.τ).loc Cert.AlReferenceIdeal.main_arg4) = m' ((c.tc : Thread Cert.AlReferenceIdeal.nD Cert.AlReferenceIdeal.τ).loc Cert.AlReferenceIdeal.main_arg4))

def preserves_AiKernel_AiKernelIdeal : Prop :=
  True

def algebraic_AiKernelIdeal_AiReferenceIdeal [hAiKernelIdeal : Cert.AiKernelIdeal.Facts] [hAiReferenceIdeal : Cert.AiReferenceIdeal.Facts] : Prop :=
  ∀ (m : (ℓ : Loc Cert.AiKernelIdeal.nD Cert.AiKernelIdeal.τ Cert.AiKernelIdeal.sig) → Buf (Elt Ideal) ℓ) (g : Dev Cert.AiKernelIdeal.nD → PrngReg)
    (m' : (ℓ : Loc Cert.AiReferenceIdeal.nD Cert.AiReferenceIdeal.τ Cert.AiReferenceIdeal.sig) → Buf (Elt Ideal) ℓ) (g' : Dev Cert.AiReferenceIdeal.nD → PrngReg), Pre_AiKernelIdeal m →
    (∀ c : Dev Cert.AiKernelIdeal.nD,
      m' ((c.tc : Thread Cert.AiReferenceIdeal.nD Cert.AiReferenceIdeal.τ).loc Cert.AiReferenceIdeal.main_arg0) = m ((c.tc : Thread Cert.AiKernelIdeal.nD Cert.AiKernelIdeal.τ).loc Cert.AiKernelIdeal.main_arg0)
      ∧ m' ((c.tc : Thread Cert.AiReferenceIdeal.nD Cert.AiReferenceIdeal.τ).loc Cert.AiReferenceIdeal.main_arg1) = m ((c.tc : Thread Cert.AiKernelIdeal.nD Cert.AiKernelIdeal.τ).loc Cert.AiKernelIdeal.main_arg1)
      ∧ m' ((c.tc : Thread Cert.AiReferenceIdeal.nD Cert.AiReferenceIdeal.τ).loc Cert.AiReferenceIdeal.main_arg2) = m ((c.tc : Thread Cert.AiKernelIdeal.nD Cert.AiKernelIdeal.τ).loc Cert.AiKernelIdeal.main_arg2)
      ∧ m' ((c.tc : Thread Cert.AiReferenceIdeal.nD Cert.AiReferenceIdeal.τ).loc Cert.AiReferenceIdeal.main_arg3) = m ((c.tc : Thread Cert.AiKernelIdeal.nD Cert.AiKernelIdeal.τ).loc Cert.AiKernelIdeal.main_arg3)
      ∧ m' ((c.tc : Thread Cert.AiReferenceIdeal.nD Cert.AiReferenceIdeal.τ).loc Cert.AiReferenceIdeal.main_arg4) = m ((c.tc : Thread Cert.AiKernelIdeal.nD Cert.AiKernelIdeal.τ).loc Cert.AiKernelIdeal.main_arg4)) →
    ∃ (v0 : (c : Dev Cert.AiKernelIdeal.nD) → Buf (Elt Ideal) ((c.tc : Thread Cert.AiKernelIdeal.nD Cert.AiKernelIdeal.τ).loc Cert.AiKernelIdeal.main_v0_0)) (v1 : (c : Dev Cert.AiKernelIdeal.nD) → Buf (Elt Ideal) ((c.tc : Thread Cert.AiKernelIdeal.nD Cert.AiKernelIdeal.τ).loc Cert.AiKernelIdeal.main_v0_1)) (v2 : (c : Dev Cert.AiKernelIdeal.nD) → Buf (Elt Ideal) ((c.tc : Thread Cert.AiKernelIdeal.nD Cert.AiKernelIdeal.τ).loc Cert.AiKernelIdeal.main_v0_2)) (v3 : (c : Dev Cert.AiKernelIdeal.nD) → Buf (Elt Ideal) ((c.tc : Thread Cert.AiKernelIdeal.nD Cert.AiKernelIdeal.τ).loc Cert.AiKernelIdeal.main_v0_3)),
      θ_run (Cert.AiKernelIdeal.defs (F := Ideal)) (onTc (τ := Cert.AiKernelIdeal.τ) (Cert.AiKernelIdeal.main (F := Ideal))) ⟨m, fun _ => 0, g⟩ (fun r => ∀ c : Dev Cert.AiKernelIdeal.nD,
          r.2.mem ((c.tc : Thread Cert.AiKernelIdeal.nD Cert.AiKernelIdeal.τ).loc Cert.AiKernelIdeal.main_v0_0) = v0 c
          ∧ r.2.mem ((c.tc : Thread Cert.AiKernelIdeal.nD Cert.AiKernelIdeal.τ).loc Cert.AiKernelIdeal.main_v0_1) = v1 c
          ∧ r.2.mem ((c.tc : Thread Cert.AiKernelIdeal.nD Cert.AiKernelIdeal.τ).loc Cert.AiKernelIdeal.main_v0_2) = v2 c
          ∧ r.2.mem ((c.tc : Thread Cert.AiKernelIdeal.nD Cert.AiKernelIdeal.τ).loc Cert.AiKernelIdeal.main_v0_3) = v3 c
          ∧ r.2.mem ((c.tc : Thread Cert.AiKernelIdeal.nD Cert.AiKernelIdeal.τ).loc Cert.AiKernelIdeal.main_arg0) = m ((c.tc : Thread Cert.AiKernelIdeal.nD Cert.AiKernelIdeal.τ).loc Cert.AiKernelIdeal.main_arg0)
          ∧ r.2.mem ((c.tc : Thread Cert.AiKernelIdeal.nD Cert.AiKernelIdeal.τ).loc Cert.AiKernelIdeal.main_arg1) = m ((c.tc : Thread Cert.AiKernelIdeal.nD Cert.AiKernelIdeal.τ).loc Cert.AiKernelIdeal.main_arg1)
          ∧ r.2.mem ((c.tc : Thread Cert.AiKernelIdeal.nD Cert.AiKernelIdeal.τ).loc Cert.AiKernelIdeal.main_arg2) = m ((c.tc : Thread Cert.AiKernelIdeal.nD Cert.AiKernelIdeal.τ).loc Cert.AiKernelIdeal.main_arg2)
          ∧ r.2.mem ((c.tc : Thread Cert.AiKernelIdeal.nD Cert.AiKernelIdeal.τ).loc Cert.AiKernelIdeal.main_arg3) = m ((c.tc : Thread Cert.AiKernelIdeal.nD Cert.AiKernelIdeal.τ).loc Cert.AiKernelIdeal.main_arg3)
          ∧ r.2.mem ((c.tc : Thread Cert.AiKernelIdeal.nD Cert.AiKernelIdeal.τ).loc Cert.AiKernelIdeal.main_arg4) = m ((c.tc : Thread Cert.AiKernelIdeal.nD Cert.AiKernelIdeal.τ).loc Cert.AiKernelIdeal.main_arg4))
      ∧ θ_run (Cert.AiReferenceIdeal.defs (F := Ideal)) (onTc (τ := Cert.AiReferenceIdeal.τ) (Cert.AiReferenceIdeal.main (F := Ideal))) ⟨m', fun _ => 0, g'⟩ (fun r => ∀ c : Dev Cert.AiReferenceIdeal.nD,
          r.2.mem ((c.tc : Thread Cert.AiReferenceIdeal.nD Cert.AiReferenceIdeal.τ).loc Cert.AiReferenceIdeal.main_v0) = v0 c
          ∧ r.2.mem ((c.tc : Thread Cert.AiReferenceIdeal.nD Cert.AiReferenceIdeal.τ).loc Cert.AiReferenceIdeal.main_v24) = v1 c
          ∧ r.2.mem ((c.tc : Thread Cert.AiReferenceIdeal.nD Cert.AiReferenceIdeal.τ).loc Cert.AiReferenceIdeal.main_v5) = v2 c
          ∧ r.2.mem ((c.tc : Thread Cert.AiReferenceIdeal.nD Cert.AiReferenceIdeal.τ).loc Cert.AiReferenceIdeal.main_v11) = v3 c
          ∧ r.2.mem ((c.tc : Thread Cert.AiReferenceIdeal.nD Cert.AiReferenceIdeal.τ).loc Cert.AiReferenceIdeal.main_arg0) = m' ((c.tc : Thread Cert.AiReferenceIdeal.nD Cert.AiReferenceIdeal.τ).loc Cert.AiReferenceIdeal.main_arg0)
          ∧ r.2.mem ((c.tc : Thread Cert.AiReferenceIdeal.nD Cert.AiReferenceIdeal.τ).loc Cert.AiReferenceIdeal.main_arg1) = m' ((c.tc : Thread Cert.AiReferenceIdeal.nD Cert.AiReferenceIdeal.τ).loc Cert.AiReferenceIdeal.main_arg1)
          ∧ r.2.mem ((c.tc : Thread Cert.AiReferenceIdeal.nD Cert.AiReferenceIdeal.τ).loc Cert.AiReferenceIdeal.main_arg2) = m' ((c.tc : Thread Cert.AiReferenceIdeal.nD Cert.AiReferenceIdeal.τ).loc Cert.AiReferenceIdeal.main_arg2)
          ∧ r.2.mem ((c.tc : Thread Cert.AiReferenceIdeal.nD Cert.AiReferenceIdeal.τ).loc Cert.AiReferenceIdeal.main_arg3) = m' ((c.tc : Thread Cert.AiReferenceIdeal.nD Cert.AiReferenceIdeal.τ).loc Cert.AiReferenceIdeal.main_arg3)
          ∧ r.2.mem ((c.tc : Thread Cert.AiReferenceIdeal.nD Cert.AiReferenceIdeal.τ).loc Cert.AiReferenceIdeal.main_arg4) = m' ((c.tc : Thread Cert.AiReferenceIdeal.nD Cert.AiReferenceIdeal.τ).loc Cert.AiReferenceIdeal.main_arg4))

def preserves_AcKernel_AcKernelIdeal : Prop :=
  True

def algebraic_AcKernelIdeal_AcReferenceIdeal [hAcKernelIdeal : Cert.AcKernelIdeal.Facts] [hAcReferenceIdeal : Cert.AcReferenceIdeal.Facts] : Prop :=
  ∀ (m : (ℓ : Loc Cert.AcKernelIdeal.nD Cert.AcKernelIdeal.τ Cert.AcKernelIdeal.sig) → Buf (Elt Ideal) ℓ) (g : Dev Cert.AcKernelIdeal.nD → PrngReg)
    (m' : (ℓ : Loc Cert.AcReferenceIdeal.nD Cert.AcReferenceIdeal.τ Cert.AcReferenceIdeal.sig) → Buf (Elt Ideal) ℓ) (g' : Dev Cert.AcReferenceIdeal.nD → PrngReg), Pre_AcKernelIdeal m →
    (∀ c : Dev Cert.AcKernelIdeal.nD,
      m' ((c.tc : Thread Cert.AcReferenceIdeal.nD Cert.AcReferenceIdeal.τ).loc Cert.AcReferenceIdeal.main_arg0) = m ((c.tc : Thread Cert.AcKernelIdeal.nD Cert.AcKernelIdeal.τ).loc Cert.AcKernelIdeal.main_arg0)
      ∧ m' ((c.tc : Thread Cert.AcReferenceIdeal.nD Cert.AcReferenceIdeal.τ).loc Cert.AcReferenceIdeal.main_arg1) = m ((c.tc : Thread Cert.AcKernelIdeal.nD Cert.AcKernelIdeal.τ).loc Cert.AcKernelIdeal.main_arg1)
      ∧ m' ((c.tc : Thread Cert.AcReferenceIdeal.nD Cert.AcReferenceIdeal.τ).loc Cert.AcReferenceIdeal.main_arg2) = m ((c.tc : Thread Cert.AcKernelIdeal.nD Cert.AcKernelIdeal.τ).loc Cert.AcKernelIdeal.main_arg2)
      ∧ m' ((c.tc : Thread Cert.AcReferenceIdeal.nD Cert.AcReferenceIdeal.τ).loc Cert.AcReferenceIdeal.main_arg3) = m ((c.tc : Thread Cert.AcKernelIdeal.nD Cert.AcKernelIdeal.τ).loc Cert.AcKernelIdeal.main_arg3)
      ∧ m' ((c.tc : Thread Cert.AcReferenceIdeal.nD Cert.AcReferenceIdeal.τ).loc Cert.AcReferenceIdeal.main_arg4) = m ((c.tc : Thread Cert.AcKernelIdeal.nD Cert.AcKernelIdeal.τ).loc Cert.AcKernelIdeal.main_arg4)) →
    ∃ (v0 : (c : Dev Cert.AcKernelIdeal.nD) → Buf (Elt Ideal) ((c.tc : Thread Cert.AcKernelIdeal.nD Cert.AcKernelIdeal.τ).loc Cert.AcKernelIdeal.main_v0_0)) (v1 : (c : Dev Cert.AcKernelIdeal.nD) → Buf (Elt Ideal) ((c.tc : Thread Cert.AcKernelIdeal.nD Cert.AcKernelIdeal.τ).loc Cert.AcKernelIdeal.main_v0_1)) (v2 : (c : Dev Cert.AcKernelIdeal.nD) → Buf (Elt Ideal) ((c.tc : Thread Cert.AcKernelIdeal.nD Cert.AcKernelIdeal.τ).loc Cert.AcKernelIdeal.main_v0_2)) (v3 : (c : Dev Cert.AcKernelIdeal.nD) → Buf (Elt Ideal) ((c.tc : Thread Cert.AcKernelIdeal.nD Cert.AcKernelIdeal.τ).loc Cert.AcKernelIdeal.main_v0_3)),
      θ_run (Cert.AcKernelIdeal.defs (F := Ideal)) (onTc (τ := Cert.AcKernelIdeal.τ) (Cert.AcKernelIdeal.main (F := Ideal))) ⟨m, fun _ => 0, g⟩ (fun r => ∀ c : Dev Cert.AcKernelIdeal.nD,
          r.2.mem ((c.tc : Thread Cert.AcKernelIdeal.nD Cert.AcKernelIdeal.τ).loc Cert.AcKernelIdeal.main_v0_0) = v0 c
          ∧ r.2.mem ((c.tc : Thread Cert.AcKernelIdeal.nD Cert.AcKernelIdeal.τ).loc Cert.AcKernelIdeal.main_v0_1) = v1 c
          ∧ r.2.mem ((c.tc : Thread Cert.AcKernelIdeal.nD Cert.AcKernelIdeal.τ).loc Cert.AcKernelIdeal.main_v0_2) = v2 c
          ∧ r.2.mem ((c.tc : Thread Cert.AcKernelIdeal.nD Cert.AcKernelIdeal.τ).loc Cert.AcKernelIdeal.main_v0_3) = v3 c
          ∧ r.2.mem ((c.tc : Thread Cert.AcKernelIdeal.nD Cert.AcKernelIdeal.τ).loc Cert.AcKernelIdeal.main_arg0) = m ((c.tc : Thread Cert.AcKernelIdeal.nD Cert.AcKernelIdeal.τ).loc Cert.AcKernelIdeal.main_arg0)
          ∧ r.2.mem ((c.tc : Thread Cert.AcKernelIdeal.nD Cert.AcKernelIdeal.τ).loc Cert.AcKernelIdeal.main_arg1) = m ((c.tc : Thread Cert.AcKernelIdeal.nD Cert.AcKernelIdeal.τ).loc Cert.AcKernelIdeal.main_arg1)
          ∧ r.2.mem ((c.tc : Thread Cert.AcKernelIdeal.nD Cert.AcKernelIdeal.τ).loc Cert.AcKernelIdeal.main_arg2) = m ((c.tc : Thread Cert.AcKernelIdeal.nD Cert.AcKernelIdeal.τ).loc Cert.AcKernelIdeal.main_arg2)
          ∧ r.2.mem ((c.tc : Thread Cert.AcKernelIdeal.nD Cert.AcKernelIdeal.τ).loc Cert.AcKernelIdeal.main_arg3) = m ((c.tc : Thread Cert.AcKernelIdeal.nD Cert.AcKernelIdeal.τ).loc Cert.AcKernelIdeal.main_arg3)
          ∧ r.2.mem ((c.tc : Thread Cert.AcKernelIdeal.nD Cert.AcKernelIdeal.τ).loc Cert.AcKernelIdeal.main_arg4) = m ((c.tc : Thread Cert.AcKernelIdeal.nD Cert.AcKernelIdeal.τ).loc Cert.AcKernelIdeal.main_arg4))
      ∧ θ_run (Cert.AcReferenceIdeal.defs (F := Ideal)) (onTc (τ := Cert.AcReferenceIdeal.τ) (Cert.AcReferenceIdeal.main (F := Ideal))) ⟨m', fun _ => 0, g'⟩ (fun r => ∀ c : Dev Cert.AcReferenceIdeal.nD,
          r.2.mem ((c.tc : Thread Cert.AcReferenceIdeal.nD Cert.AcReferenceIdeal.τ).loc Cert.AcReferenceIdeal.main_v0) = v0 c
          ∧ r.2.mem ((c.tc : Thread Cert.AcReferenceIdeal.nD Cert.AcReferenceIdeal.τ).loc Cert.AcReferenceIdeal.main_v24) = v1 c
          ∧ r.2.mem ((c.tc : Thread Cert.AcReferenceIdeal.nD Cert.AcReferenceIdeal.τ).loc Cert.AcReferenceIdeal.main_v5) = v2 c
          ∧ r.2.mem ((c.tc : Thread Cert.AcReferenceIdeal.nD Cert.AcReferenceIdeal.τ).loc Cert.AcReferenceIdeal.main_v11) = v3 c
          ∧ r.2.mem ((c.tc : Thread Cert.AcReferenceIdeal.nD Cert.AcReferenceIdeal.τ).loc Cert.AcReferenceIdeal.main_arg0) = m' ((c.tc : Thread Cert.AcReferenceIdeal.nD Cert.AcReferenceIdeal.τ).loc Cert.AcReferenceIdeal.main_arg0)
          ∧ r.2.mem ((c.tc : Thread Cert.AcReferenceIdeal.nD Cert.AcReferenceIdeal.τ).loc Cert.AcReferenceIdeal.main_arg1) = m' ((c.tc : Thread Cert.AcReferenceIdeal.nD Cert.AcReferenceIdeal.τ).loc Cert.AcReferenceIdeal.main_arg1)
          ∧ r.2.mem ((c.tc : Thread Cert.AcReferenceIdeal.nD Cert.AcReferenceIdeal.τ).loc Cert.AcReferenceIdeal.main_arg2) = m' ((c.tc : Thread Cert.AcReferenceIdeal.nD Cert.AcReferenceIdeal.τ).loc Cert.AcReferenceIdeal.main_arg2)
          ∧ r.2.mem ((c.tc : Thread Cert.AcReferenceIdeal.nD Cert.AcReferenceIdeal.τ).loc Cert.AcReferenceIdeal.main_arg3) = m' ((c.tc : Thread Cert.AcReferenceIdeal.nD Cert.AcReferenceIdeal.τ).loc Cert.AcReferenceIdeal.main_arg3)
          ∧ r.2.mem ((c.tc : Thread Cert.AcReferenceIdeal.nD Cert.AcReferenceIdeal.τ).loc Cert.AcReferenceIdeal.main_arg4) = m' ((c.tc : Thread Cert.AcReferenceIdeal.nD Cert.AcReferenceIdeal.τ).loc Cert.AcReferenceIdeal.main_arg4))

def preserves_AuKernel_AuKernelIdeal : Prop :=
  True

def algebraic_AuKernelIdeal_AuReferenceIdeal [hAuKernelIdeal : Cert.AuKernelIdeal.Facts] [hAuReferenceIdeal : Cert.AuReferenceIdeal.Facts] : Prop :=
  ∀ (m : (ℓ : Loc Cert.AuKernelIdeal.nD Cert.AuKernelIdeal.τ Cert.AuKernelIdeal.sig) → Buf (Elt Ideal) ℓ) (g : Dev Cert.AuKernelIdeal.nD → PrngReg)
    (m' : (ℓ : Loc Cert.AuReferenceIdeal.nD Cert.AuReferenceIdeal.τ Cert.AuReferenceIdeal.sig) → Buf (Elt Ideal) ℓ) (g' : Dev Cert.AuReferenceIdeal.nD → PrngReg), Pre_AuKernelIdeal m →
    (∀ c : Dev Cert.AuKernelIdeal.nD,
      m' ((c.tc : Thread Cert.AuReferenceIdeal.nD Cert.AuReferenceIdeal.τ).loc Cert.AuReferenceIdeal.main_arg0) = m ((c.tc : Thread Cert.AuKernelIdeal.nD Cert.AuKernelIdeal.τ).loc Cert.AuKernelIdeal.main_arg0)
      ∧ m' ((c.tc : Thread Cert.AuReferenceIdeal.nD Cert.AuReferenceIdeal.τ).loc Cert.AuReferenceIdeal.main_arg1) = m ((c.tc : Thread Cert.AuKernelIdeal.nD Cert.AuKernelIdeal.τ).loc Cert.AuKernelIdeal.main_arg1)
      ∧ m' ((c.tc : Thread Cert.AuReferenceIdeal.nD Cert.AuReferenceIdeal.τ).loc Cert.AuReferenceIdeal.main_arg2) = m ((c.tc : Thread Cert.AuKernelIdeal.nD Cert.AuKernelIdeal.τ).loc Cert.AuKernelIdeal.main_arg2)
      ∧ m' ((c.tc : Thread Cert.AuReferenceIdeal.nD Cert.AuReferenceIdeal.τ).loc Cert.AuReferenceIdeal.main_arg3) = m ((c.tc : Thread Cert.AuKernelIdeal.nD Cert.AuKernelIdeal.τ).loc Cert.AuKernelIdeal.main_arg3)
      ∧ m' ((c.tc : Thread Cert.AuReferenceIdeal.nD Cert.AuReferenceIdeal.τ).loc Cert.AuReferenceIdeal.main_arg4) = m ((c.tc : Thread Cert.AuKernelIdeal.nD Cert.AuKernelIdeal.τ).loc Cert.AuKernelIdeal.main_arg4)) →
    ∃ (v0 : (c : Dev Cert.AuKernelIdeal.nD) → Buf (Elt Ideal) ((c.tc : Thread Cert.AuKernelIdeal.nD Cert.AuKernelIdeal.τ).loc Cert.AuKernelIdeal.main_v0_0)) (v1 : (c : Dev Cert.AuKernelIdeal.nD) → Buf (Elt Ideal) ((c.tc : Thread Cert.AuKernelIdeal.nD Cert.AuKernelIdeal.τ).loc Cert.AuKernelIdeal.main_v0_1)) (v2 : (c : Dev Cert.AuKernelIdeal.nD) → Buf (Elt Ideal) ((c.tc : Thread Cert.AuKernelIdeal.nD Cert.AuKernelIdeal.τ).loc Cert.AuKernelIdeal.main_v0_2)) (v3 : (c : Dev Cert.AuKernelIdeal.nD) → Buf (Elt Ideal) ((c.tc : Thread Cert.AuKernelIdeal.nD Cert.AuKernelIdeal.τ).loc Cert.AuKernelIdeal.main_v0_3)),
      θ_run (Cert.AuKernelIdeal.defs (F := Ideal)) (onTc (τ := Cert.AuKernelIdeal.τ) (Cert.AuKernelIdeal.main (F := Ideal))) ⟨m, fun _ => 0, g⟩ (fun r => ∀ c : Dev Cert.AuKernelIdeal.nD,
          r.2.mem ((c.tc : Thread Cert.AuKernelIdeal.nD Cert.AuKernelIdeal.τ).loc Cert.AuKernelIdeal.main_v0_0) = v0 c
          ∧ r.2.mem ((c.tc : Thread Cert.AuKernelIdeal.nD Cert.AuKernelIdeal.τ).loc Cert.AuKernelIdeal.main_v0_1) = v1 c
          ∧ r.2.mem ((c.tc : Thread Cert.AuKernelIdeal.nD Cert.AuKernelIdeal.τ).loc Cert.AuKernelIdeal.main_v0_2) = v2 c
          ∧ r.2.mem ((c.tc : Thread Cert.AuKernelIdeal.nD Cert.AuKernelIdeal.τ).loc Cert.AuKernelIdeal.main_v0_3) = v3 c
          ∧ r.2.mem ((c.tc : Thread Cert.AuKernelIdeal.nD Cert.AuKernelIdeal.τ).loc Cert.AuKernelIdeal.main_arg0) = m ((c.tc : Thread Cert.AuKernelIdeal.nD Cert.AuKernelIdeal.τ).loc Cert.AuKernelIdeal.main_arg0)
          ∧ r.2.mem ((c.tc : Thread Cert.AuKernelIdeal.nD Cert.AuKernelIdeal.τ).loc Cert.AuKernelIdeal.main_arg1) = m ((c.tc : Thread Cert.AuKernelIdeal.nD Cert.AuKernelIdeal.τ).loc Cert.AuKernelIdeal.main_arg1)
          ∧ r.2.mem ((c.tc : Thread Cert.AuKernelIdeal.nD Cert.AuKernelIdeal.τ).loc Cert.AuKernelIdeal.main_arg2) = m ((c.tc : Thread Cert.AuKernelIdeal.nD Cert.AuKernelIdeal.τ).loc Cert.AuKernelIdeal.main_arg2)
          ∧ r.2.mem ((c.tc : Thread Cert.AuKernelIdeal.nD Cert.AuKernelIdeal.τ).loc Cert.AuKernelIdeal.main_arg3) = m ((c.tc : Thread Cert.AuKernelIdeal.nD Cert.AuKernelIdeal.τ).loc Cert.AuKernelIdeal.main_arg3)
          ∧ r.2.mem ((c.tc : Thread Cert.AuKernelIdeal.nD Cert.AuKernelIdeal.τ).loc Cert.AuKernelIdeal.main_arg4) = m ((c.tc : Thread Cert.AuKernelIdeal.nD Cert.AuKernelIdeal.τ).loc Cert.AuKernelIdeal.main_arg4))
      ∧ θ_run (Cert.AuReferenceIdeal.defs (F := Ideal)) (onTc (τ := Cert.AuReferenceIdeal.τ) (Cert.AuReferenceIdeal.main (F := Ideal))) ⟨m', fun _ => 0, g'⟩ (fun r => ∀ c : Dev Cert.AuReferenceIdeal.nD,
          r.2.mem ((c.tc : Thread Cert.AuReferenceIdeal.nD Cert.AuReferenceIdeal.τ).loc Cert.AuReferenceIdeal.main_v0) = v0 c
          ∧ r.2.mem ((c.tc : Thread Cert.AuReferenceIdeal.nD Cert.AuReferenceIdeal.τ).loc Cert.AuReferenceIdeal.main_v24) = v1 c
          ∧ r.2.mem ((c.tc : Thread Cert.AuReferenceIdeal.nD Cert.AuReferenceIdeal.τ).loc Cert.AuReferenceIdeal.main_v5) = v2 c
          ∧ r.2.mem ((c.tc : Thread Cert.AuReferenceIdeal.nD Cert.AuReferenceIdeal.τ).loc Cert.AuReferenceIdeal.main_v11) = v3 c
          ∧ r.2.mem ((c.tc : Thread Cert.AuReferenceIdeal.nD Cert.AuReferenceIdeal.τ).loc Cert.AuReferenceIdeal.main_arg0) = m' ((c.tc : Thread Cert.AuReferenceIdeal.nD Cert.AuReferenceIdeal.τ).loc Cert.AuReferenceIdeal.main_arg0)
          ∧ r.2.mem ((c.tc : Thread Cert.AuReferenceIdeal.nD Cert.AuReferenceIdeal.τ).loc Cert.AuReferenceIdeal.main_arg1) = m' ((c.tc : Thread Cert.AuReferenceIdeal.nD Cert.AuReferenceIdeal.τ).loc Cert.AuReferenceIdeal.main_arg1)
          ∧ r.2.mem ((c.tc : Thread Cert.AuReferenceIdeal.nD Cert.AuReferenceIdeal.τ).loc Cert.AuReferenceIdeal.main_arg2) = m' ((c.tc : Thread Cert.AuReferenceIdeal.nD Cert.AuReferenceIdeal.τ).loc Cert.AuReferenceIdeal.main_arg2)
          ∧ r.2.mem ((c.tc : Thread Cert.AuReferenceIdeal.nD Cert.AuReferenceIdeal.τ).loc Cert.AuReferenceIdeal.main_arg3) = m' ((c.tc : Thread Cert.AuReferenceIdeal.nD Cert.AuReferenceIdeal.τ).loc Cert.AuReferenceIdeal.main_arg3)
          ∧ r.2.mem ((c.tc : Thread Cert.AuReferenceIdeal.nD Cert.AuReferenceIdeal.τ).loc Cert.AuReferenceIdeal.main_arg4) = m' ((c.tc : Thread Cert.AuReferenceIdeal.nD Cert.AuReferenceIdeal.τ).loc Cert.AuReferenceIdeal.main_arg4))

def preserves_AsKernel_AsKernelIdeal : Prop :=
  True

def algebraic_AsKernelIdeal_AsReferenceIdeal [hAsKernelIdeal : Cert.AsKernelIdeal.Facts] [hAsReferenceIdeal : Cert.AsReferenceIdeal.Facts] : Prop :=
  ∀ (m : (ℓ : Loc Cert.AsKernelIdeal.nD Cert.AsKernelIdeal.τ Cert.AsKernelIdeal.sig) → Buf (Elt Ideal) ℓ) (g : Dev Cert.AsKernelIdeal.nD → PrngReg)
    (m' : (ℓ : Loc Cert.AsReferenceIdeal.nD Cert.AsReferenceIdeal.τ Cert.AsReferenceIdeal.sig) → Buf (Elt Ideal) ℓ) (g' : Dev Cert.AsReferenceIdeal.nD → PrngReg), Pre_AsKernelIdeal m →
    (∀ c : Dev Cert.AsKernelIdeal.nD,
      m' ((c.tc : Thread Cert.AsReferenceIdeal.nD Cert.AsReferenceIdeal.τ).loc Cert.AsReferenceIdeal.main_arg0) = m ((c.tc : Thread Cert.AsKernelIdeal.nD Cert.AsKernelIdeal.τ).loc Cert.AsKernelIdeal.main_arg0)
      ∧ m' ((c.tc : Thread Cert.AsReferenceIdeal.nD Cert.AsReferenceIdeal.τ).loc Cert.AsReferenceIdeal.main_arg1) = m ((c.tc : Thread Cert.AsKernelIdeal.nD Cert.AsKernelIdeal.τ).loc Cert.AsKernelIdeal.main_arg1)
      ∧ m' ((c.tc : Thread Cert.AsReferenceIdeal.nD Cert.AsReferenceIdeal.τ).loc Cert.AsReferenceIdeal.main_arg2) = m ((c.tc : Thread Cert.AsKernelIdeal.nD Cert.AsKernelIdeal.τ).loc Cert.AsKernelIdeal.main_arg2)
      ∧ m' ((c.tc : Thread Cert.AsReferenceIdeal.nD Cert.AsReferenceIdeal.τ).loc Cert.AsReferenceIdeal.main_arg3) = m ((c.tc : Thread Cert.AsKernelIdeal.nD Cert.AsKernelIdeal.τ).loc Cert.AsKernelIdeal.main_arg3)
      ∧ m' ((c.tc : Thread Cert.AsReferenceIdeal.nD Cert.AsReferenceIdeal.τ).loc Cert.AsReferenceIdeal.main_arg4) = m ((c.tc : Thread Cert.AsKernelIdeal.nD Cert.AsKernelIdeal.τ).loc Cert.AsKernelIdeal.main_arg4)) →
    ∃ (v0 : (c : Dev Cert.AsKernelIdeal.nD) → Buf (Elt Ideal) ((c.tc : Thread Cert.AsKernelIdeal.nD Cert.AsKernelIdeal.τ).loc Cert.AsKernelIdeal.main_v0_0)) (v1 : (c : Dev Cert.AsKernelIdeal.nD) → Buf (Elt Ideal) ((c.tc : Thread Cert.AsKernelIdeal.nD Cert.AsKernelIdeal.τ).loc Cert.AsKernelIdeal.main_v0_1)) (v2 : (c : Dev Cert.AsKernelIdeal.nD) → Buf (Elt Ideal) ((c.tc : Thread Cert.AsKernelIdeal.nD Cert.AsKernelIdeal.τ).loc Cert.AsKernelIdeal.main_v0_2)) (v3 : (c : Dev Cert.AsKernelIdeal.nD) → Buf (Elt Ideal) ((c.tc : Thread Cert.AsKernelIdeal.nD Cert.AsKernelIdeal.τ).loc Cert.AsKernelIdeal.main_v0_3)),
      θ_run (Cert.AsKernelIdeal.defs (F := Ideal)) (onTc (τ := Cert.AsKernelIdeal.τ) (Cert.AsKernelIdeal.main (F := Ideal))) ⟨m, fun _ => 0, g⟩ (fun r => ∀ c : Dev Cert.AsKernelIdeal.nD,
          r.2.mem ((c.tc : Thread Cert.AsKernelIdeal.nD Cert.AsKernelIdeal.τ).loc Cert.AsKernelIdeal.main_v0_0) = v0 c
          ∧ r.2.mem ((c.tc : Thread Cert.AsKernelIdeal.nD Cert.AsKernelIdeal.τ).loc Cert.AsKernelIdeal.main_v0_1) = v1 c
          ∧ r.2.mem ((c.tc : Thread Cert.AsKernelIdeal.nD Cert.AsKernelIdeal.τ).loc Cert.AsKernelIdeal.main_v0_2) = v2 c
          ∧ r.2.mem ((c.tc : Thread Cert.AsKernelIdeal.nD Cert.AsKernelIdeal.τ).loc Cert.AsKernelIdeal.main_v0_3) = v3 c
          ∧ r.2.mem ((c.tc : Thread Cert.AsKernelIdeal.nD Cert.AsKernelIdeal.τ).loc Cert.AsKernelIdeal.main_arg0) = m ((c.tc : Thread Cert.AsKernelIdeal.nD Cert.AsKernelIdeal.τ).loc Cert.AsKernelIdeal.main_arg0)
          ∧ r.2.mem ((c.tc : Thread Cert.AsKernelIdeal.nD Cert.AsKernelIdeal.τ).loc Cert.AsKernelIdeal.main_arg1) = m ((c.tc : Thread Cert.AsKernelIdeal.nD Cert.AsKernelIdeal.τ).loc Cert.AsKernelIdeal.main_arg1)
          ∧ r.2.mem ((c.tc : Thread Cert.AsKernelIdeal.nD Cert.AsKernelIdeal.τ).loc Cert.AsKernelIdeal.main_arg2) = m ((c.tc : Thread Cert.AsKernelIdeal.nD Cert.AsKernelIdeal.τ).loc Cert.AsKernelIdeal.main_arg2)
          ∧ r.2.mem ((c.tc : Thread Cert.AsKernelIdeal.nD Cert.AsKernelIdeal.τ).loc Cert.AsKernelIdeal.main_arg3) = m ((c.tc : Thread Cert.AsKernelIdeal.nD Cert.AsKernelIdeal.τ).loc Cert.AsKernelIdeal.main_arg3)
          ∧ r.2.mem ((c.tc : Thread Cert.AsKernelIdeal.nD Cert.AsKernelIdeal.τ).loc Cert.AsKernelIdeal.main_arg4) = m ((c.tc : Thread Cert.AsKernelIdeal.nD Cert.AsKernelIdeal.τ).loc Cert.AsKernelIdeal.main_arg4))
      ∧ θ_run (Cert.AsReferenceIdeal.defs (F := Ideal)) (onTc (τ := Cert.AsReferenceIdeal.τ) (Cert.AsReferenceIdeal.main (F := Ideal))) ⟨m', fun _ => 0, g'⟩ (fun r => ∀ c : Dev Cert.AsReferenceIdeal.nD,
          r.2.mem ((c.tc : Thread Cert.AsReferenceIdeal.nD Cert.AsReferenceIdeal.τ).loc Cert.AsReferenceIdeal.main_v0) = v0 c
          ∧ r.2.mem ((c.tc : Thread Cert.AsReferenceIdeal.nD Cert.AsReferenceIdeal.τ).loc Cert.AsReferenceIdeal.main_v24) = v1 c
          ∧ r.2.mem ((c.tc : Thread Cert.AsReferenceIdeal.nD Cert.AsReferenceIdeal.τ).loc Cert.AsReferenceIdeal.main_v5) = v2 c
          ∧ r.2.mem ((c.tc : Thread Cert.AsReferenceIdeal.nD Cert.AsReferenceIdeal.τ).loc Cert.AsReferenceIdeal.main_v11) = v3 c
          ∧ r.2.mem ((c.tc : Thread Cert.AsReferenceIdeal.nD Cert.AsReferenceIdeal.τ).loc Cert.AsReferenceIdeal.main_arg0) = m' ((c.tc : Thread Cert.AsReferenceIdeal.nD Cert.AsReferenceIdeal.τ).loc Cert.AsReferenceIdeal.main_arg0)
          ∧ r.2.mem ((c.tc : Thread Cert.AsReferenceIdeal.nD Cert.AsReferenceIdeal.τ).loc Cert.AsReferenceIdeal.main_arg1) = m' ((c.tc : Thread Cert.AsReferenceIdeal.nD Cert.AsReferenceIdeal.τ).loc Cert.AsReferenceIdeal.main_arg1)
          ∧ r.2.mem ((c.tc : Thread Cert.AsReferenceIdeal.nD Cert.AsReferenceIdeal.τ).loc Cert.AsReferenceIdeal.main_arg2) = m' ((c.tc : Thread Cert.AsReferenceIdeal.nD Cert.AsReferenceIdeal.τ).loc Cert.AsReferenceIdeal.main_arg2)
          ∧ r.2.mem ((c.tc : Thread Cert.AsReferenceIdeal.nD Cert.AsReferenceIdeal.τ).loc Cert.AsReferenceIdeal.main_arg3) = m' ((c.tc : Thread Cert.AsReferenceIdeal.nD Cert.AsReferenceIdeal.τ).loc Cert.AsReferenceIdeal.main_arg3)
          ∧ r.2.mem ((c.tc : Thread Cert.AsReferenceIdeal.nD Cert.AsReferenceIdeal.τ).loc Cert.AsReferenceIdeal.main_arg4) = m' ((c.tc : Thread Cert.AsReferenceIdeal.nD Cert.AsReferenceIdeal.τ).loc Cert.AsReferenceIdeal.main_arg4))

def preserves_AmKernel_AmKernelIdeal : Prop :=
  True

def algebraic_AmKernelIdeal_AmReferenceIdeal [hAmKernelIdeal : Cert.AmKernelIdeal.Facts] [hAmReferenceIdeal : Cert.AmReferenceIdeal.Facts] : Prop :=
  ∀ (m : (ℓ : Loc Cert.AmKernelIdeal.nD Cert.AmKernelIdeal.τ Cert.AmKernelIdeal.sig) → Buf (Elt Ideal) ℓ) (g : Dev Cert.AmKernelIdeal.nD → PrngReg)
    (m' : (ℓ : Loc Cert.AmReferenceIdeal.nD Cert.AmReferenceIdeal.τ Cert.AmReferenceIdeal.sig) → Buf (Elt Ideal) ℓ) (g' : Dev Cert.AmReferenceIdeal.nD → PrngReg), Pre_AmKernelIdeal m →
    (∀ c : Dev Cert.AmKernelIdeal.nD,
      m' ((c.tc : Thread Cert.AmReferenceIdeal.nD Cert.AmReferenceIdeal.τ).loc Cert.AmReferenceIdeal.main_arg0) = m ((c.tc : Thread Cert.AmKernelIdeal.nD Cert.AmKernelIdeal.τ).loc Cert.AmKernelIdeal.main_arg0)
      ∧ m' ((c.tc : Thread Cert.AmReferenceIdeal.nD Cert.AmReferenceIdeal.τ).loc Cert.AmReferenceIdeal.main_arg1) = m ((c.tc : Thread Cert.AmKernelIdeal.nD Cert.AmKernelIdeal.τ).loc Cert.AmKernelIdeal.main_arg1)
      ∧ m' ((c.tc : Thread Cert.AmReferenceIdeal.nD Cert.AmReferenceIdeal.τ).loc Cert.AmReferenceIdeal.main_arg2) = m ((c.tc : Thread Cert.AmKernelIdeal.nD Cert.AmKernelIdeal.τ).loc Cert.AmKernelIdeal.main_arg2)
      ∧ m' ((c.tc : Thread Cert.AmReferenceIdeal.nD Cert.AmReferenceIdeal.τ).loc Cert.AmReferenceIdeal.main_arg3) = m ((c.tc : Thread Cert.AmKernelIdeal.nD Cert.AmKernelIdeal.τ).loc Cert.AmKernelIdeal.main_arg3)
      ∧ m' ((c.tc : Thread Cert.AmReferenceIdeal.nD Cert.AmReferenceIdeal.τ).loc Cert.AmReferenceIdeal.main_arg4) = m ((c.tc : Thread Cert.AmKernelIdeal.nD Cert.AmKernelIdeal.τ).loc Cert.AmKernelIdeal.main_arg4)) →
    ∃ (v0 : (c : Dev Cert.AmKernelIdeal.nD) → Buf (Elt Ideal) ((c.tc : Thread Cert.AmKernelIdeal.nD Cert.AmKernelIdeal.τ).loc Cert.AmKernelIdeal.main_v0_0)) (v1 : (c : Dev Cert.AmKernelIdeal.nD) → Buf (Elt Ideal) ((c.tc : Thread Cert.AmKernelIdeal.nD Cert.AmKernelIdeal.τ).loc Cert.AmKernelIdeal.main_v0_1)) (v2 : (c : Dev Cert.AmKernelIdeal.nD) → Buf (Elt Ideal) ((c.tc : Thread Cert.AmKernelIdeal.nD Cert.AmKernelIdeal.τ).loc Cert.AmKernelIdeal.main_v0_2)) (v3 : (c : Dev Cert.AmKernelIdeal.nD) → Buf (Elt Ideal) ((c.tc : Thread Cert.AmKernelIdeal.nD Cert.AmKernelIdeal.τ).loc Cert.AmKernelIdeal.main_v0_3)),
      θ_run (Cert.AmKernelIdeal.defs (F := Ideal)) (onTc (τ := Cert.AmKernelIdeal.τ) (Cert.AmKernelIdeal.main (F := Ideal))) ⟨m, fun _ => 0, g⟩ (fun r => ∀ c : Dev Cert.AmKernelIdeal.nD,
          r.2.mem ((c.tc : Thread Cert.AmKernelIdeal.nD Cert.AmKernelIdeal.τ).loc Cert.AmKernelIdeal.main_v0_0) = v0 c
          ∧ r.2.mem ((c.tc : Thread Cert.AmKernelIdeal.nD Cert.AmKernelIdeal.τ).loc Cert.AmKernelIdeal.main_v0_1) = v1 c
          ∧ r.2.mem ((c.tc : Thread Cert.AmKernelIdeal.nD Cert.AmKernelIdeal.τ).loc Cert.AmKernelIdeal.main_v0_2) = v2 c
          ∧ r.2.mem ((c.tc : Thread Cert.AmKernelIdeal.nD Cert.AmKernelIdeal.τ).loc Cert.AmKernelIdeal.main_v0_3) = v3 c
          ∧ r.2.mem ((c.tc : Thread Cert.AmKernelIdeal.nD Cert.AmKernelIdeal.τ).loc Cert.AmKernelIdeal.main_arg0) = m ((c.tc : Thread Cert.AmKernelIdeal.nD Cert.AmKernelIdeal.τ).loc Cert.AmKernelIdeal.main_arg0)
          ∧ r.2.mem ((c.tc : Thread Cert.AmKernelIdeal.nD Cert.AmKernelIdeal.τ).loc Cert.AmKernelIdeal.main_arg1) = m ((c.tc : Thread Cert.AmKernelIdeal.nD Cert.AmKernelIdeal.τ).loc Cert.AmKernelIdeal.main_arg1)
          ∧ r.2.mem ((c.tc : Thread Cert.AmKernelIdeal.nD Cert.AmKernelIdeal.τ).loc Cert.AmKernelIdeal.main_arg2) = m ((c.tc : Thread Cert.AmKernelIdeal.nD Cert.AmKernelIdeal.τ).loc Cert.AmKernelIdeal.main_arg2)
          ∧ r.2.mem ((c.tc : Thread Cert.AmKernelIdeal.nD Cert.AmKernelIdeal.τ).loc Cert.AmKernelIdeal.main_arg3) = m ((c.tc : Thread Cert.AmKernelIdeal.nD Cert.AmKernelIdeal.τ).loc Cert.AmKernelIdeal.main_arg3)
          ∧ r.2.mem ((c.tc : Thread Cert.AmKernelIdeal.nD Cert.AmKernelIdeal.τ).loc Cert.AmKernelIdeal.main_arg4) = m ((c.tc : Thread Cert.AmKernelIdeal.nD Cert.AmKernelIdeal.τ).loc Cert.AmKernelIdeal.main_arg4))
      ∧ θ_run (Cert.AmReferenceIdeal.defs (F := Ideal)) (onTc (τ := Cert.AmReferenceIdeal.τ) (Cert.AmReferenceIdeal.main (F := Ideal))) ⟨m', fun _ => 0, g'⟩ (fun r => ∀ c : Dev Cert.AmReferenceIdeal.nD,
          r.2.mem ((c.tc : Thread Cert.AmReferenceIdeal.nD Cert.AmReferenceIdeal.τ).loc Cert.AmReferenceIdeal.main_v0) = v0 c
          ∧ r.2.mem ((c.tc : Thread Cert.AmReferenceIdeal.nD Cert.AmReferenceIdeal.τ).loc Cert.AmReferenceIdeal.main_v24) = v1 c
          ∧ r.2.mem ((c.tc : Thread Cert.AmReferenceIdeal.nD Cert.AmReferenceIdeal.τ).loc Cert.AmReferenceIdeal.main_v5) = v2 c
          ∧ r.2.mem ((c.tc : Thread Cert.AmReferenceIdeal.nD Cert.AmReferenceIdeal.τ).loc Cert.AmReferenceIdeal.main_v11) = v3 c
          ∧ r.2.mem ((c.tc : Thread Cert.AmReferenceIdeal.nD Cert.AmReferenceIdeal.τ).loc Cert.AmReferenceIdeal.main_arg0) = m' ((c.tc : Thread Cert.AmReferenceIdeal.nD Cert.AmReferenceIdeal.τ).loc Cert.AmReferenceIdeal.main_arg0)
          ∧ r.2.mem ((c.tc : Thread Cert.AmReferenceIdeal.nD Cert.AmReferenceIdeal.τ).loc Cert.AmReferenceIdeal.main_arg1) = m' ((c.tc : Thread Cert.AmReferenceIdeal.nD Cert.AmReferenceIdeal.τ).loc Cert.AmReferenceIdeal.main_arg1)
          ∧ r.2.mem ((c.tc : Thread Cert.AmReferenceIdeal.nD Cert.AmReferenceIdeal.τ).loc Cert.AmReferenceIdeal.main_arg2) = m' ((c.tc : Thread Cert.AmReferenceIdeal.nD Cert.AmReferenceIdeal.τ).loc Cert.AmReferenceIdeal.main_arg2)
          ∧ r.2.mem ((c.tc : Thread Cert.AmReferenceIdeal.nD Cert.AmReferenceIdeal.τ).loc Cert.AmReferenceIdeal.main_arg3) = m' ((c.tc : Thread Cert.AmReferenceIdeal.nD Cert.AmReferenceIdeal.τ).loc Cert.AmReferenceIdeal.main_arg3)
          ∧ r.2.mem ((c.tc : Thread Cert.AmReferenceIdeal.nD Cert.AmReferenceIdeal.τ).loc Cert.AmReferenceIdeal.main_arg4) = m' ((c.tc : Thread Cert.AmReferenceIdeal.nD Cert.AmReferenceIdeal.τ).loc Cert.AmReferenceIdeal.main_arg4))

def preserves_AoKernel_AoKernelIdeal : Prop :=
  True

def algebraic_AoKernelIdeal_AoReferenceIdeal [hAoKernelIdeal : Cert.AoKernelIdeal.Facts] [hAoReferenceIdeal : Cert.AoReferenceIdeal.Facts] : Prop :=
  ∀ (m : (ℓ : Loc Cert.AoKernelIdeal.nD Cert.AoKernelIdeal.τ Cert.AoKernelIdeal.sig) → Buf (Elt Ideal) ℓ) (g : Dev Cert.AoKernelIdeal.nD → PrngReg)
    (m' : (ℓ : Loc Cert.AoReferenceIdeal.nD Cert.AoReferenceIdeal.τ Cert.AoReferenceIdeal.sig) → Buf (Elt Ideal) ℓ) (g' : Dev Cert.AoReferenceIdeal.nD → PrngReg), Pre_AoKernelIdeal m →
    (∀ c : Dev Cert.AoKernelIdeal.nD,
      m' ((c.tc : Thread Cert.AoReferenceIdeal.nD Cert.AoReferenceIdeal.τ).loc Cert.AoReferenceIdeal.main_arg0) = m ((c.tc : Thread Cert.AoKernelIdeal.nD Cert.AoKernelIdeal.τ).loc Cert.AoKernelIdeal.main_arg0)
      ∧ m' ((c.tc : Thread Cert.AoReferenceIdeal.nD Cert.AoReferenceIdeal.τ).loc Cert.AoReferenceIdeal.main_arg1) = m ((c.tc : Thread Cert.AoKernelIdeal.nD Cert.AoKernelIdeal.τ).loc Cert.AoKernelIdeal.main_arg1)
      ∧ m' ((c.tc : Thread Cert.AoReferenceIdeal.nD Cert.AoReferenceIdeal.τ).loc Cert.AoReferenceIdeal.main_arg2) = m ((c.tc : Thread Cert.AoKernelIdeal.nD Cert.AoKernelIdeal.τ).loc Cert.AoKernelIdeal.main_arg2)
      ∧ m' ((c.tc : Thread Cert.AoReferenceIdeal.nD Cert.AoReferenceIdeal.τ).loc Cert.AoReferenceIdeal.main_arg3) = m ((c.tc : Thread Cert.AoKernelIdeal.nD Cert.AoKernelIdeal.τ).loc Cert.AoKernelIdeal.main_arg3)
      ∧ m' ((c.tc : Thread Cert.AoReferenceIdeal.nD Cert.AoReferenceIdeal.τ).loc Cert.AoReferenceIdeal.main_arg4) = m ((c.tc : Thread Cert.AoKernelIdeal.nD Cert.AoKernelIdeal.τ).loc Cert.AoKernelIdeal.main_arg4)) →
    ∃ (v0 : (c : Dev Cert.AoKernelIdeal.nD) → Buf (Elt Ideal) ((c.tc : Thread Cert.AoKernelIdeal.nD Cert.AoKernelIdeal.τ).loc Cert.AoKernelIdeal.main_v0_0)) (v1 : (c : Dev Cert.AoKernelIdeal.nD) → Buf (Elt Ideal) ((c.tc : Thread Cert.AoKernelIdeal.nD Cert.AoKernelIdeal.τ).loc Cert.AoKernelIdeal.main_v0_1)) (v2 : (c : Dev Cert.AoKernelIdeal.nD) → Buf (Elt Ideal) ((c.tc : Thread Cert.AoKernelIdeal.nD Cert.AoKernelIdeal.τ).loc Cert.AoKernelIdeal.main_v0_2)) (v3 : (c : Dev Cert.AoKernelIdeal.nD) → Buf (Elt Ideal) ((c.tc : Thread Cert.AoKernelIdeal.nD Cert.AoKernelIdeal.τ).loc Cert.AoKernelIdeal.main_v0_3)),
      θ_run (Cert.AoKernelIdeal.defs (F := Ideal)) (onTc (τ := Cert.AoKernelIdeal.τ) (Cert.AoKernelIdeal.main (F := Ideal))) ⟨m, fun _ => 0, g⟩ (fun r => ∀ c : Dev Cert.AoKernelIdeal.nD,
          r.2.mem ((c.tc : Thread Cert.AoKernelIdeal.nD Cert.AoKernelIdeal.τ).loc Cert.AoKernelIdeal.main_v0_0) = v0 c
          ∧ r.2.mem ((c.tc : Thread Cert.AoKernelIdeal.nD Cert.AoKernelIdeal.τ).loc Cert.AoKernelIdeal.main_v0_1) = v1 c
          ∧ r.2.mem ((c.tc : Thread Cert.AoKernelIdeal.nD Cert.AoKernelIdeal.τ).loc Cert.AoKernelIdeal.main_v0_2) = v2 c
          ∧ r.2.mem ((c.tc : Thread Cert.AoKernelIdeal.nD Cert.AoKernelIdeal.τ).loc Cert.AoKernelIdeal.main_v0_3) = v3 c
          ∧ r.2.mem ((c.tc : Thread Cert.AoKernelIdeal.nD Cert.AoKernelIdeal.τ).loc Cert.AoKernelIdeal.main_arg0) = m ((c.tc : Thread Cert.AoKernelIdeal.nD Cert.AoKernelIdeal.τ).loc Cert.AoKernelIdeal.main_arg0)
          ∧ r.2.mem ((c.tc : Thread Cert.AoKernelIdeal.nD Cert.AoKernelIdeal.τ).loc Cert.AoKernelIdeal.main_arg1) = m ((c.tc : Thread Cert.AoKernelIdeal.nD Cert.AoKernelIdeal.τ).loc Cert.AoKernelIdeal.main_arg1)
          ∧ r.2.mem ((c.tc : Thread Cert.AoKernelIdeal.nD Cert.AoKernelIdeal.τ).loc Cert.AoKernelIdeal.main_arg2) = m ((c.tc : Thread Cert.AoKernelIdeal.nD Cert.AoKernelIdeal.τ).loc Cert.AoKernelIdeal.main_arg2)
          ∧ r.2.mem ((c.tc : Thread Cert.AoKernelIdeal.nD Cert.AoKernelIdeal.τ).loc Cert.AoKernelIdeal.main_arg3) = m ((c.tc : Thread Cert.AoKernelIdeal.nD Cert.AoKernelIdeal.τ).loc Cert.AoKernelIdeal.main_arg3)
          ∧ r.2.mem ((c.tc : Thread Cert.AoKernelIdeal.nD Cert.AoKernelIdeal.τ).loc Cert.AoKernelIdeal.main_arg4) = m ((c.tc : Thread Cert.AoKernelIdeal.nD Cert.AoKernelIdeal.τ).loc Cert.AoKernelIdeal.main_arg4))
      ∧ θ_run (Cert.AoReferenceIdeal.defs (F := Ideal)) (onTc (τ := Cert.AoReferenceIdeal.τ) (Cert.AoReferenceIdeal.main (F := Ideal))) ⟨m', fun _ => 0, g'⟩ (fun r => ∀ c : Dev Cert.AoReferenceIdeal.nD,
          r.2.mem ((c.tc : Thread Cert.AoReferenceIdeal.nD Cert.AoReferenceIdeal.τ).loc Cert.AoReferenceIdeal.main_v0) = v0 c
          ∧ r.2.mem ((c.tc : Thread Cert.AoReferenceIdeal.nD Cert.AoReferenceIdeal.τ).loc Cert.AoReferenceIdeal.main_v24) = v1 c
          ∧ r.2.mem ((c.tc : Thread Cert.AoReferenceIdeal.nD Cert.AoReferenceIdeal.τ).loc Cert.AoReferenceIdeal.main_v5) = v2 c
          ∧ r.2.mem ((c.tc : Thread Cert.AoReferenceIdeal.nD Cert.AoReferenceIdeal.τ).loc Cert.AoReferenceIdeal.main_v11) = v3 c
          ∧ r.2.mem ((c.tc : Thread Cert.AoReferenceIdeal.nD Cert.AoReferenceIdeal.τ).loc Cert.AoReferenceIdeal.main_arg0) = m' ((c.tc : Thread Cert.AoReferenceIdeal.nD Cert.AoReferenceIdeal.τ).loc Cert.AoReferenceIdeal.main_arg0)
          ∧ r.2.mem ((c.tc : Thread Cert.AoReferenceIdeal.nD Cert.AoReferenceIdeal.τ).loc Cert.AoReferenceIdeal.main_arg1) = m' ((c.tc : Thread Cert.AoReferenceIdeal.nD Cert.AoReferenceIdeal.τ).loc Cert.AoReferenceIdeal.main_arg1)
          ∧ r.2.mem ((c.tc : Thread Cert.AoReferenceIdeal.nD Cert.AoReferenceIdeal.τ).loc Cert.AoReferenceIdeal.main_arg2) = m' ((c.tc : Thread Cert.AoReferenceIdeal.nD Cert.AoReferenceIdeal.τ).loc Cert.AoReferenceIdeal.main_arg2)
          ∧ r.2.mem ((c.tc : Thread Cert.AoReferenceIdeal.nD Cert.AoReferenceIdeal.τ).loc Cert.AoReferenceIdeal.main_arg3) = m' ((c.tc : Thread Cert.AoReferenceIdeal.nD Cert.AoReferenceIdeal.τ).loc Cert.AoReferenceIdeal.main_arg3)
          ∧ r.2.mem ((c.tc : Thread Cert.AoReferenceIdeal.nD Cert.AoReferenceIdeal.τ).loc Cert.AoReferenceIdeal.main_arg4) = m' ((c.tc : Thread Cert.AoReferenceIdeal.nD Cert.AoReferenceIdeal.τ).loc Cert.AoReferenceIdeal.main_arg4))

def preserves_AqKernel_AqKernelIdeal : Prop :=
  True

def algebraic_AqKernelIdeal_AqReferenceIdeal [hAqKernelIdeal : Cert.AqKernelIdeal.Facts] [hAqReferenceIdeal : Cert.AqReferenceIdeal.Facts] : Prop :=
  ∀ (m : (ℓ : Loc Cert.AqKernelIdeal.nD Cert.AqKernelIdeal.τ Cert.AqKernelIdeal.sig) → Buf (Elt Ideal) ℓ) (g : Dev Cert.AqKernelIdeal.nD → PrngReg)
    (m' : (ℓ : Loc Cert.AqReferenceIdeal.nD Cert.AqReferenceIdeal.τ Cert.AqReferenceIdeal.sig) → Buf (Elt Ideal) ℓ) (g' : Dev Cert.AqReferenceIdeal.nD → PrngReg), Pre_AqKernelIdeal m →
    (∀ c : Dev Cert.AqKernelIdeal.nD,
      m' ((c.tc : Thread Cert.AqReferenceIdeal.nD Cert.AqReferenceIdeal.τ).loc Cert.AqReferenceIdeal.main_arg0) = m ((c.tc : Thread Cert.AqKernelIdeal.nD Cert.AqKernelIdeal.τ).loc Cert.AqKernelIdeal.main_arg0)
      ∧ m' ((c.tc : Thread Cert.AqReferenceIdeal.nD Cert.AqReferenceIdeal.τ).loc Cert.AqReferenceIdeal.main_arg1) = m ((c.tc : Thread Cert.AqKernelIdeal.nD Cert.AqKernelIdeal.τ).loc Cert.AqKernelIdeal.main_arg1)
      ∧ m' ((c.tc : Thread Cert.AqReferenceIdeal.nD Cert.AqReferenceIdeal.τ).loc Cert.AqReferenceIdeal.main_arg2) = m ((c.tc : Thread Cert.AqKernelIdeal.nD Cert.AqKernelIdeal.τ).loc Cert.AqKernelIdeal.main_arg2)
      ∧ m' ((c.tc : Thread Cert.AqReferenceIdeal.nD Cert.AqReferenceIdeal.τ).loc Cert.AqReferenceIdeal.main_arg3) = m ((c.tc : Thread Cert.AqKernelIdeal.nD Cert.AqKernelIdeal.τ).loc Cert.AqKernelIdeal.main_arg3)
      ∧ m' ((c.tc : Thread Cert.AqReferenceIdeal.nD Cert.AqReferenceIdeal.τ).loc Cert.AqReferenceIdeal.main_arg4) = m ((c.tc : Thread Cert.AqKernelIdeal.nD Cert.AqKernelIdeal.τ).loc Cert.AqKernelIdeal.main_arg4)) →
    ∃ (v0 : (c : Dev Cert.AqKernelIdeal.nD) → Buf (Elt Ideal) ((c.tc : Thread Cert.AqKernelIdeal.nD Cert.AqKernelIdeal.τ).loc Cert.AqKernelIdeal.main_v0_0)) (v1 : (c : Dev Cert.AqKernelIdeal.nD) → Buf (Elt Ideal) ((c.tc : Thread Cert.AqKernelIdeal.nD Cert.AqKernelIdeal.τ).loc Cert.AqKernelIdeal.main_v0_1)) (v2 : (c : Dev Cert.AqKernelIdeal.nD) → Buf (Elt Ideal) ((c.tc : Thread Cert.AqKernelIdeal.nD Cert.AqKernelIdeal.τ).loc Cert.AqKernelIdeal.main_v0_2)) (v3 : (c : Dev Cert.AqKernelIdeal.nD) → Buf (Elt Ideal) ((c.tc : Thread Cert.AqKernelIdeal.nD Cert.AqKernelIdeal.τ).loc Cert.AqKernelIdeal.main_v0_3)),
      θ_run (Cert.AqKernelIdeal.defs (F := Ideal)) (onTc (τ := Cert.AqKernelIdeal.τ) (Cert.AqKernelIdeal.main (F := Ideal))) ⟨m, fun _ => 0, g⟩ (fun r => ∀ c : Dev Cert.AqKernelIdeal.nD,
          r.2.mem ((c.tc : Thread Cert.AqKernelIdeal.nD Cert.AqKernelIdeal.τ).loc Cert.AqKernelIdeal.main_v0_0) = v0 c
          ∧ r.2.mem ((c.tc : Thread Cert.AqKernelIdeal.nD Cert.AqKernelIdeal.τ).loc Cert.AqKernelIdeal.main_v0_1) = v1 c
          ∧ r.2.mem ((c.tc : Thread Cert.AqKernelIdeal.nD Cert.AqKernelIdeal.τ).loc Cert.AqKernelIdeal.main_v0_2) = v2 c
          ∧ r.2.mem ((c.tc : Thread Cert.AqKernelIdeal.nD Cert.AqKernelIdeal.τ).loc Cert.AqKernelIdeal.main_v0_3) = v3 c
          ∧ r.2.mem ((c.tc : Thread Cert.AqKernelIdeal.nD Cert.AqKernelIdeal.τ).loc Cert.AqKernelIdeal.main_arg0) = m ((c.tc : Thread Cert.AqKernelIdeal.nD Cert.AqKernelIdeal.τ).loc Cert.AqKernelIdeal.main_arg0)
          ∧ r.2.mem ((c.tc : Thread Cert.AqKernelIdeal.nD Cert.AqKernelIdeal.τ).loc Cert.AqKernelIdeal.main_arg1) = m ((c.tc : Thread Cert.AqKernelIdeal.nD Cert.AqKernelIdeal.τ).loc Cert.AqKernelIdeal.main_arg1)
          ∧ r.2.mem ((c.tc : Thread Cert.AqKernelIdeal.nD Cert.AqKernelIdeal.τ).loc Cert.AqKernelIdeal.main_arg2) = m ((c.tc : Thread Cert.AqKernelIdeal.nD Cert.AqKernelIdeal.τ).loc Cert.AqKernelIdeal.main_arg2)
          ∧ r.2.mem ((c.tc : Thread Cert.AqKernelIdeal.nD Cert.AqKernelIdeal.τ).loc Cert.AqKernelIdeal.main_arg3) = m ((c.tc : Thread Cert.AqKernelIdeal.nD Cert.AqKernelIdeal.τ).loc Cert.AqKernelIdeal.main_arg3)
          ∧ r.2.mem ((c.tc : Thread Cert.AqKernelIdeal.nD Cert.AqKernelIdeal.τ).loc Cert.AqKernelIdeal.main_arg4) = m ((c.tc : Thread Cert.AqKernelIdeal.nD Cert.AqKernelIdeal.τ).loc Cert.AqKernelIdeal.main_arg4))
      ∧ θ_run (Cert.AqReferenceIdeal.defs (F := Ideal)) (onTc (τ := Cert.AqReferenceIdeal.τ) (Cert.AqReferenceIdeal.main (F := Ideal))) ⟨m', fun _ => 0, g'⟩ (fun r => ∀ c : Dev Cert.AqReferenceIdeal.nD,
          r.2.mem ((c.tc : Thread Cert.AqReferenceIdeal.nD Cert.AqReferenceIdeal.τ).loc Cert.AqReferenceIdeal.main_v0) = v0 c
          ∧ r.2.mem ((c.tc : Thread Cert.AqReferenceIdeal.nD Cert.AqReferenceIdeal.τ).loc Cert.AqReferenceIdeal.main_v24) = v1 c
          ∧ r.2.mem ((c.tc : Thread Cert.AqReferenceIdeal.nD Cert.AqReferenceIdeal.τ).loc Cert.AqReferenceIdeal.main_v5) = v2 c
          ∧ r.2.mem ((c.tc : Thread Cert.AqReferenceIdeal.nD Cert.AqReferenceIdeal.τ).loc Cert.AqReferenceIdeal.main_v11) = v3 c
          ∧ r.2.mem ((c.tc : Thread Cert.AqReferenceIdeal.nD Cert.AqReferenceIdeal.τ).loc Cert.AqReferenceIdeal.main_arg0) = m' ((c.tc : Thread Cert.AqReferenceIdeal.nD Cert.AqReferenceIdeal.τ).loc Cert.AqReferenceIdeal.main_arg0)
          ∧ r.2.mem ((c.tc : Thread Cert.AqReferenceIdeal.nD Cert.AqReferenceIdeal.τ).loc Cert.AqReferenceIdeal.main_arg1) = m' ((c.tc : Thread Cert.AqReferenceIdeal.nD Cert.AqReferenceIdeal.τ).loc Cert.AqReferenceIdeal.main_arg1)
          ∧ r.2.mem ((c.tc : Thread Cert.AqReferenceIdeal.nD Cert.AqReferenceIdeal.τ).loc Cert.AqReferenceIdeal.main_arg2) = m' ((c.tc : Thread Cert.AqReferenceIdeal.nD Cert.AqReferenceIdeal.τ).loc Cert.AqReferenceIdeal.main_arg2)
          ∧ r.2.mem ((c.tc : Thread Cert.AqReferenceIdeal.nD Cert.AqReferenceIdeal.τ).loc Cert.AqReferenceIdeal.main_arg3) = m' ((c.tc : Thread Cert.AqReferenceIdeal.nD Cert.AqReferenceIdeal.τ).loc Cert.AqReferenceIdeal.main_arg3)
          ∧ r.2.mem ((c.tc : Thread Cert.AqReferenceIdeal.nD Cert.AqReferenceIdeal.τ).loc Cert.AqReferenceIdeal.main_arg4) = m' ((c.tc : Thread Cert.AqReferenceIdeal.nD Cert.AqReferenceIdeal.τ).loc Cert.AqReferenceIdeal.main_arg4))

def preserves_AxKernel_AxKernelIdeal : Prop :=
  True

def algebraic_AxKernelIdeal_AxReferenceIdeal [hAxKernelIdeal : Cert.AxKernelIdeal.Facts] [hAxReferenceIdeal : Cert.AxReferenceIdeal.Facts] : Prop :=
  ∀ (m : (ℓ : Loc Cert.AxKernelIdeal.nD Cert.AxKernelIdeal.τ Cert.AxKernelIdeal.sig) → Buf (Elt Ideal) ℓ) (g : Dev Cert.AxKernelIdeal.nD → PrngReg)
    (m' : (ℓ : Loc Cert.AxReferenceIdeal.nD Cert.AxReferenceIdeal.τ Cert.AxReferenceIdeal.sig) → Buf (Elt Ideal) ℓ) (g' : Dev Cert.AxReferenceIdeal.nD → PrngReg), Pre_AxKernelIdeal m →
    (∀ c : Dev Cert.AxKernelIdeal.nD,
      m' ((c.tc : Thread Cert.AxReferenceIdeal.nD Cert.AxReferenceIdeal.τ).loc Cert.AxReferenceIdeal.main_arg0) = m ((c.tc : Thread Cert.AxKernelIdeal.nD Cert.AxKernelIdeal.τ).loc Cert.AxKernelIdeal.main_arg0)
      ∧ m' ((c.tc : Thread Cert.AxReferenceIdeal.nD Cert.AxReferenceIdeal.τ).loc Cert.AxReferenceIdeal.main_arg1) = m ((c.tc : Thread Cert.AxKernelIdeal.nD Cert.AxKernelIdeal.τ).loc Cert.AxKernelIdeal.main_arg1)
      ∧ m' ((c.tc : Thread Cert.AxReferenceIdeal.nD Cert.AxReferenceIdeal.τ).loc Cert.AxReferenceIdeal.main_arg2) = m ((c.tc : Thread Cert.AxKernelIdeal.nD Cert.AxKernelIdeal.τ).loc Cert.AxKernelIdeal.main_arg2)
      ∧ m' ((c.tc : Thread Cert.AxReferenceIdeal.nD Cert.AxReferenceIdeal.τ).loc Cert.AxReferenceIdeal.main_arg3) = m ((c.tc : Thread Cert.AxKernelIdeal.nD Cert.AxKernelIdeal.τ).loc Cert.AxKernelIdeal.main_arg3)
      ∧ m' ((c.tc : Thread Cert.AxReferenceIdeal.nD Cert.AxReferenceIdeal.τ).loc Cert.AxReferenceIdeal.main_arg4) = m ((c.tc : Thread Cert.AxKernelIdeal.nD Cert.AxKernelIdeal.τ).loc Cert.AxKernelIdeal.main_arg4)) →
    ∃ (v0 : (c : Dev Cert.AxKernelIdeal.nD) → Buf (Elt Ideal) ((c.tc : Thread Cert.AxKernelIdeal.nD Cert.AxKernelIdeal.τ).loc Cert.AxKernelIdeal.main_v0_0)) (v1 : (c : Dev Cert.AxKernelIdeal.nD) → Buf (Elt Ideal) ((c.tc : Thread Cert.AxKernelIdeal.nD Cert.AxKernelIdeal.τ).loc Cert.AxKernelIdeal.main_v0_1)) (v2 : (c : Dev Cert.AxKernelIdeal.nD) → Buf (Elt Ideal) ((c.tc : Thread Cert.AxKernelIdeal.nD Cert.AxKernelIdeal.τ).loc Cert.AxKernelIdeal.main_v0_2)) (v3 : (c : Dev Cert.AxKernelIdeal.nD) → Buf (Elt Ideal) ((c.tc : Thread Cert.AxKernelIdeal.nD Cert.AxKernelIdeal.τ).loc Cert.AxKernelIdeal.main_v0_3)),
      θ_run (Cert.AxKernelIdeal.defs (F := Ideal)) (onTc (τ := Cert.AxKernelIdeal.τ) (Cert.AxKernelIdeal.main (F := Ideal))) ⟨m, fun _ => 0, g⟩ (fun r => ∀ c : Dev Cert.AxKernelIdeal.nD,
          r.2.mem ((c.tc : Thread Cert.AxKernelIdeal.nD Cert.AxKernelIdeal.τ).loc Cert.AxKernelIdeal.main_v0_0) = v0 c
          ∧ r.2.mem ((c.tc : Thread Cert.AxKernelIdeal.nD Cert.AxKernelIdeal.τ).loc Cert.AxKernelIdeal.main_v0_1) = v1 c
          ∧ r.2.mem ((c.tc : Thread Cert.AxKernelIdeal.nD Cert.AxKernelIdeal.τ).loc Cert.AxKernelIdeal.main_v0_2) = v2 c
          ∧ r.2.mem ((c.tc : Thread Cert.AxKernelIdeal.nD Cert.AxKernelIdeal.τ).loc Cert.AxKernelIdeal.main_v0_3) = v3 c
          ∧ r.2.mem ((c.tc : Thread Cert.AxKernelIdeal.nD Cert.AxKernelIdeal.τ).loc Cert.AxKernelIdeal.main_arg0) = m ((c.tc : Thread Cert.AxKernelIdeal.nD Cert.AxKernelIdeal.τ).loc Cert.AxKernelIdeal.main_arg0)
          ∧ r.2.mem ((c.tc : Thread Cert.AxKernelIdeal.nD Cert.AxKernelIdeal.τ).loc Cert.AxKernelIdeal.main_arg1) = m ((c.tc : Thread Cert.AxKernelIdeal.nD Cert.AxKernelIdeal.τ).loc Cert.AxKernelIdeal.main_arg1)
          ∧ r.2.mem ((c.tc : Thread Cert.AxKernelIdeal.nD Cert.AxKernelIdeal.τ).loc Cert.AxKernelIdeal.main_arg2) = m ((c.tc : Thread Cert.AxKernelIdeal.nD Cert.AxKernelIdeal.τ).loc Cert.AxKernelIdeal.main_arg2)
          ∧ r.2.mem ((c.tc : Thread Cert.AxKernelIdeal.nD Cert.AxKernelIdeal.τ).loc Cert.AxKernelIdeal.main_arg3) = m ((c.tc : Thread Cert.AxKernelIdeal.nD Cert.AxKernelIdeal.τ).loc Cert.AxKernelIdeal.main_arg3)
          ∧ r.2.mem ((c.tc : Thread Cert.AxKernelIdeal.nD Cert.AxKernelIdeal.τ).loc Cert.AxKernelIdeal.main_arg4) = m ((c.tc : Thread Cert.AxKernelIdeal.nD Cert.AxKernelIdeal.τ).loc Cert.AxKernelIdeal.main_arg4))
      ∧ θ_run (Cert.AxReferenceIdeal.defs (F := Ideal)) (onTc (τ := Cert.AxReferenceIdeal.τ) (Cert.AxReferenceIdeal.main (F := Ideal))) ⟨m', fun _ => 0, g'⟩ (fun r => ∀ c : Dev Cert.AxReferenceIdeal.nD,
          r.2.mem ((c.tc : Thread Cert.AxReferenceIdeal.nD Cert.AxReferenceIdeal.τ).loc Cert.AxReferenceIdeal.main_v0) = v0 c
          ∧ r.2.mem ((c.tc : Thread Cert.AxReferenceIdeal.nD Cert.AxReferenceIdeal.τ).loc Cert.AxReferenceIdeal.main_v24) = v1 c
          ∧ r.2.mem ((c.tc : Thread Cert.AxReferenceIdeal.nD Cert.AxReferenceIdeal.τ).loc Cert.AxReferenceIdeal.main_v5) = v2 c
          ∧ r.2.mem ((c.tc : Thread Cert.AxReferenceIdeal.nD Cert.AxReferenceIdeal.τ).loc Cert.AxReferenceIdeal.main_v11) = v3 c
          ∧ r.2.mem ((c.tc : Thread Cert.AxReferenceIdeal.nD Cert.AxReferenceIdeal.τ).loc Cert.AxReferenceIdeal.main_arg0) = m' ((c.tc : Thread Cert.AxReferenceIdeal.nD Cert.AxReferenceIdeal.τ).loc Cert.AxReferenceIdeal.main_arg0)
          ∧ r.2.mem ((c.tc : Thread Cert.AxReferenceIdeal.nD Cert.AxReferenceIdeal.τ).loc Cert.AxReferenceIdeal.main_arg1) = m' ((c.tc : Thread Cert.AxReferenceIdeal.nD Cert.AxReferenceIdeal.τ).loc Cert.AxReferenceIdeal.main_arg1)
          ∧ r.2.mem ((c.tc : Thread Cert.AxReferenceIdeal.nD Cert.AxReferenceIdeal.τ).loc Cert.AxReferenceIdeal.main_arg2) = m' ((c.tc : Thread Cert.AxReferenceIdeal.nD Cert.AxReferenceIdeal.τ).loc Cert.AxReferenceIdeal.main_arg2)
          ∧ r.2.mem ((c.tc : Thread Cert.AxReferenceIdeal.nD Cert.AxReferenceIdeal.τ).loc Cert.AxReferenceIdeal.main_arg3) = m' ((c.tc : Thread Cert.AxReferenceIdeal.nD Cert.AxReferenceIdeal.τ).loc Cert.AxReferenceIdeal.main_arg3)
          ∧ r.2.mem ((c.tc : Thread Cert.AxReferenceIdeal.nD Cert.AxReferenceIdeal.τ).loc Cert.AxReferenceIdeal.main_arg4) = m' ((c.tc : Thread Cert.AxReferenceIdeal.nD Cert.AxReferenceIdeal.τ).loc Cert.AxReferenceIdeal.main_arg4))

def preserves_CkvKernel_CkvKernelIdeal : Prop :=
  True

def algebraic_CkvKernelIdeal_CkvReferenceIdeal [hCkvKernelIdeal : Cert.CkvKernelIdeal.Facts] [hCkvReferenceIdeal : Cert.CkvReferenceIdeal.Facts] : Prop :=
  ∀ (m : (ℓ : Loc Cert.CkvKernelIdeal.nD Cert.CkvKernelIdeal.τ Cert.CkvKernelIdeal.sig) → Buf (Elt Ideal) ℓ) (g : Dev Cert.CkvKernelIdeal.nD → PrngReg)
    (m' : (ℓ : Loc Cert.CkvReferenceIdeal.nD Cert.CkvReferenceIdeal.τ Cert.CkvReferenceIdeal.sig) → Buf (Elt Ideal) ℓ) (g' : Dev Cert.CkvReferenceIdeal.nD → PrngReg), Pre_CkvKernelIdeal m →
    (∀ c : Dev Cert.CkvKernelIdeal.nD,
      m' ((c.tc : Thread Cert.CkvReferenceIdeal.nD Cert.CkvReferenceIdeal.τ).loc Cert.CkvReferenceIdeal.main_arg0) = m ((c.tc : Thread Cert.CkvKernelIdeal.nD Cert.CkvKernelIdeal.τ).loc Cert.CkvKernelIdeal.main_arg0)
      ∧ m' ((c.tc : Thread Cert.CkvReferenceIdeal.nD Cert.CkvReferenceIdeal.τ).loc Cert.CkvReferenceIdeal.main_arg1) = m ((c.tc : Thread Cert.CkvKernelIdeal.nD Cert.CkvKernelIdeal.τ).loc Cert.CkvKernelIdeal.main_arg1)) →
    ∃ (v0 : (c : Dev Cert.CkvKernelIdeal.nD) → Buf (Elt Ideal) ((c.tc : Thread Cert.CkvKernelIdeal.nD Cert.CkvKernelIdeal.τ).loc Cert.CkvKernelIdeal.main_v0)),
      θ_run (Cert.CkvKernelIdeal.defs (F := Ideal)) (onTc (τ := Cert.CkvKernelIdeal.τ) (Cert.CkvKernelIdeal.main (F := Ideal))) ⟨m, fun _ => 0, g⟩ (fun r => ∀ c : Dev Cert.CkvKernelIdeal.nD,
          r.2.mem ((c.tc : Thread Cert.CkvKernelIdeal.nD Cert.CkvKernelIdeal.τ).loc Cert.CkvKernelIdeal.main_v0) = v0 c
          ∧ r.2.mem ((c.tc : Thread Cert.CkvKernelIdeal.nD Cert.CkvKernelIdeal.τ).loc Cert.CkvKernelIdeal.main_arg0) = m ((c.tc : Thread Cert.CkvKernelIdeal.nD Cert.CkvKernelIdeal.τ).loc Cert.CkvKernelIdeal.main_arg0)
          ∧ r.2.mem ((c.tc : Thread Cert.CkvKernelIdeal.nD Cert.CkvKernelIdeal.τ).loc Cert.CkvKernelIdeal.main_arg1) = m ((c.tc : Thread Cert.CkvKernelIdeal.nD Cert.CkvKernelIdeal.τ).loc Cert.CkvKernelIdeal.main_arg1))
      ∧ θ_run (Cert.CkvReferenceIdeal.defs (F := Ideal)) (onTc (τ := Cert.CkvReferenceIdeal.τ) (Cert.CkvReferenceIdeal.main (F := Ideal))) ⟨m', fun _ => 0, g'⟩ (fun r => ∀ c : Dev Cert.CkvReferenceIdeal.nD,
          r.2.mem ((c.tc : Thread Cert.CkvReferenceIdeal.nD Cert.CkvReferenceIdeal.τ).loc Cert.CkvReferenceIdeal.main_v3) = v0 c
          ∧ r.2.mem ((c.tc : Thread Cert.CkvReferenceIdeal.nD Cert.CkvReferenceIdeal.τ).loc Cert.CkvReferenceIdeal.main_arg0) = m' ((c.tc : Thread Cert.CkvReferenceIdeal.nD Cert.CkvReferenceIdeal.τ).loc Cert.CkvReferenceIdeal.main_arg0)
          ∧ r.2.mem ((c.tc : Thread Cert.CkvReferenceIdeal.nD Cert.CkvReferenceIdeal.τ).loc Cert.CkvReferenceIdeal.main_arg1) = m' ((c.tc : Thread Cert.CkvReferenceIdeal.nD Cert.CkvReferenceIdeal.τ).loc Cert.CkvReferenceIdeal.main_arg1))

def preserves_DwkvKernel_DwkvKernelIdeal : Prop :=
  True

def algebraic_DwkvKernelIdeal_DwkvReferenceIdeal [hDwkvKernelIdeal : Cert.DwkvKernelIdeal.Facts] [hDwkvReferenceIdeal : Cert.DwkvReferenceIdeal.Facts] : Prop :=
  ∀ (m : (ℓ : Loc Cert.DwkvKernelIdeal.nD Cert.DwkvKernelIdeal.τ Cert.DwkvKernelIdeal.sig) → Buf (Elt Ideal) ℓ) (g : Dev Cert.DwkvKernelIdeal.nD → PrngReg)
    (m' : (ℓ : Loc Cert.DwkvReferenceIdeal.nD Cert.DwkvReferenceIdeal.τ Cert.DwkvReferenceIdeal.sig) → Buf (Elt Ideal) ℓ) (g' : Dev Cert.DwkvReferenceIdeal.nD → PrngReg), Pre_DwkvKernelIdeal m →
    (∀ c : Dev Cert.DwkvKernelIdeal.nD,
      m' ((c.tc : Thread Cert.DwkvReferenceIdeal.nD Cert.DwkvReferenceIdeal.τ).loc Cert.DwkvReferenceIdeal.main_arg0) = m ((c.tc : Thread Cert.DwkvKernelIdeal.nD Cert.DwkvKernelIdeal.τ).loc Cert.DwkvKernelIdeal.main_arg0)
      ∧ m' ((c.tc : Thread Cert.DwkvReferenceIdeal.nD Cert.DwkvReferenceIdeal.τ).loc Cert.DwkvReferenceIdeal.main_arg1) = m ((c.tc : Thread Cert.DwkvKernelIdeal.nD Cert.DwkvKernelIdeal.τ).loc Cert.DwkvKernelIdeal.main_arg1)) →
    ∃ (v0 : (c : Dev Cert.DwkvKernelIdeal.nD) → Buf (Elt Ideal) ((c.tc : Thread Cert.DwkvKernelIdeal.nD Cert.DwkvKernelIdeal.τ).loc Cert.DwkvKernelIdeal.main_v0)),
      θ_run (Cert.DwkvKernelIdeal.defs (F := Ideal)) (onTc (τ := Cert.DwkvKernelIdeal.τ) (Cert.DwkvKernelIdeal.main (F := Ideal))) ⟨m, fun _ => 0, g⟩ (fun r => ∀ c : Dev Cert.DwkvKernelIdeal.nD,
          r.2.mem ((c.tc : Thread Cert.DwkvKernelIdeal.nD Cert.DwkvKernelIdeal.τ).loc Cert.DwkvKernelIdeal.main_v0) = v0 c
          ∧ r.2.mem ((c.tc : Thread Cert.DwkvKernelIdeal.nD Cert.DwkvKernelIdeal.τ).loc Cert.DwkvKernelIdeal.main_arg0) = m ((c.tc : Thread Cert.DwkvKernelIdeal.nD Cert.DwkvKernelIdeal.τ).loc Cert.DwkvKernelIdeal.main_arg0)
          ∧ r.2.mem ((c.tc : Thread Cert.DwkvKernelIdeal.nD Cert.DwkvKernelIdeal.τ).loc Cert.DwkvKernelIdeal.main_arg1) = m ((c.tc : Thread Cert.DwkvKernelIdeal.nD Cert.DwkvKernelIdeal.τ).loc Cert.DwkvKernelIdeal.main_arg1))
      ∧ θ_run (Cert.DwkvReferenceIdeal.defs (F := Ideal)) (onTc (τ := Cert.DwkvReferenceIdeal.τ) (Cert.DwkvReferenceIdeal.main (F := Ideal))) ⟨m', fun _ => 0, g'⟩ (fun r => ∀ c : Dev Cert.DwkvReferenceIdeal.nD,
          r.2.mem ((c.tc : Thread Cert.DwkvReferenceIdeal.nD Cert.DwkvReferenceIdeal.τ).loc Cert.DwkvReferenceIdeal.main_v4) = v0 c
          ∧ r.2.mem ((c.tc : Thread Cert.DwkvReferenceIdeal.nD Cert.DwkvReferenceIdeal.τ).loc Cert.DwkvReferenceIdeal.main_arg0) = m' ((c.tc : Thread Cert.DwkvReferenceIdeal.nD Cert.DwkvReferenceIdeal.τ).loc Cert.DwkvReferenceIdeal.main_arg0)
          ∧ r.2.mem ((c.tc : Thread Cert.DwkvReferenceIdeal.nD Cert.DwkvReferenceIdeal.τ).loc Cert.DwkvReferenceIdeal.main_arg1) = m' ((c.tc : Thread Cert.DwkvReferenceIdeal.nD Cert.DwkvReferenceIdeal.τ).loc Cert.DwkvReferenceIdeal.main_arg1))

def preserves_DmemKernel_DmemKernelIdeal : Prop :=
  True

def algebraic_DmemKernelIdeal_DmemReferenceIdeal [hDmemKernelIdeal : Cert.DmemKernelIdeal.Facts] [hDmemReferenceIdeal : Cert.DmemReferenceIdeal.Facts] : Prop :=
  ∀ (m : (ℓ : Loc Cert.DmemKernelIdeal.nD Cert.DmemKernelIdeal.τ Cert.DmemKernelIdeal.sig) → Buf (Elt Ideal) ℓ) (g : Dev Cert.DmemKernelIdeal.nD → PrngReg)
    (m' : (ℓ : Loc Cert.DmemReferenceIdeal.nD Cert.DmemReferenceIdeal.τ Cert.DmemReferenceIdeal.sig) → Buf (Elt Ideal) ℓ) (g' : Dev Cert.DmemReferenceIdeal.nD → PrngReg), Pre_DmemKernelIdeal m →
    (∀ c : Dev Cert.DmemKernelIdeal.nD,
      m' ((c.tc : Thread Cert.DmemReferenceIdeal.nD Cert.DmemReferenceIdeal.τ).loc Cert.DmemReferenceIdeal.main_arg0) = m ((c.tc : Thread Cert.DmemKernelIdeal.nD Cert.DmemKernelIdeal.τ).loc Cert.DmemKernelIdeal.main_arg0)
      ∧ m' ((c.tc : Thread Cert.DmemReferenceIdeal.nD Cert.DmemReferenceIdeal.τ).loc Cert.DmemReferenceIdeal.main_arg1) = m ((c.tc : Thread Cert.DmemKernelIdeal.nD Cert.DmemKernelIdeal.τ).loc Cert.DmemKernelIdeal.main_arg1)) →
    ∃ (v0 : (c : Dev Cert.DmemKernelIdeal.nD) → Buf (Elt Ideal) ((c.tc : Thread Cert.DmemKernelIdeal.nD Cert.DmemKernelIdeal.τ).loc Cert.DmemKernelIdeal.main_v0)),
      θ_run (Cert.DmemKernelIdeal.defs (F := Ideal)) (onTc (τ := Cert.DmemKernelIdeal.τ) (Cert.DmemKernelIdeal.main (F := Ideal))) ⟨m, fun _ => 0, g⟩ (fun r => ∀ c : Dev Cert.DmemKernelIdeal.nD,
          r.2.mem ((c.tc : Thread Cert.DmemKernelIdeal.nD Cert.DmemKernelIdeal.τ).loc Cert.DmemKernelIdeal.main_v0) = v0 c
          ∧ r.2.mem ((c.tc : Thread Cert.DmemKernelIdeal.nD Cert.DmemKernelIdeal.τ).loc Cert.DmemKernelIdeal.main_arg0) = m ((c.tc : Thread Cert.DmemKernelIdeal.nD Cert.DmemKernelIdeal.τ).loc Cert.DmemKernelIdeal.main_arg0)
          ∧ r.2.mem ((c.tc : Thread Cert.DmemKernelIdeal.nD Cert.DmemKernelIdeal.τ).loc Cert.DmemKernelIdeal.main_arg1) = m ((c.tc : Thread Cert.DmemKernelIdeal.nD Cert.DmemKernelIdeal.τ).loc Cert.DmemKernelIdeal.main_arg1))
      ∧ θ_run (Cert.DmemReferenceIdeal.defs (F := Ideal)) (onTc (τ := Cert.DmemReferenceIdeal.τ) (Cert.DmemReferenceIdeal.main (F := Ideal))) ⟨m', fun _ => 0, g'⟩ (fun r => ∀ c : Dev Cert.DmemReferenceIdeal.nD,
          r.2.mem ((c.tc : Thread Cert.DmemReferenceIdeal.nD Cert.DmemReferenceIdeal.τ).loc Cert.DmemReferenceIdeal.main_v3) = v0 c
          ∧ r.2.mem ((c.tc : Thread Cert.DmemReferenceIdeal.nD Cert.DmemReferenceIdeal.τ).loc Cert.DmemReferenceIdeal.main_arg0) = m' ((c.tc : Thread Cert.DmemReferenceIdeal.nD Cert.DmemReferenceIdeal.τ).loc Cert.DmemReferenceIdeal.main_arg0)
          ∧ r.2.mem ((c.tc : Thread Cert.DmemReferenceIdeal.nD Cert.DmemReferenceIdeal.τ).loc Cert.DmemReferenceIdeal.main_arg1) = m' ((c.tc : Thread Cert.DmemReferenceIdeal.nD Cert.DmemReferenceIdeal.τ).loc Cert.DmemReferenceIdeal.main_arg1))

def preserves_Dh2Kernel_Dh2KernelIdeal : Prop :=
  True

def algebraic_Dh2KernelIdeal_Dh2ReferenceIdeal [hDh2KernelIdeal : Cert.Dh2KernelIdeal.Facts] [hDh2ReferenceIdeal : Cert.Dh2ReferenceIdeal.Facts] : Prop :=
  ∀ (m : (ℓ : Loc Cert.Dh2KernelIdeal.nD Cert.Dh2KernelIdeal.τ Cert.Dh2KernelIdeal.sig) → Buf (Elt Ideal) ℓ) (g : Dev Cert.Dh2KernelIdeal.nD → PrngReg)
    (m' : (ℓ : Loc Cert.Dh2ReferenceIdeal.nD Cert.Dh2ReferenceIdeal.τ Cert.Dh2ReferenceIdeal.sig) → Buf (Elt Ideal) ℓ) (g' : Dev Cert.Dh2ReferenceIdeal.nD → PrngReg), Pre_Dh2KernelIdeal m →
    (∀ c : Dev Cert.Dh2KernelIdeal.nD,
      m' ((c.tc : Thread Cert.Dh2ReferenceIdeal.nD Cert.Dh2ReferenceIdeal.τ).loc Cert.Dh2ReferenceIdeal.main_arg0) = m ((c.tc : Thread Cert.Dh2KernelIdeal.nD Cert.Dh2KernelIdeal.τ).loc Cert.Dh2KernelIdeal.main_arg0)
      ∧ m' ((c.tc : Thread Cert.Dh2ReferenceIdeal.nD Cert.Dh2ReferenceIdeal.τ).loc Cert.Dh2ReferenceIdeal.main_arg1) = m ((c.tc : Thread Cert.Dh2KernelIdeal.nD Cert.Dh2KernelIdeal.τ).loc Cert.Dh2KernelIdeal.main_arg1)
      ∧ m' ((c.tc : Thread Cert.Dh2ReferenceIdeal.nD Cert.Dh2ReferenceIdeal.τ).loc Cert.Dh2ReferenceIdeal.main_arg2) = m ((c.tc : Thread Cert.Dh2KernelIdeal.nD Cert.Dh2KernelIdeal.τ).loc Cert.Dh2KernelIdeal.main_arg2)
      ∧ m' ((c.tc : Thread Cert.Dh2ReferenceIdeal.nD Cert.Dh2ReferenceIdeal.τ).loc Cert.Dh2ReferenceIdeal.main_arg3) = m ((c.tc : Thread Cert.Dh2KernelIdeal.nD Cert.Dh2KernelIdeal.τ).loc Cert.Dh2KernelIdeal.main_arg3)
      ∧ m' ((c.tc : Thread Cert.Dh2ReferenceIdeal.nD Cert.Dh2ReferenceIdeal.τ).loc Cert.Dh2ReferenceIdeal.main_arg4) = m ((c.tc : Thread Cert.Dh2KernelIdeal.nD Cert.Dh2KernelIdeal.τ).loc Cert.Dh2KernelIdeal.main_arg4)) →
    ∃ (v0 : (c : Dev Cert.Dh2KernelIdeal.nD) → Buf (Elt Ideal) ((c.tc : Thread Cert.Dh2KernelIdeal.nD Cert.Dh2KernelIdeal.τ).loc Cert.Dh2KernelIdeal.main_v0_0)) (v1 : (c : Dev Cert.Dh2KernelIdeal.nD) → Buf (Elt Ideal) ((c.tc : Thread Cert.Dh2KernelIdeal.nD Cert.Dh2KernelIdeal.τ).loc Cert.Dh2KernelIdeal.main_v0_1)),
      θ_run (Cert.Dh2KernelIdeal.defs (F := Ideal)) (onTc (τ := Cert.Dh2KernelIdeal.τ) (Cert.Dh2KernelIdeal.main (F := Ideal))) ⟨m, fun _ => 0, g⟩ (fun r => ∀ c : Dev Cert.Dh2KernelIdeal.nD,
          r.2.mem ((c.tc : Thread Cert.Dh2KernelIdeal.nD Cert.Dh2KernelIdeal.τ).loc Cert.Dh2KernelIdeal.main_v0_0) = v0 c
          ∧ r.2.mem ((c.tc : Thread Cert.Dh2KernelIdeal.nD Cert.Dh2KernelIdeal.τ).loc Cert.Dh2KernelIdeal.main_v0_1) = v1 c
          ∧ r.2.mem ((c.tc : Thread Cert.Dh2KernelIdeal.nD Cert.Dh2KernelIdeal.τ).loc Cert.Dh2KernelIdeal.main_arg0) = m ((c.tc : Thread Cert.Dh2KernelIdeal.nD Cert.Dh2KernelIdeal.τ).loc Cert.Dh2KernelIdeal.main_arg0)
          ∧ r.2.mem ((c.tc : Thread Cert.Dh2KernelIdeal.nD Cert.Dh2KernelIdeal.τ).loc Cert.Dh2KernelIdeal.main_arg1) = m ((c.tc : Thread Cert.Dh2KernelIdeal.nD Cert.Dh2KernelIdeal.τ).loc Cert.Dh2KernelIdeal.main_arg1)
          ∧ r.2.mem ((c.tc : Thread Cert.Dh2KernelIdeal.nD Cert.Dh2KernelIdeal.τ).loc Cert.Dh2KernelIdeal.main_arg2) = m ((c.tc : Thread Cert.Dh2KernelIdeal.nD Cert.Dh2KernelIdeal.τ).loc Cert.Dh2KernelIdeal.main_arg2)
          ∧ r.2.mem ((c.tc : Thread Cert.Dh2KernelIdeal.nD Cert.Dh2KernelIdeal.τ).loc Cert.Dh2KernelIdeal.main_arg3) = m ((c.tc : Thread Cert.Dh2KernelIdeal.nD Cert.Dh2KernelIdeal.τ).loc Cert.Dh2KernelIdeal.main_arg3)
          ∧ r.2.mem ((c.tc : Thread Cert.Dh2KernelIdeal.nD Cert.Dh2KernelIdeal.τ).loc Cert.Dh2KernelIdeal.main_arg4) = m ((c.tc : Thread Cert.Dh2KernelIdeal.nD Cert.Dh2KernelIdeal.τ).loc Cert.Dh2KernelIdeal.main_arg4))
      ∧ θ_run (Cert.Dh2ReferenceIdeal.defs (F := Ideal)) (onTc (τ := Cert.Dh2ReferenceIdeal.τ) (Cert.Dh2ReferenceIdeal.main (F := Ideal))) ⟨m', fun _ => 0, g'⟩ (fun r => ∀ c : Dev Cert.Dh2ReferenceIdeal.nD,
          r.2.mem ((c.tc : Thread Cert.Dh2ReferenceIdeal.nD Cert.Dh2ReferenceIdeal.τ).loc Cert.Dh2ReferenceIdeal.main_v38) = v0 c
          ∧ r.2.mem ((c.tc : Thread Cert.Dh2ReferenceIdeal.nD Cert.Dh2ReferenceIdeal.τ).loc Cert.Dh2ReferenceIdeal.main_v21) = v1 c
          ∧ r.2.mem ((c.tc : Thread Cert.Dh2ReferenceIdeal.nD Cert.Dh2ReferenceIdeal.τ).loc Cert.Dh2ReferenceIdeal.main_arg0) = m' ((c.tc : Thread Cert.Dh2ReferenceIdeal.nD Cert.Dh2ReferenceIdeal.τ).loc Cert.Dh2ReferenceIdeal.main_arg0)
          ∧ r.2.mem ((c.tc : Thread Cert.Dh2ReferenceIdeal.nD Cert.Dh2ReferenceIdeal.τ).loc Cert.Dh2ReferenceIdeal.main_arg1) = m' ((c.tc : Thread Cert.Dh2ReferenceIdeal.nD Cert.Dh2ReferenceIdeal.τ).loc Cert.Dh2ReferenceIdeal.main_arg1)
          ∧ r.2.mem ((c.tc : Thread Cert.Dh2ReferenceIdeal.nD Cert.Dh2ReferenceIdeal.τ).loc Cert.Dh2ReferenceIdeal.main_arg2) = m' ((c.tc : Thread Cert.Dh2ReferenceIdeal.nD Cert.Dh2ReferenceIdeal.τ).loc Cert.Dh2ReferenceIdeal.main_arg2)
          ∧ r.2.mem ((c.tc : Thread Cert.Dh2ReferenceIdeal.nD Cert.Dh2ReferenceIdeal.τ).loc Cert.Dh2ReferenceIdeal.main_arg3) = m' ((c.tc : Thread Cert.Dh2ReferenceIdeal.nD Cert.Dh2ReferenceIdeal.τ).loc Cert.Dh2ReferenceIdeal.main_arg3)
          ∧ r.2.mem ((c.tc : Thread Cert.Dh2ReferenceIdeal.nD Cert.Dh2ReferenceIdeal.τ).loc Cert.Dh2ReferenceIdeal.main_arg4) = m' ((c.tc : Thread Cert.Dh2ReferenceIdeal.nD Cert.Dh2ReferenceIdeal.τ).loc Cert.Dh2ReferenceIdeal.main_arg4))

def preserves_FmKernel_FmKernelIdeal : Prop :=
  True

def algebraic_FmKernelIdeal_FmReferenceIdeal [hFmKernelIdeal : Cert.FmKernelIdeal.Facts] [hFmReferenceIdeal : Cert.FmReferenceIdeal.Facts] : Prop :=
  ∀ (m : (ℓ : Loc Cert.FmKernelIdeal.nD Cert.FmKernelIdeal.τ Cert.FmKernelIdeal.sig) → Buf (Elt Ideal) ℓ) (g : Dev Cert.FmKernelIdeal.nD → PrngReg)
    (m' : (ℓ : Loc Cert.FmReferenceIdeal.nD Cert.FmReferenceIdeal.τ Cert.FmReferenceIdeal.sig) → Buf (Elt Ideal) ℓ) (g' : Dev Cert.FmReferenceIdeal.nD → PrngReg), Pre_FmKernelIdeal m →
    (∀ c : Dev Cert.FmKernelIdeal.nD,
      m' ((c.tc : Thread Cert.FmReferenceIdeal.nD Cert.FmReferenceIdeal.τ).loc Cert.FmReferenceIdeal.main_arg0) = m ((c.tc : Thread Cert.FmKernelIdeal.nD Cert.FmKernelIdeal.τ).loc Cert.FmKernelIdeal.main_arg0)
      ∧ m' ((c.tc : Thread Cert.FmReferenceIdeal.nD Cert.FmReferenceIdeal.τ).loc Cert.FmReferenceIdeal.main_arg1) = m ((c.tc : Thread Cert.FmKernelIdeal.nD Cert.FmKernelIdeal.τ).loc Cert.FmKernelIdeal.main_arg1)) →
    ∃ (v0 : (c : Dev Cert.FmKernelIdeal.nD) → Buf (Elt Ideal) ((c.tc : Thread Cert.FmKernelIdeal.nD Cert.FmKernelIdeal.τ).loc Cert.FmKernelIdeal.main_v0)),
      θ_run (Cert.FmKernelIdeal.defs (F := Ideal)) (onTc (τ := Cert.FmKernelIdeal.τ) (Cert.FmKernelIdeal.main (F := Ideal))) ⟨m, fun _ => 0, g⟩ (fun r => ∀ c : Dev Cert.FmKernelIdeal.nD,
          r.2.mem ((c.tc : Thread Cert.FmKernelIdeal.nD Cert.FmKernelIdeal.τ).loc Cert.FmKernelIdeal.main_v0) = v0 c
          ∧ r.2.mem ((c.tc : Thread Cert.FmKernelIdeal.nD Cert.FmKernelIdeal.τ).loc Cert.FmKernelIdeal.main_arg0) = m ((c.tc : Thread Cert.FmKernelIdeal.nD Cert.FmKernelIdeal.τ).loc Cert.FmKernelIdeal.main_arg0)
          ∧ r.2.mem ((c.tc : Thread Cert.FmKernelIdeal.nD Cert.FmKernelIdeal.τ).loc Cert.FmKernelIdeal.main_arg1) = m ((c.tc : Thread Cert.FmKernelIdeal.nD Cert.FmKernelIdeal.τ).loc Cert.FmKernelIdeal.main_arg1))
      ∧ θ_run (Cert.FmReferenceIdeal.defs (F := Ideal)) (onTc (τ := Cert.FmReferenceIdeal.τ) (Cert.FmReferenceIdeal.main (F := Ideal))) ⟨m', fun _ => 0, g'⟩ (fun r => ∀ c : Dev Cert.FmReferenceIdeal.nD,
          r.2.mem ((c.tc : Thread Cert.FmReferenceIdeal.nD Cert.FmReferenceIdeal.τ).loc Cert.FmReferenceIdeal.main_v12) = v0 c
          ∧ r.2.mem ((c.tc : Thread Cert.FmReferenceIdeal.nD Cert.FmReferenceIdeal.τ).loc Cert.FmReferenceIdeal.main_arg0) = m' ((c.tc : Thread Cert.FmReferenceIdeal.nD Cert.FmReferenceIdeal.τ).loc Cert.FmReferenceIdeal.main_arg0)
          ∧ r.2.mem ((c.tc : Thread Cert.FmReferenceIdeal.nD Cert.FmReferenceIdeal.τ).loc Cert.FmReferenceIdeal.main_arg1) = m' ((c.tc : Thread Cert.FmReferenceIdeal.nD Cert.FmReferenceIdeal.τ).loc Cert.FmReferenceIdeal.main_arg1))

def preserves_FpKernel_FpKernelIdeal : Prop :=
  True

def algebraic_FpKernelIdeal_FpReferenceIdeal [hFpKernelIdeal : Cert.FpKernelIdeal.Facts] [hFpReferenceIdeal : Cert.FpReferenceIdeal.Facts] : Prop :=
  ∀ (m : (ℓ : Loc Cert.FpKernelIdeal.nD Cert.FpKernelIdeal.τ Cert.FpKernelIdeal.sig) → Buf (Elt Ideal) ℓ) (g : Dev Cert.FpKernelIdeal.nD → PrngReg)
    (m' : (ℓ : Loc Cert.FpReferenceIdeal.nD Cert.FpReferenceIdeal.τ Cert.FpReferenceIdeal.sig) → Buf (Elt Ideal) ℓ) (g' : Dev Cert.FpReferenceIdeal.nD → PrngReg), Pre_FpKernelIdeal m →
    (∀ c : Dev Cert.FpKernelIdeal.nD,
      m' ((c.tc : Thread Cert.FpReferenceIdeal.nD Cert.FpReferenceIdeal.τ).loc Cert.FpReferenceIdeal.main_arg0) = m ((c.tc : Thread Cert.FpKernelIdeal.nD Cert.FpKernelIdeal.τ).loc Cert.FpKernelIdeal.main_arg0)
      ∧ m' ((c.tc : Thread Cert.FpReferenceIdeal.nD Cert.FpReferenceIdeal.τ).loc Cert.FpReferenceIdeal.main_arg1) = m ((c.tc : Thread Cert.FpKernelIdeal.nD Cert.FpKernelIdeal.τ).loc Cert.FpKernelIdeal.main_arg1)) →
    ∃ (v0 : (c : Dev Cert.FpKernelIdeal.nD) → Buf (Elt Ideal) ((c.tc : Thread Cert.FpKernelIdeal.nD Cert.FpKernelIdeal.τ).loc Cert.FpKernelIdeal.main_v0)),
      θ_run (Cert.FpKernelIdeal.defs (F := Ideal)) (onTc (τ := Cert.FpKernelIdeal.τ) (Cert.FpKernelIdeal.main (F := Ideal))) ⟨m, fun _ => 0, g⟩ (fun r => ∀ c : Dev Cert.FpKernelIdeal.nD,
          r.2.mem ((c.tc : Thread Cert.FpKernelIdeal.nD Cert.FpKernelIdeal.τ).loc Cert.FpKernelIdeal.main_v0) = v0 c
          ∧ r.2.mem ((c.tc : Thread Cert.FpKernelIdeal.nD Cert.FpKernelIdeal.τ).loc Cert.FpKernelIdeal.main_arg0) = m ((c.tc : Thread Cert.FpKernelIdeal.nD Cert.FpKernelIdeal.τ).loc Cert.FpKernelIdeal.main_arg0)
          ∧ r.2.mem ((c.tc : Thread Cert.FpKernelIdeal.nD Cert.FpKernelIdeal.τ).loc Cert.FpKernelIdeal.main_arg1) = m ((c.tc : Thread Cert.FpKernelIdeal.nD Cert.FpKernelIdeal.τ).loc Cert.FpKernelIdeal.main_arg1))
      ∧ θ_run (Cert.FpReferenceIdeal.defs (F := Ideal)) (onTc (τ := Cert.FpReferenceIdeal.τ) (Cert.FpReferenceIdeal.main (F := Ideal))) ⟨m', fun _ => 0, g'⟩ (fun r => ∀ c : Dev Cert.FpReferenceIdeal.nD,
          r.2.mem ((c.tc : Thread Cert.FpReferenceIdeal.nD Cert.FpReferenceIdeal.τ).loc Cert.FpReferenceIdeal.main_v12) = v0 c
          ∧ r.2.mem ((c.tc : Thread Cert.FpReferenceIdeal.nD Cert.FpReferenceIdeal.τ).loc Cert.FpReferenceIdeal.main_arg0) = m' ((c.tc : Thread Cert.FpReferenceIdeal.nD Cert.FpReferenceIdeal.τ).loc Cert.FpReferenceIdeal.main_arg0)
          ∧ r.2.mem ((c.tc : Thread Cert.FpReferenceIdeal.nD Cert.FpReferenceIdeal.τ).loc Cert.FpReferenceIdeal.main_arg1) = m' ((c.tc : Thread Cert.FpReferenceIdeal.nD Cert.FpReferenceIdeal.τ).loc Cert.FpReferenceIdeal.main_arg1))

def preserves_RmemKernel_RmemKernelIdeal : Prop :=
  True

def algebraic_RmemKernelIdeal_RmemReferenceIdeal [hRmemKernelIdeal : Cert.RmemKernelIdeal.Facts] [hRmemReferenceIdeal : Cert.RmemReferenceIdeal.Facts] : Prop :=
  ∀ (m : (ℓ : Loc Cert.RmemKernelIdeal.nD Cert.RmemKernelIdeal.τ Cert.RmemKernelIdeal.sig) → Buf (Elt Ideal) ℓ) (g : Dev Cert.RmemKernelIdeal.nD → PrngReg)
    (m' : (ℓ : Loc Cert.RmemReferenceIdeal.nD Cert.RmemReferenceIdeal.τ Cert.RmemReferenceIdeal.sig) → Buf (Elt Ideal) ℓ) (g' : Dev Cert.RmemReferenceIdeal.nD → PrngReg), Pre_RmemKernelIdeal m →
    (∀ c : Dev Cert.RmemKernelIdeal.nD,
      m' ((c.tc : Thread Cert.RmemReferenceIdeal.nD Cert.RmemReferenceIdeal.τ).loc Cert.RmemReferenceIdeal.main_arg0) = m ((c.tc : Thread Cert.RmemKernelIdeal.nD Cert.RmemKernelIdeal.τ).loc Cert.RmemKernelIdeal.main_arg0)
      ∧ m' ((c.tc : Thread Cert.RmemReferenceIdeal.nD Cert.RmemReferenceIdeal.τ).loc Cert.RmemReferenceIdeal.main_arg1) = m ((c.tc : Thread Cert.RmemKernelIdeal.nD Cert.RmemKernelIdeal.τ).loc Cert.RmemKernelIdeal.main_arg1)
      ∧ m' ((c.tc : Thread Cert.RmemReferenceIdeal.nD Cert.RmemReferenceIdeal.τ).loc Cert.RmemReferenceIdeal.main_arg2) = m ((c.tc : Thread Cert.RmemKernelIdeal.nD Cert.RmemKernelIdeal.τ).loc Cert.RmemKernelIdeal.main_arg2)) →
    ∃ (v0 : (c : Dev Cert.RmemKernelIdeal.nD) → Buf (Elt Ideal) ((c.tc : Thread Cert.RmemKernelIdeal.nD Cert.RmemKernelIdeal.τ).loc Cert.RmemKernelIdeal.main_v0_0)) (v1 : (c : Dev Cert.RmemKernelIdeal.nD) → Buf (Elt Ideal) ((c.tc : Thread Cert.RmemKernelIdeal.nD Cert.RmemKernelIdeal.τ).loc Cert.RmemKernelIdeal.main_v0_1)),
      θ_run (Cert.RmemKernelIdeal.defs (F := Ideal)) (onTc (τ := Cert.RmemKernelIdeal.τ) (Cert.RmemKernelIdeal.main (F := Ideal))) ⟨m, fun _ => 0, g⟩ (fun r => ∀ c : Dev Cert.RmemKernelIdeal.nD,
          r.2.mem ((c.tc : Thread Cert.RmemKernelIdeal.nD Cert.RmemKernelIdeal.τ).loc Cert.RmemKernelIdeal.main_v0_0) = v0 c
          ∧ r.2.mem ((c.tc : Thread Cert.RmemKernelIdeal.nD Cert.RmemKernelIdeal.τ).loc Cert.RmemKernelIdeal.main_v0_1) = v1 c
          ∧ r.2.mem ((c.tc : Thread Cert.RmemKernelIdeal.nD Cert.RmemKernelIdeal.τ).loc Cert.RmemKernelIdeal.main_arg0) = m ((c.tc : Thread Cert.RmemKernelIdeal.nD Cert.RmemKernelIdeal.τ).loc Cert.RmemKernelIdeal.main_arg0)
          ∧ r.2.mem ((c.tc : Thread Cert.RmemKernelIdeal.nD Cert.RmemKernelIdeal.τ).loc Cert.RmemKernelIdeal.main_arg1) = m ((c.tc : Thread Cert.RmemKernelIdeal.nD Cert.RmemKernelIdeal.τ).loc Cert.RmemKernelIdeal.main_arg1)
          ∧ r.2.mem ((c.tc : Thread Cert.RmemKernelIdeal.nD Cert.RmemKernelIdeal.τ).loc Cert.RmemKernelIdeal.main_arg2) = m ((c.tc : Thread Cert.RmemKernelIdeal.nD Cert.RmemKernelIdeal.τ).loc Cert.RmemKernelIdeal.main_arg2))
      ∧ θ_run (Cert.RmemReferenceIdeal.defs (F := Ideal)) (onTc (τ := Cert.RmemReferenceIdeal.τ) (Cert.RmemReferenceIdeal.main (F := Ideal))) ⟨m', fun _ => 0, g'⟩ (fun r => ∀ c : Dev Cert.RmemReferenceIdeal.nD,
          r.2.mem ((c.tc : Thread Cert.RmemReferenceIdeal.nD Cert.RmemReferenceIdeal.τ).loc Cert.RmemReferenceIdeal.main_v34) = v0 c
          ∧ r.2.mem ((c.tc : Thread Cert.RmemReferenceIdeal.nD Cert.RmemReferenceIdeal.τ).loc Cert.RmemReferenceIdeal.main_v17) = v1 c
          ∧ r.2.mem ((c.tc : Thread Cert.RmemReferenceIdeal.nD Cert.RmemReferenceIdeal.τ).loc Cert.RmemReferenceIdeal.main_arg0) = m' ((c.tc : Thread Cert.RmemReferenceIdeal.nD Cert.RmemReferenceIdeal.τ).loc Cert.RmemReferenceIdeal.main_arg0)
          ∧ r.2.mem ((c.tc : Thread Cert.RmemReferenceIdeal.nD Cert.RmemReferenceIdeal.τ).loc Cert.RmemReferenceIdeal.main_arg1) = m' ((c.tc : Thread Cert.RmemReferenceIdeal.nD Cert.RmemReferenceIdeal.τ).loc Cert.RmemReferenceIdeal.main_arg1)
          ∧ r.2.mem ((c.tc : Thread Cert.RmemReferenceIdeal.nD Cert.RmemReferenceIdeal.τ).loc Cert.RmemReferenceIdeal.main_arg2) = m' ((c.tc : Thread Cert.RmemReferenceIdeal.nD Cert.RmemReferenceIdeal.τ).loc Cert.RmemReferenceIdeal.main_arg2))

def preserves_DlKernel_DlKernelIdeal : Prop :=
  True

def algebraic_DlKernelIdeal_DlReferenceIdeal [hDlKernelIdeal : Cert.DlKernelIdeal.Facts] [hDlReferenceIdeal : Cert.DlReferenceIdeal.Facts] : Prop :=
  ∀ (m : (ℓ : Loc Cert.DlKernelIdeal.nD Cert.DlKernelIdeal.τ Cert.DlKernelIdeal.sig) → Buf (Elt Ideal) ℓ) (g : Dev Cert.DlKernelIdeal.nD → PrngReg)
    (m' : (ℓ : Loc Cert.DlReferenceIdeal.nD Cert.DlReferenceIdeal.τ Cert.DlReferenceIdeal.sig) → Buf (Elt Ideal) ℓ) (g' : Dev Cert.DlReferenceIdeal.nD → PrngReg), Pre_DlKernelIdeal m →
    (∀ c : Dev Cert.DlKernelIdeal.nD,
      m' ((c.tc : Thread Cert.DlReferenceIdeal.nD Cert.DlReferenceIdeal.τ).loc Cert.DlReferenceIdeal.main_arg0) = m ((c.tc : Thread Cert.DlKernelIdeal.nD Cert.DlKernelIdeal.τ).loc Cert.DlKernelIdeal.main_arg0)
      ∧ m' ((c.tc : Thread Cert.DlReferenceIdeal.nD Cert.DlReferenceIdeal.τ).loc Cert.DlReferenceIdeal.main_arg1) = m ((c.tc : Thread Cert.DlKernelIdeal.nD Cert.DlKernelIdeal.τ).loc Cert.DlKernelIdeal.main_arg1)
      ∧ m' ((c.tc : Thread Cert.DlReferenceIdeal.nD Cert.DlReferenceIdeal.τ).loc Cert.DlReferenceIdeal.main_arg2) = m ((c.tc : Thread Cert.DlKernelIdeal.nD Cert.DlKernelIdeal.τ).loc Cert.DlKernelIdeal.main_arg2)
      ∧ m' ((c.tc : Thread Cert.DlReferenceIdeal.nD Cert.DlReferenceIdeal.τ).loc Cert.DlReferenceIdeal.main_arg3) = m ((c.tc : Thread Cert.DlKernelIdeal.nD Cert.DlKernelIdeal.τ).loc Cert.DlKernelIdeal.main_arg3)) →
    ∃ (v0 : (c : Dev Cert.DlKernelIdeal.nD) → Buf (Elt Ideal) ((c.tc : Thread Cert.DlKernelIdeal.nD Cert.DlKernelIdeal.τ).loc Cert.DlKernelIdeal.main_v0_0)) (v1 : (c : Dev Cert.DlKernelIdeal.nD) → Buf (Elt Ideal) ((c.tc : Thread Cert.DlKernelIdeal.nD Cert.DlKernelIdeal.τ).loc Cert.DlKernelIdeal.main_v0_1)),
      θ_run (Cert.DlKernelIdeal.defs (F := Ideal)) (onTc (τ := Cert.DlKernelIdeal.τ) (Cert.DlKernelIdeal.main (F := Ideal))) ⟨m, fun _ => 0, g⟩ (fun r => ∀ c : Dev Cert.DlKernelIdeal.nD,
          r.2.mem ((c.tc : Thread Cert.DlKernelIdeal.nD Cert.DlKernelIdeal.τ).loc Cert.DlKernelIdeal.main_v0_0) = v0 c
          ∧ r.2.mem ((c.tc : Thread Cert.DlKernelIdeal.nD Cert.DlKernelIdeal.τ).loc Cert.DlKernelIdeal.main_v0_1) = v1 c
          ∧ r.2.mem ((c.tc : Thread Cert.DlKernelIdeal.nD Cert.DlKernelIdeal.τ).loc Cert.DlKernelIdeal.main_arg0) = m ((c.tc : Thread Cert.DlKernelIdeal.nD Cert.DlKernelIdeal.τ).loc Cert.DlKernelIdeal.main_arg0)
          ∧ r.2.mem ((c.tc : Thread Cert.DlKernelIdeal.nD Cert.DlKernelIdeal.τ).loc Cert.DlKernelIdeal.main_arg1) = m ((c.tc : Thread Cert.DlKernelIdeal.nD Cert.DlKernelIdeal.τ).loc Cert.DlKernelIdeal.main_arg1)
          ∧ r.2.mem ((c.tc : Thread Cert.DlKernelIdeal.nD Cert.DlKernelIdeal.τ).loc Cert.DlKernelIdeal.main_arg2) = m ((c.tc : Thread Cert.DlKernelIdeal.nD Cert.DlKernelIdeal.τ).loc Cert.DlKernelIdeal.main_arg2)
          ∧ r.2.mem ((c.tc : Thread Cert.DlKernelIdeal.nD Cert.DlKernelIdeal.τ).loc Cert.DlKernelIdeal.main_arg3) = m ((c.tc : Thread Cert.DlKernelIdeal.nD Cert.DlKernelIdeal.τ).loc Cert.DlKernelIdeal.main_arg3))
      ∧ θ_run (Cert.DlReferenceIdeal.defs (F := Ideal)) (onTc (τ := Cert.DlReferenceIdeal.τ) (Cert.DlReferenceIdeal.main (F := Ideal))) ⟨m', fun _ => 0, g'⟩ (fun r => ∀ c : Dev Cert.DlReferenceIdeal.nD,
          r.2.mem ((c.tc : Thread Cert.DlReferenceIdeal.nD Cert.DlReferenceIdeal.τ).loc Cert.DlReferenceIdeal.main_v2) = v0 c
          ∧ r.2.mem ((c.tc : Thread Cert.DlReferenceIdeal.nD Cert.DlReferenceIdeal.τ).loc Cert.DlReferenceIdeal.main_v15) = v1 c
          ∧ r.2.mem ((c.tc : Thread Cert.DlReferenceIdeal.nD Cert.DlReferenceIdeal.τ).loc Cert.DlReferenceIdeal.main_arg0) = m' ((c.tc : Thread Cert.DlReferenceIdeal.nD Cert.DlReferenceIdeal.τ).loc Cert.DlReferenceIdeal.main_arg0)
          ∧ r.2.mem ((c.tc : Thread Cert.DlReferenceIdeal.nD Cert.DlReferenceIdeal.τ).loc Cert.DlReferenceIdeal.main_arg1) = m' ((c.tc : Thread Cert.DlReferenceIdeal.nD Cert.DlReferenceIdeal.τ).loc Cert.DlReferenceIdeal.main_arg1)
          ∧ r.2.mem ((c.tc : Thread Cert.DlReferenceIdeal.nD Cert.DlReferenceIdeal.τ).loc Cert.DlReferenceIdeal.main_arg2) = m' ((c.tc : Thread Cert.DlReferenceIdeal.nD Cert.DlReferenceIdeal.τ).loc Cert.DlReferenceIdeal.main_arg2)
          ∧ r.2.mem ((c.tc : Thread Cert.DlReferenceIdeal.nD Cert.DlReferenceIdeal.τ).loc Cert.DlReferenceIdeal.main_arg3) = m' ((c.tc : Thread Cert.DlReferenceIdeal.nD Cert.DlReferenceIdeal.τ).loc Cert.DlReferenceIdeal.main_arg3))

def preserves_GluKernel_GluKernelIdeal : Prop :=
  True

def algebraic_GluKernelIdeal_GluReferenceIdeal [hGluKernelIdeal : Cert.GluKernelIdeal.Facts] [hGluReferenceIdeal : Cert.GluReferenceIdeal.Facts] : Prop :=
  ∀ (m : (ℓ : Loc Cert.GluKernelIdeal.nD Cert.GluKernelIdeal.τ Cert.GluKernelIdeal.sig) → Buf (Elt Ideal) ℓ) (g : Dev Cert.GluKernelIdeal.nD → PrngReg)
    (m' : (ℓ : Loc Cert.GluReferenceIdeal.nD Cert.GluReferenceIdeal.τ Cert.GluReferenceIdeal.sig) → Buf (Elt Ideal) ℓ) (g' : Dev Cert.GluReferenceIdeal.nD → PrngReg), Pre_GluKernelIdeal m →
    (∀ c : Dev Cert.GluKernelIdeal.nD,
      m' ((c.tc : Thread Cert.GluReferenceIdeal.nD Cert.GluReferenceIdeal.τ).loc Cert.GluReferenceIdeal.main_arg0) = m ((c.tc : Thread Cert.GluKernelIdeal.nD Cert.GluKernelIdeal.τ).loc Cert.GluKernelIdeal.main_arg0)
      ∧ m' ((c.tc : Thread Cert.GluReferenceIdeal.nD Cert.GluReferenceIdeal.τ).loc Cert.GluReferenceIdeal.main_arg1) = m ((c.tc : Thread Cert.GluKernelIdeal.nD Cert.GluKernelIdeal.τ).loc Cert.GluKernelIdeal.main_arg1)
      ∧ m' ((c.tc : Thread Cert.GluReferenceIdeal.nD Cert.GluReferenceIdeal.τ).loc Cert.GluReferenceIdeal.main_arg2) = m ((c.tc : Thread Cert.GluKernelIdeal.nD Cert.GluKernelIdeal.τ).loc Cert.GluKernelIdeal.main_arg2)) →
    ∃ (v0 : (c : Dev Cert.GluKernelIdeal.nD) → Buf (Elt Ideal) ((c.tc : Thread Cert.GluKernelIdeal.nD Cert.GluKernelIdeal.τ).loc Cert.GluKernelIdeal.main_v0)),
      θ_run (Cert.GluKernelIdeal.defs (F := Ideal)) (onTc (τ := Cert.GluKernelIdeal.τ) (Cert.GluKernelIdeal.main (F := Ideal))) ⟨m, fun _ => 0, g⟩ (fun r => ∀ c : Dev Cert.GluKernelIdeal.nD,
          r.2.mem ((c.tc : Thread Cert.GluKernelIdeal.nD Cert.GluKernelIdeal.τ).loc Cert.GluKernelIdeal.main_v0) = v0 c
          ∧ r.2.mem ((c.tc : Thread Cert.GluKernelIdeal.nD Cert.GluKernelIdeal.τ).loc Cert.GluKernelIdeal.main_arg0) = m ((c.tc : Thread Cert.GluKernelIdeal.nD Cert.GluKernelIdeal.τ).loc Cert.GluKernelIdeal.main_arg0)
          ∧ r.2.mem ((c.tc : Thread Cert.GluKernelIdeal.nD Cert.GluKernelIdeal.τ).loc Cert.GluKernelIdeal.main_arg1) = m ((c.tc : Thread Cert.GluKernelIdeal.nD Cert.GluKernelIdeal.τ).loc Cert.GluKernelIdeal.main_arg1)
          ∧ r.2.mem ((c.tc : Thread Cert.GluKernelIdeal.nD Cert.GluKernelIdeal.τ).loc Cert.GluKernelIdeal.main_arg2) = m ((c.tc : Thread Cert.GluKernelIdeal.nD Cert.GluKernelIdeal.τ).loc Cert.GluKernelIdeal.main_arg2))
      ∧ θ_run (Cert.GluReferenceIdeal.defs (F := Ideal)) (onTc (τ := Cert.GluReferenceIdeal.τ) (Cert.GluReferenceIdeal.main (F := Ideal))) ⟨m', fun _ => 0, g'⟩ (fun r => ∀ c : Dev Cert.GluReferenceIdeal.nD,
          r.2.mem ((c.tc : Thread Cert.GluReferenceIdeal.nD Cert.GluReferenceIdeal.τ).loc Cert.GluReferenceIdeal.main_v24) = v0 c
          ∧ r.2.mem ((c.tc : Thread Cert.GluReferenceIdeal.nD Cert.GluReferenceIdeal.τ).loc Cert.GluReferenceIdeal.main_arg0) = m' ((c.tc : Thread Cert.GluReferenceIdeal.nD Cert.GluReferenceIdeal.τ).loc Cert.GluReferenceIdeal.main_arg0)
          ∧ r.2.mem ((c.tc : Thread Cert.GluReferenceIdeal.nD Cert.GluReferenceIdeal.τ).loc Cert.GluReferenceIdeal.main_arg1) = m' ((c.tc : Thread Cert.GluReferenceIdeal.nD Cert.GluReferenceIdeal.τ).loc Cert.GluReferenceIdeal.main_arg1)
          ∧ r.2.mem ((c.tc : Thread Cert.GluReferenceIdeal.nD Cert.GluReferenceIdeal.τ).loc Cert.GluReferenceIdeal.main_arg2) = m' ((c.tc : Thread Cert.GluReferenceIdeal.nD Cert.GluReferenceIdeal.τ).loc Cert.GluReferenceIdeal.main_arg2))

def preserves_MixKernel_MixKernelIdeal : Prop :=
  True

def algebraic_MixKernelIdeal_MixReferenceIdeal [hMixKernelIdeal : Cert.MixKernelIdeal.Facts] [hMixReferenceIdeal : Cert.MixReferenceIdeal.Facts] : Prop :=
  ∀ (m : (ℓ : Loc Cert.MixKernelIdeal.nD Cert.MixKernelIdeal.τ Cert.MixKernelIdeal.sig) → Buf (Elt Ideal) ℓ) (g : Dev Cert.MixKernelIdeal.nD → PrngReg)
    (m' : (ℓ : Loc Cert.MixReferenceIdeal.nD Cert.MixReferenceIdeal.τ Cert.MixReferenceIdeal.sig) → Buf (Elt Ideal) ℓ) (g' : Dev Cert.MixReferenceIdeal.nD → PrngReg), Pre_MixKernelIdeal m →
    (∀ c : Dev Cert.MixKernelIdeal.nD,
      m' ((c.tc : Thread Cert.MixReferenceIdeal.nD Cert.MixReferenceIdeal.τ).loc Cert.MixReferenceIdeal.main_arg0) = m ((c.tc : Thread Cert.MixKernelIdeal.nD Cert.MixKernelIdeal.τ).loc Cert.MixKernelIdeal.main_arg0)
      ∧ m' ((c.tc : Thread Cert.MixReferenceIdeal.nD Cert.MixReferenceIdeal.τ).loc Cert.MixReferenceIdeal.main_arg1) = m ((c.tc : Thread Cert.MixKernelIdeal.nD Cert.MixKernelIdeal.τ).loc Cert.MixKernelIdeal.main_arg1)
      ∧ m' ((c.tc : Thread Cert.MixReferenceIdeal.nD Cert.MixReferenceIdeal.τ).loc Cert.MixReferenceIdeal.main_arg2) = m ((c.tc : Thread Cert.MixKernelIdeal.nD Cert.MixKernelIdeal.τ).loc Cert.MixKernelIdeal.main_arg2)
      ∧ m' ((c.tc : Thread Cert.MixReferenceIdeal.nD Cert.MixReferenceIdeal.τ).loc Cert.MixReferenceIdeal.main_arg3) = m ((c.tc : Thread Cert.MixKernelIdeal.nD Cert.MixKernelIdeal.τ).loc Cert.MixKernelIdeal.main_arg3)
      ∧ m' ((c.tc : Thread Cert.MixReferenceIdeal.nD Cert.MixReferenceIdeal.τ).loc Cert.MixReferenceIdeal.main_arg4) = m ((c.tc : Thread Cert.MixKernelIdeal.nD Cert.MixKernelIdeal.τ).loc Cert.MixKernelIdeal.main_arg4)
      ∧ m' ((c.tc : Thread Cert.MixReferenceIdeal.nD Cert.MixReferenceIdeal.τ).loc Cert.MixReferenceIdeal.main_arg5) = m ((c.tc : Thread Cert.MixKernelIdeal.nD Cert.MixKernelIdeal.τ).loc Cert.MixKernelIdeal.main_arg5)) →
    ∃ (v0 : (c : Dev Cert.MixKernelIdeal.nD) → Buf (Elt Ideal) ((c.tc : Thread Cert.MixKernelIdeal.nD Cert.MixKernelIdeal.τ).loc Cert.MixKernelIdeal.main_v0_0)) (v1 : (c : Dev Cert.MixKernelIdeal.nD) → Buf (Elt Ideal) ((c.tc : Thread Cert.MixKernelIdeal.nD Cert.MixKernelIdeal.τ).loc Cert.MixKernelIdeal.main_v0_1)) (v2 : (c : Dev Cert.MixKernelIdeal.nD) → Buf (Elt Ideal) ((c.tc : Thread Cert.MixKernelIdeal.nD Cert.MixKernelIdeal.τ).loc Cert.MixKernelIdeal.main_v0_2)) (v3 : (c : Dev Cert.MixKernelIdeal.nD) → Buf (Elt Ideal) ((c.tc : Thread Cert.MixKernelIdeal.nD Cert.MixKernelIdeal.τ).loc Cert.MixKernelIdeal.main_v0_3)),
      θ_run (Cert.MixKernelIdeal.defs (F := Ideal)) (onTc (τ := Cert.MixKernelIdeal.τ) (Cert.MixKernelIdeal.main (F := Ideal))) ⟨m, fun _ => 0, g⟩ (fun r => ∀ c : Dev Cert.MixKernelIdeal.nD,
          r.2.mem ((c.tc : Thread Cert.MixKernelIdeal.nD Cert.MixKernelIdeal.τ).loc Cert.MixKernelIdeal.main_v0_0) = v0 c
          ∧ r.2.mem ((c.tc : Thread Cert.MixKernelIdeal.nD Cert.MixKernelIdeal.τ).loc Cert.MixKernelIdeal.main_v0_1) = v1 c
          ∧ r.2.mem ((c.tc : Thread Cert.MixKernelIdeal.nD Cert.MixKernelIdeal.τ).loc Cert.MixKernelIdeal.main_v0_2) = v2 c
          ∧ r.2.mem ((c.tc : Thread Cert.MixKernelIdeal.nD Cert.MixKernelIdeal.τ).loc Cert.MixKernelIdeal.main_v0_3) = v3 c
          ∧ r.2.mem ((c.tc : Thread Cert.MixKernelIdeal.nD Cert.MixKernelIdeal.τ).loc Cert.MixKernelIdeal.main_arg0) = m ((c.tc : Thread Cert.MixKernelIdeal.nD Cert.MixKernelIdeal.τ).loc Cert.MixKernelIdeal.main_arg0)
          ∧ r.2.mem ((c.tc : Thread Cert.MixKernelIdeal.nD Cert.MixKernelIdeal.τ).loc Cert.MixKernelIdeal.main_arg1) = m ((c.tc : Thread Cert.MixKernelIdeal.nD Cert.MixKernelIdeal.τ).loc Cert.MixKernelIdeal.main_arg1)
          ∧ r.2.mem ((c.tc : Thread Cert.MixKernelIdeal.nD Cert.MixKernelIdeal.τ).loc Cert.MixKernelIdeal.main_arg2) = m ((c.tc : Thread Cert.MixKernelIdeal.nD Cert.MixKernelIdeal.τ).loc Cert.MixKernelIdeal.main_arg2)
          ∧ r.2.mem ((c.tc : Thread Cert.MixKernelIdeal.nD Cert.MixKernelIdeal.τ).loc Cert.MixKernelIdeal.main_arg3) = m ((c.tc : Thread Cert.MixKernelIdeal.nD Cert.MixKernelIdeal.τ).loc Cert.MixKernelIdeal.main_arg3)
          ∧ r.2.mem ((c.tc : Thread Cert.MixKernelIdeal.nD Cert.MixKernelIdeal.τ).loc Cert.MixKernelIdeal.main_arg4) = m ((c.tc : Thread Cert.MixKernelIdeal.nD Cert.MixKernelIdeal.τ).loc Cert.MixKernelIdeal.main_arg4)
          ∧ r.2.mem ((c.tc : Thread Cert.MixKernelIdeal.nD Cert.MixKernelIdeal.τ).loc Cert.MixKernelIdeal.main_arg5) = m ((c.tc : Thread Cert.MixKernelIdeal.nD Cert.MixKernelIdeal.τ).loc Cert.MixKernelIdeal.main_arg5))
      ∧ θ_run (Cert.MixReferenceIdeal.defs (F := Ideal)) (onTc (τ := Cert.MixReferenceIdeal.τ) (Cert.MixReferenceIdeal.main (F := Ideal))) ⟨m', fun _ => 0, g'⟩ (fun r => ∀ c : Dev Cert.MixReferenceIdeal.nD,
          r.2.mem ((c.tc : Thread Cert.MixReferenceIdeal.nD Cert.MixReferenceIdeal.τ).loc Cert.MixReferenceIdeal.main_v21) = v0 c
          ∧ r.2.mem ((c.tc : Thread Cert.MixReferenceIdeal.nD Cert.MixReferenceIdeal.τ).loc Cert.MixReferenceIdeal.main_v23) = v1 c
          ∧ r.2.mem ((c.tc : Thread Cert.MixReferenceIdeal.nD Cert.MixReferenceIdeal.τ).loc Cert.MixReferenceIdeal.main_v25) = v2 c
          ∧ r.2.mem ((c.tc : Thread Cert.MixReferenceIdeal.nD Cert.MixReferenceIdeal.τ).loc Cert.MixReferenceIdeal.main_v27) = v3 c
          ∧ r.2.mem ((c.tc : Thread Cert.MixReferenceIdeal.nD Cert.MixReferenceIdeal.τ).loc Cert.MixReferenceIdeal.main_arg0) = m' ((c.tc : Thread Cert.MixReferenceIdeal.nD Cert.MixReferenceIdeal.τ).loc Cert.MixReferenceIdeal.main_arg0)
          ∧ r.2.mem ((c.tc : Thread Cert.MixReferenceIdeal.nD Cert.MixReferenceIdeal.τ).loc Cert.MixReferenceIdeal.main_arg1) = m' ((c.tc : Thread Cert.MixReferenceIdeal.nD Cert.MixReferenceIdeal.τ).loc Cert.MixReferenceIdeal.main_arg1)
          ∧ r.2.mem ((c.tc : Thread Cert.MixReferenceIdeal.nD Cert.MixReferenceIdeal.τ).loc Cert.MixReferenceIdeal.main_arg2) = m' ((c.tc : Thread Cert.MixReferenceIdeal.nD Cert.MixReferenceIdeal.τ).loc Cert.MixReferenceIdeal.main_arg2)
          ∧ r.2.mem ((c.tc : Thread Cert.MixReferenceIdeal.nD Cert.MixReferenceIdeal.τ).loc Cert.MixReferenceIdeal.main_arg3) = m' ((c.tc : Thread Cert.MixReferenceIdeal.nD Cert.MixReferenceIdeal.τ).loc Cert.MixReferenceIdeal.main_arg3)
          ∧ r.2.mem ((c.tc : Thread Cert.MixReferenceIdeal.nD Cert.MixReferenceIdeal.τ).loc Cert.MixReferenceIdeal.main_arg4) = m' ((c.tc : Thread Cert.MixReferenceIdeal.nD Cert.MixReferenceIdeal.τ).loc Cert.MixReferenceIdeal.main_arg4)
          ∧ r.2.mem ((c.tc : Thread Cert.MixReferenceIdeal.nD Cert.MixReferenceIdeal.τ).loc Cert.MixReferenceIdeal.main_arg5) = m' ((c.tc : Thread Cert.MixReferenceIdeal.nD Cert.MixReferenceIdeal.τ).loc Cert.MixReferenceIdeal.main_arg5))

def Claim : Prop :=
  ∃ (hKernel : Cert.Kernel.Facts) (hKernelIdeal : Cert.KernelIdeal.Facts) (hReferenceIdeal : Cert.ReferenceIdeal.Facts) (hActKernel : Cert.ActKernel.Facts) (hActKernelIdeal : Cert.ActKernelIdeal.Facts) (hActReferenceIdeal : Cert.ActReferenceIdeal.Facts) (hFf2Kernel : Cert.Ff2Kernel.Facts) (hFf2KernelIdeal : Cert.Ff2KernelIdeal.Facts) (hFf2ReferenceIdeal : Cert.Ff2ReferenceIdeal.Facts) (hFf1Kernel : Cert.Ff1Kernel.Facts) (hFf1KernelIdeal : Cert.Ff1KernelIdeal.Facts) (hFf1ReferenceIdeal : Cert.Ff1ReferenceIdeal.Facts) (hWinKernel : Cert.WinKernel.Facts) (hWinKernelIdeal : Cert.WinKernelIdeal.Facts) (hWinReferenceIdeal : Cert.WinReferenceIdeal.Facts) (hDh1Kernel : Cert.Dh1Kernel.Facts) (hDh1KernelIdeal : Cert.Dh1KernelIdeal.Facts) (hDh1ReferenceIdeal : Cert.Dh1ReferenceIdeal.Facts) (hDh3Kernel : Cert.Dh3Kernel.Facts) (hDh3KernelIdeal : Cert.Dh3KernelIdeal.Facts) (hDh3ReferenceIdeal : Cert.Dh3ReferenceIdeal.Facts) (hRmsKernel : Cert.RmsKernel.Facts) (hRmsKernelIdeal : Cert.RmsKernelIdeal.Facts) (hRmsReferenceIdeal : Cert.RmsReferenceIdeal.Facts) (hPjKernel : Cert.PjKernel.Facts) (hPjKernelIdeal : Cert.PjKernelIdeal.Facts) (hPjReferenceIdeal : Cert.PjReferenceIdeal.Facts) (hUpKernel : Cert.UpKernel.Facts) (hUpKernelIdeal : Cert.UpKernelIdeal.Facts) (hUpReferenceIdeal : Cert.UpReferenceIdeal.Facts) (hDnKernel : Cert.DnKernel.Facts) (hDnKernelIdeal : Cert.DnKernelIdeal.Facts) (hDnReferenceIdeal : Cert.DnReferenceIdeal.Facts) (hMfKernel : Cert.MfKernel.Facts) (hMfKernelIdeal : Cert.MfKernelIdeal.Facts) (hMfReferenceIdeal : Cert.MfReferenceIdeal.Facts) (hWoKernel : Cert.WoKernel.Facts) (hWoKernelIdeal : Cert.WoKernelIdeal.Facts) (hWoReferenceIdeal : Cert.WoReferenceIdeal.Facts) (hCoKernel : Cert.CoKernel.Facts) (hCoKernelIdeal : Cert.CoKernelIdeal.Facts) (hCoReferenceIdeal : Cert.CoReferenceIdeal.Facts) (hCqKernel : Cert.CqKernel.Facts) (hCqKernelIdeal : Cert.CqKernelIdeal.Facts) (hCqReferenceIdeal : Cert.CqReferenceIdeal.Facts) (hDmKernel : Cert.DmKernel.Facts) (hDmKernelIdeal : Cert.DmKernelIdeal.Facts) (hDmReferenceIdeal : Cert.DmReferenceIdeal.Facts) (hDbKernel : Cert.DbKernel.Facts) (hDbKernelIdeal : Cert.DbKernelIdeal.Facts) (hDbReferenceIdeal : Cert.DbReferenceIdeal.Facts) (hDxKernel : Cert.DxKernel.Facts) (hDxKernelIdeal : Cert.DxKernelIdeal.Facts) (hDxReferenceIdeal : Cert.DxReferenceIdeal.Facts) (hWuKernel : Cert.WuKernel.Facts) (hWuKernelIdeal : Cert.WuKernelIdeal.Facts) (hWuReferenceIdeal : Cert.WuReferenceIdeal.Facts) (hDwoKernel : Cert.DwoKernel.Facts) (hDwoKernelIdeal : Cert.DwoKernelIdeal.Facts) (hDwoReferenceIdeal : Cert.DwoReferenceIdeal.Facts) (hDwqKernel : Cert.DwqKernel.Facts) (hDwqKernelIdeal : Cert.DwqKernelIdeal.Facts) (hDwqReferenceIdeal : Cert.DwqReferenceIdeal.Facts) (hLsKernel : Cert.LsKernel.Facts) (hLsKernelIdeal : Cert.LsKernelIdeal.Facts) (hLsReferenceIdeal : Cert.LsReferenceIdeal.Facts) (hAvKernel : Cert.AvKernel.Facts) (hAvKernelIdeal : Cert.AvKernelIdeal.Facts) (hAvReferenceIdeal : Cert.AvReferenceIdeal.Facts) (hAhKernel : Cert.AhKernel.Facts) (hAhKernelIdeal : Cert.AhKernelIdeal.Facts) (hAhReferenceIdeal : Cert.AhReferenceIdeal.Facts) (hAwKernel : Cert.AwKernel.Facts) (hAwKernelIdeal : Cert.AwKernelIdeal.Facts) (hAwReferenceIdeal : Cert.AwReferenceIdeal.Facts) (hAfKernel : Cert.AfKernel.Facts) (hAfKernelIdeal : Cert.AfKernelIdeal.Facts) (hAfReferenceIdeal : Cert.AfReferenceIdeal.Facts) (hArKernel : Cert.ArKernel.Facts) (hArKernelIdeal : Cert.ArKernelIdeal.Facts) (hArReferenceIdeal : Cert.ArReferenceIdeal.Facts) (hAgKernel : Cert.AgKernel.Facts) (hAgKernelIdeal : Cert.AgKernelIdeal.Facts) (hAgReferenceIdeal : Cert.AgReferenceIdeal.Facts) (hApKernel : Cert.ApKernel.Facts) (hApKernelIdeal : Cert.ApKernelIdeal.Facts) (hApReferenceIdeal : Cert.ApReferenceIdeal.Facts) (hAaKernel : Cert.AaKernel.Facts) (hAaKernelIdeal : Cert.AaKernelIdeal.Facts) (hAaReferenceIdeal : Cert.AaReferenceIdeal.Facts) (hAlKernel : Cert.AlKernel.Facts) (hAlKernelIdeal : Cert.AlKernelIdeal.Facts) (hAlReferenceIdeal : Cert.AlReferenceIdeal.Facts) (hAiKernel : Cert.AiKernel.Facts) (hAiKernelIdeal : Cert.AiKernelIdeal.Facts) (hAiReferenceIdeal : Cert.AiReferenceIdeal.Facts) (hAcKernel : Cert.AcKernel.Facts) (hAcKernelIdeal : Cert.AcKernelIdeal.Facts) (hAcReferenceIdeal : Cert.AcReferenceIdeal.Facts) (hAuKernel : Cert.AuKernel.Facts) (hAuKernelIdeal : Cert.AuKernelIdeal.Facts) (hAuReferenceIdeal : Cert.AuReferenceIdeal.Facts) (hAsKernel : Cert.AsKernel.Facts) (hAsKernelIdeal : Cert.AsKernelIdeal.Facts) (hAsReferenceIdeal : Cert.AsReferenceIdeal.Facts) (hAmKernel : Cert.AmKernel.Facts) (hAmKernelIdeal : Cert.AmKernelIdeal.Facts) (hAmReferenceIdeal : Cert.AmReferenceIdeal.Facts) (hAoKernel : Cert.AoKernel.Facts) (hAoKernelIdeal : Cert.AoKernelIdeal.Facts) (hAoReferenceIdeal : Cert.AoReferenceIdeal.Facts) (hAqKernel : Cert.AqKernel.Facts) (hAqKernelIdeal : Cert.AqKernelIdeal.Facts) (hAqReferenceIdeal : Cert.AqReferenceIdeal.Facts) (hAxKernel : Cert.AxKernel.Facts) (hAxKernelIdeal : Cert.AxKernelIdeal.Facts) (hAxReferenceIdeal : Cert.AxReferenceIdeal.Facts) (hCkvKernel : Cert.CkvKernel.Facts) (hCkvKernelIdeal : Cert.CkvKernelIdeal.Facts) (hCkvReferenceIdeal : Cert.CkvReferenceIdeal.Facts) (hDwkvKernel : Cert.DwkvKernel.Facts) (hDwkvKernelIdeal : Cert.DwkvKernelIdeal.Facts) (hDwkvReferenceIdeal : Cert.DwkvReferenceIdeal.Facts) (hDmemKernel : Cert.DmemKernel.Facts) (hDmemKernelIdeal : Cert.DmemKernelIdeal.Facts) (hDmemReferenceIdeal : Cert.DmemReferenceIdeal.Facts) (hDh2Kernel : Cert.Dh2Kernel.Facts) (hDh2KernelIdeal : Cert.Dh2KernelIdeal.Facts) (hDh2ReferenceIdeal : Cert.Dh2ReferenceIdeal.Facts) (hFmKernel : Cert.FmKernel.Facts) (hFmKernelIdeal : Cert.FmKernelIdeal.Facts) (hFmReferenceIdeal : Cert.FmReferenceIdeal.Facts) (hFpKernel : Cert.FpKernel.Facts) (hFpKernelIdeal : Cert.FpKernelIdeal.Facts) (hFpReferenceIdeal : Cert.FpReferenceIdeal.Facts) (hRmemKernel : Cert.RmemKernel.Facts) (hRmemKernelIdeal : Cert.RmemKernelIdeal.Facts) (hRmemReferenceIdeal : Cert.RmemReferenceIdeal.Facts) (hDlKernel : Cert.DlKernel.Facts) (hDlKernelIdeal : Cert.DlKernelIdeal.Facts) (hDlReferenceIdeal : Cert.DlReferenceIdeal.Facts) (hGluKernel : Cert.GluKernel.Facts) (hGluKernelIdeal : Cert.GluKernelIdeal.Facts) (hGluReferenceIdeal : Cert.GluReferenceIdeal.Facts) (hMixKernel : Cert.MixKernel.Facts) (hMixKernelIdeal : Cert.MixKernelIdeal.Facts) (hMixReferenceIdeal : Cert.MixReferenceIdeal.Facts),
    quiescent_Kernel (hKernel := hKernel)
    ∧ quiescent_KernelIdeal (hKernelIdeal := hKernelIdeal)
    ∧ quiescent_ReferenceIdeal (hReferenceIdeal := hReferenceIdeal)
    ∧ quiescent_ActKernel (hActKernel := hActKernel)
    ∧ quiescent_ActKernelIdeal (hActKernelIdeal := hActKernelIdeal)
    ∧ quiescent_ActReferenceIdeal (hActReferenceIdeal := hActReferenceIdeal)
    ∧ quiescent_Ff2Kernel (hFf2Kernel := hFf2Kernel)
    ∧ quiescent_Ff2KernelIdeal (hFf2KernelIdeal := hFf2KernelIdeal)
    ∧ quiescent_Ff2ReferenceIdeal (hFf2ReferenceIdeal := hFf2ReferenceIdeal)
    ∧ quiescent_Ff1Kernel (hFf1Kernel := hFf1Kernel)
    ∧ quiescent_Ff1KernelIdeal (hFf1KernelIdeal := hFf1KernelIdeal)
    ∧ quiescent_Ff1ReferenceIdeal (hFf1ReferenceIdeal := hFf1ReferenceIdeal)
    ∧ quiescent_WinKernel (hWinKernel := hWinKernel)
    ∧ quiescent_WinKernelIdeal (hWinKernelIdeal := hWinKernelIdeal)
    ∧ quiescent_WinReferenceIdeal (hWinReferenceIdeal := hWinReferenceIdeal)
    ∧ quiescent_Dh1Kernel (hDh1Kernel := hDh1Kernel)
    ∧ quiescent_Dh1KernelIdeal (hDh1KernelIdeal := hDh1KernelIdeal)
    ∧ quiescent_Dh1ReferenceIdeal (hDh1ReferenceIdeal := hDh1ReferenceIdeal)
    ∧ quiescent_Dh3Kernel (hDh3Kernel := hDh3Kernel)
    ∧ quiescent_Dh3KernelIdeal (hDh3KernelIdeal := hDh3KernelIdeal)
    ∧ quiescent_Dh3ReferenceIdeal (hDh3ReferenceIdeal := hDh3ReferenceIdeal)
    ∧ quiescent_RmsKernel (hRmsKernel := hRmsKernel)
    ∧ quiescent_RmsKernelIdeal (hRmsKernelIdeal := hRmsKernelIdeal)
    ∧ quiescent_RmsReferenceIdeal (hRmsReferenceIdeal := hRmsReferenceIdeal)
    ∧ quiescent_PjKernel (hPjKernel := hPjKernel)
    ∧ quiescent_PjKernelIdeal (hPjKernelIdeal := hPjKernelIdeal)
    ∧ quiescent_PjReferenceIdeal (hPjReferenceIdeal := hPjReferenceIdeal)
    ∧ quiescent_UpKernel (hUpKernel := hUpKernel)
    ∧ quiescent_UpKernelIdeal (hUpKernelIdeal := hUpKernelIdeal)
    ∧ quiescent_UpReferenceIdeal (hUpReferenceIdeal := hUpReferenceIdeal)
    ∧ quiescent_DnKernel (hDnKernel := hDnKernel)
    ∧ quiescent_DnKernelIdeal (hDnKernelIdeal := hDnKernelIdeal)
    ∧ quiescent_DnReferenceIdeal (hDnReferenceIdeal := hDnReferenceIdeal)
    ∧ quiescent_MfKernel (hMfKernel := hMfKernel)
    ∧ quiescent_MfKernelIdeal (hMfKernelIdeal := hMfKernelIdeal)
    ∧ quiescent_MfReferenceIdeal (hMfReferenceIdeal := hMfReferenceIdeal)
    ∧ quiescent_WoKernel (hWoKernel := hWoKernel)
    ∧ quiescent_WoKernelIdeal (hWoKernelIdeal := hWoKernelIdeal)
    ∧ quiescent_WoReferenceIdeal (hWoReferenceIdeal := hWoReferenceIdeal)
    ∧ quiescent_CoKernel (hCoKernel := hCoKernel)
    ∧ quiescent_CoKernelIdeal (hCoKernelIdeal := hCoKernelIdeal)
    ∧ quiescent_CoReferenceIdeal (hCoReferenceIdeal := hCoReferenceIdeal)
    ∧ quiescent_CqKernel (hCqKernel := hCqKernel)
    ∧ quiescent_CqKernelIdeal (hCqKernelIdeal := hCqKernelIdeal)
    ∧ quiescent_CqReferenceIdeal (hCqReferenceIdeal := hCqReferenceIdeal)
    ∧ quiescent_DmKernel (hDmKernel := hDmKernel)
    ∧ quiescent_DmKernelIdeal (hDmKernelIdeal := hDmKernelIdeal)
    ∧ quiescent_DmReferenceIdeal (hDmReferenceIdeal := hDmReferenceIdeal)
    ∧ quiescent_DbKernel (hDbKernel := hDbKernel)
    ∧ quiescent_DbKernelIdeal (hDbKernelIdeal := hDbKernelIdeal)
    ∧ quiescent_DbReferenceIdeal (hDbReferenceIdeal := hDbReferenceIdeal)
    ∧ quiescent_DxKernel (hDxKernel := hDxKernel)
    ∧ quiescent_DxKernelIdeal (hDxKernelIdeal := hDxKernelIdeal)
    ∧ quiescent_DxReferenceIdeal (hDxReferenceIdeal := hDxReferenceIdeal)
    ∧ quiescent_WuKernel (hWuKernel := hWuKernel)
    ∧ quiescent_WuKernelIdeal (hWuKernelIdeal := hWuKernelIdeal)
    ∧ quiescent_WuReferenceIdeal (hWuReferenceIdeal := hWuReferenceIdeal)
    ∧ quiescent_DwoKernel (hDwoKernel := hDwoKernel)
    ∧ quiescent_DwoKernelIdeal (hDwoKernelIdeal := hDwoKernelIdeal)
    ∧ quiescent_DwoReferenceIdeal (hDwoReferenceIdeal := hDwoReferenceIdeal)
    ∧ quiescent_DwqKernel (hDwqKernel := hDwqKernel)
    ∧ quiescent_DwqKernelIdeal (hDwqKernelIdeal := hDwqKernelIdeal)
    ∧ quiescent_DwqReferenceIdeal (hDwqReferenceIdeal := hDwqReferenceIdeal)
    ∧ quiescent_LsKernel (hLsKernel := hLsKernel)
    ∧ quiescent_LsKernelIdeal (hLsKernelIdeal := hLsKernelIdeal)
    ∧ quiescent_LsReferenceIdeal (hLsReferenceIdeal := hLsReferenceIdeal)
    ∧ quiescent_AvKernel (hAvKernel := hAvKernel)
    ∧ quiescent_AvKernelIdeal (hAvKernelIdeal := hAvKernelIdeal)
    ∧ quiescent_AvReferenceIdeal (hAvReferenceIdeal := hAvReferenceIdeal)
    ∧ quiescent_AhKernel (hAhKernel := hAhKernel)
    ∧ quiescent_AhKernelIdeal (hAhKernelIdeal := hAhKernelIdeal)
    ∧ quiescent_AhReferenceIdeal (hAhReferenceIdeal := hAhReferenceIdeal)
    ∧ quiescent_AwKernel (hAwKernel := hAwKernel)
    ∧ quiescent_AwKernelIdeal (hAwKernelIdeal := hAwKernelIdeal)
    ∧ quiescent_AwReferenceIdeal (hAwReferenceIdeal := hAwReferenceIdeal)
    ∧ quiescent_AfKernel (hAfKernel := hAfKernel)
    ∧ quiescent_AfKernelIdeal (hAfKernelIdeal := hAfKernelIdeal)
    ∧ quiescent_AfReferenceIdeal (hAfReferenceIdeal := hAfReferenceIdeal)
    ∧ quiescent_ArKernel (hArKernel := hArKernel)
    ∧ quiescent_ArKernelIdeal (hArKernelIdeal := hArKernelIdeal)
    ∧ quiescent_ArReferenceIdeal (hArReferenceIdeal := hArReferenceIdeal)
    ∧ quiescent_AgKernel (hAgKernel := hAgKernel)
    ∧ quiescent_AgKernelIdeal (hAgKernelIdeal := hAgKernelIdeal)
    ∧ quiescent_AgReferenceIdeal (hAgReferenceIdeal := hAgReferenceIdeal)
    ∧ quiescent_ApKernel (hApKernel := hApKernel)
    ∧ quiescent_ApKernelIdeal (hApKernelIdeal := hApKernelIdeal)
    ∧ quiescent_ApReferenceIdeal (hApReferenceIdeal := hApReferenceIdeal)
    ∧ quiescent_AaKernel (hAaKernel := hAaKernel)
    ∧ quiescent_AaKernelIdeal (hAaKernelIdeal := hAaKernelIdeal)
    ∧ quiescent_AaReferenceIdeal (hAaReferenceIdeal := hAaReferenceIdeal)
    ∧ quiescent_AlKernel (hAlKernel := hAlKernel)
    ∧ quiescent_AlKernelIdeal (hAlKernelIdeal := hAlKernelIdeal)
    ∧ quiescent_AlReferenceIdeal (hAlReferenceIdeal := hAlReferenceIdeal)
    ∧ quiescent_AiKernel (hAiKernel := hAiKernel)
    ∧ quiescent_AiKernelIdeal (hAiKernelIdeal := hAiKernelIdeal)
    ∧ quiescent_AiReferenceIdeal (hAiReferenceIdeal := hAiReferenceIdeal)
    ∧ quiescent_AcKernel (hAcKernel := hAcKernel)
    ∧ quiescent_AcKernelIdeal (hAcKernelIdeal := hAcKernelIdeal)
    ∧ quiescent_AcReferenceIdeal (hAcReferenceIdeal := hAcReferenceIdeal)
    ∧ quiescent_AuKernel (hAuKernel := hAuKernel)
    ∧ quiescent_AuKernelIdeal (hAuKernelIdeal := hAuKernelIdeal)
    ∧ quiescent_AuReferenceIdeal (hAuReferenceIdeal := hAuReferenceIdeal)
    ∧ quiescent_AsKernel (hAsKernel := hAsKernel)
    ∧ quiescent_AsKernelIdeal (hAsKernelIdeal := hAsKernelIdeal)
    ∧ quiescent_AsReferenceIdeal (hAsReferenceIdeal := hAsReferenceIdeal)
    ∧ quiescent_AmKernel (hAmKernel := hAmKernel)
    ∧ quiescent_AmKernelIdeal (hAmKernelIdeal := hAmKernelIdeal)
    ∧ quiescent_AmReferenceIdeal (hAmReferenceIdeal := hAmReferenceIdeal)
    ∧ quiescent_AoKernel (hAoKernel := hAoKernel)
    ∧ quiescent_AoKernelIdeal (hAoKernelIdeal := hAoKernelIdeal)
    ∧ quiescent_AoReferenceIdeal (hAoReferenceIdeal := hAoReferenceIdeal)
    ∧ quiescent_AqKernel (hAqKernel := hAqKernel)
    ∧ quiescent_AqKernelIdeal (hAqKernelIdeal := hAqKernelIdeal)
    ∧ quiescent_AqReferenceIdeal (hAqReferenceIdeal := hAqReferenceIdeal)
    ∧ quiescent_AxKernel (hAxKernel := hAxKernel)
    ∧ quiescent_AxKernelIdeal (hAxKernelIdeal := hAxKernelIdeal)
    ∧ quiescent_AxReferenceIdeal (hAxReferenceIdeal := hAxReferenceIdeal)
    ∧ quiescent_CkvKernel (hCkvKernel := hCkvKernel)
    ∧ quiescent_CkvKernelIdeal (hCkvKernelIdeal := hCkvKernelIdeal)
    ∧ quiescent_CkvReferenceIdeal (hCkvReferenceIdeal := hCkvReferenceIdeal)
    ∧ quiescent_DwkvKernel (hDwkvKernel := hDwkvKernel)
    ∧ quiescent_DwkvKernelIdeal (hDwkvKernelIdeal := hDwkvKernelIdeal)
    ∧ quiescent_DwkvReferenceIdeal (hDwkvReferenceIdeal := hDwkvReferenceIdeal)
    ∧ quiescent_DmemKernel (hDmemKernel := hDmemKernel)
    ∧ quiescent_DmemKernelIdeal (hDmemKernelIdeal := hDmemKernelIdeal)
    ∧ quiescent_DmemReferenceIdeal (hDmemReferenceIdeal := hDmemReferenceIdeal)
    ∧ quiescent_Dh2Kernel (hDh2Kernel := hDh2Kernel)
    ∧ quiescent_Dh2KernelIdeal (hDh2KernelIdeal := hDh2KernelIdeal)
    ∧ quiescent_Dh2ReferenceIdeal (hDh2ReferenceIdeal := hDh2ReferenceIdeal)
    ∧ quiescent_FmKernel (hFmKernel := hFmKernel)
    ∧ quiescent_FmKernelIdeal (hFmKernelIdeal := hFmKernelIdeal)
    ∧ quiescent_FmReferenceIdeal (hFmReferenceIdeal := hFmReferenceIdeal)
    ∧ quiescent_FpKernel (hFpKernel := hFpKernel)
    ∧ quiescent_FpKernelIdeal (hFpKernelIdeal := hFpKernelIdeal)
    ∧ quiescent_FpReferenceIdeal (hFpReferenceIdeal := hFpReferenceIdeal)
    ∧ quiescent_RmemKernel (hRmemKernel := hRmemKernel)
    ∧ quiescent_RmemKernelIdeal (hRmemKernelIdeal := hRmemKernelIdeal)
    ∧ quiescent_RmemReferenceIdeal (hRmemReferenceIdeal := hRmemReferenceIdeal)
    ∧ quiescent_DlKernel (hDlKernel := hDlKernel)
    ∧ quiescent_DlKernelIdeal (hDlKernelIdeal := hDlKernelIdeal)
    ∧ quiescent_DlReferenceIdeal (hDlReferenceIdeal := hDlReferenceIdeal)
    ∧ quiescent_GluKernel (hGluKernel := hGluKernel)
    ∧ quiescent_GluKernelIdeal (hGluKernelIdeal := hGluKernelIdeal)
    ∧ quiescent_GluReferenceIdeal (hGluReferenceIdeal := hGluReferenceIdeal)
    ∧ quiescent_MixKernel (hMixKernel := hMixKernel)
    ∧ quiescent_MixKernelIdeal (hMixKernelIdeal := hMixKernelIdeal)
    ∧ quiescent_MixReferenceIdeal (hMixReferenceIdeal := hMixReferenceIdeal)
    ∧ preserves_Kernel_KernelIdeal
    ∧ algebraic_KernelIdeal_ReferenceIdeal (hKernelIdeal := hKernelIdeal) (hReferenceIdeal := hReferenceIdeal)
    ∧ preserves_ActKernel_ActKernelIdeal
    ∧ algebraic_ActKernelIdeal_ActReferenceIdeal (hActKernelIdeal := hActKernelIdeal) (hActReferenceIdeal := hActReferenceIdeal)
    ∧ preserves_Ff2Kernel_Ff2KernelIdeal
    ∧ algebraic_Ff2KernelIdeal_Ff2ReferenceIdeal (hFf2KernelIdeal := hFf2KernelIdeal) (hFf2ReferenceIdeal := hFf2ReferenceIdeal)
    ∧ preserves_Ff1Kernel_Ff1KernelIdeal
    ∧ algebraic_Ff1KernelIdeal_Ff1ReferenceIdeal (hFf1KernelIdeal := hFf1KernelIdeal) (hFf1ReferenceIdeal := hFf1ReferenceIdeal)
    ∧ preserves_WinKernel_WinKernelIdeal
    ∧ algebraic_WinKernelIdeal_WinReferenceIdeal (hWinKernelIdeal := hWinKernelIdeal) (hWinReferenceIdeal := hWinReferenceIdeal)
    ∧ preserves_Dh1Kernel_Dh1KernelIdeal
    ∧ algebraic_Dh1KernelIdeal_Dh1ReferenceIdeal (hDh1KernelIdeal := hDh1KernelIdeal) (hDh1ReferenceIdeal := hDh1ReferenceIdeal)
    ∧ preserves_Dh3Kernel_Dh3KernelIdeal
    ∧ algebraic_Dh3KernelIdeal_Dh3ReferenceIdeal (hDh3KernelIdeal := hDh3KernelIdeal) (hDh3ReferenceIdeal := hDh3ReferenceIdeal)
    ∧ preserves_RmsKernel_RmsKernelIdeal
    ∧ algebraic_RmsKernelIdeal_RmsReferenceIdeal (hRmsKernelIdeal := hRmsKernelIdeal) (hRmsReferenceIdeal := hRmsReferenceIdeal)
    ∧ preserves_PjKernel_PjKernelIdeal
    ∧ algebraic_PjKernelIdeal_PjReferenceIdeal (hPjKernelIdeal := hPjKernelIdeal) (hPjReferenceIdeal := hPjReferenceIdeal)
    ∧ preserves_UpKernel_UpKernelIdeal
    ∧ algebraic_UpKernelIdeal_UpReferenceIdeal (hUpKernelIdeal := hUpKernelIdeal) (hUpReferenceIdeal := hUpReferenceIdeal)
    ∧ preserves_DnKernel_DnKernelIdeal
    ∧ algebraic_DnKernelIdeal_DnReferenceIdeal (hDnKernelIdeal := hDnKernelIdeal) (hDnReferenceIdeal := hDnReferenceIdeal)
    ∧ preserves_MfKernel_MfKernelIdeal
    ∧ algebraic_MfKernelIdeal_MfReferenceIdeal (hMfKernelIdeal := hMfKernelIdeal) (hMfReferenceIdeal := hMfReferenceIdeal)
    ∧ preserves_WoKernel_WoKernelIdeal
    ∧ algebraic_WoKernelIdeal_WoReferenceIdeal (hWoKernelIdeal := hWoKernelIdeal) (hWoReferenceIdeal := hWoReferenceIdeal)
    ∧ preserves_CoKernel_CoKernelIdeal
    ∧ algebraic_CoKernelIdeal_CoReferenceIdeal (hCoKernelIdeal := hCoKernelIdeal) (hCoReferenceIdeal := hCoReferenceIdeal)
    ∧ preserves_CqKernel_CqKernelIdeal
    ∧ algebraic_CqKernelIdeal_CqReferenceIdeal (hCqKernelIdeal := hCqKernelIdeal) (hCqReferenceIdeal := hCqReferenceIdeal)
    ∧ preserves_DmKernel_DmKernelIdeal
    ∧ algebraic_DmKernelIdeal_DmReferenceIdeal (hDmKernelIdeal := hDmKernelIdeal) (hDmReferenceIdeal := hDmReferenceIdeal)
    ∧ preserves_DbKernel_DbKernelIdeal
    ∧ algebraic_DbKernelIdeal_DbReferenceIdeal (hDbKernelIdeal := hDbKernelIdeal) (hDbReferenceIdeal := hDbReferenceIdeal)
    ∧ preserves_DxKernel_DxKernelIdeal
    ∧ algebraic_DxKernelIdeal_DxReferenceIdeal (hDxKernelIdeal := hDxKernelIdeal) (hDxReferenceIdeal := hDxReferenceIdeal)
    ∧ preserves_WuKernel_WuKernelIdeal
    ∧ algebraic_WuKernelIdeal_WuReferenceIdeal (hWuKernelIdeal := hWuKernelIdeal) (hWuReferenceIdeal := hWuReferenceIdeal)
    ∧ preserves_DwoKernel_DwoKernelIdeal
    ∧ algebraic_DwoKernelIdeal_DwoReferenceIdeal (hDwoKernelIdeal := hDwoKernelIdeal) (hDwoReferenceIdeal := hDwoReferenceIdeal)
    ∧ preserves_DwqKernel_DwqKernelIdeal
    ∧ algebraic_DwqKernelIdeal_DwqReferenceIdeal (hDwqKernelIdeal := hDwqKernelIdeal) (hDwqReferenceIdeal := hDwqReferenceIdeal)
    ∧ preserves_LsKernel_LsKernelIdeal
    ∧ algebraic_LsKernelIdeal_LsReferenceIdeal (hLsKernelIdeal := hLsKernelIdeal) (hLsReferenceIdeal := hLsReferenceIdeal)
    ∧ preserves_AvKernel_AvKernelIdeal
    ∧ algebraic_AvKernelIdeal_AvReferenceIdeal (hAvKernelIdeal := hAvKernelIdeal) (hAvReferenceIdeal := hAvReferenceIdeal)
    ∧ preserves_AhKernel_AhKernelIdeal
    ∧ algebraic_AhKernelIdeal_AhReferenceIdeal (hAhKernelIdeal := hAhKernelIdeal) (hAhReferenceIdeal := hAhReferenceIdeal)
    ∧ preserves_AwKernel_AwKernelIdeal
    ∧ algebraic_AwKernelIdeal_AwReferenceIdeal (hAwKernelIdeal := hAwKernelIdeal) (hAwReferenceIdeal := hAwReferenceIdeal)
    ∧ preserves_AfKernel_AfKernelIdeal
    ∧ algebraic_AfKernelIdeal_AfReferenceIdeal (hAfKernelIdeal := hAfKernelIdeal) (hAfReferenceIdeal := hAfReferenceIdeal)
    ∧ preserves_ArKernel_ArKernelIdeal
    ∧ algebraic_ArKernelIdeal_ArReferenceIdeal (hArKernelIdeal := hArKernelIdeal) (hArReferenceIdeal := hArReferenceIdeal)
    ∧ preserves_AgKernel_AgKernelIdeal
    ∧ algebraic_AgKernelIdeal_AgReferenceIdeal (hAgKernelIdeal := hAgKernelIdeal) (hAgReferenceIdeal := hAgReferenceIdeal)
    ∧ preserves_ApKernel_ApKernelIdeal
    ∧ algebraic_ApKernelIdeal_ApReferenceIdeal (hApKernelIdeal := hApKernelIdeal) (hApReferenceIdeal := hApReferenceIdeal)
    ∧ preserves_AaKernel_AaKernelIdeal
    ∧ algebraic_AaKernelIdeal_AaReferenceIdeal (hAaKernelIdeal := hAaKernelIdeal) (hAaReferenceIdeal := hAaReferenceIdeal)
    ∧ preserves_AlKernel_AlKernelIdeal
    ∧ algebraic_AlKernelIdeal_AlReferenceIdeal (hAlKernelIdeal := hAlKernelIdeal) (hAlReferenceIdeal := hAlReferenceIdeal)
    ∧ preserves_AiKernel_AiKernelIdeal
    ∧ algebraic_AiKernelIdeal_AiReferenceIdeal (hAiKernelIdeal := hAiKernelIdeal) (hAiReferenceIdeal := hAiReferenceIdeal)
    ∧ preserves_AcKernel_AcKernelIdeal
    ∧ algebraic_AcKernelIdeal_AcReferenceIdeal (hAcKernelIdeal := hAcKernelIdeal) (hAcReferenceIdeal := hAcReferenceIdeal)
    ∧ preserves_AuKernel_AuKernelIdeal
    ∧ algebraic_AuKernelIdeal_AuReferenceIdeal (hAuKernelIdeal := hAuKernelIdeal) (hAuReferenceIdeal := hAuReferenceIdeal)
    ∧ preserves_AsKernel_AsKernelIdeal
    ∧ algebraic_AsKernelIdeal_AsReferenceIdeal (hAsKernelIdeal := hAsKernelIdeal) (hAsReferenceIdeal := hAsReferenceIdeal)
    ∧ preserves_AmKernel_AmKernelIdeal
    ∧ algebraic_AmKernelIdeal_AmReferenceIdeal (hAmKernelIdeal := hAmKernelIdeal) (hAmReferenceIdeal := hAmReferenceIdeal)
    ∧ preserves_AoKernel_AoKernelIdeal
    ∧ algebraic_AoKernelIdeal_AoReferenceIdeal (hAoKernelIdeal := hAoKernelIdeal) (hAoReferenceIdeal := hAoReferenceIdeal)
    ∧ preserves_AqKernel_AqKernelIdeal
    ∧ algebraic_AqKernelIdeal_AqReferenceIdeal (hAqKernelIdeal := hAqKernelIdeal) (hAqReferenceIdeal := hAqReferenceIdeal)
    ∧ preserves_AxKernel_AxKernelIdeal
    ∧ algebraic_AxKernelIdeal_AxReferenceIdeal (hAxKernelIdeal := hAxKernelIdeal) (hAxReferenceIdeal := hAxReferenceIdeal)
    ∧ preserves_CkvKernel_CkvKernelIdeal
    ∧ algebraic_CkvKernelIdeal_CkvReferenceIdeal (hCkvKernelIdeal := hCkvKernelIdeal) (hCkvReferenceIdeal := hCkvReferenceIdeal)
    ∧ preserves_DwkvKernel_DwkvKernelIdeal
    ∧ algebraic_DwkvKernelIdeal_DwkvReferenceIdeal (hDwkvKernelIdeal := hDwkvKernelIdeal) (hDwkvReferenceIdeal := hDwkvReferenceIdeal)
    ∧ preserves_DmemKernel_DmemKernelIdeal
    ∧ algebraic_DmemKernelIdeal_DmemReferenceIdeal (hDmemKernelIdeal := hDmemKernelIdeal) (hDmemReferenceIdeal := hDmemReferenceIdeal)
    ∧ preserves_Dh2Kernel_Dh2KernelIdeal
    ∧ algebraic_Dh2KernelIdeal_Dh2ReferenceIdeal (hDh2KernelIdeal := hDh2KernelIdeal) (hDh2ReferenceIdeal := hDh2ReferenceIdeal)
    ∧ preserves_FmKernel_FmKernelIdeal
    ∧ algebraic_FmKernelIdeal_FmReferenceIdeal (hFmKernelIdeal := hFmKernelIdeal) (hFmReferenceIdeal := hFmReferenceIdeal)
    ∧ preserves_FpKernel_FpKernelIdeal
    ∧ algebraic_FpKernelIdeal_FpReferenceIdeal (hFpKernelIdeal := hFpKernelIdeal) (hFpReferenceIdeal := hFpReferenceIdeal)
    ∧ preserves_RmemKernel_RmemKernelIdeal
    ∧ algebraic_RmemKernelIdeal_RmemReferenceIdeal (hRmemKernelIdeal := hRmemKernelIdeal) (hRmemReferenceIdeal := hRmemReferenceIdeal)
    ∧ preserves_DlKernel_DlKernelIdeal
    ∧ algebraic_DlKernelIdeal_DlReferenceIdeal (hDlKernelIdeal := hDlKernelIdeal) (hDlReferenceIdeal := hDlReferenceIdeal)
    ∧ preserves_GluKernel_GluKernelIdeal
    ∧ algebraic_GluKernelIdeal_GluReferenceIdeal (hGluKernelIdeal := hGluKernelIdeal) (hGluReferenceIdeal := hGluReferenceIdeal)
    ∧ preserves_MixKernel_MixKernelIdeal
    ∧ algebraic_MixKernelIdeal_MixReferenceIdeal (hMixKernelIdeal := hMixKernelIdeal) (hMixReferenceIdeal := hMixReferenceIdeal)
-- ==== Kernel.lean ====
abbrev S4096x10752 : Shape := ⟨2, ![4096, 10752]⟩
abbrev S4x1024 : Shape := ⟨2, ![4, 1024]⟩
abbrev S4096x512 : Shape := ⟨2, ![4096, 512]⟩
abbrev S4x512x1024 : Shape := ⟨3, ![4, 512, 1024]⟩
abbrev S4096x1024 : Shape := ⟨2, ![4096, 1024]⟩
abbrev S512x512 : Shape := ⟨2, ![512, 512]⟩
abbrev S4x512 : Shape := ⟨2, ![4, 512]⟩
abbrev S4x512x512 : Shape := ⟨3, ![4, 512, 512]⟩
abbrev S1x512 : Shape := ⟨2, ![1, 512]⟩
abbrev S1x512x512 : Shape := ⟨3, ![1, 512, 512]⟩
abbrev S512 : Shape := ⟨1, ![512]⟩

abbrev nBuf : Space → Nat
  | .hbm => 17
  | .vmem => 40
  | .smem => 0
  | _ => 0

abbrev bufTy : (tb : Table) → Fin (tcTables nBuf tb) → BufTy
  | .hbm, ⟨0, _⟩ => ⟨S4096x10752, .f32⟩
  | .hbm, ⟨1, _⟩ => ⟨S4x1024, .f32⟩
  | .hbm, ⟨2, _⟩ => ⟨S4096x512, .bf16⟩
  | .hbm, ⟨3, _⟩ => ⟨S4096x512, .bf16⟩
  | .hbm, ⟨4, _⟩ => ⟨S4096x512, .bf16⟩
  | .hbm, ⟨5, _⟩ => ⟨S4096x512, .bf16⟩
  | .hbm, ⟨6, _⟩ => ⟨S4x512x1024, .bf16⟩
  | .hbm, ⟨7, _⟩ => ⟨S4096x1024, .f32⟩
  | .hbm, ⟨8, _⟩ => ⟨S4096x1024, .bf16⟩
  | .hbm, ⟨9, _⟩ => ⟨S4096x1024, .bf16⟩
  | .hbm, ⟨10, _⟩ => ⟨S4096x1024, .bf16⟩
  | .hbm, ⟨11, _⟩ => ⟨S4096x1024, .bf16⟩
  | .hbm, ⟨12, _⟩ => ⟨S4096x1024, .bf16⟩
  | .hbm, ⟨13, _⟩ => ⟨S4096x1024, .bf16⟩
  | .hbm, ⟨14, _⟩ => ⟨S4096x1024, .bf16⟩
  | .hbm, ⟨15, _⟩ => ⟨S4096x1024, .bf16⟩
  | .hbm, ⟨16, _⟩ => ⟨S4x1024, .f32⟩
  | .local _ .vmem, ⟨0, _⟩ => ⟨S512x512, .f32⟩
  | .local _ .vmem, ⟨1, _⟩ => ⟨S512x512, .f32⟩
  | .local _ .vmem, ⟨2, _⟩ => ⟨S512x512, .f32⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S512x512, .f32⟩
  | .local _ .vmem, ⟨7, _⟩ => ⟨S512x512, .f32⟩
  | .local _ .vmem, ⟨8, _⟩ => ⟨S4x512, .f32⟩
  | .local _ .vmem, ⟨9, _⟩ => ⟨S4x512, .f32⟩
  | .local _ .vmem, ⟨10, _⟩ => ⟨S512x512, .bf16⟩
  | .local _ .vmem, ⟨11, _⟩ => ⟨S512x512, .bf16⟩
  | .local _ .vmem, ⟨12, _⟩ => ⟨S512x512, .bf16⟩
  | .local _ .vmem, ⟨13, _⟩ => ⟨S512x512, .bf16⟩
  | .local _ .vmem, ⟨14, _⟩ => ⟨S512x512, .bf16⟩
  | .local _ .vmem, ⟨15, _⟩ => ⟨S512x512, .bf16⟩
  | .local _ .vmem, ⟨16, _⟩ => ⟨S512x512, .bf16⟩
  | .local _ .vmem, ⟨17, _⟩ => ⟨S512x512, .bf16⟩
  | .local _ .vmem, ⟨18, _⟩ => ⟨S4x512x512, .bf16⟩
  | .local _ .vmem, ⟨19, _⟩ => ⟨S4x512x512, .bf16⟩
  | .local _ .vmem, ⟨20, _⟩ => ⟨S512x512, .f32⟩
  | .local _ .vmem, ⟨21, _⟩ => ⟨S512x512, .f32⟩
  | .local _ .vmem, ⟨22, _⟩ => ⟨S512x512, .bf16⟩
  | .local _ .vmem, ⟨23, _⟩ => ⟨S512x512, .bf16⟩
  | .local _ .vmem, ⟨24, _⟩ => ⟨S512x512, .bf16⟩
  | .local _ .vmem, ⟨25, _⟩ => ⟨S512x512, .bf16⟩
  | .local _ .vmem, ⟨26, _⟩ => ⟨S512x512, .bf16⟩
  | .local _ .vmem, ⟨27, _⟩ => ⟨S512x512, .bf16⟩
  | .local _ .vmem, ⟨28, _⟩ => ⟨S512x512, .bf16⟩
  | .local _ .vmem, ⟨29, _⟩ => ⟨S512x512, .bf16⟩
  | .local _ .vmem, ⟨30, _⟩ => ⟨S512x512, .bf16⟩
  | .local _ .vmem, ⟨31, _⟩ => ⟨S512x512, .bf16⟩
  | .local _ .vmem, ⟨32, _⟩ => ⟨S512x512, .bf16⟩
  | .local _ .vmem, ⟨33, _⟩ => ⟨S512x512, .bf16⟩
  | .local _ .vmem, ⟨34, _⟩ => ⟨S512x512, .bf16⟩
  | .local _ .vmem, ⟨35, _⟩ => ⟨S512x512, .bf16⟩
  | .local _ .vmem, ⟨36, _⟩ => ⟨S512x512, .bf16⟩
  | .local _ .vmem, ⟨37, _⟩ => ⟨S512x512, .bf16⟩
  | .local _ .vmem, ⟨38, _⟩ => ⟨S4x512, .f32⟩
  | .local _ .vmem, ⟨39, _⟩ => ⟨S4x512, .f32⟩
  | _, _ => ⟨S4096x10752, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | _, _ => false

abbrev semScoped : Fin 0 → Bool
  | ⟨_, h⟩ => absurd h (Nat.not_lt_zero _)

abbrev dmaSemScoped : Fin 40 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | _ => false

abbrev sig : RefSig :=
  ofTc nBuf bufTy 0 40 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev main_v0_2 : Ref sig .tc := ⟨.hbm, 10, rfl⟩
abbrev main_v0_3 : Ref sig .tc := ⟨.hbm, 11, rfl⟩
abbrev main_v0_4 : Ref sig .tc := ⟨.hbm, 12, rfl⟩
abbrev main_v0_5 : Ref sig .tc := ⟨.hbm, 13, rfl⟩
abbrev main_v0_6 : Ref sig .tc := ⟨.hbm, 14, rfl⟩
abbrev main_v0_7 : Ref sig .tc := ⟨.hbm, 15, rfl⟩
abbrev main_v0_8 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_stg14_0 : Ref sig .tc := ⟨.vmem, 28, rfl⟩
abbrev cc0_stg14_1 : Ref sig .tc := ⟨.vmem, 29, rfl⟩
abbrev cc0_stg15_0 : Ref sig .tc := ⟨.vmem, 30, rfl⟩
abbrev cc0_stg15_1 : Ref sig .tc := ⟨.vmem, 31, rfl⟩
abbrev cc0_stg16_0 : Ref sig .tc := ⟨.vmem, 32, rfl⟩
abbrev cc0_stg16_1 : Ref sig .tc := ⟨.vmem, 33, rfl⟩
abbrev cc0_stg17_0 : Ref sig .tc := ⟨.vmem, 34, rfl⟩
abbrev cc0_stg17_1 : Ref sig .tc := ⟨.vmem, 35, rfl⟩
abbrev cc0_stg18_0 : Ref sig .tc := ⟨.vmem, 36, rfl⟩
abbrev cc0_stg18_1 : Ref sig .tc := ⟨.vmem, 37, rfl⟩
abbrev cc0_stg19_0 : Ref sig .tc := ⟨.vmem, 38, rfl⟩
abbrev cc0_stg19_1 : Ref sig .tc := ⟨.vmem, 39, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27
abbrev cc0_sem14_0 : DmaSem sig := 28
abbrev cc0_sem14_1 : DmaSem sig := 29
abbrev cc0_sem15_0 : DmaSem sig := 30
abbrev cc0_sem15_1 : DmaSem sig := 31
abbrev cc0_sem16_0 : DmaSem sig := 32
abbrev cc0_sem16_1 : DmaSem sig := 33
abbrev cc0_sem17_0 : DmaSem sig := 34
abbrev cc0_sem17_1 : DmaSem sig := 35
abbrev cc0_sem18_0 : DmaSem sig := 36
abbrev cc0_sem18_1 : DmaSem sig := 37
abbrev cc0_sem19_0 : DmaSem sig := 38
abbrev cc0_sem19_1 : DmaSem sig := 39

abbrev nD : Nat := 1
abbrev τ : Topo := Topo.v7x

variable {F : FTy → Type} [FloatOps F]

abbrev grid0 : Pipeline.Grid := ⟨2, ![2, 8], ![false, false]⟩

def k0_cond1 (i : grid0.Coords) : BitVec 1 :=
  let arg1 : BitVec 32 := BitVec.ofNat 32 (i 1).val
  let c0_i32 : BitVec 32 := 0#32
  let v110 : BitVec 1 := Scalar.cmpi .eq arg1 c0_i32
  let v111 : BitVec 32 := Scalar.extui v110
  let c0_i32_73 : BitVec 32 := 0#32
  let v112 : BitVec 1 := Scalar.cmpi .ne v111 c0_i32_73
  v112

def k0_cond2 (i : grid0.Coords) : BitVec 1 :=
  let arg1 : BitVec 32 := BitVec.ofNat 32 (i 1).val
  let c0_i32_74 : BitVec 32 := 0#32
  let v113 : BitVec 1 := Scalar.cmpi .sgt arg1 c0_i32_74
  let v114 : BitVec 32 := Scalar.extui v113
  let c0_i32_75 : BitVec 32 := 0#32
  let v115 : BitVec 1 := Scalar.cmpi .ne v114 c0_i32_75
  v115

def cc0_transform_0 (i : grid0.Coords) : Fin 2 → Nat :=
  let arg0 : BitVec 32 := BitVec.ofNat 32 (i 0).val
  let arg1 : BitVec 32 := BitVec.ofNat 32 (i 1).val
  let c13_i32 : BitVec 32 := 13#32
  let v0 : BitVec 32 := Scalar.addi c13_i32 arg0
  let c0_i32 : BitVec 32 := 0#32
  ![arg1.toNat, v0.toNat]

def cc0_transform_1 (i : grid0.Coords) : Fin 2 → Nat :=
  let arg0 : BitVec 32 := BitVec.ofNat 32 (i 0).val
  let arg1 : BitVec 32 := BitVec.ofNat 32 (i 1).val
  let c15_i32 : BitVec 32 := 15#32
  let v0 : BitVec 32 := Scalar.addi c15_i32 arg0
  let c0_i32 : BitVec 32 := 0#32
  ![arg1.toNat, v0.toNat]

def cc0_transform_2 (i : grid0.Coords) : Fin 2 → Nat :=
  let arg0 : BitVec 32 := BitVec.ofNat 32 (i 0).val
  let arg1 : BitVec 32 := BitVec.ofNat 32 (i 1).val
  let c17_i32 : BitVec 32 := 17#32
  let v0 : BitVec 32 := Scalar.addi c17_i32 arg0
  let c0_i32 : BitVec 32 := 0#32
  ![arg1.toNat, v0.toNat]

def cc0_transform_3 (i : grid0.Coords) : Fin 2 → Nat :=
  let arg0 : BitVec 32 := BitVec.ofNat 32 (i 0).val
  let arg1 : BitVec 32 := BitVec.ofNat 32 (i 1).val
  let c19_i32 : BitVec 32 := 19#32
  let v0 : BitVec 32 := Scalar.addi c19_i32 arg0
  let c0_i32 : BitVec 32 := 0#32
  ![arg1.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_15 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_16 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_17 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_18 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_19 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S4x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S512x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S512x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S512x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S512x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, true]

abbrev stage0_9 : Fin 2 → Memref sig .tc .vmem S4x512x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S512x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S512x512 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S512x512 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S512x512 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S512x512 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S512x512 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]

abbrev stage0_16 : Fin 2 → Memref sig .tc .vmem S512x512 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]

abbrev stage0_17 : Fin 2 → Memref sig .tc .vmem S512x512 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, true]

abbrev stage0_18 : Fin 2 → Memref sig .tc .vmem S512x512 .bf16 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true, true]

abbrev stage0_19 : Fin 2 → Memref sig .tc .vmem S4x512 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true, false]
-- ==== ReferenceIdeal.lean ====
abbrev S4096x10752 : Shape := ⟨2, ![4096, 10752]⟩
abbrev S4x1024 : Shape := ⟨2, ![4, 1024]⟩
abbrev S4096x512 : Shape := ⟨2, ![4096, 512]⟩
abbrev S4x512x1024 : Shape := ⟨3, ![4, 512, 1024]⟩
abbrev S4096x1024 : Shape := ⟨2, ![4096, 1024]⟩
abbrev S1x512x1024 : Shape := ⟨3, ![1, 512, 1024]⟩
abbrev S512x1024 : Shape := ⟨2, ![512, 1024]⟩
abbrev S1x1024 : Shape := ⟨2, ![1, 1024]⟩
abbrev S1024 : Shape := ⟨1, ![1024]⟩
abbrev S_ : Shape := ⟨0, ![]⟩

abbrev nBuf : Space → Nat
  | .hbm => 154
  | .vmem => 0
  | .smem => 0
  | _ => 0

abbrev hbmTy0_0 (i : Nat) : BufTy := match i % 128 with
  | 0 => ⟨S4096x10752, .f32⟩
  | 1 => ⟨S4x1024, .f32⟩
  | 2 => ⟨S4096x512, .bf16⟩
  | 3 => ⟨S4096x512, .bf16⟩
  | 4 => ⟨S4096x512, .bf16⟩
  | 5 => ⟨S4096x512, .bf16⟩
  | 6 => ⟨S4x512x1024, .bf16⟩
  | 7 => ⟨S4096x1024, .f32⟩
  | 8 => ⟨S4096x1024, .f32⟩
  | 9 => ⟨S4096x1024, .f32⟩
  | 10 => ⟨S4096x1024, .f32⟩
  | 11 => ⟨S4096x1024, .f32⟩
  | 12 => ⟨S4096x512, .f32⟩
  | 13 => ⟨S1x512x1024, .bf16⟩
  | 14 => ⟨S512x1024, .bf16⟩
  | 15 => ⟨S512x1024, .f32⟩
  | 16 => ⟨S4096x1024, .f32⟩
  | 17 => ⟨S4096x512, .f32⟩
  | 18 => ⟨S1x512x1024, .bf16⟩
  | 19 => ⟨S512x1024, .bf16⟩
  | 20 => ⟨S512x1024, .f32⟩
  | 21 => ⟨S4096x1024, .f32⟩
  | 22 => ⟨S4096x512, .f32⟩
  | 23 => ⟨S1x512x1024, .bf16⟩
  | 24 => ⟨S512x1024, .bf16⟩
  | 25 => ⟨S512x1024, .f32⟩
  | 26 => ⟨S4096x1024, .f32⟩
  | 27 => ⟨S4096x512, .f32⟩
  | 28 => ⟨S1x512x1024, .bf16⟩
  | 29 => ⟨S512x1024, .bf16⟩
  | 30 => ⟨S512x1024, .f32⟩
  | 31 => ⟨S4096x1024, .f32⟩
  | 32 => ⟨S1x1024, .f32⟩
  | 33 => ⟨S1024, .f32⟩
  | 34 => ⟨S1x1024, .f32⟩
  | 35 => ⟨S1024, .f32⟩
  | 36 => ⟨S1x1024, .f32⟩
  | 37 => ⟨S1024, .f32⟩
  | 38 => ⟨S1x1024, .f32⟩
  | 39 => ⟨S1024, .f32⟩
  | 40 => ⟨S1x1024, .f32⟩
  | 41 => ⟨S4096x1024, .f32⟩
  | 42 => ⟨S4096x1024, .f32⟩
  | 43 => ⟨S4096x1024, .f32⟩
  | 44 => ⟨S4096x1024, .f32⟩
  | 45 => ⟨S_, .f32⟩
  | 46 => ⟨S4096x1024, .f32⟩
  | 47 => ⟨S4096x1024, .f32⟩
  | 48 => ⟨S_, .f32⟩
  | 49 => ⟨S4096x1024, .f32⟩
  | 50 => ⟨S4096x1024, .f32⟩
  | 51 => ⟨S_, .f32⟩
  | 52 => ⟨S4096x1024, .f32⟩
  | 53 => ⟨S4096x1024, .f32⟩
  | 54 => ⟨S4096x1024, .f32⟩
  | 55 => ⟨S4096x1024, .f32⟩
  | 56 => ⟨S1x1024, .f32⟩
  | 57 => ⟨S4096x1024, .f32⟩
  | 58 => ⟨S4096x1024, .f32⟩
  | 59 => ⟨S4096x1024, .f32⟩
  | 60 => ⟨S4096x1024, .f32⟩
  | 61 => ⟨S_, .f32⟩
  | 62 => ⟨S4096x1024, .f32⟩
  | 63 => ⟨S4096x1024, .f32⟩
  | 64 => ⟨S_, .f32⟩
  | 65 => ⟨S4096x1024, .f32⟩
  | 66 => ⟨S4096x1024, .f32⟩
  | 67 => ⟨S_, .f32⟩
  | 68 => ⟨S4096x1024, .f32⟩
  | 69 => ⟨S4096x1024, .f32⟩
  | 70 => ⟨S4096x1024, .f32⟩
  | 71 => ⟨S4096x1024, .f32⟩
  | 72 => ⟨S4096x1024, .f32⟩
  | 73 => ⟨S1x1024, .f32⟩
  | 74 => ⟨S4096x1024, .f32⟩
  | 75 => ⟨S4096x1024, .f32⟩
  | 76 => ⟨S4096x1024, .f32⟩
  | 77 => ⟨S4096x1024, .f32⟩
  | 78 => ⟨S_, .f32⟩
  | 79 => ⟨S4096x1024, .f32⟩
  | 80 => ⟨S4096x1024, .f32⟩
  | 81 => ⟨S_, .f32⟩
  | 82 => ⟨S4096x1024, .f32⟩
  | 83 => ⟨S4096x1024, .f32⟩
  | 84 => ⟨S_, .f32⟩
  | 85 => ⟨S4096x1024, .f32⟩
  | 86 => ⟨S4096x1024, .f32⟩
  | 87 => ⟨S4096x1024, .f32⟩
  | 88 => ⟨S4096x1024, .f32⟩
  | 89 => ⟨S4096x1024, .f32⟩
  | 90 => ⟨S1x1024, .f32⟩
  | 91 => ⟨S4096x1024, .f32⟩
  | 92 => ⟨S4096x1024, .f32⟩
  | 93 => ⟨S4096x1024, .f32⟩
  | 94 => ⟨S4096x1024, .f32⟩
  | 95 => ⟨S_, .f32⟩
  | 96 => ⟨S4096x1024, .f32⟩
  | 97 => ⟨S4096x1024, .f32⟩
  | 98 => ⟨S_, .f32⟩
  | 99 => ⟨S4096x1024, .f32⟩
  | 100 => ⟨S4096x1024, .f32⟩
  | 101 => ⟨S_, .f32⟩
  | 102 => ⟨S4096x1024, .f32⟩
  | 103 => ⟨S4096x1024, .f32⟩
  | 104 => ⟨S4096x1024, .f32⟩
  | 105 => ⟨S4096x1024, .f32⟩
  | 106 => ⟨S4096x1024, .f32⟩
  | 107 => ⟨S4096x1024, .f32⟩
  | 108 => ⟨S4096x1024, .f32⟩
  | 109 => ⟨S4096x1024, .f32⟩
  | 110 => ⟨S4096x1024, .f32⟩
  | 111 => ⟨S4096x1024, .f32⟩
  | 112 => ⟨S_, .f32⟩
  | 113 => ⟨S1024, .f32⟩
  | 114 => ⟨S1x1024, .f32⟩
  | 115 => ⟨S_, .f32⟩
  | 116 => ⟨S1024, .f32⟩
  | 117 => ⟨S4096x1024, .f32⟩
  | 118 => ⟨S4096x1024, .f32⟩
  | 119 => ⟨S4096x1024, .f32⟩
  | 120 => ⟨S_, .f32⟩
  | 121 => ⟨S1024, .f32⟩
  | 122 => ⟨S1x1024, .f32⟩
  | 123 => ⟨S_, .f32⟩
  | 124 => ⟨S1024, .f32⟩
  | 125 => ⟨S4096x1024, .f32⟩
  | 126 => ⟨S4096x1024, .f32⟩
  | 127 => ⟨S4096x1024, .f32⟩
  | _ => ⟨S4096x10752, .f32⟩

abbrev hbmTy0_1 (i : Nat) : BufTy := match i % 128 with
  | 0 => ⟨S_, .f32⟩
  | 1 => ⟨S1024, .f32⟩
  | 2 => ⟨S1x1024, .f32⟩
  | 3 => ⟨S_, .f32⟩
  | 4 => ⟨S1024, .f32⟩
  | 5 => ⟨S4096x1024, .f32⟩
  | 6 => ⟨S4096x1024, .f32⟩
  | 7 => ⟨S4096x1024, .f32⟩
  | 8 => ⟨S_, .f32⟩
  | 9 => ⟨S1024, .f32⟩
  | 10 => ⟨S1x1024, .f32⟩
  | 11 => ⟨S_, .f32⟩
  | 12 => ⟨S1024, .f32⟩
  | 13 => ⟨S4096x1024, .bf16⟩
  | 14 => ⟨S4096x1024, .bf16⟩
  | 15 => ⟨S4096x1024, .bf16⟩
  | 16 => ⟨S4096x1024, .bf16⟩
  | 17 => ⟨S4096x1024, .bf16⟩
  | 18 => ⟨S4096x1024, .bf16⟩
  | 19 => ⟨S4096x1024, .bf16⟩
  | 20 => ⟨S4096x1024, .bf16⟩
  | 21 => ⟨S1x1024, .f32⟩
  | 22 => ⟨S1x1024, .f32⟩
  | 23 => ⟨S1x1024, .f32⟩
  | 24 => ⟨S1x1024, .f32⟩
  | 25 => ⟨S4x1024, .f32⟩
  | _ => ⟨S4096x10752, .f32⟩

abbrev hbmTy (i : Nat) : BufTy := match i / 128 with
  | 0 => hbmTy0_0 i
  | 1 => hbmTy0_1 i
  | _ => ⟨S4096x10752, .f32⟩

abbrev bufTy : (tb : Table) → Fin (tcTables nBuf tb) → BufTy
  | .hbm, ⟨i, _⟩ => hbmTy i
  | _, _ => ⟨S4096x10752, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_cst : Ref sig .tc := ⟨.hbm, 45, rfl⟩
abbrev main_v37 : Ref sig .tc := ⟨.hbm, 46, rfl⟩
abbrev main_v38 : Ref sig .tc := ⟨.hbm, 47, rfl⟩
abbrev main_cst_0 : Ref sig .tc := ⟨.hbm, 48, rfl⟩
abbrev main_v39 : Ref sig .tc := ⟨.hbm, 49, rfl⟩
abbrev main_v40 : Ref sig .tc := ⟨.hbm, 50, rfl⟩
abbrev main_cst_1 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_cst_2 : Ref sig .tc := ⟨.hbm, 61, rfl⟩
abbrev main_v50 : Ref sig .tc := ⟨.hbm, 62, rfl⟩
abbrev main_v51 : Ref sig .tc := ⟨.hbm, 63, rfl⟩
abbrev main_cst_3 : Ref sig .tc := ⟨.hbm, 64, rfl⟩
abbrev main_v52 : Ref sig .tc := ⟨.hbm, 65, rfl⟩
abbrev main_v53 : Ref sig .tc := ⟨.hbm, 66, rfl⟩
abbrev main_cst_4 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩
abbrev main_v60 : Ref sig .tc := ⟨.hbm, 74, rfl⟩
abbrev main_v61 : Ref sig .tc := ⟨.hbm, 75, rfl⟩
abbrev main_v62 : Ref sig .tc := ⟨.hbm, 76, rfl⟩
abbrev main_v63 : Ref sig .tc := ⟨.hbm, 77, rfl⟩
abbrev main_cst_5 : Ref sig .tc := ⟨.hbm, 78, rfl⟩
abbrev main_v64 : Ref sig .tc := ⟨.hbm, 79, rfl⟩
abbrev main_v65 : Ref sig .tc := ⟨.hbm, 80, rfl⟩
abbrev main_cst_6 : Ref sig .tc := ⟨.hbm, 81, rfl⟩
abbrev main_v66 : Ref sig .tc := ⟨.hbm, 82, rfl⟩
abbrev main_v67 : Ref sig .tc := ⟨.hbm, 83, rfl⟩
abbrev main_cst_7 : Ref sig .tc := ⟨.hbm, 84, rfl⟩
abbrev main_v68 : Ref sig .tc := ⟨.hbm, 85, rfl⟩
abbrev main_v69 : Ref sig .tc := ⟨.hbm, 86, rfl⟩
abbrev main_v70 : Ref sig .tc := ⟨.hbm, 87, rfl⟩
abbrev main_v71 : Ref sig .tc := ⟨.hbm, 88, rfl⟩
abbrev main_v72 : Ref sig .tc := ⟨.hbm, 89, rfl⟩
abbrev main_v73 : Ref sig .tc := ⟨.hbm, 90, rfl⟩
abbrev main_v74 : Ref sig .tc := ⟨.hbm, 91, rfl⟩
abbrev main_v75 : Ref sig .tc := ⟨.hbm, 92, rfl⟩
abbrev main_v76 : Ref sig .tc := ⟨.hbm, 93, rfl⟩
abbrev main_v77 : Ref sig .tc := ⟨.hbm, 94, rfl⟩
abbrev main_cst_8 : Ref sig .tc := ⟨.hbm, 95, rfl⟩
abbrev main_v78 : Ref sig .tc := ⟨.hbm, 96, rfl⟩
abbrev main_v79 : Ref sig .tc := ⟨.hbm, 97, rfl⟩
abbrev main_cst_9 : Ref sig .tc := ⟨.hbm, 98, rfl⟩
abbrev main_v80 : Ref sig .tc := ⟨.hbm, 99, rfl⟩
abbrev main_v81 : Ref sig .tc := ⟨.hbm, 100, rfl⟩
abbrev main_cst_10 : Ref sig .tc := ⟨.hbm, 101, rfl⟩
abbrev main_v82 : Ref sig .tc := ⟨.hbm, 102, rfl⟩
abbrev main_v83 : Ref sig .tc := ⟨.hbm, 103, rfl⟩
abbrev main_v84 : Ref sig .tc := ⟨.hbm, 104, rfl⟩
abbrev main_v85 : Ref sig .tc := ⟨.hbm, 105, rfl⟩
abbrev main_v86 : Ref sig .tc := ⟨.hbm, 106, rfl⟩
abbrev main_v87 : Ref sig .tc := ⟨.hbm, 107, rfl⟩
abbrev main_v88 : Ref sig .tc := ⟨.hbm, 108, rfl⟩
abbrev main_v89 : Ref sig .tc := ⟨.hbm, 109, rfl⟩
abbrev main_v90 : Ref sig .tc := ⟨.hbm, 110, rfl⟩
abbrev main_v91 : Ref sig .tc := ⟨.hbm, 111, rfl⟩
abbrev main_cst_11 : Ref sig .tc := ⟨.hbm, 112, rfl⟩
abbrev main_v92 : Ref sig .tc := ⟨.hbm, 113, rfl⟩
abbrev main_v93 : Ref sig .tc := ⟨.hbm, 114, rfl⟩
abbrev main_cst_12 : Ref sig .tc := ⟨.hbm, 115, rfl⟩
abbrev main_v94 : Ref sig .tc := ⟨.hbm, 116, rfl⟩
abbrev main_v95 : Ref sig .tc := ⟨.hbm, 117, rfl⟩
abbrev main_v96 : Ref sig .tc := ⟨.hbm, 118, rfl⟩
abbrev main_v97 : Ref sig .tc := ⟨.hbm, 119, rfl⟩
abbrev main_cst_13 : Ref sig .tc := ⟨.hbm, 120, rfl⟩
abbrev main_v98 : Ref sig .tc := ⟨.hbm, 121, rfl⟩
abbrev main_v99 : Ref sig .tc := ⟨.hbm, 122, rfl⟩
abbrev main_cst_14 : Ref sig .tc := ⟨.hbm, 123, rfl⟩
abbrev main_v100 : Ref sig .tc := ⟨.hbm, 124, rfl⟩
abbrev main_v101 : Ref sig .tc := ⟨.hbm, 125, rfl⟩
abbrev main_v102 : Ref sig .tc := ⟨.hbm, 126, rfl⟩
abbrev main_v103 : Ref sig .tc := ⟨.hbm, 127, rfl⟩
abbrev main_cst_15 : Ref sig .tc := ⟨.hbm, 128, rfl⟩
abbrev main_v104 : Ref sig .tc := ⟨.hbm, 129, rfl⟩
abbrev main_v105 : Ref sig .tc := ⟨.hbm, 130, rfl⟩
abbrev main_cst_16 : Ref sig .tc := ⟨.hbm, 131, rfl⟩
abbrev main_v106 : Ref sig .tc := ⟨.hbm, 132, rfl⟩
abbrev main_v107 : Ref sig .tc := ⟨.hbm, 133, rfl⟩
abbrev main_v108 : Ref sig .tc := ⟨.hbm, 134, rfl⟩
abbrev main_v109 : Ref sig .tc := ⟨.hbm, 135, rfl⟩
abbrev main_cst_17 : Ref sig .tc := ⟨.hbm, 136, rfl⟩
abbrev main_v110 : Ref sig .tc := ⟨.hbm, 137, rfl⟩
abbrev main_v111 : Ref sig .tc := ⟨.hbm, 138, rfl⟩
abbrev main_cst_18 : Ref sig .tc := ⟨.hbm, 139, rfl⟩
abbrev main_v112 : Ref sig .tc := ⟨.hbm, 140, rfl⟩
abbrev main_v113 : Ref sig .tc := ⟨.hbm, 141, rfl⟩
abbrev main_v114 : Ref sig .tc := ⟨.hbm, 142, rfl⟩
abbrev main_v115 : Ref sig .tc := ⟨.hbm, 143, rfl⟩
abbrev main_v116 : Ref sig .tc := ⟨.hbm, 144, rfl⟩
abbrev main_v117 : Ref sig .tc := ⟨.hbm, 145, rfl⟩
abbrev main_v118 : Ref sig .tc := ⟨.hbm, 146, rfl⟩
abbrev main_v119 : Ref sig .tc := ⟨.hbm, 147, rfl⟩
abbrev main_v120 : Ref sig .tc := ⟨.hbm, 148, rfl⟩
abbrev main_v121 : Ref sig .tc := ⟨.hbm, 149, rfl⟩
abbrev main_v122 : Ref sig .tc := ⟨.hbm, 150, rfl⟩
abbrev main_v123 : Ref sig .tc := ⟨.hbm, 151, rfl⟩
abbrev main_v124 : Ref sig .tc := ⟨.hbm, 152, rfl⟩
abbrev main_v125 : Ref sig .tc := ⟨.hbm, 153, rfl⟩

abbrev nD : Nat := 1
abbrev τ : Topo := Topo.v7x

variable {F : FTy → Type} [FloatOps F]
-- ==== ActKernel.lean ====
abbrev S4096x4096 : Shape := ⟨2, ![4096, 4096]⟩
abbrev S4096x1024 : Shape := ⟨2, ![4096, 1024]⟩
abbrev S2048x1024 : Shape := ⟨2, ![2048, 1024]⟩
abbrev S1024x1024 : Shape := ⟨2, ![1024, 1024]⟩

abbrev nBuf : Space → Nat
  | .hbm => 4
  | .vmem => 8
  | .smem => 0
  | _ => 0

abbrev bufTy : (tb : Table) → Fin (tcTables nBuf tb) → BufTy
  | .hbm, ⟨0, _⟩ => ⟨S4096x4096, .f32⟩
  | .hbm, ⟨1, _⟩ => ⟨S4096x1024, .bf16⟩
  | .hbm, ⟨2, _⟩ => ⟨S4096x1024, .bf16⟩
  | .hbm, ⟨3, _⟩ => ⟨S4096x4096, .bf16⟩
  | .local _ .vmem, ⟨0, _⟩ => ⟨S2048x1024, .bf16⟩
  | .local _ .vmem, ⟨1, _⟩ => ⟨S2048x1024, .bf16⟩
  | .local _ .vmem, ⟨2, _⟩ => ⟨S1024x1024, .bf16⟩
  | .local _ .vmem, ⟨3, _⟩ => ⟨S1024x1024, .bf16⟩
  | .local _ .vmem, ⟨4, _⟩ => ⟨S2048x1024, .f32⟩
  | .local _ .vmem, ⟨5, _⟩ => ⟨S2048x1024, .f32⟩
  | .local _ .vmem, ⟨6, _⟩ => ⟨S2048x1024, .bf16⟩
  | .local _ .vmem, ⟨7, _⟩ => ⟨S2048x1024, .bf16⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![2, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S2048x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== ActReferenceIdeal.lean ====
abbrev S4096x4096 : Shape := ⟨2, ![4096, 4096]⟩
abbrev S4096x1024 : Shape := ⟨2, ![4096, 1024]⟩
abbrev S_ : Shape := ⟨0, ![]⟩

abbrev nBuf : Space → Nat
  | .hbm => 24
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x1024, .bf16⟩
  | .hbm, ⟨2, _⟩ => ⟨S4096x1024, .bf16⟩
  | .hbm, ⟨3, _⟩ => ⟨S_, .f32⟩
  | .hbm, ⟨4, _⟩ => ⟨S4096x4096, .f32⟩
  | .hbm, ⟨5, _⟩ => ⟨S4096x4096, .f32⟩
  | .hbm, ⟨6, _⟩ => ⟨S_, .f32⟩
  | .hbm, ⟨7, _⟩ => ⟨S4096x4096, .f32⟩
  | .hbm, ⟨8, _⟩ => ⟨S4096x4096, .i1⟩
  | .hbm, ⟨9, _⟩ => ⟨S_, .f32⟩
  | .hbm, ⟨10, _⟩ => ⟨S4096x4096, .f32⟩
  | .hbm, ⟨11, _⟩ => ⟨S4096x4096, .f32⟩
  | .hbm, ⟨12, _⟩ => ⟨S_, .f32⟩
  | .hbm, ⟨13, _⟩ => ⟨S4096x4096, .f32⟩
  | .hbm, ⟨14, _⟩ => ⟨S4096x4096, .f32⟩
  | .hbm, ⟨15, _⟩ => ⟨S4096x1024, .f32⟩
  | .hbm, ⟨16, _⟩ => ⟨S4096x1024, .f32⟩
  | .hbm, ⟨17, _⟩ => ⟨S4096x1024, .f32⟩
  | .hbm, ⟨18, _⟩ => ⟨S4096x4096, .f32⟩
  | .hbm, ⟨19, _⟩ => ⟨S4096x4096, .f32⟩
  | .hbm, ⟨20, _⟩ => ⟨S_, .f32⟩
  | .hbm, ⟨21, _⟩ => ⟨S4096x4096, .f32⟩
  | .hbm, ⟨22, _⟩ => ⟨S4096x4096, .f32⟩
  | .hbm, ⟨23, _⟩ => ⟨S4096x4096, .bf16⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_cst : Ref sig .tc := ⟨.hbm, 3, rfl⟩
abbrev main_call0_v0 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_2 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩

abbrev nD : Nat := 1
abbrev τ : Topo := Topo.v7x

variable {F : FTy → Type} [FloatOps F]
-- ==== Ff2Kernel.lean ====
abbrev S4096x4096 : Shape := ⟨2, ![4096, 4096]⟩
abbrev S4096x1024 : Shape := ⟨2, ![4096, 1024]⟩
abbrev S2048x1024 : Shape := ⟨2, ![2048, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x4096, .bf16⟩
  | .hbm, ⟨1, _⟩ => ⟨S4096x1024, .bf16⟩
  | .hbm, ⟨2, _⟩ => ⟨S4096x1024, .f32⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 2], ![false, false, false]⟩

def k0_cond3 (i : grid0.Coords) : BitVec 1 :=
  let arg2 : BitVec 32 := BitVec.ofNat 32 (i 2).val
  let c1_i32 : BitVec 32 := 1#32
  let v9 : BitVec 1 := Scalar.cmpi .eq arg2 c1_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Ff2ReferenceIdeal.lean ====
abbrev S4096x4096 : Shape := ⟨2, ![4096, 4096]⟩
abbrev S4096x1024 : Shape := ⟨2, ![4096, 1024]⟩
abbrev S_ : Shape := ⟨0, ![]⟩
abbrev S1024x4096 : Shape := ⟨2, ![1024, 4096]⟩

abbrev nBuf : Space → Nat
  | .hbm => 9
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S4096x1024, .bf16⟩
  | .hbm, ⟨2, _⟩ => ⟨S_, .f32⟩
  | .hbm, ⟨3, _⟩ => ⟨S4096x1024, .f32⟩
  | .hbm, ⟨4, _⟩ => ⟨S4096x4096, .f32⟩
  | .hbm, ⟨5, _⟩ => ⟨S4096x1024, .f32⟩
  | .hbm, ⟨6, _⟩ => ⟨S4096x1024, .f32⟩
  | .hbm, ⟨7, _⟩ => ⟨S1024x4096, .f32⟩
  | .hbm, ⟨8, _⟩ => ⟨S4096x1024, .f32⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Ff1Kernel.lean ====
abbrev S4096x1024 : Shape := ⟨2, ![4096, 1024]⟩
abbrev S4096x4096 : Shape := ⟨2, ![4096, 4096]⟩
abbrev S1024x4096 : Shape := ⟨2, ![1024, 4096]⟩
abbrev S2048x1024 : Shape := ⟨2, ![2048, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x1024, .bf16⟩
  | .hbm, ⟨1, _⟩ => ⟨S4096x4096, .bf16⟩
  | .hbm, ⟨2, _⟩ => ⟨S1024x4096, .f32⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 4, 2], ![false, false, false]⟩

def k0_cond3 (i : grid0.Coords) : BitVec 1 :=
  let arg2 : BitVec 32 := BitVec.ofNat 32 (i 2).val
  let c1_i32 : BitVec 32 := 1#32
  let v9 : BitVec 1 := Scalar.cmpi .eq arg2 c1_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Ff1ReferenceIdeal.lean ====
abbrev S4096x1024 : Shape := ⟨2, ![4096, 1024]⟩
abbrev S4096x4096 : Shape := ⟨2, ![4096, 4096]⟩
abbrev S_ : Shape := ⟨0, ![]⟩
abbrev S1024x4096 : Shape := ⟨2, ![1024, 4096]⟩

abbrev nBuf : Space → Nat
  | .hbm => 9
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x4096, .bf16⟩
  | .hbm, ⟨2, _⟩ => ⟨S_, .f32⟩
  | .hbm, ⟨3, _⟩ => ⟨S1024x4096, .f32⟩
  | .hbm, ⟨4, _⟩ => ⟨S4096x1024, .f32⟩
  | .hbm, ⟨5, _⟩ => ⟨S4096x4096, .f32⟩
  | .hbm, ⟨6, _⟩ => ⟨S4096x4096, .f32⟩
  | .hbm, ⟨7, _⟩ => ⟨S4096x1024, .f32⟩
  | .hbm, ⟨8, _⟩ => ⟨S1024x4096, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== WinKernel.lean ====
abbrev S4096x1024 : Shape := ⟨2, ![4096, 1024]⟩
abbrev S4096x10752 : Shape := ⟨2, ![4096, 10752]⟩
abbrev S1024x10752 : Shape := ⟨2, ![1024, 10752]⟩
abbrev S2048x1024 : Shape := ⟨2, ![2048, 1024]⟩
abbrev S2048x1536 : Shape := ⟨2, ![2048, 1536]⟩
abbrev S1024x1536 : Shape := ⟨2, ![1024, 1536]⟩

abbrev nBuf : Space → Nat
  | .hbm => 3
  | .vmem => 7
  | .smem => 0
  | _ => 0

abbrev bufTy : (tb : Table) → Fin (tcTables nBuf tb) → BufTy
  | .hbm, ⟨0, _⟩ => ⟨S4096x1024, .bf16⟩
  | .hbm, ⟨1, _⟩ => ⟨S4096x10752, .bf16⟩
  | .hbm, ⟨2, _⟩ => ⟨S1024x10752, .f32⟩
  | .local _ .vmem, ⟨0, _⟩ => ⟨S2048x1024, .bf16⟩
  | .local _ .vmem, ⟨1, _⟩ => ⟨S2048x1024, .bf16⟩
  | .local _ .vmem, ⟨2, _⟩ => ⟨S2048x1536, .bf16⟩
  | .local _ .vmem, ⟨3, _⟩ => ⟨S2048x1536, .bf16⟩
  | .local _ .vmem, ⟨4, _⟩ => ⟨S1024x1536, .f32⟩
  | .local _ .vmem, ⟨5, _⟩ => ⟨S1024x1536, .f32⟩
  | .local _ .vmem, ⟨6, _⟩ => ⟨S1024x1536, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 7, 2], ![false, false, false]⟩

def k0_cond3 (i : grid0.Coords) : BitVec 1 :=
  let arg2 : BitVec 32 := BitVec.ofNat 32 (i 2).val
  let c1_i32 : BitVec 32 := 1#32
  let v9 : BitVec 1 := Scalar.cmpi .eq arg2 c1_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1536 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== WinReferenceIdeal.lean ====
abbrev S4096x1024 : Shape := ⟨2, ![4096, 1024]⟩
abbrev S4096x10752 : Shape := ⟨2, ![4096, 10752]⟩
abbrev S_ : Shape := ⟨0, ![]⟩
abbrev S1024x10752 : Shape := ⟨2, ![1024, 10752]⟩
abbrev S10752x1024 : Shape := ⟨2, ![10752, 1024]⟩

abbrev nBuf : Space → Nat
  | .hbm => 9
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x10752, .bf16⟩
  | .hbm, ⟨2, _⟩ => ⟨S_, .f32⟩
  | .hbm, ⟨3, _⟩ => ⟨S1024x10752, .f32⟩
  | .hbm, ⟨4, _⟩ => ⟨S4096x1024, .f32⟩
  | .hbm, ⟨5, _⟩ => ⟨S4096x10752, .f32⟩
  | .hbm, ⟨6, _⟩ => ⟨S4096x10752, .f32⟩
  | .hbm, ⟨7, _⟩ => ⟨S10752x1024, .f32⟩
  | .hbm, ⟨8, _⟩ => ⟨S1024x10752, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Dh1Kernel.lean ====
abbrev S4096x10752 : Shape := ⟨2, ![4096, 10752]⟩
abbrev S1024x10752 : Shape := ⟨2, ![1024, 10752]⟩
abbrev S4096x1024 : Shape := ⟨2, ![4096, 1024]⟩
abbrev S1x1024 : Shape := ⟨2, ![1, 1024]⟩
abbrev S1024x1536 : Shape := ⟨2, ![1024, 1536]⟩
abbrev S1024x1024 : Shape := ⟨2, ![1024, 1024]⟩
abbrev S1024 : Shape := ⟨1, ![1024]⟩
abbrev S1024x1 : Shape := ⟨2, ![1024, 1]⟩

abbrev nBuf : Space → Nat
  | .hbm => 7
  | .vmem => 13
  | .smem => 0
  | _ => 0

abbrev bufTy : (tb : Table) → Fin (tcTables nBuf tb) → BufTy
  | .hbm, ⟨0, _⟩ => ⟨S4096x10752, .bf16⟩
  | .hbm, ⟨1, _⟩ => ⟨S1024x10752, .bf16⟩
  | .hbm, ⟨2, _⟩ => ⟨S4096x1024, .f32⟩
  | .hbm, ⟨3, _⟩ => ⟨S4096x1024, .f32⟩
  | .hbm, ⟨4, _⟩ => ⟨S1x1024, .f32⟩
  | .hbm, ⟨5, _⟩ => ⟨S4096x1024, .f32⟩
  | .hbm, ⟨6, _⟩ => ⟨S1x1024, .f32⟩
  | .local _ .vmem, ⟨0, _⟩ => ⟨S1024x1536, .bf16⟩
  | .local _ .vmem, ⟨1, _⟩ => ⟨S1024x1536, .bf16⟩
  | .local _ .vmem, ⟨2, _⟩ => ⟨S1024x1536, .bf16⟩
  | .local _ .vmem, ⟨3, _⟩ => ⟨S1024x1536, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S1x1024, .f32⟩
  | .local _ .vmem, ⟨9, _⟩ => ⟨S1024x1024, .f32⟩
  | .local _ .vmem, ⟨10, _⟩ => ⟨S1024x1024, .f32⟩
  | .local _ .vmem, ⟨11, _⟩ => ⟨S1x1024, .f32⟩
  | .local _ .vmem, ⟨12, _⟩ => ⟨S1024x1024, .f32⟩
  | _, _ => ⟨S4096x10752, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11

abbrev nD : Nat := 1
abbrev τ : Topo := Topo.v7x

variable {F : FTy → Type} [FloatOps F]

abbrev grid0 : Pipeline.Grid := ⟨3, ![4, 1, 7], ![false, false, false]⟩

def k0_cond3 (i : grid0.Coords) : BitVec 1 :=
  let arg2 : BitVec 32 := BitVec.ofNat 32 (i 2).val
  let c6_i32 : BitVec 32 := 6#32
  let v9 : BitVec 1 := Scalar.cmpi .eq arg2 c6_i32
  let v10 : BitVec 32 := Scalar.extui v9
  let c0_i32_6 : BitVec 32 := 0#32
  let v11 : BitVec 1 := Scalar.cmpi .ne v10 c0_i32_6
  v11

def k0_cond4 (i : grid0.Coords) : BitVec 1 :=
  let arg0 : BitVec 32 := BitVec.ofNat 32 (i 0).val
  let c0_i32_23 : BitVec 32 := 0#32
  let v43 : BitVec 1 := Scalar.cmpi .eq arg0 c0_i32_23
  let v44 : BitVec 32 := Scalar.extui v43
  let c0_i32_24 : BitVec 32 := 0#32
  let v45 : BitVec 1 := Scalar.cmpi .ne v44 c0_i32_24
  v45

def k0_cond5 (i : grid0.Coords) : BitVec 1 :=
  let arg0 : BitVec 32 := BitVec.ofNat 32 (i 0).val
  let c0_i32_25 : BitVec 32 := 0#32
  let v46 : BitVec 1 := Scalar.cmpi .sgt arg0 c0_i32_25
  let v47 : BitVec 32 := Scalar.extui v46
  let c0_i32_26 : BitVec 32 := 0#32
  let v48 : BitVec 1 := Scalar.cmpi .ne v47 c0_i32_26
  v48

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

abbrev stage0_0 : Fin 2 → Memref sig .tc .vmem S1024x1536 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1536 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, true, false]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, true, false]
-- ==== Dh1ReferenceIdeal.lean ====
abbrev S4096x10752 : Shape := ⟨2, ![4096, 10752]⟩
abbrev S1024x10752 : Shape := ⟨2, ![1024, 10752]⟩
abbrev S4096x1024 : Shape := ⟨2, ![4096, 1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩
abbrev S1024 : Shape := ⟨1, ![1024]⟩

abbrev nBuf : Space → Nat
  | .hbm => 52
  | .vmem => 0
  | .smem => 0
  | _ => 0

abbrev bufTy : (tb : Table) → Fin (tcTables nBuf tb) → BufTy
  | .hbm, ⟨0, _⟩ => ⟨S4096x10752, .bf16⟩
  | .hbm, ⟨1, _⟩ => ⟨S1024x10752, .bf16⟩
  | .hbm, ⟨2, _⟩ => ⟨S4096x1024, .f32⟩
  | .hbm, ⟨3, _⟩ => ⟨S4096x1024, .f32⟩
  | .hbm, ⟨4, _⟩ => ⟨S1x1024, .f32⟩
  | .hbm, ⟨5, _⟩ => ⟨S4096x1024, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S_, .f32⟩
  | .hbm, ⟨18, _⟩ => ⟨S4096x1, .f32⟩
  | .hbm, ⟨19, _⟩ => ⟨S4096x1, .f32⟩
  | .hbm, ⟨20, _⟩ => ⟨S4096x1024, .f32⟩
  | .hbm, ⟨21, _⟩ => ⟨S4096x1024, .f32⟩
  | .hbm, ⟨22, _⟩ => ⟨S4096x1024, .f32⟩
  | .hbm, ⟨23, _⟩ => ⟨S4096x1024, .f32⟩
  | .hbm, ⟨24, _⟩ => ⟨S1024x10752, .f32⟩
  | .hbm, ⟨25, _⟩ => ⟨S4096x10752, .f32⟩
  | .hbm, ⟨26, _⟩ => ⟨S4096x10752, .f32⟩
  | .hbm, ⟨27, _⟩ => ⟨S4096x1024, .f32⟩
  | .hbm, ⟨28, _⟩ => ⟨S4096x1024, .f32⟩
  | .hbm, ⟨29, _⟩ => ⟨S_, .f32⟩
  | .hbm, ⟨30, _⟩ => ⟨S1024, .f32⟩
  | .hbm, ⟨31, _⟩ => ⟨S1x1024, .f32⟩
  | .hbm, ⟨32, _⟩ => ⟨S4096x1024, .f32⟩
  | .hbm, ⟨33, _⟩ => ⟨S4096x1024, .f32⟩
  | .hbm, ⟨34, _⟩ => ⟨S4096x1024, .f32⟩
  | .hbm, ⟨35, _⟩ => ⟨S_, .f32⟩
  | .hbm, ⟨36, _⟩ => ⟨S4096, .f32⟩
  | .hbm, ⟨37, _⟩ => ⟨S4096x1, .f32⟩
  | .hbm, ⟨38, _⟩ => ⟨S4096x1024, .f32⟩
  | .hbm, ⟨39, _⟩ => ⟨S4096x1024, .f32⟩
  | .hbm, ⟨40, _⟩ => ⟨S4096x1024, .f32⟩
  | .hbm, ⟨41, _⟩ => ⟨S4096x1, .f32⟩
  | .hbm, ⟨42, _⟩ => ⟨S_, .f32⟩
  | .hbm, ⟨43, _⟩ => ⟨S4096x1, .f32⟩
  | .hbm, ⟨44, _⟩ => ⟨S4096x1, .f32⟩
  | .hbm, ⟨45, _⟩ => ⟨S_, .f32⟩
  | .hbm, ⟨46, _⟩ => ⟨S4096, .f32⟩
  | .hbm, ⟨47, _⟩ => ⟨S4096x1024, .f32⟩
  | .hbm, ⟨48, _⟩ => ⟨S4096x1024, .f32⟩
  | .hbm, ⟨49, _⟩ => ⟨S4096x1024, .f32⟩
  | .hbm, ⟨50, _⟩ => ⟨S4096x1024, .f32⟩
  | .hbm, ⟨51, _⟩ => ⟨S4096x1024, .f32⟩
  | _, _ => ⟨S4096x10752, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_3 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_4 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_cst_5 : Ref sig .tc := ⟨.hbm, 42, rfl⟩
abbrev main_v31 : Ref sig .tc := ⟨.hbm, 43, rfl⟩
abbrev main_v32 : Ref sig .tc := ⟨.hbm, 44, rfl⟩
abbrev main_cst_6 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩

abbrev nD : Nat := 1
abbrev τ : Topo := Topo.v7x

variable {F : FTy → Type} [FloatOps F]
-- ==== Dh3Kernel.lean ====
abbrev S4096x4096 : Shape := ⟨2, ![4096, 4096]⟩
abbrev S1024x4096 : Shape := ⟨2, ![1024, 4096]⟩
abbrev S4096x1024 : Shape := ⟨2, ![4096, 1024]⟩
abbrev S1x1024 : Shape := ⟨2, ![1, 1024]⟩
abbrev S1024x2048 : Shape := ⟨2, ![1024, 2048]⟩
abbrev S1024x1024 : Shape := ⟨2, ![1024, 1024]⟩
abbrev S1024 : Shape := ⟨1, ![1024]⟩
abbrev S1024x1 : Shape := ⟨2, ![1024, 1]⟩

abbrev nBuf : Space → Nat
  | .hbm => 7
  | .vmem => 13
  | .smem => 0
  | _ => 0

abbrev bufTy : (tb : Table) → Fin (tcTables nBuf tb) → BufTy
  | .hbm, ⟨0, _⟩ => ⟨S4096x4096, .bf16⟩
  | .hbm, ⟨1, _⟩ => ⟨S1024x4096, .bf16⟩
  | .hbm, ⟨2, _⟩ => ⟨S4096x1024, .f32⟩
  | .hbm, ⟨3, _⟩ => ⟨S4096x1024, .f32⟩
  | .hbm, ⟨4, _⟩ => ⟨S1x1024, .f32⟩
  | .hbm, ⟨5, _⟩ => ⟨S4096x1024, .f32⟩
  | .hbm, ⟨6, _⟩ => ⟨S1x1024, .f32⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S1x1024, .f32⟩
  | .local _ .vmem, ⟨9, _⟩ => ⟨S1024x1024, .f32⟩
  | .local _ .vmem, ⟨10, _⟩ => ⟨S1024x1024, .f32⟩
  | .local _ .vmem, ⟨11, _⟩ => ⟨S1x1024, .f32⟩
  | .local _ .vmem, ⟨12, _⟩ => ⟨S1024x1024, .f32⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11

abbrev nD : Nat := 1
abbrev τ : Topo := Topo.v7x

variable {F : FTy → Type} [FloatOps F]

abbrev grid0 : Pipeline.Grid := ⟨3, ![4, 1, 2], ![false, false, false]⟩

def k0_cond3 (i : grid0.Coords) : BitVec 1 :=
  let arg2 : BitVec 32 := BitVec.ofNat 32 (i 2).val
  let c1_i32 : BitVec 32 := 1#32
  let v9 : BitVec 1 := Scalar.cmpi .eq arg2 c1_i32
  let v10 : BitVec 32 := Scalar.extui v9
  let c0_i32_6 : BitVec 32 := 0#32
  let v11 : BitVec 1 := Scalar.cmpi .ne v10 c0_i32_6
  v11

def k0_cond4 (i : grid0.Coords) : BitVec 1 :=
  let arg0 : BitVec 32 := BitVec.ofNat 32 (i 0).val
  let c0_i32_23 : BitVec 32 := 0#32
  let v43 : BitVec 1 := Scalar.cmpi .eq arg0 c0_i32_23
  let v44 : BitVec 32 := Scalar.extui v43
  let c0_i32_24 : BitVec 32 := 0#32
  let v45 : BitVec 1 := Scalar.cmpi .ne v44 c0_i32_24
  v45

def k0_cond5 (i : grid0.Coords) : BitVec 1 :=
  let arg0 : BitVec 32 := BitVec.ofNat 32 (i 0).val
  let c0_i32_25 : BitVec 32 := 0#32
  let v46 : BitVec 1 := Scalar.cmpi .sgt arg0 c0_i32_25
  let v47 : BitVec 32 := Scalar.extui v46
  let c0_i32_26 : BitVec 32 := 0#32
  let v48 : BitVec 1 := Scalar.cmpi .ne v47 c0_i32_26
  v48

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, true, false]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, true, false]
-- ==== Dh3ReferenceIdeal.lean ====
abbrev S4096x4096 : Shape := ⟨2, ![4096, 4096]⟩
abbrev S1024x4096 : Shape := ⟨2, ![1024, 4096]⟩
abbrev S4096x1024 : Shape := ⟨2, ![4096, 1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩
abbrev S1024 : Shape := ⟨1, ![1024]⟩

abbrev nBuf : Space → Nat
  | .hbm => 52
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S1024x4096, .bf16⟩
  | .hbm, ⟨2, _⟩ => ⟨S4096x1024, .f32⟩
  | .hbm, ⟨3, _⟩ => ⟨S4096x1024, .f32⟩
  | .hbm, ⟨4, _⟩ => ⟨S1x1024, .f32⟩
  | .hbm, ⟨5, _⟩ => ⟨S4096x1024, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S_, .f32⟩
  | .hbm, ⟨18, _⟩ => ⟨S4096x1, .f32⟩
  | .hbm, ⟨19, _⟩ => ⟨S4096x1, .f32⟩
  | .hbm, ⟨20, _⟩ => ⟨S4096x1024, .f32⟩
  | .hbm, ⟨21, _⟩ => ⟨S4096x1024, .f32⟩
  | .hbm, ⟨22, _⟩ => ⟨S4096x1024, .f32⟩
  | .hbm, ⟨23, _⟩ => ⟨S4096x1024, .f32⟩
  | .hbm, ⟨24, _⟩ => ⟨S1024x4096, .f32⟩
  | .hbm, ⟨25, _⟩ => ⟨S4096x4096, .f32⟩
  | .hbm, ⟨26, _⟩ => ⟨S4096x4096, .f32⟩
  | .hbm, ⟨27, _⟩ => ⟨S4096x1024, .f32⟩
  | .hbm, ⟨28, _⟩ => ⟨S4096x1024, .f32⟩
  | .hbm, ⟨29, _⟩ => ⟨S_, .f32⟩
  | .hbm, ⟨30, _⟩ => ⟨S1024, .f32⟩
  | .hbm, ⟨31, _⟩ => ⟨S1x1024, .f32⟩
  | .hbm, ⟨32, _⟩ => ⟨S4096x1024, .f32⟩
  | .hbm, ⟨33, _⟩ => ⟨S4096x1024, .f32⟩
  | .hbm, ⟨34, _⟩ => ⟨S4096x1024, .f32⟩
  | .hbm, ⟨35, _⟩ => ⟨S_, .f32⟩
  | .hbm, ⟨36, _⟩ => ⟨S4096, .f32⟩
  | .hbm, ⟨37, _⟩ => ⟨S4096x1, .f32⟩
  | .hbm, ⟨38, _⟩ => ⟨S4096x1024, .f32⟩
  | .hbm, ⟨39, _⟩ => ⟨S4096x1024, .f32⟩
  | .hbm, ⟨40, _⟩ => ⟨S4096x1024, .f32⟩
  | .hbm, ⟨41, _⟩ => ⟨S4096x1, .f32⟩
  | .hbm, ⟨42, _⟩ => ⟨S_, .f32⟩
  | .hbm, ⟨43, _⟩ => ⟨S4096x1, .f32⟩
  | .hbm, ⟨44, _⟩ => ⟨S4096x1, .f32⟩
  | .hbm, ⟨45, _⟩ => ⟨S_, .f32⟩
  | .hbm, ⟨46, _⟩ => ⟨S4096, .f32⟩
  | .hbm, ⟨47, _⟩ => ⟨S4096x1024, .f32⟩
  | .hbm, ⟨48, _⟩ => ⟨S4096x1024, .f32⟩
  | .hbm, ⟨49, _⟩ => ⟨S4096x1024, .f32⟩
  | .hbm, ⟨50, _⟩ => ⟨S4096x1024, .f32⟩
  | .hbm, ⟨51, _⟩ => ⟨S4096x1024, .f32⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_3 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_4 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_cst_5 : Ref sig .tc := ⟨.hbm, 42, rfl⟩
abbrev main_v31 : Ref sig .tc := ⟨.hbm, 43, rfl⟩
abbrev main_v32 : Ref sig .tc := ⟨.hbm, 44, rfl⟩
abbrev main_cst_6 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩

abbrev nD : Nat := 1
abbrev τ : Topo := Topo.v7x

variable {F : FTy → Type} [FloatOps F]
-- ==== RmsKernel.lean ====
abbrev S4096x1024 : Shape := ⟨2, ![4096, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩
abbrev S1024 : Shape := ⟨1, ![1024]⟩

abbrev nBuf : Space → Nat
  | .hbm => 5
  | .vmem => 8
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S4096x1024, .f32⟩
  | .hbm, ⟨3, _⟩ => ⟨S4096x1024, .bf16⟩
  | .hbm, ⟨4, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .bf16⟩
  | .local _ .vmem, ⟨6, _⟩ => ⟨S512x1024, .bf16⟩
  | .local _ .vmem, ⟨7, _⟩ => ⟨S1x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32 : BitVec 32 := 0#32
  let v30 : BitVec 1 := Scalar.cmpi .eq arg0 c0_i32
  let v31 : BitVec 32 := Scalar.extui v30
  let c0_i32_12 : BitVec 32 := 0#32
  let v32 : BitVec 1 := Scalar.cmpi .ne v31 c0_i32_12
  v32

def k0_cond2 (i : grid0.Coords) : BitVec 1 :=
  let arg0 : BitVec 32 := BitVec.ofNat 32 (i 0).val
  let c0_i32_13 : BitVec 32 := 0#32
  let v33 : BitVec 1 := Scalar.cmpi .sgt arg0 c0_i32_13
  let v34 : BitVec 32 := Scalar.extui v33
  let c0_i32_14 : BitVec 32 := 0#32
  let v35 : BitVec 1 := Scalar.cmpi .ne v34 c0_i32_14
  v35

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== RmsReferenceIdeal.lean ====
abbrev S4096x1024 : Shape := ⟨2, ![4096, 1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩
abbrev S1024 : Shape := ⟨1, ![1024]⟩

abbrev nBuf : Space → Nat
  | .hbm => 46
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S4096x1024, .f32⟩
  | .hbm, ⟨3, _⟩ => ⟨S4096x1024, .f32⟩
  | .hbm, ⟨4, _⟩ => ⟨S_, .f32⟩
  | .hbm, ⟨5, _⟩ => ⟨S4096, .f32⟩
  | .hbm, ⟨6, _⟩ => ⟨S4096x1, .f32⟩
  | .hbm, ⟨7, _⟩ => ⟨S_, .f32⟩
  | .hbm, ⟨8, _⟩ => ⟨S4096x1, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S4096x1, .f32⟩
  | .hbm, ⟨14, _⟩ => ⟨S4096x1, .f32⟩
  | .hbm, ⟨15, _⟩ => ⟨S_, .f32⟩
  | .hbm, ⟨16, _⟩ => ⟨S4096x1, .f32⟩
  | .hbm, ⟨17, _⟩ => ⟨S4096x1, .f32⟩
  | .hbm, ⟨18, _⟩ => ⟨S4096x1024, .f32⟩
  | .hbm, ⟨19, _⟩ => ⟨S4096x1024, .f32⟩
  | .hbm, ⟨20, _⟩ => ⟨S4096x1024, .f32⟩
  | .hbm, ⟨21, _⟩ => ⟨S4096x1024, .f32⟩
  | .hbm, ⟨22, _⟩ => ⟨S4096x1024, .f32⟩
  | .hbm, ⟨23, _⟩ => ⟨S_, .f32⟩
  | .hbm, ⟨24, _⟩ => ⟨S1024, .f32⟩
  | .hbm, ⟨25, _⟩ => ⟨S1x1024, .f32⟩
  | .hbm, ⟨26, _⟩ => ⟨S4096x1024, .f32⟩
  | .hbm, ⟨27, _⟩ => ⟨S4096x1024, .f32⟩
  | .hbm, ⟨28, _⟩ => ⟨S4096x1024, .f32⟩
  | .hbm, ⟨29, _⟩ => ⟨S_, .f32⟩
  | .hbm, ⟨30, _⟩ => ⟨S4096, .f32⟩
  | .hbm, ⟨31, _⟩ => ⟨S4096x1, .f32⟩
  | .hbm, ⟨32, _⟩ => ⟨S4096x1024, .f32⟩
  | .hbm, ⟨33, _⟩ => ⟨S4096x1024, .f32⟩
  | .hbm, ⟨34, _⟩ => ⟨S4096x1, .f32⟩
  | .hbm, ⟨35, _⟩ => ⟨S_, .f32⟩
  | .hbm, ⟨36, _⟩ => ⟨S4096x1, .f32⟩
  | .hbm, ⟨37, _⟩ => ⟨S4096x1, .f32⟩
  | .hbm, ⟨38, _⟩ => ⟨S_, .f32⟩
  | .hbm, ⟨39, _⟩ => ⟨S4096, .f32⟩
  | .hbm, ⟨40, _⟩ => ⟨S4096x1024, .f32⟩
  | .hbm, ⟨41, _⟩ => ⟨S4096x1024, .f32⟩
  | .hbm, ⟨42, _⟩ => ⟨S4096x1024, .f32⟩
  | .hbm, ⟨43, _⟩ => ⟨S4096x1024, .f32⟩
  | .hbm, ⟨44, _⟩ => ⟨S4096x1024, .f32⟩
  | .hbm, ⟨45, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_cst_3 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_cst_4 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_cst_5 : Ref sig .tc := ⟨.hbm, 35, rfl⟩
abbrev main_v26 : Ref sig .tc := ⟨.hbm, 36, rfl⟩
abbrev main_v27 : Ref sig .tc := ⟨.hbm, 37, rfl⟩
abbrev main_cst_6 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩

abbrev nD : Nat := 1
abbrev τ : Topo := Topo.v7x

variable {F : FTy → Type} [FloatOps F]
-- ==== PjKernel.lean ====
abbrev S4096x1024 : Shape := ⟨2, ![4096, 1024]⟩
abbrev S1024x10752 : Shape := ⟨2, ![1024, 10752]⟩
abbrev S4096x10752 : Shape := ⟨2, ![4096, 10752]⟩
abbrev S2048x1024 : Shape := ⟨2, ![2048, 1024]⟩
abbrev S1024x1536 : Shape := ⟨2, ![1024, 1536]⟩
abbrev S2048x1536 : Shape := ⟨2, ![2048, 1536]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S1024x10752, .bf16⟩
  | .hbm, ⟨2, _⟩ => ⟨S4096x10752, .f32⟩
  | .local _ .vmem, ⟨0, _⟩ => ⟨S2048x1024, .bf16⟩
  | .local _ .vmem, ⟨1, _⟩ => ⟨S2048x1024, .bf16⟩
  | .local _ .vmem, ⟨2, _⟩ => ⟨S1024x1536, .bf16⟩
  | .local _ .vmem, ⟨3, _⟩ => ⟨S1024x1536, .bf16⟩
  | .local _ .vmem, ⟨4, _⟩ => ⟨S2048x1536, .f32⟩
  | .local _ .vmem, ⟨5, _⟩ => ⟨S2048x1536, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 7, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1536 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== PjReferenceIdeal.lean ====
abbrev S4096x1024 : Shape := ⟨2, ![4096, 1024]⟩
abbrev S1024x10752 : Shape := ⟨2, ![1024, 10752]⟩
abbrev S4096x10752 : Shape := ⟨2, ![4096, 10752]⟩

abbrev nBuf : Space → Nat
  | .hbm => 5
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x10752, .bf16⟩
  | .hbm, ⟨2, _⟩ => ⟨S4096x1024, .f32⟩
  | .hbm, ⟨3, _⟩ => ⟨S1024x10752, .f32⟩
  | .hbm, ⟨4, _⟩ => ⟨S4096x10752, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== UpKernel.lean ====
abbrev S4096x1024 : Shape := ⟨2, ![4096, 1024]⟩
abbrev S1024x4096 : Shape := ⟨2, ![1024, 4096]⟩
abbrev S4096x4096 : Shape := ⟨2, ![4096, 4096]⟩
abbrev S2048x1024 : Shape := ⟨2, ![2048, 1024]⟩
abbrev S1024x1024 : Shape := ⟨2, ![1024, 1024]⟩

abbrev nBuf : Space → Nat
  | .hbm => 4
  | .vmem => 8
  | .smem => 0
  | _ => 0

abbrev bufTy : (tb : Table) → Fin (tcTables nBuf tb) → BufTy
  | .hbm, ⟨0, _⟩ => ⟨S4096x1024, .bf16⟩
  | .hbm, ⟨1, _⟩ => ⟨S1024x4096, .bf16⟩
  | .hbm, ⟨2, _⟩ => ⟨S4096x4096, .f32⟩
  | .hbm, ⟨3, _⟩ => ⟨S4096x4096, .bf16⟩
  | .local _ .vmem, ⟨0, _⟩ => ⟨S2048x1024, .bf16⟩
  | .local _ .vmem, ⟨1, _⟩ => ⟨S2048x1024, .bf16⟩
  | .local _ .vmem, ⟨2, _⟩ => ⟨S1024x1024, .bf16⟩
  | .local _ .vmem, ⟨3, _⟩ => ⟨S1024x1024, .bf16⟩
  | .local _ .vmem, ⟨4, _⟩ => ⟨S2048x1024, .f32⟩
  | .local _ .vmem, ⟨5, _⟩ => ⟨S2048x1024, .f32⟩
  | .local _ .vmem, ⟨6, _⟩ => ⟨S2048x1024, .bf16⟩
  | .local _ .vmem, ⟨7, _⟩ => ⟨S2048x1024, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![2, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S2048x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== UpReferenceIdeal.lean ====
abbrev S4096x1024 : Shape := ⟨2, ![4096, 1024]⟩
abbrev S1024x4096 : Shape := ⟨2, ![1024, 4096]⟩
abbrev S4096x4096 : Shape := ⟨2, ![4096, 4096]⟩
abbrev S_ : Shape := ⟨0, ![]⟩

abbrev nBuf : Space → Nat
  | .hbm => 10
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x4096, .bf16⟩
  | .hbm, ⟨2, _⟩ => ⟨S4096x1024, .f32⟩
  | .hbm, ⟨3, _⟩ => ⟨S1024x4096, .f32⟩
  | .hbm, ⟨4, _⟩ => ⟨S4096x4096, .f32⟩
  | .hbm, ⟨5, _⟩ => ⟨S_, .f32⟩
  | .hbm, ⟨6, _⟩ => ⟨S4096x4096, .f32⟩
  | .hbm, ⟨7, _⟩ => ⟨S4096x4096, .f32⟩
  | .hbm, ⟨8, _⟩ => ⟨S4096x4096, .f32⟩
  | .hbm, ⟨9, _⟩ => ⟨S4096x4096, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_call0_cst : Ref sig .tc := ⟨.hbm, 5, rfl⟩
abbrev main_call0_v0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩

abbrev nD : Nat := 1
abbrev τ : Topo := Topo.v7x

variable {F : FTy → Type} [FloatOps F]
-- ==== DnKernel.lean ====
abbrev S4096x4096 : Shape := ⟨2, ![4096, 4096]⟩
abbrev S4096x1024 : Shape := ⟨2, ![4096, 1024]⟩
abbrev S1x1024 : Shape := ⟨2, ![1, 1024]⟩
abbrev S1024x2048 : Shape := ⟨2, ![1024, 2048]⟩
abbrev S2048x1024 : Shape := ⟨2, ![2048, 1024]⟩
abbrev S1024x1024 : Shape := ⟨2, ![1024, 1024]⟩
abbrev S1024 : Shape := ⟨1, ![1024]⟩
abbrev S1024x1 : Shape := ⟨2, ![1024, 1]⟩

abbrev nBuf : Space → Nat
  | .hbm => 8
  | .vmem => 15
  | .smem => 0
  | _ => 0

abbrev bufTy : (tb : Table) → Fin (tcTables nBuf tb) → BufTy
  | .hbm, ⟨0, _⟩ => ⟨S4096x4096, .bf16⟩
  | .hbm, ⟨1, _⟩ => ⟨S4096x1024, .bf16⟩
  | .hbm, ⟨2, _⟩ => ⟨S4096x1024, .f32⟩
  | .hbm, ⟨3, _⟩ => ⟨S1x1024, .f32⟩
  | .hbm, ⟨4, _⟩ => ⟨S1x1024, .f32⟩
  | .hbm, ⟨5, _⟩ => ⟨S4096x1024, .f32⟩
  | .hbm, ⟨6, _⟩ => ⟨S4096x1024, .f32⟩
  | .hbm, ⟨7, _⟩ => ⟨S4096x1024, .bf16⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | .local _ .vmem, ⟨6, _⟩ => ⟨S1x1024, .f32⟩
  | .local _ .vmem, ⟨7, _⟩ => ⟨S1x1024, .f32⟩
  | .local _ .vmem, ⟨8, _⟩ => ⟨S1024x1024, .f32⟩
  | .local _ .vmem, ⟨9, _⟩ => ⟨S1024x1024, .f32⟩
  | .local _ .vmem, ⟨10, _⟩ => ⟨S1024x1024, .f32⟩
  | .local _ .vmem, ⟨11, _⟩ => ⟨S1024x1024, .f32⟩
  | .local _ .vmem, ⟨12, _⟩ => ⟨S1024x1024, .bf16⟩
  | .local _ .vmem, ⟨13, _⟩ => ⟨S1024x1024, .bf16⟩
  | .local _ .vmem, ⟨14, _⟩ => ⟨S1024x1024, .f32⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨3, ![4, 1, 2], ![false, false, false]⟩

def k0_cond3 (i : grid0.Coords) : BitVec 1 :=
  let arg2 : BitVec 32 := BitVec.ofNat 32 (i 2).val
  let c1_i32 : BitVec 32 := 1#32
  let v9 : BitVec 1 := Scalar.cmpi .eq arg2 c1_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, true, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, true, false]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 2 → Memref sig .tc .vmem S1024x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]

abbrev stage0_7 : Fin 2 → Memref sig .tc .vmem S1024x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, false]
-- ==== DnReferenceIdeal.lean ====
abbrev S4096x4096 : Shape := ⟨2, ![4096, 4096]⟩
abbrev S4096x1024 : Shape := ⟨2, ![4096, 1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩

abbrev nBuf : Space → Nat
  | .hbm => 40
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S4096x1024, .bf16⟩
  | .hbm, ⟨2, _⟩ => ⟨S4096x1024, .f32⟩
  | .hbm, ⟨3, _⟩ => ⟨S1x1024, .f32⟩
  | .hbm, ⟨4, _⟩ => ⟨S1x1024, .f32⟩
  | .hbm, ⟨5, _⟩ => ⟨S4096x4096, .f32⟩
  | .hbm, ⟨6, _⟩ => ⟨S4096x1024, .f32⟩
  | .hbm, ⟨7, _⟩ => ⟨S4096x1024, .f32⟩
  | .hbm, ⟨8, _⟩ => ⟨S4096x1024, .f32⟩
  | .hbm, ⟨9, _⟩ => ⟨S_, .f32⟩
  | .hbm, ⟨10, _⟩ => ⟨S4096, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S_, .f32⟩
  | .hbm, ⟨16, _⟩ => ⟨S4096x1, .f32⟩
  | .hbm, ⟨17, _⟩ => ⟨S4096x1, .f32⟩
  | .hbm, ⟨18, _⟩ => ⟨S4096x1, .f32⟩
  | .hbm, ⟨19, _⟩ => ⟨S4096x1024, .f32⟩
  | .hbm, ⟨20, _⟩ => ⟨S4096x1024, .f32⟩
  | .hbm, ⟨21, _⟩ => ⟨S4096x1024, .f32⟩
  | .hbm, ⟨22, _⟩ => ⟨S4096x1024, .f32⟩
  | .hbm, ⟨23, _⟩ => ⟨S4096x1024, .f32⟩
  | .hbm, ⟨24, _⟩ => ⟨S4096x1024, .f32⟩
  | .hbm, ⟨25, _⟩ => ⟨S_, .f32⟩
  | .hbm, ⟨26, _⟩ => ⟨S4096, .f32⟩
  | .hbm, ⟨27, _⟩ => ⟨S4096x1, .f32⟩
  | .hbm, ⟨28, _⟩ => ⟨S_, .f32⟩
  | .hbm, ⟨29, _⟩ => ⟨S4096x1, .f32⟩
  | .hbm, ⟨30, _⟩ => ⟨S4096x1, .f32⟩
  | .hbm, ⟨31, _⟩ => ⟨S_, .f32⟩
  | .hbm, ⟨32, _⟩ => ⟨S4096x1, .f32⟩
  | .hbm, ⟨33, _⟩ => ⟨S4096x1, .f32⟩
  | .hbm, ⟨34, _⟩ => ⟨S4096x1, .f32⟩
  | .hbm, ⟨35, _⟩ => ⟨S4096x1024, .f32⟩
  | .hbm, ⟨36, _⟩ => ⟨S4096x1024, .f32⟩
  | .hbm, ⟨37, _⟩ => ⟨S4096x1024, .f32⟩
  | .hbm, ⟨38, _⟩ => ⟨S4096x1024, .f32⟩
  | .hbm, ⟨39, _⟩ => ⟨S4096x1024, .bf16⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_2 : Ref sig .tc := ⟨.hbm, 25, rfl⟩
abbrev main_v17 : Ref sig .tc := ⟨.hbm, 26, rfl⟩
abbrev main_v18 : Ref sig .tc := ⟨.hbm, 27, rfl⟩
abbrev main_cst_3 : Ref sig .tc := ⟨.hbm, 28, rfl⟩
abbrev main_v19 : Ref sig .tc := ⟨.hbm, 29, rfl⟩
abbrev main_v20 : Ref sig .tc := ⟨.hbm, 30, rfl⟩
abbrev main_cst_4 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩

abbrev nD : Nat := 1
abbrev τ : Topo := Topo.v7x

variable {F : FTy → Type} [FloatOps F]
-- ==== MfKernel.lean ====
abbrev S4096x10752 : Shape := ⟨2, ![4096, 10752]⟩
abbrev S4x1024 : Shape := ⟨2, ![4, 1024]⟩
abbrev S4096x512 : Shape := ⟨2, ![4096, 512]⟩
abbrev S4x512x1024 : Shape := ⟨3, ![4, 512, 1024]⟩
abbrev S4096x1024 : Shape := ⟨2, ![4096, 1024]⟩
abbrev S512x512 : Shape := ⟨2, ![512, 512]⟩
abbrev S4x512 : Shape := ⟨2, ![4, 512]⟩
abbrev S4x512x512 : Shape := ⟨3, ![4, 512, 512]⟩
abbrev S1x512 : Shape := ⟨2, ![1, 512]⟩
abbrev S1x512x512 : Shape := ⟨3, ![1, 512, 512]⟩

abbrev nBuf : Space → Nat
  | .hbm => 8
  | .vmem => 22
  | .smem => 0
  | _ => 0

abbrev bufTy : (tb : Table) → Fin (tcTables nBuf tb) → BufTy
  | .hbm, ⟨0, _⟩ => ⟨S4096x10752, .f32⟩
  | .hbm, ⟨1, _⟩ => ⟨S4x1024, .f32⟩
  | .hbm, ⟨2, _⟩ => ⟨S4096x512, .bf16⟩
  | .hbm, ⟨3, _⟩ => ⟨S4096x512, .bf16⟩
  | .hbm, ⟨4, _⟩ => ⟨S4096x512, .bf16⟩
  | .hbm, ⟨5, _⟩ => ⟨S4096x512, .bf16⟩
  | .hbm, ⟨6, _⟩ => ⟨S4x512x1024, .bf16⟩
  | .hbm, ⟨7, _⟩ => ⟨S4096x1024, .bf16⟩
  | .local _ .vmem, ⟨0, _⟩ => ⟨S512x512, .f32⟩
  | .local _ .vmem, ⟨1, _⟩ => ⟨S512x512, .f32⟩
  | .local _ .vmem, ⟨2, _⟩ => ⟨S512x512, .f32⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S512x512, .f32⟩
  | .local _ .vmem, ⟨7, _⟩ => ⟨S512x512, .f32⟩
  | .local _ .vmem, ⟨8, _⟩ => ⟨S4x512, .f32⟩
  | .local _ .vmem, ⟨9, _⟩ => ⟨S4x512, .f32⟩
  | .local _ .vmem, ⟨10, _⟩ => ⟨S512x512, .bf16⟩
  | .local _ .vmem, ⟨11, _⟩ => ⟨S512x512, .bf16⟩
  | .local _ .vmem, ⟨12, _⟩ => ⟨S512x512, .bf16⟩
  | .local _ .vmem, ⟨13, _⟩ => ⟨S512x512, .bf16⟩
  | .local _ .vmem, ⟨14, _⟩ => ⟨S512x512, .bf16⟩
  | .local _ .vmem, ⟨15, _⟩ => ⟨S512x512, .bf16⟩
  | .local _ .vmem, ⟨16, _⟩ => ⟨S512x512, .bf16⟩
  | .local _ .vmem, ⟨17, _⟩ => ⟨S512x512, .bf16⟩
  | .local _ .vmem, ⟨18, _⟩ => ⟨S4x512x512, .bf16⟩
  | .local _ .vmem, ⟨19, _⟩ => ⟨S4x512x512, .bf16⟩
  | .local _ .vmem, ⟨20, _⟩ => ⟨S512x512, .bf16⟩
  | .local _ .vmem, ⟨21, _⟩ => ⟨S512x512, .bf16⟩
  | _, _ => ⟨S4096x10752, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [FloatOps F]

abbrev grid0 : Pipeline.Grid := ⟨2, ![2, 8], ![false, false]⟩

def cc0_transform_0 (i : grid0.Coords) : Fin 2 → Nat :=
  let arg0 : BitVec 32 := BitVec.ofNat 32 (i 0).val
  let arg1 : BitVec 32 := BitVec.ofNat 32 (i 1).val
  let c13_i32 : BitVec 32 := 13#32
  let v0 : BitVec 32 := Scalar.addi c13_i32 arg0
  let c0_i32 : BitVec 32 := 0#32
  ![arg1.toNat, v0.toNat]

def cc0_transform_1 (i : grid0.Coords) : Fin 2 → Nat :=
  let arg0 : BitVec 32 := BitVec.ofNat 32 (i 0).val
  let arg1 : BitVec 32 := BitVec.ofNat 32 (i 1).val
  let c15_i32 : BitVec 32 := 15#32
  let v0 : BitVec 32 := Scalar.addi c15_i32 arg0
  let c0_i32 : BitVec 32 := 0#32
  ![arg1.toNat, v0.toNat]

def cc0_transform_2 (i : grid0.Coords) : Fin 2 → Nat :=
  let arg0 : BitVec 32 := BitVec.ofNat 32 (i 0).val
  let arg1 : BitVec 32 := BitVec.ofNat 32 (i 1).val
  let c17_i32 : BitVec 32 := 17#32
  let v0 : BitVec 32 := Scalar.addi c17_i32 arg0
  let c0_i32 : BitVec 32 := 0#32
  ![arg1.toNat, v0.toNat]

def cc0_transform_3 (i : grid0.Coords) : Fin 2 → Nat :=
  let arg0 : BitVec 32 := BitVec.ofNat 32 (i 0).val
  let arg1 : BitVec 32 := BitVec.ofNat 32 (i 1).val
  let c19_i32 : BitVec 32 := 19#32
  let v0 : BitVec 32 := Scalar.addi c19_i32 arg0
  let c0_i32 : BitVec 32 := 0#32
  ![arg1.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S4x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S512x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S512x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S512x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S512x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, true]

abbrev stage0_9 : Fin 2 → Memref sig .tc .vmem S4x512x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S512x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== MfReferenceIdeal.lean ====
abbrev S4096x10752 : Shape := ⟨2, ![4096, 10752]⟩
abbrev S4x1024 : Shape := ⟨2, ![4, 1024]⟩
abbrev S4096x512 : Shape := ⟨2, ![4096, 512]⟩
abbrev S4x512x1024 : Shape := ⟨3, ![4, 512, 1024]⟩
abbrev S4096x4096 : Shape := ⟨2, ![4096, 4096]⟩
abbrev S4096x4x1024 : Shape := ⟨3, ![4096, 4, 1024]⟩
abbrev S1x4x1024 : Shape := ⟨3, ![1, 4, 1024]⟩
abbrev S_ : Shape := ⟨0, ![]⟩
abbrev S1x512x1024 : Shape := ⟨3, ![1, 512, 1024]⟩
abbrev S512x1024 : Shape := ⟨2, ![512, 1024]⟩
abbrev S4096x1024 : Shape := ⟨2, ![4096, 1024]⟩
abbrev S4096x1x1024 : Shape := ⟨3, ![4096, 1, 1024]⟩

abbrev nBuf : Space → Nat
  | .hbm => 56
  | .vmem => 0
  | .smem => 0
  | _ => 0

abbrev bufTy : (tb : Table) → Fin (tcTables nBuf tb) → BufTy
  | .hbm, ⟨0, _⟩ => ⟨S4096x10752, .f32⟩
  | .hbm, ⟨1, _⟩ => ⟨S4x1024, .f32⟩
  | .hbm, ⟨2, _⟩ => ⟨S4096x512, .bf16⟩
  | .hbm, ⟨3, _⟩ => ⟨S4096x512, .bf16⟩
  | .hbm, ⟨4, _⟩ => ⟨S4096x512, .bf16⟩
  | .hbm, ⟨5, _⟩ => ⟨S4096x512, .bf16⟩
  | .hbm, ⟨6, _⟩ => ⟨S4x512x1024, .bf16⟩
  | .hbm, ⟨7, _⟩ => ⟨S4096x4096, .f32⟩
  | .hbm, ⟨8, _⟩ => ⟨S4096x4x1024, .f32⟩
  | .hbm, ⟨9, _⟩ => ⟨S1x4x1024, .f32⟩
  | .hbm, ⟨10, _⟩ => ⟨S4096x4x1024, .f32⟩
  | .hbm, ⟨11, _⟩ => ⟨S4096x4x1024, .f32⟩
  | .hbm, ⟨12, _⟩ => ⟨S4096x4x1024, .f32⟩
  | .hbm, ⟨13, _⟩ => ⟨S4096x4x1024, .f32⟩
  | .hbm, ⟨14, _⟩ => ⟨S_, .f32⟩
  | .hbm, ⟨15, _⟩ => ⟨S4096x4x1024, .f32⟩
  | .hbm, ⟨16, _⟩ => ⟨S4096x4x1024, .f32⟩
  | .hbm, ⟨17, _⟩ => ⟨S_, .f32⟩
  | .hbm, ⟨18, _⟩ => ⟨S4096x4x1024, .f32⟩
  | .hbm, ⟨19, _⟩ => ⟨S4096x4x1024, .f32⟩
  | .hbm, ⟨20, _⟩ => ⟨S4096x512, .f32⟩
  | .hbm, ⟨21, _⟩ => ⟨S1x512x1024, .bf16⟩
  | .hbm, ⟨22, _⟩ => ⟨S512x1024, .bf16⟩
  | .hbm, ⟨23, _⟩ => ⟨S512x1024, .f32⟩
  | .hbm, ⟨24, _⟩ => ⟨S4096x1024, .f32⟩
  | .hbm, ⟨25, _⟩ => ⟨S4096x512, .f32⟩
  | .hbm, ⟨26, _⟩ => ⟨S1x512x1024, .bf16⟩
  | .hbm, ⟨27, _⟩ => ⟨S512x1024, .bf16⟩
  | .hbm, ⟨28, _⟩ => ⟨S512x1024, .f32⟩
  | .hbm, ⟨29, _⟩ => ⟨S4096x1024, .f32⟩
  | .hbm, ⟨30, _⟩ => ⟨S4096x512, .f32⟩
  | .hbm, ⟨31, _⟩ => ⟨S1x512x1024, .bf16⟩
  | .hbm, ⟨32, _⟩ => ⟨S512x1024, .bf16⟩
  | .hbm, ⟨33, _⟩ => ⟨S512x1024, .f32⟩
  | .hbm, ⟨34, _⟩ => ⟨S4096x1024, .f32⟩
  | .hbm, ⟨35, _⟩ => ⟨S4096x512, .f32⟩
  | .hbm, ⟨36, _⟩ => ⟨S1x512x1024, .bf16⟩
  | .hbm, ⟨37, _⟩ => ⟨S512x1024, .bf16⟩
  | .hbm, ⟨38, _⟩ => ⟨S512x1024, .f32⟩
  | .hbm, ⟨39, _⟩ => ⟨S4096x1024, .f32⟩
  | .hbm, ⟨40, _⟩ => ⟨S4096x1x1024, .f32⟩
  | .hbm, ⟨41, _⟩ => ⟨S4096x1024, .f32⟩
  | .hbm, ⟨42, _⟩ => ⟨S4096x1024, .f32⟩
  | .hbm, ⟨43, _⟩ => ⟨S4096x1x1024, .f32⟩
  | .hbm, ⟨44, _⟩ => ⟨S4096x1024, .f32⟩
  | .hbm, ⟨45, _⟩ => ⟨S4096x1024, .f32⟩
  | .hbm, ⟨46, _⟩ => ⟨S4096x1024, .f32⟩
  | .hbm, ⟨47, _⟩ => ⟨S4096x1x1024, .f32⟩
  | .hbm, ⟨48, _⟩ => ⟨S4096x1024, .f32⟩
  | .hbm, ⟨49, _⟩ => ⟨S4096x1024, .f32⟩
  | .hbm, ⟨50, _⟩ => ⟨S4096x1024, .f32⟩
  | .hbm, ⟨51, _⟩ => ⟨S4096x1x1024, .f32⟩
  | .hbm, ⟨52, _⟩ => ⟨S4096x1024, .f32⟩
  | .hbm, ⟨53, _⟩ => ⟨S4096x1024, .f32⟩
  | .hbm, ⟨54, _⟩ => ⟨S4096x1024, .f32⟩
  | .hbm, ⟨55, _⟩ => ⟨S4096x1024, .bf16⟩
  | _, _ => ⟨S4096x10752, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_v8 : Ref sig .tc := ⟨.hbm, 16, rfl⟩
abbrev main_cst_0 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩

abbrev nD : Nat := 1
abbrev τ : Topo := Topo.v7x

variable {F : FTy → Type} [FloatOps F]
-- ==== WoKernel.lean ====
abbrev S4096x1024 : Shape := ⟨2, ![4096, 1024]⟩
abbrev S1024x1024 : Shape := ⟨2, ![1024, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 8
  | .vmem => 13
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .f32⟩
  | .hbm, ⟨3, _⟩ => ⟨S1x1024, .f32⟩
  | .hbm, ⟨4, _⟩ => ⟨S1x1024, .f32⟩
  | .hbm, ⟨5, _⟩ => ⟨S4096x1024, .f32⟩
  | .hbm, ⟨6, _⟩ => ⟨S4096x1024, .f32⟩
  | .hbm, ⟨7, _⟩ => ⟨S4096x1024, .bf16⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S1x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .bf16⟩
  | .local _ .vmem, ⟨12, _⟩ => ⟨S512x1024, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, true, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, true, false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, false]
-- ==== WoReferenceIdeal.lean ====
abbrev S4096x1024 : Shape := ⟨2, ![4096, 1024]⟩
abbrev S1024x1024 : Shape := ⟨2, ![1024, 1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩

abbrev nBuf : Space → Nat
  | .hbm => 40
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .f32⟩
  | .hbm, ⟨3, _⟩ => ⟨S1x1024, .f32⟩
  | .hbm, ⟨4, _⟩ => ⟨S1x1024, .f32⟩
  | .hbm, ⟨5, _⟩ => ⟨S4096x1024, .f32⟩
  | .hbm, ⟨6, _⟩ => ⟨S1024x1024, .f32⟩
  | .hbm, ⟨7, _⟩ => ⟨S4096x1024, .f32⟩
  | .hbm, ⟨8, _⟩ => ⟨S4096x1024, .f32⟩
  | .hbm, ⟨9, _⟩ => ⟨S_, .f32⟩
  | .hbm, ⟨10, _⟩ => ⟨S4096, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S_, .f32⟩
  | .hbm, ⟨16, _⟩ => ⟨S4096x1, .f32⟩
  | .hbm, ⟨17, _⟩ => ⟨S4096x1, .f32⟩
  | .hbm, ⟨18, _⟩ => ⟨S4096x1, .f32⟩
  | .hbm, ⟨19, _⟩ => ⟨S4096x1024, .f32⟩
  | .hbm, ⟨20, _⟩ => ⟨S4096x1024, .f32⟩
  | .hbm, ⟨21, _⟩ => ⟨S4096x1024, .f32⟩
  | .hbm, ⟨22, _⟩ => ⟨S4096x1024, .f32⟩
  | .hbm, ⟨23, _⟩ => ⟨S4096x1024, .f32⟩
  | .hbm, ⟨24, _⟩ => ⟨S4096x1024, .f32⟩
  | .hbm, ⟨25, _⟩ => ⟨S_, .f32⟩
  | .hbm, ⟨26, _⟩ => ⟨S4096, .f32⟩
  | .hbm, ⟨27, _⟩ => ⟨S4096x1, .f32⟩
  | .hbm, ⟨28, _⟩ => ⟨S_, .f32⟩
  | .hbm, ⟨29, _⟩ => ⟨S4096x1, .f32⟩
  | .hbm, ⟨30, _⟩ => ⟨S4096x1, .f32⟩
  | .hbm, ⟨31, _⟩ => ⟨S_, .f32⟩
  | .hbm, ⟨32, _⟩ => ⟨S4096x1, .f32⟩
  | .hbm, ⟨33, _⟩ => ⟨S4096x1, .f32⟩
  | .hbm, ⟨34, _⟩ => ⟨S4096x1, .f32⟩
  | .hbm, ⟨35, _⟩ => ⟨S4096x1024, .f32⟩
  | .hbm, ⟨36, _⟩ => ⟨S4096x1024, .f32⟩
  | .hbm, ⟨37, _⟩ => ⟨S4096x1024, .f32⟩
  | .hbm, ⟨38, _⟩ => ⟨S4096x1024, .f32⟩
  | .hbm, ⟨39, _⟩ => ⟨S4096x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_2 : Ref sig .tc := ⟨.hbm, 25, rfl⟩
abbrev main_v17 : Ref sig .tc := ⟨.hbm, 26, rfl⟩
abbrev main_v18 : Ref sig .tc := ⟨.hbm, 27, rfl⟩
abbrev main_cst_3 : Ref sig .tc := ⟨.hbm, 28, rfl⟩
abbrev main_v19 : Ref sig .tc := ⟨.hbm, 29, rfl⟩
abbrev main_v20 : Ref sig .tc := ⟨.hbm, 30, rfl⟩
abbrev main_cst_4 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩

abbrev nD : Nat := 1
abbrev τ : Topo := Topo.v7x

variable {F : FTy → Type} [FloatOps F]
-- ==== CoKernel.lean ====
abbrev S4096x512 : Shape := ⟨2, ![4096, 512]⟩
abbrev S512x1024 : Shape := ⟨2, ![512, 1024]⟩
abbrev S4096x1024 : Shape := ⟨2, ![4096, 1024]⟩
abbrev S1x1024 : Shape := ⟨2, ![1, 1024]⟩
abbrev S512x512 : Shape := ⟨2, ![512, 512]⟩
abbrev S512 : Shape := ⟨1, ![512]⟩
abbrev S512x1 : Shape := ⟨2, ![512, 1]⟩

abbrev nBuf : Space → Nat
  | .hbm => 8
  | .vmem => 13
  | .smem => 0
  | _ => 0

abbrev bufTy : (tb : Table) → Fin (tcTables nBuf tb) → BufTy
  | .hbm, ⟨0, _⟩ => ⟨S4096x512, .bf16⟩
  | .hbm, ⟨1, _⟩ => ⟨S512x1024, .bf16⟩
  | .hbm, ⟨2, _⟩ => ⟨S4096x1024, .f32⟩
  | .hbm, ⟨3, _⟩ => ⟨S1x1024, .f32⟩
  | .hbm, ⟨4, _⟩ => ⟨S1x1024, .f32⟩
  | .hbm, ⟨5, _⟩ => ⟨S4096x1024, .f32⟩
  | .hbm, ⟨6, _⟩ => ⟨S4096x1024, .f32⟩
  | .hbm, ⟨7, _⟩ => ⟨S4096x1024, .bf16⟩
  | .local _ .vmem, ⟨0, _⟩ => ⟨S512x512, .bf16⟩
  | .local _ .vmem, ⟨1, _⟩ => ⟨S512x512, .bf16⟩
  | .local _ .vmem, ⟨2, _⟩ => ⟨S512x1024, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S1x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .bf16⟩
  | .local _ .vmem, ⟨12, _⟩ => ⟨S512x1024, .bf16⟩
  | _, _ => ⟨S4096x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S512x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, true, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, true, false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, false]
-- ==== CoReferenceIdeal.lean ====
abbrev S4096x512 : Shape := ⟨2, ![4096, 512]⟩
abbrev S512x1024 : Shape := ⟨2, ![512, 1024]⟩
abbrev S4096x1024 : Shape := ⟨2, ![4096, 1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩

abbrev nBuf : Space → Nat
  | .hbm => 40
  | .vmem => 0
  | .smem => 0
  | _ => 0

abbrev bufTy : (tb : Table) → Fin (tcTables nBuf tb) → BufTy
  | .hbm, ⟨0, _⟩ => ⟨S4096x512, .bf16⟩
  | .hbm, ⟨1, _⟩ => ⟨S512x1024, .bf16⟩
  | .hbm, ⟨2, _⟩ => ⟨S4096x1024, .f32⟩
  | .hbm, ⟨3, _⟩ => ⟨S1x1024, .f32⟩
  | .hbm, ⟨4, _⟩ => ⟨S1x1024, .f32⟩
  | .hbm, ⟨5, _⟩ => ⟨S4096x512, .f32⟩
  | .hbm, ⟨6, _⟩ => ⟨S512x1024, .f32⟩
  | .hbm, ⟨7, _⟩ => ⟨S4096x1024, .f32⟩
  | .hbm, ⟨8, _⟩ => ⟨S4096x1024, .f32⟩
  | .hbm, ⟨9, _⟩ => ⟨S_, .f32⟩
  | .hbm, ⟨10, _⟩ => ⟨S4096, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S_, .f32⟩
  | .hbm, ⟨16, _⟩ => ⟨S4096x1, .f32⟩
  | .hbm, ⟨17, _⟩ => ⟨S4096x1, .f32⟩
  | .hbm, ⟨18, _⟩ => ⟨S4096x1, .f32⟩
  | .hbm, ⟨19, _⟩ => ⟨S4096x1024, .f32⟩
  | .hbm, ⟨20, _⟩ => ⟨S4096x1024, .f32⟩
  | .hbm, ⟨21, _⟩ => ⟨S4096x1024, .f32⟩
  | .hbm, ⟨22, _⟩ => ⟨S4096x1024, .f32⟩
  | .hbm, ⟨23, _⟩ => ⟨S4096x1024, .f32⟩
  | .hbm, ⟨24, _⟩ => ⟨S4096x1024, .f32⟩
  | .hbm, ⟨25, _⟩ => ⟨S_, .f32⟩
  | .hbm, ⟨26, _⟩ => ⟨S4096, .f32⟩
  | .hbm, ⟨27, _⟩ => ⟨S4096x1, .f32⟩
  | .hbm, ⟨28, _⟩ => ⟨S_, .f32⟩
  | .hbm, ⟨29, _⟩ => ⟨S4096x1, .f32⟩
  | .hbm, ⟨30, _⟩ => ⟨S4096x1, .f32⟩
  | .hbm, ⟨31, _⟩ => ⟨S_, .f32⟩
  | .hbm, ⟨32, _⟩ => ⟨S4096x1, .f32⟩
  | .hbm, ⟨33, _⟩ => ⟨S4096x1, .f32⟩
  | .hbm, ⟨34, _⟩ => ⟨S4096x1, .f32⟩
  | .hbm, ⟨35, _⟩ => ⟨S4096x1024, .f32⟩
  | .hbm, ⟨36, _⟩ => ⟨S4096x1024, .f32⟩
  | .hbm, ⟨37, _⟩ => ⟨S4096x1024, .f32⟩
  | .hbm, ⟨38, _⟩ => ⟨S4096x1024, .f32⟩
  | .hbm, ⟨39, _⟩ => ⟨S4096x1024, .bf16⟩
  | _, _ => ⟨S4096x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_2 : Ref sig .tc := ⟨.hbm, 25, rfl⟩
abbrev main_v17 : Ref sig .tc := ⟨.hbm, 26, rfl⟩
abbrev main_v18 : Ref sig .tc := ⟨.hbm, 27, rfl⟩
abbrev main_cst_3 : Ref sig .tc := ⟨.hbm, 28, rfl⟩
abbrev main_v19 : Ref sig .tc := ⟨.hbm, 29, rfl⟩
abbrev main_v20 : Ref sig .tc := ⟨.hbm, 30, rfl⟩
abbrev main_cst_4 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩

abbrev nD : Nat := 1
abbrev τ : Topo := Topo.v7x

variable {F : FTy → Type} [FloatOps F]
-- ==== CqKernel.lean ====
abbrev S4096x1024 : Shape := ⟨2, ![4096, 1024]⟩
abbrev S1024x512 : Shape := ⟨2, ![1024, 512]⟩
abbrev S4096x512 : Shape := ⟨2, ![4096, 512]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4096x1024, .bf16⟩
  | .hbm, ⟨1, _⟩ => ⟨S1024x512, .bf16⟩
  | .hbm, ⟨2, _⟩ => ⟨S4096x512, .bf16⟩
  | .local _ .vmem, ⟨0, _⟩ => ⟨S1024x1024, .bf16⟩
  | .local _ .vmem, ⟨1, _⟩ => ⟨S1024x1024, .bf16⟩
  | .local _ .vmem, ⟨2, _⟩ => ⟨S1024x512, .bf16⟩
  | .local _ .vmem, ⟨3, _⟩ => ⟨S1024x512, .bf16⟩
  | .local _ .vmem, ⟨4, _⟩ => ⟨S1024x512, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== CqReferenceIdeal.lean ====
abbrev S4096x1024 : Shape := ⟨2, ![4096, 1024]⟩
abbrev S1024x512 : Shape := ⟨2, ![1024, 512]⟩
abbrev S4096x512 : Shape := ⟨2, ![4096, 512]⟩

abbrev nBuf : Space → Nat
  | .hbm => 6
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x512, .bf16⟩
  | .hbm, ⟨2, _⟩ => ⟨S4096x1024, .f32⟩
  | .hbm, ⟨3, _⟩ => ⟨S1024x512, .f32⟩
  | .hbm, ⟨4, _⟩ => ⟨S4096x512, .f32⟩
  | .hbm, ⟨5, _⟩ => ⟨S4096x512, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== DmKernel.lean ====
abbrev S4096x1024 : Shape := ⟨2, ![4096, 1024]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DmReferenceIdeal.lean ====
abbrev S4096x1024 : Shape := ⟨2, ![4096, 1024]⟩
abbrev S1024x1024 : Shape := ⟨2, ![1024, 1024]⟩
abbrev S_ : Shape := ⟨0, ![]⟩

abbrev nBuf : Space → Nat
  | .hbm => 8
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S_, .f32⟩
  | .hbm, ⟨3, _⟩ => ⟨S4096x1024, .f32⟩
  | .hbm, ⟨4, _⟩ => ⟨S1024x1024, .f32⟩
  | .hbm, ⟨5, _⟩ => ⟨S4096x1024, .f32⟩
  | .hbm, ⟨6, _⟩ => ⟨S4096x1024, .f32⟩
  | .hbm, ⟨7, _⟩ => ⟨S4096x1024, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== DbKernel.lean ====
abbrev S4096x1024 : Shape := ⟨2, ![4096, 1024]⟩
abbrev S512x1024 : Shape := ⟨2, ![512, 1024]⟩
abbrev S4096x512 : Shape := ⟨2, ![4096, 512]⟩
abbrev S1024x1024 : Shape := ⟨2, ![1024, 1024]⟩
abbrev S1024x512 : Shape := ⟨2, ![1024, 512]⟩

abbrev nBuf : Space → Nat
  | .hbm => 3
  | .vmem => 5
  | .smem => 0
  | _ => 0

abbrev bufTy : (tb : Table) → Fin (tcTables nBuf tb) → BufTy
  | .hbm, ⟨0, _⟩ => ⟨S4096x1024, .bf16⟩
  | .hbm, ⟨1, _⟩ => ⟨S512x1024, .bf16⟩
  | .hbm, ⟨2, _⟩ => ⟨S4096x512, .f32⟩
  | .local _ .vmem, ⟨0, _⟩ => ⟨S1024x1024, .bf16⟩
  | .local _ .vmem, ⟨1, _⟩ => ⟨S1024x1024, .bf16⟩
  | .local _ .vmem, ⟨2, _⟩ => ⟨S512x1024, .bf16⟩
  | .local _ .vmem, ⟨3, _⟩ => ⟨S1024x512, .f32⟩
  | .local _ .vmem, ⟨4, _⟩ => ⟨S1024x512, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S512x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DbReferenceIdeal.lean ====
abbrev S4096x1024 : Shape := ⟨2, ![4096, 1024]⟩
abbrev S512x1024 : Shape := ⟨2, ![512, 1024]⟩
abbrev S_ : Shape := ⟨0, ![]⟩
abbrev S4096x512 : Shape := ⟨2, ![4096, 512]⟩

abbrev nBuf : Space → Nat
  | .hbm => 8
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S512x1024, .bf16⟩
  | .hbm, ⟨2, _⟩ => ⟨S_, .f32⟩
  | .hbm, ⟨3, _⟩ => ⟨S4096x512, .f32⟩
  | .hbm, ⟨4, _⟩ => ⟨S512x1024, .f32⟩
  | .hbm, ⟨5, _⟩ => ⟨S4096x1024, .f32⟩
  | .hbm, ⟨6, _⟩ => ⟨S4096x1024, .f32⟩
  | .hbm, ⟨7, _⟩ => ⟨S4096x512, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== DxKernel.lean ====
abbrev S4096x1024 : Shape := ⟨2, ![4096, 1024]⟩
abbrev S512x1024 : Shape := ⟨2, ![512, 1024]⟩
abbrev S4096x512 : Shape := ⟨2, ![4096, 512]⟩
abbrev S1024x1024 : Shape := ⟨2, ![1024, 1024]⟩
abbrev S1024x512 : Shape := ⟨2, ![1024, 512]⟩

abbrev nBuf : Space → Nat
  | .hbm => 3
  | .vmem => 5
  | .smem => 0
  | _ => 0

abbrev bufTy : (tb : Table) → Fin (tcTables nBuf tb) → BufTy
  | .hbm, ⟨0, _⟩ => ⟨S4096x1024, .bf16⟩
  | .hbm, ⟨1, _⟩ => ⟨S512x1024, .bf16⟩
  | .hbm, ⟨2, _⟩ => ⟨S4096x512, .bf16⟩
  | .local _ .vmem, ⟨0, _⟩ => ⟨S1024x1024, .bf16⟩
  | .local _ .vmem, ⟨1, _⟩ => ⟨S1024x1024, .bf16⟩
  | .local _ .vmem, ⟨2, _⟩ => ⟨S512x1024, .bf16⟩
  | .local _ .vmem, ⟨3, _⟩ => ⟨S1024x512, .bf16⟩
  | .local _ .vmem, ⟨4, _⟩ => ⟨S1024x512, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S512x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DxReferenceIdeal.lean ====
abbrev S4096x1024 : Shape := ⟨2, ![4096, 1024]⟩
abbrev S512x1024 : Shape := ⟨2, ![512, 1024]⟩
abbrev S_ : Shape := ⟨0, ![]⟩
abbrev S4096x512 : Shape := ⟨2, ![4096, 512]⟩

abbrev nBuf : Space → Nat
  | .hbm => 9
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S512x1024, .bf16⟩
  | .hbm, ⟨2, _⟩ => ⟨S_, .f32⟩
  | .hbm, ⟨3, _⟩ => ⟨S4096x512, .f32⟩
  | .hbm, ⟨4, _⟩ => ⟨S512x1024, .f32⟩
  | .hbm, ⟨5, _⟩ => ⟨S4096x1024, .f32⟩
  | .hbm, ⟨6, _⟩ => ⟨S4096x1024, .f32⟩
  | .hbm, ⟨7, _⟩ => ⟨S4096x512, .f32⟩
  | .hbm, ⟨8, _⟩ => ⟨S4096x512, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== WuKernel.lean ====
abbrev S4096x512 : Shape := ⟨2, ![4096, 512]⟩
abbrev S4096x1024 : Shape := ⟨2, ![4096, 1024]⟩
abbrev S512x1024 : Shape := ⟨2, ![512, 1024]⟩
abbrev S1024x512 : Shape := ⟨2, ![1024, 512]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x512, .bf16⟩
  | .hbm, ⟨1, _⟩ => ⟨S4096x1024, .bf16⟩
  | .hbm, ⟨2, _⟩ => ⟨S512x1024, .f32⟩
  | .local _ .vmem, ⟨0, _⟩ => ⟨S1024x512, .bf16⟩
  | .local _ .vmem, ⟨1, _⟩ => ⟨S1024x512, .bf16⟩
  | .local _ .vmem, ⟨2, _⟩ => ⟨S1024x1024, .bf16⟩
  | .local _ .vmem, ⟨3, _⟩ => ⟨S1024x1024, .bf16⟩
  | .local _ .vmem, ⟨4, _⟩ => ⟨S512x1024, .f32⟩
  | .local _ .vmem, ⟨5, _⟩ => ⟨S512x1024, .f32⟩
  | _, _ => ⟨S4096x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def k0_cond3 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S512x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== WuReferenceIdeal.lean ====
abbrev S4096x512 : Shape := ⟨2, ![4096, 512]⟩
abbrev S4096x1024 : Shape := ⟨2, ![4096, 1024]⟩
abbrev S_ : Shape := ⟨0, ![]⟩
abbrev S512x1024 : Shape := ⟨2, ![512, 1024]⟩
abbrev S1024x512 : Shape := ⟨2, ![1024, 512]⟩

abbrev nBuf : Space → Nat
  | .hbm => 9
  | .vmem => 0
  | .smem => 0
  | _ => 0

abbrev bufTy : (tb : Table) → Fin (tcTables nBuf tb) → BufTy
  | .hbm, ⟨0, _⟩ => ⟨S4096x512, .bf16⟩
  | .hbm, ⟨1, _⟩ => ⟨S4096x1024, .bf16⟩
  | .hbm, ⟨2, _⟩ => ⟨S_, .f32⟩
  | .hbm, ⟨3, _⟩ => ⟨S512x1024, .f32⟩
  | .hbm, ⟨4, _⟩ => ⟨S4096x512, .f32⟩
  | .hbm, ⟨5, _⟩ => ⟨S4096x1024, .f32⟩
  | .hbm, ⟨6, _⟩ => ⟨S4096x1024, .f32⟩
  | .hbm, ⟨7, _⟩ => ⟨S1024x512, .f32⟩
  | .hbm, ⟨8, _⟩ => ⟨S512x1024, .f32⟩
  | _, _ => ⟨S4096x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== DwoKernel.lean ====
abbrev S4096x1024 : Shape := ⟨2, ![4096, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S1024x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def k0_cond3 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== DwoReferenceIdeal.lean ====
abbrev S4096x1024 : Shape := ⟨2, ![4096, 1024]⟩
abbrev S_ : Shape := ⟨0, ![]⟩
abbrev S1024x1024 : Shape := ⟨2, ![1024, 1024]⟩

abbrev nBuf : Space → Nat
  | .hbm => 9
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S_, .f32⟩
  | .hbm, ⟨3, _⟩ => ⟨S1024x1024, .f32⟩
  | .hbm, ⟨4, _⟩ => ⟨S4096x1024, .f32⟩
  | .hbm, ⟨5, _⟩ => ⟨S4096x1024, .f32⟩
  | .hbm, ⟨6, _⟩ => ⟨S4096x1024, .f32⟩
  | .hbm, ⟨7, _⟩ => ⟨S1024x1024, .f32⟩
  | .hbm, ⟨8, _⟩ => ⟨S1024x1024, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== DwqKernel.lean ====
abbrev S4096x1024 : Shape := ⟨2, ![4096, 1024]⟩
abbrev S4096x512 : Shape := ⟨2, ![4096, 512]⟩
abbrev S1024x512 : Shape := ⟨2, ![1024, 512]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S4096x512, .bf16⟩
  | .hbm, ⟨2, _⟩ => ⟨S1024x512, .f32⟩
  | .local _ .vmem, ⟨0, _⟩ => ⟨S1024x1024, .bf16⟩
  | .local _ .vmem, ⟨1, _⟩ => ⟨S1024x1024, .bf16⟩
  | .local _ .vmem, ⟨2, _⟩ => ⟨S1024x512, .bf16⟩
  | .local _ .vmem, ⟨3, _⟩ => ⟨S1024x512, .bf16⟩
  | .local _ .vmem, ⟨4, _⟩ => ⟨S1024x512, .f32⟩
  | .local _ .vmem, ⟨5, _⟩ => ⟨S1024x512, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def k0_cond3 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== DwqReferenceIdeal.lean ====
abbrev S4096x1024 : Shape := ⟨2, ![4096, 1024]⟩
abbrev S4096x512 : Shape := ⟨2, ![4096, 512]⟩
abbrev S_ : Shape := ⟨0, ![]⟩
abbrev S1024x512 : Shape := ⟨2, ![1024, 512]⟩
abbrev S512x1024 : Shape := ⟨2, ![512, 1024]⟩

abbrev nBuf : Space → Nat
  | .hbm => 9
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x512, .bf16⟩
  | .hbm, ⟨2, _⟩ => ⟨S_, .f32⟩
  | .hbm, ⟨3, _⟩ => ⟨S1024x512, .f32⟩
  | .hbm, ⟨4, _⟩ => ⟨S4096x1024, .f32⟩
  | .hbm, ⟨5, _⟩ => ⟨S4096x512, .f32⟩
  | .hbm, ⟨6, _⟩ => ⟨S4096x512, .f32⟩
  | .hbm, ⟨7, _⟩ => ⟨S512x1024, .f32⟩
  | .hbm, ⟨8, _⟩ => ⟨S1024x512, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== LsKernel.lean ====
abbrev S4096x1024 : Shape := ⟨2, ![4096, 1024]⟩
abbrev S64x128 : Shape := ⟨2, ![64, 128]⟩
abbrev S512x1024 : Shape := ⟨2, ![512, 1024]⟩
abbrev S8x128 : Shape := ⟨2, ![8, 128]⟩
abbrev S512 : Shape := ⟨1, ![512]⟩
abbrev S512x1 : Shape := ⟨2, ![512, 1]⟩
abbrev S1 : Shape := ⟨1, ![1]⟩
abbrev S1x1 : Shape := ⟨2, ![1, 1]⟩
abbrev S8x1 : Shape := ⟨2, ![8, 1]⟩
abbrev S8 : Shape := ⟨1, ![8]⟩
abbrev S_ : Shape := ⟨0, ![]⟩

abbrev nBuf : Space → Nat
  | .hbm => 8
  | .vmem => 8
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S64x128, .f32⟩
  | .hbm, ⟨3, _⟩ => ⟨S4096x1024, .f32⟩
  | .hbm, ⟨4, _⟩ => ⟨S8x1, .f32⟩
  | .hbm, ⟨5, _⟩ => ⟨S8, .f32⟩
  | .hbm, ⟨6, _⟩ => ⟨S_, .f32⟩
  | .hbm, ⟨7, _⟩ => ⟨S_, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S8x128, .f32⟩
  | .local _ .vmem, ⟨5, _⟩ => ⟨S8x128, .f32⟩
  | .local _ .vmem, ⟨6, _⟩ => ⟨S512x1024, .f32⟩
  | .local _ .vmem, ⟨7, _⟩ => ⟨S512x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== LsReferenceIdeal.lean ====
abbrev S4096x1024 : Shape := ⟨2, ![4096, 1024]⟩
abbrev S_ : Shape := ⟨0, ![]⟩
abbrev S4096 : Shape := ⟨1, ![4096]⟩

abbrev nBuf : Space → Nat
  | .hbm => 25
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .f32⟩
  | .hbm, ⟨3, _⟩ => ⟨S4096x1024, .f32⟩
  | .hbm, ⟨4, _⟩ => ⟨S_, .f32⟩
  | .hbm, ⟨5, _⟩ => ⟨S4096x1024, .f32⟩
  | .hbm, ⟨6, _⟩ => ⟨S4096x1024, .f32⟩
  | .hbm, ⟨7, _⟩ => ⟨S_, .f32⟩
  | .hbm, ⟨8, _⟩ => ⟨S4096, .f32⟩
  | .hbm, ⟨9, _⟩ => ⟨S_, .f32⟩
  | .hbm, ⟨10, _⟩ => ⟨S4096, .f32⟩
  | .hbm, ⟨11, _⟩ => ⟨S4096, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S4096, .f32⟩
  | .hbm, ⟨20, _⟩ => ⟨S_, .f32⟩
  | .hbm, ⟨21, _⟩ => ⟨S4096, .f32⟩
  | .hbm, ⟨22, _⟩ => ⟨S4096, .f32⟩
  | .hbm, ⟨23, _⟩ => ⟨S4096x1024, .f32⟩
  | .hbm, ⟨24, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_cst_2 : Ref sig .tc := ⟨.hbm, 12, rfl⟩
abbrev main_v7 : Ref sig .tc := ⟨.hbm, 13, rfl⟩
abbrev main_cst_3 : Ref sig .tc := ⟨.hbm, 14, rfl⟩
abbrev main_v8 : Ref sig .tc := ⟨.hbm, 15, rfl⟩
abbrev main_cst_4 : Ref sig .tc := ⟨.hbm, 16, rfl⟩
abbrev main_cst_5 : Ref sig .tc := ⟨.hbm, 17, rfl⟩
abbrev main_v9 : Ref sig .tc := ⟨.hbm, 18, rfl⟩
abbrev main_v10 : Ref sig .tc := ⟨.hbm, 19, rfl⟩
abbrev main_cst_6 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩

abbrev nD : Nat := 1
abbrev τ : Topo := Topo.v7x

variable {F : FTy → Type} [FloatOps F]
-- ==== AvKernel.lean ====
abbrev S4x1024 : Shape := ⟨2, ![4, 1024]⟩

abbrev nBuf : Space → Nat
  | .hbm => 9
  | .vmem => 9
  | .smem => 0
  | _ => 0

abbrev bufTy : (tb : Table) → Fin (tcTables nBuf tb) → BufTy
  | .hbm, ⟨0, _⟩ => ⟨S4x1024, .f32⟩
  | .hbm, ⟨1, _⟩ => ⟨S4x1024, .f32⟩
  | .hbm, ⟨2, _⟩ => ⟨S4x1024, .f32⟩
  | .hbm, ⟨3, _⟩ => ⟨S4x1024, .f32⟩
  | .hbm, ⟨4, _⟩ => ⟨S4x1024, .f32⟩
  | .hbm, ⟨5, _⟩ => ⟨S4x1024, .f32⟩
  | .hbm, ⟨6, _⟩ => ⟨S4x1024, .f32⟩
  | .hbm, ⟨7, _⟩ => ⟨S4x1024, .f32⟩
  | .hbm, ⟨8, _⟩ => ⟨S4x1024, .f32⟩
  | .local _ .vmem, ⟨0, _⟩ => ⟨S4x1024, .f32⟩
  | .local _ .vmem, ⟨1, _⟩ => ⟨S4x1024, .f32⟩
  | .local _ .vmem, ⟨2, _⟩ => ⟨S4x1024, .f32⟩
  | .local _ .vmem, ⟨3, _⟩ => ⟨S4x1024, .f32⟩
  | .local _ .vmem, ⟨4, _⟩ => ⟨S4x1024, .f32⟩
  | .local _ .vmem, ⟨5, _⟩ => ⟨S4x1024, .f32⟩
  | .local _ .vmem, ⟨6, _⟩ => ⟨S4x1024, .f32⟩
  | .local _ .vmem, ⟨7, _⟩ => ⟨S4x1024, .f32⟩
  | .local _ .vmem, ⟨8, _⟩ => ⟨S4x1024, .f32⟩
  | _, _ => ⟨S4x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S4x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S4x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S4x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S4x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S4x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S4x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S4x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S4x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]

abbrev stage0_8 : Fin 1 → Memref sig .tc .vmem S4x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true]
-- ==== AvKernelIdeal.lean ====
abbrev S4x1024 : Shape := ⟨2, ![4, 1024]⟩

abbrev nBuf : Space → Nat
  | .hbm => 9
  | .vmem => 9
  | .smem => 0
  | _ => 0

abbrev bufTy : (tb : Table) → Fin (tcTables nBuf tb) → BufTy
  | .hbm, ⟨0, _⟩ => ⟨S4x1024, .f32⟩
  | .hbm, ⟨1, _⟩ => ⟨S4x1024, .f32⟩
  | .hbm, ⟨2, _⟩ => ⟨S4x1024, .f32⟩
  | .hbm, ⟨3, _⟩ => ⟨S4x1024, .f32⟩
  | .hbm, ⟨4, _⟩ => ⟨S4x1024, .f32⟩
  | .hbm, ⟨5, _⟩ => ⟨S4x1024, .f32⟩
  | .hbm, ⟨6, _⟩ => ⟨S4x1024, .f32⟩
  | .hbm, ⟨7, _⟩ => ⟨S4x1024, .f32⟩
  | .hbm, ⟨8, _⟩ => ⟨S4x1024, .f32⟩
  | .local _ .vmem, ⟨0, _⟩ => ⟨S4x1024, .f32⟩
  | .local _ .vmem, ⟨1, _⟩ => ⟨S4x1024, .f32⟩
  | .local _ .vmem, ⟨2, _⟩ => ⟨S4x1024, .f32⟩
  | .local _ .vmem, ⟨3, _⟩ => ⟨S4x1024, .f32⟩
  | .local _ .vmem, ⟨4, _⟩ => ⟨S4x1024, .f32⟩
  | .local _ .vmem, ⟨5, _⟩ => ⟨S4x1024, .f32⟩
  | .local _ .vmem, ⟨6, _⟩ => ⟨S4x1024, .f32⟩
  | .local _ .vmem, ⟨7, _⟩ => ⟨S4x1024, .f32⟩
  | .local _ .vmem, ⟨8, _⟩ => ⟨S4x1024, .f32⟩
  | _, _ => ⟨S4x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S4x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S4x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S4x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S4x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S4x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S4x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S4x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S4x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]

abbrev stage0_8 : Fin 1 → Memref sig .tc .vmem S4x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true]
-- ==== AvReferenceIdeal.lean ====
abbrev S4x1024 : Shape := ⟨2, ![4, 1024]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S4x1024, .f32⟩
  | .hbm, ⟨1, _⟩ => ⟨S4x1024, .f32⟩
  | .hbm, ⟨2, _⟩ => ⟨S4x1024, .f32⟩
  | .hbm, ⟨3, _⟩ => ⟨S4x1024, .f32⟩
  | .hbm, ⟨4, _⟩ => ⟨S4x1024, .f32⟩
  | .hbm, ⟨5, _⟩ => ⟨S4x1024, .f32⟩
  | .hbm, ⟨6, _⟩ => ⟨S_, .f32⟩
  | .hbm, ⟨7, _⟩ => ⟨S4x1024, .f32⟩
  | .hbm, ⟨8, _⟩ => ⟨S4x1024, .f32⟩
  | .hbm, ⟨9, _⟩ => ⟨S_, .f32⟩
  | .hbm, ⟨10, _⟩ => ⟨S4x1024, .f32⟩
  | .hbm, ⟨11, _⟩ => ⟨S4x1024, .f32⟩
  | .hbm, ⟨12, _⟩ => ⟨S4x1024, .f32⟩
  | .hbm, ⟨13, _⟩ => ⟨S_, .f32⟩
  | .hbm, ⟨14, _⟩ => ⟨S4x1024, .f32⟩
  | .hbm, ⟨15, _⟩ => ⟨S4x1024, .f32⟩
  | .hbm, ⟨16, _⟩ => ⟨S4x1024, .f32⟩
  | .hbm, ⟨17, _⟩ => ⟨S_, .f32⟩
  | .hbm, ⟨18, _⟩ => ⟨S4x1024, .f32⟩
  | .hbm, ⟨19, _⟩ => ⟨S4x1024, .f32⟩
  | .hbm, ⟨20, _⟩ => ⟨S4x1024, .f32⟩
  | .hbm, ⟨21, _⟩ => ⟨S_, .f32⟩
  | .hbm, ⟨22, _⟩ => ⟨S4x1024, .f32⟩
  | .hbm, ⟨23, _⟩ => ⟨S4x1024, .f32⟩
  | .hbm, ⟨24, _⟩ => ⟨S_, .f32⟩
  | .hbm, ⟨25, _⟩ => ⟨S4x1024, .f32⟩
  | .hbm, ⟨26, _⟩ => ⟨S4x1024, .f32⟩
  | .hbm, ⟨27, _⟩ => ⟨S4x1024, .f32⟩
  | .hbm, ⟨28, _⟩ => ⟨S_, .f32⟩
  | .hbm, ⟨29, _⟩ => ⟨S4x1024, .f32⟩
  | .hbm, ⟨30, _⟩ => ⟨S4x1024, .f32⟩
  | .hbm, ⟨31, _⟩ => ⟨S4x1024, .f32⟩
  | .hbm, ⟨32, _⟩ => ⟨S_, .f32⟩
  | .hbm, ⟨33, _⟩ => ⟨S4x1024, .f32⟩
  | .hbm, ⟨34, _⟩ => ⟨S4x1024, .f32⟩
  | .hbm, ⟨35, _⟩ => ⟨S4x1024, .f32⟩
  | .hbm, ⟨36, _⟩ => ⟨S_, .f32⟩
  | .hbm, ⟨37, _⟩ => ⟨S4x1024, .f32⟩
  | .hbm, ⟨38, _⟩ => ⟨S4x1024, .f32⟩
  | _, _ => ⟨S4x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_3 : Ref sig .tc := ⟨.hbm, 21, rfl⟩
abbrev main_v12 : Ref sig .tc := ⟨.hbm, 22, rfl⟩
abbrev main_v13 : Ref sig .tc := ⟨.hbm, 23, rfl⟩
abbrev main_cst_4 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_5 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_6 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_7 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== AhKernel.lean ====
abbrev S4x512 : Shape := ⟨2, ![4, 512]⟩

abbrev nBuf : Space → Nat
  | .hbm => 9
  | .vmem => 9
  | .smem => 0
  | _ => 0

abbrev bufTy : (tb : Table) → Fin (tcTables nBuf tb) → BufTy
  | .hbm, ⟨0, _⟩ => ⟨S4x512, .f32⟩
  | .hbm, ⟨1, _⟩ => ⟨S4x512, .f32⟩
  | .hbm, ⟨2, _⟩ => ⟨S4x512, .f32⟩
  | .hbm, ⟨3, _⟩ => ⟨S4x512, .f32⟩
  | .hbm, ⟨4, _⟩ => ⟨S4x512, .f32⟩
  | .hbm, ⟨5, _⟩ => ⟨S4x512, .f32⟩
  | .hbm, ⟨6, _⟩ => ⟨S4x512, .f32⟩
  | .hbm, ⟨7, _⟩ => ⟨S4x512, .f32⟩
  | .hbm, ⟨8, _⟩ => ⟨S4x512, .f32⟩
  | .local _ .vmem, ⟨0, _⟩ => ⟨S4x512, .f32⟩
  | .local _ .vmem, ⟨1, _⟩ => ⟨S4x512, .f32⟩
  | .local _ .vmem, ⟨2, _⟩ => ⟨S4x512, .f32⟩
  | .local _ .vmem, ⟨3, _⟩ => ⟨S4x512, .f32⟩
  | .local _ .vmem, ⟨4, _⟩ => ⟨S4x512, .f32⟩
  | .local _ .vmem, ⟨5, _⟩ => ⟨S4x512, .f32⟩
  | .local _ .vmem, ⟨6, _⟩ => ⟨S4x512, .f32⟩
  | .local _ .vmem, ⟨7, _⟩ => ⟨S4x512, .f32⟩
  | .local _ .vmem, ⟨8, _⟩ => ⟨S4x512, .f32⟩
  | _, _ => ⟨S4x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S4x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S4x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S4x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S4x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S4x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S4x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S4x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S4x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]

abbrev stage0_8 : Fin 1 → Memref sig .tc .vmem S4x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true]
-- ==== AhKernelIdeal.lean ====
abbrev S4x512 : Shape := ⟨2, ![4, 512]⟩

abbrev nBuf : Space → Nat
  | .hbm => 9
  | .vmem => 9
  | .smem => 0
  | _ => 0

abbrev bufTy : (tb : Table) → Fin (tcTables nBuf tb) → BufTy
  | .hbm, ⟨0, _⟩ => ⟨S4x512, .f32⟩
  | .hbm, ⟨1, _⟩ => ⟨S4x512, .f32⟩
  | .hbm, ⟨2, _⟩ => ⟨S4x512, .f32⟩
  | .hbm, ⟨3, _⟩ => ⟨S4x512, .f32⟩
  | .hbm, ⟨4, _⟩ => ⟨S4x512, .f32⟩
  | .hbm, ⟨5, _⟩ => ⟨S4x512, .f32⟩
  | .hbm, ⟨6, _⟩ => ⟨S4x512, .f32⟩
  | .hbm, ⟨7, _⟩ => ⟨S4x512, .f32⟩
  | .hbm, ⟨8, _⟩ => ⟨S4x512, .f32⟩
  | .local _ .vmem, ⟨0, _⟩ => ⟨S4x512, .f32⟩
  | .local _ .vmem, ⟨1, _⟩ => ⟨S4x512, .f32⟩
  | .local _ .vmem, ⟨2, _⟩ => ⟨S4x512, .f32⟩
  | .local _ .vmem, ⟨3, _⟩ => ⟨S4x512, .f32⟩
  | .local _ .vmem, ⟨4, _⟩ => ⟨S4x512, .f32⟩
  | .local _ .vmem, ⟨5, _⟩ => ⟨S4x512, .f32⟩
  | .local _ .vmem, ⟨6, _⟩ => ⟨S4x512, .f32⟩
  | .local _ .vmem, ⟨7, _⟩ => ⟨S4x512, .f32⟩
  | .local _ .vmem, ⟨8, _⟩ => ⟨S4x512, .f32⟩
  | _, _ => ⟨S4x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S4x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S4x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S4x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S4x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S4x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S4x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S4x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S4x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]

abbrev stage0_8 : Fin 1 → Memref sig .tc .vmem S4x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true]
-- ==== AhReferenceIdeal.lean ====
abbrev S4x512 : Shape := ⟨2, ![4, 512]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S4x512, .f32⟩
  | .hbm, ⟨1, _⟩ => ⟨S4x512, .f32⟩
  | .hbm, ⟨2, _⟩ => ⟨S4x512, .f32⟩
  | .hbm, ⟨3, _⟩ => ⟨S4x512, .f32⟩
  | .hbm, ⟨4, _⟩ => ⟨S4x512, .f32⟩
  | .hbm, ⟨5, _⟩ => ⟨S4x512, .f32⟩
  | .hbm, ⟨6, _⟩ => ⟨S_, .f32⟩
  | .hbm, ⟨7, _⟩ => ⟨S4x512, .f32⟩
  | .hbm, ⟨8, _⟩ => ⟨S4x512, .f32⟩
  | .hbm, ⟨9, _⟩ => ⟨S_, .f32⟩
  | .hbm, ⟨10, _⟩ => ⟨S4x512, .f32⟩
  | .hbm, ⟨11, _⟩ => ⟨S4x512, .f32⟩
  | .hbm, ⟨12, _⟩ => ⟨S4x512, .f32⟩
  | .hbm, ⟨13, _⟩ => ⟨S_, .f32⟩
  | .hbm, ⟨14, _⟩ => ⟨S4x512, .f32⟩
  | .hbm, ⟨15, _⟩ => ⟨S4x512, .f32⟩
  | .hbm, ⟨16, _⟩ => ⟨S4x512, .f32⟩
  | .hbm, ⟨17, _⟩ => ⟨S_, .f32⟩
  | .hbm, ⟨18, _⟩ => ⟨S4x512, .f32⟩
  | .hbm, ⟨19, _⟩ => ⟨S4x512, .f32⟩
  | .hbm, ⟨20, _⟩ => ⟨S4x512, .f32⟩
  | .hbm, ⟨21, _⟩ => ⟨S_, .f32⟩
  | .hbm, ⟨22, _⟩ => ⟨S4x512, .f32⟩
  | .hbm, ⟨23, _⟩ => ⟨S4x512, .f32⟩
  | .hbm, ⟨24, _⟩ => ⟨S_, .f32⟩
  | .hbm, ⟨25, _⟩ => ⟨S4x512, .f32⟩
  | .hbm, ⟨26, _⟩ => ⟨S4x512, .f32⟩
  | .hbm, ⟨27, _⟩ => ⟨S4x512, .f32⟩
  | .hbm, ⟨28, _⟩ => ⟨S_, .f32⟩
  | .hbm, ⟨29, _⟩ => ⟨S4x512, .f32⟩
  | .hbm, ⟨30, _⟩ => ⟨S4x512, .f32⟩
  | .hbm, ⟨31, _⟩ => ⟨S4x512, .f32⟩
  | .hbm, ⟨32, _⟩ => ⟨S_, .f32⟩
  | .hbm, ⟨33, _⟩ => ⟨S4x512, .f32⟩
  | .hbm, ⟨34, _⟩ => ⟨S4x512, .f32⟩
  | .hbm, ⟨35, _⟩ => ⟨S4x512, .f32⟩
  | .hbm, ⟨36, _⟩ => ⟨S_, .f32⟩
  | .hbm, ⟨37, _⟩ => ⟨S4x512, .f32⟩
  | .hbm, ⟨38, _⟩ => ⟨S4x512, .f32⟩
  | _, _ => ⟨S4x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_3 : Ref sig .tc := ⟨.hbm, 21, rfl⟩
abbrev main_v12 : Ref sig .tc := ⟨.hbm, 22, rfl⟩
abbrev main_v13 : Ref sig .tc := ⟨.hbm, 23, rfl⟩
abbrev main_cst_4 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_5 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_6 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_7 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== AwKernel.lean ====
abbrev S4096x2688 : Shape := ⟨2, ![4096, 2688]⟩
abbrev S128x2688 : Shape := ⟨2, ![128, 2688]⟩

abbrev nBuf : Space → Nat
  | .hbm => 9
  | .vmem => 18
  | .smem => 0
  | _ => 0

abbrev bufTy : (tb : Table) → Fin (tcTables nBuf tb) → BufTy
  | .hbm, ⟨0, _⟩ => ⟨S4096x2688, .f32⟩
  | .hbm, ⟨1, _⟩ => ⟨S4096x2688, .f32⟩
  | .hbm, ⟨2, _⟩ => ⟨S4096x2688, .f32⟩
  | .hbm, ⟨3, _⟩ => ⟨S4096x2688, .f32⟩
  | .hbm, ⟨4, _⟩ => ⟨S4096x2688, .f32⟩
  | .hbm, ⟨5, _⟩ => ⟨S4096x2688, .f32⟩
  | .hbm, ⟨6, _⟩ => ⟨S4096x2688, .f32⟩
  | .hbm, ⟨7, _⟩ => ⟨S4096x2688, .f32⟩
  | .hbm, ⟨8, _⟩ => ⟨S4096x2688, .f32⟩
  | .local _ .vmem, ⟨0, _⟩ => ⟨S128x2688, .f32⟩
  | .local _ .vmem, ⟨1, _⟩ => ⟨S128x2688, .f32⟩
  | .local _ .vmem, ⟨2, _⟩ => ⟨S128x2688, .f32⟩
  | .local _ .vmem, ⟨3, _⟩ => ⟨S128x2688, .f32⟩
  | .local _ .vmem, ⟨4, _⟩ => ⟨S128x2688, .f32⟩
  | .local _ .vmem, ⟨5, _⟩ => ⟨S128x2688, .f32⟩
  | .local _ .vmem, ⟨6, _⟩ => ⟨S128x2688, .f32⟩
  | .local _ .vmem, ⟨7, _⟩ => ⟨S128x2688, .f32⟩
  | .local _ .vmem, ⟨8, _⟩ => ⟨S128x2688, .f32⟩
  | .local _ .vmem, ⟨9, _⟩ => ⟨S128x2688, .f32⟩
  | .local _ .vmem, ⟨10, _⟩ => ⟨S128x2688, .f32⟩
  | .local _ .vmem, ⟨11, _⟩ => ⟨S128x2688, .f32⟩
  | .local _ .vmem, ⟨12, _⟩ => ⟨S128x2688, .f32⟩
  | .local _ .vmem, ⟨13, _⟩ => ⟨S128x2688, .f32⟩
  | .local _ .vmem, ⟨14, _⟩ => ⟨S128x2688, .f32⟩
  | .local _ .vmem, ⟨15, _⟩ => ⟨S128x2688, .f32⟩
  | .local _ .vmem, ⟨16, _⟩ => ⟨S128x2688, .f32⟩
  | .local _ .vmem, ⟨17, _⟩ => ⟨S128x2688, .f32⟩
  | _, _ => ⟨S4096x2688, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x2688 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x2688 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x2688 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x2688 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x2688 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x2688 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x2688 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x2688 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S128x2688 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== AwKernelIdeal.lean ====
abbrev S4096x2688 : Shape := ⟨2, ![4096, 2688]⟩
abbrev S128x2688 : Shape := ⟨2, ![128, 2688]⟩

abbrev nBuf : Space → Nat
  | .hbm => 9
  | .vmem => 18
  | .smem => 0
  | _ => 0

abbrev bufTy : (tb : Table) → Fin (tcTables nBuf tb) → BufTy
  | .hbm, ⟨0, _⟩ => ⟨S4096x2688, .f32⟩
  | .hbm, ⟨1, _⟩ => ⟨S4096x2688, .f32⟩
  | .hbm, ⟨2, _⟩ => ⟨S4096x2688, .f32⟩
  | .hbm, ⟨3, _⟩ => ⟨S4096x2688, .f32⟩
  | .hbm, ⟨4, _⟩ => ⟨S4096x2688, .f32⟩
  | .hbm, ⟨5, _⟩ => ⟨S4096x2688, .f32⟩
  | .hbm, ⟨6, _⟩ => ⟨S4096x2688, .f32⟩
  | .hbm, ⟨7, _⟩ => ⟨S4096x2688, .f32⟩
  | .hbm, ⟨8, _⟩ => ⟨S4096x2688, .f32⟩
  | .local _ .vmem, ⟨0, _⟩ => ⟨S128x2688, .f32⟩
  | .local _ .vmem, ⟨1, _⟩ => ⟨S128x2688, .f32⟩
  | .local _ .vmem, ⟨2, _⟩ => ⟨S128x2688, .f32⟩
  | .local _ .vmem, ⟨3, _⟩ => ⟨S128x2688, .f32⟩
  | .local _ .vmem, ⟨4, _⟩ => ⟨S128x2688, .f32⟩
  | .local _ .vmem, ⟨5, _⟩ => ⟨S128x2688, .f32⟩
  | .local _ .vmem, ⟨6, _⟩ => ⟨S128x2688, .f32⟩
  | .local _ .vmem, ⟨7, _⟩ => ⟨S128x2688, .f32⟩
  | .local _ .vmem, ⟨8, _⟩ => ⟨S128x2688, .f32⟩
  | .local _ .vmem, ⟨9, _⟩ => ⟨S128x2688, .f32⟩
  | .local _ .vmem, ⟨10, _⟩ => ⟨S128x2688, .f32⟩
  | .local _ .vmem, ⟨11, _⟩ => ⟨S128x2688, .f32⟩
  | .local _ .vmem, ⟨12, _⟩ => ⟨S128x2688, .f32⟩
  | .local _ .vmem, ⟨13, _⟩ => ⟨S128x2688, .f32⟩
  | .local _ .vmem, ⟨14, _⟩ => ⟨S128x2688, .f32⟩
  | .local _ .vmem, ⟨15, _⟩ => ⟨S128x2688, .f32⟩
  | .local _ .vmem, ⟨16, _⟩ => ⟨S128x2688, .f32⟩
  | .local _ .vmem, ⟨17, _⟩ => ⟨S128x2688, .f32⟩
  | _, _ => ⟨S4096x2688, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x2688 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x2688 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x2688 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x2688 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x2688 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x2688 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x2688 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x2688 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S128x2688 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== AwReferenceIdeal.lean ====
abbrev S4096x2688 : Shape := ⟨2, ![4096, 2688]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S4096x2688, .f32⟩
  | .hbm, ⟨1, _⟩ => ⟨S4096x2688, .f32⟩
  | .hbm, ⟨2, _⟩ => ⟨S4096x2688, .f32⟩
  | .hbm, ⟨3, _⟩ => ⟨S4096x2688, .f32⟩
  | .hbm, ⟨4, _⟩ => ⟨S4096x2688, .f32⟩
  | .hbm, ⟨5, _⟩ => ⟨S4096x2688, .f32⟩
  | .hbm, ⟨6, _⟩ => ⟨S_, .f32⟩
  | .hbm, ⟨7, _⟩ => ⟨S4096x2688, .f32⟩
  | .hbm, ⟨8, _⟩ => ⟨S4096x2688, .f32⟩
  | .hbm, ⟨9, _⟩ => ⟨S_, .f32⟩
  | .hbm, ⟨10, _⟩ => ⟨S4096x2688, .f32⟩
  | .hbm, ⟨11, _⟩ => ⟨S4096x2688, .f32⟩
  | .hbm, ⟨12, _⟩ => ⟨S4096x2688, .f32⟩
  | .hbm, ⟨13, _⟩ => ⟨S_, .f32⟩
  | .hbm, ⟨14, _⟩ => ⟨S4096x2688, .f32⟩
  | .hbm, ⟨15, _⟩ => ⟨S4096x2688, .f32⟩
  | .hbm, ⟨16, _⟩ => ⟨S4096x2688, .f32⟩
  | .hbm, ⟨17, _⟩ => ⟨S_, .f32⟩
  | .hbm, ⟨18, _⟩ => ⟨S4096x2688, .f32⟩
  | .hbm, ⟨19, _⟩ => ⟨S4096x2688, .f32⟩
  | .hbm, ⟨20, _⟩ => ⟨S4096x2688, .f32⟩
  | .hbm, ⟨21, _⟩ => ⟨S_, .f32⟩
  | .hbm, ⟨22, _⟩ => ⟨S4096x2688, .f32⟩
  | .hbm, ⟨23, _⟩ => ⟨S4096x2688, .f32⟩
  | .hbm, ⟨24, _⟩ => ⟨S_, .f32⟩
  | .hbm, ⟨25, _⟩ => ⟨S4096x2688, .f32⟩
  | .hbm, ⟨26, _⟩ => ⟨S4096x2688, .f32⟩
  | .hbm, ⟨27, _⟩ => ⟨S4096x2688, .f32⟩
  | .hbm, ⟨28, _⟩ => ⟨S_, .f32⟩
  | .hbm, ⟨29, _⟩ => ⟨S4096x2688, .f32⟩
  | .hbm, ⟨30, _⟩ => ⟨S4096x2688, .f32⟩
  | .hbm, ⟨31, _⟩ => ⟨S4096x2688, .f32⟩
  | .hbm, ⟨32, _⟩ => ⟨S_, .f32⟩
  | .hbm, ⟨33, _⟩ => ⟨S4096x2688, .f32⟩
  | .hbm, ⟨34, _⟩ => ⟨S4096x2688, .f32⟩
  | .hbm, ⟨35, _⟩ => ⟨S4096x2688, .f32⟩
  | .hbm, ⟨36, _⟩ => ⟨S_, .f32⟩
  | .hbm, ⟨37, _⟩ => ⟨S4096x2688, .f32⟩
  | .hbm, ⟨38, _⟩ => ⟨S4096x2688, .f32⟩
  | _, _ => ⟨S4096x2688, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_3 : Ref sig .tc := ⟨.hbm, 21, rfl⟩
abbrev main_v12 : Ref sig .tc := ⟨.hbm, 22, rfl⟩
abbrev main_v13 : Ref sig .tc := ⟨.hbm, 23, rfl⟩
abbrev main_cst_4 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_5 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_6 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_7 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== AfKernel.lean ====
abbrev S4096x1024 : Shape := ⟨2, ![4096, 1024]⟩
abbrev S512x1024 : Shape := ⟨2, ![512, 1024]⟩

abbrev nBuf : Space → Nat
  | .hbm => 9
  | .vmem => 18
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .f32⟩
  | .hbm, ⟨3, _⟩ => ⟨S4096x1024, .f32⟩
  | .hbm, ⟨4, _⟩ => ⟨S4096x1024, .f32⟩
  | .hbm, ⟨5, _⟩ => ⟨S4096x1024, .f32⟩
  | .hbm, ⟨6, _⟩ => ⟨S4096x1024, .f32⟩
  | .hbm, ⟨7, _⟩ => ⟨S4096x1024, .f32⟩
  | .hbm, ⟨8, _⟩ => ⟨S4096x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .f32⟩
  | .local _ .vmem, ⟨12, _⟩ => ⟨S512x1024, .f32⟩
  | .local _ .vmem, ⟨13, _⟩ => ⟨S512x1024, .f32⟩
  | .local _ .vmem, ⟨14, _⟩ => ⟨S512x1024, .f32⟩
  | .local _ .vmem, ⟨15, _⟩ => ⟨S512x1024, .f32⟩
  | .local _ .vmem, ⟨16, _⟩ => ⟨S512x1024, .f32⟩
  | .local _ .vmem, ⟨17, _⟩ => ⟨S512x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== AfKernelIdeal.lean ====
abbrev S4096x1024 : Shape := ⟨2, ![4096, 1024]⟩
abbrev S512x1024 : Shape := ⟨2, ![512, 1024]⟩

abbrev nBuf : Space → Nat
  | .hbm => 9
  | .vmem => 18
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .f32⟩
  | .hbm, ⟨3, _⟩ => ⟨S4096x1024, .f32⟩
  | .hbm, ⟨4, _⟩ => ⟨S4096x1024, .f32⟩
  | .hbm, ⟨5, _⟩ => ⟨S4096x1024, .f32⟩
  | .hbm, ⟨6, _⟩ => ⟨S4096x1024, .f32⟩
  | .hbm, ⟨7, _⟩ => ⟨S4096x1024, .f32⟩
  | .hbm, ⟨8, _⟩ => ⟨S4096x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .f32⟩
  | .local _ .vmem, ⟨12, _⟩ => ⟨S512x1024, .f32⟩
  | .local _ .vmem, ⟨13, _⟩ => ⟨S512x1024, .f32⟩
  | .local _ .vmem, ⟨14, _⟩ => ⟨S512x1024, .f32⟩
  | .local _ .vmem, ⟨15, _⟩ => ⟨S512x1024, .f32⟩
  | .local _ .vmem, ⟨16, _⟩ => ⟨S512x1024, .f32⟩
  | .local _ .vmem, ⟨17, _⟩ => ⟨S512x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== AfReferenceIdeal.lean ====
abbrev S4096x1024 : Shape := ⟨2, ![4096, 1024]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .f32⟩
  | .hbm, ⟨3, _⟩ => ⟨S4096x1024, .f32⟩
  | .hbm, ⟨4, _⟩ => ⟨S4096x1024, .f32⟩
  | .hbm, ⟨5, _⟩ => ⟨S4096x1024, .f32⟩
  | .hbm, ⟨6, _⟩ => ⟨S_, .f32⟩
  | .hbm, ⟨7, _⟩ => ⟨S4096x1024, .f32⟩
  | .hbm, ⟨8, _⟩ => ⟨S4096x1024, .f32⟩
  | .hbm, ⟨9, _⟩ => ⟨S_, .f32⟩
  | .hbm, ⟨10, _⟩ => ⟨S4096x1024, .f32⟩
  | .hbm, ⟨11, _⟩ => ⟨S4096x1024, .f32⟩
  | .hbm, ⟨12, _⟩ => ⟨S4096x1024, .f32⟩
  | .hbm, ⟨13, _⟩ => ⟨S_, .f32⟩
  | .hbm, ⟨14, _⟩ => ⟨S4096x1024, .f32⟩
  | .hbm, ⟨15, _⟩ => ⟨S4096x1024, .f32⟩
  | .hbm, ⟨16, _⟩ => ⟨S4096x1024, .f32⟩
  | .hbm, ⟨17, _⟩ => ⟨S_, .f32⟩
  | .hbm, ⟨18, _⟩ => ⟨S4096x1024, .f32⟩
  | .hbm, ⟨19, _⟩ => ⟨S4096x1024, .f32⟩
  | .hbm, ⟨20, _⟩ => ⟨S4096x1024, .f32⟩
  | .hbm, ⟨21, _⟩ => ⟨S_, .f32⟩
  | .hbm, ⟨22, _⟩ => ⟨S4096x1024, .f32⟩
  | .hbm, ⟨23, _⟩ => ⟨S4096x1024, .f32⟩
  | .hbm, ⟨24, _⟩ => ⟨S_, .f32⟩
  | .hbm, ⟨25, _⟩ => ⟨S4096x1024, .f32⟩
  | .hbm, ⟨26, _⟩ => ⟨S4096x1024, .f32⟩
  | .hbm, ⟨27, _⟩ => ⟨S4096x1024, .f32⟩
  | .hbm, ⟨28, _⟩ => ⟨S_, .f32⟩
  | .hbm, ⟨29, _⟩ => ⟨S4096x1024, .f32⟩
  | .hbm, ⟨30, _⟩ => ⟨S4096x1024, .f32⟩
  | .hbm, ⟨31, _⟩ => ⟨S4096x1024, .f32⟩
  | .hbm, ⟨32, _⟩ => ⟨S_, .f32⟩
  | .hbm, ⟨33, _⟩ => ⟨S4096x1024, .f32⟩
  | .hbm, ⟨34, _⟩ => ⟨S4096x1024, .f32⟩
  | .hbm, ⟨35, _⟩ => ⟨S4096x1024, .f32⟩
  | .hbm, ⟨36, _⟩ => ⟨S_, .f32⟩
  | .hbm, ⟨37, _⟩ => ⟨S4096x1024, .f32⟩
  | .hbm, ⟨38, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_3 : Ref sig .tc := ⟨.hbm, 21, rfl⟩
abbrev main_v12 : Ref sig .tc := ⟨.hbm, 22, rfl⟩
abbrev main_v13 : Ref sig .tc := ⟨.hbm, 23, rfl⟩
abbrev main_cst_4 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_5 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_6 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_7 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== ArKernel.lean ====
abbrev S32x24 : Shape := ⟨2, ![32, 24]⟩

abbrev nBuf : Space → Nat
  | .hbm => 9
  | .vmem => 9
  | .smem => 0
  | _ => 0

abbrev bufTy : (tb : Table) → Fin (tcTables nBuf tb) → BufTy
  | .hbm, ⟨0, _⟩ => ⟨S32x24, .f32⟩
  | .hbm, ⟨1, _⟩ => ⟨S32x24, .f32⟩
  | .hbm, ⟨2, _⟩ => ⟨S32x24, .f32⟩
  | .hbm, ⟨3, _⟩ => ⟨S32x24, .f32⟩
  | .hbm, ⟨4, _⟩ => ⟨S32x24, .f32⟩
  | .hbm, ⟨5, _⟩ => ⟨S32x24, .f32⟩
  | .hbm, ⟨6, _⟩ => ⟨S32x24, .f32⟩
  | .hbm, ⟨7, _⟩ => ⟨S32x24, .f32⟩
  | .hbm, ⟨8, _⟩ => ⟨S32x24, .f32⟩
  | .local _ .vmem, ⟨0, _⟩ => ⟨S32x24, .f32⟩
  | .local _ .vmem, ⟨1, _⟩ => ⟨S32x24, .f32⟩
  | .local _ .vmem, ⟨2, _⟩ => ⟨S32x24, .f32⟩
  | .local _ .vmem, ⟨3, _⟩ => ⟨S32x24, .f32⟩
  | .local _ .vmem, ⟨4, _⟩ => ⟨S32x24, .f32⟩
  | .local _ .vmem, ⟨5, _⟩ => ⟨S32x24, .f32⟩
  | .local _ .vmem, ⟨6, _⟩ => ⟨S32x24, .f32⟩
  | .local _ .vmem, ⟨7, _⟩ => ⟨S32x24, .f32⟩
  | .local _ .vmem, ⟨8, _⟩ => ⟨S32x24, .f32⟩
  | _, _ => ⟨S32x24, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S32x24 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S32x24 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S32x24 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S32x24 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S32x24 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S32x24 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S32x24 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S32x24 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]

abbrev stage0_8 : Fin 1 → Memref sig .tc .vmem S32x24 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true]
-- ==== ArKernelIdeal.lean ====
abbrev S32x24 : Shape := ⟨2, ![32, 24]⟩

abbrev nBuf : Space → Nat
  | .hbm => 9
  | .vmem => 9
  | .smem => 0
  | _ => 0

abbrev bufTy : (tb : Table) → Fin (tcTables nBuf tb) → BufTy
  | .hbm, ⟨0, _⟩ => ⟨S32x24, .f32⟩
  | .hbm, ⟨1, _⟩ => ⟨S32x24, .f32⟩
  | .hbm, ⟨2, _⟩ => ⟨S32x24, .f32⟩
  | .hbm, ⟨3, _⟩ => ⟨S32x24, .f32⟩
  | .hbm, ⟨4, _⟩ => ⟨S32x24, .f32⟩
  | .hbm, ⟨5, _⟩ => ⟨S32x24, .f32⟩
  | .hbm, ⟨6, _⟩ => ⟨S32x24, .f32⟩
  | .hbm, ⟨7, _⟩ => ⟨S32x24, .f32⟩
  | .hbm, ⟨8, _⟩ => ⟨S32x24, .f32⟩
  | .local _ .vmem, ⟨0, _⟩ => ⟨S32x24, .f32⟩
  | .local _ .vmem, ⟨1, _⟩ => ⟨S32x24, .f32⟩
  | .local _ .vmem, ⟨2, _⟩ => ⟨S32x24, .f32⟩
  | .local _ .vmem, ⟨3, _⟩ => ⟨S32x24, .f32⟩
  | .local _ .vmem, ⟨4, _⟩ => ⟨S32x24, .f32⟩
  | .local _ .vmem, ⟨5, _⟩ => ⟨S32x24, .f32⟩
  | .local _ .vmem, ⟨6, _⟩ => ⟨S32x24, .f32⟩
  | .local _ .vmem, ⟨7, _⟩ => ⟨S32x24, .f32⟩
  | .local _ .vmem, ⟨8, _⟩ => ⟨S32x24, .f32⟩
  | _, _ => ⟨S32x24, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S32x24 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S32x24 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S32x24 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S32x24 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S32x24 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S32x24 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S32x24 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S32x24 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]

abbrev stage0_8 : Fin 1 → Memref sig .tc .vmem S32x24 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true]
-- ==== ArReferenceIdeal.lean ====
abbrev S32x24 : Shape := ⟨2, ![32, 24]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S32x24, .f32⟩
  | .hbm, ⟨1, _⟩ => ⟨S32x24, .f32⟩
  | .hbm, ⟨2, _⟩ => ⟨S32x24, .f32⟩
  | .hbm, ⟨3, _⟩ => ⟨S32x24, .f32⟩
  | .hbm, ⟨4, _⟩ => ⟨S32x24, .f32⟩
  | .hbm, ⟨5, _⟩ => ⟨S32x24, .f32⟩
  | .hbm, ⟨6, _⟩ => ⟨S_, .f32⟩
  | .hbm, ⟨7, _⟩ => ⟨S32x24, .f32⟩
  | .hbm, ⟨8, _⟩ => ⟨S32x24, .f32⟩
  | .hbm, ⟨9, _⟩ => ⟨S_, .f32⟩
  | .hbm, ⟨10, _⟩ => ⟨S32x24, .f32⟩
  | .hbm, ⟨11, _⟩ => ⟨S32x24, .f32⟩
  | .hbm, ⟨12, _⟩ => ⟨S32x24, .f32⟩
  | .hbm, ⟨13, _⟩ => ⟨S_, .f32⟩
  | .hbm, ⟨14, _⟩ => ⟨S32x24, .f32⟩
  | .hbm, ⟨15, _⟩ => ⟨S32x24, .f32⟩
  | .hbm, ⟨16, _⟩ => ⟨S32x24, .f32⟩
  | .hbm, ⟨17, _⟩ => ⟨S_, .f32⟩
  | .hbm, ⟨18, _⟩ => ⟨S32x24, .f32⟩
  | .hbm, ⟨19, _⟩ => ⟨S32x24, .f32⟩
  | .hbm, ⟨20, _⟩ => ⟨S32x24, .f32⟩
  | .hbm, ⟨21, _⟩ => ⟨S_, .f32⟩
  | .hbm, ⟨22, _⟩ => ⟨S32x24, .f32⟩
  | .hbm, ⟨23, _⟩ => ⟨S32x24, .f32⟩
  | .hbm, ⟨24, _⟩ => ⟨S_, .f32⟩
  | .hbm, ⟨25, _⟩ => ⟨S32x24, .f32⟩
  | .hbm, ⟨26, _⟩ => ⟨S32x24, .f32⟩
  | .hbm, ⟨27, _⟩ => ⟨S32x24, .f32⟩
  | .hbm, ⟨28, _⟩ => ⟨S_, .f32⟩
  | .hbm, ⟨29, _⟩ => ⟨S32x24, .f32⟩
  | .hbm, ⟨30, _⟩ => ⟨S32x24, .f32⟩
  | .hbm, ⟨31, _⟩ => ⟨S32x24, .f32⟩
  | .hbm, ⟨32, _⟩ => ⟨S_, .f32⟩
  | .hbm, ⟨33, _⟩ => ⟨S32x24, .f32⟩
  | .hbm, ⟨34, _⟩ => ⟨S32x24, .f32⟩
  | .hbm, ⟨35, _⟩ => ⟨S32x24, .f32⟩
  | .hbm, ⟨36, _⟩ => ⟨S_, .f32⟩
  | .hbm, ⟨37, _⟩ => ⟨S32x24, .f32⟩
  | .hbm, ⟨38, _⟩ => ⟨S32x24, .f32⟩
  | _, _ => ⟨S32x24, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_3 : Ref sig .tc := ⟨.hbm, 21, rfl⟩
abbrev main_v12 : Ref sig .tc := ⟨.hbm, 22, rfl⟩
abbrev main_v13 : Ref sig .tc := ⟨.hbm, 23, rfl⟩
abbrev main_cst_4 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_5 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_6 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_7 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== AgKernel.lean ====
abbrev S16x256 : Shape := ⟨2, ![16, 256]⟩

abbrev nBuf : Space → Nat
  | .hbm => 9
  | .vmem => 9
  | .smem => 0
  | _ => 0

abbrev bufTy : (tb : Table) → Fin (tcTables nBuf tb) → BufTy
  | .hbm, ⟨0, _⟩ => ⟨S16x256, .f32⟩
  | .hbm, ⟨1, _⟩ => ⟨S16x256, .f32⟩
  | .hbm, ⟨2, _⟩ => ⟨S16x256, .f32⟩
  | .hbm, ⟨3, _⟩ => ⟨S16x256, .f32⟩
  | .hbm, ⟨4, _⟩ => ⟨S16x256, .f32⟩
  | .hbm, ⟨5, _⟩ => ⟨S16x256, .f32⟩
  | .hbm, ⟨6, _⟩ => ⟨S16x256, .f32⟩
  | .hbm, ⟨7, _⟩ => ⟨S16x256, .f32⟩
  | .hbm, ⟨8, _⟩ => ⟨S16x256, .f32⟩
  | .local _ .vmem, ⟨0, _⟩ => ⟨S16x256, .f32⟩
  | .local _ .vmem, ⟨1, _⟩ => ⟨S16x256, .f32⟩
  | .local _ .vmem, ⟨2, _⟩ => ⟨S16x256, .f32⟩
  | .local _ .vmem, ⟨3, _⟩ => ⟨S16x256, .f32⟩
  | .local _ .vmem, ⟨4, _⟩ => ⟨S16x256, .f32⟩
  | .local _ .vmem, ⟨5, _⟩ => ⟨S16x256, .f32⟩
  | .local _ .vmem, ⟨6, _⟩ => ⟨S16x256, .f32⟩
  | .local _ .vmem, ⟨7, _⟩ => ⟨S16x256, .f32⟩
  | .local _ .vmem, ⟨8, _⟩ => ⟨S16x256, .f32⟩
  | _, _ => ⟨S16x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S16x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S16x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S16x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S16x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S16x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S16x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S16x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S16x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]

abbrev stage0_8 : Fin 1 → Memref sig .tc .vmem S16x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true]
-- ==== AgKernelIdeal.lean ====
abbrev S16x256 : Shape := ⟨2, ![16, 256]⟩

abbrev nBuf : Space → Nat
  | .hbm => 9
  | .vmem => 9
  | .smem => 0
  | _ => 0

abbrev bufTy : (tb : Table) → Fin (tcTables nBuf tb) → BufTy
  | .hbm, ⟨0, _⟩ => ⟨S16x256, .f32⟩
  | .hbm, ⟨1, _⟩ => ⟨S16x256, .f32⟩
  | .hbm, ⟨2, _⟩ => ⟨S16x256, .f32⟩
  | .hbm, ⟨3, _⟩ => ⟨S16x256, .f32⟩
  | .hbm, ⟨4, _⟩ => ⟨S16x256, .f32⟩
  | .hbm, ⟨5, _⟩ => ⟨S16x256, .f32⟩
  | .hbm, ⟨6, _⟩ => ⟨S16x256, .f32⟩
  | .hbm, ⟨7, _⟩ => ⟨S16x256, .f32⟩
  | .hbm, ⟨8, _⟩ => ⟨S16x256, .f32⟩
  | .local _ .vmem, ⟨0, _⟩ => ⟨S16x256, .f32⟩
  | .local _ .vmem, ⟨1, _⟩ => ⟨S16x256, .f32⟩
  | .local _ .vmem, ⟨2, _⟩ => ⟨S16x256, .f32⟩
  | .local _ .vmem, ⟨3, _⟩ => ⟨S16x256, .f32⟩
  | .local _ .vmem, ⟨4, _⟩ => ⟨S16x256, .f32⟩
  | .local _ .vmem, ⟨5, _⟩ => ⟨S16x256, .f32⟩
  | .local _ .vmem, ⟨6, _⟩ => ⟨S16x256, .f32⟩
  | .local _ .vmem, ⟨7, _⟩ => ⟨S16x256, .f32⟩
  | .local _ .vmem, ⟨8, _⟩ => ⟨S16x256, .f32⟩
  | _, _ => ⟨S16x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S16x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S16x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S16x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S16x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S16x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S16x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S16x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S16x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]

abbrev stage0_8 : Fin 1 → Memref sig .tc .vmem S16x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true]
-- ==== AgReferenceIdeal.lean ====
abbrev S16x256 : Shape := ⟨2, ![16, 256]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S16x256, .f32⟩
  | .hbm, ⟨1, _⟩ => ⟨S16x256, .f32⟩
  | .hbm, ⟨2, _⟩ => ⟨S16x256, .f32⟩
  | .hbm, ⟨3, _⟩ => ⟨S16x256, .f32⟩
  | .hbm, ⟨4, _⟩ => ⟨S16x256, .f32⟩
  | .hbm, ⟨5, _⟩ => ⟨S16x256, .f32⟩
  | .hbm, ⟨6, _⟩ => ⟨S_, .f32⟩
  | .hbm, ⟨7, _⟩ => ⟨S16x256, .f32⟩
  | .hbm, ⟨8, _⟩ => ⟨S16x256, .f32⟩
  | .hbm, ⟨9, _⟩ => ⟨S_, .f32⟩
  | .hbm, ⟨10, _⟩ => ⟨S16x256, .f32⟩
  | .hbm, ⟨11, _⟩ => ⟨S16x256, .f32⟩
  | .hbm, ⟨12, _⟩ => ⟨S16x256, .f32⟩
  | .hbm, ⟨13, _⟩ => ⟨S_, .f32⟩
  | .hbm, ⟨14, _⟩ => ⟨S16x256, .f32⟩
  | .hbm, ⟨15, _⟩ => ⟨S16x256, .f32⟩
  | .hbm, ⟨16, _⟩ => ⟨S16x256, .f32⟩
  | .hbm, ⟨17, _⟩ => ⟨S_, .f32⟩
  | .hbm, ⟨18, _⟩ => ⟨S16x256, .f32⟩
  | .hbm, ⟨19, _⟩ => ⟨S16x256, .f32⟩
  | .hbm, ⟨20, _⟩ => ⟨S16x256, .f32⟩
  | .hbm, ⟨21, _⟩ => ⟨S_, .f32⟩
  | .hbm, ⟨22, _⟩ => ⟨S16x256, .f32⟩
  | .hbm, ⟨23, _⟩ => ⟨S16x256, .f32⟩
  | .hbm, ⟨24, _⟩ => ⟨S_, .f32⟩
  | .hbm, ⟨25, _⟩ => ⟨S16x256, .f32⟩
  | .hbm, ⟨26, _⟩ => ⟨S16x256, .f32⟩
  | .hbm, ⟨27, _⟩ => ⟨S16x256, .f32⟩
  | .hbm, ⟨28, _⟩ => ⟨S_, .f32⟩
  | .hbm, ⟨29, _⟩ => ⟨S16x256, .f32⟩
  | .hbm, ⟨30, _⟩ => ⟨S16x256, .f32⟩
  | .hbm, ⟨31, _⟩ => ⟨S16x256, .f32⟩
  | .hbm, ⟨32, _⟩ => ⟨S_, .f32⟩
  | .hbm, ⟨33, _⟩ => ⟨S16x256, .f32⟩
  | .hbm, ⟨34, _⟩ => ⟨S16x256, .f32⟩
  | .hbm, ⟨35, _⟩ => ⟨S16x256, .f32⟩
  | .hbm, ⟨36, _⟩ => ⟨S_, .f32⟩
  | .hbm, ⟨37, _⟩ => ⟨S16x256, .f32⟩
  | .hbm, ⟨38, _⟩ => ⟨S16x256, .f32⟩
  | _, _ => ⟨S16x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_3 : Ref sig .tc := ⟨.hbm, 21, rfl⟩
abbrev main_v12 : Ref sig .tc := ⟨.hbm, 22, rfl⟩
abbrev main_v13 : Ref sig .tc := ⟨.hbm, 23, rfl⟩
abbrev main_cst_4 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_5 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_6 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_7 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== ApKernel.lean ====
abbrev S2048x128 : Shape := ⟨2, ![2048, 128]⟩

abbrev nBuf : Space → Nat
  | .hbm => 9
  | .vmem => 9
  | .smem => 0
  | _ => 0

abbrev bufTy : (tb : Table) → Fin (tcTables nBuf tb) → BufTy
  | .hbm, ⟨0, _⟩ => ⟨S2048x128, .f32⟩
  | .hbm, ⟨1, _⟩ => ⟨S2048x128, .f32⟩
  | .hbm, ⟨2, _⟩ => ⟨S2048x128, .f32⟩
  | .hbm, ⟨3, _⟩ => ⟨S2048x128, .f32⟩
  | .hbm, ⟨4, _⟩ => ⟨S2048x128, .f32⟩
  | .hbm, ⟨5, _⟩ => ⟨S2048x128, .f32⟩
  | .hbm, ⟨6, _⟩ => ⟨S2048x128, .f32⟩
  | .hbm, ⟨7, _⟩ => ⟨S2048x128, .f32⟩
  | .hbm, ⟨8, _⟩ => ⟨S2048x128, .f32⟩
  | .local _ .vmem, ⟨0, _⟩ => ⟨S2048x128, .f32⟩
  | .local _ .vmem, ⟨1, _⟩ => ⟨S2048x128, .f32⟩
  | .local _ .vmem, ⟨2, _⟩ => ⟨S2048x128, .f32⟩
  | .local _ .vmem, ⟨3, _⟩ => ⟨S2048x128, .f32⟩
  | .local _ .vmem, ⟨4, _⟩ => ⟨S2048x128, .f32⟩
  | .local _ .vmem, ⟨5, _⟩ => ⟨S2048x128, .f32⟩
  | .local _ .vmem, ⟨6, _⟩ => ⟨S2048x128, .f32⟩
  | .local _ .vmem, ⟨7, _⟩ => ⟨S2048x128, .f32⟩
  | .local _ .vmem, ⟨8, _⟩ => ⟨S2048x128, .f32⟩
  | _, _ => ⟨S2048x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S2048x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S2048x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S2048x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S2048x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S2048x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S2048x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S2048x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S2048x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]

abbrev stage0_8 : Fin 1 → Memref sig .tc .vmem S2048x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true]
-- ==== ApKernelIdeal.lean ====
abbrev S2048x128 : Shape := ⟨2, ![2048, 128]⟩

abbrev nBuf : Space → Nat
  | .hbm => 9
  | .vmem => 9
  | .smem => 0
  | _ => 0

abbrev bufTy : (tb : Table) → Fin (tcTables nBuf tb) → BufTy
  | .hbm, ⟨0, _⟩ => ⟨S2048x128, .f32⟩
  | .hbm, ⟨1, _⟩ => ⟨S2048x128, .f32⟩
  | .hbm, ⟨2, _⟩ => ⟨S2048x128, .f32⟩
  | .hbm, ⟨3, _⟩ => ⟨S2048x128, .f32⟩
  | .hbm, ⟨4, _⟩ => ⟨S2048x128, .f32⟩
  | .hbm, ⟨5, _⟩ => ⟨S2048x128, .f32⟩
  | .hbm, ⟨6, _⟩ => ⟨S2048x128, .f32⟩
  | .hbm, ⟨7, _⟩ => ⟨S2048x128, .f32⟩
  | .hbm, ⟨8, _⟩ => ⟨S2048x128, .f32⟩
  | .local _ .vmem, ⟨0, _⟩ => ⟨S2048x128, .f32⟩
  | .local _ .vmem, ⟨1, _⟩ => ⟨S2048x128, .f32⟩
  | .local _ .vmem, ⟨2, _⟩ => ⟨S2048x128, .f32⟩
  | .local _ .vmem, ⟨3, _⟩ => ⟨S2048x128, .f32⟩
  | .local _ .vmem, ⟨4, _⟩ => ⟨S2048x128, .f32⟩
  | .local _ .vmem, ⟨5, _⟩ => ⟨S2048x128, .f32⟩
  | .local _ .vmem, ⟨6, _⟩ => ⟨S2048x128, .f32⟩
  | .local _ .vmem, ⟨7, _⟩ => ⟨S2048x128, .f32⟩
  | .local _ .vmem, ⟨8, _⟩ => ⟨S2048x128, .f32⟩
  | _, _ => ⟨S2048x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S2048x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S2048x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S2048x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S2048x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S2048x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S2048x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S2048x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S2048x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]

abbrev stage0_8 : Fin 1 → Memref sig .tc .vmem S2048x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true]
-- ==== ApReferenceIdeal.lean ====
abbrev S2048x128 : Shape := ⟨2, ![2048, 128]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S2048x128, .f32⟩
  | .hbm, ⟨1, _⟩ => ⟨S2048x128, .f32⟩
  | .hbm, ⟨2, _⟩ => ⟨S2048x128, .f32⟩
  | .hbm, ⟨3, _⟩ => ⟨S2048x128, .f32⟩
  | .hbm, ⟨4, _⟩ => ⟨S2048x128, .f32⟩
  | .hbm, ⟨5, _⟩ => ⟨S2048x128, .f32⟩
  | .hbm, ⟨6, _⟩ => ⟨S_, .f32⟩
  | .hbm, ⟨7, _⟩ => ⟨S2048x128, .f32⟩
  | .hbm, ⟨8, _⟩ => ⟨S2048x128, .f32⟩
  | .hbm, ⟨9, _⟩ => ⟨S_, .f32⟩
  | .hbm, ⟨10, _⟩ => ⟨S2048x128, .f32⟩
  | .hbm, ⟨11, _⟩ => ⟨S2048x128, .f32⟩
  | .hbm, ⟨12, _⟩ => ⟨S2048x128, .f32⟩
  | .hbm, ⟨13, _⟩ => ⟨S_, .f32⟩
  | .hbm, ⟨14, _⟩ => ⟨S2048x128, .f32⟩
  | .hbm, ⟨15, _⟩ => ⟨S2048x128, .f32⟩
  | .hbm, ⟨16, _⟩ => ⟨S2048x128, .f32⟩
  | .hbm, ⟨17, _⟩ => ⟨S_, .f32⟩
  | .hbm, ⟨18, _⟩ => ⟨S2048x128, .f32⟩
  | .hbm, ⟨19, _⟩ => ⟨S2048x128, .f32⟩
  | .hbm, ⟨20, _⟩ => ⟨S2048x128, .f32⟩
  | .hbm, ⟨21, _⟩ => ⟨S_, .f32⟩
  | .hbm, ⟨22, _⟩ => ⟨S2048x128, .f32⟩
  | .hbm, ⟨23, _⟩ => ⟨S2048x128, .f32⟩
  | .hbm, ⟨24, _⟩ => ⟨S_, .f32⟩
  | .hbm, ⟨25, _⟩ => ⟨S2048x128, .f32⟩
  | .hbm, ⟨26, _⟩ => ⟨S2048x128, .f32⟩
  | .hbm, ⟨27, _⟩ => ⟨S2048x128, .f32⟩
  | .hbm, ⟨28, _⟩ => ⟨S_, .f32⟩
  | .hbm, ⟨29, _⟩ => ⟨S2048x128, .f32⟩
  | .hbm, ⟨30, _⟩ => ⟨S2048x128, .f32⟩
  | .hbm, ⟨31, _⟩ => ⟨S2048x128, .f32⟩
  | .hbm, ⟨32, _⟩ => ⟨S_, .f32⟩
  | .hbm, ⟨33, _⟩ => ⟨S2048x128, .f32⟩
  | .hbm, ⟨34, _⟩ => ⟨S2048x128, .f32⟩
  | .hbm, ⟨35, _⟩ => ⟨S2048x128, .f32⟩
  | .hbm, ⟨36, _⟩ => ⟨S_, .f32⟩
  | .hbm, ⟨37, _⟩ => ⟨S2048x128, .f32⟩
  | .hbm, ⟨38, _⟩ => ⟨S2048x128, .f32⟩
  | _, _ => ⟨S2048x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_3 : Ref sig .tc := ⟨.hbm, 21, rfl⟩
abbrev main_v12 : Ref sig .tc := ⟨.hbm, 22, rfl⟩
abbrev main_v13 : Ref sig .tc := ⟨.hbm, 23, rfl⟩
abbrev main_cst_4 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_5 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_6 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_7 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== AaKernel.lean ====
abbrev S128x64 : Shape := ⟨2, ![128, 64]⟩

abbrev nBuf : Space → Nat
  | .hbm => 9
  | .vmem => 9
  | .smem => 0
  | _ => 0

abbrev bufTy : (tb : Table) → Fin (tcTables nBuf tb) → BufTy
  | .hbm, ⟨0, _⟩ => ⟨S128x64, .f32⟩
  | .hbm, ⟨1, _⟩ => ⟨S128x64, .f32⟩
  | .hbm, ⟨2, _⟩ => ⟨S128x64, .f32⟩
  | .hbm, ⟨3, _⟩ => ⟨S128x64, .f32⟩
  | .hbm, ⟨4, _⟩ => ⟨S128x64, .f32⟩
  | .hbm, ⟨5, _⟩ => ⟨S128x64, .f32⟩
  | .hbm, ⟨6, _⟩ => ⟨S128x64, .f32⟩
  | .hbm, ⟨7, _⟩ => ⟨S128x64, .f32⟩
  | .hbm, ⟨8, _⟩ => ⟨S128x64, .f32⟩
  | .local _ .vmem, ⟨0, _⟩ => ⟨S128x64, .f32⟩
  | .local _ .vmem, ⟨1, _⟩ => ⟨S128x64, .f32⟩
  | .local _ .vmem, ⟨2, _⟩ => ⟨S128x64, .f32⟩
  | .local _ .vmem, ⟨3, _⟩ => ⟨S128x64, .f32⟩
  | .local _ .vmem, ⟨4, _⟩ => ⟨S128x64, .f32⟩
  | .local _ .vmem, ⟨5, _⟩ => ⟨S128x64, .f32⟩
  | .local _ .vmem, ⟨6, _⟩ => ⟨S128x64, .f32⟩
  | .local _ .vmem, ⟨7, _⟩ => ⟨S128x64, .f32⟩
  | .local _ .vmem, ⟨8, _⟩ => ⟨S128x64, .f32⟩
  | _, _ => ⟨S128x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S128x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S128x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S128x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S128x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S128x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S128x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S128x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S128x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]

abbrev stage0_8 : Fin 1 → Memref sig .tc .vmem S128x64 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true]
-- ==== AaKernelIdeal.lean ====
abbrev S128x64 : Shape := ⟨2, ![128, 64]⟩

abbrev nBuf : Space → Nat
  | .hbm => 9
  | .vmem => 9
  | .smem => 0
  | _ => 0

abbrev bufTy : (tb : Table) → Fin (tcTables nBuf tb) → BufTy
  | .hbm, ⟨0, _⟩ => ⟨S128x64, .f32⟩
  | .hbm, ⟨1, _⟩ => ⟨S128x64, .f32⟩
  | .hbm, ⟨2, _⟩ => ⟨S128x64, .f32⟩
  | .hbm, ⟨3, _⟩ => ⟨S128x64, .f32⟩
  | .hbm, ⟨4, _⟩ => ⟨S128x64, .f32⟩
  | .hbm, ⟨5, _⟩ => ⟨S128x64, .f32⟩
  | .hbm, ⟨6, _⟩ => ⟨S128x64, .f32⟩
  | .hbm, ⟨7, _⟩ => ⟨S128x64, .f32⟩
  | .hbm, ⟨8, _⟩ => ⟨S128x64, .f32⟩
  | .local _ .vmem, ⟨0, _⟩ => ⟨S128x64, .f32⟩
  | .local _ .vmem, ⟨1, _⟩ => ⟨S128x64, .f32⟩
  | .local _ .vmem, ⟨2, _⟩ => ⟨S128x64, .f32⟩
  | .local _ .vmem, ⟨3, _⟩ => ⟨S128x64, .f32⟩
  | .local _ .vmem, ⟨4, _⟩ => ⟨S128x64, .f32⟩
  | .local _ .vmem, ⟨5, _⟩ => ⟨S128x64, .f32⟩
  | .local _ .vmem, ⟨6, _⟩ => ⟨S128x64, .f32⟩
  | .local _ .vmem, ⟨7, _⟩ => ⟨S128x64, .f32⟩
  | .local _ .vmem, ⟨8, _⟩ => ⟨S128x64, .f32⟩
  | _, _ => ⟨S128x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S128x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S128x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S128x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S128x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S128x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S128x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S128x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S128x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]

abbrev stage0_8 : Fin 1 → Memref sig .tc .vmem S128x64 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true]
-- ==== AaReferenceIdeal.lean ====
abbrev S128x64 : Shape := ⟨2, ![128, 64]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S128x64, .f32⟩
  | .hbm, ⟨1, _⟩ => ⟨S128x64, .f32⟩
  | .hbm, ⟨2, _⟩ => ⟨S128x64, .f32⟩
  | .hbm, ⟨3, _⟩ => ⟨S128x64, .f32⟩
  | .hbm, ⟨4, _⟩ => ⟨S128x64, .f32⟩
  | .hbm, ⟨5, _⟩ => ⟨S128x64, .f32⟩
  | .hbm, ⟨6, _⟩ => ⟨S_, .f32⟩
  | .hbm, ⟨7, _⟩ => ⟨S128x64, .f32⟩
  | .hbm, ⟨8, _⟩ => ⟨S128x64, .f32⟩
  | .hbm, ⟨9, _⟩ => ⟨S_, .f32⟩
  | .hbm, ⟨10, _⟩ => ⟨S128x64, .f32⟩
  | .hbm, ⟨11, _⟩ => ⟨S128x64, .f32⟩
  | .hbm, ⟨12, _⟩ => ⟨S128x64, .f32⟩
  | .hbm, ⟨13, _⟩ => ⟨S_, .f32⟩
  | .hbm, ⟨14, _⟩ => ⟨S128x64, .f32⟩
  | .hbm, ⟨15, _⟩ => ⟨S128x64, .f32⟩
  | .hbm, ⟨16, _⟩ => ⟨S128x64, .f32⟩
  | .hbm, ⟨17, _⟩ => ⟨S_, .f32⟩
  | .hbm, ⟨18, _⟩ => ⟨S128x64, .f32⟩
  | .hbm, ⟨19, _⟩ => ⟨S128x64, .f32⟩
  | .hbm, ⟨20, _⟩ => ⟨S128x64, .f32⟩
  | .hbm, ⟨21, _⟩ => ⟨S_, .f32⟩
  | .hbm, ⟨22, _⟩ => ⟨S128x64, .f32⟩
  | .hbm, ⟨23, _⟩ => ⟨S128x64, .f32⟩
  | .hbm, ⟨24, _⟩ => ⟨S_, .f32⟩
  | .hbm, ⟨25, _⟩ => ⟨S128x64, .f32⟩
  | .hbm, ⟨26, _⟩ => ⟨S128x64, .f32⟩
  | .hbm, ⟨27, _⟩ => ⟨S128x64, .f32⟩
  | .hbm, ⟨28, _⟩ => ⟨S_, .f32⟩
  | .hbm, ⟨29, _⟩ => ⟨S128x64, .f32⟩
  | .hbm, ⟨30, _⟩ => ⟨S128x64, .f32⟩
  | .hbm, ⟨31, _⟩ => ⟨S128x64, .f32⟩
  | .hbm, ⟨32, _⟩ => ⟨S_, .f32⟩
  | .hbm, ⟨33, _⟩ => ⟨S128x64, .f32⟩
  | .hbm, ⟨34, _⟩ => ⟨S128x64, .f32⟩
  | .hbm, ⟨35, _⟩ => ⟨S128x64, .f32⟩
  | .hbm, ⟨36, _⟩ => ⟨S_, .f32⟩
  | .hbm, ⟨37, _⟩ => ⟨S128x64, .f32⟩
  | .hbm, ⟨38, _⟩ => ⟨S128x64, .f32⟩
  | _, _ => ⟨S128x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_3 : Ref sig .tc := ⟨.hbm, 21, rfl⟩
abbrev main_v12 : Ref sig .tc := ⟨.hbm, 22, rfl⟩
abbrev main_v13 : Ref sig .tc := ⟨.hbm, 23, rfl⟩
abbrev main_cst_4 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_5 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_6 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_7 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== AlKernel.lean ====
abbrev S4x32 : Shape := ⟨2, ![4, 32]⟩

abbrev nBuf : Space → Nat
  | .hbm => 9
  | .vmem => 9
  | .smem => 0
  | _ => 0

abbrev bufTy : (tb : Table) → Fin (tcTables nBuf tb) → BufTy
  | .hbm, ⟨0, _⟩ => ⟨S4x32, .f32⟩
  | .hbm, ⟨1, _⟩ => ⟨S4x32, .f32⟩
  | .hbm, ⟨2, _⟩ => ⟨S4x32, .f32⟩
  | .hbm, ⟨3, _⟩ => ⟨S4x32, .f32⟩
  | .hbm, ⟨4, _⟩ => ⟨S4x32, .f32⟩
  | .hbm, ⟨5, _⟩ => ⟨S4x32, .f32⟩
  | .hbm, ⟨6, _⟩ => ⟨S4x32, .f32⟩
  | .hbm, ⟨7, _⟩ => ⟨S4x32, .f32⟩
  | .hbm, ⟨8, _⟩ => ⟨S4x32, .f32⟩
  | .local _ .vmem, ⟨0, _⟩ => ⟨S4x32, .f32⟩
  | .local _ .vmem, ⟨1, _⟩ => ⟨S4x32, .f32⟩
  | .local _ .vmem, ⟨2, _⟩ => ⟨S4x32, .f32⟩
  | .local _ .vmem, ⟨3, _⟩ => ⟨S4x32, .f32⟩
  | .local _ .vmem, ⟨4, _⟩ => ⟨S4x32, .f32⟩
  | .local _ .vmem, ⟨5, _⟩ => ⟨S4x32, .f32⟩
  | .local _ .vmem, ⟨6, _⟩ => ⟨S4x32, .f32⟩
  | .local _ .vmem, ⟨7, _⟩ => ⟨S4x32, .f32⟩
  | .local _ .vmem, ⟨8, _⟩ => ⟨S4x32, .f32⟩
  | _, _ => ⟨S4x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S4x32 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S4x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S4x32 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S4x32 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S4x32 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S4x32 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S4x32 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S4x32 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]

abbrev stage0_8 : Fin 1 → Memref sig .tc .vmem S4x32 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true]
-- ==== AlKernelIdeal.lean ====
abbrev S4x32 : Shape := ⟨2, ![4, 32]⟩

abbrev nBuf : Space → Nat
  | .hbm => 9
  | .vmem => 9
  | .smem => 0
  | _ => 0

abbrev bufTy : (tb : Table) → Fin (tcTables nBuf tb) → BufTy
  | .hbm, ⟨0, _⟩ => ⟨S4x32, .f32⟩
  | .hbm, ⟨1, _⟩ => ⟨S4x32, .f32⟩
  | .hbm, ⟨2, _⟩ => ⟨S4x32, .f32⟩
  | .hbm, ⟨3, _⟩ => ⟨S4x32, .f32⟩
  | .hbm, ⟨4, _⟩ => ⟨S4x32, .f32⟩
  | .hbm, ⟨5, _⟩ => ⟨S4x32, .f32⟩
  | .hbm, ⟨6, _⟩ => ⟨S4x32, .f32⟩
  | .hbm, ⟨7, _⟩ => ⟨S4x32, .f32⟩
  | .hbm, ⟨8, _⟩ => ⟨S4x32, .f32⟩
  | .local _ .vmem, ⟨0, _⟩ => ⟨S4x32, .f32⟩
  | .local _ .vmem, ⟨1, _⟩ => ⟨S4x32, .f32⟩
  | .local _ .vmem, ⟨2, _⟩ => ⟨S4x32, .f32⟩
  | .local _ .vmem, ⟨3, _⟩ => ⟨S4x32, .f32⟩
  | .local _ .vmem, ⟨4, _⟩ => ⟨S4x32, .f32⟩
  | .local _ .vmem, ⟨5, _⟩ => ⟨S4x32, .f32⟩
  | .local _ .vmem, ⟨6, _⟩ => ⟨S4x32, .f32⟩
  | .local _ .vmem, ⟨7, _⟩ => ⟨S4x32, .f32⟩
  | .local _ .vmem, ⟨8, _⟩ => ⟨S4x32, .f32⟩
  | _, _ => ⟨S4x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S4x32 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S4x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S4x32 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S4x32 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S4x32 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S4x32 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S4x32 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S4x32 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]

abbrev stage0_8 : Fin 1 → Memref sig .tc .vmem S4x32 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true]
-- ==== AlReferenceIdeal.lean ====
abbrev S4x32 : Shape := ⟨2, ![4, 32]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S4x32, .f32⟩
  | .hbm, ⟨1, _⟩ => ⟨S4x32, .f32⟩
  | .hbm, ⟨2, _⟩ => ⟨S4x32, .f32⟩
  | .hbm, ⟨3, _⟩ => ⟨S4x32, .f32⟩
  | .hbm, ⟨4, _⟩ => ⟨S4x32, .f32⟩
  | .hbm, ⟨5, _⟩ => ⟨S4x32, .f32⟩
  | .hbm, ⟨6, _⟩ => ⟨S_, .f32⟩
  | .hbm, ⟨7, _⟩ => ⟨S4x32, .f32⟩
  | .hbm, ⟨8, _⟩ => ⟨S4x32, .f32⟩
  | .hbm, ⟨9, _⟩ => ⟨S_, .f32⟩
  | .hbm, ⟨10, _⟩ => ⟨S4x32, .f32⟩
  | .hbm, ⟨11, _⟩ => ⟨S4x32, .f32⟩
  | .hbm, ⟨12, _⟩ => ⟨S4x32, .f32⟩
  | .hbm, ⟨13, _⟩ => ⟨S_, .f32⟩
  | .hbm, ⟨14, _⟩ => ⟨S4x32, .f32⟩
  | .hbm, ⟨15, _⟩ => ⟨S4x32, .f32⟩
  | .hbm, ⟨16, _⟩ => ⟨S4x32, .f32⟩
  | .hbm, ⟨17, _⟩ => ⟨S_, .f32⟩
  | .hbm, ⟨18, _⟩ => ⟨S4x32, .f32⟩
  | .hbm, ⟨19, _⟩ => ⟨S4x32, .f32⟩
  | .hbm, ⟨20, _⟩ => ⟨S4x32, .f32⟩
  | .hbm, ⟨21, _⟩ => ⟨S_, .f32⟩
  | .hbm, ⟨22, _⟩ => ⟨S4x32, .f32⟩
  | .hbm, ⟨23, _⟩ => ⟨S4x32, .f32⟩
  | .hbm, ⟨24, _⟩ => ⟨S_, .f32⟩
  | .hbm, ⟨25, _⟩ => ⟨S4x32, .f32⟩
  | .hbm, ⟨26, _⟩ => ⟨S4x32, .f32⟩
  | .hbm, ⟨27, _⟩ => ⟨S4x32, .f32⟩
  | .hbm, ⟨28, _⟩ => ⟨S_, .f32⟩
  | .hbm, ⟨29, _⟩ => ⟨S4x32, .f32⟩
  | .hbm, ⟨30, _⟩ => ⟨S4x32, .f32⟩
  | .hbm, ⟨31, _⟩ => ⟨S4x32, .f32⟩
  | .hbm, ⟨32, _⟩ => ⟨S_, .f32⟩
  | .hbm, ⟨33, _⟩ => ⟨S4x32, .f32⟩
  | .hbm, ⟨34, _⟩ => ⟨S4x32, .f32⟩
  | .hbm, ⟨35, _⟩ => ⟨S4x32, .f32⟩
  | .hbm, ⟨36, _⟩ => ⟨S_, .f32⟩
  | .hbm, ⟨37, _⟩ => ⟨S4x32, .f32⟩
  | .hbm, ⟨38, _⟩ => ⟨S4x32, .f32⟩
  | _, _ => ⟨S4x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_3 : Ref sig .tc := ⟨.hbm, 21, rfl⟩
abbrev main_v12 : Ref sig .tc := ⟨.hbm, 22, rfl⟩
abbrev main_v13 : Ref sig .tc := ⟨.hbm, 23, rfl⟩
abbrev main_cst_4 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_5 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_6 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_7 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== AiKernel.lean ====
abbrev S8192x16 : Shape := ⟨2, ![8192, 16]⟩
abbrev S4096x16 : Shape := ⟨2, ![4096, 16]⟩

abbrev nBuf : Space → Nat
  | .hbm => 9
  | .vmem => 18
  | .smem => 0
  | _ => 0

abbrev bufTy : (tb : Table) → Fin (tcTables nBuf tb) → BufTy
  | .hbm, ⟨0, _⟩ => ⟨S8192x16, .f32⟩
  | .hbm, ⟨1, _⟩ => ⟨S8192x16, .f32⟩
  | .hbm, ⟨2, _⟩ => ⟨S8192x16, .f32⟩
  | .hbm, ⟨3, _⟩ => ⟨S8192x16, .f32⟩
  | .hbm, ⟨4, _⟩ => ⟨S8192x16, .f32⟩
  | .hbm, ⟨5, _⟩ => ⟨S8192x16, .f32⟩
  | .hbm, ⟨6, _⟩ => ⟨S8192x16, .f32⟩
  | .hbm, ⟨7, _⟩ => ⟨S8192x16, .f32⟩
  | .hbm, ⟨8, _⟩ => ⟨S8192x16, .f32⟩
  | .local _ .vmem, ⟨0, _⟩ => ⟨S4096x16, .f32⟩
  | .local _ .vmem, ⟨1, _⟩ => ⟨S4096x16, .f32⟩
  | .local _ .vmem, ⟨2, _⟩ => ⟨S4096x16, .f32⟩
  | .local _ .vmem, ⟨3, _⟩ => ⟨S4096x16, .f32⟩
  | .local _ .vmem, ⟨4, _⟩ => ⟨S4096x16, .f32⟩
  | .local _ .vmem, ⟨5, _⟩ => ⟨S4096x16, .f32⟩
  | .local _ .vmem, ⟨6, _⟩ => ⟨S4096x16, .f32⟩
  | .local _ .vmem, ⟨7, _⟩ => ⟨S4096x16, .f32⟩
  | .local _ .vmem, ⟨8, _⟩ => ⟨S4096x16, .f32⟩
  | .local _ .vmem, ⟨9, _⟩ => ⟨S4096x16, .f32⟩
  | .local _ .vmem, ⟨10, _⟩ => ⟨S4096x16, .f32⟩
  | .local _ .vmem, ⟨11, _⟩ => ⟨S4096x16, .f32⟩
  | .local _ .vmem, ⟨12, _⟩ => ⟨S4096x16, .f32⟩
  | .local _ .vmem, ⟨13, _⟩ => ⟨S4096x16, .f32⟩
  | .local _ .vmem, ⟨14, _⟩ => ⟨S4096x16, .f32⟩
  | .local _ .vmem, ⟨15, _⟩ => ⟨S4096x16, .f32⟩
  | .local _ .vmem, ⟨16, _⟩ => ⟨S4096x16, .f32⟩
  | .local _ .vmem, ⟨17, _⟩ => ⟨S4096x16, .f32⟩
  | _, _ => ⟨S8192x16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x16 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4096x16 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4096x16 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4096x16 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S4096x16 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S4096x16 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S4096x16 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S4096x16 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S4096x16 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== AiKernelIdeal.lean ====
abbrev S8192x16 : Shape := ⟨2, ![8192, 16]⟩
abbrev S4096x16 : Shape := ⟨2, ![4096, 16]⟩

abbrev nBuf : Space → Nat
  | .hbm => 9
  | .vmem => 18
  | .smem => 0
  | _ => 0

abbrev bufTy : (tb : Table) → Fin (tcTables nBuf tb) → BufTy
  | .hbm, ⟨0, _⟩ => ⟨S8192x16, .f32⟩
  | .hbm, ⟨1, _⟩ => ⟨S8192x16, .f32⟩
  | .hbm, ⟨2, _⟩ => ⟨S8192x16, .f32⟩
  | .hbm, ⟨3, _⟩ => ⟨S8192x16, .f32⟩
  | .hbm, ⟨4, _⟩ => ⟨S8192x16, .f32⟩
  | .hbm, ⟨5, _⟩ => ⟨S8192x16, .f32⟩
  | .hbm, ⟨6, _⟩ => ⟨S8192x16, .f32⟩
  | .hbm, ⟨7, _⟩ => ⟨S8192x16, .f32⟩
  | .hbm, ⟨8, _⟩ => ⟨S8192x16, .f32⟩
  | .local _ .vmem, ⟨0, _⟩ => ⟨S4096x16, .f32⟩
  | .local _ .vmem, ⟨1, _⟩ => ⟨S4096x16, .f32⟩
  | .local _ .vmem, ⟨2, _⟩ => ⟨S4096x16, .f32⟩
  | .local _ .vmem, ⟨3, _⟩ => ⟨S4096x16, .f32⟩
  | .local _ .vmem, ⟨4, _⟩ => ⟨S4096x16, .f32⟩
  | .local _ .vmem, ⟨5, _⟩ => ⟨S4096x16, .f32⟩
  | .local _ .vmem, ⟨6, _⟩ => ⟨S4096x16, .f32⟩
  | .local _ .vmem, ⟨7, _⟩ => ⟨S4096x16, .f32⟩
  | .local _ .vmem, ⟨8, _⟩ => ⟨S4096x16, .f32⟩
  | .local _ .vmem, ⟨9, _⟩ => ⟨S4096x16, .f32⟩
  | .local _ .vmem, ⟨10, _⟩ => ⟨S4096x16, .f32⟩
  | .local _ .vmem, ⟨11, _⟩ => ⟨S4096x16, .f32⟩
  | .local _ .vmem, ⟨12, _⟩ => ⟨S4096x16, .f32⟩
  | .local _ .vmem, ⟨13, _⟩ => ⟨S4096x16, .f32⟩
  | .local _ .vmem, ⟨14, _⟩ => ⟨S4096x16, .f32⟩
  | .local _ .vmem, ⟨15, _⟩ => ⟨S4096x16, .f32⟩
  | .local _ .vmem, ⟨16, _⟩ => ⟨S4096x16, .f32⟩
  | .local _ .vmem, ⟨17, _⟩ => ⟨S4096x16, .f32⟩
  | _, _ => ⟨S8192x16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x16 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4096x16 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4096x16 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4096x16 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S4096x16 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S4096x16 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S4096x16 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S4096x16 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S4096x16 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== AiReferenceIdeal.lean ====
abbrev S8192x16 : Shape := ⟨2, ![8192, 16]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S8192x16, .f32⟩
  | .hbm, ⟨1, _⟩ => ⟨S8192x16, .f32⟩
  | .hbm, ⟨2, _⟩ => ⟨S8192x16, .f32⟩
  | .hbm, ⟨3, _⟩ => ⟨S8192x16, .f32⟩
  | .hbm, ⟨4, _⟩ => ⟨S8192x16, .f32⟩
  | .hbm, ⟨5, _⟩ => ⟨S8192x16, .f32⟩
  | .hbm, ⟨6, _⟩ => ⟨S_, .f32⟩
  | .hbm, ⟨7, _⟩ => ⟨S8192x16, .f32⟩
  | .hbm, ⟨8, _⟩ => ⟨S8192x16, .f32⟩
  | .hbm, ⟨9, _⟩ => ⟨S_, .f32⟩
  | .hbm, ⟨10, _⟩ => ⟨S8192x16, .f32⟩
  | .hbm, ⟨11, _⟩ => ⟨S8192x16, .f32⟩
  | .hbm, ⟨12, _⟩ => ⟨S8192x16, .f32⟩
  | .hbm, ⟨13, _⟩ => ⟨S_, .f32⟩
  | .hbm, ⟨14, _⟩ => ⟨S8192x16, .f32⟩
  | .hbm, ⟨15, _⟩ => ⟨S8192x16, .f32⟩
  | .hbm, ⟨16, _⟩ => ⟨S8192x16, .f32⟩
  | .hbm, ⟨17, _⟩ => ⟨S_, .f32⟩
  | .hbm, ⟨18, _⟩ => ⟨S8192x16, .f32⟩
  | .hbm, ⟨19, _⟩ => ⟨S8192x16, .f32⟩
  | .hbm, ⟨20, _⟩ => ⟨S8192x16, .f32⟩
  | .hbm, ⟨21, _⟩ => ⟨S_, .f32⟩
  | .hbm, ⟨22, _⟩ => ⟨S8192x16, .f32⟩
  | .hbm, ⟨23, _⟩ => ⟨S8192x16, .f32⟩
  | .hbm, ⟨24, _⟩ => ⟨S_, .f32⟩
  | .hbm, ⟨25, _⟩ => ⟨S8192x16, .f32⟩
  | .hbm, ⟨26, _⟩ => ⟨S8192x16, .f32⟩
  | .hbm, ⟨27, _⟩ => ⟨S8192x16, .f32⟩
  | .hbm, ⟨28, _⟩ => ⟨S_, .f32⟩
  | .hbm, ⟨29, _⟩ => ⟨S8192x16, .f32⟩
  | .hbm, ⟨30, _⟩ => ⟨S8192x16, .f32⟩
  | .hbm, ⟨31, _⟩ => ⟨S8192x16, .f32⟩
  | .hbm, ⟨32, _⟩ => ⟨S_, .f32⟩
  | .hbm, ⟨33, _⟩ => ⟨S8192x16, .f32⟩
  | .hbm, ⟨34, _⟩ => ⟨S8192x16, .f32⟩
  | .hbm, ⟨35, _⟩ => ⟨S8192x16, .f32⟩
  | .hbm, ⟨36, _⟩ => ⟨S_, .f32⟩
  | .hbm, ⟨37, _⟩ => ⟨S8192x16, .f32⟩
  | .hbm, ⟨38, _⟩ => ⟨S8192x16, .f32⟩
  | _, _ => ⟨S8192x16, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_3 : Ref sig .tc := ⟨.hbm, 21, rfl⟩
abbrev main_v12 : Ref sig .tc := ⟨.hbm, 22, rfl⟩
abbrev main_v13 : Ref sig .tc := ⟨.hbm, 23, rfl⟩
abbrev main_cst_4 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_5 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_6 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_7 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== AcKernel.lean ====
abbrev S2048x64 : Shape := ⟨2, ![2048, 64]⟩

abbrev nBuf : Space → Nat
  | .hbm => 9
  | .vmem => 9
  | .smem => 0
  | _ => 0

abbrev bufTy : (tb : Table) → Fin (tcTables nBuf tb) → BufTy
  | .hbm, ⟨0, _⟩ => ⟨S2048x64, .f32⟩
  | .hbm, ⟨1, _⟩ => ⟨S2048x64, .f32⟩
  | .hbm, ⟨2, _⟩ => ⟨S2048x64, .f32⟩
  | .hbm, ⟨3, _⟩ => ⟨S2048x64, .f32⟩
  | .hbm, ⟨4, _⟩ => ⟨S2048x64, .f32⟩
  | .hbm, ⟨5, _⟩ => ⟨S2048x64, .f32⟩
  | .hbm, ⟨6, _⟩ => ⟨S2048x64, .f32⟩
  | .hbm, ⟨7, _⟩ => ⟨S2048x64, .f32⟩
  | .hbm, ⟨8, _⟩ => ⟨S2048x64, .f32⟩
  | .local _ .vmem, ⟨0, _⟩ => ⟨S2048x64, .f32⟩
  | .local _ .vmem, ⟨1, _⟩ => ⟨S2048x64, .f32⟩
  | .local _ .vmem, ⟨2, _⟩ => ⟨S2048x64, .f32⟩
  | .local _ .vmem, ⟨3, _⟩ => ⟨S2048x64, .f32⟩
  | .local _ .vmem, ⟨4, _⟩ => ⟨S2048x64, .f32⟩
  | .local _ .vmem, ⟨5, _⟩ => ⟨S2048x64, .f32⟩
  | .local _ .vmem, ⟨6, _⟩ => ⟨S2048x64, .f32⟩
  | .local _ .vmem, ⟨7, _⟩ => ⟨S2048x64, .f32⟩
  | .local _ .vmem, ⟨8, _⟩ => ⟨S2048x64, .f32⟩
  | _, _ => ⟨S2048x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S2048x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S2048x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S2048x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S2048x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S2048x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S2048x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S2048x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S2048x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]

abbrev stage0_8 : Fin 1 → Memref sig .tc .vmem S2048x64 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true]
-- ==== AcKernelIdeal.lean ====
abbrev S2048x64 : Shape := ⟨2, ![2048, 64]⟩

abbrev nBuf : Space → Nat
  | .hbm => 9
  | .vmem => 9
  | .smem => 0
  | _ => 0

abbrev bufTy : (tb : Table) → Fin (tcTables nBuf tb) → BufTy
  | .hbm, ⟨0, _⟩ => ⟨S2048x64, .f32⟩
  | .hbm, ⟨1, _⟩ => ⟨S2048x64, .f32⟩
  | .hbm, ⟨2, _⟩ => ⟨S2048x64, .f32⟩
  | .hbm, ⟨3, _⟩ => ⟨S2048x64, .f32⟩
  | .hbm, ⟨4, _⟩ => ⟨S2048x64, .f32⟩
  | .hbm, ⟨5, _⟩ => ⟨S2048x64, .f32⟩
  | .hbm, ⟨6, _⟩ => ⟨S2048x64, .f32⟩
  | .hbm, ⟨7, _⟩ => ⟨S2048x64, .f32⟩
  | .hbm, ⟨8, _⟩ => ⟨S2048x64, .f32⟩
  | .local _ .vmem, ⟨0, _⟩ => ⟨S2048x64, .f32⟩
  | .local _ .vmem, ⟨1, _⟩ => ⟨S2048x64, .f32⟩
  | .local _ .vmem, ⟨2, _⟩ => ⟨S2048x64, .f32⟩
  | .local _ .vmem, ⟨3, _⟩ => ⟨S2048x64, .f32⟩
  | .local _ .vmem, ⟨4, _⟩ => ⟨S2048x64, .f32⟩
  | .local _ .vmem, ⟨5, _⟩ => ⟨S2048x64, .f32⟩
  | .local _ .vmem, ⟨6, _⟩ => ⟨S2048x64, .f32⟩
  | .local _ .vmem, ⟨7, _⟩ => ⟨S2048x64, .f32⟩
  | .local _ .vmem, ⟨8, _⟩ => ⟨S2048x64, .f32⟩
  | _, _ => ⟨S2048x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S2048x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S2048x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S2048x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S2048x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S2048x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S2048x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S2048x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S2048x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]

abbrev stage0_8 : Fin 1 → Memref sig .tc .vmem S2048x64 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true]
-- ==== AcReferenceIdeal.lean ====
abbrev S2048x64 : Shape := ⟨2, ![2048, 64]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S2048x64, .f32⟩
  | .hbm, ⟨1, _⟩ => ⟨S2048x64, .f32⟩
  | .hbm, ⟨2, _⟩ => ⟨S2048x64, .f32⟩
  | .hbm, ⟨3, _⟩ => ⟨S2048x64, .f32⟩
  | .hbm, ⟨4, _⟩ => ⟨S2048x64, .f32⟩
  | .hbm, ⟨5, _⟩ => ⟨S2048x64, .f32⟩
  | .hbm, ⟨6, _⟩ => ⟨S_, .f32⟩
  | .hbm, ⟨7, _⟩ => ⟨S2048x64, .f32⟩
  | .hbm, ⟨8, _⟩ => ⟨S2048x64, .f32⟩
  | .hbm, ⟨9, _⟩ => ⟨S_, .f32⟩
  | .hbm, ⟨10, _⟩ => ⟨S2048x64, .f32⟩
  | .hbm, ⟨11, _⟩ => ⟨S2048x64, .f32⟩
  | .hbm, ⟨12, _⟩ => ⟨S2048x64, .f32⟩
  | .hbm, ⟨13, _⟩ => ⟨S_, .f32⟩
  | .hbm, ⟨14, _⟩ => ⟨S2048x64, .f32⟩
  | .hbm, ⟨15, _⟩ => ⟨S2048x64, .f32⟩
  | .hbm, ⟨16, _⟩ => ⟨S2048x64, .f32⟩
  | .hbm, ⟨17, _⟩ => ⟨S_, .f32⟩
  | .hbm, ⟨18, _⟩ => ⟨S2048x64, .f32⟩
  | .hbm, ⟨19, _⟩ => ⟨S2048x64, .f32⟩
  | .hbm, ⟨20, _⟩ => ⟨S2048x64, .f32⟩
  | .hbm, ⟨21, _⟩ => ⟨S_, .f32⟩
  | .hbm, ⟨22, _⟩ => ⟨S2048x64, .f32⟩
  | .hbm, ⟨23, _⟩ => ⟨S2048x64, .f32⟩
  | .hbm, ⟨24, _⟩ => ⟨S_, .f32⟩
  | .hbm, ⟨25, _⟩ => ⟨S2048x64, .f32⟩
  | .hbm, ⟨26, _⟩ => ⟨S2048x64, .f32⟩
  | .hbm, ⟨27, _⟩ => ⟨S2048x64, .f32⟩
  | .hbm, ⟨28, _⟩ => ⟨S_, .f32⟩
  | .hbm, ⟨29, _⟩ => ⟨S2048x64, .f32⟩
  | .hbm, ⟨30, _⟩ => ⟨S2048x64, .f32⟩
  | .hbm, ⟨31, _⟩ => ⟨S2048x64, .f32⟩
  | .hbm, ⟨32, _⟩ => ⟨S_, .f32⟩
  | .hbm, ⟨33, _⟩ => ⟨S2048x64, .f32⟩
  | .hbm, ⟨34, _⟩ => ⟨S2048x64, .f32⟩
  | .hbm, ⟨35, _⟩ => ⟨S2048x64, .f32⟩
  | .hbm, ⟨36, _⟩ => ⟨S_, .f32⟩
  | .hbm, ⟨37, _⟩ => ⟨S2048x64, .f32⟩
  | .hbm, ⟨38, _⟩ => ⟨S2048x64, .f32⟩
  | _, _ => ⟨S2048x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_3 : Ref sig .tc := ⟨.hbm, 21, rfl⟩
abbrev main_v12 : Ref sig .tc := ⟨.hbm, 22, rfl⟩
abbrev main_v13 : Ref sig .tc := ⟨.hbm, 23, rfl⟩
abbrev main_cst_4 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_5 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_6 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_7 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== AuKernel.lean ====
abbrev S512x512 : Shape := ⟨2, ![512, 512]⟩

abbrev nBuf : Space → Nat
  | .hbm => 9
  | .vmem => 9
  | .smem => 0
  | _ => 0

abbrev bufTy : (tb : Table) → Fin (tcTables nBuf tb) → BufTy
  | .hbm, ⟨0, _⟩ => ⟨S512x512, .f32⟩
  | .hbm, ⟨1, _⟩ => ⟨S512x512, .f32⟩
  | .hbm, ⟨2, _⟩ => ⟨S512x512, .f32⟩
  | .hbm, ⟨3, _⟩ => ⟨S512x512, .f32⟩
  | .hbm, ⟨4, _⟩ => ⟨S512x512, .f32⟩
  | .hbm, ⟨5, _⟩ => ⟨S512x512, .f32⟩
  | .hbm, ⟨6, _⟩ => ⟨S512x512, .f32⟩
  | .hbm, ⟨7, _⟩ => ⟨S512x512, .f32⟩
  | .hbm, ⟨8, _⟩ => ⟨S512x512, .f32⟩
  | .local _ .vmem, ⟨0, _⟩ => ⟨S512x512, .f32⟩
  | .local _ .vmem, ⟨1, _⟩ => ⟨S512x512, .f32⟩
  | .local _ .vmem, ⟨2, _⟩ => ⟨S512x512, .f32⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S512x512, .f32⟩
  | .local _ .vmem, ⟨7, _⟩ => ⟨S512x512, .f32⟩
  | .local _ .vmem, ⟨8, _⟩ => ⟨S512x512, .f32⟩
  | _, _ => ⟨S512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S512x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S512x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S512x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S512x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S512x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S512x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S512x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S512x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]

abbrev stage0_8 : Fin 1 → Memref sig .tc .vmem S512x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true]
-- ==== AuKernelIdeal.lean ====
abbrev S512x512 : Shape := ⟨2, ![512, 512]⟩

abbrev nBuf : Space → Nat
  | .hbm => 9
  | .vmem => 9
  | .smem => 0
  | _ => 0

abbrev bufTy : (tb : Table) → Fin (tcTables nBuf tb) → BufTy
  | .hbm, ⟨0, _⟩ => ⟨S512x512, .f32⟩
  | .hbm, ⟨1, _⟩ => ⟨S512x512, .f32⟩
  | .hbm, ⟨2, _⟩ => ⟨S512x512, .f32⟩
  | .hbm, ⟨3, _⟩ => ⟨S512x512, .f32⟩
  | .hbm, ⟨4, _⟩ => ⟨S512x512, .f32⟩
  | .hbm, ⟨5, _⟩ => ⟨S512x512, .f32⟩
  | .hbm, ⟨6, _⟩ => ⟨S512x512, .f32⟩
  | .hbm, ⟨7, _⟩ => ⟨S512x512, .f32⟩
  | .hbm, ⟨8, _⟩ => ⟨S512x512, .f32⟩
  | .local _ .vmem, ⟨0, _⟩ => ⟨S512x512, .f32⟩
  | .local _ .vmem, ⟨1, _⟩ => ⟨S512x512, .f32⟩
  | .local _ .vmem, ⟨2, _⟩ => ⟨S512x512, .f32⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S512x512, .f32⟩
  | .local _ .vmem, ⟨7, _⟩ => ⟨S512x512, .f32⟩
  | .local _ .vmem, ⟨8, _⟩ => ⟨S512x512, .f32⟩
  | _, _ => ⟨S512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S512x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S512x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S512x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S512x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S512x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S512x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S512x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S512x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]

abbrev stage0_8 : Fin 1 → Memref sig .tc .vmem S512x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true]
-- ==== AuReferenceIdeal.lean ====
abbrev S512x512 : Shape := ⟨2, ![512, 512]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S512x512, .f32⟩
  | .hbm, ⟨1, _⟩ => ⟨S512x512, .f32⟩
  | .hbm, ⟨2, _⟩ => ⟨S512x512, .f32⟩
  | .hbm, ⟨3, _⟩ => ⟨S512x512, .f32⟩
  | .hbm, ⟨4, _⟩ => ⟨S512x512, .f32⟩
  | .hbm, ⟨5, _⟩ => ⟨S512x512, .f32⟩
  | .hbm, ⟨6, _⟩ => ⟨S_, .f32⟩
  | .hbm, ⟨7, _⟩ => ⟨S512x512, .f32⟩
  | .hbm, ⟨8, _⟩ => ⟨S512x512, .f32⟩
  | .hbm, ⟨9, _⟩ => ⟨S_, .f32⟩
  | .hbm, ⟨10, _⟩ => ⟨S512x512, .f32⟩
  | .hbm, ⟨11, _⟩ => ⟨S512x512, .f32⟩
  | .hbm, ⟨12, _⟩ => ⟨S512x512, .f32⟩
  | .hbm, ⟨13, _⟩ => ⟨S_, .f32⟩
  | .hbm, ⟨14, _⟩ => ⟨S512x512, .f32⟩
  | .hbm, ⟨15, _⟩ => ⟨S512x512, .f32⟩
  | .hbm, ⟨16, _⟩ => ⟨S512x512, .f32⟩
  | .hbm, ⟨17, _⟩ => ⟨S_, .f32⟩
  | .hbm, ⟨18, _⟩ => ⟨S512x512, .f32⟩
  | .hbm, ⟨19, _⟩ => ⟨S512x512, .f32⟩
  | .hbm, ⟨20, _⟩ => ⟨S512x512, .f32⟩
  | .hbm, ⟨21, _⟩ => ⟨S_, .f32⟩
  | .hbm, ⟨22, _⟩ => ⟨S512x512, .f32⟩
  | .hbm, ⟨23, _⟩ => ⟨S512x512, .f32⟩
  | .hbm, ⟨24, _⟩ => ⟨S_, .f32⟩
  | .hbm, ⟨25, _⟩ => ⟨S512x512, .f32⟩
  | .hbm, ⟨26, _⟩ => ⟨S512x512, .f32⟩
  | .hbm, ⟨27, _⟩ => ⟨S512x512, .f32⟩
  | .hbm, ⟨28, _⟩ => ⟨S_, .f32⟩
  | .hbm, ⟨29, _⟩ => ⟨S512x512, .f32⟩
  | .hbm, ⟨30, _⟩ => ⟨S512x512, .f32⟩
  | .hbm, ⟨31, _⟩ => ⟨S512x512, .f32⟩
  | .hbm, ⟨32, _⟩ => ⟨S_, .f32⟩
  | .hbm, ⟨33, _⟩ => ⟨S512x512, .f32⟩
  | .hbm, ⟨34, _⟩ => ⟨S512x512, .f32⟩
  | .hbm, ⟨35, _⟩ => ⟨S512x512, .f32⟩
  | .hbm, ⟨36, _⟩ => ⟨S_, .f32⟩
  | .hbm, ⟨37, _⟩ => ⟨S512x512, .f32⟩
  | .hbm, ⟨38, _⟩ => ⟨S512x512, .f32⟩
  | _, _ => ⟨S512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_3 : Ref sig .tc := ⟨.hbm, 21, rfl⟩
abbrev main_v12 : Ref sig .tc := ⟨.hbm, 22, rfl⟩
abbrev main_v13 : Ref sig .tc := ⟨.hbm, 23, rfl⟩
abbrev main_cst_4 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_5 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_6 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_7 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== AsKernel.lean ====
abbrev S16x128 : Shape := ⟨2, ![16, 128]⟩

abbrev nBuf : Space → Nat
  | .hbm => 9
  | .vmem => 9
  | .smem => 0
  | _ => 0

abbrev bufTy : (tb : Table) → Fin (tcTables nBuf tb) → BufTy
  | .hbm, ⟨0, _⟩ => ⟨S16x128, .f32⟩
  | .hbm, ⟨1, _⟩ => ⟨S16x128, .f32⟩
  | .hbm, ⟨2, _⟩ => ⟨S16x128, .f32⟩
  | .hbm, ⟨3, _⟩ => ⟨S16x128, .f32⟩
  | .hbm, ⟨4, _⟩ => ⟨S16x128, .f32⟩
  | .hbm, ⟨5, _⟩ => ⟨S16x128, .f32⟩
  | .hbm, ⟨6, _⟩ => ⟨S16x128, .f32⟩
  | .hbm, ⟨7, _⟩ => ⟨S16x128, .f32⟩
  | .hbm, ⟨8, _⟩ => ⟨S16x128, .f32⟩
  | .local _ .vmem, ⟨0, _⟩ => ⟨S16x128, .f32⟩
  | .local _ .vmem, ⟨1, _⟩ => ⟨S16x128, .f32⟩
  | .local _ .vmem, ⟨2, _⟩ => ⟨S16x128, .f32⟩
  | .local _ .vmem, ⟨3, _⟩ => ⟨S16x128, .f32⟩
  | .local _ .vmem, ⟨4, _⟩ => ⟨S16x128, .f32⟩
  | .local _ .vmem, ⟨5, _⟩ => ⟨S16x128, .f32⟩
  | .local _ .vmem, ⟨6, _⟩ => ⟨S16x128, .f32⟩
  | .local _ .vmem, ⟨7, _⟩ => ⟨S16x128, .f32⟩
  | .local _ .vmem, ⟨8, _⟩ => ⟨S16x128, .f32⟩
  | _, _ => ⟨S16x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S16x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S16x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S16x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S16x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S16x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S16x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S16x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S16x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]

abbrev stage0_8 : Fin 1 → Memref sig .tc .vmem S16x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true]
-- ==== AsKernelIdeal.lean ====
abbrev S16x128 : Shape := ⟨2, ![16, 128]⟩

abbrev nBuf : Space → Nat
  | .hbm => 9
  | .vmem => 9
  | .smem => 0
  | _ => 0

abbrev bufTy : (tb : Table) → Fin (tcTables nBuf tb) → BufTy
  | .hbm, ⟨0, _⟩ => ⟨S16x128, .f32⟩
  | .hbm, ⟨1, _⟩ => ⟨S16x128, .f32⟩
  | .hbm, ⟨2, _⟩ => ⟨S16x128, .f32⟩
  | .hbm, ⟨3, _⟩ => ⟨S16x128, .f32⟩
  | .hbm, ⟨4, _⟩ => ⟨S16x128, .f32⟩
  | .hbm, ⟨5, _⟩ => ⟨S16x128, .f32⟩
  | .hbm, ⟨6, _⟩ => ⟨S16x128, .f32⟩
  | .hbm, ⟨7, _⟩ => ⟨S16x128, .f32⟩
  | .hbm, ⟨8, _⟩ => ⟨S16x128, .f32⟩
  | .local _ .vmem, ⟨0, _⟩ => ⟨S16x128, .f32⟩
  | .local _ .vmem, ⟨1, _⟩ => ⟨S16x128, .f32⟩
  | .local _ .vmem, ⟨2, _⟩ => ⟨S16x128, .f32⟩
  | .local _ .vmem, ⟨3, _⟩ => ⟨S16x128, .f32⟩
  | .local _ .vmem, ⟨4, _⟩ => ⟨S16x128, .f32⟩
  | .local _ .vmem, ⟨5, _⟩ => ⟨S16x128, .f32⟩
  | .local _ .vmem, ⟨6, _⟩ => ⟨S16x128, .f32⟩
  | .local _ .vmem, ⟨7, _⟩ => ⟨S16x128, .f32⟩
  | .local _ .vmem, ⟨8, _⟩ => ⟨S16x128, .f32⟩
  | _, _ => ⟨S16x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S16x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S16x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S16x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S16x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S16x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S16x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S16x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S16x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]

abbrev stage0_8 : Fin 1 → Memref sig .tc .vmem S16x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true]
-- ==== AsReferenceIdeal.lean ====
abbrev S16x128 : Shape := ⟨2, ![16, 128]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S16x128, .f32⟩
  | .hbm, ⟨1, _⟩ => ⟨S16x128, .f32⟩
  | .hbm, ⟨2, _⟩ => ⟨S16x128, .f32⟩
  | .hbm, ⟨3, _⟩ => ⟨S16x128, .f32⟩
  | .hbm, ⟨4, _⟩ => ⟨S16x128, .f32⟩
  | .hbm, ⟨5, _⟩ => ⟨S16x128, .f32⟩
  | .hbm, ⟨6, _⟩ => ⟨S_, .f32⟩
  | .hbm, ⟨7, _⟩ => ⟨S16x128, .f32⟩
  | .hbm, ⟨8, _⟩ => ⟨S16x128, .f32⟩
  | .hbm, ⟨9, _⟩ => ⟨S_, .f32⟩
  | .hbm, ⟨10, _⟩ => ⟨S16x128, .f32⟩
  | .hbm, ⟨11, _⟩ => ⟨S16x128, .f32⟩
  | .hbm, ⟨12, _⟩ => ⟨S16x128, .f32⟩
  | .hbm, ⟨13, _⟩ => ⟨S_, .f32⟩
  | .hbm, ⟨14, _⟩ => ⟨S16x128, .f32⟩
  | .hbm, ⟨15, _⟩ => ⟨S16x128, .f32⟩
  | .hbm, ⟨16, _⟩ => ⟨S16x128, .f32⟩
  | .hbm, ⟨17, _⟩ => ⟨S_, .f32⟩
  | .hbm, ⟨18, _⟩ => ⟨S16x128, .f32⟩
  | .hbm, ⟨19, _⟩ => ⟨S16x128, .f32⟩
  | .hbm, ⟨20, _⟩ => ⟨S16x128, .f32⟩
  | .hbm, ⟨21, _⟩ => ⟨S_, .f32⟩
  | .hbm, ⟨22, _⟩ => ⟨S16x128, .f32⟩
  | .hbm, ⟨23, _⟩ => ⟨S16x128, .f32⟩
  | .hbm, ⟨24, _⟩ => ⟨S_, .f32⟩
  | .hbm, ⟨25, _⟩ => ⟨S16x128, .f32⟩
  | .hbm, ⟨26, _⟩ => ⟨S16x128, .f32⟩
  | .hbm, ⟨27, _⟩ => ⟨S16x128, .f32⟩
  | .hbm, ⟨28, _⟩ => ⟨S_, .f32⟩
  | .hbm, ⟨29, _⟩ => ⟨S16x128, .f32⟩
  | .hbm, ⟨30, _⟩ => ⟨S16x128, .f32⟩
  | .hbm, ⟨31, _⟩ => ⟨S16x128, .f32⟩
  | .hbm, ⟨32, _⟩ => ⟨S_, .f32⟩
  | .hbm, ⟨33, _⟩ => ⟨S16x128, .f32⟩
  | .hbm, ⟨34, _⟩ => ⟨S16x128, .f32⟩
  | .hbm, ⟨35, _⟩ => ⟨S16x128, .f32⟩
  | .hbm, ⟨36, _⟩ => ⟨S_, .f32⟩
  | .hbm, ⟨37, _⟩ => ⟨S16x128, .f32⟩
  | .hbm, ⟨38, _⟩ => ⟨S16x128, .f32⟩
  | _, _ => ⟨S16x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_3 : Ref sig .tc := ⟨.hbm, 21, rfl⟩
abbrev main_v12 : Ref sig .tc := ⟨.hbm, 22, rfl⟩
abbrev main_v13 : Ref sig .tc := ⟨.hbm, 23, rfl⟩
abbrev main_cst_4 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_5 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_6 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_7 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== AmKernel.lean ====
abbrev S8192x256 : Shape := ⟨2, ![8192, 256]⟩
abbrev S2048x256 : Shape := ⟨2, ![2048, 256]⟩

abbrev nBuf : Space → Nat
  | .hbm => 9
  | .vmem => 18
  | .smem => 0
  | _ => 0

abbrev bufTy : (tb : Table) → Fin (tcTables nBuf tb) → BufTy
  | .hbm, ⟨0, _⟩ => ⟨S8192x256, .f32⟩
  | .hbm, ⟨1, _⟩ => ⟨S8192x256, .f32⟩
  | .hbm, ⟨2, _⟩ => ⟨S8192x256, .f32⟩
  | .hbm, ⟨3, _⟩ => ⟨S8192x256, .f32⟩
  | .hbm, ⟨4, _⟩ => ⟨S8192x256, .f32⟩
  | .hbm, ⟨5, _⟩ => ⟨S8192x256, .f32⟩
  | .hbm, ⟨6, _⟩ => ⟨S8192x256, .f32⟩
  | .hbm, ⟨7, _⟩ => ⟨S8192x256, .f32⟩
  | .hbm, ⟨8, _⟩ => ⟨S8192x256, .f32⟩
  | .local _ .vmem, ⟨0, _⟩ => ⟨S2048x256, .f32⟩
  | .local _ .vmem, ⟨1, _⟩ => ⟨S2048x256, .f32⟩
  | .local _ .vmem, ⟨2, _⟩ => ⟨S2048x256, .f32⟩
  | .local _ .vmem, ⟨3, _⟩ => ⟨S2048x256, .f32⟩
  | .local _ .vmem, ⟨4, _⟩ => ⟨S2048x256, .f32⟩
  | .local _ .vmem, ⟨5, _⟩ => ⟨S2048x256, .f32⟩
  | .local _ .vmem, ⟨6, _⟩ => ⟨S2048x256, .f32⟩
  | .local _ .vmem, ⟨7, _⟩ => ⟨S2048x256, .f32⟩
  | .local _ .vmem, ⟨8, _⟩ => ⟨S2048x256, .f32⟩
  | .local _ .vmem, ⟨9, _⟩ => ⟨S2048x256, .f32⟩
  | .local _ .vmem, ⟨10, _⟩ => ⟨S2048x256, .f32⟩
  | .local _ .vmem, ⟨11, _⟩ => ⟨S2048x256, .f32⟩
  | .local _ .vmem, ⟨12, _⟩ => ⟨S2048x256, .f32⟩
  | .local _ .vmem, ⟨13, _⟩ => ⟨S2048x256, .f32⟩
  | .local _ .vmem, ⟨14, _⟩ => ⟨S2048x256, .f32⟩
  | .local _ .vmem, ⟨15, _⟩ => ⟨S2048x256, .f32⟩
  | .local _ .vmem, ⟨16, _⟩ => ⟨S2048x256, .f32⟩
  | .local _ .vmem, ⟨17, _⟩ => ⟨S2048x256, .f32⟩
  | _, _ => ⟨S8192x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2048x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2048x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2048x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S2048x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S2048x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S2048x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S2048x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== AmKernelIdeal.lean ====
abbrev S8192x256 : Shape := ⟨2, ![8192, 256]⟩
abbrev S2048x256 : Shape := ⟨2, ![2048, 256]⟩

abbrev nBuf : Space → Nat
  | .hbm => 9
  | .vmem => 18
  | .smem => 0
  | _ => 0

abbrev bufTy : (tb : Table) → Fin (tcTables nBuf tb) → BufTy
  | .hbm, ⟨0, _⟩ => ⟨S8192x256, .f32⟩
  | .hbm, ⟨1, _⟩ => ⟨S8192x256, .f32⟩
  | .hbm, ⟨2, _⟩ => ⟨S8192x256, .f32⟩
  | .hbm, ⟨3, _⟩ => ⟨S8192x256, .f32⟩
  | .hbm, ⟨4, _⟩ => ⟨S8192x256, .f32⟩
  | .hbm, ⟨5, _⟩ => ⟨S8192x256, .f32⟩
  | .hbm, ⟨6, _⟩ => ⟨S8192x256, .f32⟩
  | .hbm, ⟨7, _⟩ => ⟨S8192x256, .f32⟩
  | .hbm, ⟨8, _⟩ => ⟨S8192x256, .f32⟩
  | .local _ .vmem, ⟨0, _⟩ => ⟨S2048x256, .f32⟩
  | .local _ .vmem, ⟨1, _⟩ => ⟨S2048x256, .f32⟩
  | .local _ .vmem, ⟨2, _⟩ => ⟨S2048x256, .f32⟩
  | .local _ .vmem, ⟨3, _⟩ => ⟨S2048x256, .f32⟩
  | .local _ .vmem, ⟨4, _⟩ => ⟨S2048x256, .f32⟩
  | .local _ .vmem, ⟨5, _⟩ => ⟨S2048x256, .f32⟩
  | .local _ .vmem, ⟨6, _⟩ => ⟨S2048x256, .f32⟩
  | .local _ .vmem, ⟨7, _⟩ => ⟨S2048x256, .f32⟩
  | .local _ .vmem, ⟨8, _⟩ => ⟨S2048x256, .f32⟩
  | .local _ .vmem, ⟨9, _⟩ => ⟨S2048x256, .f32⟩
  | .local _ .vmem, ⟨10, _⟩ => ⟨S2048x256, .f32⟩
  | .local _ .vmem, ⟨11, _⟩ => ⟨S2048x256, .f32⟩
  | .local _ .vmem, ⟨12, _⟩ => ⟨S2048x256, .f32⟩
  | .local _ .vmem, ⟨13, _⟩ => ⟨S2048x256, .f32⟩
  | .local _ .vmem, ⟨14, _⟩ => ⟨S2048x256, .f32⟩
  | .local _ .vmem, ⟨15, _⟩ => ⟨S2048x256, .f32⟩
  | .local _ .vmem, ⟨16, _⟩ => ⟨S2048x256, .f32⟩
  | .local _ .vmem, ⟨17, _⟩ => ⟨S2048x256, .f32⟩
  | _, _ => ⟨S8192x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2048x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2048x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2048x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S2048x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S2048x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S2048x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S2048x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== AmReferenceIdeal.lean ====
abbrev S8192x256 : Shape := ⟨2, ![8192, 256]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S8192x256, .f32⟩
  | .hbm, ⟨1, _⟩ => ⟨S8192x256, .f32⟩
  | .hbm, ⟨2, _⟩ => ⟨S8192x256, .f32⟩
  | .hbm, ⟨3, _⟩ => ⟨S8192x256, .f32⟩
  | .hbm, ⟨4, _⟩ => ⟨S8192x256, .f32⟩
  | .hbm, ⟨5, _⟩ => ⟨S8192x256, .f32⟩
  | .hbm, ⟨6, _⟩ => ⟨S_, .f32⟩
  | .hbm, ⟨7, _⟩ => ⟨S8192x256, .f32⟩
  | .hbm, ⟨8, _⟩ => ⟨S8192x256, .f32⟩
  | .hbm, ⟨9, _⟩ => ⟨S_, .f32⟩
  | .hbm, ⟨10, _⟩ => ⟨S8192x256, .f32⟩
  | .hbm, ⟨11, _⟩ => ⟨S8192x256, .f32⟩
  | .hbm, ⟨12, _⟩ => ⟨S8192x256, .f32⟩
  | .hbm, ⟨13, _⟩ => ⟨S_, .f32⟩
  | .hbm, ⟨14, _⟩ => ⟨S8192x256, .f32⟩
  | .hbm, ⟨15, _⟩ => ⟨S8192x256, .f32⟩
  | .hbm, ⟨16, _⟩ => ⟨S8192x256, .f32⟩
  | .hbm, ⟨17, _⟩ => ⟨S_, .f32⟩
  | .hbm, ⟨18, _⟩ => ⟨S8192x256, .f32⟩
  | .hbm, ⟨19, _⟩ => ⟨S8192x256, .f32⟩
  | .hbm, ⟨20, _⟩ => ⟨S8192x256, .f32⟩
  | .hbm, ⟨21, _⟩ => ⟨S_, .f32⟩
  | .hbm, ⟨22, _⟩ => ⟨S8192x256, .f32⟩
  | .hbm, ⟨23, _⟩ => ⟨S8192x256, .f32⟩
  | .hbm, ⟨24, _⟩ => ⟨S_, .f32⟩
  | .hbm, ⟨25, _⟩ => ⟨S8192x256, .f32⟩
  | .hbm, ⟨26, _⟩ => ⟨S8192x256, .f32⟩
  | .hbm, ⟨27, _⟩ => ⟨S8192x256, .f32⟩
  | .hbm, ⟨28, _⟩ => ⟨S_, .f32⟩
  | .hbm, ⟨29, _⟩ => ⟨S8192x256, .f32⟩
  | .hbm, ⟨30, _⟩ => ⟨S8192x256, .f32⟩
  | .hbm, ⟨31, _⟩ => ⟨S8192x256, .f32⟩
  | .hbm, ⟨32, _⟩ => ⟨S_, .f32⟩
  | .hbm, ⟨33, _⟩ => ⟨S8192x256, .f32⟩
  | .hbm, ⟨34, _⟩ => ⟨S8192x256, .f32⟩
  | .hbm, ⟨35, _⟩ => ⟨S8192x256, .f32⟩
  | .hbm, ⟨36, _⟩ => ⟨S_, .f32⟩
  | .hbm, ⟨37, _⟩ => ⟨S8192x256, .f32⟩
  | .hbm, ⟨38, _⟩ => ⟨S8192x256, .f32⟩
  | _, _ => ⟨S8192x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_3 : Ref sig .tc := ⟨.hbm, 21, rfl⟩
abbrev main_v12 : Ref sig .tc := ⟨.hbm, 22, rfl⟩
abbrev main_v13 : Ref sig .tc := ⟨.hbm, 23, rfl⟩
abbrev main_cst_4 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_5 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_6 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_7 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== AoKernel.lean ====
abbrev S1024x1024 : Shape := ⟨2, ![1024, 1024]⟩
abbrev S512x1024 : Shape := ⟨2, ![512, 1024]⟩

abbrev nBuf : Space → Nat
  | .hbm => 9
  | .vmem => 18
  | .smem => 0
  | _ => 0

abbrev bufTy : (tb : Table) → Fin (tcTables nBuf tb) → BufTy
  | .hbm, ⟨0, _⟩ => ⟨S1024x1024, .f32⟩
  | .hbm, ⟨1, _⟩ => ⟨S1024x1024, .f32⟩
  | .hbm, ⟨2, _⟩ => ⟨S1024x1024, .f32⟩
  | .hbm, ⟨3, _⟩ => ⟨S1024x1024, .f32⟩
  | .hbm, ⟨4, _⟩ => ⟨S1024x1024, .f32⟩
  | .hbm, ⟨5, _⟩ => ⟨S1024x1024, .f32⟩
  | .hbm, ⟨6, _⟩ => ⟨S1024x1024, .f32⟩
  | .hbm, ⟨7, _⟩ => ⟨S1024x1024, .f32⟩
  | .hbm, ⟨8, _⟩ => ⟨S1024x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .f32⟩
  | .local _ .vmem, ⟨12, _⟩ => ⟨S512x1024, .f32⟩
  | .local _ .vmem, ⟨13, _⟩ => ⟨S512x1024, .f32⟩
  | .local _ .vmem, ⟨14, _⟩ => ⟨S512x1024, .f32⟩
  | .local _ .vmem, ⟨15, _⟩ => ⟨S512x1024, .f32⟩
  | .local _ .vmem, ⟨16, _⟩ => ⟨S512x1024, .f32⟩
  | .local _ .vmem, ⟨17, _⟩ => ⟨S512x1024, .f32⟩
  | _, _ => ⟨S1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== AoKernelIdeal.lean ====
abbrev S1024x1024 : Shape := ⟨2, ![1024, 1024]⟩
abbrev S512x1024 : Shape := ⟨2, ![512, 1024]⟩

abbrev nBuf : Space → Nat
  | .hbm => 9
  | .vmem => 18
  | .smem => 0
  | _ => 0

abbrev bufTy : (tb : Table) → Fin (tcTables nBuf tb) → BufTy
  | .hbm, ⟨0, _⟩ => ⟨S1024x1024, .f32⟩
  | .hbm, ⟨1, _⟩ => ⟨S1024x1024, .f32⟩
  | .hbm, ⟨2, _⟩ => ⟨S1024x1024, .f32⟩
  | .hbm, ⟨3, _⟩ => ⟨S1024x1024, .f32⟩
  | .hbm, ⟨4, _⟩ => ⟨S1024x1024, .f32⟩
  | .hbm, ⟨5, _⟩ => ⟨S1024x1024, .f32⟩
  | .hbm, ⟨6, _⟩ => ⟨S1024x1024, .f32⟩
  | .hbm, ⟨7, _⟩ => ⟨S1024x1024, .f32⟩
  | .hbm, ⟨8, _⟩ => ⟨S1024x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .f32⟩
  | .local _ .vmem, ⟨12, _⟩ => ⟨S512x1024, .f32⟩
  | .local _ .vmem, ⟨13, _⟩ => ⟨S512x1024, .f32⟩
  | .local _ .vmem, ⟨14, _⟩ => ⟨S512x1024, .f32⟩
  | .local _ .vmem, ⟨15, _⟩ => ⟨S512x1024, .f32⟩
  | .local _ .vmem, ⟨16, _⟩ => ⟨S512x1024, .f32⟩
  | .local _ .vmem, ⟨17, _⟩ => ⟨S512x1024, .f32⟩
  | _, _ => ⟨S1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== AoReferenceIdeal.lean ====
abbrev S1024x1024 : Shape := ⟨2, ![1024, 1024]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S1024x1024, .f32⟩
  | .hbm, ⟨1, _⟩ => ⟨S1024x1024, .f32⟩
  | .hbm, ⟨2, _⟩ => ⟨S1024x1024, .f32⟩
  | .hbm, ⟨3, _⟩ => ⟨S1024x1024, .f32⟩
  | .hbm, ⟨4, _⟩ => ⟨S1024x1024, .f32⟩
  | .hbm, ⟨5, _⟩ => ⟨S1024x1024, .f32⟩
  | .hbm, ⟨6, _⟩ => ⟨S_, .f32⟩
  | .hbm, ⟨7, _⟩ => ⟨S1024x1024, .f32⟩
  | .hbm, ⟨8, _⟩ => ⟨S1024x1024, .f32⟩
  | .hbm, ⟨9, _⟩ => ⟨S_, .f32⟩
  | .hbm, ⟨10, _⟩ => ⟨S1024x1024, .f32⟩
  | .hbm, ⟨11, _⟩ => ⟨S1024x1024, .f32⟩
  | .hbm, ⟨12, _⟩ => ⟨S1024x1024, .f32⟩
  | .hbm, ⟨13, _⟩ => ⟨S_, .f32⟩
  | .hbm, ⟨14, _⟩ => ⟨S1024x1024, .f32⟩
  | .hbm, ⟨15, _⟩ => ⟨S1024x1024, .f32⟩
  | .hbm, ⟨16, _⟩ => ⟨S1024x1024, .f32⟩
  | .hbm, ⟨17, _⟩ => ⟨S_, .f32⟩
  | .hbm, ⟨18, _⟩ => ⟨S1024x1024, .f32⟩
  | .hbm, ⟨19, _⟩ => ⟨S1024x1024, .f32⟩
  | .hbm, ⟨20, _⟩ => ⟨S1024x1024, .f32⟩
  | .hbm, ⟨21, _⟩ => ⟨S_, .f32⟩
  | .hbm, ⟨22, _⟩ => ⟨S1024x1024, .f32⟩
  | .hbm, ⟨23, _⟩ => ⟨S1024x1024, .f32⟩
  | .hbm, ⟨24, _⟩ => ⟨S_, .f32⟩
  | .hbm, ⟨25, _⟩ => ⟨S1024x1024, .f32⟩
  | .hbm, ⟨26, _⟩ => ⟨S1024x1024, .f32⟩
  | .hbm, ⟨27, _⟩ => ⟨S1024x1024, .f32⟩
  | .hbm, ⟨28, _⟩ => ⟨S_, .f32⟩
  | .hbm, ⟨29, _⟩ => ⟨S1024x1024, .f32⟩
  | .hbm, ⟨30, _⟩ => ⟨S1024x1024, .f32⟩
  | .hbm, ⟨31, _⟩ => ⟨S1024x1024, .f32⟩
  | .hbm, ⟨32, _⟩ => ⟨S_, .f32⟩
  | .hbm, ⟨33, _⟩ => ⟨S1024x1024, .f32⟩
  | .hbm, ⟨34, _⟩ => ⟨S1024x1024, .f32⟩
  | .hbm, ⟨35, _⟩ => ⟨S1024x1024, .f32⟩
  | .hbm, ⟨36, _⟩ => ⟨S_, .f32⟩
  | .hbm, ⟨37, _⟩ => ⟨S1024x1024, .f32⟩
  | .hbm, ⟨38, _⟩ => ⟨S1024x1024, .f32⟩
  | _, _ => ⟨S1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_3 : Ref sig .tc := ⟨.hbm, 21, rfl⟩
abbrev main_v12 : Ref sig .tc := ⟨.hbm, 22, rfl⟩
abbrev main_v13 : Ref sig .tc := ⟨.hbm, 23, rfl⟩
abbrev main_cst_4 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_5 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_6 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_7 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== AqKernel.lean ====
abbrev S1024x512 : Shape := ⟨2, ![1024, 512]⟩

abbrev nBuf : Space → Nat
  | .hbm => 9
  | .vmem => 9
  | .smem => 0
  | _ => 0

abbrev bufTy : (tb : Table) → Fin (tcTables nBuf tb) → BufTy
  | .hbm, ⟨0, _⟩ => ⟨S1024x512, .f32⟩
  | .hbm, ⟨1, _⟩ => ⟨S1024x512, .f32⟩
  | .hbm, ⟨2, _⟩ => ⟨S1024x512, .f32⟩
  | .hbm, ⟨3, _⟩ => ⟨S1024x512, .f32⟩
  | .hbm, ⟨4, _⟩ => ⟨S1024x512, .f32⟩
  | .hbm, ⟨5, _⟩ => ⟨S1024x512, .f32⟩
  | .hbm, ⟨6, _⟩ => ⟨S1024x512, .f32⟩
  | .hbm, ⟨7, _⟩ => ⟨S1024x512, .f32⟩
  | .hbm, ⟨8, _⟩ => ⟨S1024x512, .f32⟩
  | .local _ .vmem, ⟨0, _⟩ => ⟨S1024x512, .f32⟩
  | .local _ .vmem, ⟨1, _⟩ => ⟨S1024x512, .f32⟩
  | .local _ .vmem, ⟨2, _⟩ => ⟨S1024x512, .f32⟩
  | .local _ .vmem, ⟨3, _⟩ => ⟨S1024x512, .f32⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | .local _ .vmem, ⟨7, _⟩ => ⟨S1024x512, .f32⟩
  | .local _ .vmem, ⟨8, _⟩ => ⟨S1024x512, .f32⟩
  | _, _ => ⟨S1024x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1024x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1024x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1024x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1024x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1024x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1024x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1024x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S1024x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]

abbrev stage0_8 : Fin 1 → Memref sig .tc .vmem S1024x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true]
-- ==== AqKernelIdeal.lean ====
abbrev S1024x512 : Shape := ⟨2, ![1024, 512]⟩

abbrev nBuf : Space → Nat
  | .hbm => 9
  | .vmem => 9
  | .smem => 0
  | _ => 0

abbrev bufTy : (tb : Table) → Fin (tcTables nBuf tb) → BufTy
  | .hbm, ⟨0, _⟩ => ⟨S1024x512, .f32⟩
  | .hbm, ⟨1, _⟩ => ⟨S1024x512, .f32⟩
  | .hbm, ⟨2, _⟩ => ⟨S1024x512, .f32⟩
  | .hbm, ⟨3, _⟩ => ⟨S1024x512, .f32⟩
  | .hbm, ⟨4, _⟩ => ⟨S1024x512, .f32⟩
  | .hbm, ⟨5, _⟩ => ⟨S1024x512, .f32⟩
  | .hbm, ⟨6, _⟩ => ⟨S1024x512, .f32⟩
  | .hbm, ⟨7, _⟩ => ⟨S1024x512, .f32⟩
  | .hbm, ⟨8, _⟩ => ⟨S1024x512, .f32⟩
  | .local _ .vmem, ⟨0, _⟩ => ⟨S1024x512, .f32⟩
  | .local _ .vmem, ⟨1, _⟩ => ⟨S1024x512, .f32⟩
  | .local _ .vmem, ⟨2, _⟩ => ⟨S1024x512, .f32⟩
  | .local _ .vmem, ⟨3, _⟩ => ⟨S1024x512, .f32⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | .local _ .vmem, ⟨7, _⟩ => ⟨S1024x512, .f32⟩
  | .local _ .vmem, ⟨8, _⟩ => ⟨S1024x512, .f32⟩
  | _, _ => ⟨S1024x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1024x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1024x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1024x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1024x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1024x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1024x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1024x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S1024x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]

abbrev stage0_8 : Fin 1 → Memref sig .tc .vmem S1024x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true]
-- ==== AqReferenceIdeal.lean ====
abbrev S1024x512 : Shape := ⟨2, ![1024, 512]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S1024x512, .f32⟩
  | .hbm, ⟨1, _⟩ => ⟨S1024x512, .f32⟩
  | .hbm, ⟨2, _⟩ => ⟨S1024x512, .f32⟩
  | .hbm, ⟨3, _⟩ => ⟨S1024x512, .f32⟩
  | .hbm, ⟨4, _⟩ => ⟨S1024x512, .f32⟩
  | .hbm, ⟨5, _⟩ => ⟨S1024x512, .f32⟩
  | .hbm, ⟨6, _⟩ => ⟨S_, .f32⟩
  | .hbm, ⟨7, _⟩ => ⟨S1024x512, .f32⟩
  | .hbm, ⟨8, _⟩ => ⟨S1024x512, .f32⟩
  | .hbm, ⟨9, _⟩ => ⟨S_, .f32⟩
  | .hbm, ⟨10, _⟩ => ⟨S1024x512, .f32⟩
  | .hbm, ⟨11, _⟩ => ⟨S1024x512, .f32⟩
  | .hbm, ⟨12, _⟩ => ⟨S1024x512, .f32⟩
  | .hbm, ⟨13, _⟩ => ⟨S_, .f32⟩
  | .hbm, ⟨14, _⟩ => ⟨S1024x512, .f32⟩
  | .hbm, ⟨15, _⟩ => ⟨S1024x512, .f32⟩
  | .hbm, ⟨16, _⟩ => ⟨S1024x512, .f32⟩
  | .hbm, ⟨17, _⟩ => ⟨S_, .f32⟩
  | .hbm, ⟨18, _⟩ => ⟨S1024x512, .f32⟩
  | .hbm, ⟨19, _⟩ => ⟨S1024x512, .f32⟩
  | .hbm, ⟨20, _⟩ => ⟨S1024x512, .f32⟩
  | .hbm, ⟨21, _⟩ => ⟨S_, .f32⟩
  | .hbm, ⟨22, _⟩ => ⟨S1024x512, .f32⟩
  | .hbm, ⟨23, _⟩ => ⟨S1024x512, .f32⟩
  | .hbm, ⟨24, _⟩ => ⟨S_, .f32⟩
  | .hbm, ⟨25, _⟩ => ⟨S1024x512, .f32⟩
  | .hbm, ⟨26, _⟩ => ⟨S1024x512, .f32⟩
  | .hbm, ⟨27, _⟩ => ⟨S1024x512, .f32⟩
  | .hbm, ⟨28, _⟩ => ⟨S_, .f32⟩
  | .hbm, ⟨29, _⟩ => ⟨S1024x512, .f32⟩
  | .hbm, ⟨30, _⟩ => ⟨S1024x512, .f32⟩
  | .hbm, ⟨31, _⟩ => ⟨S1024x512, .f32⟩
  | .hbm, ⟨32, _⟩ => ⟨S_, .f32⟩
  | .hbm, ⟨33, _⟩ => ⟨S1024x512, .f32⟩
  | .hbm, ⟨34, _⟩ => ⟨S1024x512, .f32⟩
  | .hbm, ⟨35, _⟩ => ⟨S1024x512, .f32⟩
  | .hbm, ⟨36, _⟩ => ⟨S_, .f32⟩
  | .hbm, ⟨37, _⟩ => ⟨S1024x512, .f32⟩
  | .hbm, ⟨38, _⟩ => ⟨S1024x512, .f32⟩
  | _, _ => ⟨S1024x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_3 : Ref sig .tc := ⟨.hbm, 21, rfl⟩
abbrev main_v12 : Ref sig .tc := ⟨.hbm, 22, rfl⟩
abbrev main_v13 : Ref sig .tc := ⟨.hbm, 23, rfl⟩
abbrev main_cst_4 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_5 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_6 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_7 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== AxKernel.lean ====
abbrev S2048x256 : Shape := ⟨2, ![2048, 256]⟩

abbrev nBuf : Space → Nat
  | .hbm => 9
  | .vmem => 9
  | .smem => 0
  | _ => 0

abbrev bufTy : (tb : Table) → Fin (tcTables nBuf tb) → BufTy
  | .hbm, ⟨0, _⟩ => ⟨S2048x256, .f32⟩
  | .hbm, ⟨1, _⟩ => ⟨S2048x256, .f32⟩
  | .hbm, ⟨2, _⟩ => ⟨S2048x256, .f32⟩
  | .hbm, ⟨3, _⟩ => ⟨S2048x256, .f32⟩
  | .hbm, ⟨4, _⟩ => ⟨S2048x256, .f32⟩
  | .hbm, ⟨5, _⟩ => ⟨S2048x256, .f32⟩
  | .hbm, ⟨6, _⟩ => ⟨S2048x256, .f32⟩
  | .hbm, ⟨7, _⟩ => ⟨S2048x256, .f32⟩
  | .hbm, ⟨8, _⟩ => ⟨S2048x256, .f32⟩
  | .local _ .vmem, ⟨0, _⟩ => ⟨S2048x256, .f32⟩
  | .local _ .vmem, ⟨1, _⟩ => ⟨S2048x256, .f32⟩
  | .local _ .vmem, ⟨2, _⟩ => ⟨S2048x256, .f32⟩
  | .local _ .vmem, ⟨3, _⟩ => ⟨S2048x256, .f32⟩
  | .local _ .vmem, ⟨4, _⟩ => ⟨S2048x256, .f32⟩
  | .local _ .vmem, ⟨5, _⟩ => ⟨S2048x256, .f32⟩
  | .local _ .vmem, ⟨6, _⟩ => ⟨S2048x256, .f32⟩
  | .local _ .vmem, ⟨7, _⟩ => ⟨S2048x256, .f32⟩
  | .local _ .vmem, ⟨8, _⟩ => ⟨S2048x256, .f32⟩
  | _, _ => ⟨S2048x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S2048x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S2048x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S2048x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S2048x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S2048x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S2048x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S2048x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S2048x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]

abbrev stage0_8 : Fin 1 → Memref sig .tc .vmem S2048x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true]
-- ==== AxReferenceIdeal.lean ====
abbrev S2048x256 : Shape := ⟨2, ![2048, 256]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S2048x256, .f32⟩
  | .hbm, ⟨1, _⟩ => ⟨S2048x256, .f32⟩
  | .hbm, ⟨2, _⟩ => ⟨S2048x256, .f32⟩
  | .hbm, ⟨3, _⟩ => ⟨S2048x256, .f32⟩
  | .hbm, ⟨4, _⟩ => ⟨S2048x256, .f32⟩
  | .hbm, ⟨5, _⟩ => ⟨S2048x256, .f32⟩
  | .hbm, ⟨6, _⟩ => ⟨S_, .f32⟩
  | .hbm, ⟨7, _⟩ => ⟨S2048x256, .f32⟩
  | .hbm, ⟨8, _⟩ => ⟨S2048x256, .f32⟩
  | .hbm, ⟨9, _⟩ => ⟨S_, .f32⟩
  | .hbm, ⟨10, _⟩ => ⟨S2048x256, .f32⟩
  | .hbm, ⟨11, _⟩ => ⟨S2048x256, .f32⟩
  | .hbm, ⟨12, _⟩ => ⟨S2048x256, .f32⟩
  | .hbm, ⟨13, _⟩ => ⟨S_, .f32⟩
  | .hbm, ⟨14, _⟩ => ⟨S2048x256, .f32⟩
  | .hbm, ⟨15, _⟩ => ⟨S2048x256, .f32⟩
  | .hbm, ⟨16, _⟩ => ⟨S2048x256, .f32⟩
  | .hbm, ⟨17, _⟩ => ⟨S_, .f32⟩
  | .hbm, ⟨18, _⟩ => ⟨S2048x256, .f32⟩
  | .hbm, ⟨19, _⟩ => ⟨S2048x256, .f32⟩
  | .hbm, ⟨20, _⟩ => ⟨S2048x256, .f32⟩
  | .hbm, ⟨21, _⟩ => ⟨S_, .f32⟩
  | .hbm, ⟨22, _⟩ => ⟨S2048x256, .f32⟩
  | .hbm, ⟨23, _⟩ => ⟨S2048x256, .f32⟩
  | .hbm, ⟨24, _⟩ => ⟨S_, .f32⟩
  | .hbm, ⟨25, _⟩ => ⟨S2048x256, .f32⟩
  | .hbm, ⟨26, _⟩ => ⟨S2048x256, .f32⟩
  | .hbm, ⟨27, _⟩ => ⟨S2048x256, .f32⟩
  | .hbm, ⟨28, _⟩ => ⟨S_, .f32⟩
  | .hbm, ⟨29, _⟩ => ⟨S2048x256, .f32⟩
  | .hbm, ⟨30, _⟩ => ⟨S2048x256, .f32⟩
  | .hbm, ⟨31, _⟩ => ⟨S2048x256, .f32⟩
  | .hbm, ⟨32, _⟩ => ⟨S_, .f32⟩
  | .hbm, ⟨33, _⟩ => ⟨S2048x256, .f32⟩
  | .hbm, ⟨34, _⟩ => ⟨S2048x256, .f32⟩
  | .hbm, ⟨35, _⟩ => ⟨S2048x256, .f32⟩
  | .hbm, ⟨36, _⟩ => ⟨S_, .f32⟩
  | .hbm, ⟨37, _⟩ => ⟨S2048x256, .f32⟩
  | .hbm, ⟨38, _⟩ => ⟨S2048x256, .f32⟩
  | _, _ => ⟨S2048x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_3 : Ref sig .tc := ⟨.hbm, 21, rfl⟩
abbrev main_v12 : Ref sig .tc := ⟨.hbm, 22, rfl⟩
abbrev main_v13 : Ref sig .tc := ⟨.hbm, 23, rfl⟩
abbrev main_cst_4 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_5 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_6 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_7 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== CkvKernel.lean ====
abbrev S256x1024 : Shape := ⟨2, ![256, 1024]⟩
abbrev S1024x1024 : Shape := ⟨2, ![1024, 1024]⟩

abbrev nBuf : Space → Nat
  | .hbm => 3
  | .vmem => 3
  | .smem => 0
  | _ => 0

abbrev bufTy : (tb : Table) → Fin (tcTables nBuf tb) → BufTy
  | .hbm, ⟨0, _⟩ => ⟨S256x1024, .bf16⟩
  | .hbm, ⟨1, _⟩ => ⟨S1024x1024, .bf16⟩
  | .hbm, ⟨2, _⟩ => ⟨S256x1024, .bf16⟩
  | .local _ .vmem, ⟨0, _⟩ => ⟨S256x1024, .bf16⟩
  | .local _ .vmem, ⟨1, _⟩ => ⟨S1024x1024, .bf16⟩
  | .local _ .vmem, ⟨2, _⟩ => ⟨S256x1024, .bf16⟩
  | _, _ => ⟨S256x1024, .bf16⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨3, ![1, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S256x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 1 → Memref sig .tc .vmem S256x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== CkvReferenceIdeal.lean ====
abbrev S256x1024 : Shape := ⟨2, ![256, 1024]⟩
abbrev S1024x1024 : Shape := ⟨2, ![1024, 1024]⟩

abbrev nBuf : Space → Nat
  | .hbm => 6
  | .vmem => 0
  | .smem => 0
  | _ => 0

abbrev bufTy : (tb : Table) → Fin (tcTables nBuf tb) → BufTy
  | .hbm, ⟨0, _⟩ => ⟨S256x1024, .bf16⟩
  | .hbm, ⟨1, _⟩ => ⟨S1024x1024, .bf16⟩
  | .hbm, ⟨2, _⟩ => ⟨S256x1024, .f32⟩
  | .hbm, ⟨3, _⟩ => ⟨S1024x1024, .f32⟩
  | .hbm, ⟨4, _⟩ => ⟨S256x1024, .f32⟩
  | .hbm, ⟨5, _⟩ => ⟨S256x1024, .bf16⟩
  | _, _ => ⟨S256x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== DwkvKernel.lean ====
abbrev S256x1024 : Shape := ⟨2, ![256, 1024]⟩
abbrev S1024x1024 : Shape := ⟨2, ![1024, 1024]⟩

abbrev nBuf : Space → Nat
  | .hbm => 3
  | .vmem => 3
  | .smem => 0
  | _ => 0

abbrev bufTy : (tb : Table) → Fin (tcTables nBuf tb) → BufTy
  | .hbm, ⟨0, _⟩ => ⟨S256x1024, .bf16⟩
  | .hbm, ⟨1, _⟩ => ⟨S256x1024, .f32⟩
  | .hbm, ⟨2, _⟩ => ⟨S1024x1024, .f32⟩
  | .local _ .vmem, ⟨0, _⟩ => ⟨S256x1024, .bf16⟩
  | .local _ .vmem, ⟨1, _⟩ => ⟨S256x1024, .f32⟩
  | .local _ .vmem, ⟨2, _⟩ => ⟨S1024x1024, .f32⟩
  | _, _ => ⟨S256x1024, .bf16⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨3, ![1, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S256x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 1 → Memref sig .tc .vmem S256x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== DwkvReferenceIdeal.lean ====
abbrev S256x1024 : Shape := ⟨2, ![256, 1024]⟩
abbrev S_ : Shape := ⟨0, ![]⟩
abbrev S1024x1024 : Shape := ⟨2, ![1024, 1024]⟩

abbrev nBuf : Space → Nat
  | .hbm => 8
  | .vmem => 0
  | .smem => 0
  | _ => 0

abbrev bufTy : (tb : Table) → Fin (tcTables nBuf tb) → BufTy
  | .hbm, ⟨0, _⟩ => ⟨S256x1024, .bf16⟩
  | .hbm, ⟨1, _⟩ => ⟨S256x1024, .f32⟩
  | .hbm, ⟨2, _⟩ => ⟨S_, .f32⟩
  | .hbm, ⟨3, _⟩ => ⟨S1024x1024, .f32⟩
  | .hbm, ⟨4, _⟩ => ⟨S256x1024, .f32⟩
  | .hbm, ⟨5, _⟩ => ⟨S256x1024, .f32⟩
  | .hbm, ⟨6, _⟩ => ⟨S1024x1024, .f32⟩
  | .hbm, ⟨7, _⟩ => ⟨S1024x1024, .f32⟩
  | _, _ => ⟨S256x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== DmemKernel.lean ====
abbrev S256x1024 : Shape := ⟨2, ![256, 1024]⟩
abbrev S1024x1024 : Shape := ⟨2, ![1024, 1024]⟩

abbrev nBuf : Space → Nat
  | .hbm => 3
  | .vmem => 3
  | .smem => 0
  | _ => 0

abbrev bufTy : (tb : Table) → Fin (tcTables nBuf tb) → BufTy
  | .hbm, ⟨0, _⟩ => ⟨S256x1024, .f32⟩
  | .hbm, ⟨1, _⟩ => ⟨S1024x1024, .bf16⟩
  | .hbm, ⟨2, _⟩ => ⟨S256x1024, .f32⟩
  | .local _ .vmem, ⟨0, _⟩ => ⟨S256x1024, .f32⟩
  | .local _ .vmem, ⟨1, _⟩ => ⟨S1024x1024, .bf16⟩
  | .local _ .vmem, ⟨2, _⟩ => ⟨S256x1024, .f32⟩
  | _, _ => ⟨S256x1024, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨3, ![1, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 1 → Memref sig .tc .vmem S256x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== DmemReferenceIdeal.lean ====
abbrev S256x1024 : Shape := ⟨2, ![256, 1024]⟩
abbrev S1024x1024 : Shape := ⟨2, ![1024, 1024]⟩
abbrev S_ : Shape := ⟨0, ![]⟩

abbrev nBuf : Space → Nat
  | .hbm => 7
  | .vmem => 0
  | .smem => 0
  | _ => 0

abbrev bufTy : (tb : Table) → Fin (tcTables nBuf tb) → BufTy
  | .hbm, ⟨0, _⟩ => ⟨S256x1024, .f32⟩
  | .hbm, ⟨1, _⟩ => ⟨S1024x1024, .bf16⟩
  | .hbm, ⟨2, _⟩ => ⟨S_, .f32⟩
  | .hbm, ⟨3, _⟩ => ⟨S256x1024, .f32⟩
  | .hbm, ⟨4, _⟩ => ⟨S1024x1024, .f32⟩
  | .hbm, ⟨5, _⟩ => ⟨S256x1024, .f32⟩
  | .hbm, ⟨6, _⟩ => ⟨S256x1024, .f32⟩
  | _, _ => ⟨S256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Dh2Kernel.lean ====
abbrev S4096x512 : Shape := ⟨2, ![4096, 512]⟩
abbrev S1024x512 : Shape := ⟨2, ![1024, 512]⟩
abbrev S4096x1024 : Shape := ⟨2, ![4096, 1024]⟩
abbrev S1x1024 : Shape := ⟨2, ![1, 1024]⟩
abbrev S1024x1024 : Shape := ⟨2, ![1024, 1024]⟩
abbrev S1024 : Shape := ⟨1, ![1024]⟩
abbrev S1024x1 : Shape := ⟨2, ![1024, 1]⟩

abbrev nBuf : Space → Nat
  | .hbm => 7
  | .vmem => 11
  | .smem => 0
  | _ => 0

abbrev bufTy : (tb : Table) → Fin (tcTables nBuf tb) → BufTy
  | .hbm, ⟨0, _⟩ => ⟨S4096x512, .bf16⟩
  | .hbm, ⟨1, _⟩ => ⟨S1024x512, .bf16⟩
  | .hbm, ⟨2, _⟩ => ⟨S4096x1024, .f32⟩
  | .hbm, ⟨3, _⟩ => ⟨S4096x1024, .f32⟩
  | .hbm, ⟨4, _⟩ => ⟨S1x1024, .f32⟩
  | .hbm, ⟨5, _⟩ => ⟨S4096x1024, .f32⟩
  | .hbm, ⟨6, _⟩ => ⟨S1x1024, .f32⟩
  | .local _ .vmem, ⟨0, _⟩ => ⟨S1024x512, .bf16⟩
  | .local _ .vmem, ⟨1, _⟩ => ⟨S1024x512, .bf16⟩
  | .local _ .vmem, ⟨2, _⟩ => ⟨S1024x512, .bf16⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1x1024, .f32⟩
  | .local _ .vmem, ⟨8, _⟩ => ⟨S1024x1024, .f32⟩
  | .local _ .vmem, ⟨9, _⟩ => ⟨S1024x1024, .f32⟩
  | .local _ .vmem, ⟨10, _⟩ => ⟨S1x1024, .f32⟩
  | _, _ => ⟨S4096x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10

abbrev nD : Nat := 1
abbrev τ : Topo := Topo.v7x

variable {F : FTy → Type} [FloatOps F]

abbrev grid0 : Pipeline.Grid := ⟨3, ![4, 1, 1], ![false, false, false]⟩

def k0_cond1 (i : grid0.Coords) : BitVec 1 :=
  let arg0 : BitVec 32 := BitVec.ofNat 32 (i 0).val
  let c0_i32 : BitVec 32 := 0#32
  let v33 : BitVec 1 := Scalar.cmpi .eq arg0 c0_i32
  let v34 : BitVec 32 := Scalar.extui v33
  let c0_i32_17 : BitVec 32 := 0#32
  let v35 : BitVec 1 := Scalar.cmpi .ne v34 c0_i32_17
  v35

def k0_cond2 (i : grid0.Coords) : BitVec 1 :=
  let arg0 : BitVec 32 := BitVec.ofNat 32 (i 0).val
  let c0_i32_18 : BitVec 32 := 0#32
  let v36 : BitVec 1 := Scalar.cmpi .sgt arg0 c0_i32_18
  let v37 : BitVec 32 := Scalar.extui v36
  let c0_i32_19 : BitVec 32 := 0#32
  let v38 : BitVec 1 := Scalar.cmpi .ne v37 c0_i32_19
  v38

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, true, false]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, true, false]
-- ==== Dh2ReferenceIdeal.lean ====
abbrev S4096x512 : Shape := ⟨2, ![4096, 512]⟩
abbrev S1024x512 : Shape := ⟨2, ![1024, 512]⟩
abbrev S4096x1024 : Shape := ⟨2, ![4096, 1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩
abbrev S1024 : Shape := ⟨1, ![1024]⟩

abbrev nBuf : Space → Nat
  | .hbm => 52
  | .vmem => 0
  | .smem => 0
  | _ => 0

abbrev bufTy : (tb : Table) → Fin (tcTables nBuf tb) → BufTy
  | .hbm, ⟨0, _⟩ => ⟨S4096x512, .bf16⟩
  | .hbm, ⟨1, _⟩ => ⟨S1024x512, .bf16⟩
  | .hbm, ⟨2, _⟩ => ⟨S4096x1024, .f32⟩
  | .hbm, ⟨3, _⟩ => ⟨S4096x1024, .f32⟩
  | .hbm, ⟨4, _⟩ => ⟨S1x1024, .f32⟩
  | .hbm, ⟨5, _⟩ => ⟨S4096x1024, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S_, .f32⟩
  | .hbm, ⟨18, _⟩ => ⟨S4096x1, .f32⟩
  | .hbm, ⟨19, _⟩ => ⟨S4096x1, .f32⟩
  | .hbm, ⟨20, _⟩ => ⟨S4096x1024, .f32⟩
  | .hbm, ⟨21, _⟩ => ⟨S4096x1024, .f32⟩
  | .hbm, ⟨22, _⟩ => ⟨S4096x1024, .f32⟩
  | .hbm, ⟨23, _⟩ => ⟨S4096x1024, .f32⟩
  | .hbm, ⟨24, _⟩ => ⟨S1024x512, .f32⟩
  | .hbm, ⟨25, _⟩ => ⟨S4096x512, .f32⟩
  | .hbm, ⟨26, _⟩ => ⟨S4096x512, .f32⟩
  | .hbm, ⟨27, _⟩ => ⟨S4096x1024, .f32⟩
  | .hbm, ⟨28, _⟩ => ⟨S4096x1024, .f32⟩
  | .hbm, ⟨29, _⟩ => ⟨S_, .f32⟩
  | .hbm, ⟨30, _⟩ => ⟨S1024, .f32⟩
  | .hbm, ⟨31, _⟩ => ⟨S1x1024, .f32⟩
  | .hbm, ⟨32, _⟩ => ⟨S4096x1024, .f32⟩
  | .hbm, ⟨33, _⟩ => ⟨S4096x1024, .f32⟩
  | .hbm, ⟨34, _⟩ => ⟨S4096x1024, .f32⟩
  | .hbm, ⟨35, _⟩ => ⟨S_, .f32⟩
  | .hbm, ⟨36, _⟩ => ⟨S4096, .f32⟩
  | .hbm, ⟨37, _⟩ => ⟨S4096x1, .f32⟩
  | .hbm, ⟨38, _⟩ => ⟨S4096x1024, .f32⟩
  | .hbm, ⟨39, _⟩ => ⟨S4096x1024, .f32⟩
  | .hbm, ⟨40, _⟩ => ⟨S4096x1024, .f32⟩
  | .hbm, ⟨41, _⟩ => ⟨S4096x1, .f32⟩
  | .hbm, ⟨42, _⟩ => ⟨S_, .f32⟩
  | .hbm, ⟨43, _⟩ => ⟨S4096x1, .f32⟩
  | .hbm, ⟨44, _⟩ => ⟨S4096x1, .f32⟩
  | .hbm, ⟨45, _⟩ => ⟨S_, .f32⟩
  | .hbm, ⟨46, _⟩ => ⟨S4096, .f32⟩
  | .hbm, ⟨47, _⟩ => ⟨S4096x1024, .f32⟩
  | .hbm, ⟨48, _⟩ => ⟨S4096x1024, .f32⟩
  | .hbm, ⟨49, _⟩ => ⟨S4096x1024, .f32⟩
  | .hbm, ⟨50, _⟩ => ⟨S4096x1024, .f32⟩
  | .hbm, ⟨51, _⟩ => ⟨S4096x1024, .f32⟩
  | _, _ => ⟨S4096x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_3 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_4 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_cst_5 : Ref sig .tc := ⟨.hbm, 42, rfl⟩
abbrev main_v31 : Ref sig .tc := ⟨.hbm, 43, rfl⟩
abbrev main_v32 : Ref sig .tc := ⟨.hbm, 44, rfl⟩
abbrev main_cst_6 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩

abbrev nD : Nat := 1
abbrev τ : Topo := Topo.v7x

variable {F : FTy → Type} [FloatOps F]
-- ==== FmKernel.lean ====
abbrev S256x1024 : Shape := ⟨2, ![256, 1024]⟩
abbrev S1x1024 : Shape := ⟨2, ![1, 1024]⟩
abbrev S256 : Shape := ⟨1, ![256]⟩
abbrev S256x1 : Shape := ⟨2, ![256, 1]⟩

abbrev nBuf : Space → Nat
  | .hbm => 3
  | .vmem => 3
  | .smem => 0
  | _ => 0

abbrev bufTy : (tb : Table) → Fin (tcTables nBuf tb) → BufTy
  | .hbm, ⟨0, _⟩ => ⟨S256x1024, .f32⟩
  | .hbm, ⟨1, _⟩ => ⟨S1x1024, .f32⟩
  | .hbm, ⟨2, _⟩ => ⟨S256x1024, .bf16⟩
  | .local _ .vmem, ⟨0, _⟩ => ⟨S256x1024, .f32⟩
  | .local _ .vmem, ⟨1, _⟩ => ⟨S1x1024, .f32⟩
  | .local _ .vmem, ⟨2, _⟩ => ⟨S256x1024, .bf16⟩
  | _, _ => ⟨S256x1024, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]
-- ==== FmReferenceIdeal.lean ====
abbrev S256x1024 : Shape := ⟨2, ![256, 1024]⟩
abbrev S1x1024 : Shape := ⟨2, ![1, 1024]⟩
abbrev S_ : Shape := ⟨0, ![]⟩
abbrev S256 : Shape := ⟨1, ![256]⟩
abbrev S256x1 : Shape := ⟨2, ![256, 1]⟩

abbrev nBuf : Space → Nat
  | .hbm => 18
  | .vmem => 0
  | .smem => 0
  | _ => 0

abbrev bufTy : (tb : Table) → Fin (tcTables nBuf tb) → BufTy
  | .hbm, ⟨0, _⟩ => ⟨S256x1024, .f32⟩
  | .hbm, ⟨1, _⟩ => ⟨S1x1024, .f32⟩
  | .hbm, ⟨2, _⟩ => ⟨S256x1024, .f32⟩
  | .hbm, ⟨3, _⟩ => ⟨S_, .f32⟩
  | .hbm, ⟨4, _⟩ => ⟨S256, .f32⟩
  | .hbm, ⟨5, _⟩ => ⟨S256x1, .f32⟩
  | .hbm, ⟨6, _⟩ => ⟨S_, .f32⟩
  | .hbm, ⟨7, _⟩ => ⟨S256x1, .f32⟩
  | .hbm, ⟨8, _⟩ => ⟨S256x1, .f32⟩
  | .hbm, ⟨9, _⟩ => ⟨S_, .f32⟩
  | .hbm, ⟨10, _⟩ => ⟨S256x1, .f32⟩
  | .hbm, ⟨11, _⟩ => ⟨S256x1, .f32⟩
  | .hbm, ⟨12, _⟩ => ⟨S256x1, .f32⟩
  | .hbm, ⟨13, _⟩ => ⟨S256x1024, .f32⟩
  | .hbm, ⟨14, _⟩ => ⟨S256x1024, .f32⟩
  | .hbm, ⟨15, _⟩ => ⟨S256x1024, .f32⟩
  | .hbm, ⟨16, _⟩ => ⟨S256x1024, .f32⟩
  | .hbm, ⟨17, _⟩ => ⟨S256x1024, .bf16⟩
  | _, _ => ⟨S256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]
-- ==== FpKernel.lean ====
abbrev S4096x1024 : Shape := ⟨2, ![4096, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 3
  | .vmem => 5
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S4096x1024, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .bf16⟩
  | .local _ .vmem, ⟨4, _⟩ => ⟨S512x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== FpReferenceIdeal.lean ====
abbrev S4096x1024 : Shape := ⟨2, ![4096, 1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩

abbrev nBuf : Space → Nat
  | .hbm => 18
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S4096x1024, .f32⟩
  | .hbm, ⟨3, _⟩ => ⟨S_, .f32⟩
  | .hbm, ⟨4, _⟩ => ⟨S4096, .f32⟩
  | .hbm, ⟨5, _⟩ => ⟨S4096x1, .f32⟩
  | .hbm, ⟨6, _⟩ => ⟨S_, .f32⟩
  | .hbm, ⟨7, _⟩ => ⟨S4096x1, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S4096x1, .f32⟩
  | .hbm, ⟨13, _⟩ => ⟨S4096x1024, .f32⟩
  | .hbm, ⟨14, _⟩ => ⟨S4096x1024, .f32⟩
  | .hbm, ⟨15, _⟩ => ⟨S4096x1024, .f32⟩
  | .hbm, ⟨16, _⟩ => ⟨S4096x1024, .f32⟩
  | .hbm, ⟨17, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]
-- ==== RmemKernel.lean ====
abbrev S256x1024 : Shape := ⟨2, ![256, 1024]⟩
abbrev S1x1024 : Shape := ⟨2, ![1, 1024]⟩
abbrev S256 : Shape := ⟨1, ![256]⟩
abbrev S256x1 : Shape := ⟨2, ![256, 1]⟩
abbrev S1024 : Shape := ⟨1, ![1024]⟩

abbrev nBuf : Space → Nat
  | .hbm => 5
  | .vmem => 5
  | .smem => 0
  | _ => 0

abbrev bufTy : (tb : Table) → Fin (tcTables nBuf tb) → BufTy
  | .hbm, ⟨0, _⟩ => ⟨S256x1024, .f32⟩
  | .hbm, ⟨1, _⟩ => ⟨S1x1024, .f32⟩
  | .hbm, ⟨2, _⟩ => ⟨S256x1024, .f32⟩
  | .hbm, ⟨3, _⟩ => ⟨S256x1024, .bf16⟩
  | .hbm, ⟨4, _⟩ => ⟨S1x1024, .f32⟩
  | .local _ .vmem, ⟨0, _⟩ => ⟨S256x1024, .f32⟩
  | .local _ .vmem, ⟨1, _⟩ => ⟨S1x1024, .f32⟩
  | .local _ .vmem, ⟨2, _⟩ => ⟨S256x1024, .f32⟩
  | .local _ .vmem, ⟨3, _⟩ => ⟨S256x1024, .bf16⟩
  | .local _ .vmem, ⟨4, _⟩ => ⟨S1x1024, .f32⟩
  | _, _ => ⟨S256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := ⟨1, ![1], ![false]⟩

def k0_cond1 (i : grid0.Coords) : BitVec 1 :=
  let arg0 : BitVec 32 := BitVec.ofNat 32 (i 0).val
  let c0_i32 : BitVec 32 := 0#32
  let v30 : BitVec 1 := Scalar.cmpi .eq arg0 c0_i32
  let v31 : BitVec 32 := Scalar.extui v30
  let c0_i32_12 : BitVec 32 := 0#32
  let v32 : BitVec 1 := Scalar.cmpi .ne v31 c0_i32_12
  v32

def k0_cond2 (i : grid0.Coords) : BitVec 1 :=
  let arg0 : BitVec 32 := BitVec.ofNat 32 (i 0).val
  let c0_i32_13 : BitVec 32 := 0#32
  let v33 : BitVec 1 := Scalar.cmpi .sgt arg0 c0_i32_13
  let v34 : BitVec 32 := Scalar.extui v33
  let c0_i32_14 : BitVec 32 := 0#32
  let v35 : BitVec 1 := Scalar.cmpi .ne v34 c0_i32_14
  v35

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S256x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== RmemReferenceIdeal.lean ====
abbrev S256x1024 : Shape := ⟨2, ![256, 1024]⟩
abbrev S1x1024 : Shape := ⟨2, ![1, 1024]⟩
abbrev S_ : Shape := ⟨0, ![]⟩
abbrev S256 : Shape := ⟨1, ![256]⟩
abbrev S256x1 : Shape := ⟨2, ![256, 1]⟩
abbrev S1024 : Shape := ⟨1, ![1024]⟩

abbrev nBuf : Space → Nat
  | .hbm => 46
  | .vmem => 0
  | .smem => 0
  | _ => 0

abbrev bufTy : (tb : Table) → Fin (tcTables nBuf tb) → BufTy
  | .hbm, ⟨0, _⟩ => ⟨S256x1024, .f32⟩
  | .hbm, ⟨1, _⟩ => ⟨S1x1024, .f32⟩
  | .hbm, ⟨2, _⟩ => ⟨S256x1024, .f32⟩
  | .hbm, ⟨3, _⟩ => ⟨S256x1024, .f32⟩
  | .hbm, ⟨4, _⟩ => ⟨S_, .f32⟩
  | .hbm, ⟨5, _⟩ => ⟨S256, .f32⟩
  | .hbm, ⟨6, _⟩ => ⟨S256x1, .f32⟩
  | .hbm, ⟨7, _⟩ => ⟨S_, .f32⟩
  | .hbm, ⟨8, _⟩ => ⟨S256x1, .f32⟩
  | .hbm, ⟨9, _⟩ => ⟨S256x1, .f32⟩
  | .hbm, ⟨10, _⟩ => ⟨S_, .f32⟩
  | .hbm, ⟨11, _⟩ => ⟨S256x1, .f32⟩
  | .hbm, ⟨12, _⟩ => ⟨S256x1, .f32⟩
  | .hbm, ⟨13, _⟩ => ⟨S256x1, .f32⟩
  | .hbm, ⟨14, _⟩ => ⟨S256x1, .f32⟩
  | .hbm, ⟨15, _⟩ => ⟨S_, .f32⟩
  | .hbm, ⟨16, _⟩ => ⟨S256x1, .f32⟩
  | .hbm, ⟨17, _⟩ => ⟨S256x1, .f32⟩
  | .hbm, ⟨18, _⟩ => ⟨S256x1024, .f32⟩
  | .hbm, ⟨19, _⟩ => ⟨S256x1024, .f32⟩
  | .hbm, ⟨20, _⟩ => ⟨S256x1024, .f32⟩
  | .hbm, ⟨21, _⟩ => ⟨S256x1024, .f32⟩
  | .hbm, ⟨22, _⟩ => ⟨S256x1024, .f32⟩
  | .hbm, ⟨23, _⟩ => ⟨S_, .f32⟩
  | .hbm, ⟨24, _⟩ => ⟨S1024, .f32⟩
  | .hbm, ⟨25, _⟩ => ⟨S1x1024, .f32⟩
  | .hbm, ⟨26, _⟩ => ⟨S256x1024, .f32⟩
  | .hbm, ⟨27, _⟩ => ⟨S256x1024, .f32⟩
  | .hbm, ⟨28, _⟩ => ⟨S256x1024, .f32⟩
  | .hbm, ⟨29, _⟩ => ⟨S_, .f32⟩
  | .hbm, ⟨30, _⟩ => ⟨S256, .f32⟩
  | .hbm, ⟨31, _⟩ => ⟨S256x1, .f32⟩
  | .hbm, ⟨32, _⟩ => ⟨S256x1024, .f32⟩
  | .hbm, ⟨33, _⟩ => ⟨S256x1024, .f32⟩
  | .hbm, ⟨34, _⟩ => ⟨S256x1, .f32⟩
  | .hbm, ⟨35, _⟩ => ⟨S_, .f32⟩
  | .hbm, ⟨36, _⟩ => ⟨S256x1, .f32⟩
  | .hbm, ⟨37, _⟩ => ⟨S256x1, .f32⟩
  | .hbm, ⟨38, _⟩ => ⟨S_, .f32⟩
  | .hbm, ⟨39, _⟩ => ⟨S256, .f32⟩
  | .hbm, ⟨40, _⟩ => ⟨S256x1024, .f32⟩
  | .hbm, ⟨41, _⟩ => ⟨S256x1024, .f32⟩
  | .hbm, ⟨42, _⟩ => ⟨S256x1024, .f32⟩
  | .hbm, ⟨43, _⟩ => ⟨S256x1024, .f32⟩
  | .hbm, ⟨44, _⟩ => ⟨S256x1024, .f32⟩
  | .hbm, ⟨45, _⟩ => ⟨S256x1024, .bf16⟩
  | _, _ => ⟨S256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_cst_3 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_cst_4 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_cst_5 : Ref sig .tc := ⟨.hbm, 35, rfl⟩
abbrev main_v26 : Ref sig .tc := ⟨.hbm, 36, rfl⟩
abbrev main_v27 : Ref sig .tc := ⟨.hbm, 37, rfl⟩
abbrev main_cst_6 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩

abbrev nD : Nat := 1
abbrev τ : Topo := Topo.v7x

variable {F : FTy → Type} [FloatOps F]
-- ==== DlKernel.lean ====
abbrev S4096x4096 : Shape := ⟨2, ![4096, 4096]⟩
abbrev S4096x1024 : Shape := ⟨2, ![4096, 1024]⟩
abbrev S1x1024 : Shape := ⟨2, ![1, 1024]⟩
abbrev S1024x2048 : Shape := ⟨2, ![1024, 2048]⟩
abbrev S2048x1024 : Shape := ⟨2, ![2048, 1024]⟩
abbrev S1024x1024 : Shape := ⟨2, ![1024, 1024]⟩
abbrev S1024 : Shape := ⟨1, ![1024]⟩
abbrev S1024x1 : Shape := ⟨2, ![1024, 1]⟩

abbrev nBuf : Space → Nat
  | .hbm => 6
  | .vmem => 12
  | .smem => 0
  | _ => 0

abbrev bufTy : (tb : Table) → Fin (tcTables nBuf tb) → BufTy
  | .hbm, ⟨0, _⟩ => ⟨S4096x4096, .bf16⟩
  | .hbm, ⟨1, _⟩ => ⟨S4096x1024, .bf16⟩
  | .hbm, ⟨2, _⟩ => ⟨S4096x1024, .f32⟩
  | .hbm, ⟨3, _⟩ => ⟨S1x1024, .f32⟩
  | .hbm, ⟨4, _⟩ => ⟨S4096x1024, .f32⟩
  | .hbm, ⟨5, _⟩ => ⟨S4096x1024, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | .local _ .vmem, ⟨6, _⟩ => ⟨S1x1024, .f32⟩
  | .local _ .vmem, ⟨7, _⟩ => ⟨S1024x1024, .f32⟩
  | .local _ .vmem, ⟨8, _⟩ => ⟨S1024x1024, .f32⟩
  | .local _ .vmem, ⟨9, _⟩ => ⟨S1024x1024, .f32⟩
  | .local _ .vmem, ⟨10, _⟩ => ⟨S1024x1024, .f32⟩
  | .local _ .vmem, ⟨11, _⟩ => ⟨S1024x1024, .f32⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨3, ![4, 1, 2], ![false, false, false]⟩

def k0_cond3 (i : grid0.Coords) : BitVec 1 :=
  let arg2 : BitVec 32 := BitVec.ofNat 32 (i 2).val
  let c1_i32 : BitVec 32 := 1#32
  let v9 : BitVec 1 := Scalar.cmpi .eq arg2 c1_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, true, false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]
-- ==== DlReferenceIdeal.lean ====
abbrev S4096x4096 : Shape := ⟨2, ![4096, 4096]⟩
abbrev S4096x1024 : Shape := ⟨2, ![4096, 1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩

abbrev nBuf : Space → Nat
  | .hbm => 23
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S4096x1024, .bf16⟩
  | .hbm, ⟨2, _⟩ => ⟨S4096x1024, .f32⟩
  | .hbm, ⟨3, _⟩ => ⟨S1x1024, .f32⟩
  | .hbm, ⟨4, _⟩ => ⟨S4096x4096, .f32⟩
  | .hbm, ⟨5, _⟩ => ⟨S4096x1024, .f32⟩
  | .hbm, ⟨6, _⟩ => ⟨S4096x1024, .f32⟩
  | .hbm, ⟨7, _⟩ => ⟨S4096x1024, .f32⟩
  | .hbm, ⟨8, _⟩ => ⟨S_, .f32⟩
  | .hbm, ⟨9, _⟩ => ⟨S4096, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S_, .f32⟩
  | .hbm, ⟨15, _⟩ => ⟨S4096x1, .f32⟩
  | .hbm, ⟨16, _⟩ => ⟨S4096x1, .f32⟩
  | .hbm, ⟨17, _⟩ => ⟨S4096x1, .f32⟩
  | .hbm, ⟨18, _⟩ => ⟨S4096x1024, .f32⟩
  | .hbm, ⟨19, _⟩ => ⟨S4096x1024, .f32⟩
  | .hbm, ⟨20, _⟩ => ⟨S4096x1024, .f32⟩
  | .hbm, ⟨21, _⟩ => ⟨S4096x1024, .f32⟩
  | .hbm, ⟨22, _⟩ => ⟨S4096x1024, .f32⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩

abbrev nD : Nat := 1
abbrev τ : Topo := Topo.v7x

variable {F : FTy → Type} [FloatOps F]
-- ==== GluKernel.lean ====
abbrev S4096x512 : Shape := ⟨2, ![4096, 512]⟩
abbrev S512x512 : Shape := ⟨2, ![512, 512]⟩
abbrev S1x512 : Shape := ⟨2, ![1, 512]⟩

abbrev nBuf : Space → Nat
  | .hbm => 4
  | .vmem => 6
  | .smem => 0
  | _ => 0

abbrev bufTy : (tb : Table) → Fin (tcTables nBuf tb) → BufTy
  | .hbm, ⟨0, _⟩ => ⟨S4096x512, .f32⟩
  | .hbm, ⟨1, _⟩ => ⟨S512x512, .bf16⟩
  | .hbm, ⟨2, _⟩ => ⟨S1x512, .f32⟩
  | .hbm, ⟨3, _⟩ => ⟨S4096x512, .bf16⟩
  | .local _ .vmem, ⟨0, _⟩ => ⟨S512x512, .f32⟩
  | .local _ .vmem, ⟨1, _⟩ => ⟨S512x512, .f32⟩
  | .local _ .vmem, ⟨2, _⟩ => ⟨S512x512, .bf16⟩
  | .local _ .vmem, ⟨3, _⟩ => ⟨S1x512, .f32⟩
  | .local _ .vmem, ⟨4, _⟩ => ⟨S512x512, .bf16⟩
  | .local _ .vmem, ⟨5, _⟩ => ⟨S512x512, .bf16⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== GluReferenceIdeal.lean ====
abbrev S4096x512 : Shape := ⟨2, ![4096, 512]⟩
abbrev S512x512 : Shape := ⟨2, ![512, 512]⟩
abbrev S1x512 : Shape := ⟨2, ![1, 512]⟩
abbrev S_ : Shape := ⟨0, ![]⟩

abbrev nBuf : Space → Nat
  | .hbm => 34
  | .vmem => 0
  | .smem => 0
  | _ => 0

abbrev bufTy : (tb : Table) → Fin (tcTables nBuf tb) → BufTy
  | .hbm, ⟨0, _⟩ => ⟨S4096x512, .f32⟩
  | .hbm, ⟨1, _⟩ => ⟨S512x512, .bf16⟩
  | .hbm, ⟨2, _⟩ => ⟨S1x512, .f32⟩
  | .hbm, ⟨3, _⟩ => ⟨S4096x512, .f32⟩
  | .hbm, ⟨4, _⟩ => ⟨S4096x512, .f32⟩
  | .hbm, ⟨5, _⟩ => ⟨S_, .f32⟩
  | .hbm, ⟨6, _⟩ => ⟨S4096x512, .f32⟩
  | .hbm, ⟨7, _⟩ => ⟨S4096x512, .f32⟩
  | .hbm, ⟨8, _⟩ => ⟨S4096x512, .f32⟩
  | .hbm, ⟨9, _⟩ => ⟨S_, .f32⟩
  | .hbm, ⟨10, _⟩ => ⟨S4096x512, .f32⟩
  | .hbm, ⟨11, _⟩ => ⟨S4096x512, .f32⟩
  | .hbm, ⟨12, _⟩ => ⟨S4096x512, .f32⟩
  | .hbm, ⟨13, _⟩ => ⟨S_, .f32⟩
  | .hbm, ⟨14, _⟩ => ⟨S4096x512, .f32⟩
  | .hbm, ⟨15, _⟩ => ⟨S4096x512, .f32⟩
  | .hbm, ⟨16, _⟩ => ⟨S_, .f32⟩
  | .hbm, ⟨17, _⟩ => ⟨S4096x512, .f32⟩
  | .hbm, ⟨18, _⟩ => ⟨S4096x512, .f32⟩
  | .hbm, ⟨19, _⟩ => ⟨S4096x512, .f32⟩
  | .hbm, ⟨20, _⟩ => ⟨S512x512, .f32⟩
  | .hbm, ⟨21, _⟩ => ⟨S4096x512, .f32⟩
  | .hbm, ⟨22, _⟩ => ⟨S4096x512, .f32⟩
  | .hbm, ⟨23, _⟩ => ⟨S4096x512, .f32⟩
  | .hbm, ⟨24, _⟩ => ⟨S4096x512, .f32⟩
  | .hbm, ⟨25, _⟩ => ⟨S4096x512, .f32⟩
  | .hbm, ⟨26, _⟩ => ⟨S_, .f32⟩
  | .hbm, ⟨27, _⟩ => ⟨S4096x512, .f32⟩
  | .hbm, ⟨28, _⟩ => ⟨S4096x512, .f32⟩
  | .hbm, ⟨29, _⟩ => ⟨S_, .f32⟩
  | .hbm, ⟨30, _⟩ => ⟨S4096x512, .f32⟩
  | .hbm, ⟨31, _⟩ => ⟨S4096x512, .f32⟩
  | .hbm, ⟨32, _⟩ => ⟨S4096x512, .f32⟩
  | .hbm, ⟨33, _⟩ => ⟨S4096x512, .bf16⟩
  | _, _ => ⟨S4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst_1 : Ref sig .tc := ⟨.hbm, 13, rfl⟩
abbrev main_v8 : Ref sig .tc := ⟨.hbm, 14, rfl⟩
abbrev main_v9 : Ref sig .tc := ⟨.hbm, 15, rfl⟩
abbrev main_cst_2 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_cst_3 : Ref sig .tc := ⟨.hbm, 26, rfl⟩
abbrev main_v19 : Ref sig .tc := ⟨.hbm, 27, rfl⟩
abbrev main_v20 : Ref sig .tc := ⟨.hbm, 28, rfl⟩
abbrev main_cst_4 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩

abbrev nD : Nat := 1
abbrev τ : Topo := Topo.v7x

variable {F : FTy → Type} [FloatOps F]
-- ==== MixKernel.lean ====
abbrev S4096x512 : Shape := ⟨2, ![4096, 512]⟩
abbrev S512x512 : Shape := ⟨2, ![512, 512]⟩

abbrev nBuf : Space → Nat
  | .hbm => 10
  | .vmem => 20
  | .smem => 0
  | _ => 0

abbrev bufTy : (tb : Table) → Fin (tcTables nBuf tb) → BufTy
  | .hbm, ⟨0, _⟩ => ⟨S4096x512, .f32⟩
  | .hbm, ⟨1, _⟩ => ⟨S4096x512, .f32⟩
  | .hbm, ⟨2, _⟩ => ⟨S4096x512, .f32⟩
  | .hbm, ⟨3, _⟩ => ⟨S4096x512, .f32⟩
  | .hbm, ⟨4, _⟩ => ⟨S4096x512, .f32⟩
  | .hbm, ⟨5, _⟩ => ⟨S4096x512, .f32⟩
  | .hbm, ⟨6, _⟩ => ⟨S4096x512, .bf16⟩
  | .hbm, ⟨7, _⟩ => ⟨S4096x512, .f32⟩
  | .hbm, ⟨8, _⟩ => ⟨S4096x512, .f32⟩
  | .hbm, ⟨9, _⟩ => ⟨S4096x512, .f32⟩
  | .local _ .vmem, ⟨0, _⟩ => ⟨S512x512, .f32⟩
  | .local _ .vmem, ⟨1, _⟩ => ⟨S512x512, .f32⟩
  | .local _ .vmem, ⟨2, _⟩ => ⟨S512x512, .f32⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S512x512, .f32⟩
  | .local _ .vmem, ⟨7, _⟩ => ⟨S512x512, .f32⟩
  | .local _ .vmem, ⟨8, _⟩ => ⟨S512x512, .f32⟩
  | .local _ .vmem, ⟨9, _⟩ => ⟨S512x512, .f32⟩
  | .local _ .vmem, ⟨10, _⟩ => ⟨S512x512, .f32⟩
  | .local _ .vmem, ⟨11, _⟩ => ⟨S512x512, .f32⟩
  | .local _ .vmem, ⟨12, _⟩ => ⟨S512x512, .bf16⟩
  | .local _ .vmem, ⟨13, _⟩ => ⟨S512x512, .bf16⟩
  | .local _ .vmem, ⟨14, _⟩ => ⟨S512x512, .f32⟩
  | .local _ .vmem, ⟨15, _⟩ => ⟨S512x512, .f32⟩
  | .local _ .vmem, ⟨16, _⟩ => ⟨S512x512, .f32⟩
  | .local _ .vmem, ⟨17, _⟩ => ⟨S512x512, .f32⟩
  | .local _ .vmem, ⟨18, _⟩ => ⟨S512x512, .f32⟩
  | .local _ .vmem, ⟨19, _⟩ => ⟨S512x512, .f32⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev main_v0_3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== MixReferenceIdeal.lean ====
abbrev S4096x512 : Shape := ⟨2, ![4096, 512]⟩
abbrev S1x4096x512 : Shape := ⟨3, ![1, 4096, 512]⟩
abbrev S3x4096x512 : Shape := ⟨3, ![3, 4096, 512]⟩
abbrev S_ : Shape := ⟨0, ![]⟩

abbrev nBuf : Space → Nat
  | .hbm => 38
  | .vmem => 0
  | .smem => 0
  | _ => 0

abbrev bufTy : (tb : Table) → Fin (tcTables nBuf tb) → BufTy
  | .hbm, ⟨0, _⟩ => ⟨S4096x512, .f32⟩
  | .hbm, ⟨1, _⟩ => ⟨S4096x512, .f32⟩
  | .hbm, ⟨2, _⟩ => ⟨S4096x512, .f32⟩
  | .hbm, ⟨3, _⟩ => ⟨S4096x512, .f32⟩
  | .hbm, ⟨4, _⟩ => ⟨S4096x512, .f32⟩
  | .hbm, ⟨5, _⟩ => ⟨S4096x512, .f32⟩
  | .hbm, ⟨6, _⟩ => ⟨S1x4096x512, .f32⟩
  | .hbm, ⟨7, _⟩ => ⟨S1x4096x512, .f32⟩
  | .hbm, ⟨8, _⟩ => ⟨S1x4096x512, .f32⟩
  | .hbm, ⟨9, _⟩ => ⟨S3x4096x512, .f32⟩
  | .hbm, ⟨10, _⟩ => ⟨S_, .f32⟩
  | .hbm, ⟨11, _⟩ => ⟨S4096x512, .f32⟩
  | .hbm, ⟨12, _⟩ => ⟨S_, .f32⟩
  | .hbm, ⟨13, _⟩ => ⟨S4096x512, .f32⟩
  | .hbm, ⟨14, _⟩ => ⟨S4096x512, .f32⟩
  | .hbm, ⟨15, _⟩ => ⟨S1x4096x512, .f32⟩
  | .hbm, ⟨16, _⟩ => ⟨S3x4096x512, .f32⟩
  | .hbm, ⟨17, _⟩ => ⟨S3x4096x512, .f32⟩
  | .hbm, ⟨18, _⟩ => ⟨S3x4096x512, .f32⟩
  | .hbm, ⟨19, _⟩ => ⟨S_, .f32⟩
  | .hbm, ⟨20, _⟩ => ⟨S4096x512, .f32⟩
  | .hbm, ⟨21, _⟩ => ⟨S1x4096x512, .f32⟩
  | .hbm, ⟨22, _⟩ => ⟨S3x4096x512, .f32⟩
  | .hbm, ⟨23, _⟩ => ⟨S3x4096x512, .f32⟩
  | .hbm, ⟨24, _⟩ => ⟨S1x4096x512, .f32⟩
  | .hbm, ⟨25, _⟩ => ⟨S1x4096x512, .f32⟩
  | .hbm, ⟨26, _⟩ => ⟨S1x4096x512, .f32⟩
  | .hbm, ⟨27, _⟩ => ⟨S3x4096x512, .f32⟩
  | .hbm, ⟨28, _⟩ => ⟨S3x4096x512, .f32⟩
  | .hbm, ⟨29, _⟩ => ⟨S_, .f32⟩
  | .hbm, ⟨30, _⟩ => ⟨S4096x512, .f32⟩
  | .hbm, ⟨31, _⟩ => ⟨S4096x512, .bf16⟩
  | .hbm, ⟨32, _⟩ => ⟨S1x4096x512, .f32⟩
  | .hbm, ⟨33, _⟩ => ⟨S4096x512, .f32⟩
  | .hbm, ⟨34, _⟩ => ⟨S1x4096x512, .f32⟩
  | .hbm, ⟨35, _⟩ => ⟨S4096x512, .f32⟩
  | .hbm, ⟨36, _⟩ => ⟨S1x4096x512, .f32⟩
  | .hbm, ⟨37, _⟩ => ⟨S4096x512, .f32⟩
  | _, _ => ⟨S4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_2 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩

abbrev nD : Nat := 1
abbrev τ : Topo := Topo.v7x

variable {F : FTy → Type} [FloatOps F]
-- ==== Proof.MergeForm.lean ====
/- The gradient of the gated merge in plain formulas: one entry of each result as a function of the arrays. -/
module

public import Idealize.ShloMosaic.Lib.Pipeline.ValueKit
public import proofs.«01_k».proof.Proof.Gen.KernelIdeal

set_option maxRecDepth 16384

@[expose] public section

noncomputable section

open Idealize.ShloMosaic Idealize.ShloMosaic.TcCoe Idealize.SL.Sem

namespace Cert.Merge

open Cert.KernelIdeal

/-- The logistic gate of a pre-activation and its bias. -/
def gate (x b : EReal) : EReal := Ideal.div 1 (1 + Ideal.exp (-(x + b)))

/-- The cotangent of a gate's pre-activation: cotangent of the merge, times the branch, times the gate's slope. -/
def dpreE (d u x b : EReal) : EReal := d * u * (gate x b * (1 - gate x b))

/-- The cotangent of a branch's projection to the stream: the gate times the cotangent of the merge. -/
def dupE (d x b : EReal) : EReal := gate x b * d

/-- One of four things by the number of the branch. -/
def pick {α : Type} (a b c d : α) : Fin 4 → α
  | 0 => a
  | 1 => b
  | 2 => c
  | 3 => d

/-- The column of the wide projection that holds branch `i`'s gate for column `k` of the stream. -/
def col (i : Fin 4) (k : Fin 1024) : Fin 10752 := ⟨6656 + 1024 * i.val + k.val, by omega⟩

section
variable (P : FVec Ideal S4096x10752 .f32) (G : FVec Ideal S4x1024 .f32) (B : FVec Ideal S4096x512 .bf16)
  (W : FVec Ideal S4x512x1024 .bf16) (D : FVec Ideal S4096x1024 .f32)

/-- Branch `i` taken up to the stream, at row `r` and column `k`. -/
def upAt (i : Fin 4) (r : Fin 4096) (k : Fin 1024) : EReal := ∑ l : Fin 512, B (ix2 r l) * W (ix3 i l k)

/-- The cotangent of gate `i`'s pre-activation at row `r` and column `k`. -/
def dpreAt (i : Fin 4) (r : Fin 4096) (k : Fin 1024) : EReal :=
  dpreE (D (ix2 r k)) (upAt B W i r k) (P (ix2 r (col i k))) (G (ix2 i k))

/-- The cotangent of branch `i` in the stream at row `r` and column `k`. -/
def dupAt (i : Fin 4) (r : Fin 4096) (k : Fin 1024) : EReal :=
  dupE (D (ix2 r k)) (P (ix2 r (col i k))) (G (ix2 i k))

/-- The cotangent of the gates' biases: the cotangents of the pre-activations summed over the rows. -/
def dbiasAt (B0 B1 B2 B3 : FVec Ideal S4096x512 .bf16) (i : Fin 4) (k : Fin 1024) : EReal :=
  ∑ r : Fin 4096, dpreAt P G (pick B0 B1 B2 B3 i) W D i r k

/-- The arrays of these entries. -/
def dpreA (i : Fin 4) : FVec Ideal S4096x1024 .bf16 := fun j => dpreAt P G B W D i (j 0) (j 1)

def dupA (i : Fin 4) : FVec Ideal S4096x1024 .bf16 := fun j => dupAt P G D i (j 0) (j 1)

def dbiasA (B0 B1 B2 B3 : FVec Ideal S4096x512 .bf16) : FVec Ideal S4x1024 .f32 :=
  fun j => dbiasAt P G W D B0 B1 B2 B3 (j 0) (j 1)
end

end Cert.Merge
-- ==== Proof.MergeBlock.lean ====
/- What one grid point of the merge's gradient kernel computes from its blocks, entry by entry. -/
module

public import Idealize.ShloMosaic.Lib.Pipeline.ValueKit
public import proofs.«01_k».proof.Proof.Gen.KernelIdeal.Skeleton
public import proofs.«01_k».proof.Proof.MergeForm

set_option maxRecDepth 16384

@[expose] public section

noncomputable section

open Idealize.ShloMosaic Idealize.ShloMosaic.TcCoe Idealize.SL.Sem

namespace Cert.KernelIdeal.Merge

open Cert.KernelIdeal Cert.KernelIdeal.Gen Cert.Merge

section
variable (D P P0 P1 P2 P3 : FVec Ideal S512x512 .f32) (G : FVec Ideal S4x512 .f32)
  (B B0 B1 B2 B3 : FVec Ideal S512x512 .bf16) (W : FVec Ideal S4x512x512 .bf16) (r k : Fin 512)

/-- The block form of a pre-activation's cotangent for branch `i`. -/
abbrev dpreB (i : Fin 4) : EReal :=
  dpreE (D (ix2 r k)) (∑ l : Fin 512, B (ix2 r l) * W (ix3 i l k)) (P (ix2 r k)) (G (ix2 i k))

/-- The block form of a branch's cotangent. -/
abbrev dupB (i : Fin 4) : EReal := dupE (D (ix2 r k)) (P (ix2 r k)) (G (ix2 i k))

/-- Row 0 of the block of gate biases. -/
abbrev g0 (G : FVec Ideal S4x512 .f32) : FVec Ideal S1x512 .f32 :=
  View.ld (Val := Elt Ideal) (S := S4x512) (e' := .f32) G (Rect.unit ![0, 0] ![1, 512] inb_S4x512_S1x512_0_0)

/-- Matrix 0 of the block of projections to the stream. -/
abbrev w0 (W : FVec Ideal S4x512x512 .bf16) : FVec Ideal S1x512x512 .bf16 :=
  View.ld (Val := Elt Ideal) (S := S4x512x512) (e' := .bf16) W (Rect.unit ![0, 0, 0] ![1, 512, 512] inb_S4x512x512_S1x512x512_0_0_0)

/-- Row 1 of the block of gate biases. -/
abbrev g1 (G : FVec Ideal S4x512 .f32) : FVec Ideal S1x512 .f32 :=
  View.ld (Val := Elt Ideal) (S := S4x512) (e' := .f32) G (Rect.unit ![1, 0] ![1, 512] inb_S4x512_S1x512_1_0)

/-- Matrix 1 of the block of projections to the stream. -/
abbrev w1 (W : FVec Ideal S4x512x512 .bf16) : FVec Ideal S1x512x512 .bf16 :=
  View.ld (Val := Elt Ideal) (S := S4x512x512) (e' := .bf16) W (Rect.unit ![1, 0, 0] ![1, 512, 512] inb_S4x512x512_S1x512x512_1_0_0)

/-- Row 2 of the block of gate biases. -/
abbrev g2 (G : FVec Ideal S4x512 .f32) : FVec Ideal S1x512 .f32 :=
  View.ld (Val := Elt Ideal) (S := S4x512) (e' := .f32) G (Rect.unit ![2, 0] ![1, 512] inb_S4x512_S1x512_2_0)

/-- Matrix 2 of the block of projections to the stream. -/
abbrev w2 (W : FVec Ideal S4x512x512 .bf16) : FVec Ideal S1x512x512 .bf16 :=
  View.ld (Val := Elt Ideal) (S := S4x512x512) (e' := .bf16) W (Rect.unit ![2, 0, 0] ![1, 512, 512] inb_S4x512x512_S1x512x512_2_0_0)

/-- Row 3 of the block of gate biases. -/
abbrev g3 (G : FVec Ideal S4x512 .f32) : FVec Ideal S1x512 .f32 :=
  View.ld (Val := Elt Ideal) (S := S4x512) (e' := .f32) G (Rect.unit ![3, 0] ![1, 512] inb_S4x512_S1x512_3_0)

/-- Matrix 3 of the block of projections to the stream. -/
abbrev w3 (W : FVec Ideal S4x512x512 .bf16) : FVec Ideal S1x512x512 .bf16 :=
  View.ld (Val := Elt Ideal) (S := S4x512x512) (e' := .bf16) W (Rect.unit ![3, 0, 0] ![1, 512, 512] inb_S4x512x512_S1x512x512_3_0_0)

theorem dpre0_read : k0_pay8 (F := Ideal) D P (g0 G) B (w0 W) (ix2 r k) = dpreB D P G B W r k 0 := by
  unfold_payloads
  pointwise [g0, w0]
  simp only [dpreE, gate, zero_sub, mul_assoc]

theorem dup0_read : k0_pay9 (F := Ideal) D P (g0 G) (ix2 r k) = dupB D P G r k 0 := by
  unfold_payloads
  pointwise [g0, w0]
  simp only [dupE, gate, zero_sub, mul_comm]

theorem dpre1_read : k0_pay14 (F := Ideal) D P (k0_pay11 (F := Ideal) (g1 G)) B (w1 W) (ix2 r k) = dpreB D P G B W r k 1 := by
  unfold_payloads
  pointwise [g1, w1]
  simp only [dpreE, gate, zero_sub, mul_assoc]

theorem dup1_read : k0_pay15 (F := Ideal) D P (k0_pay11 (F := Ideal) (g1 G)) (ix2 r k) = dupB D P G r k 1 := by
  unfold_payloads
  pointwise [g1, w1]
  simp only [dupE, gate, zero_sub, mul_comm]

theorem dpre2_read : k0_pay19 (F := Ideal) D (k0_pay17 (F := Ideal) P (g2 G)) B (w2 W) (ix2 r k) = dpreB D P G B W r k 2 := by
  unfold_payloads
  pointwise [g2, w2]
  simp only [dpreE, gate, zero_sub, mul_assoc]

theorem dup2_read : k0_pay20 (F := Ideal) D (k0_pay17 (F := Ideal) P (g2 G)) (ix2 r k) = dupB D P G r k 2 := by
  unfold_payloads
  pointwise [g2, w2]
  simp only [dupE, gate, zero_sub, mul_comm]

theorem dpre3_read : k0_pay2 (F := Ideal) (k0_pay22 (F := Ideal) P (g3 G)) (k0_pay23 (F := Ideal) D P (g3 G) B (w3 W)) (FloatOps.ofBits FTy.f32 0x3F800000#32) (ix2 r k) = dpreB D P G B W r k 3 := by
  unfold_payloads
  pointwise [g3, w3]
  simp only [dpreE, gate, zero_sub, mul_assoc]

theorem dup3_read : k0_pay3 (F := Ideal) D (k0_pay22 (F := Ideal) P (g3 G)) (ix2 r k) = dupB D P G r k 3 := by
  unfold_payloads
  pointwise [g3, w3]
  simp only [dupE, gate, zero_sub, mul_comm]

/-- The four row sums a point adds to the biases' cotangent. -/
abbrev rowsB : FVec Ideal S4x512 .f32 :=
  k0_pay4 (F := Ideal) (k0_pay10 (F := Ideal) D P0 (g0 G) B0 (w0 W)) (k0_pay16 (F := Ideal) D P1 (k0_pay11 (F := Ideal) (g1 G)) B1 (w1 W))
  (k0_pay21 (F := Ideal) D (k0_pay17 (F := Ideal) P2 (g2 G)) B2 (w2 W)) (k0_pay22 (F := Ideal) P3 (g3 G)) (k0_pay23 (F := Ideal) D P3 (g3 G) B3 (w3 W))
  (FloatOps.ofBits FTy.f32 0x3F800000#32)

theorem rows_read (i : Fin 4) (k : Fin 512) : rowsB D P0 P1 P2 P3 G B0 B1 B2 B3 W (ix2 i k)
    = ∑ r : Fin 512, dpreB D (pick P0 P1 P2 P3 i) G (pick B0 B1 B2 B3 i) W r k i := by
  match i with
  | 0 =>
    unfold rowsB
    unfold_payloads
    pointwise [g0, w0]
    simp only [dpreB, dpreE, gate, zero_sub, mul_assoc, pick]
  | 1 =>
    unfold rowsB
    unfold_payloads
    pointwise [g1, w1]
    simp only [dpreB, dpreE, gate, zero_sub, mul_assoc, pick]
  | 2 =>
    unfold rowsB
    unfold_payloads
    pointwise [g2, w2]
    simp only [dpreB, dpreE, gate, zero_sub, mul_assoc, pick]
  | 3 =>
    unfold rowsB
    unfold_payloads
    pointwise [g3, w3]
    simp only [dpreB, dpreE, gate, zero_sub, mul_assoc, pick]

theorem sum_read (X : FVec Ideal S4x512 .f32) (j : S4x512.Idx) :
    k0_pay5 (F := Ideal) (k0_pay10 (F := Ideal) D P0 (g0 G) B0 (w0 W)) (k0_pay16 (F := Ideal) D P1 (k0_pay11 (F := Ideal) (g1 G)) B1 (w1 W))
  (k0_pay21 (F := Ideal) D (k0_pay17 (F := Ideal) P2 (g2 G)) B2 (w2 W)) (k0_pay22 (F := Ideal) P3 (g3 G)) (k0_pay23 (F := Ideal) D P3 (g3 G) B3 (w3 W))
  (FloatOps.ofBits FTy.f32 0x3F800000#32) X j = X j + rowsB D P0 P1 P2 P3 G B0 B1 B2 B3 W j := by
  unfold k0_pay5 rowsB
  pointwise
end

end Cert.KernelIdeal.Merge
-- ==== Proof.MergePoint.lean ====
/- What each grid point of the merge's gradient kernel leaves in its blocks. -/
module

public import Idealize.ShloMosaic.Lib.Pipeline.ValueKit
public import proofs.«01_k».proof.Proof.Gen.KernelIdeal.Launch
public import proofs.«01_k».proof.Proof.Gen.KernelIdeal.Points
public import proofs.«01_k».proof.Proof.Gen.KernelIdeal.Frame
public import proofs.«01_k».proof.Proof.MergeBlock

set_option maxRecDepth 16384

@[expose] public section

noncomputable section

open Idealize.ShloMosaic Idealize.ShloMosaic.TcCoe Idealize.SL.Sem

namespace Cert.KernelIdeal.Merge

open Cert.KernelIdeal Cert.KernelIdeal.Gen Cert.Merge

variable (m : (ℓ : Loc nD τ sig) → Buf (Elt Ideal) ℓ)

/-- Which block of its array every window holds at every grid point: row tile `t % 8`, column tile `t / 8`. -/
theorem idx : ∀ t : Fin cfg0.N, win0_0.index t = ![t.val % 8, 13 + (t.val / 8)]
    ∧ win0_1.index t = ![t.val % 8, 15 + (t.val / 8)]
    ∧ win0_2.index t = ![t.val % 8, 17 + (t.val / 8)]
    ∧ win0_3.index t = ![t.val % 8, 19 + (t.val / 8)]
    ∧ win0_4.index t = ![0, t.val / 8]
    ∧ win0_5.index t = ![t.val % 8, 0]
    ∧ win0_6.index t = ![t.val % 8, 0]
    ∧ win0_7.index t = ![t.val % 8, 0]
    ∧ win0_8.index t = ![t.val % 8, 0]
    ∧ win0_9.index t = ![0, 0, t.val / 8]
    ∧ win0_10.index t = ![t.val % 8, t.val / 8]
    ∧ win0_11.index t = ![t.val % 8, t.val / 8]
    ∧ win0_12.index t = ![t.val % 8, t.val / 8]
    ∧ win0_13.index t = ![t.val % 8, t.val / 8]
    ∧ win0_14.index t = ![t.val % 8, t.val / 8]
    ∧ win0_15.index t = ![t.val % 8, t.val / 8]
    ∧ win0_16.index t = ![t.val % 8, t.val / 8]
    ∧ win0_17.index t = ![t.val % 8, t.val / 8]
    ∧ win0_18.index t = ![t.val % 8, t.val / 8]
    ∧ win0_19.index t = ![0, t.val / 8] :=
  (by decide +kernel : ∀ t : Fin grid0.N, _)

/-- The arrays the region finds: the projection, the biases, the four branches, their projections, the cotangent. -/
abbrev aP (c : Dev nD) : FVec Ideal S4096x10752 .f32 := m ((c : Thread nD τ).loc main_arg0)
abbrev aG (c : Dev nD) : FVec Ideal S4x1024 .f32 := m ((c : Thread nD τ).loc main_arg1)
abbrev aB0 (c : Dev nD) : FVec Ideal S4096x512 .bf16 := m ((c : Thread nD τ).loc main_arg2)
abbrev aB1 (c : Dev nD) : FVec Ideal S4096x512 .bf16 := m ((c : Thread nD τ).loc main_arg3)
abbrev aB2 (c : Dev nD) : FVec Ideal S4096x512 .bf16 := m ((c : Thread nD τ).loc main_arg4)
abbrev aB3 (c : Dev nD) : FVec Ideal S4096x512 .bf16 := m ((c : Thread nD τ).loc main_arg5)
abbrev aW (c : Dev nD) : FVec Ideal S4x512x1024 .bf16 := m ((c : Thread nD τ).loc main_arg6)
abbrev aD (c : Dev nD) : FVec Ideal S4096x1024 .f32 := m ((c : Thread nD τ).loc main_arg7)

/-- The eight blocks a point writes once: whichever of the two kinds the point is, the same payloads. -/
theorem out11 (c : Dev nD) (t : Fin cfg0.N) (r k : Fin 512) : (outsAt0 m c t.val t.isLt).1 (ix2 r k)
    = dpreB (iblk m c 10 t) (iblk m c 0 t) (iblk m c 4 t) (iblk m c 5 t) (iblk m c 9 t) r k 0 := by
  by_cases h0 : t.val % 8 = 0
  · rw [outsAt0_A m c t h0 (by omega)]; frame_out; exact dpre0_read _ _ _ _ _ r k
  · rw [outsAt0_B m c t h0 (by omega)]; frame_out; exact dpre0_read _ _ _ _ _ r k

theorem out12 (c : Dev nD) (t : Fin cfg0.N) (r k : Fin 512) : (outsAt0 m c t.val t.isLt).2.1 (ix2 r k)
    = dpreB (iblk m c 10 t) (iblk m c 1 t) (iblk m c 4 t) (iblk m c 6 t) (iblk m c 9 t) r k 1 := by
  by_cases h0 : t.val % 8 = 0
  · rw [outsAt0_A m c t h0 (by omega)]; frame_out; exact dpre1_read _ _ _ _ _ r k
  · rw [outsAt0_B m c t h0 (by omega)]; frame_out; exact dpre1_read _ _ _ _ _ r k

theorem out13 (c : Dev nD) (t : Fin cfg0.N) (r k : Fin 512) : (outsAt0 m c t.val t.isLt).2.2.1 (ix2 r k)
    = dpreB (iblk m c 10 t) (iblk m c 2 t) (iblk m c 4 t) (iblk m c 7 t) (iblk m c 9 t) r k 2 := by
  by_cases h0 : t.val % 8 = 0
  · rw [outsAt0_A m c t h0 (by omega)]; frame_out; exact dpre2_read _ _ _ _ _ r k
  · rw [outsAt0_B m c t h0 (by omega)]; frame_out; exact dpre2_read _ _ _ _ _ r k

theorem out14 (c : Dev nD) (t : Fin cfg0.N) (r k : Fin 512) : (outsAt0 m c t.val t.isLt).2.2.2.1 (ix2 r k)
    = dpreB (iblk m c 10 t) (iblk m c 3 t) (iblk m c 4 t) (iblk m c 8 t) (iblk m c 9 t) r k 3 := by
  by_cases h0 : t.val % 8 = 0
  · rw [outsAt0_A m c t h0 (by omega)]; frame_out; exact dpre3_read _ _ _ _ _ r k
  · rw [outsAt0_B m c t h0 (by omega)]; frame_out; exact dpre3_read _ _ _ _ _ r k

theorem out15 (c : Dev nD) (t : Fin cfg0.N) (r k : Fin 512) : (outsAt0 m c t.val t.isLt).2.2.2.2.1 (ix2 r k)
    = dupB (iblk m c 10 t) (iblk m c 0 t) (iblk m c 4 t) r k 0 := by
  by_cases h0 : t.val % 8 = 0
  · rw [outsAt0_A m c t h0 (by omega)]; frame_out; exact dup0_read _ _ _ r k
  · rw [outsAt0_B m c t h0 (by omega)]; frame_out; exact dup0_read _ _ _ r k

theorem out16 (c : Dev nD) (t : Fin cfg0.N) (r k : Fin 512) : (outsAt0 m c t.val t.isLt).2.2.2.2.2.1 (ix2 r k)
    = dupB (iblk m c 10 t) (iblk m c 1 t) (iblk m c 4 t) r k 1 := by
  by_cases h0 : t.val % 8 = 0
  · rw [outsAt0_A m c t h0 (by omega)]; frame_out; exact dup1_read _ _ _ r k
  · rw [outsAt0_B m c t h0 (by omega)]; frame_out; exact dup1_read _ _ _ r k

theorem out17 (c : Dev nD) (t : Fin cfg0.N) (r k : Fin 512) : (outsAt0 m c t.val t.isLt).2.2.2.2.2.2.1 (ix2 r k)
    = dupB (iblk m c 10 t) (iblk m c 2 t) (iblk m c 4 t) r k 2 := by
  by_cases h0 : t.val % 8 = 0
  · rw [outsAt0_A m c t h0 (by omega)]; frame_out; exact dup2_read _ _ _ r k
  · rw [outsAt0_B m c t h0 (by omega)]; frame_out; exact dup2_read _ _ _ r k

theorem out18 (c : Dev nD) (t : Fin cfg0.N) (r k : Fin 512) : (outsAt0 m c t.val t.isLt).2.2.2.2.2.2.2.1 (ix2 r k)
    = dupB (iblk m c 10 t) (iblk m c 3 t) (iblk m c 4 t) r k 3 := by
  by_cases h0 : t.val % 8 = 0
  · rw [outsAt0_A m c t h0 (by omega)]; frame_out; exact dup3_read _ _ _ r k
  · rw [outsAt0_B m c t h0 (by omega)]; frame_out; exact dup3_read _ _ _ r k

end Cert.KernelIdeal.Merge
-- ==== Proof.MergeRead.lean ====
/- What each result array of the merge's gradient kernel holds at the end. -/
module

public import Idealize.ShloMosaic.Lib.Pipeline.ValueKit
public import proofs.«01_k».proof.Proof.MergePoint

set_option maxRecDepth 16384

@[expose] public section

noncomputable section

open Idealize.ShloMosaic Idealize.ShloMosaic.TcCoe Idealize.SL.Sem

namespace Cert.KernelIdeal.Merge

open Cert.KernelIdeal Cert.KernelIdeal.Gen Cert.Merge

variable (m : (ℓ : Loc nD τ sig) → Buf (Elt Ideal) ℓ)

variable (c : Dev nD) (t : Fin cfg0.N) (r k l : Fin 512) (i : Fin 4) (R : Fin 4096) (K : Fin 1024)
  (hR : R.val = t.val % 8 * 512 + r.val) (hK : K.val = t.val / 8 * 512 + k.val)

section
include hR hK

theorem readP0 : iblk m c 0 t (ix2 r k) = aP m c (ix2 R (col 0 K)) := by
  blk_point [iblk, V, idx t, col, hR, hK]

theorem readP1 : iblk m c 1 t (ix2 r k) = aP m c (ix2 R (col 1 K)) := by
  blk_point [iblk, V, idx t, col, hR, hK]

theorem readP2 : iblk m c 2 t (ix2 r k) = aP m c (ix2 R (col 2 K)) := by
  blk_point [iblk, V, idx t, col, hR, hK]

theorem readP3 : iblk m c 3 t (ix2 r k) = aP m c (ix2 R (col 3 K)) := by
  blk_point [iblk, V, idx t, col, hR, hK]

theorem readD : iblk m c 10 t (ix2 r k) = aD m c (ix2 R K) := by
  blk_point [iblk, V, idx t, hR, hK]
end

include hR in
theorem readB0 : iblk m c 5 t (ix2 r l) = aB0 m c (ix2 R l) := by
  blk_point [iblk, V, idx t, hR]

include hR in
theorem readB1 : iblk m c 6 t (ix2 r l) = aB1 m c (ix2 R l) := by
  blk_point [iblk, V, idx t, hR]

include hR in
theorem readB2 : iblk m c 7 t (ix2 r l) = aB2 m c (ix2 R l) := by
  blk_point [iblk, V, idx t, hR]

include hR in
theorem readB3 : iblk m c 8 t (ix2 r l) = aB3 m c (ix2 R l) := by
  blk_point [iblk, V, idx t, hR]

include hK in
theorem readG : iblk m c 4 t (ix2 i k) = aG m c (ix2 i K) := by
  blk_point [iblk, V, idx t, hK]

include hK in
theorem readW : iblk m c 9 t (ix3 i l k) = aW m c (ix3 i l K) := by
  blk_point [iblk, V, idx t, hK]

include hR hK

theorem dpre0_at : dpreB (iblk m c 10 t) (iblk m c 0 t) (iblk m c 4 t) (iblk m c 5 t) (iblk m c 9 t) r k 0
    = dpreAt (aP m c) (aG m c) (aB0 m c) (aW m c) (aD m c) 0 R K := by
  simp only [dpreB, dpreAt, upAt, readD m c t r k R K hR hK, readP0 m c t r k R K hR hK, readG m c t k 0 K hK,
    readB0 m c t r _ R hR, readW m c t k _ 0 K hK]

theorem dup0_at : dupB (iblk m c 10 t) (iblk m c 0 t) (iblk m c 4 t) r k 0
    = dupAt (aP m c) (aG m c) (aD m c) 0 R K := by
  simp only [dupB, dupAt, readD m c t r k R K hR hK, readP0 m c t r k R K hR hK, readG m c t k 0 K hK]

theorem dpre1_at : dpreB (iblk m c 10 t) (iblk m c 1 t) (iblk m c 4 t) (iblk m c 6 t) (iblk m c 9 t) r k 1
    = dpreAt (aP m c) (aG m c) (aB1 m c) (aW m c) (aD m c) 1 R K := by
  simp only [dpreB, dpreAt, upAt, readD m c t r k R K hR hK, readP1 m c t r k R K hR hK, readG m c t k 1 K hK,
    readB1 m c t r _ R hR, readW m c t k _ 1 K hK]

theorem dup1_at : dupB (iblk m c 10 t) (iblk m c 1 t) (iblk m c 4 t) r k 1
    = dupAt (aP m c) (aG m c) (aD m c) 1 R K := by
  simp only [dupB, dupAt, readD m c t r k R K hR hK, readP1 m c t r k R K hR hK, readG m c t k 1 K hK]

theorem dpre2_at : dpreB (iblk m c 10 t) (iblk m c 2 t) (iblk m c 4 t) (iblk m c 7 t) (iblk m c 9 t) r k 2
    = dpreAt (aP m c) (aG m c) (aB2 m c) (aW m c) (aD m c) 2 R K := by
  simp only [dpreB, dpreAt, upAt, readD m c t r k R K hR hK, readP2 m c t r k R K hR hK, readG m c t k 2 K hK,
    readB2 m c t r _ R hR, readW m c t k _ 2 K hK]

theorem dup2_at : dupB (iblk m c 10 t) (iblk m c 2 t) (iblk m c 4 t) r k 2
    = dupAt (aP m c) (aG m c) (aD m c) 2 R K := by
  simp only [dupB, dupAt, readD m c t r k R K hR hK, readP2 m c t r k R K hR hK, readG m c t k 2 K hK]

theorem dpre3_at : dpreB (iblk m c 10 t) (iblk m c 3 t) (iblk m c 4 t) (iblk m c 8 t) (iblk m c 9 t) r k 3
    = dpreAt (aP m c) (aG m c) (aB3 m c) (aW m c) (aD m c) 3 R K := by
  simp only [dpreB, dpreAt, upAt, readD m c t r k R K hR hK, readP3 m c t r k R K hR hK, readG m c t k 3 K hK,
    readB3 m c t r _ R hR, readW m c t k _ 3 K hK]

theorem dup3_at : dupB (iblk m c 10 t) (iblk m c 3 t) (iblk m c 4 t) r k 3
    = dupAt (aP m c) (aG m c) (aD m c) 3 R K := by
  simp only [dupB, dupAt, readD m c t r k R K hR hK, readP3 m c t r k R K hR hK, readG m c t k 3 K hK]

end Cert.KernelIdeal.Merge
-- ==== Proof.MergeArray.lean ====
/- What each result array of the merge's gradient kernel holds at the end. -/
module

public import Idealize.ShloMosaic.Lib.Pipeline.ValueKit
public import proofs.«01_k».proof.Proof.MergeRead

set_option maxRecDepth 16384

@[expose] public section

noncomputable section

open Idealize.ShloMosaic Idealize.ShloMosaic.TcCoe Idealize.SL.Sem

namespace Cert.KernelIdeal.Merge

open Cert.KernelIdeal Cert.KernelIdeal.Gen Cert.Merge

variable (m : (ℓ : Loc nD τ sig) → Buf (Elt Ideal) ℓ)

/-- The array of pre-activation cotangents of branch 0. -/
theorem final11 (c : Dev nD) : (dats m 0 c).arrAt 11 (cfgs 0).N
    = fun j => dpreAt (aP m c) (aG m c) (aB0 m c) (aW m c) (aD m c) 0 (j 0) (j 1) := by
  refine (dats m 0 c).arrAt_eq_of_covers 11 _ (by decide +kernel) fun t hf y => ?_
  blk_simp
  rw [after0_11]
  idx_vars y
  rw [out11]
  exact dpre0_at m c t _ _ _ _ (by blk_simp [idx t]) (by blk_simp [idx t])

/-- The array of pre-activation cotangents of branch 1. -/
theorem final12 (c : Dev nD) : (dats m 0 c).arrAt 12 (cfgs 0).N
    = fun j => dpreAt (aP m c) (aG m c) (aB1 m c) (aW m c) (aD m c) 1 (j 0) (j 1) := by
  refine (dats m 0 c).arrAt_eq_of_covers 12 _ (by decide +kernel) fun t hf y => ?_
  blk_simp
  rw [after0_12]
  idx_vars y
  rw [out12]
  exact dpre1_at m c t _ _ _ _ (by blk_simp [idx t]) (by blk_simp [idx t])

/-- The array of pre-activation cotangents of branch 2. -/
theorem final13 (c : Dev nD) : (dats m 0 c).arrAt 13 (cfgs 0).N
    = fun j => dpreAt (aP m c) (aG m c) (aB2 m c) (aW m c) (aD m c) 2 (j 0) (j 1) := by
  refine (dats m 0 c).arrAt_eq_of_covers 13 _ (by decide +kernel) fun t hf y => ?_
  blk_simp
  rw [after0_13]
  idx_vars y
  rw [out13]
  exact dpre2_at m c t _ _ _ _ (by blk_simp [idx t]) (by blk_simp [idx t])

/-- The array of pre-activation cotangents of branch 3. -/
theorem final14 (c : Dev nD) : (dats m 0 c).arrAt 14 (cfgs 0).N
    = fun j => dpreAt (aP m c) (aG m c) (aB3 m c) (aW m c) (aD m c) 3 (j 0) (j 1) := by
  refine (dats m 0 c).arrAt_eq_of_covers 14 _ (by decide +kernel) fun t hf y => ?_
  blk_simp
  rw [after0_14]
  idx_vars y
  rw [out14]
  exact dpre3_at m c t _ _ _ _ (by blk_simp [idx t]) (by blk_simp [idx t])

/-- The array of stream cotangents of branch 0. -/
theorem final15 (c : Dev nD) : (dats m 0 c).arrAt 15 (cfgs 0).N
    = fun j => dupAt (aP m c) (aG m c) (aD m c) 0 (j 0) (j 1) := by
  refine (dats m 0 c).arrAt_eq_of_covers 15 _ (by decide +kernel) fun t hf y => ?_
  blk_simp
  rw [after0_15]
  idx_vars y
  rw [out15]
  exact dup0_at m c t _ _ _ _ (by blk_simp [idx t]) (by blk_simp [idx t])

/-- The array of stream cotangents of branch 1. -/
theorem final16 (c : Dev nD) : (dats m 0 c).arrAt 16 (cfgs 0).N
    = fun j => dupAt (aP m c) (aG m c) (aD m c) 1 (j 0) (j 1) := by
  refine (dats m 0 c).arrAt_eq_of_covers 16 _ (by decide +kernel) fun t hf y => ?_
  blk_simp
  rw [after0_16]
  idx_vars y
  rw [out16]
  exact dup1_at m c t _ _ _ _ (by blk_simp [idx t]) (by blk_simp [idx t])

/-- The array of stream cotangents of branch 2. -/
theorem final17 (c : Dev nD) : (dats m 0 c).arrAt 17 (cfgs 0).N
    = fun j => dupAt (aP m c) (aG m c) (aD m c) 2 (j 0) (j 1) := by
  refine (dats m 0 c).arrAt_eq_of_covers 17 _ (by decide +kernel) fun t hf y => ?_
  blk_simp
  rw [after0_17]
  idx_vars y
  rw [out17]
  exact dup2_at m c t _ _ _ _ (by blk_simp [idx t]) (by blk_simp [idx t])

/-- The array of stream cotangents of branch 3. -/
theorem final18 (c : Dev nD) : (dats m 0 c).arrAt 18 (cfgs 0).N
    = fun j => dupAt (aP m c) (aG m c) (aD m c) 3 (j 0) (j 1) := by
  refine (dats m 0 c).arrAt_eq_of_covers 18 _ (by decide +kernel) fun t hf y => ?_
  blk_simp
  rw [after0_18]
  idx_vars y
  rw [out18]
  exact dup3_at m c t _ _ _ _ (by blk_simp [idx t]) (by blk_simp [idx t])

/-- What a point adds to the biases' cotangent. -/
abbrev rowsAt (c : Dev nD) (t : Fin cfg0.N) (j : S4x512.Idx) : EReal :=
  rowsB (iblk m c 10 t) (iblk m c 0 t) (iblk m c 1 t) (iblk m c 2 t) (iblk m c 3 t) (iblk m c 4 t) (iblk m c 5 t)
    (iblk m c 6 t) (iblk m c 7 t) (iblk m c 8 t) (iblk m c 9 t) j

/-- A point's addition, in the arrays' own coordinates. -/
theorem rowsAt_eq (c : Dev nD) (t : Fin cfg0.N) (i : Fin 4) (k : Fin 512) (K : Fin 1024)
    (hK : K.val = t.val / 8 * 512 + k.val) (R : Fin 512 → Fin 4096) (hR : ∀ r, (R r).val = t.val % 8 * 512 + r.val) :
    rowsAt m c t (ix2 i k) = ∑ r : Fin 512, dpreAt (aP m c) (aG m c)
      (pick (aB0 m c) (aB1 m c) (aB2 m c) (aB3 m c) i) (aW m c) (aD m c) i (R r) K := by
  refine (rows_read _ _ _ _ _ _ _ _ _ _ _ i k).trans (Finset.sum_congr rfl fun r _ => ?_)
  match i with
  | 0 => exact dpre0_at m c t r k (R r) K (hR r) hK
  | 1 => exact dpre1_at m c t r k (R r) K (hR r) hK
  | 2 => exact dpre2_at m c t r k (R r) K (hR r) hK
  | 3 => exact dpre3_at m c t r k (R r) K (hR r) hK

/-- A column tile's eight additions of 512 rows each are the sum over all rows. -/
theorem run_rows (c : Dev nD) (n : Fin 2) (h : ∀ s : Fin 8, 8 * n.val + s.val < cfg0.N) (i I : Fin 4) (hI : I = i)
    (k : Fin 512) (K : Fin 1024) (hK : K.val = n.val * 512 + k.val) :
    ∑ s : Fin 8, rowsAt m c ⟨8 * n.val + s.val, h s⟩ (ix2 i k)
      = dbiasAt (aP m c) (aG m c) (aW m c) (aD m c) (aB0 m c) (aB1 m c) (aB2 m c) (aB3 m c) I K := by
  subst hI
  have e : ∀ s : Fin 8, rowsAt m c ⟨8 * n.val + s.val, h s⟩ (ix2 I k) = ∑ r : Fin 512, dpreAt (aP m c) (aG m c)
      (pick (aB0 m c) (aB1 m c) (aB2 m c) (aB3 m c) I) (aW m c) (aD m c) I ⟨s.val * 512 + r.val, by omega⟩ K := by
    intro s
    have hd : (8 * n.val + s.val) / 8 = n.val := by omega
    have hm : (8 * n.val + s.val) % 8 = s.val := by omega
    exact rowsAt_eq m c ⟨8 * n.val + s.val, h s⟩ I k K (hK.trans (by rw [hd])) (fun r => ⟨s.val * 512 + r.val, by omega⟩)
      (fun r => by rw [hm])
  rw [Finset.sum_congr rfl fun s _ => e s]
  unfold dbiasAt
  exact Fin.sum_mul_add_congr fun s r hl => rfl

/-- The array of the biases' cotangent: eight row tiles of 512 rows add up to the sum over all rows. -/
theorem final19 (c : Dev nD) : (dats m 0 c).arrAt 19 (cfgs 0).N
    = fun j => dbiasAt (aP m c) (aG m c) (aW m c) (aD m c) (aB0 m c) (aB1 m c) (aB2 m c) (aB3 m c) (j 0) (j 1) := by
  refine (dats m 0 c).arrAt_eq_of_covers 19 _ (by decide +kernel) fun t hf y => ?_
  blk_simp
  rw [after0_19, Pipeline.eq_sum_fin_of_reset_step_apply_of_flush (fun n h => (outsAt0 m c n h).2.2.2.2.2.2.2.2) 8 (fun _ => 0)
    (fun t j => rowsAt m c t j)
    (fun t h j => by rw [outsAt0_A m c t h (by omega)]; frame_out; exact (zero_add _).symm)
    (fun t h j => by rw [outsAt0_B m c t h (by omega)]; frame_out; exact sum_read _ _ _ _ _ _ _ _ _ _ _ _ _)
    t ((flush0_19 t).mp hf) _, zero_add]
  idx_vars y
  have ht : t.val < 16 := lt_of_lt_of_eq t.isLt N_0
  exact run_rows m c ⟨t.val / 8, by omega⟩ _ y0 _ (Fin.ext (by blk_simp [idx t])) y1 _ (by blk_simp [idx t])

end Cert.KernelIdeal.Merge
-- ==== Proof.MergeRef.lean ====
/- What the reference of the merge's gradient computes, entry by entry. -/
module

public import Idealize.ShloMosaic.Lib.Pipeline.ValueKit
public import proofs.«01_k».proof.Proof.Gen.ReferenceIdeal.Read
public import proofs.«01_k».proof.Proof.MergeForm

set_option maxRecDepth 16384

@[expose] public section

noncomputable section

open Idealize.ShloMosaic Idealize.ShloMosaic.TcCoe Idealize.SL.Sem

namespace Cert.ReferenceIdeal.Merge

open Cert.KernelIdeal Cert.Merge
open Cert.ReferenceIdeal.Read

section
variable (P : FVec Ideal S4096x10752 .f32) (G : FVec Ideal S4x1024 .f32) (B B0 B1 B2 B3 : FVec Ideal S4096x512 .bf16)
  (W : FVec Ideal S4x512x1024 .bf16) (D : FVec Ideal S4096x1024 .f32) (r : Fin 4096) (k : Fin 1024)

theorem dpre0 : val_main_v113 (F := Ideal) P G B W D (ix2 r k) = dpreAt P G B W D 0 r k := by
  refine (congrFun (val_main_v113_eq (F := Ideal) P G B W D) (ix2 r k)).symm.trans ?_
  pointwise
  simp only [dpreAt, dpreE, upAt, gate]
  reads_congr <;> rfl

theorem dup0 : val_main_v117 (F := Ideal) P G D (ix2 r k) = dupAt P G D 0 r k := by
  refine (congrFun (val_main_v117_eq (F := Ideal) P G D) (ix2 r k)).symm.trans ?_
  pointwise
  simp only [dupAt, dupE, gate]
  reads_congr <;> rfl

theorem dpre1 : val_main_v114 (F := Ideal) P G B W D (ix2 r k) = dpreAt P G B W D 1 r k := by
  refine (congrFun (val_main_v114_eq (F := Ideal) P G B W D) (ix2 r k)).symm.trans ?_
  pointwise
  simp only [dpreAt, dpreE, upAt, gate]
  reads_congr <;> rfl

theorem dup1 : val_main_v118 (F := Ideal) P G D (ix2 r k) = dupAt P G D 1 r k := by
  refine (congrFun (val_main_v118_eq (F := Ideal) P G D) (ix2 r k)).symm.trans ?_
  pointwise
  simp only [dupAt, dupE, gate]
  reads_congr <;> rfl

theorem dpre2 : val_main_v115 (F := Ideal) P G B W D (ix2 r k) = dpreAt P G B W D 2 r k := by
  refine (congrFun (val_main_v115_eq (F := Ideal) P G B W D) (ix2 r k)).symm.trans ?_
  pointwise
  simp only [dpreAt, dpreE, upAt, gate]
  reads_congr <;> rfl

theorem dup2 : val_main_v119 (F := Ideal) P G D (ix2 r k) = dupAt P G D 2 r k := by
  refine (congrFun (val_main_v119_eq (F := Ideal) P G D) (ix2 r k)).symm.trans ?_
  pointwise
  simp only [dupAt, dupE, gate]
  reads_congr <;> rfl

theorem dpre3 : val_main_v116 (F := Ideal) P G B W D (ix2 r k) = dpreAt P G B W D 3 r k := by
  refine (congrFun (val_main_v116_eq (F := Ideal) P G B W D) (ix2 r k)).symm.trans ?_
  pointwise
  simp only [dpreAt, dpreE, upAt, gate]
  reads_congr <;> rfl

theorem dup3 : val_main_v120 (F := Ideal) P G D (ix2 r k) = dupAt P G D 3 r k := by
  refine (congrFun (val_main_v120_eq (F := Ideal) P G D) (ix2 r k)).symm.trans ?_
  pointwise
  simp only [dupAt, dupE, gate]
  reads_congr <;> rfl

theorem bias0 : val_main_v112 (F := Ideal) P G B W D (ix1 k) = ∑ r : Fin 4096, dpreAt P G B W D 0 r k := by
  have h : ∀ r, val_main_v109 (F := Ideal) P G B W D (ix2 r k) = dpreAt P G B W D 0 r k := fun r => dpre0 P G B W D r k
  pointwise [val_main_v112, val_main_v111, val_main_v110, h]
  simp [val_main_cst_18_apply, val_main_cst_17_apply]

theorem bias1 : val_main_v106 (F := Ideal) P G B W D (ix1 k) = ∑ r : Fin 4096, dpreAt P G B W D 1 r k := by
  have h : ∀ r, val_main_v103 (F := Ideal) P G B W D (ix2 r k) = dpreAt P G B W D 1 r k := fun r => dpre1 P G B W D r k
  pointwise [val_main_v106, val_main_v105, val_main_v104, h]
  simp [val_main_cst_16_apply, val_main_cst_15_apply]

theorem bias2 : val_main_v100 (F := Ideal) P G B W D (ix1 k) = ∑ r : Fin 4096, dpreAt P G B W D 2 r k := by
  have h : ∀ r, val_main_v97 (F := Ideal) P G B W D (ix2 r k) = dpreAt P G B W D 2 r k := fun r => dpre2 P G B W D r k
  pointwise [val_main_v100, val_main_v99, val_main_v98, h]
  simp [val_main_cst_14_apply, val_main_cst_13_apply]

theorem bias3 : val_main_v94 (F := Ideal) P G B W D (ix1 k) = ∑ r : Fin 4096, dpreAt P G B W D 3 r k := by
  have h : ∀ r, val_main_v91 (F := Ideal) P G B W D (ix2 r k) = dpreAt P G B W D 3 r k := fun r => dpre3 P G B W D r k
  pointwise [val_main_v94, val_main_v93, val_main_v92, h]
  simp [val_main_cst_12_apply, val_main_cst_11_apply]

theorem dbias (i : Fin 4) : val_main_v125 (F := Ideal) P G B0 B1 B2 B3 W D (ix2 i k) = dbiasAt P G W D B0 B1 B2 B3 i k := by
  match i with
  | 0 => pointwise [val_main_v125, val_main_v121, bias0]; rfl
  | 1 => pointwise [val_main_v125, val_main_v122, bias1]; rfl
  | 2 => pointwise [val_main_v125, val_main_v123, bias2]; rfl
  | 3 => pointwise [val_main_v125, val_main_v124, bias3]; rfl

theorem dpre0_arr : val_main_v113 (F := Ideal) P G B W D = dpreA P G B W D 0 := by
  funext j
  idx_vars j
  exact dpre0 P G B W D j0 j1

theorem dup0_arr : val_main_v117 (F := Ideal) P G D = dupA P G D 0 := by
  funext j
  idx_vars j
  exact dup0 P G D j0 j1

theorem dpre1_arr : val_main_v114 (F := Ideal) P G B W D = dpreA P G B W D 1 := by
  funext j
  idx_vars j
  exact dpre1 P G B W D j0 j1

theorem dup1_arr : val_main_v118 (F := Ideal) P G D = dupA P G D 1 := by
  funext j
  idx_vars j
  exact dup1 P G D j0 j1

theorem dpre2_arr : val_main_v115 (F := Ideal) P G B W D = dpreA P G B W D 2 := by
  funext j
  idx_vars j
  exact dpre2 P G B W D j0 j1

theorem dup2_arr : val_main_v119 (F := Ideal) P G D = dupA P G D 2 := by
  funext j
  idx_vars j
  exact dup2 P G D j0 j1

theorem dpre3_arr : val_main_v116 (F := Ideal) P G B W D = dpreA P G B W D 3 := by
  funext j
  idx_vars j
  exact dpre3 P G B W D j0 j1

theorem dup3_arr : val_main_v120 (F := Ideal) P G D = dupA P G D 3 := by
  funext j
  idx_vars j
  exact dup3 P G D j0 j1

theorem dbias_arr : val_main_v125 (F := Ideal) P G B0 B1 B2 B3 W D = dbiasA P G W D B0 B1 B2 B3 := by
  funext j
  idx_vars j
  exact dbias P G B0 B1 B2 B3 W D j1 j0
end

end Cert.ReferenceIdeal.Merge
-- ==== Proof.MergeClaim.lean ====
/- The merge's gradient kernel and its reference leave the same arrays. -/
module

public import Idealize.ShloMosaic.Lib.Claim
public import Idealize.ShloMosaic.Lib.Pipeline.ValueKit
public import proofs.«01_k».proof.Proof.Gen.KernelIdeal.Value
public import proofs.«01_k».proof.Proof.Gen.ReferenceIdeal.Run
public import proofs.«01_k».proof.Defs
public import proofs.«01_k».proof.Proof.MergeArray
public import proofs.«01_k».proof.Proof.MergeRef

set_option maxRecDepth 16384

@[expose] public section

noncomputable section

open Idealize.ShloMosaic Idealize.ShloMosaic.TcCoe Idealize.SL.Sem

namespace Cert.Merge

/-- The kernel leaves the formulas and keeps its arguments. -/
theorem kernel_run (m : (ℓ : Loc Cert.KernelIdeal.nD Cert.KernelIdeal.τ Cert.KernelIdeal.sig) → Buf (Elt Ideal) ℓ) (g : Dev Cert.KernelIdeal.nD → PrngReg) :
    θ_run (Cert.KernelIdeal.defs (F := Ideal)) (onTc (τ := Cert.KernelIdeal.τ) (Cert.KernelIdeal.main (F := Ideal))) ⟨m, fun _ => 0, g⟩ fun r =>
      ∀ c : Dev Cert.KernelIdeal.nD,
        r.2.mem ((c.tc : Thread Cert.KernelIdeal.nD Cert.KernelIdeal.τ).loc Cert.KernelIdeal.main_v0_0) = dpreA (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) 0
        ∧ r.2.mem ((c.tc : Thread Cert.KernelIdeal.nD Cert.KernelIdeal.τ).loc Cert.KernelIdeal.main_v0_1) = dpreA (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg3)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) 1
        ∧ r.2.mem ((c.tc : Thread Cert.KernelIdeal.nD Cert.KernelIdeal.τ).loc Cert.KernelIdeal.main_v0_2) = dpreA (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg4)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) 2
        ∧ r.2.mem ((c.tc : Thread Cert.KernelIdeal.nD Cert.KernelIdeal.τ).loc Cert.KernelIdeal.main_v0_3) = dpreA (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) 3
        ∧ r.2.mem ((c.tc : Thread Cert.KernelIdeal.nD Cert.KernelIdeal.τ).loc Cert.KernelIdeal.main_v0_4) = dupA (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg7)) 0
        ∧ r.2.mem ((c.tc : Thread Cert.KernelIdeal.nD Cert.KernelIdeal.τ).loc Cert.KernelIdeal.main_v0_5) = dupA (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg7)) 1
        ∧ r.2.mem ((c.tc : Thread Cert.KernelIdeal.nD Cert.KernelIdeal.τ).loc Cert.KernelIdeal.main_v0_6) = dupA (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg7)) 2
        ∧ r.2.mem ((c.tc : Thread Cert.KernelIdeal.nD Cert.KernelIdeal.τ).loc Cert.KernelIdeal.main_v0_7) = dupA (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg7)) 3
        ∧ r.2.mem ((c.tc : Thread Cert.KernelIdeal.nD Cert.KernelIdeal.τ).loc Cert.KernelIdeal.main_v0_8) = dbiasA (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))
        ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
        ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
        ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
        ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
        ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
        ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
        ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7) := by
  refine (Cert.KernelIdeal.Value.run_blocks m g).mono fun r h c => ?_
  obtain ⟨h0, h1, h2, h3, h4, h5, h6, h7, h8, k⟩ := h c
  exact ⟨h0.trans (Cert.KernelIdeal.Merge.final11 m c),
    h1.trans (Cert.KernelIdeal.Merge.final12 m c),
    h2.trans (Cert.KernelIdeal.Merge.final13 m c),
    h3.trans (Cert.KernelIdeal.Merge.final14 m c),
    h4.trans (Cert.KernelIdeal.Merge.final15 m c),
    h5.trans (Cert.KernelIdeal.Merge.final16 m c),
    h6.trans (Cert.KernelIdeal.Merge.final17 m c),
    h7.trans (Cert.KernelIdeal.Merge.final18 m c),
    h8.trans (Cert.KernelIdeal.Merge.final19 m c), k⟩

/-- The reference leaves the formulas and keeps its arguments. -/
theorem reference_run (m : (ℓ : Loc Cert.ReferenceIdeal.nD Cert.ReferenceIdeal.τ Cert.ReferenceIdeal.sig) → Buf (Elt Ideal) ℓ) (g : Dev Cert.ReferenceIdeal.nD → PrngReg) :
    θ_run (Cert.ReferenceIdeal.defs (F := Ideal)) (onTc (τ := Cert.ReferenceIdeal.τ) (Cert.ReferenceIdeal.main (F := Ideal))) ⟨m, fun _ => 0, g⟩ fun r =>
      ∀ c : Dev Cert.ReferenceIdeal.nD,
        r.2.mem ((c.tc : Thread Cert.ReferenceIdeal.nD Cert.ReferenceIdeal.τ).loc Cert.ReferenceIdeal.main_v113) = dpreA (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) 0
        ∧ r.2.mem ((c.tc : Thread Cert.ReferenceIdeal.nD Cert.ReferenceIdeal.τ).loc Cert.ReferenceIdeal.main_v114) = dpreA (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) 1
        ∧ r.2.mem ((c.tc : Thread Cert.ReferenceIdeal.nD Cert.ReferenceIdeal.τ).loc Cert.ReferenceIdeal.main_v115) = dpreA (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) 2
        ∧ r.2.mem ((c.tc : Thread Cert.ReferenceIdeal.nD Cert.ReferenceIdeal.τ).loc Cert.ReferenceIdeal.main_v116) = dpreA (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) 3
        ∧ r.2.mem ((c.tc : Thread Cert.ReferenceIdeal.nD Cert.ReferenceIdeal.τ).loc Cert.ReferenceIdeal.main_v117) = dupA (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg7)) 0
        ∧ r.2.mem ((c.tc : Thread Cert.ReferenceIdeal.nD Cert.ReferenceIdeal.τ).loc Cert.ReferenceIdeal.main_v118) = dupA (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg7)) 1
        ∧ r.2.mem ((c.tc : Thread Cert.ReferenceIdeal.nD Cert.ReferenceIdeal.τ).loc Cert.ReferenceIdeal.main_v119) = dupA (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg7)) 2
        ∧ r.2.mem ((c.tc : Thread Cert.ReferenceIdeal.nD Cert.ReferenceIdeal.τ).loc Cert.ReferenceIdeal.main_v120) = dupA (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg7)) 3
        ∧ r.2.mem ((c.tc : Thread Cert.ReferenceIdeal.nD Cert.ReferenceIdeal.τ).loc Cert.ReferenceIdeal.main_v125) = dbiasA (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))
        ∧ r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
        ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
        ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
        ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
        ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
        ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
        ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7) := by
  refine (Cert.ReferenceIdeal.Value.run m g).mono fun r h c => ?_
  obtain ⟨h0, h1, h2, h3, h4, h5, h6, h7, h8, k⟩ := h c
  exact ⟨h0.trans ((Cert.ReferenceIdeal.Read.val_main_v113_eq _ _ _ _ _).trans (Cert.ReferenceIdeal.Merge.dpre0_arr _ _ _ _ _)),
    h1.trans ((Cert.ReferenceIdeal.Read.val_main_v114_eq _ _ _ _ _).trans (Cert.ReferenceIdeal.Merge.dpre1_arr _ _ _ _ _)),
    h2.trans ((Cert.ReferenceIdeal.Read.val_main_v115_eq _ _ _ _ _).trans (Cert.ReferenceIdeal.Merge.dpre2_arr _ _ _ _ _)),
    h3.trans ((Cert.ReferenceIdeal.Read.val_main_v116_eq _ _ _ _ _).trans (Cert.ReferenceIdeal.Merge.dpre3_arr _ _ _ _ _)),
    h4.trans ((Cert.ReferenceIdeal.Read.val_main_v117_eq _ _ _).trans (Cert.ReferenceIdeal.Merge.dup0_arr _ _ _)),
    h5.trans ((Cert.ReferenceIdeal.Read.val_main_v118_eq _ _ _).trans (Cert.ReferenceIdeal.Merge.dup1_arr _ _ _)),
    h6.trans ((Cert.ReferenceIdeal.Read.val_main_v119_eq _ _ _).trans (Cert.ReferenceIdeal.Merge.dup2_arr _ _ _)),
    h7.trans ((Cert.ReferenceIdeal.Read.val_main_v120_eq _ _ _).trans (Cert.ReferenceIdeal.Merge.dup3_arr _ _ _)),
    h8.trans ((Cert.ReferenceIdeal.Read.val_main_v125_eq m c).trans (Cert.ReferenceIdeal.Merge.dbias_arr _ _ _ _ _ _ _ _)), k⟩

theorem algebraic : Cert.algebraic_KernelIdeal_ReferenceIdeal := by
  intro m g m' g' _ hagree
  refine ⟨_, _, _, _, _, _, _, _, _, kernel_run m g, (reference_run m' g').mono fun r h c => ?_⟩
  obtain ⟨e0, e1, e2, e3, e4, e5, e6, e7⟩ := hagree c
  have hc := h c
  simp only [e0, e1, e2, e3, e4, e5, e6, e7] at hc ⊢
  exact hc

/-- The reference returns, keeps its arguments and leaves every counter at zero. -/
theorem frame_reference : Cert.quiescent_ReferenceIdeal := by
  intro m g _
  exact (reference_run m g).mono fun r h =>
    ⟨fun c => (h c).2.2.2.2.2.2.2.2.2, sem_eq_zero_of_no_sems (by decide) _⟩

end Cert.Merge
-- ==== Proof.ActValue.lean ====
/- The gradient of the squared relu behind the second feed-forward product: what a grid point writes, what the array holds, and what the
   reference computes. -/
module

public import Idealize.ShloMosaic.Lib.Pipeline.ValueKit
public import proofs.«01_k».proof.Proof.Gen.ActKernelIdeal.Frame
public import proofs.«01_k».proof.Proof.Gen.ActReferenceIdeal.Read

set_option maxRecDepth 16384

@[expose] public section

noncomputable section

open Idealize.ShloMosaic Idealize.ShloMosaic.TcCoe Idealize.SL.Sem

namespace Cert.Act

open Cert.ActKernelIdeal Cert.ActKernelIdeal.Gen

/-- The number two, as both programs write it. -/
def two : EReal := Ideal.ofBits FTy.f32 1073741824#32

/-- The gradient at `x`, of the rectified value's square, for the cotangent `s` of the square. -/
def slope (s x : EReal) : EReal := s * (two * max x 0)

/-- The gradient of the value before the squared relu: the cotangent times the weight's transpose, times the slope. -/
def gradA (P : FVec Ideal S4096x4096 .f32) (W D : FVec Ideal S4096x1024 .bf16) : S4096x4096.Idx → EReal :=
  fun j => slope (∑ l : Fin 1024, D (ix2 (j 0) l) * W (ix2 (j 1) l)) (P (ix2 (j 0) (j 1)))

/-- Where the relu cuts, the slope is zero whatever the cotangent is. -/
theorem slope_cut (s x : EReal) (h : ¬ 0 < x) : slope s x = 0 := by
  rw [slope, max_eq_right (not_lt.mp h), mul_zero, mul_zero]

/-- What a point writes at one place. -/
theorem out_read (D : FVec Ideal S2048x1024 .bf16) (W : FVec Ideal S1024x1024 .bf16) (P : FVec Ideal S2048x1024 .f32)
    (r : Fin 2048) (k : Fin 1024) :
    k0_pay1 (F := Ideal) D W P (ix2 r k) = slope (∑ l : Fin 1024, D (ix2 r l) * W (ix2 k l)) (P (ix2 r k)) := by
  unfold_payloads
  pointwise
  rfl

variable (m : (ℓ : Loc nD τ sig) → Buf (Elt Ideal) ℓ)

/-- Which block every window holds at a grid point: half `t / 4` of the rows, tile `t % 4` of the columns. -/
theorem idx : ∀ t : Fin cfg0.N, win0_0.index t = ![t.val / 4, 0] ∧ win0_1.index t = ![t.val % 4, 0]
    ∧ win0_2.index t = ![t.val / 4, t.val % 4] ∧ win0_3.index t = ![t.val / 4, t.val % 4] :=
  (by decide +kernel : ∀ t : Fin grid0.N, _)

/-- The arrays the region finds: the value before the squared relu, the weight and the cotangent. -/
abbrev aP (c : Dev nD) : FVec Ideal S4096x4096 .f32 := m ((c : Thread nD τ).loc main_arg0)
abbrev aW (c : Dev nD) : FVec Ideal S4096x1024 .bf16 := m ((c : Thread nD τ).loc main_arg1)
abbrev aD (c : Dev nD) : FVec Ideal S4096x1024 .bf16 := m ((c : Thread nD τ).loc main_arg2)

/-- A point's blocks of them. -/
abbrev bD (c : Dev nD) (t : Fin cfg0.N) : FVec Ideal S2048x1024 .bf16 := iblk m c 0 t
abbrev bW (c : Dev nD) (t : Fin cfg0.N) : FVec Ideal S1024x1024 .bf16 := iblk m c 1 t
abbrev bP (c : Dev nD) (t : Fin cfg0.N) : FVec Ideal S2048x1024 .f32 := iblk m c 2 t

theorem readD (c : Dev nD) (t : Fin cfg0.N) (r : Fin 2048) (l : Fin 1024) (R : Fin 4096) (hR : R.val = t.val / 4 * 2048 + r.val) :
    bD m c t (ix2 r l) = aD m c (ix2 R l) := by
  blk_point [bD, iblk, V, idx t, hR]

theorem readW (c : Dev nD) (t : Fin cfg0.N) (k : Fin 1024) (l : Fin 1024) (K : Fin 4096) (hK : K.val = t.val % 4 * 1024 + k.val) :
    bW m c t (ix2 k l) = aW m c (ix2 K l) := by
  blk_point [bW, iblk, V, idx t, hK]

theorem readP (c : Dev nD) (t : Fin cfg0.N) (r : Fin 2048) (k : Fin 1024) (R : Fin 4096) (K : Fin 4096)
    (hR : R.val = t.val / 4 * 2048 + r.val) (hK : K.val = t.val % 4 * 1024 + k.val) :
    bP m c t (ix2 r k) = aP m c (ix2 R K) := by
  blk_point [bP, iblk, V, idx t, hR, hK]

/-- What a point writes, in the arrays' own coordinates. -/
theorem tile (c : Dev nD) (t : Fin cfg0.N) (r : Fin 2048) (k : Fin 1024) (R : Fin 4096) (K : Fin 4096)
    (hR : R.val = t.val / 4 * 2048 + r.val) (hK : K.val = t.val % 4 * 1024 + k.val) :
    out0_3 (F := Ideal) (iblk m c 0 t) (iblk m c 1 t) (iblk m c 2 t) (ix2 r k) = gradA (aP m c) (aW m c) (aD m c) (ix2 R K) := by
  unfold out0_3
  frame_out
  refine (out_read (bD m c t) (bW m c t) (bP m c t) r k).trans ?_
  rw [readP m c t r k R K hR hK]
  refine congrArg (slope · _) (Finset.sum_congr rfl fun l _ => ?_)
  rw [readD m c t r l R hR, readW m c t k l K hK]
  rfl

/-- The array at the end is the gradient. -/
theorem final (c : Dev nD) : (dats m 0 c).arrAt 3 (cfgs 0).N = gradA (aP m c) (aW m c) (aD m c) := by
  refine (dats m 0 c).arrAt_eq_of_covers 3 _ (by decide +kernel) fun t hf y => ?_
  blk_simp
  rw [after0_3]
  idx_vars y
  exact tile m c t y0 y1 _ _ (by blk_simp [idx t]) (by blk_simp [idx t])

/-- The reference's array is the same gradient: where its derivative of the relu is zero the slope is zero already. -/
theorem reference_eq (P : FVec Ideal S4096x4096 .f32) (W D : FVec Ideal S4096x1024 .bf16) :
    Cert.ActReferenceIdeal.Read.val_main_v14 (F := Ideal) P W D = gradA P W D := by
  funext j
  idx_vars j
  refine (congrFun (Cert.ActReferenceIdeal.Read.val_main_v14_eq (F := Ideal) P W D) (ix2 j0 j1)).symm.trans ?_
  pointwise
  split_ifs with h
  · rfl
  · exact (slope_cut _ _ h).symm

end Cert.Act
-- ==== Proof.ActClaim.lean ====
/- The call of the gradient of the squared relu behind the second feed-forward product and its reference leave the same array. -/
module

public import Idealize.ShloMosaic.Lib.Claim
public import proofs.«01_k».proof.Proof.Gen.ActKernelIdeal.Value
public import proofs.«01_k».proof.Proof.Gen.ActReferenceIdeal.Run
public import proofs.«01_k».proof.Defs
public import proofs.«01_k».proof.Proof.ActValue

@[expose] public section

noncomputable section

open Idealize.ShloMosaic Idealize.ShloMosaic.TcCoe Idealize.SL.Sem

namespace Cert.Act

/-- The kernel leaves the gradient and keeps its arguments. -/
theorem kernel_run (m : (ℓ : Loc Cert.ActKernelIdeal.nD Cert.ActKernelIdeal.τ Cert.ActKernelIdeal.sig) → Buf (Elt Ideal) ℓ)
    (g : Dev Cert.ActKernelIdeal.nD → PrngReg) :
    θ_run (Cert.ActKernelIdeal.defs (F := Ideal)) (onTc (τ := Cert.ActKernelIdeal.τ) (Cert.ActKernelIdeal.main (F := Ideal))) ⟨m, fun _ => 0, g⟩ fun r =>
      ∀ c : Dev Cert.ActKernelIdeal.nD,
        r.2.mem ((c.tc : Thread Cert.ActKernelIdeal.nD Cert.ActKernelIdeal.τ).loc Cert.ActKernelIdeal.main_v0)
          = gradA (m ((c.tc : Thread Cert.ActKernelIdeal.nD Cert.ActKernelIdeal.τ).loc Cert.ActKernelIdeal.main_arg0))
            (m ((c.tc : Thread Cert.ActKernelIdeal.nD Cert.ActKernelIdeal.τ).loc Cert.ActKernelIdeal.main_arg1))
            (m ((c.tc : Thread Cert.ActKernelIdeal.nD Cert.ActKernelIdeal.τ).loc Cert.ActKernelIdeal.main_arg2))
        ∧ r.2.mem ((c.tc : Thread Cert.ActKernelIdeal.nD Cert.ActKernelIdeal.τ).loc Cert.ActKernelIdeal.main_arg0)
          = m ((c.tc : Thread Cert.ActKernelIdeal.nD Cert.ActKernelIdeal.τ).loc Cert.ActKernelIdeal.main_arg0)
        ∧ r.2.mem ((c.tc : Thread Cert.ActKernelIdeal.nD Cert.ActKernelIdeal.τ).loc Cert.ActKernelIdeal.main_arg1)
          = m ((c.tc : Thread Cert.ActKernelIdeal.nD Cert.ActKernelIdeal.τ).loc Cert.ActKernelIdeal.main_arg1)
        ∧ r.2.mem ((c.tc : Thread Cert.ActKernelIdeal.nD Cert.ActKernelIdeal.τ).loc Cert.ActKernelIdeal.main_arg2)
          = m ((c.tc : Thread Cert.ActKernelIdeal.nD Cert.ActKernelIdeal.τ).loc Cert.ActKernelIdeal.main_arg2) :=
  (Cert.ActKernelIdeal.Value.run_blocks m g).mono fun r h c => ⟨(h c).1.trans (final m c), (h c).2⟩

/-- The reference leaves the gradient and keeps its arguments. -/
theorem reference_run (m : (ℓ : Loc Cert.ActReferenceIdeal.nD Cert.ActReferenceIdeal.τ Cert.ActReferenceIdeal.sig) → Buf (Elt Ideal) ℓ)
    (g : Dev Cert.ActReferenceIdeal.nD → PrngReg) :
    θ_run (Cert.ActReferenceIdeal.defs (F := Ideal)) (onTc (τ := Cert.ActReferenceIdeal.τ) (Cert.ActReferenceIdeal.main (F := Ideal))) ⟨m, fun _ => 0, g⟩ fun r =>
      ∀ c : Dev Cert.ActReferenceIdeal.nD,
        r.2.mem ((c.tc : Thread Cert.ActReferenceIdeal.nD Cert.ActReferenceIdeal.τ).loc Cert.ActReferenceIdeal.main_v14)
          = gradA (m ((c.tc : Thread Cert.ActReferenceIdeal.nD Cert.ActReferenceIdeal.τ).loc Cert.ActReferenceIdeal.main_arg0))
            (m ((c.tc : Thread Cert.ActReferenceIdeal.nD Cert.ActReferenceIdeal.τ).loc Cert.ActReferenceIdeal.main_arg1))
            (m ((c.tc : Thread Cert.ActReferenceIdeal.nD Cert.ActReferenceIdeal.τ).loc Cert.ActReferenceIdeal.main_arg2))
        ∧ r.2.mem ((c.tc : Thread Cert.ActReferenceIdeal.nD Cert.ActReferenceIdeal.τ).loc Cert.ActReferenceIdeal.main_arg0)
          = m ((c.tc : Thread Cert.ActReferenceIdeal.nD Cert.ActReferenceIdeal.τ).loc Cert.ActReferenceIdeal.main_arg0)
        ∧ r.2.mem ((c.tc : Thread Cert.ActReferenceIdeal.nD Cert.ActReferenceIdeal.τ).loc Cert.ActReferenceIdeal.main_arg1)
          = m ((c.tc : Thread Cert.ActReferenceIdeal.nD Cert.ActReferenceIdeal.τ).loc Cert.ActReferenceIdeal.main_arg1)
        ∧ r.2.mem ((c.tc : Thread Cert.ActReferenceIdeal.nD Cert.ActReferenceIdeal.τ).loc Cert.ActReferenceIdeal.main_arg2)
          = m ((c.tc : Thread Cert.ActReferenceIdeal.nD Cert.ActReferenceIdeal.τ).loc Cert.ActReferenceIdeal.main_arg2) :=
  (Cert.ActReferenceIdeal.Value.run m g).mono fun r h c => ⟨(h c).1.trans (reference_eq _ _ _), (h c).2⟩

theorem algebraic : Cert.algebraic_ActKernelIdeal_ActReferenceIdeal := by
  intro m g m' g' _ hagree
  refine ⟨_, kernel_run m g, (reference_run m' g').mono fun r h c => ?_⟩
  obtain ⟨e0, e1, e2⟩ := hagree c
  have hc := h c
  simp only [e0, e1, e2] at hc ⊢
  exact hc

/-- The reference returns, keeps its arguments and leaves every counter at zero. -/
theorem frame_reference : Cert.quiescent_ActReferenceIdeal := by
  intro m g _
  exact (reference_run m g).mono fun r h => ⟨fun c => (h c).2, sem_eq_zero_of_no_sems (by decide) _⟩

end Cert.Act
-- ==== Proof.Product.lean ====
/- Products of matrices over the extended reals, entry by entry, and sums over rows taken in two halves. -/
module

public import Idealize.ShloMosaic.Lib.Pipeline.ValueKit

@[expose] public section

noncomputable section

open Idealize.ShloMosaic Idealize.ShloMosaic.TcCoe Idealize.SL.Sem

namespace Cert.Product

/-- The product of a matrix's transpose with a matrix: the gradient of a product's weight, from the product's input `X` and its output's
    cotangent `D`, summed over the rows. -/
def wgrad {S K N : Nat} (X : FVec Ideal ⟨2, ![S, K]⟩ .bf16) (D : FVec Ideal ⟨2, ![S, N]⟩ .bf16) : (⟨2, ![K, N]⟩ : Shape).Idx → EReal :=
  fun j => ∑ s : Fin S, X (ix2 s (j 0)) * D (ix2 s (j 1))

/-- The product of a matrix with a matrix. -/
def prod {S K N : Nat} (X : FVec Ideal ⟨2, ![S, K]⟩ .bf16) (W : FVec Ideal ⟨2, ![K, N]⟩ .bf16) (r : Fin S) (k : Fin N) : EReal :=
  ∑ l : Fin K, X (ix2 r l) * W (ix2 l k)

/-- The product of a matrix with a matrix's transpose: a product's cotangent `C` taken back through its weight `W`. -/
def back {S K N : Nat} (C : FVec Ideal ⟨2, ![S, N]⟩ .bf16) (W : FVec Ideal ⟨2, ![K, N]⟩ .bf16) (r : Fin S) (k : Fin K) : EReal :=
  ∑ l : Fin N, C (ix2 r l) * W (ix2 k l)

/-- A sum over 4096 rows is the sum over the first 2048 plus the sum over the others. -/
theorem sum_halves (f : Fin 4096 → EReal) :
    (∑ s : Fin 2048, f ⟨0 * 2048 + s.val, by omega⟩) + (∑ s : Fin 2048, f ⟨1 * 2048 + s.val, by omega⟩) = ∑ s : Fin 4096, f s := by
  simp only [Nat.zero_mul, Nat.zero_add, Nat.one_mul]
  exact (Fin.sum_univ_add (a := 2048) (b := 2048) f).symm

/-- A tile's product is the arrays' where its row and its column are theirs. -/
theorem prod_congr {S K N S' N' : Nat} {x : FVec Ideal ⟨2, ![S, K]⟩ .bf16} {w : FVec Ideal ⟨2, ![K, N]⟩ .bf16}
    {X : FVec Ideal ⟨2, ![S', K]⟩ .bf16} {W : FVec Ideal ⟨2, ![K, N']⟩ .bf16} {r : Fin S} {k : Fin N} {R : Fin S'} {k' : Fin N'}
    (hx : ∀ l, x (ix2 r l) = X (ix2 R l)) (hw : ∀ l, w (ix2 l k) = W (ix2 l k')) : prod x w r k = prod X W R k' :=
  Finset.sum_congr rfl fun l _ => by rw [hx l, hw l]

/-- A tile's product with the transpose is the arrays' where its rows are theirs. -/
theorem back_congr {S K N S' K' : Nat} {x : FVec Ideal ⟨2, ![S, N]⟩ .bf16} {w : FVec Ideal ⟨2, ![K, N]⟩ .bf16}
    {X : FVec Ideal ⟨2, ![S', N]⟩ .bf16} {W : FVec Ideal ⟨2, ![K', N]⟩ .bf16} {r : Fin S} {k : Fin K} {R : Fin S'} {k' : Fin K'}
    (hx : ∀ l, x (ix2 r l) = X (ix2 R l)) (hw : ∀ l, w (ix2 k l) = W (ix2 k' l)) : back x w r k = back X W R k' :=
  Finset.sum_congr rfl fun l _ => by rw [hx l, hw l]

end Cert.Product
-- ==== Proof.Ff2Value.lean ====
/- The gradient of the second feed-forward weight: what a grid point adds, what the array holds, and what the reference computes. -/
module

public import Idealize.ShloMosaic.Lib.Pipeline.ValueKit
public import Idealize.ShloMosaic.Lib.Pipeline.ReadBack
public import proofs.«01_k».proof.Proof.Gen.Ff2KernelIdeal.Frame
public import proofs.«01_k».proof.Proof.Gen.Ff2ReferenceIdeal.Read
public import proofs.«01_k».proof.Proof.Product

set_option maxRecDepth 16384

@[expose] public section

noncomputable section

open Idealize.ShloMosaic Idealize.ShloMosaic.TcCoe Idealize.SL.Sem

namespace Cert.Ff2

open Cert.Ff2KernelIdeal Cert.Ff2KernelIdeal.Gen Cert.Product

/-- A half's product. -/
theorem part_read (X : FVec Ideal S2048x1024 .bf16) (D : FVec Ideal S2048x1024 .bf16) (r : Fin 1024) (k : Fin 1024) :
    k0_pay2 (F := Ideal) X D (ix2 r k) = ∑ l : Fin 2048, X (ix2 l r) * D (ix2 l k) := by
  unfold_payloads
  pointwise

/-- A half's product added to what the scratch holds. -/
theorem sum_read (X : FVec Ideal S2048x1024 .bf16) (D : FVec Ideal S2048x1024 .bf16) (A : FVec Ideal S1024x1024 .f32)
    (r : Fin 1024) (k : Fin 1024) :
    k0_pay3 (F := Ideal) X D A (ix2 r k) = A (ix2 r k) + ∑ l : Fin 2048, X (ix2 l r) * D (ix2 l k) := by
  unfold_payloads
  pointwise

variable (m : (ℓ : Loc nD τ sig) → Buf (Elt Ideal) ℓ)

/-- Which block every window holds at a grid point: half `t % 2` of the rows, tile `t / 2`. -/
theorem idx : ∀ t : Fin cfg0.N, win0_0.index t = ![t.val % 2, t.val / 2] ∧ win0_1.index t = ![t.val % 2, 0]
    ∧ win0_2.index t = ![t.val / 2, 0] :=
  (by decide +kernel : ∀ t : Fin grid0.N, _)

/-- The arrays the region finds: the activation and the cotangent. -/
abbrev aX (c : Dev nD) : FVec Ideal S4096x4096 .bf16 := m ((c : Thread nD τ).loc main_arg0)
abbrev aD (c : Dev nD) : FVec Ideal S4096x1024 .bf16 := m ((c : Thread nD τ).loc main_arg1)

/-- A point's blocks of them. -/
abbrev bX (c : Dev nD) (t : Fin cfg0.N) : FVec Ideal S2048x1024 .bf16 := iblk m c 0 t
abbrev bD (c : Dev nD) (t : Fin cfg0.N) : FVec Ideal S2048x1024 .bf16 := iblk m c 1 t

theorem readX (c : Dev nD) (t : Fin cfg0.N) (l : Fin 2048) (r : Fin 1024) (L : Fin 4096) (R : Fin 4096)
    (hL : L.val = t.val % 2 * 2048 + l.val) (hR : R.val = t.val / 2 * 1024 + r.val) :
    bX m c t (ix2 l r) = aX m c (ix2 L R) := by
  blk_point [bX, bD, iblk, V, idx t, hL, hR]

theorem readD (c : Dev nD) (t : Fin cfg0.N) (l : Fin 2048) (k : Fin 1024) (L : Fin 4096)
    (hL : L.val = t.val % 2 * 2048 + l.val) :
    bD m c t (ix2 l k) = aD m c (ix2 L k) := by
  blk_point [bX, bD, iblk, V, idx t, hL]

/-- What a point adds, in the arrays' own coordinates: the products of its half of the rows. -/
theorem half (c : Dev nD) (t : Fin cfg0.N) (h : Fin 2) (ht : t.val % 2 = h.val) (r : Fin 1024) (k : Fin 1024) (R : Fin 4096)
    (hR : R.val = t.val / 2 * 1024 + r.val) :
    ∑ l : Fin 2048, bX m c t (ix2 l r) * bD m c t (ix2 l k)
      = ∑ l : Fin 2048, aX m c (ix2 ⟨h.val * 2048 + l.val, by omega⟩ R) * aD m c (ix2 ⟨h.val * 2048 + l.val, by omega⟩ k) := by
  refine Finset.sum_congr rfl fun l _ => ?_
  rw [readX m c t l r ⟨h.val * 2048 + l.val, by omega⟩ R (by rw [ht]) hR, readD m c t l k ⟨h.val * 2048 + l.val, by omega⟩ (by rw [ht])]

/-- The point before a tile's last leaves the first half's products in the scratch. -/
theorem first (c : Dev nD) (t : Fin cfg0.N) (h : t.val % 2 = 0) (r : Fin 1024) (k : Fin 1024) :
    (outsAt0 m c t.val t.isLt).2 (ix2 r k) = ∑ l : Fin 2048, bX m c t (ix2 l r) * bD m c t (ix2 l k) := by
  rw [outsAt0_A m c t h (by omega) (by omega)]; frame_out; exact part_read _ _ r k

/-- A tile's last point adds the second half's products and writes the sum. -/
theorem last (c : Dev nD) (t : Fin cfg0.N) (h : t.val % 2 = 1) (r : Fin 1024) (k : Fin 1024) :
    (outsAt0 m c t.val t.isLt).1 (ix2 r k) = (outsAt0 m c (t.val - 1) (Nat.lt_of_le_of_lt (Nat.sub_le _ _) t.isLt)).2 (ix2 r k)
      + ∑ l : Fin 2048, bX m c t (ix2 l r) * bD m c t (ix2 l k) := by
  rw [outsAt0_B m c t (by omega) h h]; frame_out; simp only [read_unread_whole]; exact sum_read _ _ _ r k

/-- What a tile's last point writes, in the arrays' own coordinates: the sum over all rows. -/
theorem tile (c : Dev nD) (t : Fin cfg0.N) (ht : t.val % 2 = 1) (r : Fin 1024) (k : Fin 1024) (R : Fin 4096) (K : Fin 1024)
    (hR : R.val = t.val / 2 * 1024 + r.val) (hK : K.val = k.val) :
    (outsAt0 m c t.val t.isLt).1 (ix2 r k) = ∑ s : Fin 4096, aX m c (ix2 s R) * aD m c (ix2 s K) := by
  obtain rfl : k = K := Fin.ext hK.symm
  have hp : t.val - 1 < cfg0.N := Nat.lt_of_le_of_lt (Nat.sub_le _ _) t.isLt
  have h0 : (t.val - 1) % 2 = 0 := by omega
  have hd : (t.val - 1) / 2 = t.val / 2 := by omega
  rw [last m c t ht, first m c ⟨t.val - 1, hp⟩ h0 r k, half m c t 1 ht r k R hR,
    half m c ⟨t.val - 1, hp⟩ 0 h0 r k R (by rw [hR, ← hd])]
  exact sum_halves fun s => aX m c (ix2 s R) * aD m c (ix2 s k)

/-- The array at the end is the weight's gradient. -/
theorem final (c : Dev nD) : (dats m 0 c).arrAt 2 (cfgs 0).N = wgrad (aX m c) (aD m c) := by
  refine (dats m 0 c).arrAt_eq_of_covers 2 _ (by decide +kernel) fun t hf y => ?_
  blk_simp
  rw [after0_2]
  idx_vars y
  exact tile m c t ((flush0_2 t).mp hf) y0 y1 _ _ (by blk_simp [idx t]) (by blk_simp [idx t])

/-- The reference's array is the same gradient. -/
theorem reference_eq (X : FVec Ideal S4096x4096 .bf16) (D : FVec Ideal S4096x1024 .bf16) :
    Cert.Ff2ReferenceIdeal.Read.val_main_v5 (F := Ideal) X D = wgrad X D := by
  funext j
  idx_vars j
  refine (congrFun (Cert.Ff2ReferenceIdeal.Read.val_main_v5_eq (F := Ideal) X D) (ix2 j0 j1)).symm.trans ?_
  pointwise
  unfold wgrad
  exact Finset.sum_congr rfl fun s _ => mul_comm _ _

end Cert.Ff2
-- ==== Proof.Ff2Claim.lean ====
/- The call of the gradient of the second feed-forward weight and its reference leave the same array. -/
module

public import Idealize.ShloMosaic.Lib.Claim
public import proofs.«01_k».proof.Proof.Gen.Ff2KernelIdeal.Value
public import proofs.«01_k».proof.Proof.Gen.Ff2ReferenceIdeal.Run
public import proofs.«01_k».proof.Defs
public import proofs.«01_k».proof.Proof.Ff2Value

@[expose] public section

noncomputable section

open Idealize.ShloMosaic Idealize.ShloMosaic.TcCoe Idealize.SL.Sem

namespace Cert.Ff2

/-- The kernel leaves the gradient and keeps its arguments. -/
theorem kernel_run (m : (ℓ : Loc Cert.Ff2KernelIdeal.nD Cert.Ff2KernelIdeal.τ Cert.Ff2KernelIdeal.sig) → Buf (Elt Ideal) ℓ)
    (g : Dev Cert.Ff2KernelIdeal.nD → PrngReg) :
    θ_run (Cert.Ff2KernelIdeal.defs (F := Ideal)) (onTc (τ := Cert.Ff2KernelIdeal.τ) (Cert.Ff2KernelIdeal.main (F := Ideal))) ⟨m, fun _ => 0, g⟩ fun r =>
      ∀ c : Dev Cert.Ff2KernelIdeal.nD,
        r.2.mem ((c.tc : Thread Cert.Ff2KernelIdeal.nD Cert.Ff2KernelIdeal.τ).loc Cert.Ff2KernelIdeal.main_v0)
          = Cert.Product.wgrad (m ((c.tc : Thread Cert.Ff2KernelIdeal.nD Cert.Ff2KernelIdeal.τ).loc Cert.Ff2KernelIdeal.main_arg0))
            (m ((c.tc : Thread Cert.Ff2KernelIdeal.nD Cert.Ff2KernelIdeal.τ).loc Cert.Ff2KernelIdeal.main_arg1))
        ∧ r.2.mem ((c.tc : Thread Cert.Ff2KernelIdeal.nD Cert.Ff2KernelIdeal.τ).loc Cert.Ff2KernelIdeal.main_arg0)
          = m ((c.tc : Thread Cert.Ff2KernelIdeal.nD Cert.Ff2KernelIdeal.τ).loc Cert.Ff2KernelIdeal.main_arg0)
        ∧ r.2.mem ((c.tc : Thread Cert.Ff2KernelIdeal.nD Cert.Ff2KernelIdeal.τ).loc Cert.Ff2KernelIdeal.main_arg1)
          = m ((c.tc : Thread Cert.Ff2KernelIdeal.nD Cert.Ff2KernelIdeal.τ).loc Cert.Ff2KernelIdeal.main_arg1) :=
  (Cert.Ff2KernelIdeal.Value.run_blocks m g).mono fun r h c => ⟨(h c).1.trans (final m c), (h c).2⟩

/-- The reference leaves the gradient and keeps its arguments. -/
theorem reference_run (m : (ℓ : Loc Cert.Ff2ReferenceIdeal.nD Cert.Ff2ReferenceIdeal.τ Cert.Ff2ReferenceIdeal.sig) → Buf (Elt Ideal) ℓ)
    (g : Dev Cert.Ff2ReferenceIdeal.nD → PrngReg) :
    θ_run (Cert.Ff2ReferenceIdeal.defs (F := Ideal)) (onTc (τ := Cert.Ff2ReferenceIdeal.τ) (Cert.Ff2ReferenceIdeal.main (F := Ideal))) ⟨m, fun _ => 0, g⟩ fun r =>
      ∀ c : Dev Cert.Ff2ReferenceIdeal.nD,
        r.2.mem ((c.tc : Thread Cert.Ff2ReferenceIdeal.nD Cert.Ff2ReferenceIdeal.τ).loc Cert.Ff2ReferenceIdeal.main_v5)
          = Cert.Product.wgrad (m ((c.tc : Thread Cert.Ff2ReferenceIdeal.nD Cert.Ff2ReferenceIdeal.τ).loc Cert.Ff2ReferenceIdeal.main_arg0))
            (m ((c.tc : Thread Cert.Ff2ReferenceIdeal.nD Cert.Ff2ReferenceIdeal.τ).loc Cert.Ff2ReferenceIdeal.main_arg1))
        ∧ r.2.mem ((c.tc : Thread Cert.Ff2ReferenceIdeal.nD Cert.Ff2ReferenceIdeal.τ).loc Cert.Ff2ReferenceIdeal.main_arg0)
          = m ((c.tc : Thread Cert.Ff2ReferenceIdeal.nD Cert.Ff2ReferenceIdeal.τ).loc Cert.Ff2ReferenceIdeal.main_arg0)
        ∧ r.2.mem ((c.tc : Thread Cert.Ff2ReferenceIdeal.nD Cert.Ff2ReferenceIdeal.τ).loc Cert.Ff2ReferenceIdeal.main_arg1)
          = m ((c.tc : Thread Cert.Ff2ReferenceIdeal.nD Cert.Ff2ReferenceIdeal.τ).loc Cert.Ff2ReferenceIdeal.main_arg1) :=
  (Cert.Ff2ReferenceIdeal.Value.run m g).mono fun r h c => ⟨(h c).1.trans (reference_eq _ _), (h c).2⟩

theorem algebraic : Cert.algebraic_Ff2KernelIdeal_Ff2ReferenceIdeal := by
  intro m g m' g' _ hagree
  refine ⟨_, kernel_run m g, (reference_run m' g').mono fun r h c => ?_⟩
  obtain ⟨e0, e1⟩ := hagree c
  have hc := h c
  simp only [e0, e1] at hc ⊢
  exact hc

/-- The reference returns, keeps its arguments and leaves every counter at zero. -/
theorem frame_reference : Cert.quiescent_Ff2ReferenceIdeal := by
  intro m g _
  exact (reference_run m g).mono fun r h => ⟨fun c => (h c).2, sem_eq_zero_of_no_sems (by decide) _⟩

end Cert.Ff2
-- ==== Proof.Ff1Value.lean ====
/- The gradient of the first feed-forward weight: what a grid point adds, what the array holds, and what the reference computes. -/
module

public import Idealize.ShloMosaic.Lib.Pipeline.ValueKit
public import Idealize.ShloMosaic.Lib.Pipeline.ReadBack
public import proofs.«01_k».proof.Proof.Gen.Ff1KernelIdeal.Frame
public import proofs.«01_k».proof.Proof.Gen.Ff1ReferenceIdeal.Read
public import proofs.«01_k».proof.Proof.Product

set_option maxRecDepth 16384

@[expose] public section

noncomputable section

open Idealize.ShloMosaic Idealize.ShloMosaic.TcCoe Idealize.SL.Sem

namespace Cert.Ff1

open Cert.Ff1KernelIdeal Cert.Ff1KernelIdeal.Gen Cert.Product

/-- A half's product. -/
theorem part_read (X : FVec Ideal S2048x1024 .bf16) (D : FVec Ideal S2048x1024 .bf16) (r : Fin 1024) (k : Fin 1024) :
    k0_pay2 (F := Ideal) X D (ix2 r k) = ∑ l : Fin 2048, X (ix2 l r) * D (ix2 l k) := by
  unfold_payloads
  pointwise

/-- A half's product added to what the scratch holds. -/
theorem sum_read (X : FVec Ideal S2048x1024 .bf16) (D : FVec Ideal S2048x1024 .bf16) (A : FVec Ideal S1024x1024 .f32)
    (r : Fin 1024) (k : Fin 1024) :
    k0_pay3 (F := Ideal) X D A (ix2 r k) = A (ix2 r k) + ∑ l : Fin 2048, X (ix2 l r) * D (ix2 l k) := by
  unfold_payloads
  pointwise

variable (m : (ℓ : Loc nD τ sig) → Buf (Elt Ideal) ℓ)

/-- Which block every window holds at a grid point: half `t % 2` of the rows, tile `t / 2`. -/
theorem idx : ∀ t : Fin cfg0.N, win0_0.index t = ![t.val % 2, 0] ∧ win0_1.index t = ![t.val % 2, t.val / 2]
    ∧ win0_2.index t = ![0, t.val / 2] :=
  (by decide +kernel : ∀ t : Fin grid0.N, _)

/-- The arrays the region finds: the activation and the cotangent. -/
abbrev aX (c : Dev nD) : FVec Ideal S4096x1024 .bf16 := m ((c : Thread nD τ).loc main_arg0)
abbrev aD (c : Dev nD) : FVec Ideal S4096x4096 .bf16 := m ((c : Thread nD τ).loc main_arg1)

/-- A point's blocks of them. -/
abbrev bX (c : Dev nD) (t : Fin cfg0.N) : FVec Ideal S2048x1024 .bf16 := iblk m c 0 t
abbrev bD (c : Dev nD) (t : Fin cfg0.N) : FVec Ideal S2048x1024 .bf16 := iblk m c 1 t

theorem readX (c : Dev nD) (t : Fin cfg0.N) (l : Fin 2048) (r : Fin 1024) (L : Fin 4096)
    (hL : L.val = t.val % 2 * 2048 + l.val) :
    bX m c t (ix2 l r) = aX m c (ix2 L r) := by
  blk_point [bX, bD, iblk, V, idx t, hL]

theorem readD (c : Dev nD) (t : Fin cfg0.N) (l : Fin 2048) (k : Fin 1024) (L : Fin 4096) (K : Fin 4096)
    (hL : L.val = t.val % 2 * 2048 + l.val) (hK : K.val = t.val / 2 * 1024 + k.val) :
    bD m c t (ix2 l k) = aD m c (ix2 L K) := by
  blk_point [bX, bD, iblk, V, idx t, hL, hK]

/-- What a point adds, in the arrays' own coordinates: the products of its half of the rows. -/
theorem half (c : Dev nD) (t : Fin cfg0.N) (h : Fin 2) (ht : t.val % 2 = h.val) (r : Fin 1024) (k : Fin 1024) (K : Fin 4096)
    (hK : K.val = t.val / 2 * 1024 + k.val) :
    ∑ l : Fin 2048, bX m c t (ix2 l r) * bD m c t (ix2 l k)
      = ∑ l : Fin 2048, aX m c (ix2 ⟨h.val * 2048 + l.val, by omega⟩ r) * aD m c (ix2 ⟨h.val * 2048 + l.val, by omega⟩ K) := by
  refine Finset.sum_congr rfl fun l _ => ?_
  rw [readX m c t l r ⟨h.val * 2048 + l.val, by omega⟩ (by rw [ht]), readD m c t l k ⟨h.val * 2048 + l.val, by omega⟩ K (by rw [ht]) hK]

/-- The point before a tile's last leaves the first half's products in the scratch. -/
theorem first (c : Dev nD) (t : Fin cfg0.N) (h : t.val % 2 = 0) (r : Fin 1024) (k : Fin 1024) :
    (outsAt0 m c t.val t.isLt).2 (ix2 r k) = ∑ l : Fin 2048, bX m c t (ix2 l r) * bD m c t (ix2 l k) := by
  rw [outsAt0_A m c t h (by omega) (by omega)]; frame_out; exact part_read _ _ r k

/-- A tile's last point adds the second half's products and writes the sum. -/
theorem last (c : Dev nD) (t : Fin cfg0.N) (h : t.val % 2 = 1) (r : Fin 1024) (k : Fin 1024) :
    (outsAt0 m c t.val t.isLt).1 (ix2 r k) = (outsAt0 m c (t.val - 1) (Nat.lt_of_le_of_lt (Nat.sub_le _ _) t.isLt)).2 (ix2 r k)
      + ∑ l : Fin 2048, bX m c t (ix2 l r) * bD m c t (ix2 l k) := by
  rw [outsAt0_B m c t (by omega) h h]; frame_out; simp only [read_unread_whole]; exact sum_read _ _ _ r k

/-- What a tile's last point writes, in the arrays' own coordinates: the sum over all rows. -/
theorem tile (c : Dev nD) (t : Fin cfg0.N) (ht : t.val % 2 = 1) (r : Fin 1024) (k : Fin 1024) (R : Fin 1024) (K : Fin 4096)
    (hR : R.val = r.val) (hK : K.val = t.val / 2 * 1024 + k.val) :
    (outsAt0 m c t.val t.isLt).1 (ix2 r k) = ∑ s : Fin 4096, aX m c (ix2 s R) * aD m c (ix2 s K) := by
  obtain rfl : r = R := Fin.ext hR.symm
  have hp : t.val - 1 < cfg0.N := Nat.lt_of_le_of_lt (Nat.sub_le _ _) t.isLt
  have h0 : (t.val - 1) % 2 = 0 := by omega
  have hd : (t.val - 1) / 2 = t.val / 2 := by omega
  rw [last m c t ht, first m c ⟨t.val - 1, hp⟩ h0 r k, half m c t 1 ht r k K hK,
    half m c ⟨t.val - 1, hp⟩ 0 h0 r k K (by rw [hK, ← hd])]
  exact sum_halves fun s => aX m c (ix2 s r) * aD m c (ix2 s K)

/-- The array at the end is the weight's gradient. -/
theorem final (c : Dev nD) : (dats m 0 c).arrAt 2 (cfgs 0).N = wgrad (aX m c) (aD m c) := by
  refine (dats m 0 c).arrAt_eq_of_covers 2 _ (by decide +kernel) fun t hf y => ?_
  blk_simp
  rw [after0_2]
  idx_vars y
  exact tile m c t ((flush0_2 t).mp hf) y0 y1 _ _ (by blk_simp [idx t]) (by blk_simp [idx t])

/-- The reference's array is the same gradient. -/
theorem reference_eq (X : FVec Ideal S4096x1024 .bf16) (D : FVec Ideal S4096x4096 .bf16) :
    Cert.Ff1ReferenceIdeal.Read.val_main_v5 (F := Ideal) X D = wgrad X D := by
  funext j
  idx_vars j
  refine (congrFun (Cert.Ff1ReferenceIdeal.Read.val_main_v5_eq (F := Ideal) X D) (ix2 j0 j1)).symm.trans ?_
  pointwise
  unfold wgrad
  exact Finset.sum_congr rfl fun s _ => mul_comm _ _

end Cert.Ff1
-- ==== Proof.Ff1Claim.lean ====
/- The call of the gradient of the first feed-forward weight and its reference leave the same array. -/
module

public import Idealize.ShloMosaic.Lib.Claim
public import proofs.«01_k».proof.Proof.Gen.Ff1KernelIdeal.Value
public import proofs.«01_k».proof.Proof.Gen.Ff1ReferenceIdeal.Run
public import proofs.«01_k».proof.Defs
public import proofs.«01_k».proof.Proof.Ff1Value

@[expose] public section

noncomputable section

open Idealize.ShloMosaic Idealize.ShloMosaic.TcCoe Idealize.SL.Sem

namespace Cert.Ff1

/-- The kernel leaves the gradient and keeps its arguments. -/
theorem kernel_run (m : (ℓ : Loc Cert.Ff1KernelIdeal.nD Cert.Ff1KernelIdeal.τ Cert.Ff1KernelIdeal.sig) → Buf (Elt Ideal) ℓ)
    (g : Dev Cert.Ff1KernelIdeal.nD → PrngReg) :
    θ_run (Cert.Ff1KernelIdeal.defs (F := Ideal)) (onTc (τ := Cert.Ff1KernelIdeal.τ) (Cert.Ff1KernelIdeal.main (F := Ideal))) ⟨m, fun _ => 0, g⟩ fun r =>
      ∀ c : Dev Cert.Ff1KernelIdeal.nD,
        r.2.mem ((c.tc : Thread Cert.Ff1KernelIdeal.nD Cert.Ff1KernelIdeal.τ).loc Cert.Ff1KernelIdeal.main_v0)
          = Cert.Product.wgrad (m ((c.tc : Thread Cert.Ff1KernelIdeal.nD Cert.Ff1KernelIdeal.τ).loc Cert.Ff1KernelIdeal.main_arg0))
            (m ((c.tc : Thread Cert.Ff1KernelIdeal.nD Cert.Ff1KernelIdeal.τ).loc Cert.Ff1KernelIdeal.main_arg1))
        ∧ r.2.mem ((c.tc : Thread Cert.Ff1KernelIdeal.nD Cert.Ff1KernelIdeal.τ).loc Cert.Ff1KernelIdeal.main_arg0)
          = m ((c.tc : Thread Cert.Ff1KernelIdeal.nD Cert.Ff1KernelIdeal.τ).loc Cert.Ff1KernelIdeal.main_arg0)
        ∧ r.2.mem ((c.tc : Thread Cert.Ff1KernelIdeal.nD Cert.Ff1KernelIdeal.τ).loc Cert.Ff1KernelIdeal.main_arg1)
          = m ((c.tc : Thread Cert.Ff1KernelIdeal.nD Cert.Ff1KernelIdeal.τ).loc Cert.Ff1KernelIdeal.main_arg1) :=
  (Cert.Ff1KernelIdeal.Value.run_blocks m g).mono fun r h c => ⟨(h c).1.trans (final m c), (h c).2⟩

/-- The reference leaves the gradient and keeps its arguments. -/
theorem reference_run (m : (ℓ : Loc Cert.Ff1ReferenceIdeal.nD Cert.Ff1ReferenceIdeal.τ Cert.Ff1ReferenceIdeal.sig) → Buf (Elt Ideal) ℓ)
    (g : Dev Cert.Ff1ReferenceIdeal.nD → PrngReg) :
    θ_run (Cert.Ff1ReferenceIdeal.defs (F := Ideal)) (onTc (τ := Cert.Ff1ReferenceIdeal.τ) (Cert.Ff1ReferenceIdeal.main (F := Ideal))) ⟨m, fun _ => 0, g⟩ fun r =>
      ∀ c : Dev Cert.Ff1ReferenceIdeal.nD,
        r.2.mem ((c.tc : Thread Cert.Ff1ReferenceIdeal.nD Cert.Ff1ReferenceIdeal.τ).loc Cert.Ff1ReferenceIdeal.main_v5)
          = Cert.Product.wgrad (m ((c.tc : Thread Cert.Ff1ReferenceIdeal.nD Cert.Ff1ReferenceIdeal.τ).loc Cert.Ff1ReferenceIdeal.main_arg0))
            (m ((c.tc : Thread Cert.Ff1ReferenceIdeal.nD Cert.Ff1ReferenceIdeal.τ).loc Cert.Ff1ReferenceIdeal.main_arg1))
        ∧ r.2.mem ((c.tc : Thread Cert.Ff1ReferenceIdeal.nD Cert.Ff1ReferenceIdeal.τ).loc Cert.Ff1ReferenceIdeal.main_arg0)
          = m ((c.tc : Thread Cert.Ff1ReferenceIdeal.nD Cert.Ff1ReferenceIdeal.τ).loc Cert.Ff1ReferenceIdeal.main_arg0)
        ∧ r.2.mem ((c.tc : Thread Cert.Ff1ReferenceIdeal.nD Cert.Ff1ReferenceIdeal.τ).loc Cert.Ff1ReferenceIdeal.main_arg1)
          = m ((c.tc : Thread Cert.Ff1ReferenceIdeal.nD Cert.Ff1ReferenceIdeal.τ).loc Cert.Ff1ReferenceIdeal.main_arg1) :=
  (Cert.Ff1ReferenceIdeal.Value.run m g).mono fun r h c => ⟨(h c).1.trans (reference_eq _ _), (h c).2⟩

theorem algebraic : Cert.algebraic_Ff1KernelIdeal_Ff1ReferenceIdeal := by
  intro m g m' g' _ hagree
  refine ⟨_, kernel_run m g, (reference_run m' g').mono fun r h c => ?_⟩
  obtain ⟨e0, e1⟩ := hagree c
  have hc := h c
  simp only [e0, e1] at hc ⊢
  exact hc

/-- The reference returns, keeps its arguments and leaves every counter at zero. -/
theorem frame_reference : Cert.quiescent_Ff1ReferenceIdeal := by
  intro m g _
  exact (reference_run m g).mono fun r h => ⟨fun c => (h c).2, sem_eq_zero_of_no_sems (by decide) _⟩

end Cert.Ff1
-- ==== Proof.WinValue.lean ====
/- The gradient of the input projection's weight: what a grid point adds, what the array holds, and what the reference computes. -/
module

public import Idealize.ShloMosaic.Lib.Pipeline.ValueKit
public import Idealize.ShloMosaic.Lib.Pipeline.ReadBack
public import proofs.«01_k».proof.Proof.Gen.WinKernelIdeal.Frame
public import proofs.«01_k».proof.Proof.Gen.WinReferenceIdeal.Read
public import proofs.«01_k».proof.Proof.Product

set_option maxRecDepth 16384

@[expose] public section

noncomputable section

open Idealize.ShloMosaic Idealize.ShloMosaic.TcCoe Idealize.SL.Sem

namespace Cert.Win

open Cert.WinKernelIdeal Cert.WinKernelIdeal.Gen Cert.Product

/-- A half's product. -/
theorem part_read (X : FVec Ideal S2048x1024 .bf16) (D : FVec Ideal S2048x1536 .bf16) (r : Fin 1024) (k : Fin 1536) :
    k0_pay2 (F := Ideal) X D (ix2 r k) = ∑ l : Fin 2048, X (ix2 l r) * D (ix2 l k) := by
  unfold_payloads
  pointwise

/-- A half's product added to what the scratch holds. -/
theorem sum_read (X : FVec Ideal S2048x1024 .bf16) (D : FVec Ideal S2048x1536 .bf16) (A : FVec Ideal S1024x1536 .f32)
    (r : Fin 1024) (k : Fin 1536) :
    k0_pay3 (F := Ideal) X D A (ix2 r k) = A (ix2 r k) + ∑ l : Fin 2048, X (ix2 l r) * D (ix2 l k) := by
  unfold_payloads
  pointwise

variable (m : (ℓ : Loc nD τ sig) → Buf (Elt Ideal) ℓ)

/-- Which block every window holds at a grid point: half `t % 2` of the rows, tile `t / 2`. -/
theorem idx : ∀ t : Fin cfg0.N, win0_0.index t = ![t.val % 2, 0] ∧ win0_1.index t = ![t.val % 2, t.val / 2]
    ∧ win0_2.index t = ![0, t.val / 2] :=
  (by decide +kernel : ∀ t : Fin grid0.N, _)

/-- The arrays the region finds: the activation and the cotangent. -/
abbrev aX (c : Dev nD) : FVec Ideal S4096x1024 .bf16 := m ((c : Thread nD τ).loc main_arg0)
abbrev aD (c : Dev nD) : FVec Ideal S4096x10752 .bf16 := m ((c : Thread nD τ).loc main_arg1)

/-- A point's blocks of them. -/
abbrev bX (c : Dev nD) (t : Fin cfg0.N) : FVec Ideal S2048x1024 .bf16 := iblk m c 0 t
abbrev bD (c : Dev nD) (t : Fin cfg0.N) : FVec Ideal S2048x1536 .bf16 := iblk m c 1 t

theorem readX (c : Dev nD) (t : Fin cfg0.N) (l : Fin 2048) (r : Fin 1024) (L : Fin 4096)
    (hL : L.val = t.val % 2 * 2048 + l.val) :
    bX m c t (ix2 l r) = aX m c (ix2 L r) := by
  blk_point [bX, bD, iblk, V, idx t, hL]

theorem readD (c : Dev nD) (t : Fin cfg0.N) (l : Fin 2048) (k : Fin 1536) (L : Fin 4096) (K : Fin 10752)
    (hL : L.val = t.val % 2 * 2048 + l.val) (hK : K.val = t.val / 2 * 1536 + k.val) :
    bD m c t (ix2 l k) = aD m c (ix2 L K) := by
  blk_point [bX, bD, iblk, V, idx t, hL, hK]

/-- What a point adds, in the arrays' own coordinates: the products of its half of the rows. -/
theorem half (c : Dev nD) (t : Fin cfg0.N) (h : Fin 2) (ht : t.val % 2 = h.val) (r : Fin 1024) (k : Fin 1536) (K : Fin 10752)
    (hK : K.val = t.val / 2 * 1536 + k.val) :
    ∑ l : Fin 2048, bX m c t (ix2 l r) * bD m c t (ix2 l k)
      = ∑ l : Fin 2048, aX m c (ix2 ⟨h.val * 2048 + l.val, by omega⟩ r) * aD m c (ix2 ⟨h.val * 2048 + l.val, by omega⟩ K) := by
  refine Finset.sum_congr rfl fun l _ => ?_
  rw [readX m c t l r ⟨h.val * 2048 + l.val, by omega⟩ (by rw [ht]), readD m c t l k ⟨h.val * 2048 + l.val, by omega⟩ K (by rw [ht]) hK]

/-- The point before a tile's last leaves the first half's products in the scratch. -/
theorem first (c : Dev nD) (t : Fin cfg0.N) (h : t.val % 2 = 0) (r : Fin 1024) (k : Fin 1536) :
    (outsAt0 m c t.val t.isLt).2 (ix2 r k) = ∑ l : Fin 2048, bX m c t (ix2 l r) * bD m c t (ix2 l k) := by
  rw [outsAt0_A m c t h (by omega) (by omega)]; frame_out; exact part_read _ _ r k

/-- A tile's last point adds the second half's products and writes the sum. -/
theorem last (c : Dev nD) (t : Fin cfg0.N) (h : t.val % 2 = 1) (r : Fin 1024) (k : Fin 1536) :
    (outsAt0 m c t.val t.isLt).1 (ix2 r k) = (outsAt0 m c (t.val - 1) (Nat.lt_of_le_of_lt (Nat.sub_le _ _) t.isLt)).2 (ix2 r k)
      + ∑ l : Fin 2048, bX m c t (ix2 l r) * bD m c t (ix2 l k) := by
  rw [outsAt0_B m c t (by omega) h h]; frame_out; simp only [read_unread_whole]; exact sum_read _ _ _ r k

/-- What a tile's last point writes, in the arrays' own coordinates: the sum over all rows. -/
theorem tile (c : Dev nD) (t : Fin cfg0.N) (ht : t.val % 2 = 1) (r : Fin 1024) (k : Fin 1536) (R : Fin 1024) (K : Fin 10752)
    (hR : R.val = r.val) (hK : K.val = t.val / 2 * 1536 + k.val) :
    (outsAt0 m c t.val t.isLt).1 (ix2 r k) = ∑ s : Fin 4096, aX m c (ix2 s R) * aD m c (ix2 s K) := by
  obtain rfl : r = R := Fin.ext hR.symm
  have hp : t.val - 1 < cfg0.N := Nat.lt_of_le_of_lt (Nat.sub_le _ _) t.isLt
  have h0 : (t.val - 1) % 2 = 0 := by omega
  have hd : (t.val - 1) / 2 = t.val / 2 := by omega
  rw [last m c t ht, first m c ⟨t.val - 1, hp⟩ h0 r k, half m c t 1 ht r k K hK,
    half m c ⟨t.val - 1, hp⟩ 0 h0 r k K (by rw [hK, ← hd])]
  exact sum_halves fun s => aX m c (ix2 s r) * aD m c (ix2 s K)

/-- The array at the end is the weight's gradient. -/
theorem final (c : Dev nD) : (dats m 0 c).arrAt 2 (cfgs 0).N = wgrad (aX m c) (aD m c) := by
  refine (dats m 0 c).arrAt_eq_of_covers 2 _ (by decide +kernel) fun t hf y => ?_
  blk_simp
  rw [after0_2]
  idx_vars y
  exact tile m c t ((flush0_2 t).mp hf) y0 y1 _ _ (by blk_simp [idx t]) (by blk_simp [idx t])

/-- The reference's array is the same gradient. -/
theorem reference_eq (X : FVec Ideal S4096x1024 .bf16) (D : FVec Ideal S4096x10752 .bf16) :
    Cert.WinReferenceIdeal.Read.val_main_v5 (F := Ideal) X D = wgrad X D := by
  funext j
  idx_vars j
  refine (congrFun (Cert.WinReferenceIdeal.Read.val_main_v5_eq (F := Ideal) X D) (ix2 j0 j1)).symm.trans ?_
  pointwise
  unfold wgrad
  exact Finset.sum_congr rfl fun s _ => mul_comm _ _

end Cert.Win
-- ==== Proof.WinClaim.lean ====
/- The call of the gradient of the input projection's weight and its reference leave the same array. -/
module

public import Idealize.ShloMosaic.Lib.Claim
public import proofs.«01_k».proof.Proof.Gen.WinKernelIdeal.Value
public import proofs.«01_k».proof.Proof.Gen.WinReferenceIdeal.Run
public import proofs.«01_k».proof.Defs
public import proofs.«01_k».proof.Proof.WinValue

@[expose] public section

noncomputable section

open Idealize.ShloMosaic Idealize.ShloMosaic.TcCoe Idealize.SL.Sem

namespace Cert.Win

/-- The kernel leaves the gradient and keeps its arguments. -/
theorem kernel_run (m : (ℓ : Loc Cert.WinKernelIdeal.nD Cert.WinKernelIdeal.τ Cert.WinKernelIdeal.sig) → Buf (Elt Ideal) ℓ)
    (g : Dev Cert.WinKernelIdeal.nD → PrngReg) :
    θ_run (Cert.WinKernelIdeal.defs (F := Ideal)) (onTc (τ := Cert.WinKernelIdeal.τ) (Cert.WinKernelIdeal.main (F := Ideal))) ⟨m, fun _ => 0, g⟩ fun r =>
      ∀ c : Dev Cert.WinKernelIdeal.nD,
        r.2.mem ((c.tc : Thread Cert.WinKernelIdeal.nD Cert.WinKernelIdeal.τ).loc Cert.WinKernelIdeal.main_v0)
          = Cert.Product.wgrad (m ((c.tc : Thread Cert.WinKernelIdeal.nD Cert.WinKernelIdeal.τ).loc Cert.WinKernelIdeal.main_arg0))
            (m ((c.tc : Thread Cert.WinKernelIdeal.nD Cert.WinKernelIdeal.τ).loc Cert.WinKernelIdeal.main_arg1))
        ∧ r.2.mem ((c.tc : Thread Cert.WinKernelIdeal.nD Cert.WinKernelIdeal.τ).loc Cert.WinKernelIdeal.main_arg0)
          = m ((c.tc : Thread Cert.WinKernelIdeal.nD Cert.WinKernelIdeal.τ).loc Cert.WinKernelIdeal.main_arg0)
        ∧ r.2.mem ((c.tc : Thread Cert.WinKernelIdeal.nD Cert.WinKernelIdeal.τ).loc Cert.WinKernelIdeal.main_arg1)
          = m ((c.tc : Thread Cert.WinKernelIdeal.nD Cert.WinKernelIdeal.τ).loc Cert.WinKernelIdeal.main_arg1) :=
  (Cert.WinKernelIdeal.Value.run_blocks m g).mono fun r h c => ⟨(h c).1.trans (final m c), (h c).2⟩

/-- The reference leaves the gradient and keeps its arguments. -/
theorem reference_run (m : (ℓ : Loc Cert.WinReferenceIdeal.nD Cert.WinReferenceIdeal.τ Cert.WinReferenceIdeal.sig) → Buf (Elt Ideal) ℓ)
    (g : Dev Cert.WinReferenceIdeal.nD → PrngReg) :
    θ_run (Cert.WinReferenceIdeal.defs (F := Ideal)) (onTc (τ := Cert.WinReferenceIdeal.τ) (Cert.WinReferenceIdeal.main (F := Ideal))) ⟨m, fun _ => 0, g⟩ fun r =>
      ∀ c : Dev Cert.WinReferenceIdeal.nD,
        r.2.mem ((c.tc : Thread Cert.WinReferenceIdeal.nD Cert.WinReferenceIdeal.τ).loc Cert.WinReferenceIdeal.main_v5)
          = Cert.Product.wgrad (m ((c.tc : Thread Cert.WinReferenceIdeal.nD Cert.WinReferenceIdeal.τ).loc Cert.WinReferenceIdeal.main_arg0))
            (m ((c.tc : Thread Cert.WinReferenceIdeal.nD Cert.WinReferenceIdeal.τ).loc Cert.WinReferenceIdeal.main_arg1))
        ∧ r.2.mem ((c.tc : Thread Cert.WinReferenceIdeal.nD Cert.WinReferenceIdeal.τ).loc Cert.WinReferenceIdeal.main_arg0)
          = m ((c.tc : Thread Cert.WinReferenceIdeal.nD Cert.WinReferenceIdeal.τ).loc Cert.WinReferenceIdeal.main_arg0)
        ∧ r.2.mem ((c.tc : Thread Cert.WinReferenceIdeal.nD Cert.WinReferenceIdeal.τ).loc Cert.WinReferenceIdeal.main_arg1)
          = m ((c.tc : Thread Cert.WinReferenceIdeal.nD Cert.WinReferenceIdeal.τ).loc Cert.WinReferenceIdeal.main_arg1) :=
  (Cert.WinReferenceIdeal.Value.run m g).mono fun r h c => ⟨(h c).1.trans (reference_eq _ _), (h c).2⟩

theorem algebraic : Cert.algebraic_WinKernelIdeal_WinReferenceIdeal := by
  intro m g m' g' _ hagree
  refine ⟨_, kernel_run m g, (reference_run m' g').mono fun r h c => ?_⟩
  obtain ⟨e0, e1⟩ := hagree c
  have hc := h c
  simp only [e0, e1] at hc ⊢
  exact hc

/-- The reference returns, keeps its arguments and leaves every counter at zero. -/
theorem frame_reference : Cert.quiescent_WinReferenceIdeal := by
  intro m g _
  exact (reference_run m g).mono fun r h => ⟨fun c => (h c).2, sem_eq_zero_of_no_sems (by decide) _⟩

end Cert.Win
-- ==== Proof.Norm.lean ====
/- The root-mean-square norm of a row over the extended reals, and its gradient in the two forms that the kernels and the derivative of the
   norm's own lines give. -/
module

public import Idealize.ShloMosaic.Lib.Pipeline.ValueKit

@[expose] public section

noncomputable section

open Idealize.ShloMosaic Idealize.ShloMosaic.TcCoe Idealize.SL.Sem

namespace Cert.Norm

/-- The width of a row and the small number under the root, as the programs write them. -/
def width : EReal := Ideal.ofBits FTy.f32 1149239296#32
def small : EReal := Ideal.ofBits FTy.f32 897988541#32
/-- Minus one half, as the derivative writes it. -/
def minusHalf : EReal := Ideal.ofBits FTy.f32 3204448256#32

theorem width_eq : width = ((1024 : ℝ) : EReal) := by
  simp [width, Ideal.ofBits, Ideal.ieee, -EReal.coe_mul]; norm_num

theorem minusHalf_eq : minusHalf = ((-(1 / 2) : ℝ) : EReal) := by
  simp [minusHalf, Ideal.ofBits, Ideal.ieee, -EReal.coe_mul, -EReal.coe_neg]; norm_num

theorem small_pos : 0 < small := by
  simp [small, Ideal.ofBits, Ideal.ieee, -EReal.coe_mul]

/-- Division by the width is a product with its reciprocal. -/
theorem div_width (x : EReal) : Ideal.div x width = x * ((1 / 1024 : ℝ) : EReal) := by
  rw [width_eq, Ideal.div_coe (by norm_num)]

/-- A matrix by its rows. -/
def row {S : Nat} {φ : FTy} (X : FVec Ideal ⟨2, ![S, 1024]⟩ φ) (r : Fin S) (l : Fin 1024) : EReal := X (ix2 r l)

/-- A row's cotangent times the gain. -/
def gained (d : Fin 1024 → EReal) {φ : FTy} (G : FVec Ideal ⟨2, ![1, 1024]⟩ φ) (k : Fin 1024) : EReal := d k * G (ix2 0 k)

/-- The mean square of a row, with the small number added. -/
def meanSq (x : Fin 1024 → EReal) : EReal := Ideal.div (∑ k, x k * x k) width + small

/-- The reciprocal of the root mean square. -/
def scale (x : Fin 1024 → EReal) : EReal := Ideal.rsqrt (meanSq x)

/-- The norm of a row, with the gain. -/
def normed (x g : Fin 1024 → EReal) (k : Fin 1024) : EReal := x k * scale x * g k

/-- The norm's gradient with respect to the row, for the cotangent `d` of the row before the gain: the kernels' form. -/
def rowGrad (x d : Fin 1024 → EReal) (k : Fin 1024) : EReal :=
  scale x * (d k - x k * scale x * Ideal.div (∑ l, d l * (x l * scale x)) width)

/-- The norm's gradient with respect to the gain: the cotangent times the row before the gain, summed over the rows. -/
def gainGrad {S : Nat} (x d : Fin S → Fin 1024 → EReal) (k : Fin 1024) : EReal := ∑ r, d r k * (x r k * scale (x r))

/-- The term that the derivative of the mean square gives, twice, in the derivative of the norm's lines. -/
def sideTerm (x d : Fin 1024 → EReal) : EReal :=
  Ideal.div ((∑ l, x l * d l) * (minusHalf * Ideal.div (scale x) (meanSq x))) width

theorem sq_nonneg (x : EReal) : 0 ≤ x * x := by
  rcases le_total 0 x with h | h
  · exact mul_nonneg h h
  · rw [← neg_mul_neg]; exact mul_nonneg (EReal.neg_nonneg.mpr h) (EReal.neg_nonneg.mpr h)

theorem meanSq_pos (x : Fin 1024 → EReal) : 0 < meanSq x := by
  refine lt_of_lt_of_le small_pos ?_
  rw [meanSq, div_width]
  refine le_add_of_nonneg_left (mul_nonneg (Finset.sum_nonneg fun k _ => sq_nonneg _) ?_)
  exact_mod_cast (by norm_num : (0 : ℝ) ≤ 1 / 1024)

/-- The reciprocal root of a positive number is a nonnegative real, and divided by the number it is its own cube. -/
theorem rsqrt_real {v : EReal} (hv : 0 < v) : ∃ r : ℝ, 0 ≤ r ∧ Ideal.rsqrt v = (r : EReal) ∧ Ideal.div (r : EReal) v = ((r * r * r : ℝ) : EReal) := by
  induction v with
  | bot => exact absurd hv (by simp)
  | top => exact ⟨0, le_rfl, by simp, by simp [Ideal.div]⟩
  | coe v =>
    have hv' : 0 < v := EReal.coe_pos.mp hv
    refine ⟨(Real.sqrt v)⁻¹, by positivity, ?_, ?_⟩
    · rw [Ideal.rsqrt_coe, if_neg (not_lt.mpr hv'.le), if_neg hv'.ne']
    · rw [Ideal.div_coe hv'.ne', ← EReal.coe_mul]
      congr 1
      rw [mul_assoc, ← mul_inv, Real.mul_self_sqrt hv'.le, one_div]

/-- A nonnegative real factor of every term of a sum is a factor of the sum. -/
theorem sum_mul_real {n : Nat} (f : Fin n → EReal) (r : ℝ) (hr : 0 ≤ r) : ∑ l, f l * (r : EReal) = (∑ l, f l) * (r : EReal) := by
  have h : (0 : EReal) ≤ (r : EReal) := EReal.coe_nonneg.mpr hr
  induction n with
  | zero => simp
  | succ n ih =>
    rw [Fin.sum_univ_succ, Fin.sum_univ_succ, ih, EReal.right_distrib_of_nonneg_of_ne_top h (EReal.coe_ne_top r)]

/-- Twice the half of a product, negated: the half's sign may be taken before the product. -/
theorem two_halves (y : EReal) (q : ℝ) (hq : 0 ≤ q) :
    y * ((-(1 / 2) * q : ℝ) : EReal) + y * ((-(1 / 2) * q : ℝ) : EReal) = -(y * (q : EReal)) := by
  have h : (0 : EReal) ≤ ((q / 2 : ℝ) : EReal) := EReal.coe_nonneg.mpr (by positivity)
  have e : ((-(1 / 2) * q : ℝ) : EReal) = -((q / 2 : ℝ) : EReal) := by rw [← EReal.coe_neg]; congr 1; ring
  rw [e, ← neg_mul_comm, ← EReal.left_distrib_of_nonneg h h, ← EReal.coe_add, add_halves, neg_mul]

/-- The gradient in the form of the derivative of the norm's lines: the direct term and twice the mean square's. -/
theorem rowGrad_eq (x d : Fin 1024 → EReal) (k : Fin 1024) :
    rowGrad x d k = d k * scale x + (x k * sideTerm x d + sideTerm x d * x k) := by
  obtain ⟨r, hr, hs, hd⟩ := rsqrt_real (meanSq_pos x)
  have hs' : scale x = (r : EReal) := hs
  have h0 : (0 : EReal) ≤ (r : EReal) := EReal.coe_nonneg.mpr hr
  have hsum : ∑ l, d l * (x l * (r : EReal)) = (∑ l, x l * d l) * (r : EReal) := by
    rw [← sum_mul_real _ r hr]
    exact Finset.sum_congr rfl fun l _ => by rw [← mul_assoc, mul_comm (d l)]
  have hside : sideTerm x d = (∑ l, x l * d l) * ((-(1 / 2) * (r * r * r * (1 / 1024)) : ℝ) : EReal) := by
    rw [sideTerm, hs', hd, div_width, minusHalf_eq, mul_assoc, ← EReal.coe_mul, ← EReal.coe_mul]
    congr 2; ring
  have hq : 0 ≤ r * r * r * (1 / 1024) := by positivity
  rw [rowGrad, hs', hsum, div_width, sub_eq_add_neg, EReal.left_distrib_of_nonneg_of_ne_top h0 (EReal.coe_ne_top r),
    mul_comm (sideTerm x d), hside, ← mul_assoc (x k), two_halves _ _ hq, mul_comm (r : EReal) (d k)]
  congr 1
  rw [mul_neg]
  congr 1
  generalize (∑ l, x l * d l) = S
  rw [show ((r * r * r * (1 / 1024) : ℝ) : EReal) = (r : EReal) * r * r * ((1 / 1024 : ℝ) : EReal) by
    rw [← EReal.coe_mul, ← EReal.coe_mul, ← EReal.coe_mul]]
  ac_rfl

end Cert.Norm
-- ==== Proof.Dh1Value.lean ====
/- The gradient that reaches the layer's input through the first norm: the product with the input projection, then the norm's gradient. -/
module

public import Idealize.ShloMosaic.Lib.Pipeline.ValueKit
public import Idealize.ShloMosaic.Lib.Pipeline.ReadBack
public import proofs.«01_k».proof.Proof.Gen.Dh1KernelIdeal.Frame
public import proofs.«01_k».proof.Proof.Gen.Dh1ReferenceIdeal.Read
public import proofs.«01_k».proof.Proof.Norm
public import proofs.«01_k».proof.Proof.Product

set_option maxRecDepth 16384

@[expose] public section

noncomputable section

open Idealize.ShloMosaic Idealize.ShloMosaic.TcCoe Idealize.SL.Sem

namespace Cert.Dh1

open Cert.Dh1KernelIdeal Cert.Dh1KernelIdeal.Gen Cert.Norm Cert.Product

/-- The arrays of the gradients: of the layer's input and of the norm's gain. -/
def dxA (C : FVec Ideal S4096x10752 .bf16) (W : FVec Ideal S1024x10752 .bf16) (X A : FVec Ideal S4096x1024 .f32)
    (G : FVec Ideal S1x1024 .f32) : FVec Ideal S4096x1024 .f32 :=
  fun j => rowGrad (row X (j 0)) (gained (back C W (j 0)) G) (j 1) + A j
def dgA (C : FVec Ideal S4096x10752 .bf16) (W : FVec Ideal S1024x10752 .bf16) (X : FVec Ideal S4096x1024 .f32) :
    FVec Ideal S1x1024 .f32 :=
  fun j => gainGrad (row X) (back C W) (j 1)

/-- A column block's product. -/
theorem part_read (C W : FVec Ideal S1024x1536 .bf16) (r k : Fin 1024) :
    k0_pay2 (F := Ideal) C W (ix2 r k) = back C W r k := by
  unfold_payloads
  pointwise
  rfl

/-- A column block's product added to what the scratch holds. -/
theorem sum_read (C W : FVec Ideal S1024x1536 .bf16) (P : FVec Ideal S1024x1024 .f32) (r k : Fin 1024) :
    k0_pay3 (F := Ideal) C W P (ix2 r k) = P (ix2 r k) + back C W r k := by
  unfold_payloads
  pointwise
  rfl

/-- The gradient of the layer's input from the finished product. -/
theorem dx_read (H X A : FVec Ideal S1024x1024 .f32) (G : FVec Ideal S1x1024 .f32) (r k : Fin 1024) :
    k0_pay6 (F := Ideal) H X A G (ix2 r k) = rowGrad (row X r) (gained (row H r) G) k + A (ix2 r k) := by
  unfold_payloads
  pointwise
  rfl

/-- A row block's part of the gain's gradient. -/
theorem dg_read (H X : FVec Ideal S1024x1024 .f32) (i : Fin 1) (k : Fin 1024) :
    k0_pay7 (F := Ideal) H X (ix2 i k) = gainGrad (row X) (row H) k := by
  unfold_payloads
  pointwise
  rfl

/-- A row block's part added to the row blocks before it. -/
theorem dg_sum_read (H X : FVec Ideal S1024x1024 .f32) (D : FVec Ideal S1x1024 .f32) (i : Fin 1) (k : Fin 1024) :
    k0_pay8 (F := Ideal) H X D (ix2 i k) = D (ix2 i k) + gainGrad (row X) (row H) k := by
  unfold_payloads
  pointwise
  rfl

variable (m : (ℓ : Loc nD τ sig) → Buf (Elt Ideal) ℓ)

/-- Which block every window holds at a grid point: row block `t / 7`, column block `t % 7`. -/
theorem idx : ∀ t : Fin cfg0.N, win0_0.index t = ![t.val / 7, t.val % 7] ∧ win0_1.index t = ![0, t.val % 7]
    ∧ win0_2.index t = ![t.val / 7, 0] ∧ win0_3.index t = ![t.val / 7, 0] ∧ win0_4.index t = ![0, 0]
    ∧ win0_5.index t = ![t.val / 7, 0] ∧ win0_6.index t = ![0, 0] :=
  (by decide +kernel : ∀ t : Fin grid0.N, _)

/-- The arrays the region finds: the cotangent of the projection, the projection, the layer's input, what is added, the gain. -/
abbrev aC (c : Dev nD) : FVec Ideal S4096x10752 .bf16 := m ((c : Thread nD τ).loc main_arg0)
abbrev aW (c : Dev nD) : FVec Ideal S1024x10752 .bf16 := m ((c : Thread nD τ).loc main_arg1)
abbrev aX (c : Dev nD) : FVec Ideal S4096x1024 .f32 := m ((c : Thread nD τ).loc main_arg2)
abbrev aA (c : Dev nD) : FVec Ideal S4096x1024 .f32 := m ((c : Thread nD τ).loc main_arg3)
abbrev aG (c : Dev nD) : FVec Ideal S1x1024 .f32 := m ((c : Thread nD τ).loc main_arg4)

/-- A point's blocks of them, and what it leaves in the scratch. -/
abbrev bC (c : Dev nD) (t : Fin cfg0.N) : FVec Ideal S1024x1536 .bf16 := iblk m c 0 t
abbrev bW (c : Dev nD) (t : Fin cfg0.N) : FVec Ideal S1024x1536 .bf16 := iblk m c 1 t
abbrev bX (c : Dev nD) (t : Fin cfg0.N) : FVec Ideal S1024x1024 .f32 := iblk m c 2 t
abbrev bA (c : Dev nD) (t : Fin cfg0.N) : FVec Ideal S1024x1024 .f32 := iblk m c 3 t
abbrev bG (c : Dev nD) (t : Fin cfg0.N) : FVec Ideal S1x1024 .f32 := iblk m c 4 t
abbrev acc (c : Dev nD) (t : Fin cfg0.N) : FVec Ideal S1024x1024 .f32 := (outsAt0 m c t.val t.isLt).2.2

theorem readC (c : Dev nD) (t : Fin cfg0.N) (r : Fin 1024) (l : Fin 1536) (R : Fin 4096) (L : Fin 10752)
    (hR : R.val = t.val / 7 * 1024 + r.val) (hL : L.val = t.val % 7 * 1536 + l.val) :
    bC m c t (ix2 r l) = aC m c (ix2 R L) := by
  blk_point [bC, iblk, V, idx t, hR, hL]

theorem readW (c : Dev nD) (t : Fin cfg0.N) (k : Fin 1024) (l : Fin 1536) (L : Fin 10752)
    (hL : L.val = t.val % 7 * 1536 + l.val) :
    bW m c t (ix2 k l) = aW m c (ix2 k L) := by
  blk_point [bW, iblk, V, idx t, hL]

theorem readX (c : Dev nD) (t : Fin cfg0.N) (r : Fin 1024) (R : Fin 4096) (hR : R.val = t.val / 7 * 1024 + r.val) :
    row (bX m c t) r = row (aX m c) R := by
  funext l
  show bX m c t (ix2 r l) = aX m c (ix2 R l)
  blk_point [bX, iblk, V, idx t, hR]

theorem readA (c : Dev nD) (t : Fin cfg0.N) (r k : Fin 1024) (R : Fin 4096) (hR : R.val = t.val / 7 * 1024 + r.val) :
    bA m c t (ix2 r k) = aA m c (ix2 R k) := by
  blk_point [bA, iblk, V, idx t, hR]

theorem readG (c : Dev nD) (t : Fin cfg0.N) (l : Fin 1024) : bG m c t (ix2 0 l) = aG m c (ix2 0 l) := by
  blk_point [bG, iblk, V, idx t]

/-- The seven column blocks' products are the product over all columns. -/
theorem acc_eq (c : Dev nD) (t : Fin cfg0.N) (ht : t.val % 7 = 6) (r : Fin 1024) (R : Fin 4096)
    (hR : R.val = t.val / 7 * 1024 + r.val) : row (acc m c t) r = back (aC m c) (aW m c) R := by
  funext k
  show acc m c t (ix2 r k) = _
  unfold acc
  rw [Pipeline.eq_sum_fin_of_reset_step_apply_of_flush (fun n h => (outsAt0 m c n h).2.2) 7 (fun _ => 0)
    (fun t j => back (bC m c t) (bW m c t) (j 0) (j 1))
    (fun t h j => by
      rw [outsAt0_A m c t h (by omega) (by omega)]; frame_out; idx_vars j
      exact (part_read _ _ _ _).trans (zero_add _).symm)
    (fun t h j => by
      by_cases h6 : t.val % 7 = 6
      · by_cases h7 : t.val < 7
        · rw [outsAt0_C m c t h (by omega) h6 h7 (by omega)]; frame_out; simp only [read_unread_whole]; idx_vars j; exact sum_read _ _ _ _ _
        · rw [outsAt0_D m c t h (by omega) h6 h7 (by omega)]; frame_out; simp only [read_unread_whole]; idx_vars j; exact sum_read _ _ _ _ _
      · rw [outsAt0_B m c t h (by omega) h6]; frame_out; simp only [read_unread_whole]; idx_vars j; exact sum_read _ _ _ _ _)
    t ht _, zero_add]
  have e : ∀ (s : Fin 7) (h : 7 * (t.val / 7) + s.val < cfg0.N),
      back (bC m c ⟨7 * (t.val / 7) + s.val, h⟩) (bW m c ⟨7 * (t.val / 7) + s.val, h⟩) r k
        = ∑ l : Fin 1536, aC m c (ix2 R ⟨s.val * 1536 + l.val, by omega⟩) * aW m c (ix2 k ⟨s.val * 1536 + l.val, by omega⟩) := by
    intro s h
    refine Finset.sum_congr rfl fun l _ => ?_
    rw [readC m c ⟨7 * (t.val / 7) + s.val, h⟩ r l R ⟨s.val * 1536 + l.val, by omega⟩ (by dsimp only; omega) (by dsimp only; omega),
      readW m c ⟨7 * (t.val / 7) + s.val, h⟩ k l ⟨s.val * 1536 + l.val, by omega⟩ (by dsimp only; omega)]
  refine (Finset.sum_congr rfl fun s _ => e s _).trans ?_
  unfold back
  exact Fin.sum_mul_add_congr fun s l hl => rfl

/-- A row block's last point finishes the product and writes the gradient of the layer's input. -/
theorem last (c : Dev nD) (t : Fin cfg0.N) (h : t.val % 7 = 6) :
    (outsAt0 m c t.val t.isLt).1 = k0_pay6 (F := Ideal) (acc m c t) (bX m c t) (bA m c t) (bG m c t) := by
  unfold acc
  by_cases h7 : t.val < 7
  · rw [outsAt0_C m c t (by omega) (by omega) h h7 (by omega)]; frame_out
  · rw [outsAt0_D m c t (by omega) (by omega) h h7 (by omega)]; frame_out

/-- What a row block's last point writes, in the arrays' own coordinates. -/
theorem tile (c : Dev nD) (t : Fin cfg0.N) (h : t.val % 7 = 6) (r k : Fin 1024) (j : S4096x1024.Idx)
    (hR : (j 0).val = t.val / 7 * 1024 + r.val) (hK : (j 1).val = k.val) :
    (outsAt0 m c t.val t.isLt).1 (ix2 r k) = dxA (aC m c) (aW m c) (aX m c) (aA m c) (aG m c) j := by
  idx_vars j
  obtain rfl : j1 = k := Fin.ext hK
  rw [last m c t h, dx_read, readX m c t r j0 hR, acc_eq m c t h r j0 hR, readA m c t r j1 j0 hR]
  refine congrArg (rowGrad (row (aX m c) j0) · j1 + aA m c (ix2 j0 j1)) (funext fun l => ?_)
  exact congrArg (back (aC m c) (aW m c) j0 l * ·) (readG m c t l)

/-- The array of the gradient of the layer's input. -/
theorem final5 (c : Dev nD) : (dats m 0 c).arrAt 5 (cfgs 0).N = dxA (aC m c) (aW m c) (aX m c) (aA m c) (aG m c) := by
  refine (dats m 0 c).arrAt_eq_of_covers 5 _ (by decide +kernel) fun t hf y => ?_
  blk_simp
  rw [after0_5]
  idx_vars y
  exact tile m c t ((flush0_5 t).mp hf) y0 y1 _ (by blk_simp [idx t]) (by blk_simp [idx t])

/-- The part of the gain's gradient that row block `i` gives. -/
def part (C : FVec Ideal S4096x10752 .bf16) (W : FVec Ideal S1024x10752 .bf16) (X : FVec Ideal S4096x1024 .f32) (k : Fin 1024)
    (i : Fin 4) : EReal :=
  ∑ r : Fin 1024, back C W ⟨i.val * 1024 + r.val, by omega⟩ k
    * (X (ix2 ⟨i.val * 1024 + r.val, by omega⟩ k) * scale (row X ⟨i.val * 1024 + r.val, by omega⟩))

/-- A row block's part of the gain's gradient, in the arrays' own coordinates. -/
theorem rows_eq (c : Dev nD) (t : Fin cfg0.N) (h : t.val % 7 = 6) (i : Fin 4) (hi : t.val / 7 = i.val) (k : Fin 1024) :
    gainGrad (row (bX m c t)) (row (acc m c t)) k
      = part (aC m c) (aW m c) (aX m c) k i := by
  unfold part gainGrad
  refine Finset.sum_congr rfl fun r _ => ?_
  have hR : i.val * 1024 + r.val = t.val / 7 * 1024 + r.val := by rw [hi]
  rw [readX m c t r ⟨i.val * 1024 + r.val, by omega⟩ hR, acc_eq m c t h r ⟨i.val * 1024 + r.val, by omega⟩ hR]
  rfl

/-- A row block's inner points leave the gain's gradient as the point before left it. -/
theorem kept (c : Dev nD) (t : Fin cfg0.N) (h : ¬t.val % 7 = 6) :
    (outsAt0 m c t.val t.isLt).2.1 = (outsAt0 m c (t.val - 1) (Nat.lt_of_le_of_lt (Nat.sub_le _ _) t.isLt)).2.1 := by
  by_cases h0 : t.val % 7 = 0
  · rw [outsAt0_A m c t h0 (by omega) h]; rfl
  · rw [outsAt0_B m c t h0 (by omega) h]; rfl

/-- So they leave what the row block before left at its last point. -/
theorem kept_run (c : Dev nD) (n : Nat) (hn : n % 7 = 6) : ∀ (j : Nat) (_ : j < 7) (h : n + j < cfg0.N) (h' : n < cfg0.N),
    (outsAt0 m c (n + j) h).2.1 = (outsAt0 m c n h').2.1
  | 0, _, _, _ => rfl
  | j + 1, hj, h, h' => (kept m c ⟨n + (j + 1), h⟩ (by dsimp only; omega)).trans
      (kept_run c n hn j (by omega) (by omega) h')

/-- The first row block's last point writes its part of the gain's gradient. -/
theorem first_gain (c : Dev nD) (t : Fin cfg0.N) (h : t.val = 6) (i : Fin 1) (k : Fin 1024) :
    (outsAt0 m c t.val t.isLt).2.1 (ix2 i k) = gainGrad (row (bX m c t)) (row (acc m c t)) k := by
  unfold acc
  rw [outsAt0_C m c t (by omega) (by omega) (by omega) (by omega) (by omega)]; frame_out; simp only [read_unread_whole]
  exact dg_read _ _ _ _

/-- The others' last points add theirs. -/
theorem next_gain (c : Dev nD) (n : Nat) (h : n % 7 = 6) (h7 : n + 7 < cfg0.N) (hn : n < cfg0.N) (i : Fin 1) (k : Fin 1024) :
    (outsAt0 m c (n + 7) h7).2.1 (ix2 i k)
      = (outsAt0 m c n hn).2.1 (ix2 i k) + gainGrad (row (bX m c ⟨n + 7, h7⟩)) (row (acc m c ⟨n + 7, h7⟩)) k := by
  rw [← kept_run m c n h 6 (by omega) (by omega) hn]
  unfold acc
  rw [outsAt0_D m c ⟨n + 7, h7⟩ (by dsimp only; omega) (by dsimp only; omega) (by dsimp only; omega) (by dsimp only; omega)
    (by dsimp only; omega)]
  frame_out
  simp only [read_unread_whole]
  exact dg_sum_read _ _ _ _ _

/-- After the last point the window holds the four row blocks' parts: the sum over all rows. -/
theorem gain_eq (c : Dev nD) (n : Nat) (h27 : n < cfg0.N) (hn : n = 6 + 7 + 7 + 7) (i : Fin 1) (k K : Fin 1024) (hK : K.val = k.val) :
    (outsAt0 m c n h27).2.1 (ix2 i k) = gainGrad (row (aX m c)) (back (aC m c) (aW m c)) K := by
  obtain rfl : K = k := Fin.ext hK
  have hN : cfg0.N = 28 := N_0
  have e0 := first_gain m c ⟨6, by omega⟩ rfl i K
  have e1 := next_gain m c 6 rfl (by omega) (by omega) i K
  have e2 := next_gain m c (6 + 7) rfl (by omega) (by omega) i K
  have e3 := next_gain m c (6 + 7 + 7) rfl (by omega) (by omega) i K
  rw [rows_eq m c ⟨6, by omega⟩ (show (6) % 7 = 6 from rfl) 0 (show (6) / 7 = 0 from rfl)] at e0
  rw [rows_eq m c ⟨6 + 7, by omega⟩ (show (6 + 7) % 7 = 6 from rfl) 1 (show (6 + 7) / 7 = 1 from rfl), e0] at e1
  rw [rows_eq m c ⟨6 + 7 + 7, by omega⟩ (show (6 + 7 + 7) % 7 = 6 from rfl) 2 (show (6 + 7 + 7) / 7 = 2 from rfl), e1] at e2
  rw [rows_eq m c ⟨6 + 7 + 7 + 7, by omega⟩ (show (6 + 7 + 7 + 7) % 7 = 6 from rfl) 3 (show (6 + 7 + 7 + 7) / 7 = 3 from rfl), e2] at e3
  subst hn
  refine e3.trans ?_
  refine (Fin.sum_univ_four (part (aC m c) (aW m c) (aX m c) K)).symm.trans ?_
  unfold part gainGrad
  exact Fin.sum_mul_add_congr (f := fun R => back (aC m c) (aW m c) R K * (aX m c (ix2 R K) * scale (row (aX m c) R)))
    fun s r hl => rfl

/-- The array of the gain's gradient. -/
theorem final6 (c : Dev nD) : (dats m 0 c).arrAt 6 (cfgs 0).N = dgA (aC m c) (aW m c) (aX m c) := by
  refine (dats m 0 c).arrAt_eq_of_covers 6 _ (by decide +kernel) fun t hf y => ?_
  blk_simp
  rw [after0_6]
  idx_vars y
  have h27 := (flush0_6 t).mp hf
  have hN := lt_of_lt_of_eq t.isLt N_0
  exact gain_eq m c t.val t.isLt (by omega) y0 y1 _ (by blk_simp [idx t])

open Cert.Dh1ReferenceIdeal.Read in
/-- The reference's arrays are the same. -/
theorem reference_dx (C : FVec Ideal S4096x10752 .bf16) (W : FVec Ideal S1024x10752 .bf16) (X A : FVec Ideal S4096x1024 .f32)
    (G : FVec Ideal S1x1024 .f32) : Cert.Dh1ReferenceIdeal.Read.val_main_v38 (F := Ideal) C W X A G = dxA C W X A G := by
  funext j
  idx_vars j
  pointwise [val_main_v38, val_main_v37, val_main_v36, val_main_v35, val_main_v34, val_main_v33, val_main_v32, val_main_v31,
    val_main_v30, val_main_v29, val_main_v28, val_main_v27, val_main_v26, val_main_v25, val_main_v24, val_main_v23, val_main_v22,
    val_main_v18, val_main_v17, val_main_v15, val_main_v10, val_main_v9, val_main_v8, val_main_v7, val_main_v6, val_main_v5,
    val_main_v4, val_main_v3, val_main_v2, val_main_v1, val_main_v0, val_main_cst, val_main_cst_0, val_main_cst_1, val_main_cst_2,
    val_main_cst_4, val_main_cst_5, val_main_cst_6]
  rw [Fin.sum_univ_one]
  have e := rowGrad_eq (row X j0) (gained (back C W j0) G) j1
  show _ = rowGrad (row X j0) (gained (back C W j0) G) j1 + A (ix2 j0 j1)
  rw [e, add_comm _ (A _), ← add_assoc, ← add_assoc]
  rfl

theorem reference_dg (C : FVec Ideal S4096x10752 .bf16) (W : FVec Ideal S1024x10752 .bf16) (X : FVec Ideal S4096x1024 .f32) :
    Cert.Dh1ReferenceIdeal.Read.val_main_v21 (F := Ideal) C W X = dgA C W X := by
  funext j
  idx_vars j
  refine (congrFun (Cert.Dh1ReferenceIdeal.Read.val_main_v21_eq (F := Ideal) C W X) (ix2 j0 j1)).symm.trans ?_
  pointwise
  exact Finset.sum_congr rfl fun r _ => mul_comm _ _

end Cert.Dh1
-- ==== Proof.Dh1Claim.lean ====
/- The call of the gradient that reaches the layer's input and its reference leave the same arrays. -/
module

public import Idealize.ShloMosaic.Lib.Claim
public import proofs.«01_k».proof.Proof.Gen.Dh1KernelIdeal.Value
public import proofs.«01_k».proof.Proof.Gen.Dh1ReferenceIdeal.Run
public import proofs.«01_k».proof.Defs
public import proofs.«01_k».proof.Proof.Dh1Value

@[expose] public section

noncomputable section

open Idealize.ShloMosaic Idealize.ShloMosaic.TcCoe Idealize.SL.Sem

namespace Cert.Dh1

open Cert.Dh1KernelIdeal in
/-- The kernel leaves the formulas and keeps its arguments. -/
theorem kernel_run (m : (ℓ : Loc nD τ sig) → Buf (Elt Ideal) ℓ) (g : Dev nD → PrngReg) :
    θ_run (Cert.Dh1KernelIdeal.defs (F := Ideal)) (onTc (τ := τ) (Cert.Dh1KernelIdeal.main (F := Ideal))) ⟨m, fun _ => 0, g⟩ fun r =>
      ∀ c : Dev nD,
        r.2.mem ((c.tc : Thread nD τ).loc main_v0_0)
          = dxA (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
        ∧ r.2.mem ((c.tc : Thread nD τ).loc main_v0_1)
          = dgA (m ((c.tc : Thread nD τ).loc main_arg0)) (m ((c.tc : Thread nD τ).loc main_arg1)) (m ((c.tc : Thread nD τ).loc main_arg2))
        ∧ r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3)
        ∧ r.2.mem ((c.tc : Thread nD τ).loc main_arg4) = m ((c.tc : Thread nD τ).loc main_arg4) := by
  refine (Cert.Dh1KernelIdeal.Value.run_blocks m g).mono fun r h c => ?_
  obtain ⟨h0, h1, k⟩ := h c
  exact ⟨h0.trans (final5 m c), h1.trans (final6 m c), k⟩

open Cert.Dh1ReferenceIdeal in
/-- The reference leaves the formulas and keeps its arguments. -/
theorem reference_run (m : (ℓ : Loc nD τ sig) → Buf (Elt Ideal) ℓ) (g : Dev nD → PrngReg) :
    θ_run (Cert.Dh1ReferenceIdeal.defs (F := Ideal)) (onTc (τ := τ) (Cert.Dh1ReferenceIdeal.main (F := Ideal))) ⟨m, fun _ => 0, g⟩ fun r =>
      ∀ c : Dev nD,
        r.2.mem ((c.tc : Thread nD τ).loc main_v38)
          = dxA (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
        ∧ r.2.mem ((c.tc : Thread nD τ).loc main_v21)
          = dgA (m ((c.tc : Thread nD τ).loc main_arg0)) (m ((c.tc : Thread nD τ).loc main_arg1)) (m ((c.tc : Thread nD τ).loc main_arg2))
        ∧ r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3)
        ∧ r.2.mem ((c.tc : Thread nD τ).loc main_arg4) = m ((c.tc : Thread nD τ).loc main_arg4) := by
  refine (Cert.Dh1ReferenceIdeal.Value.run m g).mono fun r h c => ?_
  obtain ⟨h0, h1, k⟩ := h c
  exact ⟨h0.trans ((Cert.Dh1ReferenceIdeal.Read.val_main_v38_eq m c).trans (reference_dx _ _ _ _ _)),
    h1.trans ((Cert.Dh1ReferenceIdeal.Read.val_main_v21_eq _ _ _).trans (reference_dg _ _ _)), k⟩

theorem algebraic : Cert.algebraic_Dh1KernelIdeal_Dh1ReferenceIdeal := by
  intro m g m' g' _ hagree
  refine ⟨_, _, kernel_run m g, (reference_run m' g').mono fun r h c => ?_⟩
  obtain ⟨e0, e1, e2, e3, e4⟩ := hagree c
  have hc := h c
  simp only [e0, e1, e2, e3, e4] at hc ⊢
  exact hc

/-- The reference returns, keeps its arguments and leaves every counter at zero. -/
theorem frame_reference : Cert.quiescent_Dh1ReferenceIdeal := by
  intro m g _
  exact (reference_run m g).mono fun r h => ⟨fun c => (h c).2.2, sem_eq_zero_of_no_sems (by decide) _⟩

end Cert.Dh1
-- ==== Proof.Dh3Value.lean ====
/- The gradient that reaches the feed-forward layer's input through its norm: the product with the first feed-forward weight, then the norm's gradient. -/
module

public import Idealize.ShloMosaic.Lib.Pipeline.ValueKit
public import Idealize.ShloMosaic.Lib.Pipeline.ReadBack
public import proofs.«01_k».proof.Proof.Gen.Dh3KernelIdeal.Frame
public import proofs.«01_k».proof.Proof.Gen.Dh3ReferenceIdeal.Read
public import proofs.«01_k».proof.Proof.Norm
public import proofs.«01_k».proof.Proof.Product

set_option maxRecDepth 16384

@[expose] public section

noncomputable section

open Idealize.ShloMosaic Idealize.ShloMosaic.TcCoe Idealize.SL.Sem

namespace Cert.Dh3

open Cert.Dh3KernelIdeal Cert.Dh3KernelIdeal.Gen Cert.Norm Cert.Product

/-- The arrays of the gradients: of the feed-forward layer's input and of the norm's gain. -/
def dxA (C : FVec Ideal S4096x4096 .bf16) (W : FVec Ideal S1024x4096 .bf16) (X A : FVec Ideal S4096x1024 .f32)
    (G : FVec Ideal S1x1024 .f32) : FVec Ideal S4096x1024 .f32 :=
  fun j => rowGrad (row X (j 0)) (gained (back C W (j 0)) G) (j 1) + A j
def dgA (C : FVec Ideal S4096x4096 .bf16) (W : FVec Ideal S1024x4096 .bf16) (X : FVec Ideal S4096x1024 .f32) :
    FVec Ideal S1x1024 .f32 :=
  fun j => gainGrad (row X) (back C W) (j 1)

/-- A column block's product. -/
theorem part_read (C W : FVec Ideal S1024x2048 .bf16) (r k : Fin 1024) :
    k0_pay2 (F := Ideal) C W (ix2 r k) = back C W r k := by
  unfold_payloads
  pointwise
  rfl

/-- A column block's product added to what the scratch holds. -/
theorem sum_read (C W : FVec Ideal S1024x2048 .bf16) (P : FVec Ideal S1024x1024 .f32) (r k : Fin 1024) :
    k0_pay3 (F := Ideal) C W P (ix2 r k) = P (ix2 r k) + back C W r k := by
  unfold_payloads
  pointwise
  rfl

/-- The gradient of the feed-forward layer's input from the finished product. -/
theorem dx_read (H X A : FVec Ideal S1024x1024 .f32) (G : FVec Ideal S1x1024 .f32) (r k : Fin 1024) :
    k0_pay6 (F := Ideal) H X A G (ix2 r k) = rowGrad (row X r) (gained (row H r) G) k + A (ix2 r k) := by
  unfold_payloads
  pointwise
  rfl

/-- A row block's part of the gain's gradient. -/
theorem dg_read (H X : FVec Ideal S1024x1024 .f32) (i : Fin 1) (k : Fin 1024) :
    k0_pay7 (F := Ideal) H X (ix2 i k) = gainGrad (row X) (row H) k := by
  unfold_payloads
  pointwise
  rfl

/-- A row block's part added to the row blocks before it. -/
theorem dg_sum_read (H X : FVec Ideal S1024x1024 .f32) (D : FVec Ideal S1x1024 .f32) (i : Fin 1) (k : Fin 1024) :
    k0_pay8 (F := Ideal) H X D (ix2 i k) = D (ix2 i k) + gainGrad (row X) (row H) k := by
  unfold_payloads
  pointwise
  rfl

variable (m : (ℓ : Loc nD τ sig) → Buf (Elt Ideal) ℓ)

/-- Which block every window holds at a grid point: row block `t / 2`, column block `t % 2`. -/
theorem idx : ∀ t : Fin cfg0.N, win0_0.index t = ![t.val / 2, t.val % 2] ∧ win0_1.index t = ![0, t.val % 2]
    ∧ win0_2.index t = ![t.val / 2, 0] ∧ win0_3.index t = ![t.val / 2, 0] ∧ win0_4.index t = ![0, 0]
    ∧ win0_5.index t = ![t.val / 2, 0] ∧ win0_6.index t = ![0, 0] :=
  (by decide +kernel : ∀ t : Fin grid0.N, _)

/-- The arrays the region finds: the cotangent of the first product, its weight, the feed-forward layer's input, what is added, the gain. -/
abbrev aC (c : Dev nD) : FVec Ideal S4096x4096 .bf16 := m ((c : Thread nD τ).loc main_arg0)
abbrev aW (c : Dev nD) : FVec Ideal S1024x4096 .bf16 := m ((c : Thread nD τ).loc main_arg1)
abbrev aX (c : Dev nD) : FVec Ideal S4096x1024 .f32 := m ((c : Thread nD τ).loc main_arg2)
abbrev aA (c : Dev nD) : FVec Ideal S4096x1024 .f32 := m ((c : Thread nD τ).loc main_arg3)
abbrev aG (c : Dev nD) : FVec Ideal S1x1024 .f32 := m ((c : Thread nD τ).loc main_arg4)

/-- A point's blocks of them, and what it leaves in the scratch. -/
abbrev bC (c : Dev nD) (t : Fin cfg0.N) : FVec Ideal S1024x2048 .bf16 := iblk m c 0 t
abbrev bW (c : Dev nD) (t : Fin cfg0.N) : FVec Ideal S1024x2048 .bf16 := iblk m c 1 t
abbrev bX (c : Dev nD) (t : Fin cfg0.N) : FVec Ideal S1024x1024 .f32 := iblk m c 2 t
abbrev bA (c : Dev nD) (t : Fin cfg0.N) : FVec Ideal S1024x1024 .f32 := iblk m c 3 t
abbrev bG (c : Dev nD) (t : Fin cfg0.N) : FVec Ideal S1x1024 .f32 := iblk m c 4 t
abbrev acc (c : Dev nD) (t : Fin cfg0.N) : FVec Ideal S1024x1024 .f32 := (outsAt0 m c t.val t.isLt).2.2

theorem readC (c : Dev nD) (t : Fin cfg0.N) (r : Fin 1024) (l : Fin 2048) (R : Fin 4096) (L : Fin 4096)
    (hR : R.val = t.val / 2 * 1024 + r.val) (hL : L.val = t.val % 2 * 2048 + l.val) :
    bC m c t (ix2 r l) = aC m c (ix2 R L) := by
  blk_point [bC, iblk, V, idx t, hR, hL]

theorem readW (c : Dev nD) (t : Fin cfg0.N) (k : Fin 1024) (l : Fin 2048) (L : Fin 4096)
    (hL : L.val = t.val % 2 * 2048 + l.val) :
    bW m c t (ix2 k l) = aW m c (ix2 k L) := by
  blk_point [bW, iblk, V, idx t, hL]

theorem readX (c : Dev nD) (t : Fin cfg0.N) (r : Fin 1024) (R : Fin 4096) (hR : R.val = t.val / 2 * 1024 + r.val) :
    row (bX m c t) r = row (aX m c) R := by
  funext l
  show bX m c t (ix2 r l) = aX m c (ix2 R l)
  blk_point [bX, iblk, V, idx t, hR]

theorem readA (c : Dev nD) (t : Fin cfg0.N) (r k : Fin 1024) (R : Fin 4096) (hR : R.val = t.val / 2 * 1024 + r.val) :
    bA m c t (ix2 r k) = aA m c (ix2 R k) := by
  blk_point [bA, iblk, V, idx t, hR]

theorem readG (c : Dev nD) (t : Fin cfg0.N) (l : Fin 1024) : bG m c t (ix2 0 l) = aG m c (ix2 0 l) := by
  blk_point [bG, iblk, V, idx t]

/-- The two column blocks' products are the product over all columns. -/
theorem acc_eq (c : Dev nD) (t : Fin cfg0.N) (ht : t.val % 2 = 1) (r : Fin 1024) (R : Fin 4096)
    (hR : R.val = t.val / 2 * 1024 + r.val) : row (acc m c t) r = back (aC m c) (aW m c) R := by
  funext k
  show acc m c t (ix2 r k) = _
  unfold acc
  rw [Pipeline.eq_sum_fin_of_reset_step_apply_of_flush (fun n h => (outsAt0 m c n h).2.2) 2 (fun _ => 0)
    (fun t j => back (bC m c t) (bW m c t) (j 0) (j 1))
    (fun t h j => by
      rw [outsAt0_A m c t h (by omega) (by omega)]; frame_out; idx_vars j
      exact (part_read _ _ _ _).trans (zero_add _).symm)
    (fun t h j => by
      by_cases h2 : t.val < 2
      · rw [outsAt0_B m c t h (by omega) (by omega) h2 (by omega)]; frame_out; simp only [read_unread_whole]; idx_vars j
        exact sum_read _ _ _ _ _
      · rw [outsAt0_C m c t h (by omega) (by omega) h2 (by omega)]; frame_out; simp only [read_unread_whole]; idx_vars j
        exact sum_read _ _ _ _ _)
    t ht _, zero_add]
  have e : ∀ (s : Fin 2) (h : 2 * (t.val / 2) + s.val < cfg0.N),
      back (bC m c ⟨2 * (t.val / 2) + s.val, h⟩) (bW m c ⟨2 * (t.val / 2) + s.val, h⟩) r k
        = ∑ l : Fin 2048, aC m c (ix2 R ⟨s.val * 2048 + l.val, by omega⟩) * aW m c (ix2 k ⟨s.val * 2048 + l.val, by omega⟩) := by
    intro s h
    refine Finset.sum_congr rfl fun l _ => ?_
    rw [readC m c ⟨2 * (t.val / 2) + s.val, h⟩ r l R ⟨s.val * 2048 + l.val, by omega⟩ (by dsimp only; omega) (by dsimp only; omega),
      readW m c ⟨2 * (t.val / 2) + s.val, h⟩ k l ⟨s.val * 2048 + l.val, by omega⟩ (by dsimp only; omega)]
  refine (Finset.sum_congr rfl fun s _ => e s _).trans ?_
  unfold back
  exact Fin.sum_mul_add_congr fun s l hl => rfl

/-- A row block's last point finishes the product and writes the gradient of the feed-forward layer's input. -/
theorem last (c : Dev nD) (t : Fin cfg0.N) (h : t.val % 2 = 1) :
    (outsAt0 m c t.val t.isLt).1 = k0_pay6 (F := Ideal) (acc m c t) (bX m c t) (bA m c t) (bG m c t) := by
  unfold acc
  by_cases h2 : t.val < 2
  · rw [outsAt0_B m c t (by omega) h h h2 (by omega)]; frame_out
  · rw [outsAt0_C m c t (by omega) h h h2 (by omega)]; frame_out

/-- What a row block's last point writes, in the arrays' own coordinates. -/
theorem tile (c : Dev nD) (t : Fin cfg0.N) (h : t.val % 2 = 1) (r k : Fin 1024) (j : S4096x1024.Idx)
    (hR : (j 0).val = t.val / 2 * 1024 + r.val) (hK : (j 1).val = k.val) :
    (outsAt0 m c t.val t.isLt).1 (ix2 r k) = dxA (aC m c) (aW m c) (aX m c) (aA m c) (aG m c) j := by
  idx_vars j
  obtain rfl : j1 = k := Fin.ext hK
  rw [last m c t h, dx_read, readX m c t r j0 hR, acc_eq m c t h r j0 hR, readA m c t r j1 j0 hR]
  refine congrArg (rowGrad (row (aX m c) j0) · j1 + aA m c (ix2 j0 j1)) (funext fun l => ?_)
  exact congrArg (back (aC m c) (aW m c) j0 l * ·) (readG m c t l)

/-- The array of the gradient of the feed-forward layer's input. -/
theorem final5 (c : Dev nD) : (dats m 0 c).arrAt 5 (cfgs 0).N = dxA (aC m c) (aW m c) (aX m c) (aA m c) (aG m c) := by
  refine (dats m 0 c).arrAt_eq_of_covers 5 _ (by decide +kernel) fun t hf y => ?_
  blk_simp
  rw [after0_5]
  idx_vars y
  exact tile m c t ((flush0_5 t).mp hf) y0 y1 _ (by blk_simp [idx t]) (by blk_simp [idx t])

/-- The part of the gain's gradient that row block `i` gives. -/
def part (C : FVec Ideal S4096x4096 .bf16) (W : FVec Ideal S1024x4096 .bf16) (X : FVec Ideal S4096x1024 .f32) (k : Fin 1024)
    (i : Fin 4) : EReal :=
  ∑ r : Fin 1024, back C W ⟨i.val * 1024 + r.val, by omega⟩ k
    * (X (ix2 ⟨i.val * 1024 + r.val, by omega⟩ k) * scale (row X ⟨i.val * 1024 + r.val, by omega⟩))

/-- A row block's part of the gain's gradient, in the arrays' own coordinates. -/
theorem rows_eq (c : Dev nD) (t : Fin cfg0.N) (h : t.val % 2 = 1) (i : Fin 4) (hi : t.val / 2 = i.val) (k : Fin 1024) :
    gainGrad (row (bX m c t)) (row (acc m c t)) k
      = part (aC m c) (aW m c) (aX m c) k i := by
  unfold part gainGrad
  refine Finset.sum_congr rfl fun r _ => ?_
  have hR : i.val * 1024 + r.val = t.val / 2 * 1024 + r.val := by rw [hi]
  rw [readX m c t r ⟨i.val * 1024 + r.val, by omega⟩ hR, acc_eq m c t h r ⟨i.val * 1024 + r.val, by omega⟩ hR]
  rfl

/-- A row block's first point leaves the gain's gradient as the row block before left it. -/
theorem kept (c : Dev nD) (t : Fin cfg0.N) (h : t.val % 2 = 0) :
    (outsAt0 m c t.val t.isLt).2.1 = (outsAt0 m c (t.val - 1) (Nat.lt_of_le_of_lt (Nat.sub_le _ _) t.isLt)).2.1 := by
  rw [outsAt0_A m c t h (by omega) (by omega)]; rfl

/-- The first row block's last point writes its part of the gain's gradient. -/
theorem first_gain (c : Dev nD) (t : Fin cfg0.N) (h : t.val = 1) (i : Fin 1) (k : Fin 1024) :
    (outsAt0 m c t.val t.isLt).2.1 (ix2 i k) = gainGrad (row (bX m c t)) (row (acc m c t)) k := by
  unfold acc
  rw [outsAt0_B m c t (by omega) (by omega) (by omega) (by omega) (by omega)]; frame_out; simp only [read_unread_whole]
  exact dg_read _ _ _ _

/-- The others' last points add theirs. -/
theorem next_gain (c : Dev nD) (n : Nat) (h : n % 2 = 1) (h2 : n + 2 < cfg0.N) (hn : n < cfg0.N) (i : Fin 1) (k : Fin 1024) :
    (outsAt0 m c (n + 2) h2).2.1 (ix2 i k)
      = (outsAt0 m c n hn).2.1 (ix2 i k) + gainGrad (row (bX m c ⟨n + 2, h2⟩)) (row (acc m c ⟨n + 2, h2⟩)) k := by
  rw [show (outsAt0 m c n hn).2.1 = (outsAt0 m c (n + 1) (by omega)).2.1 from
    (kept m c ⟨n + 1, by omega⟩ (by dsimp only; omega)).symm]
  unfold acc
  rw [outsAt0_C m c ⟨n + 2, h2⟩ (by dsimp only; omega) (by dsimp only; omega) (by dsimp only; omega) (by dsimp only; omega)
    (by dsimp only; omega)]
  frame_out
  simp only [read_unread_whole]
  exact dg_sum_read _ _ _ _ _

/-- After the last point the window holds the four row blocks' parts: the sum over all rows. -/
theorem gain_eq (c : Dev nD) (n : Nat) (hlt : n < cfg0.N) (hn : n = 1 + 2 + 2 + 2) (i : Fin 1) (k K : Fin 1024) (hK : K.val = k.val) :
    (outsAt0 m c n hlt).2.1 (ix2 i k) = gainGrad (row (aX m c)) (back (aC m c) (aW m c)) K := by
  obtain rfl : K = k := Fin.ext hK
  have hN : cfg0.N = 8 := N_0
  have e0 := first_gain m c ⟨1, by omega⟩ rfl i K
  have e1 := next_gain m c 1 rfl (by omega) (by omega) i K
  have e2 := next_gain m c (1 + 2) rfl (by omega) (by omega) i K
  have e3 := next_gain m c (1 + 2 + 2) rfl (by omega) (by omega) i K
  rw [rows_eq m c ⟨1, by omega⟩ (show (1) % 2 = 1 from rfl) 0 (show (1) / 2 = 0 from rfl)] at e0
  rw [rows_eq m c ⟨1 + 2, by omega⟩ (show (1 + 2) % 2 = 1 from rfl) 1 (show (1 + 2) / 2 = 1 from rfl), e0] at e1
  rw [rows_eq m c ⟨1 + 2 + 2, by omega⟩ (show (1 + 2 + 2) % 2 = 1 from rfl) 2 (show (1 + 2 + 2) / 2 = 2 from rfl), e1] at e2
  rw [rows_eq m c ⟨1 + 2 + 2 + 2, by omega⟩ (show (1 + 2 + 2 + 2) % 2 = 1 from rfl) 3 (show (1 + 2 + 2 + 2) / 2 = 3 from rfl), e2] at e3
  subst hn
  refine e3.trans ?_
  refine (Fin.sum_univ_four (part (aC m c) (aW m c) (aX m c) K)).symm.trans ?_
  unfold part gainGrad
  exact Fin.sum_mul_add_congr (f := fun R => back (aC m c) (aW m c) R K * (aX m c (ix2 R K) * scale (row (aX m c) R)))
    fun s r hl => rfl

/-- The array of the gain's gradient. -/
theorem final6 (c : Dev nD) : (dats m 0 c).arrAt 6 (cfgs 0).N = dgA (aC m c) (aW m c) (aX m c) := by
  refine (dats m 0 c).arrAt_eq_of_covers 6 _ (by decide +kernel) fun t hf y => ?_
  blk_simp
  rw [after0_6]
  idx_vars y
  have hlt := (flush0_6 t).mp hf
  have hN := lt_of_lt_of_eq t.isLt N_0
  exact gain_eq m c t.val t.isLt (by omega) y0 y1 _ (by blk_simp [idx t])

open Cert.Dh3ReferenceIdeal.Read in
/-- The reference's arrays are the same. -/
theorem reference_dx (C : FVec Ideal S4096x4096 .bf16) (W : FVec Ideal S1024x4096 .bf16) (X A : FVec Ideal S4096x1024 .f32)
    (G : FVec Ideal S1x1024 .f32) : Cert.Dh3ReferenceIdeal.Read.val_main_v38 (F := Ideal) C W X A G = dxA C W X A G := by
  funext j
  idx_vars j
  pointwise [val_main_v38, val_main_v37, val_main_v36, val_main_v35, val_main_v34, val_main_v33, val_main_v32, val_main_v31,
    val_main_v30, val_main_v29, val_main_v28, val_main_v27, val_main_v26, val_main_v25, val_main_v24, val_main_v23, val_main_v22,
    val_main_v18, val_main_v17, val_main_v15, val_main_v10, val_main_v9, val_main_v8, val_main_v7, val_main_v6, val_main_v5,
    val_main_v4, val_main_v3, val_main_v2, val_main_v1, val_main_v0, val_main_cst, val_main_cst_0, val_main_cst_1, val_main_cst_2,
    val_main_cst_4, val_main_cst_5, val_main_cst_6]
  rw [Fin.sum_univ_one]
  have e := rowGrad_eq (row X j0) (gained (back C W j0) G) j1
  show _ = rowGrad (row X j0) (gained (back C W j0) G) j1 + A (ix2 j0 j1)
  rw [e, add_comm _ (A _), ← add_assoc, ← add_assoc]
  rfl

theorem reference_dg (C : FVec Ideal S4096x4096 .bf16) (W : FVec Ideal S1024x4096 .bf16) (X : FVec Ideal S4096x1024 .f32) :
    Cert.Dh3ReferenceIdeal.Read.val_main_v21 (F := Ideal) C W X = dgA C W X := by
  funext j
  idx_vars j
  refine (congrFun (Cert.Dh3ReferenceIdeal.Read.val_main_v21_eq (F := Ideal) C W X) (ix2 j0 j1)).symm.trans ?_
  pointwise
  exact Finset.sum_congr rfl fun r _ => mul_comm _ _

end Cert.Dh3
-- ==== Proof.Dh3Claim.lean ====
/- The call of the gradient that reaches the feed-forward layer's input and its reference leave the same arrays. -/
module

public import Idealize.ShloMosaic.Lib.Claim
public import proofs.«01_k».proof.Proof.Gen.Dh3KernelIdeal.Value
public import proofs.«01_k».proof.Proof.Gen.Dh3ReferenceIdeal.Run
public import proofs.«01_k».proof.Defs
public import proofs.«01_k».proof.Proof.Dh3Value

@[expose] public section

noncomputable section

open Idealize.ShloMosaic Idealize.ShloMosaic.TcCoe Idealize.SL.Sem

namespace Cert.Dh3

open Cert.Dh3KernelIdeal in
/-- The kernel leaves the formulas and keeps its arguments. -/
theorem kernel_run (m : (ℓ : Loc nD τ sig) → Buf (Elt Ideal) ℓ) (g : Dev nD → PrngReg) :
    θ_run (Cert.Dh3KernelIdeal.defs (F := Ideal)) (onTc (τ := τ) (Cert.Dh3KernelIdeal.main (F := Ideal))) ⟨m, fun _ => 0, g⟩ fun r =>
      ∀ c : Dev nD,
        r.2.mem ((c.tc : Thread nD τ).loc main_v0_0)
          = dxA (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
        ∧ r.2.mem ((c.tc : Thread nD τ).loc main_v0_1)
          = dgA (m ((c.tc : Thread nD τ).loc main_arg0)) (m ((c.tc : Thread nD τ).loc main_arg1)) (m ((c.tc : Thread nD τ).loc main_arg2))
        ∧ r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3)
        ∧ r.2.mem ((c.tc : Thread nD τ).loc main_arg4) = m ((c.tc : Thread nD τ).loc main_arg4) := by
  refine (Cert.Dh3KernelIdeal.Value.run_blocks m g).mono fun r h c => ?_
  obtain ⟨h0, h1, k⟩ := h c
  exact ⟨h0.trans (final5 m c), h1.trans (final6 m c), k⟩

open Cert.Dh3ReferenceIdeal in
/-- The reference leaves the formulas and keeps its arguments. -/
theorem reference_run (m : (ℓ : Loc nD τ sig) → Buf (Elt Ideal) ℓ) (g : Dev nD → PrngReg) :
    θ_run (Cert.Dh3ReferenceIdeal.defs (F := Ideal)) (onTc (τ := τ) (Cert.Dh3ReferenceIdeal.main (F := Ideal))) ⟨m, fun _ => 0, g⟩ fun r =>
      ∀ c : Dev nD,
        r.2.mem ((c.tc : Thread nD τ).loc main_v38)
          = dxA (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
        ∧ r.2.mem ((c.tc : Thread nD τ).loc main_v21)
          = dgA (m ((c.tc : Thread nD τ).loc main_arg0)) (m ((c.tc : Thread nD τ).loc main_arg1)) (m ((c.tc : Thread nD τ).loc main_arg2))
        ∧ r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3)
        ∧ r.2.mem ((c.tc : Thread nD τ).loc main_arg4) = m ((c.tc : Thread nD τ).loc main_arg4) := by
  refine (Cert.Dh3ReferenceIdeal.Value.run m g).mono fun r h c => ?_
  obtain ⟨h0, h1, k⟩ := h c
  exact ⟨h0.trans ((Cert.Dh3ReferenceIdeal.Read.val_main_v38_eq m c).trans (reference_dx _ _ _ _ _)),
    h1.trans ((Cert.Dh3ReferenceIdeal.Read.val_main_v21_eq _ _ _).trans (reference_dg _ _ _)), k⟩

theorem algebraic : Cert.algebraic_Dh3KernelIdeal_Dh3ReferenceIdeal := by
  intro m g m' g' _ hagree
  refine ⟨_, _, kernel_run m g, (reference_run m' g').mono fun r h c => ?_⟩
  obtain ⟨e0, e1, e2, e3, e4⟩ := hagree c
  have hc := h c
  simp only [e0, e1, e2, e3, e4] at hc ⊢
  exact hc

/-- The reference returns, keeps its arguments and leaves every counter at zero. -/
theorem frame_reference : Cert.quiescent_Dh3ReferenceIdeal := by
  intro m g _
  exact (reference_run m g).mono fun r h => ⟨fun c => (h c).2.2, sem_eq_zero_of_no_sems (by decide) _⟩

end Cert.Dh3
-- ==== Proof.RmsValue.lean ====
/- The gradient of a post-norm: what a grid point writes, what the arrays hold, and what the reference computes. -/
module

public import Idealize.ShloMosaic.Lib.Pipeline.ValueKit
public import Idealize.ShloMosaic.Lib.Pipeline.ReadBack
public import proofs.«01_k».proof.Proof.Gen.RmsKernelIdeal.Frame
public import proofs.«01_k».proof.Proof.Gen.RmsReferenceIdeal.Read
public import proofs.«01_k».proof.Proof.Norm

set_option maxRecDepth 16384

@[expose] public section

noncomputable section

open Idealize.ShloMosaic Idealize.ShloMosaic.TcCoe Idealize.SL.Sem

namespace Cert.Rms

open Cert.RmsKernelIdeal Cert.RmsKernelIdeal.Gen Cert.Norm

/-- The cotangent of a row before the gain. -/
def ungained {S : Nat} (D : FVec Ideal ⟨2, ![S, 1024]⟩ .f32) (G : FVec Ideal S1x1024 .f32) (r : Fin S) (l : Fin 1024) : EReal :=
  D (ix2 r l) * G (ix2 0 l)

/-- The gradient with respect to the rows, and with respect to the gain. -/
def dxA (X : FVec Ideal S4096x1024 .f32) (G : FVec Ideal S1x1024 .f32) (D : FVec Ideal S4096x1024 .f32) : S4096x1024.Idx → EReal :=
  fun j => rowGrad (row X (j 0)) (ungained D G (j 0)) (j 1)
def dgA (X D : FVec Ideal S4096x1024 .f32) : S1x1024.Idx → EReal := fun j => gainGrad (row X) (row D) (j 1)

theorem dx_read (X D : FVec Ideal S512x1024 .f32) (G : FVec Ideal S1x1024 .f32) (r : Fin 512) (k : Fin 1024) :
    k0_pay3 (F := Ideal) X D G (ix2 r k) = rowGrad (row X r) (ungained D G r) k := by
  unfold_payloads
  pointwise
  rfl

theorem dg_read (X D : FVec Ideal S512x1024 .f32) (z : Fin 1) (k : Fin 1024) :
    k0_pay4 (F := Ideal) X D (ix2 z k) = gainGrad (row X) (row D) k := by
  unfold_payloads
  pointwise
  rfl

theorem sum_read (X D : FVec Ideal S512x1024 .f32) (A : FVec Ideal S1x1024 .f32) (z : Fin 1) (k : Fin 1024) :
    k0_pay5 (F := Ideal) X D A (ix2 z k) = A (ix2 z k) + gainGrad (row X) (row D) k := by
  rw [← dg_read X D z k]
  unfold k0_pay5
  pointwise

variable (m : (ℓ : Loc nD τ sig) → Buf (Elt Ideal) ℓ)

/-- Which block every window holds at a grid point: rows `512 t` and on; the gain and its gradient stay. -/
theorem idx : ∀ t : Fin cfg0.N, win0_0.index t = ![t.val, 0] ∧ win0_1.index t = ![0, 0] ∧ win0_2.index t = ![t.val, 0]
    ∧ win0_3.index t = ![t.val, 0] ∧ win0_4.index t = ![0, 0] :=
  (by decide +kernel : ∀ t : Fin grid0.N, _)

/-- The arrays the region finds: the rows, the gain and the cotangent. -/
abbrev aX (c : Dev nD) : FVec Ideal S4096x1024 .f32 := m ((c : Thread nD τ).loc main_arg0)
abbrev aG (c : Dev nD) : FVec Ideal S1x1024 .f32 := m ((c : Thread nD τ).loc main_arg1)
abbrev aD (c : Dev nD) : FVec Ideal S4096x1024 .f32 := m ((c : Thread nD τ).loc main_arg2)

/-- A point's blocks of them. -/
abbrev bX (c : Dev nD) (t : Fin cfg0.N) : FVec Ideal S512x1024 .f32 := iblk m c 0 t
abbrev bG (c : Dev nD) (t : Fin cfg0.N) : FVec Ideal S1x1024 .f32 := iblk m c 1 t
abbrev bD (c : Dev nD) (t : Fin cfg0.N) : FVec Ideal S512x1024 .f32 := iblk m c 2 t

theorem readX (c : Dev nD) (t : Fin cfg0.N) (r : Fin 512) (R : Fin 4096) (hR : R.val = t.val * 512 + r.val) :
    row (bX m c t) r = row (aX m c) R := by
  funext l
  show bX m c t (ix2 r l) = aX m c (ix2 R l)
  blk_point [bX, iblk, V, idx t, hR]

theorem readD (c : Dev nD) (t : Fin cfg0.N) (r : Fin 512) (R : Fin 4096) (hR : R.val = t.val * 512 + r.val) :
    row (bD m c t) r = row (aD m c) R := by
  funext l
  show bD m c t (ix2 r l) = aD m c (ix2 R l)
  blk_point [bD, iblk, V, idx t, hR]

theorem readG (c : Dev nD) (t : Fin cfg0.N) (l : Fin 1024) : bG m c t (ix2 0 l) = aG m c (ix2 0 l) := by
  blk_point [bG, iblk, V, idx t]

/-- What a point writes of the rows' gradient, in the arrays' own coordinates. -/
theorem tile (c : Dev nD) (t : Fin cfg0.N) (r : Fin 512) (k : Fin 1024) (R : Fin 4096) (K : Fin 1024)
    (hR : R.val = t.val * 512 + r.val) (hK : K.val = k.val) :
    (outsAt0 m c t.val t.isLt).1 (ix2 r k) = dxA (aX m c) (aG m c) (aD m c) (ix2 R K) := by
  obtain rfl : K = k := Fin.ext hK
  have e : k0_pay3 (F := Ideal) (bX m c t) (bD m c t) (bG m c t) (ix2 r K) = dxA (aX m c) (aG m c) (aD m c) (ix2 R K) := by
    rw [dx_read, readX m c t r R hR]
    refine congrArg (rowGrad (row (aX m c) R) · K) (funext fun l => ?_)
    exact congrArg₂ (· * ·) (congrFun (readD m c t r R hR) l) (readG m c t l)
  by_cases h : t.val % 8 = 0
  · rw [outsAt0_A m c t h (by have := lt_of_lt_of_eq t.isLt N_0; omega)]; frame_out; exact e
  · rw [outsAt0_B m c t h (by omega)]; frame_out; exact e

/-- What a point adds to the gain's gradient: the sum over its rows. -/
def part (c : Dev nD) (t : Fin cfg0.N) (k : Fin 1024) : EReal := gainGrad (row (bX m c t)) (row (bD m c t)) k

/-- The array of the rows' gradient. -/
theorem final3 (c : Dev nD) : (dats m 0 c).arrAt 3 (cfgs 0).N = dxA (aX m c) (aG m c) (aD m c) := by
  refine (dats m 0 c).arrAt_eq_of_covers 3 _ (by decide +kernel) fun t hf y => ?_
  blk_simp
  rw [after0_3]
  idx_vars y
  exact tile m c t y0 y1 _ _ (by blk_simp [idx t]) (by blk_simp [idx t])

/-- The eight tiles' sums of 512 rows each are the sum over all rows. -/
theorem run_rows (c : Dev nD) (n : Nat) (hn : n = 0) (h : ∀ s : Fin 8, 8 * n + s.val < cfg0.N) (k K : Fin 1024) (hK : K.val = k.val) :
    ∑ s : Fin 8, part m c ⟨8 * n + s.val, h s⟩ k = gainGrad (row (aX m c)) (row (aD m c)) K := by
  obtain rfl : K = k := Fin.ext hK
  subst hn
  have e : ∀ s : Fin 8, part m c ⟨8 * 0 + s.val, h s⟩ K = ∑ r : Fin 512, aD m c (ix2 ⟨s.val * 512 + r.val, by omega⟩ K)
      * (aX m c (ix2 ⟨s.val * 512 + r.val, by omega⟩ K) * scale (row (aX m c) ⟨s.val * 512 + r.val, by omega⟩)) := by
    intro s
    unfold part gainGrad
    refine Finset.sum_congr rfl fun r _ => ?_
    have hR : s.val * 512 + r.val = (8 * 0 + s.val) * 512 + r.val := by omega
    rw [readX m c ⟨8 * 0 + s.val, h s⟩ r ⟨s.val * 512 + r.val, by omega⟩ hR, readD m c ⟨8 * 0 + s.val, h s⟩ r ⟨s.val * 512 + r.val, by omega⟩ hR]
    rfl
  rw [Finset.sum_congr rfl fun s _ => e s]
  unfold gainGrad
  exact Fin.sum_mul_add_congr (f := fun R => aD m c (ix2 R K) * (aX m c (ix2 R K) * scale (row (aX m c) R))) fun s r hl => rfl

/-- The array of the gain's gradient: eight tiles of 512 rows add up to the sum over all rows. -/
theorem final4 (c : Dev nD) : (dats m 0 c).arrAt 4 (cfgs 0).N = dgA (aX m c) (aD m c) := by
  refine (dats m 0 c).arrAt_eq_of_covers 4 _ (by decide +kernel) fun t hf y => ?_
  blk_simp
  rw [after0_4]
  idx_vars y
  rw [Pipeline.eq_sum_fin_of_reset_step_apply_of_flush (fun n h => (outsAt0 m c n h).2) 8 (fun _ => 0)
    (fun t j => part m c t (j 1))
    (fun t h j => by
      rw [outsAt0_A m c t h (by have := lt_of_lt_of_eq t.isLt N_0; omega)]; frame_out; idx_vars j
      exact (dg_read _ _ _ _).trans (zero_add _).symm)
    (fun t h j => by
      rw [outsAt0_B m c t h (by omega)]; frame_out; idx_vars j; exact sum_read _ _ _ _ _)
    t ((flush0_4 t).mp hf) _, zero_add]
  have ht : t.val < 8 := lt_of_lt_of_eq t.isLt N_0
  exact run_rows m c (t.val / 8) (by omega) _ y1 _ (by blk_simp [idx t])

/-- The reference's arrays are the same gradients. -/
theorem reference_dx (X : FVec Ideal S4096x1024 .f32) (G : FVec Ideal S1x1024 .f32) (D : FVec Ideal S4096x1024 .f32) :
    Cert.RmsReferenceIdeal.Read.val_main_v34 (F := Ideal) X G D = dxA X G D := by
  funext j
  idx_vars j
  refine (congrFun (Cert.RmsReferenceIdeal.Read.val_main_v34_eq (F := Ideal) X G D) (ix2 j0 j1)).symm.trans ?_
  pointwise
  rw [Fin.sum_univ_one]
  exact (add_assoc _ _ _).trans (rowGrad_eq (row X j0) (ungained D G j0) j1).symm

theorem reference_dg (X : FVec Ideal S4096x1024 .f32) (D : FVec Ideal S4096x1024 .f32) :
    Cert.RmsReferenceIdeal.Read.val_main_v17 (F := Ideal) X D = dgA X D := by
  funext j
  idx_vars j
  refine (congrFun (Cert.RmsReferenceIdeal.Read.val_main_v17_eq (F := Ideal) X D) (ix2 j0 j1)).symm.trans ?_
  pointwise
  exact Finset.sum_congr rfl fun r _ => mul_comm _ _

end Cert.Rms
-- ==== Proof.RmsClaim.lean ====
/- The call of the norm's gradient and its reference leave the same arrays. -/
module

public import Idealize.ShloMosaic.Lib.Claim
public import proofs.«01_k».proof.Proof.Gen.RmsKernelIdeal.Value
public import proofs.«01_k».proof.Proof.Gen.RmsReferenceIdeal.Run
public import proofs.«01_k».proof.Defs
public import proofs.«01_k».proof.Proof.RmsValue

@[expose] public section

noncomputable section

open Idealize.ShloMosaic Idealize.ShloMosaic.TcCoe Idealize.SL.Sem

namespace Cert.Rms

open Cert.RmsKernelIdeal in
/-- The kernel leaves the formulas and keeps its arguments. -/
theorem kernel_run (m : (ℓ : Loc nD τ sig) → Buf (Elt Ideal) ℓ) (g : Dev nD → PrngReg) :
    θ_run (Cert.RmsKernelIdeal.defs (F := Ideal)) (onTc (τ := τ) (Cert.RmsKernelIdeal.main (F := Ideal))) ⟨m, fun _ => 0, g⟩ fun r =>
      ∀ c : Dev nD,
        r.2.mem ((c.tc : Thread nD τ).loc main_v0_0)
          = dxA (m ((c.tc : Thread nD τ).loc main_arg0)) (m ((c.tc : Thread nD τ).loc main_arg1)) (m ((c.tc : Thread nD τ).loc main_arg2))
        ∧ r.2.mem ((c.tc : Thread nD τ).loc main_v0_1)
          = dgA (m ((c.tc : Thread nD τ).loc main_arg0)) (m ((c.tc : Thread nD τ).loc main_arg2))
        ∧ r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2) := by
  refine (Cert.RmsKernelIdeal.Value.run_blocks m g).mono fun r h c => ?_
  obtain ⟨h0, h1, k⟩ := h c
  exact ⟨h0.trans (final3 m c), h1.trans (final4 m c), k⟩

open Cert.RmsReferenceIdeal in
/-- The reference leaves the formulas and keeps its arguments. -/
theorem reference_run (m : (ℓ : Loc nD τ sig) → Buf (Elt Ideal) ℓ) (g : Dev nD → PrngReg) :
    θ_run (Cert.RmsReferenceIdeal.defs (F := Ideal)) (onTc (τ := τ) (Cert.RmsReferenceIdeal.main (F := Ideal))) ⟨m, fun _ => 0, g⟩ fun r =>
      ∀ c : Dev nD,
        r.2.mem ((c.tc : Thread nD τ).loc main_v34)
          = dxA (m ((c.tc : Thread nD τ).loc main_arg0)) (m ((c.tc : Thread nD τ).loc main_arg1)) (m ((c.tc : Thread nD τ).loc main_arg2))
        ∧ r.2.mem ((c.tc : Thread nD τ).loc main_v17)
          = dgA (m ((c.tc : Thread nD τ).loc main_arg0)) (m ((c.tc : Thread nD τ).loc main_arg2))
        ∧ r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2) := by
  refine (Cert.RmsReferenceIdeal.Value.run m g).mono fun r h c => ?_
  obtain ⟨h0, h1, k⟩ := h c
  exact ⟨h0.trans ((Cert.RmsReferenceIdeal.Read.val_main_v34_eq _ _ _).trans (reference_dx _ _ _)),
    h1.trans ((Cert.RmsReferenceIdeal.Read.val_main_v17_eq _ _).trans (reference_dg _ _)), k⟩

theorem algebraic : Cert.algebraic_RmsKernelIdeal_RmsReferenceIdeal := by
  intro m g m' g' _ hagree
  refine ⟨_, _, kernel_run m g, (reference_run m' g').mono fun r h c => ?_⟩
  obtain ⟨e0, e1, e2⟩ := hagree c
  have hc := h c
  simp only [e0, e1, e2] at hc ⊢
  exact hc

/-- The reference returns, keeps its arguments and leaves every counter at zero. -/
theorem frame_reference : Cert.quiescent_RmsReferenceIdeal := by
  intro m g _
  exact (reference_run m g).mono fun r h => ⟨fun c => (h c).2.2, sem_eq_zero_of_no_sems (by decide) _⟩

end Cert.Rms
-- ==== Proof.PjValue.lean ====
/- The input projection: what a grid point writes, what the array holds, and what the reference computes. -/
module

public import Idealize.ShloMosaic.Lib.Pipeline.ValueKit
public import proofs.«01_k».proof.Proof.Gen.PjKernelIdeal.Frame
public import proofs.«01_k».proof.Proof.Gen.PjReferenceIdeal.Read
public import proofs.«01_k».proof.Proof.Product

set_option maxRecDepth 16384

@[expose] public section

noncomputable section

open Idealize.ShloMosaic Idealize.ShloMosaic.TcCoe Idealize.SL.Sem

namespace Cert.Pj

open Cert.PjKernelIdeal Cert.PjKernelIdeal.Gen Cert.Product

/-- The array of the projection. -/
def projA (X : FVec Ideal S4096x1024 .bf16) (W : FVec Ideal S1024x10752 .bf16) : FVec Ideal S4096x10752 .f32 :=
  fun j => prod X W (j 0) (j 1)

/-- A tile's product. -/
theorem out_read (X : FVec Ideal S2048x1024 .bf16) (W : FVec Ideal S1024x1536 .bf16) (r : Fin 2048) (k : Fin 1536) :
    k0_pay1 (F := Ideal) X W (ix2 r k) = prod X W r k := by
  unfold_payloads
  pointwise
  rfl

variable (m : (ℓ : Loc nD τ sig) → Buf (Elt Ideal) ℓ)

/-- Which block every window holds at a grid point: row tile `t / 7`, column tile `t % 7`. -/
theorem idx : ∀ t : Fin cfg0.N, win0_0.index t = ![t.val / 7, 0] ∧ win0_1.index t = ![0, t.val % 7]
    ∧ win0_2.index t = ![t.val / 7, t.val % 7] :=
  (by decide +kernel : ∀ t : Fin grid0.N, _)

/-- The arrays the region finds: the normed input and the projection's weight. -/
abbrev aX (c : Dev nD) : FVec Ideal S4096x1024 .bf16 := m ((c : Thread nD τ).loc main_arg0)
abbrev aW (c : Dev nD) : FVec Ideal S1024x10752 .bf16 := m ((c : Thread nD τ).loc main_arg1)

/-- A point's blocks of them. -/
abbrev bX (c : Dev nD) (t : Fin cfg0.N) : FVec Ideal S2048x1024 .bf16 := iblk m c 0 t
abbrev bW (c : Dev nD) (t : Fin cfg0.N) : FVec Ideal S1024x1536 .bf16 := iblk m c 1 t

theorem readX (c : Dev nD) (t : Fin cfg0.N) (r : Fin 2048) (l : Fin 1024) (R : Fin 4096) (hR : R.val = t.val / 7 * 2048 + r.val) :
    bX m c t (ix2 r l) = aX m c (ix2 R l) := by
  blk_point [bX, iblk, V, idx t, hR]

theorem readW (c : Dev nD) (t : Fin cfg0.N) (l : Fin 1024) (k : Fin 1536) (K : Fin 10752) (hK : K.val = t.val % 7 * 1536 + k.val) :
    bW m c t (ix2 l k) = aW m c (ix2 l K) := by
  blk_point [bW, iblk, V, idx t, hK]

/-- What a point writes, in the arrays' own coordinates. -/
theorem tile (c : Dev nD) (t : Fin cfg0.N) (r : Fin 2048) (k : Fin 1536) (R : Fin 4096) (K : Fin 10752)
    (hR : R.val = t.val / 7 * 2048 + r.val) (hK : K.val = t.val % 7 * 1536 + k.val) :
    out0_2 (F := Ideal) (iblk m c 0 t) (iblk m c 1 t) (ix2 r k) = projA (aX m c) (aW m c) (ix2 R K) := by
  unfold out0_2
  frame_out
  refine (out_read (bX m c t) (bW m c t) r k).trans ?_
  show prod _ _ _ _ = prod _ _ _ _
  unfold prod
  refine Finset.sum_congr rfl fun l _ => ?_
  rw [readX m c t r l R hR, readW m c t l k K hK]
  rfl

/-- The array at the end is the projection. -/
theorem final (c : Dev nD) : (dats m 0 c).arrAt 2 (cfgs 0).N = projA (aX m c) (aW m c) := by
  refine (dats m 0 c).arrAt_eq_of_covers 2 _ (by decide +kernel) fun t hf y => ?_
  blk_simp
  rw [after0_2]
  idx_vars y
  exact tile m c t y0 y1 _ _ (by blk_simp [idx t]) (by blk_simp [idx t])

/-- The reference's array is the same projection. -/
theorem reference_eq (X : FVec Ideal S4096x1024 .bf16) (W : FVec Ideal S1024x10752 .bf16) :
    Cert.PjReferenceIdeal.Read.val_main_v2 (F := Ideal) X W = projA X W := by
  funext j
  idx_vars j
  refine (congrFun (Cert.PjReferenceIdeal.Read.val_main_v2_eq (F := Ideal) X W) (ix2 j0 j1)).symm.trans ?_
  pointwise
  rfl

end Cert.Pj
-- ==== Proof.PjClaim.lean ====
/- The input projection and its reference leave the same arrays. -/
module

public import Idealize.ShloMosaic.Lib.Claim
public import proofs.«01_k».proof.Proof.Gen.PjKernelIdeal.Value
public import proofs.«01_k».proof.Proof.Gen.PjReferenceIdeal.Run
public import proofs.«01_k».proof.Defs
public import proofs.«01_k».proof.Proof.PjValue

@[expose] public section

noncomputable section

open Idealize.ShloMosaic Idealize.ShloMosaic.TcCoe Idealize.SL.Sem

namespace Cert.Pj

open Cert.PjKernelIdeal in
/-- The kernel leaves the formulas and keeps its arguments. -/
theorem kernel_run (m : (ℓ : Loc nD τ sig) → Buf (Elt Ideal) ℓ) (g : Dev nD → PrngReg) :
    θ_run (Cert.PjKernelIdeal.defs (F := Ideal)) (onTc (τ := τ) (Cert.PjKernelIdeal.main (F := Ideal))) ⟨m, fun _ => 0, g⟩ fun r =>
      ∀ c : Dev nD,
        r.2.mem ((c.tc : Thread nD τ).loc main_v0)
          = projA (m ((c.tc : Thread nD τ).loc main_arg0)) (m ((c.tc : Thread nD τ).loc main_arg1))
        ∧ r.2.mem ((c.tc : Thread nD τ).loc main_arg0) = m ((c.tc : Thread nD τ).loc main_arg0)
        ∧ r.2.mem ((c.tc : Thread nD τ).loc main_arg1) = m ((c.tc : Thread nD τ).loc main_arg1) := by
  refine (Cert.PjKernelIdeal.Value.run_blocks m g).mono fun r h c => ?_
  obtain ⟨h0, k⟩ := h c
  exact ⟨h0.trans (final m c), k⟩

open Cert.PjReferenceIdeal in
/-- The reference leaves the formulas and keeps its arguments. -/
theorem reference_run (m : (ℓ : Loc nD τ sig) → Buf (Elt Ideal) ℓ) (g : Dev nD → PrngReg) :
    θ_run (Cert.PjReferenceIdeal.defs (F := Ideal)) (onTc (τ := τ) (Cert.PjReferenceIdeal.main (F := Ideal))) ⟨m, fun _ => 0, g⟩ fun r =>
      ∀ c : Dev nD,
        r.2.mem ((c.tc : Thread nD τ).loc main_v2)
          = projA (m ((c.tc : Thread nD τ).loc main_arg0)) (m ((c.tc : Thread nD τ).loc main_arg1))
        ∧ r.2.mem ((c.tc : Thread nD τ).loc main_arg0) = m ((c.tc : Thread nD τ).loc main_arg0)
        ∧ r.2.mem ((c.tc : Thread nD τ).loc main_arg1) = m ((c.tc : Thread nD τ).loc main_arg1) := by
  refine (Cert.PjReferenceIdeal.Value.run m g).mono fun r h c => ?_
  obtain ⟨h0, k⟩ := h c
  exact ⟨h0.trans ((Cert.PjReferenceIdeal.Read.val_main_v2_eq _ _).trans (reference_eq _ _)), k⟩

theorem algebraic : Cert.algebraic_PjKernelIdeal_PjReferenceIdeal := by
  intro m g m' g' _ hagree
  refine ⟨_, kernel_run m g, (reference_run m' g').mono fun r h c => ?_⟩
  obtain ⟨e0, e1⟩ := hagree c
  have hc := h c
  simp only [e0, e1] at hc ⊢
  exact hc

/-- The reference returns, keeps its arguments and leaves every counter at zero. -/
theorem frame_reference : Cert.quiescent_PjReferenceIdeal := by
  intro m g _
  exact (reference_run m g).mono fun r h => ⟨fun c => (h c).2, sem_eq_zero_of_no_sems (by decide) _⟩

end Cert.Pj
-- ==== Proof.UpValue.lean ====
/- The first feed-forward product and its squared relu: what a grid point writes, what the arrays hold, and what the reference computes. -/
module

public import Idealize.ShloMosaic.Lib.Pipeline.ValueKit
public import proofs.«01_k».proof.Proof.Gen.UpKernelIdeal.Frame
public import proofs.«01_k».proof.Proof.Gen.UpReferenceIdeal.Read
public import proofs.«01_k».proof.Proof.Product

set_option maxRecDepth 16384

@[expose] public section

noncomputable section

open Idealize.ShloMosaic Idealize.ShloMosaic.TcCoe Idealize.SL.Sem

namespace Cert.Up

open Cert.UpKernelIdeal Cert.UpKernelIdeal.Gen Cert.Product

/-- The squared relu. -/
def sqrelu (x : EReal) : EReal := max x 0 * max x 0

/-- The arrays: the product, and its squared relu. -/
def preA (X : FVec Ideal S4096x1024 .bf16) (W : FVec Ideal S1024x4096 .bf16) : FVec Ideal S4096x4096 .f32 :=
  fun j => prod X W (j 0) (j 1)
def actA (X : FVec Ideal S4096x1024 .bf16) (W : FVec Ideal S1024x4096 .bf16) : FVec Ideal S4096x4096 .bf16 :=
  fun j => sqrelu (prod X W (j 0) (j 1))

/-- A tile's product. -/
theorem pre_read (X : FVec Ideal S2048x1024 .bf16) (W : FVec Ideal S1024x1024 .bf16) (r : Fin 2048) (k : Fin 1024) :
    k0_pay1 (F := Ideal) X W (ix2 r k) = prod X W r k := by
  unfold_payloads
  pointwise
  rfl

/-- A tile's squared relu. -/
theorem act_read (X : FVec Ideal S2048x1024 .bf16) (W : FVec Ideal S1024x1024 .bf16) (r : Fin 2048) (k : Fin 1024) :
    k0_pay2 (F := Ideal) X W (ix2 r k) = sqrelu (prod X W r k) := by
  unfold_payloads
  pointwise
  rfl

variable (m : (ℓ : Loc nD τ sig) → Buf (Elt Ideal) ℓ)

/-- Which block every window holds at a grid point: row tile `t / 4`, column tile `t % 4`. -/
theorem idx : ∀ t : Fin cfg0.N, win0_0.index t = ![t.val / 4, 0] ∧ win0_1.index t = ![0, t.val % 4]
    ∧ win0_2.index t = ![t.val / 4, t.val % 4] ∧ win0_3.index t = ![t.val / 4, t.val % 4] :=
  (by decide +kernel : ∀ t : Fin grid0.N, _)

/-- The arrays the region finds: the normed input and the weight. -/
abbrev aX (c : Dev nD) : FVec Ideal S4096x1024 .bf16 := m ((c : Thread nD τ).loc main_arg0)
abbrev aW (c : Dev nD) : FVec Ideal S1024x4096 .bf16 := m ((c : Thread nD τ).loc main_arg1)

/-- A point's blocks of them. -/
abbrev bX (c : Dev nD) (t : Fin cfg0.N) : FVec Ideal S2048x1024 .bf16 := iblk m c 0 t
abbrev bW (c : Dev nD) (t : Fin cfg0.N) : FVec Ideal S1024x1024 .bf16 := iblk m c 1 t

theorem readX (c : Dev nD) (t : Fin cfg0.N) (r : Fin 2048) (l : Fin 1024) (R : Fin 4096) (hR : R.val = t.val / 4 * 2048 + r.val) :
    bX m c t (ix2 r l) = aX m c (ix2 R l) := by
  blk_point [bX, iblk, V, idx t, hR]

theorem readW (c : Dev nD) (t : Fin cfg0.N) (l : Fin 1024) (k : Fin 1024) (K : Fin 4096) (hK : K.val = t.val % 4 * 1024 + k.val) :
    bW m c t (ix2 l k) = aW m c (ix2 l K) := by
  blk_point [bW, iblk, V, idx t, hK]

/-- A tile's product, in the arrays' own coordinates. -/
theorem tile (c : Dev nD) (t : Fin cfg0.N) (r : Fin 2048) (k : Fin 1024) (R : Fin 4096) (K : Fin 4096)
    (hR : R.val = t.val / 4 * 2048 + r.val) (hK : K.val = t.val % 4 * 1024 + k.val) :
    prod (bX m c t) (bW m c t) r k = prod (aX m c) (aW m c) R K := by
  refine Finset.sum_congr rfl fun l _ => ?_
  rw [readX m c t r l R hR, readW m c t l k K hK]

theorem tile_pre (c : Dev nD) (t : Fin cfg0.N) (r : Fin 2048) (k : Fin 1024) (R : Fin 4096) (K : Fin 4096)
    (hR : R.val = t.val / 4 * 2048 + r.val) (hK : K.val = t.val % 4 * 1024 + k.val) :
    out0_2 (F := Ideal) (iblk m c 0 t) (iblk m c 1 t) (ix2 r k) = preA (aX m c) (aW m c) (ix2 R K) := by
  unfold out0_2
  frame_out
  exact (pre_read (bX m c t) (bW m c t) r k).trans (tile m c t r k R K hR hK)

theorem tile_act (c : Dev nD) (t : Fin cfg0.N) (r : Fin 2048) (k : Fin 1024) (R : Fin 4096) (K : Fin 4096)
    (hR : R.val = t.val / 4 * 2048 + r.val) (hK : K.val = t.val % 4 * 1024 + k.val) :
    out0_3 (F := Ideal) (iblk m c 0 t) (iblk m c 1 t) (ix2 r k) = actA (aX m c) (aW m c) (ix2 R K) := by
  unfold out0_3
  frame_out
  exact (act_read (bX m c t) (bW m c t) r k).trans (congrArg sqrelu (tile m c t r k R K hR hK))

/-- The arrays at the end are the product and its squared relu. -/
theorem final2 (c : Dev nD) : (dats m 0 c).arrAt 2 (cfgs 0).N = preA (aX m c) (aW m c) := by
  refine (dats m 0 c).arrAt_eq_of_covers 2 _ (by decide +kernel) fun t hf y => ?_
  blk_simp
  rw [after0_2]
  idx_vars y
  exact tile_pre m c t y0 y1 _ _ (by blk_simp [idx t]) (by blk_simp [idx t])

theorem final3 (c : Dev nD) : (dats m 0 c).arrAt 3 (cfgs 0).N = actA (aX m c) (aW m c) := by
  refine (dats m 0 c).arrAt_eq_of_covers 3 _ (by decide +kernel) fun t hf y => ?_
  blk_simp
  rw [after0_3]
  idx_vars y
  exact tile_act m c t y0 y1 _ _ (by blk_simp [idx t]) (by blk_simp [idx t])

/-- The reference's arrays are the same. -/
theorem reference_pre (X : FVec Ideal S4096x1024 .bf16) (W : FVec Ideal S1024x4096 .bf16) :
    Cert.UpReferenceIdeal.Read.val_main_v2 (F := Ideal) X W = preA X W := by
  funext j
  idx_vars j
  refine (congrFun (Cert.UpReferenceIdeal.Read.val_main_v2_eq (F := Ideal) X W) (ix2 j0 j1)).symm.trans ?_
  pointwise
  rfl

theorem reference_act (X : FVec Ideal S4096x1024 .bf16) (W : FVec Ideal S1024x4096 .bf16) :
    Cert.UpReferenceIdeal.Read.val_main_v5 (F := Ideal) X W = actA X W := by
  funext j
  idx_vars j
  refine (congrFun (Cert.UpReferenceIdeal.Read.val_main_v5_eq (F := Ideal) X W) (ix2 j0 j1)).symm.trans ?_
  pointwise
  rfl

end Cert.Up
-- ==== Proof.UpClaim.lean ====
/- The first feed-forward product and its reference leave the same arrays. -/
module

public import Idealize.ShloMosaic.Lib.Claim
public import proofs.«01_k».proof.Proof.Gen.UpKernelIdeal.Value
public import proofs.«01_k».proof.Proof.Gen.UpReferenceIdeal.Run
public import proofs.«01_k».proof.Defs
public import proofs.«01_k».proof.Proof.UpValue

@[expose] public section

noncomputable section

open Idealize.ShloMosaic Idealize.ShloMosaic.TcCoe Idealize.SL.Sem

namespace Cert.Up

open Cert.UpKernelIdeal in
/-- The kernel leaves the formulas and keeps its arguments. -/
theorem kernel_run (m : (ℓ : Loc nD τ sig) → Buf (Elt Ideal) ℓ) (g : Dev nD → PrngReg) :
    θ_run (Cert.UpKernelIdeal.defs (F := Ideal)) (onTc (τ := τ) (Cert.UpKernelIdeal.main (F := Ideal))) ⟨m, fun _ => 0, g⟩ fun r =>
      ∀ c : Dev nD,
        r.2.mem ((c.tc : Thread nD τ).loc main_v0_0)
          = preA (m ((c.tc : Thread nD τ).loc main_arg0)) (m ((c.tc : Thread nD τ).loc main_arg1))
        ∧ r.2.mem ((c.tc : Thread nD τ).loc main_v0_1)
          = actA (m ((c.tc : Thread nD τ).loc main_arg0)) (m ((c.tc : Thread nD τ).loc main_arg1))
        ∧ r.2.mem ((c.tc : Thread nD τ).loc main_arg0) = m ((c.tc : Thread nD τ).loc main_arg0)
        ∧ r.2.mem ((c.tc : Thread nD τ).loc main_arg1) = m ((c.tc : Thread nD τ).loc main_arg1) := by
  refine (Cert.UpKernelIdeal.Value.run_blocks m g).mono fun r h c => ?_
  obtain ⟨h0, h1, k⟩ := h c
  exact ⟨h0.trans (final2 m c), h1.trans (final3 m c), k⟩

open Cert.UpReferenceIdeal in
/-- The reference leaves the formulas and keeps its arguments. -/
theorem reference_run (m : (ℓ : Loc nD τ sig) → Buf (Elt Ideal) ℓ) (g : Dev nD → PrngReg) :
    θ_run (Cert.UpReferenceIdeal.defs (F := Ideal)) (onTc (τ := τ) (Cert.UpReferenceIdeal.main (F := Ideal))) ⟨m, fun _ => 0, g⟩ fun r =>
      ∀ c : Dev nD,
        r.2.mem ((c.tc : Thread nD τ).loc main_v2)
          = preA (m ((c.tc : Thread nD τ).loc main_arg0)) (m ((c.tc : Thread nD τ).loc main_arg1))
        ∧ r.2.mem ((c.tc : Thread nD τ).loc main_v5)
          = actA (m ((c.tc : Thread nD τ).loc main_arg0)) (m ((c.tc : Thread nD τ).loc main_arg1))
        ∧ r.2.mem ((c.tc : Thread nD τ).loc main_arg0) = m ((c.tc : Thread nD τ).loc main_arg0)
        ∧ r.2.mem ((c.tc : Thread nD τ).loc main_arg1) = m ((c.tc : Thread nD τ).loc main_arg1) := by
  refine (Cert.UpReferenceIdeal.Value.run m g).mono fun r h c => ?_
  obtain ⟨h0, h1, k⟩ := h c
  exact ⟨h0.trans ((Cert.UpReferenceIdeal.Read.val_main_v2_eq _ _).trans (reference_pre _ _)),
    h1.trans ((Cert.UpReferenceIdeal.Read.val_main_v5_eq _ _).trans (reference_act _ _)), k⟩

theorem algebraic : Cert.algebraic_UpKernelIdeal_UpReferenceIdeal := by
  intro m g m' g' _ hagree
  refine ⟨_, _, kernel_run m g, (reference_run m' g').mono fun r h c => ?_⟩
  obtain ⟨e0, e1⟩ := hagree c
  have hc := h c
  simp only [e0, e1] at hc ⊢
  exact hc

/-- The reference returns, keeps its arguments and leaves every counter at zero. -/
theorem frame_reference : Cert.quiescent_UpReferenceIdeal := by
  intro m g _
  exact (reference_run m g).mono fun r h => ⟨fun c => (h c).2.2, sem_eq_zero_of_no_sems (by decide) _⟩

end Cert.Up
-- ==== Proof.DnValue.lean ====
/- The second feed-forward product with the norms behind it: what the grid points leave, what the arrays hold, and what the reference
   computes. -/
module

public import Idealize.ShloMosaic.Lib.Pipeline.ValueKit
public import Idealize.ShloMosaic.Lib.Pipeline.ReadBack
public import proofs.«01_k».proof.Proof.Gen.DnKernelIdeal.Frame
public import proofs.«01_k».proof.Proof.Gen.DnReferenceIdeal.Read
public import proofs.«01_k».proof.Proof.Norm
public import proofs.«01_k».proof.Proof.Product

set_option maxRecDepth 16384

@[expose] public section

noncomputable section

open Idealize.ShloMosaic Idealize.ShloMosaic.TcCoe Idealize.SL.Sem

namespace Cert.Dn

open Cert.DnKernelIdeal Cert.DnKernelIdeal.Gen Cert.Norm Cert.Product

/-- A gain by its entries. -/
def gain (G : FVec Ideal S1x1024 .f32) (l : Fin 1024) : EReal := G (ix2 0 l)

/-- The layer's output row: what the layer took plus the norm of the product. -/
def outRow (x h : Fin 1024 → EReal) (G : FVec Ideal S1x1024 .f32) (k : Fin 1024) : EReal := x k + normed h (gain G) k

/-- The arrays: the product, the layer's output and the norm that the next layer takes of it. -/
def ffA (X : FVec Ideal S4096x4096 .bf16) (W : FVec Ideal S4096x1024 .bf16) : FVec Ideal S4096x1024 .f32 :=
  fun j => prod X W (j 0) (j 1)
def xA (X : FVec Ideal S4096x4096 .bf16) (W : FVec Ideal S4096x1024 .bf16) (R : FVec Ideal S4096x1024 .f32)
    (G : FVec Ideal S1x1024 .f32) : FVec Ideal S4096x1024 .f32 :=
  fun j => outRow (row R (j 0)) (prod X W (j 0)) G (j 1)
def hA (X : FVec Ideal S4096x4096 .bf16) (W : FVec Ideal S4096x1024 .bf16) (R : FVec Ideal S4096x1024 .f32)
    (G Gn : FVec Ideal S1x1024 .f32) : FVec Ideal S4096x1024 .bf16 :=
  fun j => normed (outRow (row R (j 0)) (prod X W (j 0)) G) (gain Gn) (j 1)

/-- A half's product. -/
theorem part_read (X : FVec Ideal S1024x2048 .bf16) (W : FVec Ideal S2048x1024 .bf16) (r k : Fin 1024) :
    k0_pay2 (F := Ideal) X W (ix2 r k) = prod X W r k := by
  unfold_payloads
  pointwise
  rfl

/-- A half's product added to what the scratch holds. -/
theorem sum_read (X : FVec Ideal S1024x2048 .bf16) (W : FVec Ideal S2048x1024 .bf16) (P : FVec Ideal S1024x1024 .f32) (r k : Fin 1024) :
    k0_pay3 (F := Ideal) X W P (ix2 r k) = P (ix2 r k) + prod X W r k := by
  unfold_payloads
  pointwise
  rfl

/-- The layer's output from the finished product. -/
theorem x_read (H R : FVec Ideal S1024x1024 .f32) (G : FVec Ideal S1x1024 .f32) (r k : Fin 1024) :
    k0_pay4 (F := Ideal) H R G (ix2 r k) = outRow (row R r) (row H r) G k := by
  unfold_payloads
  pointwise
  exact add_comm _ _

/-- The next norm from the layer's output. -/
theorem h_read (H R : FVec Ideal S1024x1024 .f32) (G Gn : FVec Ideal S1x1024 .f32) (r k : Fin 1024) :
    k0_pay5 (F := Ideal) H R G Gn (ix2 r k) = normed (outRow (row R r) (row H r) G) (gain Gn) k := by
  unfold k0_pay5
  pointwise [x_read]
  rfl

variable (m : (ℓ : Loc nD τ sig) → Buf (Elt Ideal) ℓ)

/-- Which block every window holds at a grid point: row block `t / 2`, half `t % 2` of the inner dimension. -/
theorem idx : ∀ t : Fin cfg0.N, win0_0.index t = ![t.val / 2, t.val % 2] ∧ win0_1.index t = ![t.val % 2, 0]
    ∧ win0_2.index t = ![t.val / 2, 0] ∧ win0_3.index t = ![0, 0] ∧ win0_4.index t = ![0, 0]
    ∧ win0_5.index t = ![t.val / 2, 0] ∧ win0_6.index t = ![t.val / 2, 0] ∧ win0_7.index t = ![t.val / 2, 0] :=
  (by decide +kernel : ∀ t : Fin grid0.N, _)

/-- The arrays the region finds: the activation, the weight, what the layer took, the norm's gain and the next norm's. -/
abbrev aX (c : Dev nD) : FVec Ideal S4096x4096 .bf16 := m ((c : Thread nD τ).loc main_arg0)
abbrev aW (c : Dev nD) : FVec Ideal S4096x1024 .bf16 := m ((c : Thread nD τ).loc main_arg1)
abbrev aR (c : Dev nD) : FVec Ideal S4096x1024 .f32 := m ((c : Thread nD τ).loc main_arg2)
abbrev aG (c : Dev nD) : FVec Ideal S1x1024 .f32 := m ((c : Thread nD τ).loc main_arg3)
abbrev aGn (c : Dev nD) : FVec Ideal S1x1024 .f32 := m ((c : Thread nD τ).loc main_arg4)

/-- A point's blocks of them. -/
abbrev bX (c : Dev nD) (t : Fin cfg0.N) : FVec Ideal S1024x2048 .bf16 := iblk m c 0 t
abbrev bW (c : Dev nD) (t : Fin cfg0.N) : FVec Ideal S2048x1024 .bf16 := iblk m c 1 t
abbrev bR (c : Dev nD) (t : Fin cfg0.N) : FVec Ideal S1024x1024 .f32 := iblk m c 2 t
abbrev bG (c : Dev nD) (t : Fin cfg0.N) : FVec Ideal S1x1024 .f32 := iblk m c 3 t
abbrev bGn (c : Dev nD) (t : Fin cfg0.N) : FVec Ideal S1x1024 .f32 := iblk m c 4 t

theorem readX (c : Dev nD) (t : Fin cfg0.N) (r : Fin 1024) (l : Fin 2048) (R : Fin 4096) (L : Fin 4096)
    (hR : R.val = t.val / 2 * 1024 + r.val) (hL : L.val = t.val % 2 * 2048 + l.val) :
    bX m c t (ix2 r l) = aX m c (ix2 R L) := by
  blk_point [bX, iblk, V, idx t, hR, hL]

theorem readW (c : Dev nD) (t : Fin cfg0.N) (l : Fin 2048) (k : Fin 1024) (L : Fin 4096) (hL : L.val = t.val % 2 * 2048 + l.val) :
    bW m c t (ix2 l k) = aW m c (ix2 L k) := by
  blk_point [bW, iblk, V, idx t, hL]

theorem readR (c : Dev nD) (t : Fin cfg0.N) (r : Fin 1024) (R : Fin 4096) (hR : R.val = t.val / 2 * 1024 + r.val) :
    row (bR m c t) r = row (aR m c) R := by
  funext l
  show bR m c t (ix2 r l) = aR m c (ix2 R l)
  blk_point [bR, iblk, V, idx t, hR]

theorem readG (c : Dev nD) (t : Fin cfg0.N) : bG m c t = aG m c := by
  funext j
  idx_vars j
  obtain rfl : j0 = 0 := Subsingleton.elim _ _
  blk_point [bG, iblk, V, idx t]

theorem readGn (c : Dev nD) (t : Fin cfg0.N) : bGn m c t = aGn m c := by
  funext j
  idx_vars j
  obtain rfl : j0 = 0 := Subsingleton.elim _ _
  blk_point [bGn, iblk, V, idx t]

/-- What a point adds, in the arrays' own coordinates: the products of its half of the inner dimension. -/
theorem half (c : Dev nD) (t : Fin cfg0.N) (h : Fin 2) (ht : t.val % 2 = h.val) (r k : Fin 1024) (R : Fin 4096)
    (hR : R.val = t.val / 2 * 1024 + r.val) :
    prod (bX m c t) (bW m c t) r k
      = ∑ l : Fin 2048, aX m c (ix2 R ⟨h.val * 2048 + l.val, by omega⟩) * aW m c (ix2 ⟨h.val * 2048 + l.val, by omega⟩ k) := by
  refine Finset.sum_congr rfl fun l _ => ?_
  rw [readX m c t r l R ⟨h.val * 2048 + l.val, by omega⟩ hR (by rw [ht]), readW m c t l k ⟨h.val * 2048 + l.val, by omega⟩ (by rw [ht])]

/-- A row block's first point leaves the first half's products in the scratch. -/
theorem first (c : Dev nD) (t : Fin cfg0.N) (h : t.val % 2 = 0) (r k : Fin 1024) :
    (outsAt0 m c t.val t.isLt).2.2.2 (ix2 r k) = prod (bX m c t) (bW m c t) r k := by
  rw [outsAt0_A m c t h (by omega) (by omega)]; frame_out; exact part_read _ _ r k

/-- What the scratch and the first result hold at a row block's last point: the second half's products added. -/
def acc (c : Dev nD) (t : Fin cfg0.N) : FVec Ideal S1024x1024 .f32 :=
  k0_pay3 (F := Ideal) (bX m c t) (bW m c t) (outsAt0 m c (t.val - 1) (Nat.lt_of_le_of_lt (Nat.sub_le _ _) t.isLt)).2.2.2

/-- That is the product over the whole inner dimension. -/
theorem acc_eq (c : Dev nD) (t : Fin cfg0.N) (ht : t.val % 2 = 1) (r : Fin 1024) (R : Fin 4096)
    (hR : R.val = t.val / 2 * 1024 + r.val) : row (acc m c t) r = prod (aX m c) (aW m c) R := by
  funext k
  have hp : t.val - 1 < cfg0.N := Nat.lt_of_le_of_lt (Nat.sub_le _ _) t.isLt
  have h0 : (t.val - 1) % 2 = 0 := by omega
  have hd : (t.val - 1) / 2 = t.val / 2 := by omega
  refine (sum_read _ _ _ r k).trans ?_
  rw [first m c ⟨t.val - 1, hp⟩ h0 r k, half m c t 1 ht r k R hR, half m c ⟨t.val - 1, hp⟩ 0 h0 r k R (by rw [hR, ← hd])]
  exact sum_halves fun s => aX m c (ix2 R s) * aW m c (ix2 s k)

/-- What a row block's last point writes. -/
theorem last5 (c : Dev nD) (t : Fin cfg0.N) (h : t.val % 2 = 1) : (outsAt0 m c t.val t.isLt).1 = acc m c t := by
  unfold acc
  rw [outsAt0_B m c t (by omega) h h]; frame_out; simp only [read_unread_whole]

theorem last6 (c : Dev nD) (t : Fin cfg0.N) (h : t.val % 2 = 1) :
    (outsAt0 m c t.val t.isLt).2.1 = k0_pay4 (F := Ideal) (acc m c t) (bR m c t) (bG m c t) := by
  unfold acc
  rw [outsAt0_B m c t (by omega) h h]; frame_out; simp only [read_unread_whole]

theorem last7 (c : Dev nD) (t : Fin cfg0.N) (h : t.val % 2 = 1) :
    (outsAt0 m c t.val t.isLt).2.2.1 = k0_pay5 (F := Ideal) (acc m c t) (bR m c t) (bG m c t) (bGn m c t) := by
  unfold acc
  rw [outsAt0_B m c t (by omega) h h]; frame_out; simp only [read_unread_whole]

/-- The arrays at the end. -/
theorem final5 (c : Dev nD) : (dats m 0 c).arrAt 5 (cfgs 0).N = ffA (aX m c) (aW m c) := by
  refine (dats m 0 c).arrAt_eq_of_covers 5 _ (by decide +kernel) fun t hf y => ?_
  blk_simp
  rw [after0_5]
  idx_vars y
  have ht := (flush0_5 t).mp hf
  have hN := lt_of_lt_of_eq t.isLt N_0
  rw [last5 m c t ht]
  refine (congrFun (acc_eq m c t ht y0 ⟨t.val / 2 * 1024 + y0.val, by omega⟩ rfl) y1).trans ?_
  exact congrArg₂ (prod (aX m c) (aW m c)) (Fin.ext (by blk_simp [idx t])) (Fin.ext (by blk_simp [idx t]))

theorem final6 (c : Dev nD) : (dats m 0 c).arrAt 6 (cfgs 0).N = xA (aX m c) (aW m c) (aR m c) (aG m c) := by
  refine (dats m 0 c).arrAt_eq_of_covers 6 _ (by decide +kernel) fun t hf y => ?_
  blk_simp
  rw [after0_6]
  idx_vars y
  have ht := (flush0_6 t).mp hf
  have hN := lt_of_lt_of_eq t.isLt N_0
  rw [last6 m c t ht, x_read, acc_eq m c t ht y0 ⟨t.val / 2 * 1024 + y0.val, by omega⟩ rfl,
    readR m c t y0 ⟨t.val / 2 * 1024 + y0.val, by omega⟩ rfl, readG]
  exact congrArg₂ (fun R K => outRow (row (aR m c) R) (prod (aX m c) (aW m c) R) (aG m c) K)
    (Fin.ext (by blk_simp [idx t])) (Fin.ext (by blk_simp [idx t]))

theorem final7 (c : Dev nD) : (dats m 0 c).arrAt 7 (cfgs 0).N = hA (aX m c) (aW m c) (aR m c) (aG m c) (aGn m c) := by
  refine (dats m 0 c).arrAt_eq_of_covers 7 _ (by decide +kernel) fun t hf y => ?_
  blk_simp
  rw [after0_7]
  idx_vars y
  have ht := (flush0_7 t).mp hf
  have hN := lt_of_lt_of_eq t.isLt N_0
  rw [last7 m c t ht, h_read, acc_eq m c t ht y0 ⟨t.val / 2 * 1024 + y0.val, by omega⟩ rfl,
    readR m c t y0 ⟨t.val / 2 * 1024 + y0.val, by omega⟩ rfl, readG, readGn]
  exact congrArg₂ (fun R K => normed (outRow (row (aR m c) R) (prod (aX m c) (aW m c) R) (aG m c)) (gain (aGn m c)) K)
    (Fin.ext (by blk_simp [idx t])) (Fin.ext (by blk_simp [idx t]))

/-- The reference's arrays are the same. -/
theorem reference_ff (X : FVec Ideal S4096x4096 .bf16) (W : FVec Ideal S4096x1024 .bf16) :
    Cert.DnReferenceIdeal.Read.val_main_v2 (F := Ideal) X W = ffA X W := by
  funext j
  idx_vars j
  refine (congrFun (Cert.DnReferenceIdeal.Read.val_main_v2_eq (F := Ideal) X W) (ix2 j0 j1)).symm.trans ?_
  pointwise
  rfl

theorem reference_x (X : FVec Ideal S4096x4096 .bf16) (W : FVec Ideal S4096x1024 .bf16) (R : FVec Ideal S4096x1024 .f32)
    (G : FVec Ideal S1x1024 .f32) : Cert.DnReferenceIdeal.Read.val_main_v15 (F := Ideal) X W R G = xA X W R G := by
  funext j
  idx_vars j
  refine (congrFun (Cert.DnReferenceIdeal.Read.val_main_v15_eq (F := Ideal) X W R G) (ix2 j0 j1)).symm.trans ?_
  pointwise
  rfl

open Cert.DnReferenceIdeal.Read in
theorem reference_h (X : FVec Ideal S4096x4096 .bf16) (W : FVec Ideal S4096x1024 .bf16) (R : FVec Ideal S4096x1024 .f32)
    (G Gn : FVec Ideal S1x1024 .f32) : val_main_v28 (F := Ideal) X W R G Gn = hA X W R G Gn := by
  have e : ∀ (r : Fin 4096) (k : Fin 1024), val_main_v15 (F := Ideal) X W R G (ix2 r k) = outRow (row R r) (prod X W r) G k :=
    fun r k => congrFun (reference_x X W R G) (ix2 r k)
  funext j
  idx_vars j
  pointwise [val_main_v28, val_main_v27, val_main_v26, val_main_v25, val_main_v24, val_main_v23, val_main_v22, val_main_v21,
    val_main_v20, val_main_v19, val_main_v18, val_main_v17, val_main_v16, val_main_cst_2,
    val_main_cst_3, val_main_cst_4, e]
  rfl

end Cert.Dn
-- ==== Proof.DnClaim.lean ====
/- The second feed-forward product and its reference leave the same arrays. -/
module

public import Idealize.ShloMosaic.Lib.Claim
public import proofs.«01_k».proof.Proof.Gen.DnKernelIdeal.Value
public import proofs.«01_k».proof.Proof.Gen.DnReferenceIdeal.Run
public import proofs.«01_k».proof.Defs
public import proofs.«01_k».proof.Proof.DnValue

@[expose] public section

noncomputable section

open Idealize.ShloMosaic Idealize.ShloMosaic.TcCoe Idealize.SL.Sem

namespace Cert.Dn

open Cert.DnKernelIdeal in
/-- The kernel leaves the formulas and keeps its arguments. -/
theorem kernel_run (m : (ℓ : Loc nD τ sig) → Buf (Elt Ideal) ℓ) (g : Dev nD → PrngReg) :
    θ_run (Cert.DnKernelIdeal.defs (F := Ideal)) (onTc (τ := τ) (Cert.DnKernelIdeal.main (F := Ideal))) ⟨m, fun _ => 0, g⟩ fun r =>
      ∀ c : Dev nD,
        r.2.mem ((c.tc : Thread nD τ).loc main_v0_0)
          = ffA (m ((c.tc : Thread nD τ).loc main_arg0)) (m ((c.tc : Thread nD τ).loc main_arg1))
        ∧ r.2.mem ((c.tc : Thread nD τ).loc main_v0_1)
          = xA (m ((c.tc : Thread nD τ).loc main_arg0)) (m ((c.tc : Thread nD τ).loc main_arg1)) (m ((c.tc : Thread nD τ).loc main_arg2)) (m ((c.tc : Thread nD τ).loc main_arg3))
        ∧ r.2.mem ((c.tc : Thread nD τ).loc main_v0_2)
          = hA (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
        ∧ r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3)
        ∧ r.2.mem ((c.tc : Thread nD τ).loc main_arg4) = m ((c.tc : Thread nD τ).loc main_arg4) := by
  refine (Cert.DnKernelIdeal.Value.run_blocks m g).mono fun r h c => ?_
  obtain ⟨h0, h1, h2, k⟩ := h c
  exact ⟨h0.trans (final5 m c), h1.trans (final6 m c), h2.trans (final7 m c), k⟩

open Cert.DnReferenceIdeal in
/-- The reference leaves the formulas and keeps its arguments. -/
theorem reference_run (m : (ℓ : Loc nD τ sig) → Buf (Elt Ideal) ℓ) (g : Dev nD → PrngReg) :
    θ_run (Cert.DnReferenceIdeal.defs (F := Ideal)) (onTc (τ := τ) (Cert.DnReferenceIdeal.main (F := Ideal))) ⟨m, fun _ => 0, g⟩ fun r =>
      ∀ c : Dev nD,
        r.2.mem ((c.tc : Thread nD τ).loc main_v2)
          = ffA (m ((c.tc : Thread nD τ).loc main_arg0)) (m ((c.tc : Thread nD τ).loc main_arg1))
        ∧ r.2.mem ((c.tc : Thread nD τ).loc main_v15)
          = xA (m ((c.tc : Thread nD τ).loc main_arg0)) (m ((c.tc : Thread nD τ).loc main_arg1)) (m ((c.tc : Thread nD τ).loc main_arg2)) (m ((c.tc : Thread nD τ).loc main_arg3))
        ∧ r.2.mem ((c.tc : Thread nD τ).loc main_v28)
          = hA (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
        ∧ r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3)
        ∧ r.2.mem ((c.tc : Thread nD τ).loc main_arg4) = m ((c.tc : Thread nD τ).loc main_arg4) := by
  refine (Cert.DnReferenceIdeal.Value.run m g).mono fun r h c => ?_
  obtain ⟨h0, h1, h2, k⟩ := h c
  exact ⟨h0.trans ((Cert.DnReferenceIdeal.Read.val_main_v2_eq _ _).trans (reference_ff _ _)),
    h1.trans ((Cert.DnReferenceIdeal.Read.val_main_v15_eq _ _ _ _).trans (reference_x _ _ _ _)),
    h2.trans ((Cert.DnReferenceIdeal.Read.val_main_v28_eq m c).trans (reference_h _ _ _ _ _)), k⟩

theorem algebraic : Cert.algebraic_DnKernelIdeal_DnReferenceIdeal := by
  intro m g m' g' _ hagree
  refine ⟨_, _, _, kernel_run m g, (reference_run m' g').mono fun r h c => ?_⟩
  obtain ⟨e0, e1, e2, e3, e4⟩ := hagree c
  have hc := h c
  simp only [e0, e1, e2, e3, e4] at hc ⊢
  exact hc

/-- The reference returns, keeps its arguments and leaves every counter at zero. -/
theorem frame_reference : Cert.quiescent_DnReferenceIdeal := by
  intro m g _
  exact (reference_run m g).mono fun r h => ⟨fun c => (h c).2.2.2, sem_eq_zero_of_no_sems (by decide) _⟩

end Cert.Dn
-- ==== Proof.MfValue.lean ====
/- The gated merge: what a grid point writes, what the array holds, and what the reference computes. -/
module

public import Idealize.ShloMosaic.Lib.Pipeline.ValueKit
public import proofs.«01_k».proof.Proof.Gen.MfKernelIdeal.Frame
public import proofs.«01_k».proof.Proof.Gen.MfReferenceIdeal.Read
public import proofs.«01_k».proof.Proof.MergeForm

set_option maxRecDepth 16384

@[expose] public section

noncomputable section

open Idealize.ShloMosaic Idealize.ShloMosaic.TcCoe Idealize.SL.Sem

namespace Cert.Mf

open Cert.MfKernelIdeal Cert.MfKernelIdeal.Gen Cert.Merge

/-- Four gated terms added up. -/
def four (g0 u0 g1 u1 g2 u2 g3 u3 : EReal) : EReal := g0 * u0 + g1 * u1 + g2 * u2 + g3 * u3

section
variable (P : FVec Ideal S4096x10752 .f32) (G : FVec Ideal S4x1024 .f32) (B0 B1 B2 B3 : FVec Ideal S4096x512 .bf16)
  (W : FVec Ideal S4x512x1024 .bf16)

/-- The gate of branch `i` at row `r` and column `k`. -/
def gateAt (i : Fin 4) (r : Fin 4096) (k : Fin 1024) : EReal := gate (P (ix2 r (col i k))) (G (ix2 i k))

/-- The merge: every branch taken up to the stream, times its gate, added up. -/
def mergedA : FVec Ideal S4096x1024 .bf16 := fun j =>
  four (gateAt P G 0 (j 0) (j 1)) (upAt B0 W 0 (j 0) (j 1)) (gateAt P G 1 (j 0) (j 1)) (upAt B1 W 1 (j 0) (j 1))
    (gateAt P G 2 (j 0) (j 1)) (upAt B2 W 2 (j 0) (j 1)) (gateAt P G 3 (j 0) (j 1)) (upAt B3 W 3 (j 0) (j 1))
end

section
variable (P0 P1 P2 P3 : FVec Ideal S512x512 .f32) (G : FVec Ideal S4x512 .f32) (B B0 B1 B2 B3 : FVec Ideal S512x512 .bf16)
  (W : FVec Ideal S4x512x512 .bf16) (i : Fin 4) (r k : Fin 512)

/-- A point's block of branch `i` taken up to the stream. -/
def upB : EReal := ∑ l : Fin 512, B (ix2 r l) * W (ix3 i l k)

/-- What a point writes. -/
theorem out_read : out0_10 (F := Ideal) P0 P1 P2 P3 G B0 B1 B2 B3 W (ix2 r k)
    = four (gate (P0 (ix2 r k)) (G (ix2 0 k))) (upB B0 W 0 r k) (gate (P1 (ix2 r k)) (G (ix2 1 k))) (upB B1 W 1 r k)
      (gate (P2 (ix2 r k)) (G (ix2 2 k))) (upB B2 W 2 r k) (gate (P3 (ix2 r k)) (G (ix2 3 k))) (upB B3 W 3 r k) := by
  unfold out0_10
  frame_out
  unfold_payloads
  pointwise
  simp only [four, gate, upB, zero_sub, zero_add]
end

variable (m : (ℓ : Loc nD τ sig) → Buf (Elt Ideal) ℓ)

/-- Which block every window holds at a grid point: row tile `t % 8`, column tile `t / 8`. -/
theorem idx : ∀ t : Fin cfg0.N, win0_0.index t = ![t.val % 8, 13 + t.val / 8]
    ∧ win0_1.index t = ![t.val % 8, 15 + t.val / 8] ∧ win0_2.index t = ![t.val % 8, 17 + t.val / 8]
    ∧ win0_3.index t = ![t.val % 8, 19 + t.val / 8] ∧ win0_4.index t = ![0, t.val / 8]
    ∧ win0_5.index t = ![t.val % 8, 0] ∧ win0_6.index t = ![t.val % 8, 0] ∧ win0_7.index t = ![t.val % 8, 0]
    ∧ win0_8.index t = ![t.val % 8, 0] ∧ win0_9.index t = ![0, 0, t.val / 8] ∧ win0_10.index t = ![t.val % 8, t.val / 8] :=
  (by decide +kernel : ∀ t : Fin grid0.N, _)

/-- The arrays the region finds: the projection, the biases, the four branches and their projections. -/
abbrev aP (c : Dev nD) : FVec Ideal S4096x10752 .f32 := m ((c : Thread nD τ).loc main_arg0)
abbrev aG (c : Dev nD) : FVec Ideal S4x1024 .f32 := m ((c : Thread nD τ).loc main_arg1)
abbrev aB0 (c : Dev nD) : FVec Ideal S4096x512 .bf16 := m ((c : Thread nD τ).loc main_arg2)
abbrev aB1 (c : Dev nD) : FVec Ideal S4096x512 .bf16 := m ((c : Thread nD τ).loc main_arg3)
abbrev aB2 (c : Dev nD) : FVec Ideal S4096x512 .bf16 := m ((c : Thread nD τ).loc main_arg4)
abbrev aB3 (c : Dev nD) : FVec Ideal S4096x512 .bf16 := m ((c : Thread nD τ).loc main_arg5)
abbrev aW (c : Dev nD) : FVec Ideal S4x512x1024 .bf16 := m ((c : Thread nD τ).loc main_arg6)

/-- A point's blocks of them. -/
abbrev bP0 (c : Dev nD) (t : Fin cfg0.N) : FVec Ideal S512x512 .f32 := iblk m c 0 t
abbrev bP1 (c : Dev nD) (t : Fin cfg0.N) : FVec Ideal S512x512 .f32 := iblk m c 1 t
abbrev bP2 (c : Dev nD) (t : Fin cfg0.N) : FVec Ideal S512x512 .f32 := iblk m c 2 t
abbrev bP3 (c : Dev nD) (t : Fin cfg0.N) : FVec Ideal S512x512 .f32 := iblk m c 3 t
abbrev bG (c : Dev nD) (t : Fin cfg0.N) : FVec Ideal S4x512 .f32 := iblk m c 4 t
abbrev bB0 (c : Dev nD) (t : Fin cfg0.N) : FVec Ideal S512x512 .bf16 := iblk m c 5 t
abbrev bB1 (c : Dev nD) (t : Fin cfg0.N) : FVec Ideal S512x512 .bf16 := iblk m c 6 t
abbrev bB2 (c : Dev nD) (t : Fin cfg0.N) : FVec Ideal S512x512 .bf16 := iblk m c 7 t
abbrev bB3 (c : Dev nD) (t : Fin cfg0.N) : FVec Ideal S512x512 .bf16 := iblk m c 8 t
abbrev bW (c : Dev nD) (t : Fin cfg0.N) : FVec Ideal S4x512x512 .bf16 := iblk m c 9 t

variable (c : Dev nD) (t : Fin cfg0.N) (r k l : Fin 512) (i : Fin 4) (R : Fin 4096) (K : Fin 1024)
  (hR : R.val = t.val % 8 * 512 + r.val) (hK : K.val = t.val / 8 * 512 + k.val)

section
include hR hK

theorem readP : bP0 m c t (ix2 r k) = aP m c (ix2 R (col 0 K)) ∧ bP1 m c t (ix2 r k) = aP m c (ix2 R (col 1 K))
    ∧ bP2 m c t (ix2 r k) = aP m c (ix2 R (col 2 K)) ∧ bP3 m c t (ix2 r k) = aP m c (ix2 R (col 3 K)) := by
  refine ⟨?_, ?_, ?_, ?_⟩
  · blk_point [bP0, iblk, V, idx t, col, hR, hK]
  · blk_point [bP1, iblk, V, idx t, col, hR, hK]
  · blk_point [bP2, iblk, V, idx t, col, hR, hK]
  · blk_point [bP3, iblk, V, idx t, col, hR, hK]
end

include hR in
theorem readB : bB0 m c t (ix2 r l) = aB0 m c (ix2 R l) ∧ bB1 m c t (ix2 r l) = aB1 m c (ix2 R l)
    ∧ bB2 m c t (ix2 r l) = aB2 m c (ix2 R l) ∧ bB3 m c t (ix2 r l) = aB3 m c (ix2 R l) := by
  refine ⟨?_, ?_, ?_, ?_⟩
  · blk_point [bB0, iblk, V, idx t, hR]
  · blk_point [bB1, iblk, V, idx t, hR]
  · blk_point [bB2, iblk, V, idx t, hR]
  · blk_point [bB3, iblk, V, idx t, hR]

include hK in
theorem readG : bG m c t (ix2 i k) = aG m c (ix2 i K) := by
  blk_point [bG, iblk, V, idx t, hK]

include hK in
theorem readW : bW m c t (ix3 i l k) = aW m c (ix3 i l K) := by
  blk_point [bW, iblk, V, idx t, hK]

include hR hK in
/-- A point's branches taken up to the stream, in the arrays' own coordinates. -/
theorem up_at : upB (bB0 m c t) (bW m c t) i r k = upAt (aB0 m c) (aW m c) i R K
    ∧ upB (bB1 m c t) (bW m c t) i r k = upAt (aB1 m c) (aW m c) i R K
    ∧ upB (bB2 m c t) (bW m c t) i r k = upAt (aB2 m c) (aW m c) i R K
    ∧ upB (bB3 m c t) (bW m c t) i r k = upAt (aB3 m c) (aW m c) i R K := by
  refine ⟨?_, ?_, ?_, ?_⟩ <;>
  · refine Finset.sum_congr rfl fun l _ => ?_
    obtain ⟨h0, h1, h2, h3⟩ := readB m c t r l R hR
    simp only [h0, h1, h2, h3, readW m c t k l i K hK]

include hR hK in
theorem tile : out0_10 (F := Ideal) (iblk m c 0 t) (iblk m c 1 t) (iblk m c 2 t) (iblk m c 3 t) (iblk m c 4 t) (iblk m c 5 t)
    (iblk m c 6 t) (iblk m c 7 t) (iblk m c 8 t) (iblk m c 9 t) (ix2 r k)
      = mergedA (aP m c) (aG m c) (aB0 m c) (aB1 m c) (aB2 m c) (aB3 m c) (aW m c) (ix2 R K) := by
  refine (out_read (bP0 m c t) (bP1 m c t) (bP2 m c t) (bP3 m c t) (bG m c t) (bB0 m c t) (bB1 m c t) (bB2 m c t) (bB3 m c t)
    (bW m c t) r k).trans ?_
  obtain ⟨p0, p1, p2, p3⟩ := readP m c t r k R K hR hK
  rw [p0, p1, p2, p3, readG m c t k 0 K hK, readG m c t k 1 K hK, readG m c t k 2 K hK, readG m c t k 3 K hK,
    (up_at m c t r k 0 R K hR hK).1, (up_at m c t r k 1 R K hR hK).2.1, (up_at m c t r k 2 R K hR hK).2.2.1,
    (up_at m c t r k 3 R K hR hK).2.2.2]
  rfl

/-- The array at the end is the merge. -/
theorem final10 (c : Dev nD) : (dats m 0 c).arrAt 10 (cfgs 0).N
    = mergedA (aP m c) (aG m c) (aB0 m c) (aB1 m c) (aB2 m c) (aB3 m c) (aW m c) := by
  refine (dats m 0 c).arrAt_eq_of_covers 10 _ (by decide +kernel) fun t hf y => ?_
  blk_simp
  rw [after0_10]
  idx_vars y
  exact tile m c t y0 y1 _ _ (by blk_simp [idx t]) (by blk_simp [idx t])

open Cert.MfReferenceIdeal.Read in
/-- The reference's array is the same. -/
theorem reference_merged (P : FVec Ideal S4096x10752 .f32) (G : FVec Ideal S4x1024 .f32) (B0 B1 B2 B3 : FVec Ideal S4096x512 .bf16)
    (W : FVec Ideal S4x512x1024 .bf16) : val_main_v46 (F := Ideal) P G B0 B1 B2 B3 W = mergedA P G B0 B1 B2 B3 W := by
  funext j
  idx_vars j
  pointwise [val_main_v46, val_main_v45, val_main_v44, val_main_v43, val_main_v42, val_main_v41, val_main_v40, val_main_v39,
    val_main_v38, val_main_v37, val_main_v36, val_main_v35, val_main_v34, val_main_v33, val_main_v32, val_main_v31,
    val_main_v30, val_main_v29, val_main_v28, val_main_v27, val_main_v26, val_main_v25, val_main_v24, val_main_v23,
    val_main_v22, val_main_v21, val_main_v20, val_main_v19, val_main_v18, val_main_v17, val_main_v16, val_main_v15,
    val_main_v14, val_main_v13, val_main_v12, val_main_v11, val_main_v10, val_main_v9, val_main_v8, val_main_v7,
    val_main_v6, val_main_v5, val_main_v4, val_main_v3, val_main_v2, val_main_v1, val_main_v0, val_main_cst,
    val_main_cst_0]
  simp only [mergedA, four, gateAt, upAt, gate]
  reads_congr <;> first | rfl | exact congrArg (fun q => P (ix2 j0 q)) (Fin.ext (Nat.add_assoc _ _ _).symm)

end Cert.Mf
-- ==== Proof.MfClaim.lean ====
/- The gated merge of the forward pass and its reference leave the same arrays. -/
module

public import Idealize.ShloMosaic.Lib.Claim
public import proofs.«01_k».proof.Proof.Gen.MfKernelIdeal.Value
public import proofs.«01_k».proof.Proof.Gen.MfReferenceIdeal.Run
public import proofs.«01_k».proof.Defs
public import proofs.«01_k».proof.Proof.MfValue

@[expose] public section

noncomputable section

open Idealize.ShloMosaic Idealize.ShloMosaic.TcCoe Idealize.SL.Sem

namespace Cert.Mf

open Cert.MfKernelIdeal in
/-- The kernel leaves the formulas and keeps its arguments. -/
theorem kernel_run (m : (ℓ : Loc nD τ sig) → Buf (Elt Ideal) ℓ) (g : Dev nD → PrngReg) :
    θ_run (Cert.MfKernelIdeal.defs (F := Ideal)) (onTc (τ := τ) (Cert.MfKernelIdeal.main (F := Ideal))) ⟨m, fun _ => 0, g⟩ fun r =>
      ∀ c : Dev nD,
        r.2.mem ((c.tc : Thread nD τ).loc main_v0)
          = mergedA (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))
        ∧ r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3)
        ∧ r.2.mem ((c.tc : Thread nD τ).loc main_arg4) = m ((c.tc : Thread nD τ).loc main_arg4)
        ∧ r.2.mem ((c.tc : Thread nD τ).loc main_arg5) = m ((c.tc : Thread nD τ).loc main_arg5)
        ∧ r.2.mem ((c.tc : Thread nD τ).loc main_arg6) = m ((c.tc : Thread nD τ).loc main_arg6) := by
  refine (Cert.MfKernelIdeal.Value.run_blocks m g).mono fun r h c => ?_
  obtain ⟨h0, k⟩ := h c
  exact ⟨h0.trans (final10 m c), k⟩

open Cert.MfReferenceIdeal in
/-- The reference leaves the formulas and keeps its arguments. -/
theorem reference_run (m : (ℓ : Loc nD τ sig) → Buf (Elt Ideal) ℓ) (g : Dev nD → PrngReg) :
    θ_run (Cert.MfReferenceIdeal.defs (F := Ideal)) (onTc (τ := τ) (Cert.MfReferenceIdeal.main (F := Ideal))) ⟨m, fun _ => 0, g⟩ fun r =>
      ∀ c : Dev nD,
        r.2.mem ((c.tc : Thread nD τ).loc main_v46)
          = mergedA (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))
        ∧ r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3)
        ∧ r.2.mem ((c.tc : Thread nD τ).loc main_arg4) = m ((c.tc : Thread nD τ).loc main_arg4)
        ∧ r.2.mem ((c.tc : Thread nD τ).loc main_arg5) = m ((c.tc : Thread nD τ).loc main_arg5)
        ∧ r.2.mem ((c.tc : Thread nD τ).loc main_arg6) = m ((c.tc : Thread nD τ).loc main_arg6) := by
  refine (Cert.MfReferenceIdeal.Value.run m g).mono fun r h c => ?_
  obtain ⟨h0, k⟩ := h c
  exact ⟨h0.trans ((Cert.MfReferenceIdeal.Read.val_main_v46_eq m c).trans (reference_merged _ _ _ _ _ _ _)), k⟩

theorem algebraic : Cert.algebraic_MfKernelIdeal_MfReferenceIdeal := by
  intro m g m' g' _ hagree
  refine ⟨_, kernel_run m g, (reference_run m' g').mono fun r h c => ?_⟩
  obtain ⟨e0, e1, e2, e3, e4, e5, e6⟩ := hagree c
  have hc := h c
  simp only [e0, e1, e2, e3, e4, e5, e6] at hc ⊢
  exact hc

/-- The reference returns, keeps its arguments and leaves every counter at zero. -/
theorem frame_reference : Cert.quiescent_MfReferenceIdeal := by
  intro m g _
  exact (reference_run m g).mono fun r h => ⟨fun c => (h c).2, sem_eq_zero_of_no_sems (by decide) _⟩

end Cert.Mf
-- ==== Proof.WoClaim.lean ====
/- The mixer's output product with the norms behind it: the kernel and its reference leave the same arrays. -/
module

public import Idealize.ShloMosaic.Lib.Claim
public import Idealize.ShloMosaic.Lib.Pipeline.ValueKit
public import proofs.«01_k».proof.Proof.Gen.WoKernelIdeal.Value
public import proofs.«01_k».proof.Proof.Gen.WoReferenceIdeal.Run
public import proofs.«01_k».proof.Proof.Gen.WoReferenceIdeal.Read
public import proofs.«01_k».proof.Defs
public import proofs.«01_k».proof.Proof.DnValue

set_option maxRecDepth 16384

@[expose] public section

noncomputable section

open Idealize.ShloMosaic Idealize.ShloMosaic.TcCoe Idealize.SL.Sem

namespace Cert.Wo

section
open Cert.WoKernelIdeal Cert.WoKernelIdeal.Gen Cert.Norm Cert.Product Cert.Dn

/-- The arrays: the product, the residual stream with its norm added, and the norm the next sublayer takes of that. -/
def ffA (X : FVec Ideal S4096x1024 .bf16) (W : FVec Ideal S1024x1024 .bf16) : FVec Ideal S4096x1024 .f32 :=
  fun j => prod X W (j 0) (j 1)
def xA (X : FVec Ideal S4096x1024 .bf16) (W : FVec Ideal S1024x1024 .bf16) (R : FVec Ideal S4096x1024 .f32)
    (G : FVec Ideal S1x1024 .f32) : FVec Ideal S4096x1024 .f32 :=
  fun j => outRow (row R (j 0)) (prod X W (j 0)) G (j 1)
def hA (X : FVec Ideal S4096x1024 .bf16) (W : FVec Ideal S1024x1024 .bf16) (R : FVec Ideal S4096x1024 .f32)
    (G Gn : FVec Ideal S1x1024 .f32) : FVec Ideal S4096x1024 .bf16 :=
  fun j => normed (outRow (row R (j 0)) (prod X W (j 0)) G) (gain Gn) (j 1)

/-- What a row block's point writes into each of them. -/
theorem ff_read (X : FVec Ideal S512x1024 .bf16) (W : FVec Ideal S1024x1024 .bf16) (r : Fin 512) (k : Fin 1024) :
    k0_pay1 (F := Ideal) X W (ix2 r k) = prod X W r k := by
  unfold_payloads
  pointwise
  rfl

theorem x_read (X : FVec Ideal S512x1024 .bf16) (W : FVec Ideal S1024x1024 .bf16) (R : FVec Ideal S512x1024 .f32)
    (G : FVec Ideal S1x1024 .f32) (r : Fin 512) (k : Fin 1024) :
    k0_pay2 (F := Ideal) X W R G (ix2 r k) = outRow (row R r) (prod X W r) G k := by
  unfold k0_pay2
  pointwise [ff_read]
  exact add_comm _ _

theorem h_read (X : FVec Ideal S512x1024 .bf16) (W : FVec Ideal S1024x1024 .bf16) (R : FVec Ideal S512x1024 .f32)
    (G Gn : FVec Ideal S1x1024 .f32) (r : Fin 512) (k : Fin 1024) :
    k0_pay3 (F := Ideal) X W R G Gn (ix2 r k) = normed (outRow (row R r) (prod X W r) G) (gain Gn) k := by
  unfold k0_pay3
  pointwise [x_read]
  rfl

variable (m : (ℓ : Loc nD τ sig) → Buf (Elt Ideal) ℓ)

/-- Which block every window holds at a grid point: row block `t`, the weight and the gains whole. -/
theorem idx : ∀ t : Fin cfg0.N, win0_0.index t = ![t.val, 0] ∧ win0_1.index t = ![0, 0]
    ∧ win0_2.index t = ![t.val, 0] ∧ win0_3.index t = ![0, 0] ∧ win0_4.index t = ![0, 0]
    ∧ win0_5.index t = ![t.val, 0] ∧ win0_6.index t = ![t.val, 0] ∧ win0_7.index t = ![t.val, 0] :=
  (by decide +kernel : ∀ t : Fin grid0.N, _)

/-- The arrays the region finds: the merged branches, the weight, the residual stream, the norm's gain and the next norm's. -/
abbrev aX (c : Dev nD) : FVec Ideal S4096x1024 .bf16 := m ((c : Thread nD τ).loc main_arg0)
abbrev aW (c : Dev nD) : FVec Ideal S1024x1024 .bf16 := m ((c : Thread nD τ).loc main_arg1)
abbrev aR (c : Dev nD) : FVec Ideal S4096x1024 .f32 := m ((c : Thread nD τ).loc main_arg2)
abbrev aG (c : Dev nD) : FVec Ideal S1x1024 .f32 := m ((c : Thread nD τ).loc main_arg3)
abbrev aGn (c : Dev nD) : FVec Ideal S1x1024 .f32 := m ((c : Thread nD τ).loc main_arg4)

/-- A point's blocks of them. -/
abbrev bX (c : Dev nD) (t : Fin cfg0.N) : FVec Ideal S512x1024 .bf16 := iblk m c 0 t
abbrev bW (c : Dev nD) (t : Fin cfg0.N) : FVec Ideal S1024x1024 .bf16 := iblk m c 1 t
abbrev bR (c : Dev nD) (t : Fin cfg0.N) : FVec Ideal S512x1024 .f32 := iblk m c 2 t
abbrev bG (c : Dev nD) (t : Fin cfg0.N) : FVec Ideal S1x1024 .f32 := iblk m c 3 t
abbrev bGn (c : Dev nD) (t : Fin cfg0.N) : FVec Ideal S1x1024 .f32 := iblk m c 4 t

theorem readX (c : Dev nD) (t : Fin cfg0.N) (r : Fin 512) (R : Fin 4096) (hR : R.val = t.val * 512 + r.val) (l : Fin 1024) :
    bX m c t (ix2 r l) = aX m c (ix2 R l) := by
  blk_point [bX, iblk, V, idx t, hR]

theorem readW (c : Dev nD) (t : Fin cfg0.N) : bW m c t = aW m c := by
  funext j
  idx_vars j
  blk_point [bW, iblk, V, idx t]

theorem readR (c : Dev nD) (t : Fin cfg0.N) (r : Fin 512) (R : Fin 4096) (hR : R.val = t.val * 512 + r.val) :
    row (bR m c t) r = row (aR m c) R := by
  funext l
  show bR m c t (ix2 r l) = aR m c (ix2 R l)
  blk_point [bR, iblk, V, idx t, hR]

theorem readG (c : Dev nD) (t : Fin cfg0.N) : bG m c t = aG m c := by
  funext j
  idx_vars j
  obtain rfl : j0 = 0 := Subsingleton.elim _ _
  blk_point [bG, iblk, V, idx t]

theorem readGn (c : Dev nD) (t : Fin cfg0.N) : bGn m c t = aGn m c := by
  funext j
  idx_vars j
  obtain rfl : j0 = 0 := Subsingleton.elim _ _
  blk_point [bGn, iblk, V, idx t]

/-- A row of a point's product is the arrays' row. -/
theorem rowX (c : Dev nD) (t : Fin cfg0.N) (r : Fin 512) (R : Fin 4096) (hR : R.val = t.val * 512 + r.val) :
    prod (bX m c t) (bW m c t) r = prod (aX m c) (aW m c) R := by
  funext k
  rw [readW]
  exact prod_congr (readX m c t r R hR) fun _ => rfl

/-- The arrays at the end. -/
theorem final5 (c : Dev nD) : (dats m 0 c).arrAt 5 (cfgs 0).N = ffA (aX m c) (aW m c) := by
  refine (dats m 0 c).arrAt_eq_of_covers 5 _ (by decide +kernel) fun t hf y => ?_
  blk_simp
  rw [after0_5]
  idx_vars y
  have hN := lt_of_lt_of_eq t.isLt N_0
  unfold out0_5
  frame_out
  refine (ff_read (bX m c t) (bW m c t) y0 y1).trans ?_
  rw [rowX m c t y0 ⟨t.val * 512 + y0.val, by omega⟩ rfl]
  exact congrArg₂ (prod (aX m c) (aW m c)) (Fin.ext (by blk_simp [idx t])) (Fin.ext (by blk_simp [idx t]))

theorem final6 (c : Dev nD) : (dats m 0 c).arrAt 6 (cfgs 0).N = xA (aX m c) (aW m c) (aR m c) (aG m c) := by
  refine (dats m 0 c).arrAt_eq_of_covers 6 _ (by decide +kernel) fun t hf y => ?_
  blk_simp
  rw [after0_6]
  idx_vars y
  have hN := lt_of_lt_of_eq t.isLt N_0
  unfold out0_6
  frame_out
  refine (x_read (bX m c t) (bW m c t) (bR m c t) (bG m c t) y0 y1).trans ?_
  rw [rowX m c t y0 ⟨t.val * 512 + y0.val, by omega⟩ rfl, readR m c t y0 ⟨t.val * 512 + y0.val, by omega⟩ rfl, readG]
  exact congrArg₂ (fun R K => outRow (row (aR m c) R) (prod (aX m c) (aW m c) R) (aG m c) K)
    (Fin.ext (by blk_simp [idx t])) (Fin.ext (by blk_simp [idx t]))

theorem final7 (c : Dev nD) : (dats m 0 c).arrAt 7 (cfgs 0).N = hA (aX m c) (aW m c) (aR m c) (aG m c) (aGn m c) := by
  refine (dats m 0 c).arrAt_eq_of_covers 7 _ (by decide +kernel) fun t hf y => ?_
  blk_simp
  rw [after0_7]
  idx_vars y
  have hN := lt_of_lt_of_eq t.isLt N_0
  unfold out0_7
  frame_out
  refine (h_read (bX m c t) (bW m c t) (bR m c t) (bG m c t) (bGn m c t) y0 y1).trans ?_
  rw [rowX m c t y0 ⟨t.val * 512 + y0.val, by omega⟩ rfl, readR m c t y0 ⟨t.val * 512 + y0.val, by omega⟩ rfl, readG, readGn]
  exact congrArg₂ (fun R K => normed (outRow (row (aR m c) R) (prod (aX m c) (aW m c) R) (aG m c)) (gain (aGn m c)) K)
    (Fin.ext (by blk_simp [idx t])) (Fin.ext (by blk_simp [idx t]))
end

section
open Cert.WoReferenceIdeal Cert.WoReferenceIdeal.Read Cert.Norm Cert.Product Cert.Dn

/-- The reference's arrays are the same. -/
theorem reference_ff (X : FVec Ideal S4096x1024 .bf16) (W : FVec Ideal S1024x1024 .bf16) : val_main_v2 (F := Ideal) X W = ffA X W := by
  funext j
  idx_vars j
  refine (congrFun (val_main_v2_eq (F := Ideal) X W) (ix2 j0 j1)).symm.trans ?_
  pointwise
  rfl

theorem reference_x (X : FVec Ideal S4096x1024 .bf16) (W : FVec Ideal S1024x1024 .bf16) (R : FVec Ideal S4096x1024 .f32)
    (G : FVec Ideal S1x1024 .f32) : val_main_v15 (F := Ideal) X W R G = xA X W R G := by
  funext j
  idx_vars j
  refine (congrFun (val_main_v15_eq (F := Ideal) X W R G) (ix2 j0 j1)).symm.trans ?_
  pointwise
  rfl

theorem reference_h (X : FVec Ideal S4096x1024 .bf16) (W : FVec Ideal S1024x1024 .bf16) (R : FVec Ideal S4096x1024 .f32)
    (G Gn : FVec Ideal S1x1024 .f32) : val_main_v28 (F := Ideal) X W R G Gn = hA X W R G Gn := by
  have e : ∀ (r : Fin 4096) (k : Fin 1024), val_main_v15 (F := Ideal) X W R G (ix2 r k) = outRow (row R r) (prod X W r) G k :=
    fun r k => congrFun (reference_x X W R G) (ix2 r k)
  funext j
  idx_vars j
  pointwise [val_main_v28, val_main_v27, val_main_v26, val_main_v25, val_main_v24, val_main_v23, val_main_v22, val_main_v21,
    val_main_v20, val_main_v19, val_main_v18, val_main_v17, val_main_v16, val_main_cst_2,
    val_main_cst_3, val_main_cst_4, e]
  rfl
end

open Cert.WoReferenceIdeal.Read in
/-- Equal arguments, so equal arrays. -/
theorem algebraic : Cert.algebraic_WoKernelIdeal_WoReferenceIdeal := by
  intro m g m' g' _ hagree
  refine ⟨_, _, _, Cert.WoKernelIdeal.Value.run_blocks m g, (Cert.WoReferenceIdeal.Value.run m' g').mono fun r h c => ?_⟩
  obtain ⟨e0, e1, e2, e3, e4⟩ := hagree c
  obtain ⟨h0, h1, h2, k⟩ := h c
  have h0 := h0.trans ((val_main_v2_eq _ _).trans (reference_ff _ _))
  have h1 := h1.trans ((val_main_v15_eq _ _ _ _).trans (reference_x _ _ _ _))
  have h2 := h2.trans ((val_main_v28_eq m' c).trans (reference_h _ _ _ _ _))
  rw [final5, final6, final7]
  simp only [aX, aW, aR, aG, aGn, e0, e1, e2, e3, e4] at h0 h1 h2 k ⊢
  exact ⟨h0, h1, h2, k⟩

/-- The reference returns, keeps its arguments and leaves every counter at zero. -/
theorem frame_reference : Cert.quiescent_WoReferenceIdeal := fun m g _ =>
  (Cert.WoReferenceIdeal.Value.run m g).mono fun r h => ⟨fun c => (h c).2.2.2, sem_eq_zero_of_no_sems (by decide) _⟩

end Cert.Wo
-- ==== Proof.CoClaim.lean ====
/- The cross-attention's output product with the norms behind it: the kernel and its reference leave the same arrays. -/
module

public import Idealize.ShloMosaic.Lib.Claim
public import Idealize.ShloMosaic.Lib.Pipeline.ValueKit
public import proofs.«01_k».proof.Proof.Gen.CoKernelIdeal.Value
public import proofs.«01_k».proof.Proof.Gen.CoReferenceIdeal.Run
public import proofs.«01_k».proof.Proof.Gen.CoReferenceIdeal.Read
public import proofs.«01_k».proof.Defs
public import proofs.«01_k».proof.Proof.DnValue

set_option maxRecDepth 16384

@[expose] public section

noncomputable section

open Idealize.ShloMosaic Idealize.ShloMosaic.TcCoe Idealize.SL.Sem

namespace Cert.Co

section
open Cert.CoKernelIdeal Cert.CoKernelIdeal.Gen Cert.Norm Cert.Product Cert.Dn

/-- The arrays: the product, the residual stream with its norm added, and the norm the next sublayer takes of that. -/
def ffA (X : FVec Ideal S4096x512 .bf16) (W : FVec Ideal S512x1024 .bf16) : FVec Ideal S4096x1024 .f32 :=
  fun j => prod X W (j 0) (j 1)
def xA (X : FVec Ideal S4096x512 .bf16) (W : FVec Ideal S512x1024 .bf16) (R : FVec Ideal S4096x1024 .f32)
    (G : FVec Ideal S1x1024 .f32) : FVec Ideal S4096x1024 .f32 :=
  fun j => outRow (row R (j 0)) (prod X W (j 0)) G (j 1)
def hA (X : FVec Ideal S4096x512 .bf16) (W : FVec Ideal S512x1024 .bf16) (R : FVec Ideal S4096x1024 .f32)
    (G Gn : FVec Ideal S1x1024 .f32) : FVec Ideal S4096x1024 .bf16 :=
  fun j => normed (outRow (row R (j 0)) (prod X W (j 0)) G) (gain Gn) (j 1)

/-- What a row block's point writes into each of them. -/
theorem ff_read (X : FVec Ideal S512x512 .bf16) (W : FVec Ideal S512x1024 .bf16) (r : Fin 512) (k : Fin 1024) :
    k0_pay1 (F := Ideal) X W (ix2 r k) = prod X W r k := by
  unfold_payloads
  pointwise
  rfl

theorem x_read (X : FVec Ideal S512x512 .bf16) (W : FVec Ideal S512x1024 .bf16) (R : FVec Ideal S512x1024 .f32)
    (G : FVec Ideal S1x1024 .f32) (r : Fin 512) (k : Fin 1024) :
    k0_pay2 (F := Ideal) X W R G (ix2 r k) = outRow (row R r) (prod X W r) G k := by
  unfold k0_pay2
  pointwise [ff_read]
  exact add_comm _ _

theorem h_read (X : FVec Ideal S512x512 .bf16) (W : FVec Ideal S512x1024 .bf16) (R : FVec Ideal S512x1024 .f32)
    (G Gn : FVec Ideal S1x1024 .f32) (r : Fin 512) (k : Fin 1024) :
    k0_pay3 (F := Ideal) X W R G Gn (ix2 r k) = normed (outRow (row R r) (prod X W r) G) (gain Gn) k := by
  unfold k0_pay3
  pointwise [x_read]
  rfl

variable (m : (ℓ : Loc nD τ sig) → Buf (Elt Ideal) ℓ)

/-- Which block every window holds at a grid point: row block `t`, the weight and the gains whole. -/
theorem idx : ∀ t : Fin cfg0.N, win0_0.index t = ![t.val, 0] ∧ win0_1.index t = ![0, 0]
    ∧ win0_2.index t = ![t.val, 0] ∧ win0_3.index t = ![0, 0] ∧ win0_4.index t = ![0, 0]
    ∧ win0_5.index t = ![t.val, 0] ∧ win0_6.index t = ![t.val, 0] ∧ win0_7.index t = ![t.val, 0] :=
  (by decide +kernel : ∀ t : Fin grid0.N, _)

/-- The arrays the region finds: the attention's output, the weight, the residual stream, the norm's gain and the next norm's. -/
abbrev aX (c : Dev nD) : FVec Ideal S4096x512 .bf16 := m ((c : Thread nD τ).loc main_arg0)
abbrev aW (c : Dev nD) : FVec Ideal S512x1024 .bf16 := m ((c : Thread nD τ).loc main_arg1)
abbrev aR (c : Dev nD) : FVec Ideal S4096x1024 .f32 := m ((c : Thread nD τ).loc main_arg2)
abbrev aG (c : Dev nD) : FVec Ideal S1x1024 .f32 := m ((c : Thread nD τ).loc main_arg3)
abbrev aGn (c : Dev nD) : FVec Ideal S1x1024 .f32 := m ((c : Thread nD τ).loc main_arg4)

/-- A point's blocks of them. -/
abbrev bX (c : Dev nD) (t : Fin cfg0.N) : FVec Ideal S512x512 .bf16 := iblk m c 0 t
abbrev bW (c : Dev nD) (t : Fin cfg0.N) : FVec Ideal S512x1024 .bf16 := iblk m c 1 t
abbrev bR (c : Dev nD) (t : Fin cfg0.N) : FVec Ideal S512x1024 .f32 := iblk m c 2 t
abbrev bG (c : Dev nD) (t : Fin cfg0.N) : FVec Ideal S1x1024 .f32 := iblk m c 3 t
abbrev bGn (c : Dev nD) (t : Fin cfg0.N) : FVec Ideal S1x1024 .f32 := iblk m c 4 t

theorem readX (c : Dev nD) (t : Fin cfg0.N) (r : Fin 512) (R : Fin 4096) (hR : R.val = t.val * 512 + r.val) (l : Fin 512) :
    bX m c t (ix2 r l) = aX m c (ix2 R l) := by
  blk_point [bX, iblk, V, idx t, hR]

theorem readW (c : Dev nD) (t : Fin cfg0.N) : bW m c t = aW m c := by
  funext j
  idx_vars j
  blk_point [bW, iblk, V, idx t]

theorem readR (c : Dev nD) (t : Fin cfg0.N) (r : Fin 512) (R : Fin 4096) (hR : R.val = t.val * 512 + r.val) :
    row (bR m c t) r = row (aR m c) R := by
  funext l
  show bR m c t (ix2 r l) = aR m c (ix2 R l)
  blk_point [bR, iblk, V, idx t, hR]

theorem readG (c : Dev nD) (t : Fin cfg0.N) : bG m c t = aG m c := by
  funext j
  idx_vars j
  obtain rfl : j0 = 0 := Subsingleton.elim _ _
  blk_point [bG, iblk, V, idx t]

theorem readGn (c : Dev nD) (t : Fin cfg0.N) : bGn m c t = aGn m c := by
  funext j
  idx_vars j
  obtain rfl : j0 = 0 := Subsingleton.elim _ _
  blk_point [bGn, iblk, V, idx t]

/-- A row of a point's product is the arrays' row. -/
theorem rowX (c : Dev nD) (t : Fin cfg0.N) (r : Fin 512) (R : Fin 4096) (hR : R.val = t.val * 512 + r.val) :
    prod (bX m c t) (bW m c t) r = prod (aX m c) (aW m c) R := by
  funext k
  rw [readW]
  exact prod_congr (readX m c t r R hR) fun _ => rfl

/-- The arrays at the end. -/
theorem final5 (c : Dev nD) : (dats m 0 c).arrAt 5 (cfgs 0).N = ffA (aX m c) (aW m c) := by
  refine (dats m 0 c).arrAt_eq_of_covers 5 _ (by decide +kernel) fun t hf y => ?_
  blk_simp
  rw [after0_5]
  idx_vars y
  have hN := lt_of_lt_of_eq t.isLt N_0
  unfold out0_5
  frame_out
  refine (ff_read (bX m c t) (bW m c t) y0 y1).trans ?_
  rw [rowX m c t y0 ⟨t.val * 512 + y0.val, by omega⟩ rfl]
  exact congrArg₂ (prod (aX m c) (aW m c)) (Fin.ext (by blk_simp [idx t])) (Fin.ext (by blk_simp [idx t]))

theorem final6 (c : Dev nD) : (dats m 0 c).arrAt 6 (cfgs 0).N = xA (aX m c) (aW m c) (aR m c) (aG m c) := by
  refine (dats m 0 c).arrAt_eq_of_covers 6 _ (by decide +kernel) fun t hf y => ?_
  blk_simp
  rw [after0_6]
  idx_vars y
  have hN := lt_of_lt_of_eq t.isLt N_0
  unfold out0_6
  frame_out
  refine (x_read (bX m c t) (bW m c t) (bR m c t) (bG m c t) y0 y1).trans ?_
  rw [rowX m c t y0 ⟨t.val * 512 + y0.val, by omega⟩ rfl, readR m c t y0 ⟨t.val * 512 + y0.val, by omega⟩ rfl, readG]
  exact congrArg₂ (fun R K => outRow (row (aR m c) R) (prod (aX m c) (aW m c) R) (aG m c) K)
    (Fin.ext (by blk_simp [idx t])) (Fin.ext (by blk_simp [idx t]))

theorem final7 (c : Dev nD) : (dats m 0 c).arrAt 7 (cfgs 0).N = hA (aX m c) (aW m c) (aR m c) (aG m c) (aGn m c) := by
  refine (dats m 0 c).arrAt_eq_of_covers 7 _ (by decide +kernel) fun t hf y => ?_
  blk_simp
  rw [after0_7]
  idx_vars y
  have hN := lt_of_lt_of_eq t.isLt N_0
  unfold out0_7
  frame_out
  refine (h_read (bX m c t) (bW m c t) (bR m c t) (bG m c t) (bGn m c t) y0 y1).trans ?_
  rw [rowX m c t y0 ⟨t.val * 512 + y0.val, by omega⟩ rfl, readR m c t y0 ⟨t.val * 512 + y0.val, by omega⟩ rfl, readG, readGn]
  exact congrArg₂ (fun R K => normed (outRow (row (aR m c) R) (prod (aX m c) (aW m c) R) (aG m c)) (gain (aGn m c)) K)
    (Fin.ext (by blk_simp [idx t])) (Fin.ext (by blk_simp [idx t]))
end

section
open Cert.CoReferenceIdeal Cert.CoReferenceIdeal.Read Cert.Norm Cert.Product Cert.Dn

/-- The reference's arrays are the same. -/
theorem reference_ff (X : FVec Ideal S4096x512 .bf16) (W : FVec Ideal S512x1024 .bf16) : val_main_v2 (F := Ideal) X W = ffA X W := by
  funext j
  idx_vars j
  refine (congrFun (val_main_v2_eq (F := Ideal) X W) (ix2 j0 j1)).symm.trans ?_
  pointwise
  rfl

theorem reference_x (X : FVec Ideal S4096x512 .bf16) (W : FVec Ideal S512x1024 .bf16) (R : FVec Ideal S4096x1024 .f32)
    (G : FVec Ideal S1x1024 .f32) : val_main_v15 (F := Ideal) X W R G = xA X W R G := by
  funext j
  idx_vars j
  refine (congrFun (val_main_v15_eq (F := Ideal) X W R G) (ix2 j0 j1)).symm.trans ?_
  pointwise
  rfl

theorem reference_h (X : FVec Ideal S4096x512 .bf16) (W : FVec Ideal S512x1024 .bf16) (R : FVec Ideal S4096x1024 .f32)
    (G Gn : FVec Ideal S1x1024 .f32) : val_main_v28 (F := Ideal) X W R G Gn = hA X W R G Gn := by
  have e : ∀ (r : Fin 4096) (k : Fin 1024), val_main_v15 (F := Ideal) X W R G (ix2 r k) = outRow (row R r) (prod X W r) G k :=
    fun r k => congrFun (reference_x X W R G) (ix2 r k)
  funext j
  idx_vars j
  pointwise [val_main_v28, val_main_v27, val_main_v26, val_main_v25, val_main_v24, val_main_v23, val_main_v22, val_main_v21,
    val_main_v20, val_main_v19, val_main_v18, val_main_v17, val_main_v16, val_main_cst_2,
    val_main_cst_3, val_main_cst_4, e]
  rfl
end

open Cert.CoReferenceIdeal.Read in
/-- Equal arguments, so equal arrays. -/
theorem algebraic : Cert.algebraic_CoKernelIdeal_CoReferenceIdeal := by
  intro m g m' g' _ hagree
  refine ⟨_, _, _, Cert.CoKernelIdeal.Value.run_blocks m g, (Cert.CoReferenceIdeal.Value.run m' g').mono fun r h c => ?_⟩
  obtain ⟨e0, e1, e2, e3, e4⟩ := hagree c
  obtain ⟨h0, h1, h2, k⟩ := h c
  have h0 := h0.trans ((val_main_v2_eq _ _).trans (reference_ff _ _))
  have h1 := h1.trans ((val_main_v15_eq _ _ _ _).trans (reference_x _ _ _ _))
  have h2 := h2.trans ((val_main_v28_eq m' c).trans (reference_h _ _ _ _ _))
  rw [final5, final6, final7]
  simp only [aX, aW, aR, aG, aGn, e0, e1, e2, e3, e4] at h0 h1 h2 k ⊢
  exact ⟨h0, h1, h2, k⟩

/-- The reference returns, keeps its arguments and leaves every counter at zero. -/
theorem frame_reference : Cert.quiescent_CoReferenceIdeal := fun m g _ =>
  (Cert.CoReferenceIdeal.Value.run m g).mono fun r h => ⟨fun c => (h c).2.2.2, sem_eq_zero_of_no_sems (by decide) _⟩

end Cert.Co
-- ==== Proof.CqClaim.lean ====
/- The queries of the cross-attention: the kernel and its reference leave the same array. -/
module

public import Idealize.ShloMosaic.Lib.Claim
public import Idealize.ShloMosaic.Lib.Pipeline.ValueKit
public import proofs.«01_k».proof.Proof.Gen.CqKernelIdeal.Value
public import proofs.«01_k».proof.Proof.Gen.CqReferenceIdeal.Run
public import proofs.«01_k».proof.Proof.Gen.CqReferenceIdeal.Read
public import proofs.«01_k».proof.Defs
public import proofs.«01_k».proof.Proof.Product

set_option maxRecDepth 16384

@[expose] public section

noncomputable section

open Idealize.ShloMosaic Idealize.ShloMosaic.TcCoe Idealize.SL.Sem

namespace Cert.Cq

section
open Cert.CqKernelIdeal Cert.CqKernelIdeal.Gen Cert.Product

/-- The queries: the normed stream times the weight. -/
def outA (X : FVec Ideal S4096x1024 .bf16) (W : FVec Ideal S1024x512 .bf16) : FVec Ideal S4096x512 .bf16 :=
  fun j => prod X W (j 0) (j 1)

/-- A tile's product. -/
theorem out_read (X : FVec Ideal S1024x1024 .bf16) (W : FVec Ideal S1024x512 .bf16) (r : Fin 1024) (k : Fin 512) :
    k0_pay1 (F := Ideal) X W (ix2 r k) = prod X W r k := by
  unfold_payloads
  pointwise
  rfl

variable (m : (ℓ : Loc nD τ sig) → Buf (Elt Ideal) ℓ)

/-- Which block every window holds at a grid point: row tile `t`, the weight whole. -/
theorem idx : ∀ t : Fin cfg0.N, win0_0.index t = ![t.val, 0] ∧ win0_1.index t = ![0, 0] ∧ win0_2.index t = ![t.val, 0] :=
  (by decide +kernel : ∀ t : Fin grid0.N, _)

/-- The arrays the region finds, and a point's blocks of them. -/
abbrev aX (c : Dev nD) : FVec Ideal S4096x1024 .bf16 := m ((c : Thread nD τ).loc main_arg0)
abbrev aW (c : Dev nD) : FVec Ideal S1024x512 .bf16 := m ((c : Thread nD τ).loc main_arg1)
abbrev bX (c : Dev nD) (t : Fin cfg0.N) : FVec Ideal S1024x1024 .bf16 := iblk m c 0 t
abbrev bW (c : Dev nD) (t : Fin cfg0.N) : FVec Ideal S1024x512 .bf16 := iblk m c 1 t

theorem readX (c : Dev nD) (t : Fin cfg0.N) (r : Fin 1024) (R : Fin 4096) (hR : R.val = t.val * 1024 + r.val) (l : Fin 1024) :
    bX m c t (ix2 r l) = aX m c (ix2 R l) := by
  blk_point [bX, iblk, V, idx t, hR]

theorem readW (c : Dev nD) (t : Fin cfg0.N) (k K : Fin 512) (hK : K.val = k.val) (l : Fin 1024) :
    bW m c t (ix2 l k) = aW m c (ix2 l K) := by
  blk_point [bW, iblk, V, idx t, hK]

/-- The array at the end, tile by tile. -/
theorem final (c : Dev nD) : (dats m 0 c).arrAt 2 (cfgs 0).N = outA (aX m c) (aW m c) := by
  refine (dats m 0 c).arrAt_eq_of_covers 2 _ (by decide +kernel) fun t hf y => ?_
  blk_simp
  rw [after0_2]
  idx_vars y
  unfold out0_2
  frame_out
  exact (out_read (bX m c t) (bW m c t) y0 y1).trans
    (prod_congr (readX m c t y0 _ (by blk_simp [idx t])) (readW m c t y1 _ (by blk_simp [idx t])))
end

/-- The reference's array is the same product. -/
theorem reference_eq (X : FVec Ideal Cert.CqKernelIdeal.S4096x1024 .bf16) (W : FVec Ideal Cert.CqKernelIdeal.S1024x512 .bf16) :
    Cert.CqReferenceIdeal.Read.val_main_v3 (F := Ideal) X W = outA X W := by
  funext j
  idx_vars j
  refine (congrFun (Cert.CqReferenceIdeal.Read.val_main_v3_eq (F := Ideal) X W) (ix2 j0 j1)).symm.trans ?_
  pointwise
  rfl

/-- Equal arguments, so equal products. -/
theorem algebraic : Cert.algebraic_CqKernelIdeal_CqReferenceIdeal := by
  intro m g m' g' _ hagree
  refine ⟨_, Cert.CqKernelIdeal.Value.run_blocks m g, (Cert.CqReferenceIdeal.Value.run m' g').mono fun r h c => ?_⟩
  obtain ⟨e0, e1⟩ := hagree c
  obtain ⟨h0, k⟩ := h c
  have h0 := h0.trans ((Cert.CqReferenceIdeal.Read.val_main_v3_eq _ _).trans (reference_eq _ _))
  rw [final]
  simp only [aX, aW, e0, e1] at h0 k ⊢
  exact ⟨h0, k⟩

/-- The reference returns, keeps its arguments and leaves every counter at zero. -/
theorem frame_reference : Cert.quiescent_CqReferenceIdeal := fun m g _ =>
  (Cert.CqReferenceIdeal.Value.run m g).mono fun r h => ⟨fun c => (h c).2, sem_eq_zero_of_no_sems (by decide) _⟩

end Cert.Cq
-- ==== Proof.DmClaim.lean ====
/- A step back through the mixer's output weight: the kernel and its reference leave the same array. -/
module

public import Idealize.ShloMosaic.Lib.Claim
public import Idealize.ShloMosaic.Lib.Pipeline.ValueKit
public import proofs.«01_k».proof.Proof.Gen.DmKernelIdeal.Value
public import proofs.«01_k».proof.Proof.Gen.DmReferenceIdeal.Run
public import proofs.«01_k».proof.Proof.Gen.DmReferenceIdeal.Read
public import proofs.«01_k».proof.Defs
public import proofs.«01_k».proof.Proof.Product

set_option maxRecDepth 16384

@[expose] public section

noncomputable section

open Idealize.ShloMosaic Idealize.ShloMosaic.TcCoe Idealize.SL.Sem

namespace Cert.Dm

section
open Cert.DmKernelIdeal Cert.DmKernelIdeal.Gen Cert.Product

/-- The gradient of the merged branches: the residual stream's times the transposed weight. -/
def outA (X : FVec Ideal S4096x1024 .bf16) (W : FVec Ideal S1024x1024 .bf16) : FVec Ideal S4096x1024 .f32 :=
  fun j => back X W (j 0) (j 1)

/-- A tile's product. -/
theorem out_read (X : FVec Ideal S1024x1024 .bf16) (W : FVec Ideal S1024x1024 .bf16) (r : Fin 1024) (k : Fin 1024) :
    k0_pay1 (F := Ideal) X W (ix2 r k) = back X W r k := by
  unfold_payloads
  pointwise
  rfl

variable (m : (ℓ : Loc nD τ sig) → Buf (Elt Ideal) ℓ)

/-- Which block every window holds at a grid point: row tile `t`, the weight whole. -/
theorem idx : ∀ t : Fin cfg0.N, win0_0.index t = ![t.val, 0] ∧ win0_1.index t = ![0, 0] ∧ win0_2.index t = ![t.val, 0] :=
  (by decide +kernel : ∀ t : Fin grid0.N, _)

/-- The arrays the region finds, and a point's blocks of them. -/
abbrev aX (c : Dev nD) : FVec Ideal S4096x1024 .bf16 := m ((c : Thread nD τ).loc main_arg0)
abbrev aW (c : Dev nD) : FVec Ideal S1024x1024 .bf16 := m ((c : Thread nD τ).loc main_arg1)
abbrev bX (c : Dev nD) (t : Fin cfg0.N) : FVec Ideal S1024x1024 .bf16 := iblk m c 0 t
abbrev bW (c : Dev nD) (t : Fin cfg0.N) : FVec Ideal S1024x1024 .bf16 := iblk m c 1 t

theorem readX (c : Dev nD) (t : Fin cfg0.N) (r : Fin 1024) (R : Fin 4096) (hR : R.val = t.val * 1024 + r.val) (l : Fin 1024) :
    bX m c t (ix2 r l) = aX m c (ix2 R l) := by
  blk_point [bX, iblk, V, idx t, hR]

theorem readW (c : Dev nD) (t : Fin cfg0.N) (k K : Fin 1024) (hK : K.val = k.val) (l : Fin 1024) :
    bW m c t (ix2 k l) = aW m c (ix2 K l) := by
  blk_point [bW, iblk, V, idx t, hK]

/-- The array at the end, tile by tile. -/
theorem final (c : Dev nD) : (dats m 0 c).arrAt 2 (cfgs 0).N = outA (aX m c) (aW m c) := by
  refine (dats m 0 c).arrAt_eq_of_covers 2 _ (by decide +kernel) fun t hf y => ?_
  blk_simp
  rw [after0_2]
  idx_vars y
  unfold out0_2
  frame_out
  exact (out_read (bX m c t) (bW m c t) y0 y1).trans
    (back_congr (readX m c t y0 _ (by blk_simp [idx t])) (readW m c t y1 _ (by blk_simp [idx t])))
end

/-- The reference's array is the same product. -/
theorem reference_eq (X : FVec Ideal Cert.DmKernelIdeal.S4096x1024 .bf16) (W : FVec Ideal Cert.DmKernelIdeal.S1024x1024 .bf16) :
    Cert.DmReferenceIdeal.Read.val_main_v4 (F := Ideal) X W = outA X W := by
  funext j
  idx_vars j
  refine (congrFun (Cert.DmReferenceIdeal.Read.val_main_v4_eq (F := Ideal) X W) (ix2 j0 j1)).symm.trans ?_
  pointwise
  rfl

/-- Equal arguments, so equal products. -/
theorem algebraic : Cert.algebraic_DmKernelIdeal_DmReferenceIdeal := by
  intro m g m' g' _ hagree
  refine ⟨_, Cert.DmKernelIdeal.Value.run_blocks m g, (Cert.DmReferenceIdeal.Value.run m' g').mono fun r h c => ?_⟩
  obtain ⟨e0, e1⟩ := hagree c
  obtain ⟨h0, k⟩ := h c
  have h0 := h0.trans ((Cert.DmReferenceIdeal.Read.val_main_v4_eq _ _).trans (reference_eq _ _))
  rw [final]
  simp only [aX, aW, e0, e1] at h0 k ⊢
  exact ⟨h0, k⟩

/-- The reference returns, keeps its arguments and leaves every counter at zero. -/
theorem frame_reference : Cert.quiescent_DmReferenceIdeal := fun m g _ =>
  (Cert.DmReferenceIdeal.Value.run m g).mono fun r h => ⟨fun c => (h c).2, sem_eq_zero_of_no_sems (by decide) _⟩

end Cert.Dm
-- ==== Proof.DbClaim.lean ====
/- A step back through a branch's output weight: the kernel and its reference leave the same array. -/
module

public import Idealize.ShloMosaic.Lib.Claim
public import Idealize.ShloMosaic.Lib.Pipeline.ValueKit
public import proofs.«01_k».proof.Proof.Gen.DbKernelIdeal.Value
public import proofs.«01_k».proof.Proof.Gen.DbReferenceIdeal.Run
public import proofs.«01_k».proof.Proof.Gen.DbReferenceIdeal.Read
public import proofs.«01_k».proof.Defs
public import proofs.«01_k».proof.Proof.Product

set_option maxRecDepth 16384

@[expose] public section

noncomputable section

open Idealize.ShloMosaic Idealize.ShloMosaic.TcCoe Idealize.SL.Sem

namespace Cert.Db

section
open Cert.DbKernelIdeal Cert.DbKernelIdeal.Gen Cert.Product

/-- The gradient of a branch: the merge's gradient times the transposed weight. -/
def outA (X : FVec Ideal S4096x1024 .bf16) (W : FVec Ideal S512x1024 .bf16) : FVec Ideal S4096x512 .f32 :=
  fun j => back X W (j 0) (j 1)

/-- A tile's product. -/
theorem out_read (X : FVec Ideal S1024x1024 .bf16) (W : FVec Ideal S512x1024 .bf16) (r : Fin 1024) (k : Fin 512) :
    k0_pay1 (F := Ideal) X W (ix2 r k) = back X W r k := by
  unfold_payloads
  pointwise
  rfl

variable (m : (ℓ : Loc nD τ sig) → Buf (Elt Ideal) ℓ)

/-- Which block every window holds at a grid point: row tile `t`, the weight whole. -/
theorem idx : ∀ t : Fin cfg0.N, win0_0.index t = ![t.val, 0] ∧ win0_1.index t = ![0, 0] ∧ win0_2.index t = ![t.val, 0] :=
  (by decide +kernel : ∀ t : Fin grid0.N, _)

/-- The arrays the region finds, and a point's blocks of them. -/
abbrev aX (c : Dev nD) : FVec Ideal S4096x1024 .bf16 := m ((c : Thread nD τ).loc main_arg0)
abbrev aW (c : Dev nD) : FVec Ideal S512x1024 .bf16 := m ((c : Thread nD τ).loc main_arg1)
abbrev bX (c : Dev nD) (t : Fin cfg0.N) : FVec Ideal S1024x1024 .bf16 := iblk m c 0 t
abbrev bW (c : Dev nD) (t : Fin cfg0.N) : FVec Ideal S512x1024 .bf16 := iblk m c 1 t

theorem readX (c : Dev nD) (t : Fin cfg0.N) (r : Fin 1024) (R : Fin 4096) (hR : R.val = t.val * 1024 + r.val) (l : Fin 1024) :
    bX m c t (ix2 r l) = aX m c (ix2 R l) := by
  blk_point [bX, iblk, V, idx t, hR]

theorem readW (c : Dev nD) (t : Fin cfg0.N) (k K : Fin 512) (hK : K.val = k.val) (l : Fin 1024) :
    bW m c t (ix2 k l) = aW m c (ix2 K l) := by
  blk_point [bW, iblk, V, idx t, hK]

/-- The array at the end, tile by tile. -/
theorem final (c : Dev nD) : (dats m 0 c).arrAt 2 (cfgs 0).N = outA (aX m c) (aW m c) := by
  refine (dats m 0 c).arrAt_eq_of_covers 2 _ (by decide +kernel) fun t hf y => ?_
  blk_simp
  rw [after0_2]
  idx_vars y
  unfold out0_2
  frame_out
  exact (out_read (bX m c t) (bW m c t) y0 y1).trans
    (back_congr (readX m c t y0 _ (by blk_simp [idx t])) (readW m c t y1 _ (by blk_simp [idx t])))
end

/-- The reference's array is the same product. -/
theorem reference_eq (X : FVec Ideal Cert.DbKernelIdeal.S4096x1024 .bf16) (W : FVec Ideal Cert.DbKernelIdeal.S512x1024 .bf16) :
    Cert.DbReferenceIdeal.Read.val_main_v4 (F := Ideal) X W = outA X W := by
  funext j
  idx_vars j
  refine (congrFun (Cert.DbReferenceIdeal.Read.val_main_v4_eq (F := Ideal) X W) (ix2 j0 j1)).symm.trans ?_
  pointwise
  rfl

/-- Equal arguments, so equal products. -/
theorem algebraic : Cert.algebraic_DbKernelIdeal_DbReferenceIdeal := by
  intro m g m' g' _ hagree
  refine ⟨_, Cert.DbKernelIdeal.Value.run_blocks m g, (Cert.DbReferenceIdeal.Value.run m' g').mono fun r h c => ?_⟩
  obtain ⟨e0, e1⟩ := hagree c
  obtain ⟨h0, k⟩ := h c
  have h0 := h0.trans ((Cert.DbReferenceIdeal.Read.val_main_v4_eq _ _).trans (reference_eq _ _))
  rw [final]
  simp only [aX, aW, e0, e1] at h0 k ⊢
  exact ⟨h0, k⟩

/-- The reference returns, keeps its arguments and leaves every counter at zero. -/
theorem frame_reference : Cert.quiescent_DbReferenceIdeal := fun m g _ =>
  (Cert.DbReferenceIdeal.Value.run m g).mono fun r h => ⟨fun c => (h c).2, sem_eq_zero_of_no_sems (by decide) _⟩

end Cert.Db
-- ==== Proof.DxClaim.lean ====
/- A step back through the cross-attention's output weight: the kernel and its reference leave the same array. -/
module

public import Idealize.ShloMosaic.Lib.Claim
public import Idealize.ShloMosaic.Lib.Pipeline.ValueKit
public import proofs.«01_k».proof.Proof.Gen.DxKernelIdeal.Value
public import proofs.«01_k».proof.Proof.Gen.DxReferenceIdeal.Run
public import proofs.«01_k».proof.Proof.Gen.DxReferenceIdeal.Read
public import proofs.«01_k».proof.Defs
public import proofs.«01_k».proof.Proof.Product

set_option maxRecDepth 16384

@[expose] public section

noncomputable section

open Idealize.ShloMosaic Idealize.ShloMosaic.TcCoe Idealize.SL.Sem

namespace Cert.Dx

section
open Cert.DxKernelIdeal Cert.DxKernelIdeal.Gen Cert.Product

/-- The gradient of the attention's output: the residual stream's times the transposed weight. -/
def outA (X : FVec Ideal S4096x1024 .bf16) (W : FVec Ideal S512x1024 .bf16) : FVec Ideal S4096x512 .bf16 :=
  fun j => back X W (j 0) (j 1)

/-- A tile's product. -/
theorem out_read (X : FVec Ideal S1024x1024 .bf16) (W : FVec Ideal S512x1024 .bf16) (r : Fin 1024) (k : Fin 512) :
    k0_pay1 (F := Ideal) X W (ix2 r k) = back X W r k := by
  unfold_payloads
  pointwise
  rfl

variable (m : (ℓ : Loc nD τ sig) → Buf (Elt Ideal) ℓ)

/-- Which block every window holds at a grid point: row tile `t`, the weight whole. -/
theorem idx : ∀ t : Fin cfg0.N, win0_0.index t = ![t.val, 0] ∧ win0_1.index t = ![0, 0] ∧ win0_2.index t = ![t.val, 0] :=
  (by decide +kernel : ∀ t : Fin grid0.N, _)

/-- The arrays the region finds, and a point's blocks of them. -/
abbrev aX (c : Dev nD) : FVec Ideal S4096x1024 .bf16 := m ((c : Thread nD τ).loc main_arg0)
abbrev aW (c : Dev nD) : FVec Ideal S512x1024 .bf16 := m ((c : Thread nD τ).loc main_arg1)
abbrev bX (c : Dev nD) (t : Fin cfg0.N) : FVec Ideal S1024x1024 .bf16 := iblk m c 0 t
abbrev bW (c : Dev nD) (t : Fin cfg0.N) : FVec Ideal S512x1024 .bf16 := iblk m c 1 t

theorem readX (c : Dev nD) (t : Fin cfg0.N) (r : Fin 1024) (R : Fin 4096) (hR : R.val = t.val * 1024 + r.val) (l : Fin 1024) :
    bX m c t (ix2 r l) = aX m c (ix2 R l) := by
  blk_point [bX, iblk, V, idx t, hR]

theorem readW (c : Dev nD) (t : Fin cfg0.N) (k K : Fin 512) (hK : K.val = k.val) (l : Fin 1024) :
    bW m c t (ix2 k l) = aW m c (ix2 K l) := by
  blk_point [bW, iblk, V, idx t, hK]

/-- The array at the end, tile by tile. -/
theorem final (c : Dev nD) : (dats m 0 c).arrAt 2 (cfgs 0).N = outA (aX m c) (aW m c) := by
  refine (dats m 0 c).arrAt_eq_of_covers 2 _ (by decide +kernel) fun t hf y => ?_
  blk_simp
  rw [after0_2]
  idx_vars y
  unfold out0_2
  frame_out
  exact (out_read (bX m c t) (bW m c t) y0 y1).trans
    (back_congr (readX m c t y0 _ (by blk_simp [idx t])) (readW m c t y1 _ (by blk_simp [idx t])))
end

/-- The reference's array is the same product. -/
theorem reference_eq (X : FVec Ideal Cert.DxKernelIdeal.S4096x1024 .bf16) (W : FVec Ideal Cert.DxKernelIdeal.S512x1024 .bf16) :
    Cert.DxReferenceIdeal.Read.val_main_v5 (F := Ideal) X W = outA X W := by
  funext j
  idx_vars j
  refine (congrFun (Cert.DxReferenceIdeal.Read.val_main_v5_eq (F := Ideal) X W) (ix2 j0 j1)).symm.trans ?_
  pointwise
  rfl

/-- Equal arguments, so equal products. -/
theorem algebraic : Cert.algebraic_DxKernelIdeal_DxReferenceIdeal := by
  intro m g m' g' _ hagree
  refine ⟨_, Cert.DxKernelIdeal.Value.run_blocks m g, (Cert.DxReferenceIdeal.Value.run m' g').mono fun r h c => ?_⟩
  obtain ⟨e0, e1⟩ := hagree c
  obtain ⟨h0, k⟩ := h c
  have h0 := h0.trans ((Cert.DxReferenceIdeal.Read.val_main_v5_eq _ _).trans (reference_eq _ _))
  rw [final]
  simp only [aX, aW, e0, e1] at h0 k ⊢
  exact ⟨h0, k⟩

/-- The reference returns, keeps its arguments and leaves every counter at zero. -/
theorem frame_reference : Cert.quiescent_DxReferenceIdeal := fun m g _ =>
  (Cert.DxReferenceIdeal.Value.run m g).mono fun r h => ⟨fun c => (h c).2, sem_eq_zero_of_no_sems (by decide) _⟩

end Cert.Dx
-- ==== Proof.WuClaim.lean ====
/- The gradient of a branch's output weight: the kernel and its reference leave the same array. -/
module

public import Idealize.ShloMosaic.Lib.Claim
public import Idealize.ShloMosaic.Lib.Pipeline.ValueKit
public import Idealize.ShloMosaic.Lib.Pipeline.ReadBack
public import proofs.«01_k».proof.Proof.Gen.WuKernelIdeal.Value
public import proofs.«01_k».proof.Proof.Gen.WuReferenceIdeal.Run
public import proofs.«01_k».proof.Proof.Gen.WuReferenceIdeal.Read
public import proofs.«01_k».proof.Defs
public import proofs.«01_k».proof.Proof.Product

set_option maxRecDepth 16384

@[expose] public section

noncomputable section

open Idealize.ShloMosaic Idealize.ShloMosaic.TcCoe Idealize.SL.Sem

namespace Cert.Wu

section
open Cert.WuKernelIdeal Cert.WuKernelIdeal.Gen Cert.Product

/-- A quarter's product. -/
theorem part_read (X : FVec Ideal S1024x512 .bf16) (D : FVec Ideal S1024x1024 .bf16) (r : Fin 512) (k : Fin 1024) :
    k0_pay2 (F := Ideal) X D (ix2 r k) = ∑ l : Fin 1024, X (ix2 l r) * D (ix2 l k) := by
  unfold_payloads
  pointwise

/-- A quarter's product added to what the scratch holds. -/
theorem sum_read (X : FVec Ideal S1024x512 .bf16) (D : FVec Ideal S1024x1024 .bf16) (A : FVec Ideal S512x1024 .f32)
    (r : Fin 512) (k : Fin 1024) :
    k0_pay3 (F := Ideal) X D A (ix2 r k) = A (ix2 r k) + ∑ l : Fin 1024, X (ix2 l r) * D (ix2 l k) := by
  unfold_payloads
  pointwise

variable (m : (ℓ : Loc nD τ sig) → Buf (Elt Ideal) ℓ)

/-- Which block every window holds at a grid point: quarter `t` of the rows. -/
theorem idx : ∀ t : Fin cfg0.N, win0_0.index t = ![t.val, 0] ∧ win0_1.index t = ![t.val, 0] ∧ win0_2.index t = ![0, 0] :=
  (by decide +kernel : ∀ t : Fin grid0.N, _)

/-- The arrays the region finds: the product's input and its output's gradient; and a point's blocks of them. -/
abbrev aX (c : Dev nD) : FVec Ideal S4096x512 .bf16 := m ((c : Thread nD τ).loc main_arg0)
abbrev aD (c : Dev nD) : FVec Ideal S4096x1024 .bf16 := m ((c : Thread nD τ).loc main_arg1)
abbrev bX (c : Dev nD) (t : Fin cfg0.N) : FVec Ideal S1024x512 .bf16 := iblk m c 0 t
abbrev bD (c : Dev nD) (t : Fin cfg0.N) : FVec Ideal S1024x1024 .bf16 := iblk m c 1 t

theorem readX (c : Dev nD) (t : Fin cfg0.N) (l : Fin 1024) (r : Fin 512) (L : Fin 4096) (hL : L.val = t.val * 1024 + l.val) :
    bX m c t (ix2 l r) = aX m c (ix2 L r) := by
  blk_point [bX, iblk, V, idx t, hL]

theorem readD (c : Dev nD) (t : Fin cfg0.N) (l : Fin 1024) (k : Fin 1024) (L : Fin 4096) (hL : L.val = t.val * 1024 + l.val) :
    bD m c t (ix2 l k) = aD m c (ix2 L k) := by
  blk_point [bD, iblk, V, idx t, hL]

/-- What a point adds: the products of its quarter of the rows. -/
def part (c : Dev nD) (t : Fin cfg0.N) (r : Fin 512) (k : Fin 1024) : EReal := ∑ l : Fin 1024, bX m c t (ix2 l r) * bD m c t (ix2 l k)

/-- The four quarters' products of 1024 rows each are the product over all rows. -/
theorem run_rows (c : Dev nD) (n : Nat) (hn : n = 0) (h : ∀ s : Fin 4, 4 * n + s.val < cfg0.N) (r : Fin 512) (k : Fin 1024) :
    ∑ s : Fin 4, part m c ⟨4 * n + s.val, h s⟩ r k = ∑ s : Fin 4096, aX m c (ix2 s r) * aD m c (ix2 s k) := by
  subst hn
  refine Fin.sum_mul_add_congr (f := fun s => aX m c (ix2 s r) * aD m c (ix2 s k)) fun s l hl => ?_
  have hL : s.val * 1024 + l.val = (4 * 0 + s.val) * 1024 + l.val := by omega
  exact congrArg₂ (· * ·) (readX m c ⟨4 * 0 + s.val, h s⟩ l r ⟨s.val * 1024 + l.val, hl⟩ hL)
    (readD m c ⟨4 * 0 + s.val, h s⟩ l k ⟨s.val * 1024 + l.val, hl⟩ hL)

/-- The last point writes what it leaves in the scratch. -/
theorem last (c : Dev nD) (t : Fin cfg0.N) (h : t.val % 4 = 3) : (outsAt0 m c t.val t.isLt).1 = (outsAt0 m c t.val t.isLt).2 := by
  rw [outsAt0_C m c t (by omega) (by omega) h]; frame_out

/-- The array at the end is the weight's gradient. -/
theorem final (c : Dev nD) : (dats m 0 c).arrAt 2 (cfgs 0).N = wgrad (aX m c) (aD m c) := by
  refine (dats m 0 c).arrAt_eq_of_covers 2 _ (by decide +kernel) fun t hf y => ?_
  blk_simp
  rw [after0_2]
  idx_vars y
  have hN : ∀ t : Fin cfg0.N, t.val < 4 := fun t => lt_of_lt_of_eq t.isLt N_0
  have ht := (flush0_2 t).mp hf
  rw [last m c t ht, Pipeline.eq_sum_fin_of_reset_step_apply_of_flush (fun n h => (outsAt0 m c n h).2) 4 (fun _ => 0)
    (fun t j => part m c t (j 0) (j 1))
    (fun t h j => by
      rw [outsAt0_A m c t h (by have := hN t; omega) (by omega)]; frame_out; idx_vars j
      exact (part_read _ _ _ _).trans (zero_add _).symm)
    (fun t h j => by
      by_cases h3 : t.val % 4 = 3
      · rw [outsAt0_C m c t h (by omega) h3]; frame_out; idx_vars j; simp only [read_unread_whole]; exact sum_read _ _ _ _ _
      · rw [outsAt0_B m c t h (by omega) h3]; frame_out; idx_vars j; simp only [read_unread_whole]; exact sum_read _ _ _ _ _)
    t ht _, zero_add]
  refine (run_rows m c (t.val / 4) (by have := hN t; omega) _ y0 y1).trans ?_
  unfold wgrad
  exact congrArg₂ (fun R K => ∑ s : Fin 4096, aX m c (ix2 s R) * aD m c (ix2 s K)) (Fin.ext (by blk_simp [idx t])) (Fin.ext (by blk_simp [idx t]))
end

/-- The reference's array is the same gradient. -/
theorem reference_eq (X : FVec Ideal Cert.WuReferenceIdeal.S4096x512 .bf16) (D : FVec Ideal Cert.WuReferenceIdeal.S4096x1024 .bf16) :
    Cert.WuReferenceIdeal.Read.val_main_v5 (F := Ideal) X D = Cert.Product.wgrad X D := by
  funext j
  idx_vars j
  refine (congrFun (Cert.WuReferenceIdeal.Read.val_main_v5_eq (F := Ideal) X D) (ix2 j0 j1)).symm.trans ?_
  pointwise
  exact Finset.sum_congr rfl fun s _ => mul_comm _ _

/-- Equal arguments, so equal gradients. -/
theorem algebraic : Cert.algebraic_WuKernelIdeal_WuReferenceIdeal := by
  intro m g m' g' _ hagree
  refine ⟨_, Cert.WuKernelIdeal.Value.run_blocks m g, (Cert.WuReferenceIdeal.Value.run m' g').mono fun r h c => ?_⟩
  obtain ⟨e0, e1⟩ := hagree c
  obtain ⟨h0, k⟩ := h c
  have h0 := h0.trans ((Cert.WuReferenceIdeal.Read.val_main_v5_eq _ _).trans (reference_eq _ _))
  rw [final]
  simp only [aX, aD, e0, e1] at h0 k ⊢
  exact ⟨h0, k⟩

/-- The reference returns, keeps its arguments and leaves every counter at zero. -/
theorem frame_reference : Cert.quiescent_WuReferenceIdeal := fun m g _ =>
  (Cert.WuReferenceIdeal.Value.run m g).mono fun r h => ⟨fun c => (h c).2, sem_eq_zero_of_no_sems (by decide) _⟩

end Cert.Wu
-- ==== Proof.DwoClaim.lean ====
/- The gradient of the mixer's output weight: the kernel and its reference leave the same array. -/
module

public import Idealize.ShloMosaic.Lib.Claim
public import Idealize.ShloMosaic.Lib.Pipeline.ValueKit
public import Idealize.ShloMosaic.Lib.Pipeline.ReadBack
public import proofs.«01_k».proof.Proof.Gen.DwoKernelIdeal.Value
public import proofs.«01_k».proof.Proof.Gen.DwoReferenceIdeal.Run
public import proofs.«01_k».proof.Proof.Gen.DwoReferenceIdeal.Read
public import proofs.«01_k».proof.Defs
public import proofs.«01_k».proof.Proof.Product

set_option maxRecDepth 16384

@[expose] public section

noncomputable section

open Idealize.ShloMosaic Idealize.ShloMosaic.TcCoe Idealize.SL.Sem

namespace Cert.Dwo

section
open Cert.DwoKernelIdeal Cert.DwoKernelIdeal.Gen Cert.Product

/-- A quarter's product. -/
theorem part_read (X : FVec Ideal S1024x1024 .bf16) (D : FVec Ideal S1024x1024 .bf16) (r : Fin 1024) (k : Fin 1024) :
    k0_pay2 (F := Ideal) X D (ix2 r k) = ∑ l : Fin 1024, X (ix2 l r) * D (ix2 l k) := by
  unfold_payloads
  pointwise

/-- A quarter's product added to what the scratch holds. -/
theorem sum_read (X : FVec Ideal S1024x1024 .bf16) (D : FVec Ideal S1024x1024 .bf16) (A : FVec Ideal S1024x1024 .f32)
    (r : Fin 1024) (k : Fin 1024) :
    k0_pay3 (F := Ideal) X D A (ix2 r k) = A (ix2 r k) + ∑ l : Fin 1024, X (ix2 l r) * D (ix2 l k) := by
  unfold_payloads
  pointwise

variable (m : (ℓ : Loc nD τ sig) → Buf (Elt Ideal) ℓ)

/-- Which block every window holds at a grid point: quarter `t` of the rows. -/
theorem idx : ∀ t : Fin cfg0.N, win0_0.index t = ![t.val, 0] ∧ win0_1.index t = ![t.val, 0] ∧ win0_2.index t = ![0, 0] :=
  (by decide +kernel : ∀ t : Fin grid0.N, _)

/-- The arrays the region finds: the product's input and its output's gradient; and a point's blocks of them. -/
abbrev aX (c : Dev nD) : FVec Ideal S4096x1024 .bf16 := m ((c : Thread nD τ).loc main_arg0)
abbrev aD (c : Dev nD) : FVec Ideal S4096x1024 .bf16 := m ((c : Thread nD τ).loc main_arg1)
abbrev bX (c : Dev nD) (t : Fin cfg0.N) : FVec Ideal S1024x1024 .bf16 := iblk m c 0 t
abbrev bD (c : Dev nD) (t : Fin cfg0.N) : FVec Ideal S1024x1024 .bf16 := iblk m c 1 t

theorem readX (c : Dev nD) (t : Fin cfg0.N) (l : Fin 1024) (r : Fin 1024) (L : Fin 4096) (hL : L.val = t.val * 1024 + l.val) :
    bX m c t (ix2 l r) = aX m c (ix2 L r) := by
  blk_point [bX, iblk, V, idx t, hL]

theorem readD (c : Dev nD) (t : Fin cfg0.N) (l : Fin 1024) (k : Fin 1024) (L : Fin 4096) (hL : L.val = t.val * 1024 + l.val) :
    bD m c t (ix2 l k) = aD m c (ix2 L k) := by
  blk_point [bD, iblk, V, idx t, hL]

/-- What a point adds: the products of its quarter of the rows. -/
def part (c : Dev nD) (t : Fin cfg0.N) (r : Fin 1024) (k : Fin 1024) : EReal := ∑ l : Fin 1024, bX m c t (ix2 l r) * bD m c t (ix2 l k)

/-- The four quarters' products of 1024 rows each are the product over all rows. -/
theorem run_rows (c : Dev nD) (n : Nat) (hn : n = 0) (h : ∀ s : Fin 4, 4 * n + s.val < cfg0.N) (r : Fin 1024) (k : Fin 1024) :
    ∑ s : Fin 4, part m c ⟨4 * n + s.val, h s⟩ r k = ∑ s : Fin 4096, aX m c (ix2 s r) * aD m c (ix2 s k) := by
  subst hn
  refine Fin.sum_mul_add_congr (f := fun s => aX m c (ix2 s r) * aD m c (ix2 s k)) fun s l hl => ?_
  have hL : s.val * 1024 + l.val = (4 * 0 + s.val) * 1024 + l.val := by omega
  exact congrArg₂ (· * ·) (readX m c ⟨4 * 0 + s.val, h s⟩ l r ⟨s.val * 1024 + l.val, hl⟩ hL)
    (readD m c ⟨4 * 0 + s.val, h s⟩ l k ⟨s.val * 1024 + l.val, hl⟩ hL)

/-- The last point writes what it leaves in the scratch. -/
theorem last (c : Dev nD) (t : Fin cfg0.N) (h : t.val % 4 = 3) : (outsAt0 m c t.val t.isLt).1 = (outsAt0 m c t.val t.isLt).2 := by
  rw [outsAt0_C m c t (by omega) (by omega) h]; frame_out

/-- The array at the end is the weight's gradient. -/
theorem final (c : Dev nD) : (dats m 0 c).arrAt 2 (cfgs 0).N = wgrad (aX m c) (aD m c) := by
  refine (dats m 0 c).arrAt_eq_of_covers 2 _ (by decide +kernel) fun t hf y => ?_
  blk_simp
  rw [after0_2]
  idx_vars y
  have hN : ∀ t : Fin cfg0.N, t.val < 4 := fun t => lt_of_lt_of_eq t.isLt N_0
  have ht := (flush0_2 t).mp hf
  rw [last m c t ht, Pipeline.eq_sum_fin_of_reset_step_apply_of_flush (fun n h => (outsAt0 m c n h).2) 4 (fun _ => 0)
    (fun t j => part m c t (j 0) (j 1))
    (fun t h j => by
      rw [outsAt0_A m c t h (by have := hN t; omega) (by omega)]; frame_out; idx_vars j
      exact (part_read _ _ _ _).trans (zero_add _).symm)
    (fun t h j => by
      by_cases h3 : t.val % 4 = 3
      · rw [outsAt0_C m c t h (by omega) h3]; frame_out; idx_vars j; simp only [read_unread_whole]; exact sum_read _ _ _ _ _
      · rw [outsAt0_B m c t h (by omega) h3]; frame_out; idx_vars j; simp only [read_unread_whole]; exact sum_read _ _ _ _ _)
    t ht _, zero_add]
  refine (run_rows m c (t.val / 4) (by have := hN t; omega) _ y0 y1).trans ?_
  unfold wgrad
  exact congrArg₂ (fun R K => ∑ s : Fin 4096, aX m c (ix2 s R) * aD m c (ix2 s K)) (Fin.ext (by blk_simp [idx t])) (Fin.ext (by blk_simp [idx t]))
end

/-- The reference's array is the same gradient. -/
theorem reference_eq (X : FVec Ideal Cert.DwoReferenceIdeal.S4096x1024 .bf16) (D : FVec Ideal Cert.DwoReferenceIdeal.S4096x1024 .bf16) :
    Cert.DwoReferenceIdeal.Read.val_main_v5 (F := Ideal) X D = Cert.Product.wgrad X D := by
  funext j
  idx_vars j
  refine (congrFun (Cert.DwoReferenceIdeal.Read.val_main_v5_eq (F := Ideal) X D) (ix2 j0 j1)).symm.trans ?_
  pointwise
  exact Finset.sum_congr rfl fun s _ => mul_comm _ _

/-- Equal arguments, so equal gradients. -/
theorem algebraic : Cert.algebraic_DwoKernelIdeal_DwoReferenceIdeal := by
  intro m g m' g' _ hagree
  refine ⟨_, Cert.DwoKernelIdeal.Value.run_blocks m g, (Cert.DwoReferenceIdeal.Value.run m' g').mono fun r h c => ?_⟩
  obtain ⟨e0, e1⟩ := hagree c
  obtain ⟨h0, k⟩ := h c
  have h0 := h0.trans ((Cert.DwoReferenceIdeal.Read.val_main_v5_eq _ _).trans (reference_eq _ _))
  rw [final]
  simp only [aX, aD, e0, e1] at h0 k ⊢
  exact ⟨h0, k⟩

/-- The reference returns, keeps its arguments and leaves every counter at zero. -/
theorem frame_reference : Cert.quiescent_DwoReferenceIdeal := fun m g _ =>
  (Cert.DwoReferenceIdeal.Value.run m g).mono fun r h => ⟨fun c => (h c).2, sem_eq_zero_of_no_sems (by decide) _⟩

end Cert.Dwo
-- ==== Proof.DwqClaim.lean ====
/- The gradient of the weight of the cross-attention's queries: the kernel and its reference leave the same array. -/
module

public import Idealize.ShloMosaic.Lib.Claim
public import Idealize.ShloMosaic.Lib.Pipeline.ValueKit
public import Idealize.ShloMosaic.Lib.Pipeline.ReadBack
public import proofs.«01_k».proof.Proof.Gen.DwqKernelIdeal.Value
public import proofs.«01_k».proof.Proof.Gen.DwqReferenceIdeal.Run
public import proofs.«01_k».proof.Proof.Gen.DwqReferenceIdeal.Read
public import proofs.«01_k».proof.Defs
public import proofs.«01_k».proof.Proof.Product

set_option maxRecDepth 16384

@[expose] public section

noncomputable section

open Idealize.ShloMosaic Idealize.ShloMosaic.TcCoe Idealize.SL.Sem

namespace Cert.Dwq

section
open Cert.DwqKernelIdeal Cert.DwqKernelIdeal.Gen Cert.Product

/-- A quarter's product. -/
theorem part_read (X : FVec Ideal S1024x1024 .bf16) (D : FVec Ideal S1024x512 .bf16) (r : Fin 1024) (k : Fin 512) :
    k0_pay2 (F := Ideal) X D (ix2 r k) = ∑ l : Fin 1024, X (ix2 l r) * D (ix2 l k) := by
  unfold_payloads
  pointwise

/-- A quarter's product added to what the scratch holds. -/
theorem sum_read (X : FVec Ideal S1024x1024 .bf16) (D : FVec Ideal S1024x512 .bf16) (A : FVec Ideal S1024x512 .f32)
    (r : Fin 1024) (k : Fin 512) :
    k0_pay3 (F := Ideal) X D A (ix2 r k) = A (ix2 r k) + ∑ l : Fin 1024, X (ix2 l r) * D (ix2 l k) := by
  unfold_payloads
  pointwise

variable (m : (ℓ : Loc nD τ sig) → Buf (Elt Ideal) ℓ)

/-- Which block every window holds at a grid point: quarter `t` of the rows. -/
theorem idx : ∀ t : Fin cfg0.N, win0_0.index t = ![t.val, 0] ∧ win0_1.index t = ![t.val, 0] ∧ win0_2.index t = ![0, 0] :=
  (by decide +kernel : ∀ t : Fin grid0.N, _)

/-- The arrays the region finds: the product's input and its output's gradient; and a point's blocks of them. -/
abbrev aX (c : Dev nD) : FVec Ideal S4096x1024 .bf16 := m ((c : Thread nD τ).loc main_arg0)
abbrev aD (c : Dev nD) : FVec Ideal S4096x512 .bf16 := m ((c : Thread nD τ).loc main_arg1)
abbrev bX (c : Dev nD) (t : Fin cfg0.N) : FVec Ideal S1024x1024 .bf16 := iblk m c 0 t
abbrev bD (c : Dev nD) (t : Fin cfg0.N) : FVec Ideal S1024x512 .bf16 := iblk m c 1 t

theorem readX (c : Dev nD) (t : Fin cfg0.N) (l : Fin 1024) (r : Fin 1024) (L : Fin 4096) (hL : L.val = t.val * 1024 + l.val) :
    bX m c t (ix2 l r) = aX m c (ix2 L r) := by
  blk_point [bX, iblk, V, idx t, hL]

theorem readD (c : Dev nD) (t : Fin cfg0.N) (l : Fin 1024) (k : Fin 512) (L : Fin 4096) (hL : L.val = t.val * 1024 + l.val) :
    bD m c t (ix2 l k) = aD m c (ix2 L k) := by
  blk_point [bD, iblk, V, idx t, hL]

/-- What a point adds: the products of its quarter of the rows. -/
def part (c : Dev nD) (t : Fin cfg0.N) (r : Fin 1024) (k : Fin 512) : EReal := ∑ l : Fin 1024, bX m c t (ix2 l r) * bD m c t (ix2 l k)

/-- The four quarters' products of 1024 rows each are the product over all rows. -/
theorem run_rows (c : Dev nD) (n : Nat) (hn : n = 0) (h : ∀ s : Fin 4, 4 * n + s.val < cfg0.N) (r : Fin 1024) (k : Fin 512) :
    ∑ s : Fin 4, part m c ⟨4 * n + s.val, h s⟩ r k = ∑ s : Fin 4096, aX m c (ix2 s r) * aD m c (ix2 s k) := by
  subst hn
  refine Fin.sum_mul_add_congr (f := fun s => aX m c (ix2 s r) * aD m c (ix2 s k)) fun s l hl => ?_
  have hL : s.val * 1024 + l.val = (4 * 0 + s.val) * 1024 + l.val := by omega
  exact congrArg₂ (· * ·) (readX m c ⟨4 * 0 + s.val, h s⟩ l r ⟨s.val * 1024 + l.val, hl⟩ hL)
    (readD m c ⟨4 * 0 + s.val, h s⟩ l k ⟨s.val * 1024 + l.val, hl⟩ hL)

/-- The last point writes what it leaves in the scratch. -/
theorem last (c : Dev nD) (t : Fin cfg0.N) (h : t.val % 4 = 3) : (outsAt0 m c t.val t.isLt).1 = (outsAt0 m c t.val t.isLt).2 := by
  rw [outsAt0_C m c t (by omega) (by omega) h]; frame_out

/-- The array at the end is the weight's gradient. -/
theorem final (c : Dev nD) : (dats m 0 c).arrAt 2 (cfgs 0).N = wgrad (aX m c) (aD m c) := by
  refine (dats m 0 c).arrAt_eq_of_covers 2 _ (by decide +kernel) fun t hf y => ?_
  blk_simp
  rw [after0_2]
  idx_vars y
  have hN : ∀ t : Fin cfg0.N, t.val < 4 := fun t => lt_of_lt_of_eq t.isLt N_0
  have ht := (flush0_2 t).mp hf
  rw [last m c t ht, Pipeline.eq_sum_fin_of_reset_step_apply_of_flush (fun n h => (outsAt0 m c n h).2) 4 (fun _ => 0)
    (fun t j => part m c t (j 0) (j 1))
    (fun t h j => by
      rw [outsAt0_A m c t h (by have := hN t; omega) (by omega)]; frame_out; idx_vars j
      exact (part_read _ _ _ _).trans (zero_add _).symm)
    (fun t h j => by
      by_cases h3 : t.val % 4 = 3
      · rw [outsAt0_C m c t h (by omega) h3]; frame_out; idx_vars j; simp only [read_unread_whole]; exact sum_read _ _ _ _ _
      · rw [outsAt0_B m c t h (by omega) h3]; frame_out; idx_vars j; simp only [read_unread_whole]; exact sum_read _ _ _ _ _)
    t ht _, zero_add]
  refine (run_rows m c (t.val / 4) (by have := hN t; omega) _ y0 y1).trans ?_
  unfold wgrad
  exact congrArg₂ (fun R K => ∑ s : Fin 4096, aX m c (ix2 s R) * aD m c (ix2 s K)) (Fin.ext (by blk_simp [idx t])) (Fin.ext (by blk_simp [idx t]))
end

/-- The reference's array is the same gradient. -/
theorem reference_eq (X : FVec Ideal Cert.DwqReferenceIdeal.S4096x1024 .bf16) (D : FVec Ideal Cert.DwqReferenceIdeal.S4096x512 .bf16) :
    Cert.DwqReferenceIdeal.Read.val_main_v5 (F := Ideal) X D = Cert.Product.wgrad X D := by
  funext j
  idx_vars j
  refine (congrFun (Cert.DwqReferenceIdeal.Read.val_main_v5_eq (F := Ideal) X D) (ix2 j0 j1)).symm.trans ?_
  pointwise
  exact Finset.sum_congr rfl fun s _ => mul_comm _ _

/-- Equal arguments, so equal gradients. -/
theorem algebraic : Cert.algebraic_DwqKernelIdeal_DwqReferenceIdeal := by
  intro m g m' g' _ hagree
  refine ⟨_, Cert.DwqKernelIdeal.Value.run_blocks m g, (Cert.DwqReferenceIdeal.Value.run m' g').mono fun r h c => ?_⟩
  obtain ⟨e0, e1⟩ := hagree c
  obtain ⟨h0, k⟩ := h c
  have h0 := h0.trans ((Cert.DwqReferenceIdeal.Read.val_main_v5_eq _ _).trans (reference_eq _ _))
  rw [final]
  simp only [aX, aD, e0, e1] at h0 k ⊢
  exact ⟨h0, k⟩

/-- The reference returns, keeps its arguments and leaves every counter at zero. -/
theorem frame_reference : Cert.quiescent_DwqReferenceIdeal := fun m g _ =>
  (Cert.DwqReferenceIdeal.Value.run m g).mono fun r h => ⟨fun c => (h c).2, sem_eq_zero_of_no_sems (by decide) _⟩

end Cert.Dwq
-- ==== Proof.LsValue.lean ====
/- The loss of one sequence and its gradient: what a grid point writes, what the arrays hold, and what the reference computes. -/
module

public import Idealize.ShloMosaic.Lib.Pipeline.ValueKit
public import Idealize.ShloMosaic.Lib.Pipeline.ReadBack
public import proofs.«01_k».proof.Proof.Gen.LsKernelIdeal.Frame
public import proofs.«01_k».proof.Proof.Gen.LsReferenceIdeal.Read
public import proofs.«01_k».proof.Proof.Norm

set_option maxRecDepth 16384

@[expose] public section

noncomputable section

open Idealize.ShloMosaic Idealize.ShloMosaic.TcCoe Idealize.SL.Sem

namespace Cert.Ls

open Cert.LsKernelIdeal Cert.LsKernelIdeal.Gen Cert.Norm

/-- One half, as the programs write it. -/
def half : EReal := Ideal.ofBits FTy.f32 1056964608#32

theorem half_eq : half = ((1 / 2 : ℝ) : EReal) := by
  simp [half, Ideal.ofBits, Ideal.ieee, -EReal.coe_mul]; norm_num

theorem two_eq : Ideal.ofBits FTy.f32 1073741824#32 = ((2 : ℝ) : EReal) := by
  simp [Ideal.ofBits, Ideal.ieee, -EReal.coe_mul]; norm_num

/-- A row's mean squared difference. -/
def rowLoss (y t : Fin 1024 → EReal) : EReal := Ideal.div (∑ k, (y k - t k) * (y k - t k)) width

/-- The loss: half the sum of the rows' mean squared differences. -/
def loss {S : Nat} (y t : Fin S → Fin 1024 → EReal) : EReal := half * ∑ r, rowLoss (y r) (t r)

/-- The gradient of the loss: the difference, divided by the width. -/
def dyA (Y T : FVec Ideal S4096x1024 .f32) : S4096x1024.Idx → EReal := fun j => Ideal.div (row Y (j 0) (j 1) - row T (j 0) (j 1)) width

/-- The loss of the 512 rows from row `512 (n / 8)` on. -/
def blockLoss (Y T : FVec Ideal S4096x1024 .f32) (n : Fin 64) : EReal :=
  loss (S := 512) (fun r => row Y ⟨n.val / 8 * 512 + r.val, by omega⟩) (fun r => row T ⟨n.val / 8 * 512 + r.val, by omega⟩)

/-- The blocks' losses: every element of a block of eight rows holds the loss of that block's rows. -/
def partA (Y T : FVec Ideal S4096x1024 .f32) : S64x128.Idx → EReal := fun j => blockLoss Y T (j 0)

theorem dy_read (Y T : FVec Ideal S512x1024 .f32) (r : Fin 512) (k : Fin 1024) :
    k0_pay2 (F := Ideal) Y T (ix2 r k) = Ideal.div (Y (ix2 r k) - T (ix2 r k)) width := by
  unfold_payloads
  pointwise
  rfl

theorem part_read (Y T : FVec Ideal S512x1024 .f32) (a : Fin 8) (b : Fin 128) :
    k0_pay3 (F := Ideal) Y T (ix2 a b) = loss (row Y) (row T) := by
  unfold_payloads
  pointwise
  rfl

variable (m : (ℓ : Loc nD τ sig) → Buf (Elt Ideal) ℓ)

/-- Which block every window holds at a grid point: rows `512 t` and on, and block `t` of the blocks' losses. -/
theorem idx : ∀ t : Fin cfg0.N, win0_0.index t = ![t.val, 0] ∧ win0_1.index t = ![t.val, 0] ∧ win0_2.index t = ![t.val, 0]
    ∧ win0_3.index t = ![t.val, 0] :=
  (by decide +kernel : ∀ t : Fin grid0.N, _)

/-- The arrays the region finds: the output and the target. -/
abbrev aY (c : Dev nD) : FVec Ideal S4096x1024 .f32 := m ((c : Thread nD τ).loc main_arg0)
abbrev aT (c : Dev nD) : FVec Ideal S4096x1024 .f32 := m ((c : Thread nD τ).loc main_arg1)

/-- A point's blocks of them. -/
abbrev bY (c : Dev nD) (t : Fin cfg0.N) : FVec Ideal S512x1024 .f32 := iblk m c 0 t
abbrev bT (c : Dev nD) (t : Fin cfg0.N) : FVec Ideal S512x1024 .f32 := iblk m c 1 t

theorem readY (c : Dev nD) (t : Fin cfg0.N) (r : Fin 512) (R : Fin 4096) (hR : R.val = t.val * 512 + r.val) :
    row (bY m c t) r = row (aY m c) R := by
  funext l
  show bY m c t (ix2 r l) = aY m c (ix2 R l)
  blk_point [bY, iblk, V, idx t, hR]

theorem readT (c : Dev nD) (t : Fin cfg0.N) (r : Fin 512) (R : Fin 4096) (hR : R.val = t.val * 512 + r.val) :
    row (bT m c t) r = row (aT m c) R := by
  funext l
  show bT m c t (ix2 r l) = aT m c (ix2 R l)
  blk_point [bT, iblk, V, idx t, hR]

/-- What a point writes of the gradient and of the losses, in the arrays' own coordinates. -/
theorem tile3 (c : Dev nD) (t : Fin cfg0.N) (r : Fin 512) (k : Fin 1024) (R : Fin 4096) (K : Fin 1024)
    (hR : R.val = t.val * 512 + r.val) (hK : K.val = k.val) :
    (out0_3 (F := Ideal) (bY m c t) (bT m c t) (ix2 r k) : EReal) = dyA (aY m c) (aT m c) (ix2 R K) := by
  obtain rfl : K = k := Fin.ext hK
  unfold out0_3
  frame_out
  refine (dy_read _ _ _ _).trans ?_
  exact congrArg₂ (fun a b => Ideal.div (a - b) width) (congrFun (readY m c t r R hR) K) (congrFun (readT m c t r R hR) K)

theorem tile2 (c : Dev nD) (t : Fin cfg0.N) (a : Fin 8) (b : Fin 128) (A : Fin 64)
    (hA : A.val = t.val * 8 + a.val) :
    (out0_2 (F := Ideal) (bY m c t) (bT m c t) (ix2 a b) : EReal) = blockLoss (aY m c) (aT m c) A := by
  unfold out0_2
  frame_out
  refine (part_read _ _ _ _).trans ?_
  have h : ∀ r : Fin 512, A.val / 8 * 512 + r.val = t.val * 512 + r.val := fun r => by omega
  exact congrArg₂ (loss (S := 512)) (funext fun r => readY m c t r _ (h r)) (funext fun r => readT m c t r _ (h r))

/-- The array of the gradient. -/
theorem final3 (c : Dev nD) : (dats m 0 c).arrAt 3 (cfgs 0).N = dyA (aY m c) (aT m c) := by
  refine (dats m 0 c).arrAt_eq_of_covers 3 _ (by decide +kernel) fun t hf y => ?_
  blk_simp
  rw [after0_3]
  idx_vars y
  exact tile3 m c t y0 y1 _ _ (by blk_simp [idx t]) (by blk_simp [idx t])

/-- The array of the blocks' losses. -/
theorem final2 (c : Dev nD) : (dats m 0 c).arrAt 2 (cfgs 0).N = partA (aY m c) (aT m c) := by
  refine (dats m 0 c).arrAt_eq_of_covers 2 _ (by decide +kernel) fun t hf y => ?_
  blk_simp
  rw [after0_2]
  idx_vars y
  exact tile2 m c t y0 y1 _ (by blk_simp [idx t])

/-- The loss as a program's result, an array of one element. -/
def lossA (Y T : FVec Ideal S4096x1024 .f32) : S_.Idx → EReal := fun _ => loss (row Y) (row T)

/-- The lines after the kernel add up the eight blocks' losses. -/
def total (P : FVec Ideal S64x128 .f32) : FVec Ideal S_ .f32 :=
  Host.reduceAdd (shapeCast S8 (Host.slice S8x1 ![0, 0] ![8, 1] P slicesBy_S64x128_S8x1_0s8_0s1) shapeCasts_S8x1_S8) (constant S_ .f32 0x00000000#32)
    reducesTo_S8_S_d0 h_S_

theorem total_read (P : FVec Ideal S64x128 .f32) (j : S_.Idx) : total P j = ∑ s : Fin 8, P (ix2 ⟨8 * s.val, by omega⟩ 0) := by
  unfold total
  pointwise

/-- The eight blocks' losses add up to the loss of all rows. -/
theorem total_part (Y T : FVec Ideal S4096x1024 .f32) : total (partA Y T) = lossA Y T := by
  funext j
  rw [total_read]
  have e : ∀ s : Fin 8, partA Y T (ix2 ⟨8 * s.val, by omega⟩ 0)
      = (∑ r : Fin 512, rowLoss (row Y ⟨s.val * 512 + r.val, by omega⟩) (row T ⟨s.val * 512 + r.val, by omega⟩)) * ((1 / 2 : ℝ) : EReal) := by
    intro s
    unfold partA blockLoss loss
    rw [half_eq, mul_comm]
    refine congrArg (· * _) (Finset.sum_congr rfl fun r _ => ?_)
    have h : (8 * s.val) / 8 * 512 + r.val = s.val * 512 + r.val := by omega
    exact congrArg₂ rowLoss (congrArg (row Y) (Fin.ext h)) (congrArg (row T) (Fin.ext h))
  rw [Finset.sum_congr rfl fun s _ => e s, sum_mul_real _ _ (by norm_num)]
  unfold lossA loss
  rw [half_eq, mul_comm]
  refine congrArg (_ * ·) ?_
  exact Fin.sum_mul_add_congr (f := fun R => rowLoss (row Y R) (row T R)) fun s r hl => rfl

/-- The reference's loss and gradient are the same. -/
theorem reference_loss (Y T : FVec Ideal S4096x1024 .f32) : Cert.LsReferenceIdeal.Read.val_main_v8 (F := Ideal) Y T = lossA Y T := by
  funext j
  refine (congrFun (Cert.LsReferenceIdeal.Read.val_main_v8_eq (F := Ideal) Y T) j).symm.trans ?_
  pointwise
  rfl

theorem reference_dy (Y T : FVec Ideal S4096x1024 .f32) : Cert.LsReferenceIdeal.Read.val_main_v14 (F := Ideal) Y T = dyA Y T := by
  funext j
  idx_vars j
  refine (congrFun (Cert.LsReferenceIdeal.Read.val_main_v14_eq (F := Ideal) Y T) (ix2 j0 j1)).symm.trans ?_
  pointwise
  show Ideal.div half width * (Ideal.ofBits FTy.f32 1073741824#32 * (Y (ix2 j0 j1) - T (ix2 j0 j1))) = Ideal.div (Y (ix2 j0 j1) - T (ix2 j0 j1)) width
  rw [div_width, div_width, half_eq, two_eq, ← mul_assoc, ← EReal.coe_mul, ← EReal.coe_mul, mul_comm]
  norm_num

end Cert.Ls
-- ==== Proof.LsClaim.lean ====
/- The call of the loss and its reference leave the same loss and the same gradient. -/
module

public import Idealize.ShloMosaic.Lib.Claim
public import Idealize.ShloMosaic.Lib.StableHlo.Run
public import proofs.«01_k».proof.Proof.Gen.LsReferenceIdeal.Run
public import proofs.«01_k».proof.Defs
public import proofs.«01_k».proof.Proof.LsValue

@[expose] public section

noncomputable section

open Idealize.ShloMosaic Idealize.ShloMosaic.TcCoe Idealize.SL.Sem Idealize.ShloMosaic.StableHlo

namespace Cert.Ls

open Cert.LsKernelIdeal Cert.LsKernelIdeal.Gen in
/-- What the lines after the kernel leave in the loss: the sum of the blocks' losses. -/
theorem tail_total (m : (ℓ : Loc nD τ sig) → Buf (Elt Ideal) ℓ) (c : Dev nD) :
    Pipeline.afterTail₀ cfgs (dats m) 0 (V0 m) [hostOps1] c main_v3 = lossA (aY m c) (aT m c) := by
  have e : Pipeline.withArrays spec0 c (V0 m c) (fun w => (dats m 0 c).arrAt w (cfgs 0).N) (Proc.devRef .tc main_v0_0)
      = partA (aY m c) (aT m c) :=
    (Pipeline.withArrays_arr spec0 launch0.win.arr_inj c (V0 m c) (fun w => (dats m 0 c).arrAt w (cfgs 0).N) 2).trans (final2 m c)
  refine Eq.trans ?_ (total_part (aY m c) (aT m c))
  rw [← e]
  unfold Pipeline.afterTail₀
  simp only [hostOps1, List.flatten_cons, List.flatten_nil, List.append_nil]
  after_results
  rfl

open Cert.LsKernelIdeal Cert.LsKernelIdeal.Gen in
/-- The kernel leaves the formulas and keeps its arguments. -/
theorem kernel_run (m : (ℓ : Loc nD τ sig) → Buf (Elt Ideal) ℓ) (g : Dev nD → PrngReg) :
    θ_run (Cert.LsKernelIdeal.defs (F := Ideal)) (onTc (τ := τ) (Cert.LsKernelIdeal.main (F := Ideal))) ⟨m, fun _ => 0, g⟩ fun r =>
      ∀ c : Dev nD,
        r.2.mem ((c.tc : Thread nD τ).loc main_v3) = lossA (m ((c.tc : Thread nD τ).loc main_arg0)) (m ((c.tc : Thread nD τ).loc main_arg1))
        ∧ r.2.mem ((c.tc : Thread nD τ).loc main_v0_1) = dyA (m ((c.tc : Thread nD τ).loc main_arg0)) (m ((c.tc : Thread nD τ).loc main_arg1))
        ∧ r.2.mem ((c.tc : Thread nD τ).loc main_arg0) = m ((c.tc : Thread nD τ).loc main_arg0)
        ∧ r.2.mem ((c.tc : Thread nD τ).loc main_arg1) = m ((c.tc : Thread nD τ).loc main_arg1) := by
  refine (run_main m g).mono fun r h c => ?_
  refine ⟨((h c).2 main_v3 (by decide)).trans (tail_total m c), ((h c).1 3).trans (final3 m c), ?_, ?_⟩
  · exact ((h c).1 0).trans (((dats m 0 c).arrAt_in 0 rfl _).trans ((A_eq m c 0).trans (V_main_arg0 m c)))
  · exact ((h c).1 1).trans (((dats m 0 c).arrAt_in 1 rfl _).trans ((A_eq m c 1).trans (V_main_arg1 m c)))

open Cert.LsReferenceIdeal in
/-- The reference leaves the formulas and keeps its arguments. -/
theorem reference_run (m : (ℓ : Loc nD τ sig) → Buf (Elt Ideal) ℓ) (g : Dev nD → PrngReg) :
    θ_run (Cert.LsReferenceIdeal.defs (F := Ideal)) (onTc (τ := τ) (Cert.LsReferenceIdeal.main (F := Ideal))) ⟨m, fun _ => 0, g⟩ fun r =>
      ∀ c : Dev nD,
        r.2.mem ((c.tc : Thread nD τ).loc main_v8) = lossA (m ((c.tc : Thread nD τ).loc main_arg0)) (m ((c.tc : Thread nD τ).loc main_arg1))
        ∧ r.2.mem ((c.tc : Thread nD τ).loc main_v14) = dyA (m ((c.tc : Thread nD τ).loc main_arg0)) (m ((c.tc : Thread nD τ).loc main_arg1))
        ∧ r.2.mem ((c.tc : Thread nD τ).loc main_arg0) = m ((c.tc : Thread nD τ).loc main_arg0)
        ∧ r.2.mem ((c.tc : Thread nD τ).loc main_arg1) = m ((c.tc : Thread nD τ).loc main_arg1) := by
  refine (Cert.LsReferenceIdeal.Value.run m g).mono fun r h c => ?_
  obtain ⟨h0, h1, k⟩ := h c
  exact ⟨h0.trans ((Cert.LsReferenceIdeal.Read.val_main_v8_eq _ _).trans (reference_loss _ _)),
    h1.trans ((Cert.LsReferenceIdeal.Read.val_main_v14_eq _ _).trans (reference_dy _ _)), k⟩

theorem algebraic : Cert.algebraic_LsKernelIdeal_LsReferenceIdeal := by
  intro m g m' g' _ hagree
  refine ⟨_, _, kernel_run m g, (reference_run m' g').mono fun r h c => ?_⟩
  obtain ⟨e0, e1⟩ := hagree c
  have hc := h c
  simp only [e0, e1] at hc ⊢
  exact hc

/-- The reference returns, keeps its arguments and leaves every counter at zero. -/
theorem frame_reference : Cert.quiescent_LsReferenceIdeal := by
  intro m g _
  exact (reference_run m g).mono fun r h => ⟨fun c => (h c).2.2, sem_eq_zero_of_no_sems (by decide) _⟩

end Cert.Ls
-- ==== Proof.Adam.lean ====
/- One step of the optimiser, number by number, over the extended reals: the formulas that every weight's call and its
   reference are read as. -/
module

public import Idealize.ShloMosaic.Lib.Pipeline.ValueKit

@[expose] public section

noncomputable section

open Idealize.ShloMosaic

namespace Cert.Adam

/-- The number that a single-precision word stands for. -/
abbrev lit (w : BitVec 32) : EReal := FloatOps.ofBits (F := Ideal) .f32 w

/-- The new first moment: 0.9 of the old one and 0.1 of the gradient. -/
def first (g m : EReal) : EReal := lit 0x3F666666 * m + lit 0x3DCCCCCD * g

/-- The new second moment: 0.999 of the old one and 0.001 of the gradient's square. -/
def second (g v : EReal) : EReal := lit 0x3F7FBE77 * v + lit 0x3A83126F * (g * g)

/-- The step: the corrected first moment over the root of the corrected second one, with the decay of the weight, times the
    negative rate. -/
def step (w g m v : EReal) : EReal :=
  lit 0xBA83126F * (Ideal.div (Ideal.div (first g m) (lit 0x3F26BD02))
    (Ideal.sqrt (Ideal.div (second g v) (lit 0x3C231ACC)) + lit 0x322BCC77) + lit 0x3C23D70A * w)

/-- The same for whole arrays, the gradient being the sum of two halves. -/
def gradA {S : Shape} (A B : FVec Ideal S .f32) : FVec Ideal S .f32 := fun j => A j + B j
def firstA {S : Shape} (A B M : FVec Ideal S .f32) : FVec Ideal S .f32 := fun j => first (A j + B j) (M j)
def secondA {S : Shape} (A B V : FVec Ideal S .f32) : FVec Ideal S .f32 := fun j => second (A j + B j) (V j)
def stepA {S : Shape} (W A B M V : FVec Ideal S .f32) : FVec Ideal S .f32 := fun j => step (W j) (A j + B j) (M j) (V j)

end Cert.Adam
-- ==== Proof.AvClaim.lean ====
/- The optimiser on the gains of a norm: the call and its reference leave the same arrays. -/
module

public import Idealize.ShloMosaic.Lib.Claim
public import Idealize.ShloMosaic.Lib.Pipeline.ValueKit
public import proofs.«01_k».proof.Proof.Gen.AvKernelIdeal.Value
public import proofs.«01_k».proof.Proof.Gen.AvReferenceIdeal.Run
public import proofs.«01_k».proof.Proof.Gen.AvReferenceIdeal.Read
public import proofs.«01_k».proof.Defs
public import proofs.«01_k».proof.Proof.Adam

set_option maxRecDepth 16384

@[expose] public section

noncomputable section

open Idealize.ShloMosaic Idealize.ShloMosaic.TcCoe Idealize.SL.Sem

namespace Cert.Av

section
open Cert.AvKernelIdeal Cert.AvKernelIdeal.Gen Cert.Adam

variable (m : (ℓ : Loc nD τ sig) → Buf (Elt Ideal) ℓ)

/-- The arrays the region finds: the weight, the gradient's halves and the moments. -/
abbrev aW (c : Dev nD) := m ((c.tc : Thread nD τ).loc main_arg0)
abbrev aA (c : Dev nD) := m ((c.tc : Thread nD τ).loc main_arg1)
abbrev aB (c : Dev nD) := m ((c.tc : Thread nD τ).loc main_arg2)
abbrev aM (c : Dev nD) := m ((c.tc : Thread nD τ).loc main_arg3)
abbrev aV (c : Dev nD) := m ((c.tc : Thread nD τ).loc main_arg4)

/-- The arrays at the end: every block lies in its array as the arguments' blocks do in theirs. -/
theorem final5 (c : Dev nD) : (dats m 0 c).arrAt 5 cfg0.N = gradA (aA m c) (aB m c) := by
  refine (dats m 0 c).arrAt_eq_of_covers 5 _ (by decide +kernel) fun t hf y => ?_
  blk_simp
  rw [after0_5]
  unfold out0_5
  frame_out
  rfl

theorem final6 (c : Dev nD) : (dats m 0 c).arrAt 6 cfg0.N = stepA (aW m c) (aA m c) (aB m c) (aM m c) (aV m c) := by
  refine (dats m 0 c).arrAt_eq_of_covers 6 _ (by decide +kernel) fun t hf y => ?_
  blk_simp
  rw [after0_6]
  unfold out0_6
  frame_out
  rfl

theorem final7 (c : Dev nD) : (dats m 0 c).arrAt 7 cfg0.N = firstA (aA m c) (aB m c) (aM m c) := by
  refine (dats m 0 c).arrAt_eq_of_covers 7 _ (by decide +kernel) fun t hf y => ?_
  blk_simp
  rw [after0_7]
  unfold out0_7
  frame_out
  rfl

theorem final8 (c : Dev nD) : (dats m 0 c).arrAt 8 cfg0.N = secondA (aA m c) (aB m c) (aV m c) := by
  refine (dats m 0 c).arrAt_eq_of_covers 8 _ (by decide +kernel) fun t hf y => ?_
  blk_simp
  rw [after0_8]
  unfold out0_8
  frame_out
  rfl
end

open Cert.Adam Cert.AvReferenceIdeal.Read in
/-- The reference's arrays are the same functions of equal arguments. -/
theorem algebraic : Cert.algebraic_AvKernelIdeal_AvReferenceIdeal := by
  intro m g m' g' _ hagree
  refine ⟨_, _, _, _, Cert.AvKernelIdeal.Value.run_blocks m g, (Cert.AvReferenceIdeal.Value.run m' g').mono fun r h c => ?_⟩
  obtain ⟨e0, e1, e2, e3, e4⟩ := hagree c
  obtain ⟨h0, h1, h2, h3, k⟩ := h c
  rw [val_main_v0_eq] at h0
  rw [val_main_v24_eq] at h1
  rw [val_main_v5_eq] at h2
  rw [val_main_v11_eq] at h3
  rw [final5, final6, final7, final8]
  simp only [aW, aA, aB, aM, aV, e0, e1, e2, e3, e4] at h0 h1 h2 h3 k ⊢
  exact ⟨h0, h1, h2, h3, k⟩

/-- The reference returns, keeps its arguments and leaves every counter at zero. -/
theorem frame_reference : Cert.quiescent_AvReferenceIdeal := fun m g _ =>
  (Cert.AvReferenceIdeal.Value.run m g).mono fun r h => ⟨fun c => (h c).2.2.2.2, sem_eq_zero_of_no_sems (by decide) _⟩

end Cert.Av
-- ==== Proof.AhClaim.lean ====
/- The optimiser on the vectors of a branch's width: the call and its reference leave the same arrays. -/
module

public import Idealize.ShloMosaic.Lib.Claim
public import Idealize.ShloMosaic.Lib.Pipeline.ValueKit
public import proofs.«01_k».proof.Proof.Gen.AhKernelIdeal.Value
public import proofs.«01_k».proof.Proof.Gen.AhReferenceIdeal.Run
public import proofs.«01_k».proof.Proof.Gen.AhReferenceIdeal.Read
public import proofs.«01_k».proof.Defs
public import proofs.«01_k».proof.Proof.Adam

set_option maxRecDepth 16384

@[expose] public section

noncomputable section

open Idealize.ShloMosaic Idealize.ShloMosaic.TcCoe Idealize.SL.Sem

namespace Cert.Ah

section
open Cert.AhKernelIdeal Cert.AhKernelIdeal.Gen Cert.Adam

variable (m : (ℓ : Loc nD τ sig) → Buf (Elt Ideal) ℓ)

/-- The arrays the region finds: the weight, the gradient's halves and the moments. -/
abbrev aW (c : Dev nD) := m ((c.tc : Thread nD τ).loc main_arg0)
abbrev aA (c : Dev nD) := m ((c.tc : Thread nD τ).loc main_arg1)
abbrev aB (c : Dev nD) := m ((c.tc : Thread nD τ).loc main_arg2)
abbrev aM (c : Dev nD) := m ((c.tc : Thread nD τ).loc main_arg3)
abbrev aV (c : Dev nD) := m ((c.tc : Thread nD τ).loc main_arg4)

/-- The arrays at the end: every block lies in its array as the arguments' blocks do in theirs. -/
theorem final5 (c : Dev nD) : (dats m 0 c).arrAt 5 cfg0.N = gradA (aA m c) (aB m c) := by
  refine (dats m 0 c).arrAt_eq_of_covers 5 _ (by decide +kernel) fun t hf y => ?_
  blk_simp
  rw [after0_5]
  unfold out0_5
  frame_out
  rfl

theorem final6 (c : Dev nD) : (dats m 0 c).arrAt 6 cfg0.N = stepA (aW m c) (aA m c) (aB m c) (aM m c) (aV m c) := by
  refine (dats m 0 c).arrAt_eq_of_covers 6 _ (by decide +kernel) fun t hf y => ?_
  blk_simp
  rw [after0_6]
  unfold out0_6
  frame_out
  rfl

theorem final7 (c : Dev nD) : (dats m 0 c).arrAt 7 cfg0.N = firstA (aA m c) (aB m c) (aM m c) := by
  refine (dats m 0 c).arrAt_eq_of_covers 7 _ (by decide +kernel) fun t hf y => ?_
  blk_simp
  rw [after0_7]
  unfold out0_7
  frame_out
  rfl

theorem final8 (c : Dev nD) : (dats m 0 c).arrAt 8 cfg0.N = secondA (aA m c) (aB m c) (aV m c) := by
  refine (dats m 0 c).arrAt_eq_of_covers 8 _ (by decide +kernel) fun t hf y => ?_
  blk_simp
  rw [after0_8]
  unfold out0_8
  frame_out
  rfl
end

open Cert.Adam Cert.AhReferenceIdeal.Read in
/-- The reference's arrays are the same functions of equal arguments. -/
theorem algebraic : Cert.algebraic_AhKernelIdeal_AhReferenceIdeal := by
  intro m g m' g' _ hagree
  refine ⟨_, _, _, _, Cert.AhKernelIdeal.Value.run_blocks m g, (Cert.AhReferenceIdeal.Value.run m' g').mono fun r h c => ?_⟩
  obtain ⟨e0, e1, e2, e3, e4⟩ := hagree c
  obtain ⟨h0, h1, h2, h3, k⟩ := h c
  rw [val_main_v0_eq] at h0
  rw [val_main_v24_eq] at h1
  rw [val_main_v5_eq] at h2
  rw [val_main_v11_eq] at h3
  rw [final5, final6, final7, final8]
  simp only [aW, aA, aB, aM, aV, e0, e1, e2, e3, e4] at h0 h1 h2 h3 k ⊢
  exact ⟨h0, h1, h2, h3, k⟩

/-- The reference returns, keeps its arguments and leaves every counter at zero. -/
theorem frame_reference : Cert.quiescent_AhReferenceIdeal := fun m g _ =>
  (Cert.AhReferenceIdeal.Value.run m g).mono fun r h => ⟨fun c => (h c).2.2.2.2, sem_eq_zero_of_no_sems (by decide) _⟩

end Cert.Ah
-- ==== Proof.AwClaim.lean ====
/- The optimiser on the input projection: the call and its reference leave the same arrays. -/
module

public import Idealize.ShloMosaic.Lib.Claim
public import Idealize.ShloMosaic.Lib.Pipeline.ValueKit
public import proofs.«01_k».proof.Proof.Gen.AwKernelIdeal.Value
public import proofs.«01_k».proof.Proof.Gen.AwReferenceIdeal.Run
public import proofs.«01_k».proof.Proof.Gen.AwReferenceIdeal.Read
public import proofs.«01_k».proof.Defs
public import proofs.«01_k».proof.Proof.Adam

set_option maxRecDepth 16384

@[expose] public section

noncomputable section

open Idealize.ShloMosaic Idealize.ShloMosaic.TcCoe Idealize.SL.Sem

namespace Cert.Aw

section
open Cert.AwKernelIdeal Cert.AwKernelIdeal.Gen Cert.Adam

variable (m : (ℓ : Loc nD τ sig) → Buf (Elt Ideal) ℓ)

/-- The arrays the region finds: the weight, the gradient's halves and the moments. -/
abbrev aW (c : Dev nD) := m ((c.tc : Thread nD τ).loc main_arg0)
abbrev aA (c : Dev nD) := m ((c.tc : Thread nD τ).loc main_arg1)
abbrev aB (c : Dev nD) := m ((c.tc : Thread nD τ).loc main_arg2)
abbrev aM (c : Dev nD) := m ((c.tc : Thread nD τ).loc main_arg3)
abbrev aV (c : Dev nD) := m ((c.tc : Thread nD τ).loc main_arg4)

/-- The arrays at the end: every block lies in its array as the arguments' blocks do in theirs. -/
theorem final5 (c : Dev nD) : (dats m 0 c).arrAt 5 cfg0.N = gradA (aA m c) (aB m c) := by
  refine (dats m 0 c).arrAt_eq_of_covers 5 _ (by decide +kernel) fun t hf y => ?_
  blk_simp
  rw [after0_5]
  unfold out0_5
  frame_out
  rfl

theorem final6 (c : Dev nD) : (dats m 0 c).arrAt 6 cfg0.N = stepA (aW m c) (aA m c) (aB m c) (aM m c) (aV m c) := by
  refine (dats m 0 c).arrAt_eq_of_covers 6 _ (by decide +kernel) fun t hf y => ?_
  blk_simp
  rw [after0_6]
  unfold out0_6
  frame_out
  rfl

theorem final7 (c : Dev nD) : (dats m 0 c).arrAt 7 cfg0.N = firstA (aA m c) (aB m c) (aM m c) := by
  refine (dats m 0 c).arrAt_eq_of_covers 7 _ (by decide +kernel) fun t hf y => ?_
  blk_simp
  rw [after0_7]
  unfold out0_7
  frame_out
  rfl

theorem final8 (c : Dev nD) : (dats m 0 c).arrAt 8 cfg0.N = secondA (aA m c) (aB m c) (aV m c) := by
  refine (dats m 0 c).arrAt_eq_of_covers 8 _ (by decide +kernel) fun t hf y => ?_
  blk_simp
  rw [after0_8]
  unfold out0_8
  frame_out
  rfl
end

open Cert.Adam Cert.AwReferenceIdeal.Read in
/-- The reference's arrays are the same functions of equal arguments. -/
theorem algebraic : Cert.algebraic_AwKernelIdeal_AwReferenceIdeal := by
  intro m g m' g' _ hagree
  refine ⟨_, _, _, _, Cert.AwKernelIdeal.Value.run_blocks m g, (Cert.AwReferenceIdeal.Value.run m' g').mono fun r h c => ?_⟩
  obtain ⟨e0, e1, e2, e3, e4⟩ := hagree c
  obtain ⟨h0, h1, h2, h3, k⟩ := h c
  rw [val_main_v0_eq] at h0
  rw [val_main_v24_eq] at h1
  rw [val_main_v5_eq] at h2
  rw [val_main_v11_eq] at h3
  rw [final5, final6, final7, final8]
  simp only [aW, aA, aB, aM, aV, e0, e1, e2, e3, e4] at h0 h1 h2 h3 k ⊢
  exact ⟨h0, h1, h2, h3, k⟩

/-- The reference returns, keeps its arguments and leaves every counter at zero. -/
theorem frame_reference : Cert.quiescent_AwReferenceIdeal := fun m g _ =>
  (Cert.AwReferenceIdeal.Value.run m g).mono fun r h => ⟨fun c => (h c).2.2.2.2, sem_eq_zero_of_no_sems (by decide) _⟩

end Cert.Aw
-- ==== Proof.AfClaim.lean ====
/- The optimiser on a feed-forward weight: the call and its reference leave the same arrays. -/
module

public import Idealize.ShloMosaic.Lib.Claim
public import Idealize.ShloMosaic.Lib.Pipeline.ValueKit
public import proofs.«01_k».proof.Proof.Gen.AfKernelIdeal.Value
public import proofs.«01_k».proof.Proof.Gen.AfReferenceIdeal.Run
public import proofs.«01_k».proof.Proof.Gen.AfReferenceIdeal.Read
public import proofs.«01_k».proof.Defs
public import proofs.«01_k».proof.Proof.Adam

set_option maxRecDepth 16384

@[expose] public section

noncomputable section

open Idealize.ShloMosaic Idealize.ShloMosaic.TcCoe Idealize.SL.Sem

namespace Cert.Af

section
open Cert.AfKernelIdeal Cert.AfKernelIdeal.Gen Cert.Adam

variable (m : (ℓ : Loc nD τ sig) → Buf (Elt Ideal) ℓ)

/-- The arrays the region finds: the weight, the gradient's halves and the moments. -/
abbrev aW (c : Dev nD) := m ((c.tc : Thread nD τ).loc main_arg0)
abbrev aA (c : Dev nD) := m ((c.tc : Thread nD τ).loc main_arg1)
abbrev aB (c : Dev nD) := m ((c.tc : Thread nD τ).loc main_arg2)
abbrev aM (c : Dev nD) := m ((c.tc : Thread nD τ).loc main_arg3)
abbrev aV (c : Dev nD) := m ((c.tc : Thread nD τ).loc main_arg4)

/-- The arrays at the end: every block lies in its array as the arguments' blocks do in theirs. -/
theorem final5 (c : Dev nD) : (dats m 0 c).arrAt 5 cfg0.N = gradA (aA m c) (aB m c) := by
  refine (dats m 0 c).arrAt_eq_of_covers 5 _ (by decide +kernel) fun t hf y => ?_
  blk_simp
  rw [after0_5]
  unfold out0_5
  frame_out
  rfl

theorem final6 (c : Dev nD) : (dats m 0 c).arrAt 6 cfg0.N = stepA (aW m c) (aA m c) (aB m c) (aM m c) (aV m c) := by
  refine (dats m 0 c).arrAt_eq_of_covers 6 _ (by decide +kernel) fun t hf y => ?_
  blk_simp
  rw [after0_6]
  unfold out0_6
  frame_out
  rfl

theorem final7 (c : Dev nD) : (dats m 0 c).arrAt 7 cfg0.N = firstA (aA m c) (aB m c) (aM m c) := by
  refine (dats m 0 c).arrAt_eq_of_covers 7 _ (by decide +kernel) fun t hf y => ?_
  blk_simp
  rw [after0_7]
  unfold out0_7
  frame_out
  rfl

theorem final8 (c : Dev nD) : (dats m 0 c).arrAt 8 cfg0.N = secondA (aA m c) (aB m c) (aV m c) := by
  refine (dats m 0 c).arrAt_eq_of_covers 8 _ (by decide +kernel) fun t hf y => ?_
  blk_simp
  rw [after0_8]
  unfold out0_8
  frame_out
  rfl
end

open Cert.Adam Cert.AfReferenceIdeal.Read in
/-- The reference's arrays are the same functions of equal arguments. -/
theorem algebraic : Cert.algebraic_AfKernelIdeal_AfReferenceIdeal := by
  intro m g m' g' _ hagree
  refine ⟨_, _, _, _, Cert.AfKernelIdeal.Value.run_blocks m g, (Cert.AfReferenceIdeal.Value.run m' g').mono fun r h c => ?_⟩
  obtain ⟨e0, e1, e2, e3, e4⟩ := hagree c
  obtain ⟨h0, h1, h2, h3, k⟩ := h c
  rw [val_main_v0_eq] at h0
  rw [val_main_v24_eq] at h1
  rw [val_main_v5_eq] at h2
  rw [val_main_v11_eq] at h3
  rw [final5, final6, final7, final8]
  simp only [aW, aA, aB, aM, aV, e0, e1, e2, e3, e4] at h0 h1 h2 h3 k ⊢
  exact ⟨h0, h1, h2, h3, k⟩

/-- The reference returns, keeps its arguments and leaves every counter at zero. -/
theorem frame_reference : Cert.quiescent_AfReferenceIdeal := fun m g _ =>
  (Cert.AfReferenceIdeal.Value.run m g).mono fun r h => ⟨fun c => (h c).2.2.2.2, sem_eq_zero_of_no_sems (by decide) _⟩

end Cert.Af
-- ==== Proof.ArClaim.lean ====
/- The optimiser on the relative-position bias: the call and its reference leave the same arrays. -/
module

public import Idealize.ShloMosaic.Lib.Claim
public import Idealize.ShloMosaic.Lib.Pipeline.ValueKit
public import proofs.«01_k».proof.Proof.Gen.ArKernelIdeal.Value
public import proofs.«01_k».proof.Proof.Gen.ArReferenceIdeal.Run
public import proofs.«01_k».proof.Proof.Gen.ArReferenceIdeal.Read
public import proofs.«01_k».proof.Defs
public import proofs.«01_k».proof.Proof.Adam

set_option maxRecDepth 16384

@[expose] public section

noncomputable section

open Idealize.ShloMosaic Idealize.ShloMosaic.TcCoe Idealize.SL.Sem

namespace Cert.Ar

section
open Cert.ArKernelIdeal Cert.ArKernelIdeal.Gen Cert.Adam

variable (m : (ℓ : Loc nD τ sig) → Buf (Elt Ideal) ℓ)

/-- The arrays the region finds: the weight, the gradient's halves and the moments. -/
abbrev aW (c : Dev nD) := m ((c.tc : Thread nD τ).loc main_arg0)
abbrev aA (c : Dev nD) := m ((c.tc : Thread nD τ).loc main_arg1)
abbrev aB (c : Dev nD) := m ((c.tc : Thread nD τ).loc main_arg2)
abbrev aM (c : Dev nD) := m ((c.tc : Thread nD τ).loc main_arg3)
abbrev aV (c : Dev nD) := m ((c.tc : Thread nD τ).loc main_arg4)

/-- The arrays at the end: every block lies in its array as the arguments' blocks do in theirs. -/
theorem final5 (c : Dev nD) : (dats m 0 c).arrAt 5 cfg0.N = gradA (aA m c) (aB m c) := by
  refine (dats m 0 c).arrAt_eq_of_covers 5 _ (by decide +kernel) fun t hf y => ?_
  blk_simp
  rw [after0_5]
  unfold out0_5
  frame_out
  rfl

theorem final6 (c : Dev nD) : (dats m 0 c).arrAt 6 cfg0.N = stepA (aW m c) (aA m c) (aB m c) (aM m c) (aV m c) := by
  refine (dats m 0 c).arrAt_eq_of_covers 6 _ (by decide +kernel) fun t hf y => ?_
  blk_simp
  rw [after0_6]
  unfold out0_6
  frame_out
  rfl

theorem final7 (c : Dev nD) : (dats m 0 c).arrAt 7 cfg0.N = firstA (aA m c) (aB m c) (aM m c) := by
  refine (dats m 0 c).arrAt_eq_of_covers 7 _ (by decide +kernel) fun t hf y => ?_
  blk_simp
  rw [after0_7]
  unfold out0_7
  frame_out
  rfl

theorem final8 (c : Dev nD) : (dats m 0 c).arrAt 8 cfg0.N = secondA (aA m c) (aB m c) (aV m c) := by
  refine (dats m 0 c).arrAt_eq_of_covers 8 _ (by decide +kernel) fun t hf y => ?_
  blk_simp
  rw [after0_8]
  unfold out0_8
  frame_out
  rfl
end

open Cert.Adam Cert.ArReferenceIdeal.Read in
/-- The reference's arrays are the same functions of equal arguments. -/
theorem algebraic : Cert.algebraic_ArKernelIdeal_ArReferenceIdeal := by
  intro m g m' g' _ hagree
  refine ⟨_, _, _, _, Cert.ArKernelIdeal.Value.run_blocks m g, (Cert.ArReferenceIdeal.Value.run m' g').mono fun r h c => ?_⟩
  obtain ⟨e0, e1, e2, e3, e4⟩ := hagree c
  obtain ⟨h0, h1, h2, h3, k⟩ := h c
  rw [val_main_v0_eq] at h0
  rw [val_main_v24_eq] at h1
  rw [val_main_v5_eq] at h2
  rw [val_main_v11_eq] at h3
  rw [final5, final6, final7, final8]
  simp only [aW, aA, aB, aM, aV, e0, e1, e2, e3, e4] at h0 h1 h2 h3 k ⊢
  exact ⟨h0, h1, h2, h3, k⟩

/-- The reference returns, keeps its arguments and leaves every counter at zero. -/
theorem frame_reference : Cert.quiescent_ArReferenceIdeal := fun m g _ =>
  (Cert.ArReferenceIdeal.Value.run m g).mono fun r h => ⟨fun c => (h c).2.2.2.2, sem_eq_zero_of_no_sems (by decide) _⟩

end Cert.Ar
-- ==== Proof.AgClaim.lean ====
/- The optimiser on the gates' biases: the call and its reference leave the same arrays. -/
module

public import Idealize.ShloMosaic.Lib.Claim
public import Idealize.ShloMosaic.Lib.Pipeline.ValueKit
public import proofs.«01_k».proof.Proof.Gen.AgKernelIdeal.Value
public import proofs.«01_k».proof.Proof.Gen.AgReferenceIdeal.Run
public import proofs.«01_k».proof.Proof.Gen.AgReferenceIdeal.Read
public import proofs.«01_k».proof.Defs
public import proofs.«01_k».proof.Proof.Adam

set_option maxRecDepth 16384

@[expose] public section

noncomputable section

open Idealize.ShloMosaic Idealize.ShloMosaic.TcCoe Idealize.SL.Sem

namespace Cert.Ag

section
open Cert.AgKernelIdeal Cert.AgKernelIdeal.Gen Cert.Adam

variable (m : (ℓ : Loc nD τ sig) → Buf (Elt Ideal) ℓ)

/-- The arrays the region finds: the weight, the gradient's halves and the moments. -/
abbrev aW (c : Dev nD) := m ((c.tc : Thread nD τ).loc main_arg0)
abbrev aA (c : Dev nD) := m ((c.tc : Thread nD τ).loc main_arg1)
abbrev aB (c : Dev nD) := m ((c.tc : Thread nD τ).loc main_arg2)
abbrev aM (c : Dev nD) := m ((c.tc : Thread nD τ).loc main_arg3)
abbrev aV (c : Dev nD) := m ((c.tc : Thread nD τ).loc main_arg4)

/-- The arrays at the end: every block lies in its array as the arguments' blocks do in theirs. -/
theorem final5 (c : Dev nD) : (dats m 0 c).arrAt 5 cfg0.N = gradA (aA m c) (aB m c) := by
  refine (dats m 0 c).arrAt_eq_of_covers 5 _ (by decide +kernel) fun t hf y => ?_
  blk_simp
  rw [after0_5]
  unfold out0_5
  frame_out
  rfl

theorem final6 (c : Dev nD) : (dats m 0 c).arrAt 6 cfg0.N = stepA (aW m c) (aA m c) (aB m c) (aM m c) (aV m c) := by
  refine (dats m 0 c).arrAt_eq_of_covers 6 _ (by decide +kernel) fun t hf y => ?_
  blk_simp
  rw [after0_6]
  unfold out0_6
  frame_out
  rfl

theorem final7 (c : Dev nD) : (dats m 0 c).arrAt 7 cfg0.N = firstA (aA m c) (aB m c) (aM m c) := by
  refine (dats m 0 c).arrAt_eq_of_covers 7 _ (by decide +kernel) fun t hf y => ?_
  blk_simp
  rw [after0_7]
  unfold out0_7
  frame_out
  rfl

theorem final8 (c : Dev nD) : (dats m 0 c).arrAt 8 cfg0.N = secondA (aA m c) (aB m c) (aV m c) := by
  refine (dats m 0 c).arrAt_eq_of_covers 8 _ (by decide +kernel) fun t hf y => ?_
  blk_simp
  rw [after0_8]
  unfold out0_8
  frame_out
  rfl
end

open Cert.Adam Cert.AgReferenceIdeal.Read in
/-- The reference's arrays are the same functions of equal arguments. -/
theorem algebraic : Cert.algebraic_AgKernelIdeal_AgReferenceIdeal := by
  intro m g m' g' _ hagree
  refine ⟨_, _, _, _, Cert.AgKernelIdeal.Value.run_blocks m g, (Cert.AgReferenceIdeal.Value.run m' g').mono fun r h c => ?_⟩
  obtain ⟨e0, e1, e2, e3, e4⟩ := hagree c
  obtain ⟨h0, h1, h2, h3, k⟩ := h c
  rw [val_main_v0_eq] at h0
  rw [val_main_v24_eq] at h1
  rw [val_main_v5_eq] at h2
  rw [val_main_v11_eq] at h3
  rw [final5, final6, final7, final8]
  simp only [aW, aA, aB, aM, aV, e0, e1, e2, e3, e4] at h0 h1 h2 h3 k ⊢
  exact ⟨h0, h1, h2, h3, k⟩

/-- The reference returns, keeps its arguments and leaves every counter at zero. -/
theorem frame_reference : Cert.quiescent_AgReferenceIdeal := fun m g _ =>
  (Cert.AgReferenceIdeal.Value.run m g).mono fun r h => ⟨fun c => (h c).2.2.2.2, sem_eq_zero_of_no_sems (by decide) _⟩

end Cert.Ag
-- ==== Proof.ApClaim.lean ====
/- The optimiser on the weights of pooling and of spatial gating: the call and its reference leave the same arrays. -/
module

public import Idealize.ShloMosaic.Lib.Claim
public import Idealize.ShloMosaic.Lib.Pipeline.ValueKit
public import proofs.«01_k».proof.Proof.Gen.ApKernelIdeal.Value
public import proofs.«01_k».proof.Proof.Gen.ApReferenceIdeal.Run
public import proofs.«01_k».proof.Proof.Gen.ApReferenceIdeal.Read
public import proofs.«01_k».proof.Defs
public import proofs.«01_k».proof.Proof.Adam

set_option maxRecDepth 16384

@[expose] public section

noncomputable section

open Idealize.ShloMosaic Idealize.ShloMosaic.TcCoe Idealize.SL.Sem

namespace Cert.Ap

section
open Cert.ApKernelIdeal Cert.ApKernelIdeal.Gen Cert.Adam

variable (m : (ℓ : Loc nD τ sig) → Buf (Elt Ideal) ℓ)

/-- The arrays the region finds: the weight, the gradient's halves and the moments. -/
abbrev aW (c : Dev nD) := m ((c.tc : Thread nD τ).loc main_arg0)
abbrev aA (c : Dev nD) := m ((c.tc : Thread nD τ).loc main_arg1)
abbrev aB (c : Dev nD) := m ((c.tc : Thread nD τ).loc main_arg2)
abbrev aM (c : Dev nD) := m ((c.tc : Thread nD τ).loc main_arg3)
abbrev aV (c : Dev nD) := m ((c.tc : Thread nD τ).loc main_arg4)

/-- The arrays at the end: every block lies in its array as the arguments' blocks do in theirs. -/
theorem final5 (c : Dev nD) : (dats m 0 c).arrAt 5 cfg0.N = gradA (aA m c) (aB m c) := by
  refine (dats m 0 c).arrAt_eq_of_covers 5 _ (by decide +kernel) fun t hf y => ?_
  blk_simp
  rw [after0_5]
  unfold out0_5
  frame_out
  rfl

theorem final6 (c : Dev nD) : (dats m 0 c).arrAt 6 cfg0.N = stepA (aW m c) (aA m c) (aB m c) (aM m c) (aV m c) := by
  refine (dats m 0 c).arrAt_eq_of_covers 6 _ (by decide +kernel) fun t hf y => ?_
  blk_simp
  rw [after0_6]
  unfold out0_6
  frame_out
  rfl

theorem final7 (c : Dev nD) : (dats m 0 c).arrAt 7 cfg0.N = firstA (aA m c) (aB m c) (aM m c) := by
  refine (dats m 0 c).arrAt_eq_of_covers 7 _ (by decide +kernel) fun t hf y => ?_
  blk_simp
  rw [after0_7]
  unfold out0_7
  frame_out
  rfl

theorem final8 (c : Dev nD) : (dats m 0 c).arrAt 8 cfg0.N = secondA (aA m c) (aB m c) (aV m c) := by
  refine (dats m 0 c).arrAt_eq_of_covers 8 _ (by decide +kernel) fun t hf y => ?_
  blk_simp
  rw [after0_8]
  unfold out0_8
  frame_out
  rfl
end

open Cert.Adam Cert.ApReferenceIdeal.Read in
/-- The reference's arrays are the same functions of equal arguments. -/
theorem algebraic : Cert.algebraic_ApKernelIdeal_ApReferenceIdeal := by
  intro m g m' g' _ hagree
  refine ⟨_, _, _, _, Cert.ApKernelIdeal.Value.run_blocks m g, (Cert.ApReferenceIdeal.Value.run m' g').mono fun r h c => ?_⟩
  obtain ⟨e0, e1, e2, e3, e4⟩ := hagree c
  obtain ⟨h0, h1, h2, h3, k⟩ := h c
  rw [val_main_v0_eq] at h0
  rw [val_main_v24_eq] at h1
  rw [val_main_v5_eq] at h2
  rw [val_main_v11_eq] at h3
  rw [final5, final6, final7, final8]
  simp only [aW, aA, aB, aM, aV, e0, e1, e2, e3, e4] at h0 h1 h2 h3 k ⊢
  exact ⟨h0, h1, h2, h3, k⟩

/-- The reference returns, keeps its arguments and leaves every counter at zero. -/
theorem frame_reference : Cert.quiescent_ApReferenceIdeal := fun m g _ =>
  (Cert.ApReferenceIdeal.Value.run m g).mono fun r h => ⟨fun c => (h c).2.2.2.2, sem_eq_zero_of_no_sems (by decide) _⟩

end Cert.Ap
-- ==== Proof.AaClaim.lean ====
/- The optimiser on the poles of the scan: the call and its reference leave the same arrays. -/
module

public import Idealize.ShloMosaic.Lib.Claim
public import Idealize.ShloMosaic.Lib.Pipeline.ValueKit
public import proofs.«01_k».proof.Proof.Gen.AaKernelIdeal.Value
public import proofs.«01_k».proof.Proof.Gen.AaReferenceIdeal.Run
public import proofs.«01_k».proof.Proof.Gen.AaReferenceIdeal.Read
public import proofs.«01_k».proof.Defs
public import proofs.«01_k».proof.Proof.Adam

set_option maxRecDepth 16384

@[expose] public section

noncomputable section

open Idealize.ShloMosaic Idealize.ShloMosaic.TcCoe Idealize.SL.Sem

namespace Cert.Aa

section
open Cert.AaKernelIdeal Cert.AaKernelIdeal.Gen Cert.Adam

variable (m : (ℓ : Loc nD τ sig) → Buf (Elt Ideal) ℓ)

/-- The arrays the region finds: the weight, the gradient's halves and the moments. -/
abbrev aW (c : Dev nD) := m ((c.tc : Thread nD τ).loc main_arg0)
abbrev aA (c : Dev nD) := m ((c.tc : Thread nD τ).loc main_arg1)
abbrev aB (c : Dev nD) := m ((c.tc : Thread nD τ).loc main_arg2)
abbrev aM (c : Dev nD) := m ((c.tc : Thread nD τ).loc main_arg3)
abbrev aV (c : Dev nD) := m ((c.tc : Thread nD τ).loc main_arg4)

/-- The arrays at the end: every block lies in its array as the arguments' blocks do in theirs. -/
theorem final5 (c : Dev nD) : (dats m 0 c).arrAt 5 cfg0.N = gradA (aA m c) (aB m c) := by
  refine (dats m 0 c).arrAt_eq_of_covers 5 _ (by decide +kernel) fun t hf y => ?_
  blk_simp
  rw [after0_5]
  unfold out0_5
  frame_out
  rfl

theorem final6 (c : Dev nD) : (dats m 0 c).arrAt 6 cfg0.N = stepA (aW m c) (aA m c) (aB m c) (aM m c) (aV m c) := by
  refine (dats m 0 c).arrAt_eq_of_covers 6 _ (by decide +kernel) fun t hf y => ?_
  blk_simp
  rw [after0_6]
  unfold out0_6
  frame_out
  rfl

theorem final7 (c : Dev nD) : (dats m 0 c).arrAt 7 cfg0.N = firstA (aA m c) (aB m c) (aM m c) := by
  refine (dats m 0 c).arrAt_eq_of_covers 7 _ (by decide +kernel) fun t hf y => ?_
  blk_simp
  rw [after0_7]
  unfold out0_7
  frame_out
  rfl

theorem final8 (c : Dev nD) : (dats m 0 c).arrAt 8 cfg0.N = secondA (aA m c) (aB m c) (aV m c) := by
  refine (dats m 0 c).arrAt_eq_of_covers 8 _ (by decide +kernel) fun t hf y => ?_
  blk_simp
  rw [after0_8]
  unfold out0_8
  frame_out
  rfl
end

open Cert.Adam Cert.AaReferenceIdeal.Read in
/-- The reference's arrays are the same functions of equal arguments. -/
theorem algebraic : Cert.algebraic_AaKernelIdeal_AaReferenceIdeal := by
  intro m g m' g' _ hagree
  refine ⟨_, _, _, _, Cert.AaKernelIdeal.Value.run_blocks m g, (Cert.AaReferenceIdeal.Value.run m' g').mono fun r h c => ?_⟩
  obtain ⟨e0, e1, e2, e3, e4⟩ := hagree c
  obtain ⟨h0, h1, h2, h3, k⟩ := h c
  rw [val_main_v0_eq] at h0
  rw [val_main_v24_eq] at h1
  rw [val_main_v5_eq] at h2
  rw [val_main_v11_eq] at h3
  rw [final5, final6, final7, final8]
  simp only [aW, aA, aB, aM, aV, e0, e1, e2, e3, e4] at h0 h1 h2 h3 k ⊢
  exact ⟨h0, h1, h2, h3, k⟩

/-- The reference returns, keeps its arguments and leaves every counter at zero. -/
theorem frame_reference : Cert.quiescent_AaReferenceIdeal := fun m g _ =>
  (Cert.AaReferenceIdeal.Value.run m g).mono fun r h => ⟨fun c => (h c).2.2.2.2, sem_eq_zero_of_no_sems (by decide) _⟩

end Cert.Aa
-- ==== Proof.AlClaim.lean ====
/- The optimiser on the step sizes of the scan: the call and its reference leave the same arrays. -/
module

public import Idealize.ShloMosaic.Lib.Claim
public import Idealize.ShloMosaic.Lib.Pipeline.ValueKit
public import proofs.«01_k».proof.Proof.Gen.AlKernelIdeal.Value
public import proofs.«01_k».proof.Proof.Gen.AlReferenceIdeal.Run
public import proofs.«01_k».proof.Proof.Gen.AlReferenceIdeal.Read
public import proofs.«01_k».proof.Defs
public import proofs.«01_k».proof.Proof.Adam

set_option maxRecDepth 16384

@[expose] public section

noncomputable section

open Idealize.ShloMosaic Idealize.ShloMosaic.TcCoe Idealize.SL.Sem

namespace Cert.Al

section
open Cert.AlKernelIdeal Cert.AlKernelIdeal.Gen Cert.Adam

variable (m : (ℓ : Loc nD τ sig) → Buf (Elt Ideal) ℓ)

/-- The arrays the region finds: the weight, the gradient's halves and the moments. -/
abbrev aW (c : Dev nD) := m ((c.tc : Thread nD τ).loc main_arg0)
abbrev aA (c : Dev nD) := m ((c.tc : Thread nD τ).loc main_arg1)
abbrev aB (c : Dev nD) := m ((c.tc : Thread nD τ).loc main_arg2)
abbrev aM (c : Dev nD) := m ((c.tc : Thread nD τ).loc main_arg3)
abbrev aV (c : Dev nD) := m ((c.tc : Thread nD τ).loc main_arg4)

/-- The arrays at the end: every block lies in its array as the arguments' blocks do in theirs. -/
theorem final5 (c : Dev nD) : (dats m 0 c).arrAt 5 cfg0.N = gradA (aA m c) (aB m c) := by
  refine (dats m 0 c).arrAt_eq_of_covers 5 _ (by decide +kernel) fun t hf y => ?_
  blk_simp
  rw [after0_5]
  unfold out0_5
  frame_out
  rfl

theorem final6 (c : Dev nD) : (dats m 0 c).arrAt 6 cfg0.N = stepA (aW m c) (aA m c) (aB m c) (aM m c) (aV m c) := by
  refine (dats m 0 c).arrAt_eq_of_covers 6 _ (by decide +kernel) fun t hf y => ?_
  blk_simp
  rw [after0_6]
  unfold out0_6
  frame_out
  rfl

theorem final7 (c : Dev nD) : (dats m 0 c).arrAt 7 cfg0.N = firstA (aA m c) (aB m c) (aM m c) := by
  refine (dats m 0 c).arrAt_eq_of_covers 7 _ (by decide +kernel) fun t hf y => ?_
  blk_simp
  rw [after0_7]
  unfold out0_7
  frame_out
  rfl

theorem final8 (c : Dev nD) : (dats m 0 c).arrAt 8 cfg0.N = secondA (aA m c) (aB m c) (aV m c) := by
  refine (dats m 0 c).arrAt_eq_of_covers 8 _ (by decide +kernel) fun t hf y => ?_
  blk_simp
  rw [after0_8]
  unfold out0_8
  frame_out
  rfl
end

open Cert.Adam Cert.AlReferenceIdeal.Read in
/-- The reference's arrays are the same functions of equal arguments. -/
theorem algebraic : Cert.algebraic_AlKernelIdeal_AlReferenceIdeal := by
  intro m g m' g' _ hagree
  refine ⟨_, _, _, _, Cert.AlKernelIdeal.Value.run_blocks m g, (Cert.AlReferenceIdeal.Value.run m' g').mono fun r h c => ?_⟩
  obtain ⟨e0, e1, e2, e3, e4⟩ := hagree c
  obtain ⟨h0, h1, h2, h3, k⟩ := h c
  rw [val_main_v0_eq] at h0
  rw [val_main_v24_eq] at h1
  rw [val_main_v5_eq] at h2
  rw [val_main_v11_eq] at h3
  rw [final5, final6, final7, final8]
  simp only [aW, aA, aB, aM, aV, e0, e1, e2, e3, e4] at h0 h1 h2 h3 k ⊢
  exact ⟨h0, h1, h2, h3, k⟩

/-- The reference returns, keeps its arguments and leaves every counter at zero. -/
theorem frame_reference : Cert.quiescent_AlReferenceIdeal := fun m g _ =>
  (Cert.AlReferenceIdeal.Value.run m g).mono fun r h => ⟨fun c => (h c).2.2.2.2, sem_eq_zero_of_no_sems (by decide) _⟩

end Cert.Al
-- ==== Proof.AiClaim.lean ====
/- The optimiser on the scan's input weights: the call and its reference leave the same arrays. -/
module

public import Idealize.ShloMosaic.Lib.Claim
public import Idealize.ShloMosaic.Lib.Pipeline.ValueKit
public import proofs.«01_k».proof.Proof.Gen.AiKernelIdeal.Value
public import proofs.«01_k».proof.Proof.Gen.AiReferenceIdeal.Run
public import proofs.«01_k».proof.Proof.Gen.AiReferenceIdeal.Read
public import proofs.«01_k».proof.Defs
public import proofs.«01_k».proof.Proof.Adam

set_option maxRecDepth 16384

@[expose] public section

noncomputable section

open Idealize.ShloMosaic Idealize.ShloMosaic.TcCoe Idealize.SL.Sem

namespace Cert.Ai

section
open Cert.AiKernelIdeal Cert.AiKernelIdeal.Gen Cert.Adam

variable (m : (ℓ : Loc nD τ sig) → Buf (Elt Ideal) ℓ)

/-- The arrays the region finds: the weight, the gradient's halves and the moments. -/
abbrev aW (c : Dev nD) := m ((c.tc : Thread nD τ).loc main_arg0)
abbrev aA (c : Dev nD) := m ((c.tc : Thread nD τ).loc main_arg1)
abbrev aB (c : Dev nD) := m ((c.tc : Thread nD τ).loc main_arg2)
abbrev aM (c : Dev nD) := m ((c.tc : Thread nD τ).loc main_arg3)
abbrev aV (c : Dev nD) := m ((c.tc : Thread nD τ).loc main_arg4)

/-- The arrays at the end: every block lies in its array as the arguments' blocks do in theirs. -/
theorem final5 (c : Dev nD) : (dats m 0 c).arrAt 5 cfg0.N = gradA (aA m c) (aB m c) := by
  refine (dats m 0 c).arrAt_eq_of_covers 5 _ (by decide +kernel) fun t hf y => ?_
  blk_simp
  rw [after0_5]
  unfold out0_5
  frame_out
  rfl

theorem final6 (c : Dev nD) : (dats m 0 c).arrAt 6 cfg0.N = stepA (aW m c) (aA m c) (aB m c) (aM m c) (aV m c) := by
  refine (dats m 0 c).arrAt_eq_of_covers 6 _ (by decide +kernel) fun t hf y => ?_
  blk_simp
  rw [after0_6]
  unfold out0_6
  frame_out
  rfl

theorem final7 (c : Dev nD) : (dats m 0 c).arrAt 7 cfg0.N = firstA (aA m c) (aB m c) (aM m c) := by
  refine (dats m 0 c).arrAt_eq_of_covers 7 _ (by decide +kernel) fun t hf y => ?_
  blk_simp
  rw [after0_7]
  unfold out0_7
  frame_out
  rfl

theorem final8 (c : Dev nD) : (dats m 0 c).arrAt 8 cfg0.N = secondA (aA m c) (aB m c) (aV m c) := by
  refine (dats m 0 c).arrAt_eq_of_covers 8 _ (by decide +kernel) fun t hf y => ?_
  blk_simp
  rw [after0_8]
  unfold out0_8
  frame_out
  rfl
end

open Cert.Adam Cert.AiReferenceIdeal.Read in
/-- The reference's arrays are the same functions of equal arguments. -/
theorem algebraic : Cert.algebraic_AiKernelIdeal_AiReferenceIdeal := by
  intro m g m' g' _ hagree
  refine ⟨_, _, _, _, Cert.AiKernelIdeal.Value.run_blocks m g, (Cert.AiReferenceIdeal.Value.run m' g').mono fun r h c => ?_⟩
  obtain ⟨e0, e1, e2, e3, e4⟩ := hagree c
  obtain ⟨h0, h1, h2, h3, k⟩ := h c
  rw [val_main_v0_eq] at h0
  rw [val_main_v24_eq] at h1
  rw [val_main_v5_eq] at h2
  rw [val_main_v11_eq] at h3
  rw [final5, final6, final7, final8]
  simp only [aW, aA, aB, aM, aV, e0, e1, e2, e3, e4] at h0 h1 h2 h3 k ⊢
  exact ⟨h0, h1, h2, h3, k⟩

/-- The reference returns, keeps its arguments and leaves every counter at zero. -/
theorem frame_reference : Cert.quiescent_AiReferenceIdeal := fun m g _ =>
  (Cert.AiReferenceIdeal.Value.run m g).mono fun r h => ⟨fun c => (h c).2.2.2.2, sem_eq_zero_of_no_sems (by decide) _⟩

end Cert.Ai
-- ==== Proof.AcClaim.lean ====
/- The optimiser on the scan's output weights: the call and its reference leave the same arrays. -/
module

public import Idealize.ShloMosaic.Lib.Claim
public import Idealize.ShloMosaic.Lib.Pipeline.ValueKit
public import proofs.«01_k».proof.Proof.Gen.AcKernelIdeal.Value
public import proofs.«01_k».proof.Proof.Gen.AcReferenceIdeal.Run
public import proofs.«01_k».proof.Proof.Gen.AcReferenceIdeal.Read
public import proofs.«01_k».proof.Defs
public import proofs.«01_k».proof.Proof.Adam

set_option maxRecDepth 16384

@[expose] public section

noncomputable section

open Idealize.ShloMosaic Idealize.ShloMosaic.TcCoe Idealize.SL.Sem

namespace Cert.Ac

section
open Cert.AcKernelIdeal Cert.AcKernelIdeal.Gen Cert.Adam

variable (m : (ℓ : Loc nD τ sig) → Buf (Elt Ideal) ℓ)

/-- The arrays the region finds: the weight, the gradient's halves and the moments. -/
abbrev aW (c : Dev nD) := m ((c.tc : Thread nD τ).loc main_arg0)
abbrev aA (c : Dev nD) := m ((c.tc : Thread nD τ).loc main_arg1)
abbrev aB (c : Dev nD) := m ((c.tc : Thread nD τ).loc main_arg2)
abbrev aM (c : Dev nD) := m ((c.tc : Thread nD τ).loc main_arg3)
abbrev aV (c : Dev nD) := m ((c.tc : Thread nD τ).loc main_arg4)

/-- The arrays at the end: every block lies in its array as the arguments' blocks do in theirs. -/
theorem final5 (c : Dev nD) : (dats m 0 c).arrAt 5 cfg0.N = gradA (aA m c) (aB m c) := by
  refine (dats m 0 c).arrAt_eq_of_covers 5 _ (by decide +kernel) fun t hf y => ?_
  blk_simp
  rw [after0_5]
  unfold out0_5
  frame_out
  rfl

theorem final6 (c : Dev nD) : (dats m 0 c).arrAt 6 cfg0.N = stepA (aW m c) (aA m c) (aB m c) (aM m c) (aV m c) := by
  refine (dats m 0 c).arrAt_eq_of_covers 6 _ (by decide +kernel) fun t hf y => ?_
  blk_simp
  rw [after0_6]
  unfold out0_6
  frame_out
  rfl

theorem final7 (c : Dev nD) : (dats m 0 c).arrAt 7 cfg0.N = firstA (aA m c) (aB m c) (aM m c) := by
  refine (dats m 0 c).arrAt_eq_of_covers 7 _ (by decide +kernel) fun t hf y => ?_
  blk_simp
  rw [after0_7]
  unfold out0_7
  frame_out
  rfl

theorem final8 (c : Dev nD) : (dats m 0 c).arrAt 8 cfg0.N = secondA (aA m c) (aB m c) (aV m c) := by
  refine (dats m 0 c).arrAt_eq_of_covers 8 _ (by decide +kernel) fun t hf y => ?_
  blk_simp
  rw [after0_8]
  unfold out0_8
  frame_out
  rfl
end

open Cert.Adam Cert.AcReferenceIdeal.Read in
/-- The reference's arrays are the same functions of equal arguments. -/
theorem algebraic : Cert.algebraic_AcKernelIdeal_AcReferenceIdeal := by
  intro m g m' g' _ hagree
  refine ⟨_, _, _, _, Cert.AcKernelIdeal.Value.run_blocks m g, (Cert.AcReferenceIdeal.Value.run m' g').mono fun r h c => ?_⟩
  obtain ⟨e0, e1, e2, e3, e4⟩ := hagree c
  obtain ⟨h0, h1, h2, h3, k⟩ := h c
  rw [val_main_v0_eq] at h0
  rw [val_main_v24_eq] at h1
  rw [val_main_v5_eq] at h2
  rw [val_main_v11_eq] at h3
  rw [final5, final6, final7, final8]
  simp only [aW, aA, aB, aM, aV, e0, e1, e2, e3, e4] at h0 h1 h2 h3 k ⊢
  exact ⟨h0, h1, h2, h3, k⟩

/-- The reference returns, keeps its arguments and leaves every counter at zero. -/
theorem frame_reference : Cert.quiescent_AcReferenceIdeal := fun m g _ =>
  (Cert.AcReferenceIdeal.Value.run m g).mono fun r h => ⟨fun c => (h c).2.2.2.2, sem_eq_zero_of_no_sems (by decide) _⟩

end Cert.Ac
-- ==== Proof.AuClaim.lean ====
/- The optimiser on the gate behind the scan: the call and its reference leave the same arrays. -/
module

public import Idealize.ShloMosaic.Lib.Claim
public import Idealize.ShloMosaic.Lib.Pipeline.ValueKit
public import proofs.«01_k».proof.Proof.Gen.AuKernelIdeal.Value
public import proofs.«01_k».proof.Proof.Gen.AuReferenceIdeal.Run
public import proofs.«01_k».proof.Proof.Gen.AuReferenceIdeal.Read
public import proofs.«01_k».proof.Defs
public import proofs.«01_k».proof.Proof.Adam

set_option maxRecDepth 16384

@[expose] public section

noncomputable section

open Idealize.ShloMosaic Idealize.ShloMosaic.TcCoe Idealize.SL.Sem

namespace Cert.Au

section
open Cert.AuKernelIdeal Cert.AuKernelIdeal.Gen Cert.Adam

variable (m : (ℓ : Loc nD τ sig) → Buf (Elt Ideal) ℓ)

/-- The arrays the region finds: the weight, the gradient's halves and the moments. -/
abbrev aW (c : Dev nD) := m ((c.tc : Thread nD τ).loc main_arg0)
abbrev aA (c : Dev nD) := m ((c.tc : Thread nD τ).loc main_arg1)
abbrev aB (c : Dev nD) := m ((c.tc : Thread nD τ).loc main_arg2)
abbrev aM (c : Dev nD) := m ((c.tc : Thread nD τ).loc main_arg3)
abbrev aV (c : Dev nD) := m ((c.tc : Thread nD τ).loc main_arg4)

/-- The arrays at the end: every block lies in its array as the arguments' blocks do in theirs. -/
theorem final5 (c : Dev nD) : (dats m 0 c).arrAt 5 cfg0.N = gradA (aA m c) (aB m c) := by
  refine (dats m 0 c).arrAt_eq_of_covers 5 _ (by decide +kernel) fun t hf y => ?_
  blk_simp
  rw [after0_5]
  unfold out0_5
  frame_out
  rfl

theorem final6 (c : Dev nD) : (dats m 0 c).arrAt 6 cfg0.N = stepA (aW m c) (aA m c) (aB m c) (aM m c) (aV m c) := by
  refine (dats m 0 c).arrAt_eq_of_covers 6 _ (by decide +kernel) fun t hf y => ?_
  blk_simp
  rw [after0_6]
  unfold out0_6
  frame_out
  rfl

theorem final7 (c : Dev nD) : (dats m 0 c).arrAt 7 cfg0.N = firstA (aA m c) (aB m c) (aM m c) := by
  refine (dats m 0 c).arrAt_eq_of_covers 7 _ (by decide +kernel) fun t hf y => ?_
  blk_simp
  rw [after0_7]
  unfold out0_7
  frame_out
  rfl

theorem final8 (c : Dev nD) : (dats m 0 c).arrAt 8 cfg0.N = secondA (aA m c) (aB m c) (aV m c) := by
  refine (dats m 0 c).arrAt_eq_of_covers 8 _ (by decide +kernel) fun t hf y => ?_
  blk_simp
  rw [after0_8]
  unfold out0_8
  frame_out
  rfl
end

open Cert.Adam Cert.AuReferenceIdeal.Read in
/-- The reference's arrays are the same functions of equal arguments. -/
theorem algebraic : Cert.algebraic_AuKernelIdeal_AuReferenceIdeal := by
  intro m g m' g' _ hagree
  refine ⟨_, _, _, _, Cert.AuKernelIdeal.Value.run_blocks m g, (Cert.AuReferenceIdeal.Value.run m' g').mono fun r h c => ?_⟩
  obtain ⟨e0, e1, e2, e3, e4⟩ := hagree c
  obtain ⟨h0, h1, h2, h3, k⟩ := h c
  rw [val_main_v0_eq] at h0
  rw [val_main_v24_eq] at h1
  rw [val_main_v5_eq] at h2
  rw [val_main_v11_eq] at h3
  rw [final5, final6, final7, final8]
  simp only [aW, aA, aB, aM, aV, e0, e1, e2, e3, e4] at h0 h1 h2 h3 k ⊢
  exact ⟨h0, h1, h2, h3, k⟩

/-- The reference returns, keeps its arguments and leaves every counter at zero. -/
theorem frame_reference : Cert.quiescent_AuReferenceIdeal := fun m g _ =>
  (Cert.AuReferenceIdeal.Value.run m g).mono fun r h => ⟨fun c => (h c).2.2.2.2, sem_eq_zero_of_no_sems (by decide) _⟩

end Cert.Au
-- ==== Proof.AsClaim.lean ====
/- The optimiser on the biases of spatial gating: the call and its reference leave the same arrays. -/
module

public import Idealize.ShloMosaic.Lib.Claim
public import Idealize.ShloMosaic.Lib.Pipeline.ValueKit
public import proofs.«01_k».proof.Proof.Gen.AsKernelIdeal.Value
public import proofs.«01_k».proof.Proof.Gen.AsReferenceIdeal.Run
public import proofs.«01_k».proof.Proof.Gen.AsReferenceIdeal.Read
public import proofs.«01_k».proof.Defs
public import proofs.«01_k».proof.Proof.Adam

set_option maxRecDepth 16384

@[expose] public section

noncomputable section

open Idealize.ShloMosaic Idealize.ShloMosaic.TcCoe Idealize.SL.Sem

namespace Cert.As

section
open Cert.AsKernelIdeal Cert.AsKernelIdeal.Gen Cert.Adam

variable (m : (ℓ : Loc nD τ sig) → Buf (Elt Ideal) ℓ)

/-- The arrays the region finds: the weight, the gradient's halves and the moments. -/
abbrev aW (c : Dev nD) := m ((c.tc : Thread nD τ).loc main_arg0)
abbrev aA (c : Dev nD) := m ((c.tc : Thread nD τ).loc main_arg1)
abbrev aB (c : Dev nD) := m ((c.tc : Thread nD τ).loc main_arg2)
abbrev aM (c : Dev nD) := m ((c.tc : Thread nD τ).loc main_arg3)
abbrev aV (c : Dev nD) := m ((c.tc : Thread nD τ).loc main_arg4)

/-- The arrays at the end: every block lies in its array as the arguments' blocks do in theirs. -/
theorem final5 (c : Dev nD) : (dats m 0 c).arrAt 5 cfg0.N = gradA (aA m c) (aB m c) := by
  refine (dats m 0 c).arrAt_eq_of_covers 5 _ (by decide +kernel) fun t hf y => ?_
  blk_simp
  rw [after0_5]
  unfold out0_5
  frame_out
  rfl

theorem final6 (c : Dev nD) : (dats m 0 c).arrAt 6 cfg0.N = stepA (aW m c) (aA m c) (aB m c) (aM m c) (aV m c) := by
  refine (dats m 0 c).arrAt_eq_of_covers 6 _ (by decide +kernel) fun t hf y => ?_
  blk_simp
  rw [after0_6]
  unfold out0_6
  frame_out
  rfl

theorem final7 (c : Dev nD) : (dats m 0 c).arrAt 7 cfg0.N = firstA (aA m c) (aB m c) (aM m c) := by
  refine (dats m 0 c).arrAt_eq_of_covers 7 _ (by decide +kernel) fun t hf y => ?_
  blk_simp
  rw [after0_7]
  unfold out0_7
  frame_out
  rfl

theorem final8 (c : Dev nD) : (dats m 0 c).arrAt 8 cfg0.N = secondA (aA m c) (aB m c) (aV m c) := by
  refine (dats m 0 c).arrAt_eq_of_covers 8 _ (by decide +kernel) fun t hf y => ?_
  blk_simp
  rw [after0_8]
  unfold out0_8
  frame_out
  rfl
end

open Cert.Adam Cert.AsReferenceIdeal.Read in
/-- The reference's arrays are the same functions of equal arguments. -/
theorem algebraic : Cert.algebraic_AsKernelIdeal_AsReferenceIdeal := by
  intro m g m' g' _ hagree
  refine ⟨_, _, _, _, Cert.AsKernelIdeal.Value.run_blocks m g, (Cert.AsReferenceIdeal.Value.run m' g').mono fun r h c => ?_⟩
  obtain ⟨e0, e1, e2, e3, e4⟩ := hagree c
  obtain ⟨h0, h1, h2, h3, k⟩ := h c
  rw [val_main_v0_eq] at h0
  rw [val_main_v24_eq] at h1
  rw [val_main_v5_eq] at h2
  rw [val_main_v11_eq] at h3
  rw [final5, final6, final7, final8]
  simp only [aW, aA, aB, aM, aV, e0, e1, e2, e3, e4] at h0 h1 h2 h3 k ⊢
  exact ⟨h0, h1, h2, h3, k⟩

/-- The reference returns, keeps its arguments and leaves every counter at zero. -/
theorem frame_reference : Cert.quiescent_AsReferenceIdeal := fun m g _ =>
  (Cert.AsReferenceIdeal.Value.run m g).mono fun r h => ⟨fun c => (h c).2.2.2.2, sem_eq_zero_of_no_sems (by decide) _⟩

end Cert.As
-- ==== Proof.AmClaim.lean ====
/- The optimiser on the branches' projections to the stream: the call and its reference leave the same arrays. -/
module

public import Idealize.ShloMosaic.Lib.Claim
public import Idealize.ShloMosaic.Lib.Pipeline.ValueKit
public import proofs.«01_k».proof.Proof.Gen.AmKernelIdeal.Value
public import proofs.«01_k».proof.Proof.Gen.AmReferenceIdeal.Run
public import proofs.«01_k».proof.Proof.Gen.AmReferenceIdeal.Read
public import proofs.«01_k».proof.Defs
public import proofs.«01_k».proof.Proof.Adam

set_option maxRecDepth 16384

@[expose] public section

noncomputable section

open Idealize.ShloMosaic Idealize.ShloMosaic.TcCoe Idealize.SL.Sem

namespace Cert.Am

section
open Cert.AmKernelIdeal Cert.AmKernelIdeal.Gen Cert.Adam

variable (m : (ℓ : Loc nD τ sig) → Buf (Elt Ideal) ℓ)

/-- The arrays the region finds: the weight, the gradient's halves and the moments. -/
abbrev aW (c : Dev nD) := m ((c.tc : Thread nD τ).loc main_arg0)
abbrev aA (c : Dev nD) := m ((c.tc : Thread nD τ).loc main_arg1)
abbrev aB (c : Dev nD) := m ((c.tc : Thread nD τ).loc main_arg2)
abbrev aM (c : Dev nD) := m ((c.tc : Thread nD τ).loc main_arg3)
abbrev aV (c : Dev nD) := m ((c.tc : Thread nD τ).loc main_arg4)

/-- The arrays at the end: every block lies in its array as the arguments' blocks do in theirs. -/
theorem final5 (c : Dev nD) : (dats m 0 c).arrAt 5 cfg0.N = gradA (aA m c) (aB m c) := by
  refine (dats m 0 c).arrAt_eq_of_covers 5 _ (by decide +kernel) fun t hf y => ?_
  blk_simp
  rw [after0_5]
  unfold out0_5
  frame_out
  rfl

theorem final6 (c : Dev nD) : (dats m 0 c).arrAt 6 cfg0.N = stepA (aW m c) (aA m c) (aB m c) (aM m c) (aV m c) := by
  refine (dats m 0 c).arrAt_eq_of_covers 6 _ (by decide +kernel) fun t hf y => ?_
  blk_simp
  rw [after0_6]
  unfold out0_6
  frame_out
  rfl

theorem final7 (c : Dev nD) : (dats m 0 c).arrAt 7 cfg0.N = firstA (aA m c) (aB m c) (aM m c) := by
  refine (dats m 0 c).arrAt_eq_of_covers 7 _ (by decide +kernel) fun t hf y => ?_
  blk_simp
  rw [after0_7]
  unfold out0_7
  frame_out
  rfl

theorem final8 (c : Dev nD) : (dats m 0 c).arrAt 8 cfg0.N = secondA (aA m c) (aB m c) (aV m c) := by
  refine (dats m 0 c).arrAt_eq_of_covers 8 _ (by decide +kernel) fun t hf y => ?_
  blk_simp
  rw [after0_8]
  unfold out0_8
  frame_out
  rfl
end

open Cert.Adam Cert.AmReferenceIdeal.Read in
/-- The reference's arrays are the same functions of equal arguments. -/
theorem algebraic : Cert.algebraic_AmKernelIdeal_AmReferenceIdeal := by
  intro m g m' g' _ hagree
  refine ⟨_, _, _, _, Cert.AmKernelIdeal.Value.run_blocks m g, (Cert.AmReferenceIdeal.Value.run m' g').mono fun r h c => ?_⟩
  obtain ⟨e0, e1, e2, e3, e4⟩ := hagree c
  obtain ⟨h0, h1, h2, h3, k⟩ := h c
  rw [val_main_v0_eq] at h0
  rw [val_main_v24_eq] at h1
  rw [val_main_v5_eq] at h2
  rw [val_main_v11_eq] at h3
  rw [final5, final6, final7, final8]
  simp only [aW, aA, aB, aM, aV, e0, e1, e2, e3, e4] at h0 h1 h2 h3 k ⊢
  exact ⟨h0, h1, h2, h3, k⟩

/-- The reference returns, keeps its arguments and leaves every counter at zero. -/
theorem frame_reference : Cert.quiescent_AmReferenceIdeal := fun m g _ =>
  (Cert.AmReferenceIdeal.Value.run m g).mono fun r h => ⟨fun c => (h c).2.2.2.2, sem_eq_zero_of_no_sems (by decide) _⟩

end Cert.Am
-- ==== Proof.AoClaim.lean ====
/- The optimiser on the mixer's output projection and the memory's: the call and its reference leave the same arrays. -/
module

public import Idealize.ShloMosaic.Lib.Claim
public import Idealize.ShloMosaic.Lib.Pipeline.ValueKit
public import proofs.«01_k».proof.Proof.Gen.AoKernelIdeal.Value
public import proofs.«01_k».proof.Proof.Gen.AoReferenceIdeal.Run
public import proofs.«01_k».proof.Proof.Gen.AoReferenceIdeal.Read
public import proofs.«01_k».proof.Defs
public import proofs.«01_k».proof.Proof.Adam

set_option maxRecDepth 16384

@[expose] public section

noncomputable section

open Idealize.ShloMosaic Idealize.ShloMosaic.TcCoe Idealize.SL.Sem

namespace Cert.Ao

section
open Cert.AoKernelIdeal Cert.AoKernelIdeal.Gen Cert.Adam

variable (m : (ℓ : Loc nD τ sig) → Buf (Elt Ideal) ℓ)

/-- The arrays the region finds: the weight, the gradient's halves and the moments. -/
abbrev aW (c : Dev nD) := m ((c.tc : Thread nD τ).loc main_arg0)
abbrev aA (c : Dev nD) := m ((c.tc : Thread nD τ).loc main_arg1)
abbrev aB (c : Dev nD) := m ((c.tc : Thread nD τ).loc main_arg2)
abbrev aM (c : Dev nD) := m ((c.tc : Thread nD τ).loc main_arg3)
abbrev aV (c : Dev nD) := m ((c.tc : Thread nD τ).loc main_arg4)

/-- The arrays at the end: every block lies in its array as the arguments' blocks do in theirs. -/
theorem final5 (c : Dev nD) : (dats m 0 c).arrAt 5 cfg0.N = gradA (aA m c) (aB m c) := by
  refine (dats m 0 c).arrAt_eq_of_covers 5 _ (by decide +kernel) fun t hf y => ?_
  blk_simp
  rw [after0_5]
  unfold out0_5
  frame_out
  rfl

theorem final6 (c : Dev nD) : (dats m 0 c).arrAt 6 cfg0.N = stepA (aW m c) (aA m c) (aB m c) (aM m c) (aV m c) := by
  refine (dats m 0 c).arrAt_eq_of_covers 6 _ (by decide +kernel) fun t hf y => ?_
  blk_simp
  rw [after0_6]
  unfold out0_6
  frame_out
  rfl

theorem final7 (c : Dev nD) : (dats m 0 c).arrAt 7 cfg0.N = firstA (aA m c) (aB m c) (aM m c) := by
  refine (dats m 0 c).arrAt_eq_of_covers 7 _ (by decide +kernel) fun t hf y => ?_
  blk_simp
  rw [after0_7]
  unfold out0_7
  frame_out
  rfl

theorem final8 (c : Dev nD) : (dats m 0 c).arrAt 8 cfg0.N = secondA (aA m c) (aB m c) (aV m c) := by
  refine (dats m 0 c).arrAt_eq_of_covers 8 _ (by decide +kernel) fun t hf y => ?_
  blk_simp
  rw [after0_8]
  unfold out0_8
  frame_out
  rfl
end

open Cert.Adam Cert.AoReferenceIdeal.Read in
/-- The reference's arrays are the same functions of equal arguments. -/
theorem algebraic : Cert.algebraic_AoKernelIdeal_AoReferenceIdeal := by
  intro m g m' g' _ hagree
  refine ⟨_, _, _, _, Cert.AoKernelIdeal.Value.run_blocks m g, (Cert.AoReferenceIdeal.Value.run m' g').mono fun r h c => ?_⟩
  obtain ⟨e0, e1, e2, e3, e4⟩ := hagree c
  obtain ⟨h0, h1, h2, h3, k⟩ := h c
  rw [val_main_v0_eq] at h0
  rw [val_main_v24_eq] at h1
  rw [val_main_v5_eq] at h2
  rw [val_main_v11_eq] at h3
  rw [final5, final6, final7, final8]
  simp only [aW, aA, aB, aM, aV, e0, e1, e2, e3, e4] at h0 h1 h2 h3 k ⊢
  exact ⟨h0, h1, h2, h3, k⟩

/-- The reference returns, keeps its arguments and leaves every counter at zero. -/
theorem frame_reference : Cert.quiescent_AoReferenceIdeal := fun m g _ =>
  (Cert.AoReferenceIdeal.Value.run m g).mono fun r h => ⟨fun c => (h c).2.2.2.2, sem_eq_zero_of_no_sems (by decide) _⟩

end Cert.Ao
-- ==== Proof.AqClaim.lean ====
/- The optimiser on the queries' projection of the cross-attention: the call and its reference leave the same arrays. -/
module

public import Idealize.ShloMosaic.Lib.Claim
public import Idealize.ShloMosaic.Lib.Pipeline.ValueKit
public import proofs.«01_k».proof.Proof.Gen.AqKernelIdeal.Value
public import proofs.«01_k».proof.Proof.Gen.AqReferenceIdeal.Run
public import proofs.«01_k».proof.Proof.Gen.AqReferenceIdeal.Read
public import proofs.«01_k».proof.Defs
public import proofs.«01_k».proof.Proof.Adam

set_option maxRecDepth 16384

@[expose] public section

noncomputable section

open Idealize.ShloMosaic Idealize.ShloMosaic.TcCoe Idealize.SL.Sem

namespace Cert.Aq

section
open Cert.AqKernelIdeal Cert.AqKernelIdeal.Gen Cert.Adam

variable (m : (ℓ : Loc nD τ sig) → Buf (Elt Ideal) ℓ)

/-- The arrays the region finds: the weight, the gradient's halves and the moments. -/
abbrev aW (c : Dev nD) := m ((c.tc : Thread nD τ).loc main_arg0)
abbrev aA (c : Dev nD) := m ((c.tc : Thread nD τ).loc main_arg1)
abbrev aB (c : Dev nD) := m ((c.tc : Thread nD τ).loc main_arg2)
abbrev aM (c : Dev nD) := m ((c.tc : Thread nD τ).loc main_arg3)
abbrev aV (c : Dev nD) := m ((c.tc : Thread nD τ).loc main_arg4)

/-- The arrays at the end: every block lies in its array as the arguments' blocks do in theirs. -/
theorem final5 (c : Dev nD) : (dats m 0 c).arrAt 5 cfg0.N = gradA (aA m c) (aB m c) := by
  refine (dats m 0 c).arrAt_eq_of_covers 5 _ (by decide +kernel) fun t hf y => ?_
  blk_simp
  rw [after0_5]
  unfold out0_5
  frame_out
  rfl

theorem final6 (c : Dev nD) : (dats m 0 c).arrAt 6 cfg0.N = stepA (aW m c) (aA m c) (aB m c) (aM m c) (aV m c) := by
  refine (dats m 0 c).arrAt_eq_of_covers 6 _ (by decide +kernel) fun t hf y => ?_
  blk_simp
  rw [after0_6]
  unfold out0_6
  frame_out
  rfl

theorem final7 (c : Dev nD) : (dats m 0 c).arrAt 7 cfg0.N = firstA (aA m c) (aB m c) (aM m c) := by
  refine (dats m 0 c).arrAt_eq_of_covers 7 _ (by decide +kernel) fun t hf y => ?_
  blk_simp
  rw [after0_7]
  unfold out0_7
  frame_out
  rfl

theorem final8 (c : Dev nD) : (dats m 0 c).arrAt 8 cfg0.N = secondA (aA m c) (aB m c) (aV m c) := by
  refine (dats m 0 c).arrAt_eq_of_covers 8 _ (by decide +kernel) fun t hf y => ?_
  blk_simp
  rw [after0_8]
  unfold out0_8
  frame_out
  rfl
end

open Cert.Adam Cert.AqReferenceIdeal.Read in
/-- The reference's arrays are the same functions of equal arguments. -/
theorem algebraic : Cert.algebraic_AqKernelIdeal_AqReferenceIdeal := by
  intro m g m' g' _ hagree
  refine ⟨_, _, _, _, Cert.AqKernelIdeal.Value.run_blocks m g, (Cert.AqReferenceIdeal.Value.run m' g').mono fun r h c => ?_⟩
  obtain ⟨e0, e1, e2, e3, e4⟩ := hagree c
  obtain ⟨h0, h1, h2, h3, k⟩ := h c
  rw [val_main_v0_eq] at h0
  rw [val_main_v24_eq] at h1
  rw [val_main_v5_eq] at h2
  rw [val_main_v11_eq] at h3
  rw [final5, final6, final7, final8]
  simp only [aW, aA, aB, aM, aV, e0, e1, e2, e3, e4] at h0 h1 h2 h3 k ⊢
  exact ⟨h0, h1, h2, h3, k⟩

/-- The reference returns, keeps its arguments and leaves every counter at zero. -/
theorem frame_reference : Cert.quiescent_AqReferenceIdeal := fun m g _ =>
  (Cert.AqReferenceIdeal.Value.run m g).mono fun r h => ⟨fun c => (h c).2.2.2.2, sem_eq_zero_of_no_sems (by decide) _⟩

end Cert.Aq
-- ==== Proof.AxClaim.lean ====
/- The optimiser on the output projection of the cross-attention: the call and its reference leave the same arrays. -/
module

public import Idealize.ShloMosaic.Lib.Claim
public import Idealize.ShloMosaic.Lib.Pipeline.ValueKit
public import proofs.«01_k».proof.Proof.Gen.AxKernelIdeal.Value
public import proofs.«01_k».proof.Proof.Gen.AxReferenceIdeal.Run
public import proofs.«01_k».proof.Proof.Gen.AxReferenceIdeal.Read
public import proofs.«01_k».proof.Defs
public import proofs.«01_k».proof.Proof.Adam

set_option maxRecDepth 16384

@[expose] public section

noncomputable section

open Idealize.ShloMosaic Idealize.ShloMosaic.TcCoe Idealize.SL.Sem

namespace Cert.Ax

section
open Cert.AxKernelIdeal Cert.AxKernelIdeal.Gen Cert.Adam

variable (m : (ℓ : Loc nD τ sig) → Buf (Elt Ideal) ℓ)

/-- The arrays the region finds: the weight, the gradient's halves and the moments. -/
abbrev aW (c : Dev nD) := m ((c.tc : Thread nD τ).loc main_arg0)
abbrev aA (c : Dev nD) := m ((c.tc : Thread nD τ).loc main_arg1)
abbrev aB (c : Dev nD) := m ((c.tc : Thread nD τ).loc main_arg2)
abbrev aM (c : Dev nD) := m ((c.tc : Thread nD τ).loc main_arg3)
abbrev aV (c : Dev nD) := m ((c.tc : Thread nD τ).loc main_arg4)

/-- The arrays at the end: every block lies in its array as the arguments' blocks do in theirs. -/
theorem final5 (c : Dev nD) : (dats m 0 c).arrAt 5 cfg0.N = gradA (aA m c) (aB m c) := by
  refine (dats m 0 c).arrAt_eq_of_covers 5 _ (by decide +kernel) fun t hf y => ?_
  blk_simp
  rw [after0_5]
  unfold out0_5
  frame_out
  rfl

theorem final6 (c : Dev nD) : (dats m 0 c).arrAt 6 cfg0.N = stepA (aW m c) (aA m c) (aB m c) (aM m c) (aV m c) := by
  refine (dats m 0 c).arrAt_eq_of_covers 6 _ (by decide +kernel) fun t hf y => ?_
  blk_simp
  rw [after0_6]
  unfold out0_6
  frame_out
  rfl

theorem final7 (c : Dev nD) : (dats m 0 c).arrAt 7 cfg0.N = firstA (aA m c) (aB m c) (aM m c) := by
  refine (dats m 0 c).arrAt_eq_of_covers 7 _ (by decide +kernel) fun t hf y => ?_
  blk_simp
  rw [after0_7]
  unfold out0_7
  frame_out
  rfl

theorem final8 (c : Dev nD) : (dats m 0 c).arrAt 8 cfg0.N = secondA (aA m c) (aB m c) (aV m c) := by
  refine (dats m 0 c).arrAt_eq_of_covers 8 _ (by decide +kernel) fun t hf y => ?_
  blk_simp
  rw [after0_8]
  unfold out0_8
  frame_out
  rfl
end

open Cert.Adam Cert.AxReferenceIdeal.Read in
/-- The reference's arrays are the same functions of equal arguments. -/
theorem algebraic : Cert.algebraic_AxKernelIdeal_AxReferenceIdeal := by
  intro m g m' g' _ hagree
  refine ⟨_, _, _, _, Cert.AxKernelIdeal.Value.run_blocks m g, (Cert.AxReferenceIdeal.Value.run m' g').mono fun r h c => ?_⟩
  obtain ⟨e0, e1, e2, e3, e4⟩ := hagree c
  obtain ⟨h0, h1, h2, h3, k⟩ := h c
  rw [val_main_v0_eq] at h0
  rw [val_main_v24_eq] at h1
  rw [val_main_v5_eq] at h2
  rw [val_main_v11_eq] at h3
  rw [final5, final6, final7, final8]
  simp only [aW, aA, aB, aM, aV, e0, e1, e2, e3, e4] at h0 h1 h2 h3 k ⊢
  exact ⟨h0, h1, h2, h3, k⟩

/-- The reference returns, keeps its arguments and leaves every counter at zero. -/
theorem frame_reference : Cert.quiescent_AxReferenceIdeal := fun m g _ =>
  (Cert.AxReferenceIdeal.Value.run m g).mono fun r h => ⟨fun c => (h c).2.2.2.2, sem_eq_zero_of_no_sems (by decide) _⟩

end Cert.Ax
-- ==== Proof.CkvClaim.lean ====
/- The memory's keys and values for the cross-attention: the kernel and its reference leave the same array. -/
module

public import Idealize.ShloMosaic.Lib.Claim
public import Idealize.ShloMosaic.Lib.Pipeline.ValueKit
public import proofs.«01_k».proof.Proof.Gen.CkvKernelIdeal.Value
public import proofs.«01_k».proof.Proof.Gen.CkvReferenceIdeal.Run
public import proofs.«01_k».proof.Proof.Gen.CkvReferenceIdeal.Read
public import proofs.«01_k».proof.Defs
public import proofs.«01_k».proof.Proof.Product

set_option maxRecDepth 16384

@[expose] public section

noncomputable section

open Idealize.ShloMosaic Idealize.ShloMosaic.TcCoe Idealize.SL.Sem

namespace Cert.Ckv

section
open Cert.CkvKernelIdeal Cert.CkvKernelIdeal.Gen Cert.Product

/-- The keys and values: the normed memory times the weight. -/
def outA (X : FVec Ideal S256x1024 .bf16) (W : FVec Ideal S1024x1024 .bf16) : FVec Ideal S256x1024 .bf16 :=
  fun j => prod X W (j 0) (j 1)

/-- The one point's product. -/
theorem out_read (X : FVec Ideal S256x1024 .bf16) (W : FVec Ideal S1024x1024 .bf16) (r : Fin 256) (k : Fin 1024) :
    k0_pay1 (F := Ideal) X W (ix2 r k) = prod X W r k := by
  unfold_payloads
  pointwise
  rfl

variable (m : (ℓ : Loc nD τ sig) → Buf (Elt Ideal) ℓ)

/-- Which block every window holds at a grid point: each whole. -/
theorem idx : ∀ t : Fin cfg0.N, win0_0.index t = ![0, 0] ∧ win0_1.index t = ![0, 0] ∧ win0_2.index t = ![0, 0] :=
  (by decide +kernel : ∀ t : Fin grid0.N, _)

/-- The arrays the region finds, and a point's blocks of them. -/
abbrev aX (c : Dev nD) : FVec Ideal S256x1024 .bf16 := m ((c : Thread nD τ).loc main_arg0)
abbrev aW (c : Dev nD) : FVec Ideal S1024x1024 .bf16 := m ((c : Thread nD τ).loc main_arg1)
abbrev bX (c : Dev nD) (t : Fin cfg0.N) : FVec Ideal S256x1024 .bf16 := iblk m c 0 t
abbrev bW (c : Dev nD) (t : Fin cfg0.N) : FVec Ideal S1024x1024 .bf16 := iblk m c 1 t

theorem readX (c : Dev nD) (t : Fin cfg0.N) (r R : Fin 256) (hR : R.val = r.val) (l : Fin 1024) :
    bX m c t (ix2 r l) = aX m c (ix2 R l) := by
  blk_point [bX, iblk, V, idx t, hR]

theorem readW (c : Dev nD) (t : Fin cfg0.N) (k K : Fin 1024) (hK : K.val = k.val) (l : Fin 1024) :
    bW m c t (ix2 l k) = aW m c (ix2 l K) := by
  blk_point [bW, iblk, V, idx t, hK]

/-- The array at the end. -/
theorem final (c : Dev nD) : (dats m 0 c).arrAt 2 (cfgs 0).N = outA (aX m c) (aW m c) := by
  refine (dats m 0 c).arrAt_eq_of_covers 2 _ (by decide +kernel) fun t hf y => ?_
  blk_simp
  rw [after0_2]
  idx_vars y
  unfold out0_2
  frame_out
  exact (out_read (bX m c t) (bW m c t) y0 y1).trans
    (prod_congr (readX m c t y0 _ (by blk_simp [idx t])) (readW m c t y1 _ (by blk_simp [idx t])))
end

/-- The reference's array is the same product. -/
theorem reference_eq (X : FVec Ideal Cert.CkvKernelIdeal.S256x1024 .bf16) (W : FVec Ideal Cert.CkvKernelIdeal.S1024x1024 .bf16) :
    Cert.CkvReferenceIdeal.Read.val_main_v3 (F := Ideal) X W = outA X W := by
  funext j
  idx_vars j
  refine (congrFun (Cert.CkvReferenceIdeal.Read.val_main_v3_eq (F := Ideal) X W) (ix2 j0 j1)).symm.trans ?_
  pointwise
  rfl

/-- Equal arguments, so equal products. -/
theorem algebraic : Cert.algebraic_CkvKernelIdeal_CkvReferenceIdeal := by
  intro m g m' g' _ hagree
  refine ⟨_, Cert.CkvKernelIdeal.Value.run_blocks m g, (Cert.CkvReferenceIdeal.Value.run m' g').mono fun r h c => ?_⟩
  obtain ⟨e0, e1⟩ := hagree c
  obtain ⟨h0, k⟩ := h c
  have h0 := h0.trans ((Cert.CkvReferenceIdeal.Read.val_main_v3_eq _ _).trans (reference_eq _ _))
  rw [final]
  simp only [aX, aW, e0, e1] at h0 k ⊢
  exact ⟨h0, k⟩

/-- The reference returns, keeps its arguments and leaves every counter at zero. -/
theorem frame_reference : Cert.quiescent_CkvReferenceIdeal := fun m g _ =>
  (Cert.CkvReferenceIdeal.Value.run m g).mono fun r h => ⟨fun c => (h c).2, sem_eq_zero_of_no_sems (by decide) _⟩

end Cert.Ckv
-- ==== Proof.DwkvClaim.lean ====
/- The gradient of the keys' and values' weight: the kernel and its reference leave the same array. -/
module

public import Idealize.ShloMosaic.Lib.Claim
public import Idealize.ShloMosaic.Lib.Pipeline.ValueKit
public import Idealize.ShloMosaic.Lib.Pipeline.ReadBack
public import proofs.«01_k».proof.Proof.Gen.DwkvKernelIdeal.Value
public import proofs.«01_k».proof.Proof.Gen.DwkvReferenceIdeal.Run
public import proofs.«01_k».proof.Proof.Gen.DwkvReferenceIdeal.Read
public import proofs.«01_k».proof.Defs
public import proofs.«01_k».proof.Proof.Product

set_option maxRecDepth 16384

@[expose] public section

noncomputable section

open Idealize.ShloMosaic Idealize.ShloMosaic.TcCoe Idealize.SL.Sem

namespace Cert.Dwkv

section
open Cert.DwkvKernelIdeal Cert.DwkvKernelIdeal.Gen Cert.Product

/-- The one point's product. -/
theorem out_read (X : FVec Ideal S256x1024 .bf16) (D : FVec Ideal S256x1024 .f32) (r k : Fin 1024) :
    k0_pay1 (F := Ideal) X D (ix2 r k) = ∑ s : Fin 256, X (ix2 s r) * (D (ix2 s k) : EReal) := by
  unfold_payloads
  pointwise

variable (m : (ℓ : Loc nD τ sig) → Buf (Elt Ideal) ℓ)

/-- Which block every window holds: each whole. -/
theorem idx : ∀ t : Fin cfg0.N, win0_0.index t = ![0, 0] ∧ win0_1.index t = ![0, 0] ∧ win0_2.index t = ![0, 0] :=
  (by decide +kernel : ∀ t : Fin grid0.N, _)

/-- The arrays the region finds: the normed memory and the gradient of the keys and values; and the point's blocks of them. -/
abbrev aX (c : Dev nD) : FVec Ideal S256x1024 .bf16 := m ((c : Thread nD τ).loc main_arg0)
abbrev aD (c : Dev nD) : FVec Ideal S256x1024 .f32 := m ((c : Thread nD τ).loc main_arg1)
abbrev bX (c : Dev nD) (t : Fin cfg0.N) : FVec Ideal S256x1024 .bf16 := iblk m c 0 t
abbrev bD (c : Dev nD) (t : Fin cfg0.N) : FVec Ideal S256x1024 .f32 := iblk m c 1 t

theorem readX (c : Dev nD) (t : Fin cfg0.N) (s : Fin 256) (r R : Fin 1024) (hR : R.val = r.val) :
    bX m c t (ix2 s r) = aX m c (ix2 s R) := by
  blk_point [bX, iblk, V, idx t, hR]

theorem readD (c : Dev nD) (t : Fin cfg0.N) (s : Fin 256) (k K : Fin 1024) (hK : K.val = k.val) :
    bD m c t (ix2 s k) = aD m c (ix2 s K) := by
  blk_point [bD, iblk, V, idx t, hK]

/-- The array at the end is the weight's gradient. -/
theorem final (c : Dev nD) : (dats m 0 c).arrAt 2 (cfgs 0).N = wgrad (aX m c) (aD m c) := by
  refine (dats m 0 c).arrAt_eq_of_covers 2 _ (by decide +kernel) fun t hf y => ?_
  blk_simp
  rw [after0_2]
  idx_vars y
  unfold out0_2
  frame_out
  exact (out_read (bX m c t) (bD m c t) y0 y1).trans (Finset.sum_congr rfl fun s _ =>
    congrArg₂ (· * ·) (readX m c t s y0 _ (by blk_simp [idx t])) (readD m c t s y1 _ (by blk_simp [idx t])))
end

/-- The reference's array is the same gradient. -/
theorem reference_eq (X : FVec Ideal Cert.DwkvReferenceIdeal.S256x1024 .bf16) (D : FVec Ideal Cert.DwkvReferenceIdeal.S256x1024 .f32) :
    Cert.DwkvReferenceIdeal.Read.val_main_v4 (F := Ideal) X D = Cert.Product.wgrad X D := by
  funext j
  idx_vars j
  refine (congrFun (Cert.DwkvReferenceIdeal.Read.val_main_v4_eq (F := Ideal) X D) (ix2 j0 j1)).symm.trans ?_
  pointwise
  exact Finset.sum_congr rfl fun s _ => mul_comm _ _

/-- Equal arguments, so equal gradients. -/
theorem algebraic : Cert.algebraic_DwkvKernelIdeal_DwkvReferenceIdeal := by
  intro m g m' g' _ hagree
  refine ⟨_, Cert.DwkvKernelIdeal.Value.run_blocks m g, (Cert.DwkvReferenceIdeal.Value.run m' g').mono fun r h c => ?_⟩
  obtain ⟨e0, e1⟩ := hagree c
  obtain ⟨h0, k⟩ := h c
  have h0 := h0.trans ((Cert.DwkvReferenceIdeal.Read.val_main_v4_eq _ _).trans (reference_eq _ _))
  rw [final]
  simp only [aX, aD, e0, e1] at h0 k ⊢
  exact ⟨h0, k⟩

/-- The reference returns, keeps its arguments and leaves every counter at zero. -/
theorem frame_reference : Cert.quiescent_DwkvReferenceIdeal := fun m g _ =>
  (Cert.DwkvReferenceIdeal.Value.run m g).mono fun r h => ⟨fun c => (h c).2, sem_eq_zero_of_no_sems (by decide) _⟩

end Cert.Dwkv
-- ==== Proof.DmemClaim.lean ====
/- The gradient of the normed memory, from the gradient of the keys and values: the kernel and its reference leave the same array. -/
module

public import Idealize.ShloMosaic.Lib.Claim
public import Idealize.ShloMosaic.Lib.Pipeline.ValueKit
public import proofs.«01_k».proof.Proof.Gen.DmemKernelIdeal.Value
public import proofs.«01_k».proof.Proof.Gen.DmemReferenceIdeal.Run
public import proofs.«01_k».proof.Proof.Gen.DmemReferenceIdeal.Read
public import proofs.«01_k».proof.Defs
public import proofs.«01_k».proof.Proof.Product

set_option maxRecDepth 16384

@[expose] public section

noncomputable section

open Idealize.ShloMosaic Idealize.ShloMosaic.TcCoe Idealize.SL.Sem

namespace Cert.Dmem

section
open Cert.DmemKernelIdeal Cert.DmemKernelIdeal.Gen Cert.Product

/-- The gradient of the merged branches: the residual stream's times the transposed weight. -/
def outA (X : FVec Ideal S256x1024 .f32) (W : FVec Ideal S1024x1024 .bf16) : FVec Ideal S256x1024 .f32 :=
  fun j => back X W (j 0) (j 1)

/-- The one point's product. -/
theorem out_read (X : FVec Ideal S256x1024 .f32) (W : FVec Ideal S1024x1024 .bf16) (r : Fin 256) (k : Fin 1024) :
    k0_pay1 (F := Ideal) X W (ix2 r k) = back X W r k := by
  unfold_payloads
  pointwise
  rfl

variable (m : (ℓ : Loc nD τ sig) → Buf (Elt Ideal) ℓ)

/-- Which block every window holds at a grid point: each whole. -/
theorem idx : ∀ t : Fin cfg0.N, win0_0.index t = ![0, 0] ∧ win0_1.index t = ![0, 0] ∧ win0_2.index t = ![0, 0] :=
  (by decide +kernel : ∀ t : Fin grid0.N, _)

/-- The arrays the region finds, and a point's blocks of them. -/
abbrev aX (c : Dev nD) : FVec Ideal S256x1024 .f32 := m ((c : Thread nD τ).loc main_arg0)
abbrev aW (c : Dev nD) : FVec Ideal S1024x1024 .bf16 := m ((c : Thread nD τ).loc main_arg1)
abbrev bX (c : Dev nD) (t : Fin cfg0.N) : FVec Ideal S256x1024 .f32 := iblk m c 0 t
abbrev bW (c : Dev nD) (t : Fin cfg0.N) : FVec Ideal S1024x1024 .bf16 := iblk m c 1 t

theorem readX (c : Dev nD) (t : Fin cfg0.N) (r R : Fin 256) (hR : R.val = r.val) (l : Fin 1024) :
    bX m c t (ix2 r l) = aX m c (ix2 R l) := by
  blk_point [bX, iblk, V, idx t, hR]

theorem readW (c : Dev nD) (t : Fin cfg0.N) (k K : Fin 1024) (hK : K.val = k.val) (l : Fin 1024) :
    bW m c t (ix2 k l) = aW m c (ix2 K l) := by
  blk_point [bW, iblk, V, idx t, hK]

/-- The array at the end. -/
theorem final (c : Dev nD) : (dats m 0 c).arrAt 2 (cfgs 0).N = outA (aX m c) (aW m c) := by
  refine (dats m 0 c).arrAt_eq_of_covers 2 _ (by decide +kernel) fun t hf y => ?_
  blk_simp
  rw [after0_2]
  idx_vars y
  unfold out0_2
  frame_out
  exact (out_read (bX m c t) (bW m c t) y0 y1).trans
    (back_congr (readX m c t y0 _ (by blk_simp [idx t])) (readW m c t y1 _ (by blk_simp [idx t])))
end

/-- The reference's array is the same product. -/
theorem reference_eq (X : FVec Ideal Cert.DmemKernelIdeal.S256x1024 .f32) (W : FVec Ideal Cert.DmemKernelIdeal.S1024x1024 .bf16) :
    Cert.DmemReferenceIdeal.Read.val_main_v3 (F := Ideal) X W = outA X W := by
  funext j
  idx_vars j
  refine (congrFun (Cert.DmemReferenceIdeal.Read.val_main_v3_eq (F := Ideal) X W) (ix2 j0 j1)).symm.trans ?_
  pointwise
  rfl

/-- Equal arguments, so equal products. -/
theorem algebraic : Cert.algebraic_DmemKernelIdeal_DmemReferenceIdeal := by
  intro m g m' g' _ hagree
  refine ⟨_, Cert.DmemKernelIdeal.Value.run_blocks m g, (Cert.DmemReferenceIdeal.Value.run m' g').mono fun r h c => ?_⟩
  obtain ⟨e0, e1⟩ := hagree c
  obtain ⟨h0, k⟩ := h c
  have h0 := h0.trans ((Cert.DmemReferenceIdeal.Read.val_main_v3_eq _ _).trans (reference_eq _ _))
  rw [final]
  simp only [aX, aW, e0, e1] at h0 k ⊢
  exact ⟨h0, k⟩

/-- The reference returns, keeps its arguments and leaves every counter at zero. -/
theorem frame_reference : Cert.quiescent_DmemReferenceIdeal := fun m g _ =>
  (Cert.DmemReferenceIdeal.Value.run m g).mono fun r h => ⟨fun c => (h c).2, sem_eq_zero_of_no_sems (by decide) _⟩

end Cert.Dmem
-- ==== Proof.Dh2Claim.lean ====
/- The gradient that reaches the cross-attention's input through its pre-norm: the kernel and its reference leave the same arrays. -/
module

public import Idealize.ShloMosaic.Lib.Claim
public import Idealize.ShloMosaic.Lib.Pipeline.ValueKit
public import Idealize.ShloMosaic.Lib.Pipeline.ReadBack
public import proofs.«01_k».proof.Proof.Gen.Dh2KernelIdeal.Value
public import proofs.«01_k».proof.Proof.Gen.Dh2ReferenceIdeal.Run
public import proofs.«01_k».proof.Proof.Gen.Dh2ReferenceIdeal.Read
public import proofs.«01_k».proof.Defs
public import proofs.«01_k».proof.Proof.Norm
public import proofs.«01_k».proof.Proof.Product

set_option maxRecDepth 16384

@[expose] public section

noncomputable section

open Idealize.ShloMosaic Idealize.ShloMosaic.TcCoe Idealize.SL.Sem

namespace Cert.Dh2

section
open Cert.Dh2KernelIdeal Cert.Dh2KernelIdeal.Gen Cert.Norm Cert.Product

/-- The arrays of the gradients: of the norm's input and of its gain. -/
def dxA (C : FVec Ideal S4096x512 .bf16) (W : FVec Ideal S1024x512 .bf16) (X A : FVec Ideal S4096x1024 .f32)
    (G : FVec Ideal S1x1024 .f32) : FVec Ideal S4096x1024 .f32 :=
  fun j => rowGrad (row X (j 0)) (gained (back C W (j 0)) G) (j 1) + A j
def dgA (C : FVec Ideal S4096x512 .bf16) (W : FVec Ideal S1024x512 .bf16) (X : FVec Ideal S4096x1024 .f32) :
    FVec Ideal S1x1024 .f32 :=
  fun j => gainGrad (row X) (back C W) (j 1)

/-- The gradient of the norm's input at a point. -/
theorem dx_read (C W : FVec Ideal S1024x512 .bf16) (X A : FVec Ideal S1024x1024 .f32) (G : FVec Ideal S1x1024 .f32) (r k : Fin 1024) :
    k0_pay5 (F := Ideal) C W X A G (ix2 r k) = rowGrad (row X r) (gained (back C W r) G) k + A (ix2 r k) := by
  unfold_payloads
  pointwise
  rfl

/-- A row block's part of the gain's gradient. -/
theorem dg_read (C W : FVec Ideal S1024x512 .bf16) (X : FVec Ideal S1024x1024 .f32) (i : Fin 1) (k : Fin 1024) :
    k0_pay6 (F := Ideal) C W X (ix2 i k) = gainGrad (row X) (back C W) k := by
  unfold_payloads
  pointwise
  rfl

/-- A row block's part added to the row blocks before it. -/
theorem sum_read (P D : FVec Ideal S1x1024 .f32) (i : Fin 1) (k : Fin 1024) :
    k0_pay1 (F := Ideal) P D (ix2 i k) = D (ix2 i k) + P (ix2 i k) := by
  unfold_payloads
  pointwise

variable (m : (ℓ : Loc nD τ sig) → Buf (Elt Ideal) ℓ)

/-- Which block every window holds at a grid point: row block `t`; the weight, the gain and its gradient stay. -/
theorem idx : ∀ t : Fin cfg0.N, win0_0.index t = ![t.val, 0] ∧ win0_1.index t = ![0, 0]
    ∧ win0_2.index t = ![t.val, 0] ∧ win0_3.index t = ![t.val, 0] ∧ win0_4.index t = ![0, 0]
    ∧ win0_5.index t = ![t.val, 0] ∧ win0_6.index t = ![0, 0] :=
  (by decide +kernel : ∀ t : Fin grid0.N, _)

/-- The arrays the region finds: the cotangent of the queries, their weight, the norm's input, what is added, the gain. -/
abbrev aC (c : Dev nD) : FVec Ideal S4096x512 .bf16 := m ((c : Thread nD τ).loc main_arg0)
abbrev aW (c : Dev nD) : FVec Ideal S1024x512 .bf16 := m ((c : Thread nD τ).loc main_arg1)
abbrev aX (c : Dev nD) : FVec Ideal S4096x1024 .f32 := m ((c : Thread nD τ).loc main_arg2)
abbrev aA (c : Dev nD) : FVec Ideal S4096x1024 .f32 := m ((c : Thread nD τ).loc main_arg3)
abbrev aG (c : Dev nD) : FVec Ideal S1x1024 .f32 := m ((c : Thread nD τ).loc main_arg4)

/-- A point's blocks of them. -/
abbrev bC (c : Dev nD) (t : Fin cfg0.N) : FVec Ideal S1024x512 .bf16 := iblk m c 0 t
abbrev bW (c : Dev nD) (t : Fin cfg0.N) : FVec Ideal S1024x512 .bf16 := iblk m c 1 t
abbrev bX (c : Dev nD) (t : Fin cfg0.N) : FVec Ideal S1024x1024 .f32 := iblk m c 2 t
abbrev bA (c : Dev nD) (t : Fin cfg0.N) : FVec Ideal S1024x1024 .f32 := iblk m c 3 t
abbrev bG (c : Dev nD) (t : Fin cfg0.N) : FVec Ideal S1x1024 .f32 := iblk m c 4 t

theorem readC (c : Dev nD) (t : Fin cfg0.N) (r : Fin 1024) (R : Fin 4096) (hR : R.val = t.val * 1024 + r.val) (l : Fin 512) :
    bC m c t (ix2 r l) = aC m c (ix2 R l) := by
  blk_point [bC, iblk, V, idx t, hR]

theorem readW (c : Dev nD) (t : Fin cfg0.N) (k : Fin 1024) (l : Fin 512) : bW m c t (ix2 k l) = aW m c (ix2 k l) := by
  blk_point [bW, iblk, V, idx t]

theorem readX (c : Dev nD) (t : Fin cfg0.N) (r : Fin 1024) (R : Fin 4096) (hR : R.val = t.val * 1024 + r.val) :
    row (bX m c t) r = row (aX m c) R := by
  funext l
  show bX m c t (ix2 r l) = aX m c (ix2 R l)
  blk_point [bX, iblk, V, idx t, hR]

theorem readA (c : Dev nD) (t : Fin cfg0.N) (r k : Fin 1024) (R : Fin 4096) (hR : R.val = t.val * 1024 + r.val) :
    bA m c t (ix2 r k) = aA m c (ix2 R k) := by
  blk_point [bA, iblk, V, idx t, hR]

theorem readG (c : Dev nD) (t : Fin cfg0.N) : bG m c t = aG m c := by
  funext j
  idx_vars j
  obtain rfl : j0 = 0 := Subsingleton.elim _ _
  blk_point [bG, iblk, V, idx t]

/-- A row of a point's product in the arrays' own coordinates. -/
theorem back_eq (c : Dev nD) (t : Fin cfg0.N) (r : Fin 1024) (R : Fin 4096) (hR : R.val = t.val * 1024 + r.val) :
    back (bC m c t) (bW m c t) r = back (aC m c) (aW m c) R :=
  funext fun k => back_congr (readC m c t r R hR) (readW m c t k)

/-- What a point writes of the input's gradient, in the arrays' own coordinates. -/
theorem tile (c : Dev nD) (t : Fin cfg0.N) (r k : Fin 1024) (j : S4096x1024.Idx) (hR : (j 0).val = t.val * 1024 + r.val)
    (hK : (j 1).val = k.val) :
    (outsAt0 m c t.val t.isLt).1 (ix2 r k) = dxA (aC m c) (aW m c) (aX m c) (aA m c) (aG m c) j := by
  idx_vars j
  obtain rfl : j1 = k := Fin.ext hK
  have e : k0_pay5 (F := Ideal) (bC m c t) (bW m c t) (bX m c t) (bA m c t) (bG m c t) (ix2 r j1)
      = dxA (aC m c) (aW m c) (aX m c) (aA m c) (aG m c) (ix2 j0 j1) := by
    rw [dx_read, readX m c t r j0 hR, back_eq m c t r j0 hR, readA m c t r j1 j0 hR, readG]
    rfl
  by_cases h : t.val % 4 = 0
  · rw [outsAt0_A m c t h (by have := lt_of_lt_of_eq t.isLt N_0; omega)]; frame_out; exact e
  · rw [outsAt0_B m c t h (by omega)]; frame_out; exact e

/-- The array of the input's gradient. -/
theorem final5 (c : Dev nD) : (dats m 0 c).arrAt 5 (cfgs 0).N = dxA (aC m c) (aW m c) (aX m c) (aA m c) (aG m c) := by
  refine (dats m 0 c).arrAt_eq_of_covers 5 _ (by decide +kernel) fun t hf y => ?_
  blk_simp
  rw [after0_5]
  idx_vars y
  exact tile m c t y0 y1 _ (by blk_simp [idx t]) (by blk_simp [idx t])

/-- What a point adds to the gain's gradient: the sum over its rows. -/
def part (c : Dev nD) (t : Fin cfg0.N) (k : Fin 1024) : EReal := gainGrad (row (bX m c t)) (back (bC m c t) (bW m c t)) k

/-- The four row blocks' sums of 1024 rows each are the sum over all rows. -/
theorem run_rows (c : Dev nD) (n : Nat) (hn : n = 0) (h : ∀ s : Fin 4, 4 * n + s.val < cfg0.N) (k K : Fin 1024) (hK : K.val = k.val) :
    ∑ s : Fin 4, part m c ⟨4 * n + s.val, h s⟩ k = gainGrad (row (aX m c)) (back (aC m c) (aW m c)) K := by
  obtain rfl : K = k := Fin.ext hK
  subst hn
  have e : ∀ s : Fin 4, part m c ⟨4 * 0 + s.val, h s⟩ K
      = ∑ r : Fin 1024, back (aC m c) (aW m c) ⟨s.val * 1024 + r.val, by omega⟩ K
        * (aX m c (ix2 ⟨s.val * 1024 + r.val, by omega⟩ K) * scale (row (aX m c) ⟨s.val * 1024 + r.val, by omega⟩)) := by
    intro s
    unfold part gainGrad
    refine Finset.sum_congr rfl fun r _ => ?_
    have hR : s.val * 1024 + r.val = (4 * 0 + s.val) * 1024 + r.val := by omega
    rw [readX m c ⟨4 * 0 + s.val, h s⟩ r ⟨s.val * 1024 + r.val, by omega⟩ hR,
      back_eq m c ⟨4 * 0 + s.val, h s⟩ r ⟨s.val * 1024 + r.val, by omega⟩ hR]
    rfl
  rw [Finset.sum_congr rfl fun s _ => e s]
  unfold gainGrad
  exact Fin.sum_mul_add_congr (f := fun R => back (aC m c) (aW m c) R K * (aX m c (ix2 R K) * scale (row (aX m c) R))) fun s r hl => rfl

/-- The array of the gain's gradient. -/
theorem final6 (c : Dev nD) : (dats m 0 c).arrAt 6 (cfgs 0).N = dgA (aC m c) (aW m c) (aX m c) := by
  refine (dats m 0 c).arrAt_eq_of_covers 6 _ (by decide +kernel) fun t hf y => ?_
  blk_simp
  rw [after0_6]
  idx_vars y
  rw [Pipeline.eq_sum_fin_of_reset_step_apply_of_flush (fun n h => (outsAt0 m c n h).2) 4 (fun _ => 0)
    (fun t j => part m c t (j 1))
    (fun t h j => by
      rw [outsAt0_A m c t h (by have := lt_of_lt_of_eq t.isLt N_0; omega)]; frame_out; idx_vars j
      exact (dg_read _ _ _ _ _).trans (zero_add _).symm)
    (fun t h j => by
      rw [outsAt0_B m c t h (by omega)]; frame_out; idx_vars j
      exact (sum_read _ _ _ _).trans (congrArg _ (dg_read _ _ _ _ _)))
    t ((flush0_6 t).mp hf) _, zero_add]
  have ht : t.val < 4 := lt_of_lt_of_eq t.isLt N_0
  exact run_rows m c (t.val / 4) (by omega) _ y1 _ (by blk_simp [idx t])

open Cert.Dh2ReferenceIdeal.Read in
/-- The reference's arrays are the same. -/
theorem reference_dx (C : FVec Ideal S4096x512 .bf16) (W : FVec Ideal S1024x512 .bf16) (X A : FVec Ideal S4096x1024 .f32)
    (G : FVec Ideal S1x1024 .f32) : Cert.Dh2ReferenceIdeal.Read.val_main_v38 (F := Ideal) C W X A G = dxA C W X A G := by
  funext j
  idx_vars j
  pointwise [val_main_v38, val_main_v37, val_main_v36, val_main_v35, val_main_v34, val_main_v33, val_main_v32, val_main_v31,
    val_main_v30, val_main_v29, val_main_v28, val_main_v27, val_main_v26, val_main_v25, val_main_v24, val_main_v23, val_main_v22,
    val_main_v18, val_main_v17, val_main_v15, val_main_v10, val_main_v9, val_main_v8, val_main_v7, val_main_v6, val_main_v5,
    val_main_v4, val_main_v3, val_main_v2, val_main_v1, val_main_v0, val_main_cst, val_main_cst_0, val_main_cst_1, val_main_cst_2,
    val_main_cst_4, val_main_cst_5, val_main_cst_6]
  rw [Fin.sum_univ_one]
  have e := rowGrad_eq (row X j0) (gained (back C W j0) G) j1
  show _ = rowGrad (row X j0) (gained (back C W j0) G) j1 + A (ix2 j0 j1)
  rw [e, add_comm _ (A _), ← add_assoc, ← add_assoc]
  rfl

theorem reference_dg (C : FVec Ideal S4096x512 .bf16) (W : FVec Ideal S1024x512 .bf16) (X : FVec Ideal S4096x1024 .f32) :
    Cert.Dh2ReferenceIdeal.Read.val_main_v21 (F := Ideal) C W X = dgA C W X := by
  funext j
  idx_vars j
  refine (congrFun (Cert.Dh2ReferenceIdeal.Read.val_main_v21_eq (F := Ideal) C W X) (ix2 j0 j1)).symm.trans ?_
  pointwise
  exact Finset.sum_congr rfl fun r _ => mul_comm _ _
end

/-- Equal arguments, so equal gradients. -/
theorem algebraic : Cert.algebraic_Dh2KernelIdeal_Dh2ReferenceIdeal := by
  intro m g m' g' _ hagree
  refine ⟨_, _, Cert.Dh2KernelIdeal.Value.run_blocks m g, (Cert.Dh2ReferenceIdeal.Value.run m' g').mono fun r h c => ?_⟩
  obtain ⟨e0, e1, e2, e3, e4⟩ := hagree c
  obtain ⟨h0, h1, k⟩ := h c
  have h0 := h0.trans ((Cert.Dh2ReferenceIdeal.Read.val_main_v38_eq m' c).trans (reference_dx _ _ _ _ _))
  have h1 := h1.trans ((Cert.Dh2ReferenceIdeal.Read.val_main_v21_eq _ _ _).trans (reference_dg _ _ _))
  rw [final5, final6]
  simp only [aC, aW, aX, aA, aG, e0, e1, e2, e3, e4] at h0 h1 k ⊢
  exact ⟨h0, h1, k⟩

/-- The reference returns, keeps its arguments and leaves every counter at zero. -/
theorem frame_reference : Cert.quiescent_Dh2ReferenceIdeal := fun m g _ =>
  (Cert.Dh2ReferenceIdeal.Value.run m g).mono fun r h => ⟨fun c => (h c).2.2, sem_eq_zero_of_no_sems (by decide) _⟩

end Cert.Dh2
-- ==== Proof.FmClaim.lean ====
/- The norm of the memory: the kernel and its reference leave the same array. -/
module

public import Idealize.ShloMosaic.Lib.Claim
public import Idealize.ShloMosaic.Lib.Pipeline.ValueKit
public import Idealize.ShloMosaic.Lib.Pipeline.ReadBack
public import proofs.«01_k».proof.Proof.Gen.FmKernelIdeal.Value
public import proofs.«01_k».proof.Proof.Gen.FmReferenceIdeal.Run
public import proofs.«01_k».proof.Proof.Gen.FmReferenceIdeal.Read
public import proofs.«01_k».proof.Defs
public import proofs.«01_k».proof.Proof.Norm

set_option maxRecDepth 16384

@[expose] public section

noncomputable section

open Idealize.ShloMosaic Idealize.ShloMosaic.TcCoe Idealize.SL.Sem

namespace Cert.Fm

section
open Cert.FmKernelIdeal Cert.FmKernelIdeal.Gen Cert.Norm

/-- The norm of every row. -/
def outA (X : FVec Ideal S256x1024 .f32) (G : FVec Ideal S1x1024 .f32) : FVec Ideal S256x1024 .bf16 :=
  fun j => normed (row X (j 0)) (row G 0) (j 1)

/-- A tile's norms. -/
theorem out_read (X : FVec Ideal S256x1024 .f32) (G : FVec Ideal S1x1024 .f32) (r : Fin 256) (k : Fin 1024) :
    k0_pay1 (F := Ideal) X G (ix2 r k) = normed (row X r) (row G 0) k := by
  unfold_payloads
  pointwise
  rfl

variable (m : (ℓ : Loc nD τ sig) → Buf (Elt Ideal) ℓ)

/-- Which block every window holds at a grid point: each whole. -/
theorem idx : ∀ t : Fin cfg0.N, win0_0.index t = ![0, 0] ∧ win0_1.index t = ![0, 0] ∧ win0_2.index t = ![0, 0] :=
  (by decide +kernel : ∀ t : Fin grid0.N, _)

/-- The arrays the region finds, and a point's blocks of them. -/
abbrev aX (c : Dev nD) : FVec Ideal S256x1024 .f32 := m ((c : Thread nD τ).loc main_arg0)
abbrev aG (c : Dev nD) : FVec Ideal S1x1024 .f32 := m ((c : Thread nD τ).loc main_arg1)
abbrev bX (c : Dev nD) (t : Fin cfg0.N) : FVec Ideal S256x1024 .f32 := iblk m c 0 t
abbrev bG (c : Dev nD) (t : Fin cfg0.N) : FVec Ideal S1x1024 .f32 := iblk m c 1 t

theorem readX (c : Dev nD) (t : Fin cfg0.N) (r : Fin 256) (R : Fin 256) (hR : R.val = r.val) : row (bX m c t) r = row (aX m c) R := by
  funext l
  show bX m c t (ix2 r l) = aX m c (ix2 R l)
  blk_point [bX, iblk, V, idx t, hR]

theorem readG (c : Dev nD) (t : Fin cfg0.N) : row (bG m c t) 0 = row (aG m c) 0 := by
  funext l
  show bG m c t (ix2 0 l) = aG m c (ix2 0 l)
  blk_point [bG, iblk, V, idx t]

/-- A tile's entry in the array's own coordinates. -/
theorem tile (c : Dev nD) (t : Fin cfg0.N) (r : Fin 256) (k : Fin 1024) (j : S256x1024.Idx)
    (hR : (j 0).val = r.val) (hK : (j 1).val = k.val) :
    k0_pay1 (F := Ideal) (bX m c t) (bG m c t) (ix2 r k) = outA (aX m c) (aG m c) j := by
  idx_vars j
  obtain rfl : j1 = k := Fin.ext hK
  rw [out_read, readX m c t r j0 hR, readG]
  rfl

/-- The array at the end. -/
theorem final (c : Dev nD) : (dats m 0 c).arrAt 2 (cfgs 0).N = outA (aX m c) (aG m c) := by
  refine (dats m 0 c).arrAt_eq_of_covers 2 _ (by decide +kernel) fun t hf y => ?_
  blk_simp
  rw [after0_2]
  idx_vars y
  unfold out0_2
  frame_out
  exact tile m c t y0 y1 _ (by blk_simp [idx t]) (by blk_simp [idx t])
end

/-- The reference's array holds the same norms. -/
theorem reference_eq (X : FVec Ideal Cert.FmKernelIdeal.S256x1024 .f32) (G : FVec Ideal Cert.FmKernelIdeal.S1x1024 .f32) :
    Cert.FmReferenceIdeal.Read.val_main_v12 (F := Ideal) X G = outA X G := by
  funext j
  idx_vars j
  refine (congrFun (Cert.FmReferenceIdeal.Read.val_main_v12_eq (F := Ideal) X G) (ix2 j0 j1)).symm.trans ?_
  pointwise
  rfl

/-- Equal arguments, so equal norms. -/
theorem algebraic : Cert.algebraic_FmKernelIdeal_FmReferenceIdeal := by
  intro m g m' g' _ hagree
  refine ⟨_, Cert.FmKernelIdeal.Value.run_blocks m g, (Cert.FmReferenceIdeal.Value.run m' g').mono fun r h c => ?_⟩
  obtain ⟨e0, e1⟩ := hagree c
  obtain ⟨h0, k⟩ := h c
  have h0 := h0.trans ((Cert.FmReferenceIdeal.Read.val_main_v12_eq _ _).trans (reference_eq _ _))
  rw [final]
  simp only [aX, aG, e0, e1] at h0 k ⊢
  exact ⟨h0, k⟩

/-- The reference returns, keeps its arguments and leaves every counter at zero. -/
theorem frame_reference : Cert.quiescent_FmReferenceIdeal := fun m g _ =>
  (Cert.FmReferenceIdeal.Value.run m g).mono fun r h => ⟨fun c => (h c).2, sem_eq_zero_of_no_sems (by decide) _⟩

end Cert.Fm
-- ==== Proof.FpClaim.lean ====
/- The first pre-norm: the kernel and its reference leave the same array. -/
module

public import Idealize.ShloMosaic.Lib.Claim
public import Idealize.ShloMosaic.Lib.Pipeline.ValueKit
public import Idealize.ShloMosaic.Lib.Pipeline.ReadBack
public import proofs.«01_k».proof.Proof.Gen.FpKernelIdeal.Value
public import proofs.«01_k».proof.Proof.Gen.FpReferenceIdeal.Run
public import proofs.«01_k».proof.Proof.Gen.FpReferenceIdeal.Read
public import proofs.«01_k».proof.Defs
public import proofs.«01_k».proof.Proof.Norm

set_option maxRecDepth 16384

@[expose] public section

noncomputable section

open Idealize.ShloMosaic Idealize.ShloMosaic.TcCoe Idealize.SL.Sem

namespace Cert.Fp

section
open Cert.FpKernelIdeal Cert.FpKernelIdeal.Gen Cert.Norm

/-- The norm of every row. -/
def outA (X : FVec Ideal S4096x1024 .f32) (G : FVec Ideal S1x1024 .f32) : FVec Ideal S4096x1024 .bf16 :=
  fun j => normed (row X (j 0)) (row G 0) (j 1)

/-- A tile's norms. -/
theorem out_read (X : FVec Ideal S512x1024 .f32) (G : FVec Ideal S1x1024 .f32) (r : Fin 512) (k : Fin 1024) :
    k0_pay1 (F := Ideal) X G (ix2 r k) = normed (row X r) (row G 0) k := by
  unfold_payloads
  pointwise
  rfl

variable (m : (ℓ : Loc nD τ sig) → Buf (Elt Ideal) ℓ)

/-- Which block every window holds at a grid point: rows `512 t` and on, the gain whole. -/
theorem idx : ∀ t : Fin cfg0.N, win0_0.index t = ![t.val, 0] ∧ win0_1.index t = ![0, 0] ∧ win0_2.index t = ![t.val, 0] :=
  (by decide +kernel : ∀ t : Fin grid0.N, _)

/-- The arrays the region finds, and a point's blocks of them. -/
abbrev aX (c : Dev nD) : FVec Ideal S4096x1024 .f32 := m ((c : Thread nD τ).loc main_arg0)
abbrev aG (c : Dev nD) : FVec Ideal S1x1024 .f32 := m ((c : Thread nD τ).loc main_arg1)
abbrev bX (c : Dev nD) (t : Fin cfg0.N) : FVec Ideal S512x1024 .f32 := iblk m c 0 t
abbrev bG (c : Dev nD) (t : Fin cfg0.N) : FVec Ideal S1x1024 .f32 := iblk m c 1 t

theorem readX (c : Dev nD) (t : Fin cfg0.N) (r : Fin 512) (R : Fin 4096) (hR : R.val = t.val * 512 + r.val) : row (bX m c t) r = row (aX m c) R := by
  funext l
  show bX m c t (ix2 r l) = aX m c (ix2 R l)
  blk_point [bX, iblk, V, idx t, hR]

theorem readG (c : Dev nD) (t : Fin cfg0.N) : row (bG m c t) 0 = row (aG m c) 0 := by
  funext l
  show bG m c t (ix2 0 l) = aG m c (ix2 0 l)
  blk_point [bG, iblk, V, idx t]

/-- A tile's entry in the array's own coordinates. -/
theorem tile (c : Dev nD) (t : Fin cfg0.N) (r : Fin 512) (k : Fin 1024) (j : S4096x1024.Idx)
    (hR : (j 0).val = t.val * 512 + r.val) (hK : (j 1).val = k.val) :
    k0_pay1 (F := Ideal) (bX m c t) (bG m c t) (ix2 r k) = outA (aX m c) (aG m c) j := by
  idx_vars j
  obtain rfl : j1 = k := Fin.ext hK
  rw [out_read, readX m c t r j0 hR, readG]
  rfl

/-- The array at the end. -/
theorem final (c : Dev nD) : (dats m 0 c).arrAt 2 (cfgs 0).N = outA (aX m c) (aG m c) := by
  refine (dats m 0 c).arrAt_eq_of_covers 2 _ (by decide +kernel) fun t hf y => ?_
  blk_simp
  rw [after0_2]
  idx_vars y
  unfold out0_2
  frame_out
  exact tile m c t y0 y1 _ (by blk_simp [idx t]) (by blk_simp [idx t])
end

/-- The reference's array holds the same norms. -/
theorem reference_eq (X : FVec Ideal Cert.FpKernelIdeal.S4096x1024 .f32) (G : FVec Ideal Cert.FpKernelIdeal.S1x1024 .f32) :
    Cert.FpReferenceIdeal.Read.val_main_v12 (F := Ideal) X G = outA X G := by
  funext j
  idx_vars j
  refine (congrFun (Cert.FpReferenceIdeal.Read.val_main_v12_eq (F := Ideal) X G) (ix2 j0 j1)).symm.trans ?_
  pointwise
  rfl

/-- Equal arguments, so equal norms. -/
theorem algebraic : Cert.algebraic_FpKernelIdeal_FpReferenceIdeal := by
  intro m g m' g' _ hagree
  refine ⟨_, Cert.FpKernelIdeal.Value.run_blocks m g, (Cert.FpReferenceIdeal.Value.run m' g').mono fun r h c => ?_⟩
  obtain ⟨e0, e1⟩ := hagree c
  obtain ⟨h0, k⟩ := h c
  have h0 := h0.trans ((Cert.FpReferenceIdeal.Read.val_main_v12_eq _ _).trans (reference_eq _ _))
  rw [final]
  simp only [aX, aG, e0, e1] at h0 k ⊢
  exact ⟨h0, k⟩

/-- The reference returns, keeps its arguments and leaves every counter at zero. -/
theorem frame_reference : Cert.quiescent_FpReferenceIdeal := fun m g _ =>
  (Cert.FpReferenceIdeal.Value.run m g).mono fun r h => ⟨fun c => (h c).2, sem_eq_zero_of_no_sems (by decide) _⟩

end Cert.Fp
-- ==== Proof.RmemClaim.lean ====
/- The gradient of the memory's norm: the kernel and its reference leave the same arrays. -/
module

public import Idealize.ShloMosaic.Lib.Claim
public import Idealize.ShloMosaic.Lib.Pipeline.ValueKit
public import Idealize.ShloMosaic.Lib.Pipeline.ReadBack
public import proofs.«01_k».proof.Proof.Gen.RmemKernelIdeal.Value
public import proofs.«01_k».proof.Proof.Gen.RmemReferenceIdeal.Run
public import proofs.«01_k».proof.Proof.Gen.RmemReferenceIdeal.Read
public import proofs.«01_k».proof.Defs
public import proofs.«01_k».proof.Proof.Norm

set_option maxRecDepth 16384

@[expose] public section

noncomputable section

open Idealize.ShloMosaic Idealize.ShloMosaic.TcCoe Idealize.SL.Sem

namespace Cert.Rmem

section
open Cert.RmemKernelIdeal Cert.RmemKernelIdeal.Gen Cert.Norm

/-- The gradient with respect to the rows, and with respect to the gain. -/
def dxA (X : FVec Ideal S256x1024 .f32) (G : FVec Ideal S1x1024 .f32) (D : FVec Ideal S256x1024 .f32) : FVec Ideal S256x1024 .bf16 :=
  fun j => rowGrad (row X (j 0)) (gained (row D (j 0)) G) (j 1)
def dgA (X D : FVec Ideal S256x1024 .f32) : FVec Ideal S1x1024 .f32 := fun j => gainGrad (row X) (row D) (j 1)

theorem dx_read (X D : FVec Ideal S256x1024 .f32) (G : FVec Ideal S1x1024 .f32) (r : Fin 256) (k : Fin 1024) :
    k0_pay3 (F := Ideal) X D G (ix2 r k) = rowGrad (row X r) (gained (row D r) G) k := by
  unfold_payloads
  pointwise
  rfl

theorem dg_read (X D : FVec Ideal S256x1024 .f32) (z : Fin 1) (k : Fin 1024) :
    k0_pay4 (F := Ideal) X D (ix2 z k) = gainGrad (row X) (row D) k := by
  unfold_payloads
  pointwise
  rfl

variable (m : (ℓ : Loc nD τ sig) → Buf (Elt Ideal) ℓ)

/-- Which block every window holds: each whole. -/
theorem idx : ∀ t : Fin cfg0.N, win0_0.index t = ![0, 0] ∧ win0_1.index t = ![0, 0] ∧ win0_2.index t = ![0, 0]
    ∧ win0_3.index t = ![0, 0] ∧ win0_4.index t = ![0, 0] :=
  (by decide +kernel : ∀ t : Fin grid0.N, _)

/-- The arrays the region finds: the rows, the gain and the cotangent; and the point's blocks of them. -/
abbrev aX (c : Dev nD) : FVec Ideal S256x1024 .f32 := m ((c : Thread nD τ).loc main_arg0)
abbrev aG (c : Dev nD) : FVec Ideal S1x1024 .f32 := m ((c : Thread nD τ).loc main_arg1)
abbrev aD (c : Dev nD) : FVec Ideal S256x1024 .f32 := m ((c : Thread nD τ).loc main_arg2)
abbrev bX (c : Dev nD) (t : Fin cfg0.N) : FVec Ideal S256x1024 .f32 := iblk m c 0 t
abbrev bG (c : Dev nD) (t : Fin cfg0.N) : FVec Ideal S1x1024 .f32 := iblk m c 1 t
abbrev bD (c : Dev nD) (t : Fin cfg0.N) : FVec Ideal S256x1024 .f32 := iblk m c 2 t

theorem readX (c : Dev nD) (t : Fin cfg0.N) : bX m c t = aX m c := by
  funext j
  idx_vars j
  blk_point [bX, iblk, V, idx t]

theorem readD (c : Dev nD) (t : Fin cfg0.N) : bD m c t = aD m c := by
  funext j
  idx_vars j
  blk_point [bD, iblk, V, idx t]

theorem readG (c : Dev nD) (t : Fin cfg0.N) : bG m c t = aG m c := by
  funext j
  idx_vars j
  obtain rfl : j0 = 0 := Subsingleton.elim _ _
  blk_point [bG, iblk, V, idx t]

/-- What the point writes. -/
theorem tile3 (c : Dev nD) (t : Fin cfg0.N) (r : Fin 256) (k : Fin 1024) (j : S256x1024.Idx) (hR : (j 0).val = r.val) (hK : (j 1).val = k.val) :
    (outsAt0 m c t).1 (ix2 r k) = dxA (aX m c) (aG m c) (aD m c) j := by
  idx_vars j
  obtain rfl : j0 = r := Fin.ext hR
  obtain rfl : j1 = k := Fin.ext hK
  unfold outsAt0
  frame_out
  refine (dx_read (bX m c t) (bD m c t) (bG m c t) _ _).trans ?_
  rw [readX, readD, readG]
  rfl

theorem tile4 (c : Dev nD) (t : Fin cfg0.N) (z : Fin 1) (k : Fin 1024) (j : S1x1024.Idx) (hK : (j 1).val = k.val) :
    (outsAt0 m c t).2 (ix2 z k) = dgA (aX m c) (aD m c) j := by
  idx_vars j
  obtain rfl : j1 = k := Fin.ext hK
  unfold outsAt0
  frame_out
  refine (dg_read (bX m c t) (bD m c t) _ _).trans ?_
  rw [readX, readD]
  rfl

/-- The arrays at the end. -/
theorem final3 (c : Dev nD) : (dats m 0 c).arrAt 3 (cfgs 0).N = dxA (aX m c) (aG m c) (aD m c) := by
  refine (dats m 0 c).arrAt_eq_of_covers 3 _ (by decide +kernel) fun t hf y => ?_
  blk_simp
  rw [after0_3]
  idx_vars y
  exact tile3 m c t y0 y1 _ (by blk_simp [idx t]) (by blk_simp [idx t])

theorem final4 (c : Dev nD) : (dats m 0 c).arrAt 4 (cfgs 0).N = dgA (aX m c) (aD m c) := by
  refine (dats m 0 c).arrAt_eq_of_covers 4 _ (by decide +kernel) fun t hf y => ?_
  blk_simp
  rw [after0_4]
  idx_vars y
  exact tile4 m c t y0 y1 _ (by blk_simp [idx t])

/-- The reference's arrays are the same gradients. -/
theorem reference_dx (X : FVec Ideal S256x1024 .f32) (G : FVec Ideal S1x1024 .f32) (D : FVec Ideal S256x1024 .f32) :
    Cert.RmemReferenceIdeal.Read.val_main_v34 (F := Ideal) X G D = dxA X G D := by
  funext j
  idx_vars j
  refine (congrFun (Cert.RmemReferenceIdeal.Read.val_main_v34_eq (F := Ideal) X G D) (ix2 j0 j1)).symm.trans ?_
  pointwise
  rw [Fin.sum_univ_one]
  exact (add_assoc _ _ _).trans (rowGrad_eq (row X j0) (gained (row D j0) G) j1).symm

theorem reference_dg (X : FVec Ideal S256x1024 .f32) (D : FVec Ideal S256x1024 .f32) :
    Cert.RmemReferenceIdeal.Read.val_main_v17 (F := Ideal) X D = dgA X D := by
  funext j
  idx_vars j
  refine (congrFun (Cert.RmemReferenceIdeal.Read.val_main_v17_eq (F := Ideal) X D) (ix2 j0 j1)).symm.trans ?_
  pointwise
  exact Finset.sum_congr rfl fun r _ => mul_comm _ _
end

/-- Equal arguments, so equal gradients. -/
theorem algebraic : Cert.algebraic_RmemKernelIdeal_RmemReferenceIdeal := by
  intro m g m' g' _ hagree
  refine ⟨_, _, Cert.RmemKernelIdeal.Value.run_blocks m g, (Cert.RmemReferenceIdeal.Value.run m' g').mono fun r h c => ?_⟩
  obtain ⟨e0, e1, e2⟩ := hagree c
  obtain ⟨h0, h1, k⟩ := h c
  have h0 := h0.trans ((Cert.RmemReferenceIdeal.Read.val_main_v34_eq _ _ _).trans (reference_dx _ _ _))
  have h1 := h1.trans ((Cert.RmemReferenceIdeal.Read.val_main_v17_eq _ _).trans (reference_dg _ _))
  rw [final3, final4]
  simp only [aX, aG, aD, e0, e1, e2] at h0 h1 k ⊢
  exact ⟨h0, h1, k⟩

/-- The reference returns, keeps its arguments and leaves every counter at zero. -/
theorem frame_reference : Cert.quiescent_RmemReferenceIdeal := fun m g _ =>
  (Cert.RmemReferenceIdeal.Value.run m g).mono fun r h => ⟨fun c => (h c).2.2, sem_eq_zero_of_no_sems (by decide) _⟩

end Cert.Rmem
-- ==== Proof.DlClaim.lean ====
/- The last layer's second feed-forward product with the norm behind it: the kernel and its reference leave the same arrays. -/
module

public import Idealize.ShloMosaic.Lib.Claim
public import Idealize.ShloMosaic.Lib.Pipeline.ValueKit
public import Idealize.ShloMosaic.Lib.Pipeline.ReadBack
public import proofs.«01_k».proof.Proof.Gen.DlKernelIdeal.Value
public import proofs.«01_k».proof.Proof.Gen.DlReferenceIdeal.Run
public import proofs.«01_k».proof.Proof.Gen.DlReferenceIdeal.Read
public import proofs.«01_k».proof.Defs
public import proofs.«01_k».proof.Proof.Norm
public import proofs.«01_k».proof.Proof.Product

set_option maxRecDepth 16384

@[expose] public section

noncomputable section

open Idealize.ShloMosaic Idealize.ShloMosaic.TcCoe Idealize.SL.Sem

namespace Cert.Dl

section
open Cert.DlKernelIdeal Cert.DlKernelIdeal.Gen Cert.Norm Cert.Product

/-- The arrays: the product, and the layer's output, what the layer took plus the norm of the product. -/
def ffA (X : FVec Ideal S4096x4096 .bf16) (W : FVec Ideal S4096x1024 .bf16) : FVec Ideal S4096x1024 .f32 :=
  fun j => prod X W (j 0) (j 1)
def xA (X : FVec Ideal S4096x4096 .bf16) (W : FVec Ideal S4096x1024 .bf16) (R : FVec Ideal S4096x1024 .f32)
    (G : FVec Ideal S1x1024 .f32) : FVec Ideal S4096x1024 .f32 :=
  fun j => row R (j 0) (j 1) + normed (prod X W (j 0)) (row G 0) (j 1)

/-- A half's product. -/
theorem part_read (X : FVec Ideal S1024x2048 .bf16) (W : FVec Ideal S2048x1024 .bf16) (r k : Fin 1024) :
    k0_pay2 (F := Ideal) X W (ix2 r k) = prod X W r k := by
  unfold_payloads
  pointwise
  rfl

/-- A half's product added to what the scratch holds. -/
theorem sum_read (X : FVec Ideal S1024x2048 .bf16) (W : FVec Ideal S2048x1024 .bf16) (P : FVec Ideal S1024x1024 .f32) (r k : Fin 1024) :
    k0_pay3 (F := Ideal) X W P (ix2 r k) = P (ix2 r k) + prod X W r k := by
  unfold_payloads
  pointwise
  rfl

/-- The layer's output from the finished product. -/
theorem x_read (H R : FVec Ideal S1024x1024 .f32) (G : FVec Ideal S1x1024 .f32) (r k : Fin 1024) :
    k0_pay4 (F := Ideal) H R G (ix2 r k) = row R r k + normed (row H r) (row G 0) k := by
  unfold_payloads
  pointwise
  exact add_comm _ _

variable (m : (ℓ : Loc nD τ sig) → Buf (Elt Ideal) ℓ)

/-- Which block every window holds at a grid point: row block `t / 2`, half `t % 2` of the inner dimension. -/
theorem idx : ∀ t : Fin cfg0.N, win0_0.index t = ![t.val / 2, t.val % 2] ∧ win0_1.index t = ![t.val % 2, 0]
    ∧ win0_2.index t = ![t.val / 2, 0] ∧ win0_3.index t = ![0, 0] ∧ win0_4.index t = ![t.val / 2, 0]
    ∧ win0_5.index t = ![t.val / 2, 0] :=
  (by decide +kernel : ∀ t : Fin grid0.N, _)

/-- The arrays the region finds: the activation, the weight, what the layer took and the norm's gain. -/
abbrev aX (c : Dev nD) : FVec Ideal S4096x4096 .bf16 := m ((c : Thread nD τ).loc main_arg0)
abbrev aW (c : Dev nD) : FVec Ideal S4096x1024 .bf16 := m ((c : Thread nD τ).loc main_arg1)
abbrev aR (c : Dev nD) : FVec Ideal S4096x1024 .f32 := m ((c : Thread nD τ).loc main_arg2)
abbrev aG (c : Dev nD) : FVec Ideal S1x1024 .f32 := m ((c : Thread nD τ).loc main_arg3)

/-- A point's blocks of them. -/
abbrev bX (c : Dev nD) (t : Fin cfg0.N) : FVec Ideal S1024x2048 .bf16 := iblk m c 0 t
abbrev bW (c : Dev nD) (t : Fin cfg0.N) : FVec Ideal S2048x1024 .bf16 := iblk m c 1 t
abbrev bR (c : Dev nD) (t : Fin cfg0.N) : FVec Ideal S1024x1024 .f32 := iblk m c 2 t
abbrev bG (c : Dev nD) (t : Fin cfg0.N) : FVec Ideal S1x1024 .f32 := iblk m c 3 t

theorem readX (c : Dev nD) (t : Fin cfg0.N) (r : Fin 1024) (l : Fin 2048) (R : Fin 4096) (L : Fin 4096)
    (hR : R.val = t.val / 2 * 1024 + r.val) (hL : L.val = t.val % 2 * 2048 + l.val) :
    bX m c t (ix2 r l) = aX m c (ix2 R L) := by
  blk_point [bX, iblk, V, idx t, hR, hL]

theorem readW (c : Dev nD) (t : Fin cfg0.N) (l : Fin 2048) (k : Fin 1024) (L : Fin 4096) (hL : L.val = t.val % 2 * 2048 + l.val) :
    bW m c t (ix2 l k) = aW m c (ix2 L k) := by
  blk_point [bW, iblk, V, idx t, hL]

theorem readR (c : Dev nD) (t : Fin cfg0.N) (r : Fin 1024) (R : Fin 4096) (hR : R.val = t.val / 2 * 1024 + r.val) :
    row (bR m c t) r = row (aR m c) R := by
  funext l
  show bR m c t (ix2 r l) = aR m c (ix2 R l)
  blk_point [bR, iblk, V, idx t, hR]

theorem readG (c : Dev nD) (t : Fin cfg0.N) : bG m c t = aG m c := by
  funext j
  idx_vars j
  obtain rfl : j0 = 0 := Subsingleton.elim _ _
  blk_point [bG, iblk, V, idx t]

/-- What a point adds, in the arrays' own coordinates: the products of its half of the inner dimension. -/
theorem half (c : Dev nD) (t : Fin cfg0.N) (h : Fin 2) (ht : t.val % 2 = h.val) (r k : Fin 1024) (R : Fin 4096)
    (hR : R.val = t.val / 2 * 1024 + r.val) :
    prod (bX m c t) (bW m c t) r k
      = ∑ l : Fin 2048, aX m c (ix2 R ⟨h.val * 2048 + l.val, by omega⟩) * aW m c (ix2 ⟨h.val * 2048 + l.val, by omega⟩ k) := by
  refine Finset.sum_congr rfl fun l _ => ?_
  rw [readX m c t r l R ⟨h.val * 2048 + l.val, by omega⟩ hR (by rw [ht]), readW m c t l k ⟨h.val * 2048 + l.val, by omega⟩ (by rw [ht])]

/-- A row block's first point leaves the first half's products in the scratch. -/
theorem first (c : Dev nD) (t : Fin cfg0.N) (h : t.val % 2 = 0) (r k : Fin 1024) :
    (outsAt0 m c t.val t.isLt).2.2 (ix2 r k) = prod (bX m c t) (bW m c t) r k := by
  rw [outsAt0_A m c t h (by omega) (by omega)]; frame_out; exact part_read _ _ r k

/-- What the scratch and the first result hold at a row block's last point: the second half's products added. -/
def acc (c : Dev nD) (t : Fin cfg0.N) : FVec Ideal S1024x1024 .f32 :=
  k0_pay3 (F := Ideal) (bX m c t) (bW m c t) (outsAt0 m c (t.val - 1) (Nat.lt_of_le_of_lt (Nat.sub_le _ _) t.isLt)).2.2

/-- That is the product over the whole inner dimension. -/
theorem acc_eq (c : Dev nD) (t : Fin cfg0.N) (ht : t.val % 2 = 1) (r : Fin 1024) (R : Fin 4096)
    (hR : R.val = t.val / 2 * 1024 + r.val) : row (acc m c t) r = prod (aX m c) (aW m c) R := by
  funext k
  have hp : t.val - 1 < cfg0.N := Nat.lt_of_le_of_lt (Nat.sub_le _ _) t.isLt
  have h0 : (t.val - 1) % 2 = 0 := by omega
  have hd : (t.val - 1) / 2 = t.val / 2 := by omega
  refine (sum_read _ _ _ r k).trans ?_
  rw [first m c ⟨t.val - 1, hp⟩ h0 r k, half m c t 1 ht r k R hR, half m c ⟨t.val - 1, hp⟩ 0 h0 r k R (by rw [hR, ← hd])]
  exact sum_halves fun s => aX m c (ix2 R s) * aW m c (ix2 s k)

/-- What a row block's last point writes. -/
theorem last4 (c : Dev nD) (t : Fin cfg0.N) (h : t.val % 2 = 1) : (outsAt0 m c t.val t.isLt).1 = acc m c t := by
  unfold acc
  rw [outsAt0_B m c t (by omega) h h]; frame_out; simp only [read_unread_whole]

theorem last5 (c : Dev nD) (t : Fin cfg0.N) (h : t.val % 2 = 1) :
    (outsAt0 m c t.val t.isLt).2.1 = k0_pay4 (F := Ideal) (acc m c t) (bR m c t) (bG m c t) := by
  unfold acc
  rw [outsAt0_B m c t (by omega) h h]; frame_out; simp only [read_unread_whole]

/-- The arrays at the end. -/
theorem final4 (c : Dev nD) : (dats m 0 c).arrAt 4 (cfgs 0).N = ffA (aX m c) (aW m c) := by
  refine (dats m 0 c).arrAt_eq_of_covers 4 _ (by decide +kernel) fun t hf y => ?_
  blk_simp
  rw [after0_4]
  idx_vars y
  have ht := (flush0_4 t).mp hf
  have hN := lt_of_lt_of_eq t.isLt N_0
  rw [last4 m c t ht]
  refine (congrFun (acc_eq m c t ht y0 ⟨t.val / 2 * 1024 + y0.val, by omega⟩ rfl) y1).trans ?_
  exact congrArg₂ (prod (aX m c) (aW m c)) (Fin.ext (by blk_simp [idx t])) (Fin.ext (by blk_simp [idx t]))

theorem final5 (c : Dev nD) : (dats m 0 c).arrAt 5 (cfgs 0).N = xA (aX m c) (aW m c) (aR m c) (aG m c) := by
  refine (dats m 0 c).arrAt_eq_of_covers 5 _ (by decide +kernel) fun t hf y => ?_
  blk_simp
  rw [after0_5]
  idx_vars y
  have ht := (flush0_5 t).mp hf
  have hN := lt_of_lt_of_eq t.isLt N_0
  rw [last5 m c t ht, x_read, acc_eq m c t ht y0 ⟨t.val / 2 * 1024 + y0.val, by omega⟩ rfl,
    readR m c t y0 ⟨t.val / 2 * 1024 + y0.val, by omega⟩ rfl, readG]
  exact congrArg₂ (fun R K => row (aR m c) R K + normed (prod (aX m c) (aW m c) R) (row (aG m c) 0) K)
    (Fin.ext (by blk_simp [idx t])) (Fin.ext (by blk_simp [idx t]))

/-- The reference's arrays are the same. -/
theorem reference_ff (X : FVec Ideal S4096x4096 .bf16) (W : FVec Ideal S4096x1024 .bf16) :
    Cert.DlReferenceIdeal.Read.val_main_v2 (F := Ideal) X W = ffA X W := by
  funext j
  idx_vars j
  refine (congrFun (Cert.DlReferenceIdeal.Read.val_main_v2_eq (F := Ideal) X W) (ix2 j0 j1)).symm.trans ?_
  pointwise
  rfl

theorem reference_x (X : FVec Ideal S4096x4096 .bf16) (W : FVec Ideal S4096x1024 .bf16) (R : FVec Ideal S4096x1024 .f32)
    (G : FVec Ideal S1x1024 .f32) : Cert.DlReferenceIdeal.Read.val_main_v15 (F := Ideal) X W R G = xA X W R G := by
  funext j
  idx_vars j
  refine (congrFun (Cert.DlReferenceIdeal.Read.val_main_v15_eq (F := Ideal) X W R G) (ix2 j0 j1)).symm.trans ?_
  pointwise
  rfl
end

/-- Equal arguments, so equal arrays. -/
theorem algebraic : Cert.algebraic_DlKernelIdeal_DlReferenceIdeal := by
  intro m g m' g' _ hagree
  refine ⟨_, _, Cert.DlKernelIdeal.Value.run_blocks m g, (Cert.DlReferenceIdeal.Value.run m' g').mono fun r h c => ?_⟩
  obtain ⟨e0, e1, e2, e3⟩ := hagree c
  obtain ⟨h0, h1, k⟩ := h c
  have h0 := h0.trans ((Cert.DlReferenceIdeal.Read.val_main_v2_eq _ _).trans (reference_ff _ _))
  have h1 := h1.trans ((Cert.DlReferenceIdeal.Read.val_main_v15_eq _ _ _ _).trans (reference_x _ _ _ _))
  rw [final4, final5]
  simp only [aX, aW, aR, aG, e0, e1, e2, e3] at h0 h1 k ⊢
  exact ⟨h0, h1, k⟩

/-- The reference returns, keeps its arguments and leaves every counter at zero. -/
theorem frame_reference : Cert.quiescent_DlReferenceIdeal := fun m g _ =>
  (Cert.DlReferenceIdeal.Value.run m g).mono fun r h => ⟨fun c => (h c).2.2, sem_eq_zero_of_no_sems (by decide) _⟩

end Cert.Dl
-- ==== Proof.GluClaim.lean ====
/- The gate behind the state-space mixer: the kernel and its reference leave the same array. -/
module

public import Idealize.ShloMosaic.Lib.Claim
public import Idealize.ShloMosaic.Lib.Pipeline.ValueKit
public import Idealize.ShloMosaic.Lib.Pipeline.ReadBack
public import proofs.«01_k».proof.Proof.Gen.GluKernelIdeal.Value
public import proofs.«01_k».proof.Proof.Gen.GluReferenceIdeal.Run
public import proofs.«01_k».proof.Proof.Gen.GluReferenceIdeal.Read
public import proofs.«01_k».proof.Defs
public import proofs.«01_k».proof.Proof.MergeForm

set_option maxRecDepth 16384

@[expose] public section

noncomputable section

open Idealize.ShloMosaic Idealize.ShloMosaic.TcCoe Idealize.SL.Sem

namespace Cert.Glu

/-- The smooth rectifier in its form with the hyperbolic tangent, the numbers as the programs write them. -/
def gelu (x : EReal) : EReal :=
  Ideal.ofBits FTy.f32 0x3F000000#32 * x
    * (1 + Ideal.tanh (Ideal.ofBits FTy.f32 0x3F4C422A#32 * (x + Ideal.ofBits FTy.f32 0x3D372713#32 * (x * x * x))))

section
open Cert.GluKernelIdeal Cert.GluKernelIdeal.Gen Cert.Merge

/-- A row of the rectified state times a column of the weight. -/
def mixed {S : Nat} (Y : FVec Ideal ⟨2, ![S, 512]⟩ .f32) (W : FVec Ideal S512x512 .bf16) (r : Fin S) (k : Fin 512) : EReal :=
  ∑ l : Fin 512, gelu (Y (ix2 r l)) * W (ix2 l k)

/-- The rectified state times its gate. -/
def gluAt {S : Nat} (Y : FVec Ideal ⟨2, ![S, 512]⟩ .f32) (W : FVec Ideal S512x512 .bf16) (B : FVec Ideal S1x512 .f32) (r : Fin S)
    (k : Fin 512) : EReal := gelu (Y (ix2 r k)) * gate (mixed Y W r k) (B (ix2 0 k))

def outA (Y : FVec Ideal S4096x512 .f32) (W : FVec Ideal S512x512 .bf16) (B : FVec Ideal S1x512 .f32) : FVec Ideal S4096x512 .bf16 :=
  fun j => gluAt Y W B (j 0) (j 1)

/-- What a point writes. -/
theorem out_read (Y : FVec Ideal S512x512 .f32) (W : FVec Ideal S512x512 .bf16) (B : FVec Ideal S1x512 .f32) (r k : Fin 512) :
    k0_pay1 (F := Ideal) Y W B (ix2 r k) = gluAt Y W B r k := by
  unfold_payloads
  pointwise
  simp only [gluAt, gate, mixed, gelu, zero_sub, zero_add]

variable (m : (ℓ : Loc nD τ sig) → Buf (Elt Ideal) ℓ)

/-- Which block every window holds at a grid point: rows `512 t` and on, the weight and the bias whole. -/
theorem idx : ∀ t : Fin cfg0.N, win0_0.index t = ![t.val, 0] ∧ win0_1.index t = ![0, 0] ∧ win0_2.index t = ![0, 0]
    ∧ win0_3.index t = ![t.val, 0] :=
  (by decide +kernel : ∀ t : Fin grid0.N, _)

/-- The arrays the region finds, and a point's blocks of them. -/
abbrev aY (c : Dev nD) : FVec Ideal S4096x512 .f32 := m ((c : Thread nD τ).loc main_arg0)
abbrev aW (c : Dev nD) : FVec Ideal S512x512 .bf16 := m ((c : Thread nD τ).loc main_arg1)
abbrev aB (c : Dev nD) : FVec Ideal S1x512 .f32 := m ((c : Thread nD τ).loc main_arg2)
abbrev bY (c : Dev nD) (t : Fin cfg0.N) : FVec Ideal S512x512 .f32 := iblk m c 0 t
abbrev bW (c : Dev nD) (t : Fin cfg0.N) : FVec Ideal S512x512 .bf16 := iblk m c 1 t
abbrev bB (c : Dev nD) (t : Fin cfg0.N) : FVec Ideal S1x512 .f32 := iblk m c 2 t

theorem readY (c : Dev nD) (t : Fin cfg0.N) (r : Fin 512) (R : Fin 4096) (hR : R.val = t.val * 512 + r.val) (l : Fin 512) :
    bY m c t (ix2 r l) = aY m c (ix2 R l) := by
  blk_point [bY, iblk, V, idx t, hR]

theorem readW (c : Dev nD) (t : Fin cfg0.N) : bW m c t = aW m c := by
  funext j
  idx_vars j
  blk_point [bW, iblk, V, idx t]

theorem readB (c : Dev nD) (t : Fin cfg0.N) : bB m c t = aB m c := by
  funext j
  idx_vars j
  obtain rfl : j0 = 0 := Subsingleton.elim _ _
  blk_point [bB, iblk, V, idx t]

/-- A tile's entry in the array's own coordinates. -/
theorem tile (c : Dev nD) (t : Fin cfg0.N) (r k : Fin 512) (j : S4096x512.Idx) (hR : (j 0).val = t.val * 512 + r.val)
    (hK : (j 1).val = k.val) : k0_pay1 (F := Ideal) (bY m c t) (bW m c t) (bB m c t) (ix2 r k) = outA (aY m c) (aW m c) (aB m c) j := by
  idx_vars j
  obtain rfl : j1 = k := Fin.ext hK
  rw [out_read, readW, readB]
  show gluAt (bY m c t) (aW m c) (aB m c) r j1 = gluAt (aY m c) (aW m c) (aB m c) j0 j1
  unfold gluAt mixed
  simp only [readY m c t r j0 hR]

/-- The array at the end. -/
theorem final (c : Dev nD) : (dats m 0 c).arrAt 3 (cfgs 0).N = outA (aY m c) (aW m c) (aB m c) := by
  refine (dats m 0 c).arrAt_eq_of_covers 3 _ (by decide +kernel) fun t hf y => ?_
  blk_simp
  rw [after0_3]
  idx_vars y
  unfold out0_3
  frame_out
  exact tile m c t y0 y1 _ (by blk_simp [idx t]) (by blk_simp [idx t])

/-- The rectifier as the reference writes it: the factors in another order. -/
theorem gelu_eq (x : EReal) : x * (Ideal.ofBits FTy.f32 0x3F000000#32
    * (1 + Ideal.tanh (Ideal.ofBits FTy.f32 0x3F4C422A#32 * (x + Ideal.ofBits FTy.f32 0x3D372713#32 * (x * x * x))))) = gelu x := by
  unfold gelu
  rw [← mul_assoc, mul_comm x]

open Cert.GluReferenceIdeal.Read in
/-- The reference's array holds the same. -/
theorem reference_eq (Y : FVec Ideal S4096x512 .f32) (W : FVec Ideal S512x512 .bf16) (B : FVec Ideal S1x512 .f32) :
    val_main_v24 (F := Ideal) Y W B = outA Y W B := by
  have e : ∀ (r : Fin 4096) (l : Fin 512), val_main_v12 (F := Ideal) Y (ix2 r l) = gelu (Y (ix2 r l)) := by
    intro r l
    pointwise [val_main_v12, val_main_v11, val_main_v10, val_main_v9, val_main_v8, val_main_v7, val_main_v6, val_main_v5, val_main_v4,
      val_main_v3, val_main_v2, val_main_v1, val_main_v0, val_main_cst, val_main_cst_0, val_main_cst_1, val_main_cst_2]
    exact gelu_eq _
  funext j
  idx_vars j
  pointwise [val_main_v24, val_main_v23, val_main_v22, val_main_v21, val_main_v20, val_main_v19, val_main_v18, val_main_v17,
    val_main_v16, val_main_v15, val_main_v14, val_main_v13, val_main_cst_3, val_main_cst_4, e]
  rfl
end

/-- Equal arguments, so equal arrays. -/
theorem algebraic : Cert.algebraic_GluKernelIdeal_GluReferenceIdeal := by
  intro m g m' g' _ hagree
  refine ⟨_, Cert.GluKernelIdeal.Value.run_blocks m g, (Cert.GluReferenceIdeal.Value.run m' g').mono fun r h c => ?_⟩
  obtain ⟨e0, e1, e2⟩ := hagree c
  obtain ⟨h0, k⟩ := h c
  have h0 := h0.trans ((Cert.GluReferenceIdeal.Read.val_main_v24_eq _ _ _).trans (reference_eq _ _ _))
  rw [final]
  simp only [aY, aW, aB, e0, e1, e2] at h0 k ⊢
  exact ⟨h0, k⟩

/-- The reference returns, keeps its arguments and leaves every counter at zero. -/
theorem frame_reference : Cert.quiescent_GluReferenceIdeal := fun m g _ =>
  (Cert.GluReferenceIdeal.Value.run m g).mono fun r h => ⟨fun c => (h c).2, sem_eq_zero_of_no_sems (by decide) _⟩

end Cert.Glu
-- ==== Proof.MixClaim.lean ====
/- The three ways' results put together by their weights: the kernel and its reference leave the same arrays. -/
module

public import Idealize.ShloMosaic.Lib.Claim
public import Idealize.ShloMosaic.Lib.Pipeline.ValueKit
public import Idealize.ShloMosaic.Lib.Pipeline.ReadBack
public import proofs.«01_k».proof.Proof.Gen.MixKernelIdeal.Frame
public import proofs.«01_k».proof.Proof.Gen.MixReferenceIdeal.Run
public import proofs.«01_k».proof.Proof.Gen.MixReferenceIdeal.Read
public import Idealize.ShloMosaic.Lib.KernelVsHost
public import proofs.«01_k».proof.Defs

set_option maxRecDepth 16384

@[expose] public section

noncomputable section

open Idealize.ShloMosaic Idealize.ShloMosaic.TcCoe Idealize.SL.Sem

namespace Cert.Mix

/-- The mixed weights of three logits: the greatest, each logit's exponential below it, their sum, a weight, the mixed value. -/
def top (a b c : EReal) : EReal := max (max a b) c
def total (a b c : EReal) : EReal := Ideal.exp (a - top a b c) + Ideal.exp (b - top a b c) + Ideal.exp (c - top a b c)
def weight (a b c x : EReal) : EReal := Ideal.div (Ideal.exp (x - top a b c)) (total a b c)
def mixed (p q s a b c : EReal) : EReal := weight a b c a * p + weight a b c b * q + weight a b c c * s

section
open Cert.MixKernelIdeal Cert.MixKernelIdeal.Gen

/-- The arrays: the weight of `X` among three arrays of logits, and the mixed value. -/
def weightA {S : Shape} (A B C X : FVec Ideal S .f32) : FVec Ideal S .f32 := fun j => weight (A j) (B j) (C j) (X j)
def mixedA {S : Shape} (P Q R A B C : FVec Ideal S .f32) : FVec Ideal S .bf16 := fun j => mixed (P j) (Q j) (R j) (A j) (B j) (C j)

/-- What a point writes. -/
theorem mixed_read (A B C P Q R : FVec Ideal S512x512 .f32) (j : S512x512.Idx) : k0_pay9 (F := Ideal) A B C P Q R j = mixedA P Q R A B C j := rfl
theorem weight0_read (A B C : FVec Ideal S512x512 .f32) (j : S512x512.Idx) : k0_pay6 (F := Ideal) A B C j = weightA A B C A j := rfl
theorem weight1_read (A B C : FVec Ideal S512x512 .f32) (j : S512x512.Idx) : k0_pay7 (F := Ideal) A B C j = weightA A B C B j := rfl
theorem weight2_read (A B C : FVec Ideal S512x512 .f32) (j : S512x512.Idx) : k0_pay8 (F := Ideal) A B C j = weightA A B C C j := rfl

variable (m : (ℓ : Loc nD τ sig) → Buf (Elt Ideal) ℓ)

/-- Which block every window holds at a grid point: rows `512 t` and on. -/
theorem idx : ∀ t : Fin cfg0.N, win0_0.index t = ![t.val, 0] ∧ win0_1.index t = ![t.val, 0] ∧ win0_2.index t = ![t.val, 0]
    ∧ win0_3.index t = ![t.val, 0] ∧ win0_4.index t = ![t.val, 0] ∧ win0_5.index t = ![t.val, 0] ∧ win0_6.index t = ![t.val, 0]
    ∧ win0_7.index t = ![t.val, 0] ∧ win0_8.index t = ![t.val, 0] ∧ win0_9.index t = ![t.val, 0] :=
  (by decide +kernel : ∀ t : Fin grid0.N, _)

/-- The arrays the region finds, the three values and the three logits, and a point's blocks of them. -/
abbrev aP (c : Dev nD) : FVec Ideal S4096x512 .f32 := m ((c : Thread nD τ).loc main_arg0)
abbrev aQ (c : Dev nD) : FVec Ideal S4096x512 .f32 := m ((c : Thread nD τ).loc main_arg1)
abbrev aR (c : Dev nD) : FVec Ideal S4096x512 .f32 := m ((c : Thread nD τ).loc main_arg2)
abbrev aA (c : Dev nD) : FVec Ideal S4096x512 .f32 := m ((c : Thread nD τ).loc main_arg3)
abbrev aB (c : Dev nD) : FVec Ideal S4096x512 .f32 := m ((c : Thread nD τ).loc main_arg4)
abbrev aC (c : Dev nD) : FVec Ideal S4096x512 .f32 := m ((c : Thread nD τ).loc main_arg5)
abbrev bP (c : Dev nD) (t : Fin cfg0.N) : FVec Ideal S512x512 .f32 := iblk m c 0 t
abbrev bQ (c : Dev nD) (t : Fin cfg0.N) : FVec Ideal S512x512 .f32 := iblk m c 1 t
abbrev bR (c : Dev nD) (t : Fin cfg0.N) : FVec Ideal S512x512 .f32 := iblk m c 2 t
abbrev bA (c : Dev nD) (t : Fin cfg0.N) : FVec Ideal S512x512 .f32 := iblk m c 3 t
abbrev bB (c : Dev nD) (t : Fin cfg0.N) : FVec Ideal S512x512 .f32 := iblk m c 4 t
abbrev bC (c : Dev nD) (t : Fin cfg0.N) : FVec Ideal S512x512 .f32 := iblk m c 5 t

/-- An entry of a block in the array's own coordinates. -/
theorem read_at (c : Dev nD) (t : Fin cfg0.N) (r k : Fin 512) (R : Fin 4096) (hR : R.val = t.val * 512 + r.val) :
    bP m c t (ix2 r k) = aP m c (ix2 R k) ∧ bQ m c t (ix2 r k) = aQ m c (ix2 R k) ∧ bR m c t (ix2 r k) = aR m c (ix2 R k)
      ∧ bA m c t (ix2 r k) = aA m c (ix2 R k) ∧ bB m c t (ix2 r k) = aB m c (ix2 R k) ∧ bC m c t (ix2 r k) = aC m c (ix2 R k) := by
  refine ⟨?_, ?_, ?_, ?_, ?_, ?_⟩
  · blk_point [bP, iblk, V, idx t, hR]
  · blk_point [bQ, iblk, V, idx t, hR]
  · blk_point [bR, iblk, V, idx t, hR]
  · blk_point [bA, iblk, V, idx t, hR]
  · blk_point [bB, iblk, V, idx t, hR]
  · blk_point [bC, iblk, V, idx t, hR]

/-- A tile's entries of the four results. -/
theorem tile (c : Dev nD) (t : Fin cfg0.N) (r k : Fin 512) (j : S4096x512.Idx) (hR : (j 0).val = t.val * 512 + r.val)
    (hK : (j 1).val = k.val) :
    k0_pay9 (F := Ideal) (bA m c t) (bB m c t) (bC m c t) (bP m c t) (bQ m c t) (bR m c t) (ix2 r k)
        = mixedA (aP m c) (aQ m c) (aR m c) (aA m c) (aB m c) (aC m c) j
      ∧ k0_pay6 (F := Ideal) (bA m c t) (bB m c t) (bC m c t) (ix2 r k) = weightA (aA m c) (aB m c) (aC m c) (aA m c) j
      ∧ k0_pay7 (F := Ideal) (bA m c t) (bB m c t) (bC m c t) (ix2 r k) = weightA (aA m c) (aB m c) (aC m c) (aB m c) j
      ∧ k0_pay8 (F := Ideal) (bA m c t) (bB m c t) (bC m c t) (ix2 r k) = weightA (aA m c) (aB m c) (aC m c) (aC m c) j := by
  idx_vars j
  obtain rfl : j1 = k := Fin.ext hK
  obtain ⟨e0, e1, e2, e3, e4, e5⟩ := read_at m c t r j1 j0 hR
  rw [mixed_read, weight0_read, weight1_read, weight2_read]
  simp only [mixedA, weightA, e0, e1, e2, e3, e4, e5, and_self]

/-- The arrays at the end. -/
theorem final6 (c : Dev nD) :
    (dats m 0 c).arrAt 6 (cfgs 0).N = mixedA (aP m c) (aQ m c) (aR m c) (aA m c) (aB m c) (aC m c) := by
  refine (dats m 0 c).arrAt_eq_of_covers 6 _ (by decide +kernel) fun t hf y => ?_
  blk_simp
  rw [after0_6]
  idx_vars y
  unfold out0_6
  frame_out
  exact (tile m c t y0 y1 _ (by blk_simp [idx t]) (by blk_simp [idx t])).1

theorem final7 (c : Dev nD) : (dats m 0 c).arrAt 7 (cfgs 0).N = weightA (aA m c) (aB m c) (aC m c) (aA m c) := by
  refine (dats m 0 c).arrAt_eq_of_covers 7 _ (by decide +kernel) fun t hf y => ?_
  blk_simp
  rw [after0_7]
  idx_vars y
  unfold out0_7
  frame_out
  exact (tile m c t y0 y1 _ (by blk_simp [idx t]) (by blk_simp [idx t])).2.1

theorem final8 (c : Dev nD) : (dats m 0 c).arrAt 8 (cfgs 0).N = weightA (aA m c) (aB m c) (aC m c) (aB m c) := by
  refine (dats m 0 c).arrAt_eq_of_covers 8 _ (by decide +kernel) fun t hf y => ?_
  blk_simp
  rw [after0_8]
  idx_vars y
  unfold out0_8
  frame_out
  exact (tile m c t y0 y1 _ (by blk_simp [idx t]) (by blk_simp [idx t])).2.2.1

theorem final9 (c : Dev nD) : (dats m 0 c).arrAt 9 (cfgs 0).N = weightA (aA m c) (aB m c) (aC m c) (aC m c) := by
  refine (dats m 0 c).arrAt_eq_of_covers 9 _ (by decide +kernel) fun t hf y => ?_
  blk_simp
  rw [after0_9]
  idx_vars y
  unfold out0_9
  frame_out
  exact (tile m c t y0 y1 _ (by blk_simp [idx t]) (by blk_simp [idx t])).2.2.2

/-- The kernel leaves the formulas and keeps its arguments. -/
theorem kernel_run (g : Dev nD → PrngReg) :
    θ_run (Cert.MixKernelIdeal.defs (F := Ideal)) (onTc (τ := τ) (Cert.MixKernelIdeal.main (F := Ideal))) ⟨m, fun _ => 0, g⟩ fun r =>
      ∀ c : Dev nD,
        r.2.mem ((c.tc : Thread nD τ).loc main_v0_0) = mixedA (aP m c) (aQ m c) (aR m c) (aA m c) (aB m c) (aC m c)
        ∧ r.2.mem ((c.tc : Thread nD τ).loc main_v0_1) = weightA (aA m c) (aB m c) (aC m c) (aA m c)
        ∧ r.2.mem ((c.tc : Thread nD τ).loc main_v0_2) = weightA (aA m c) (aB m c) (aC m c) (aB m c)
        ∧ r.2.mem ((c.tc : Thread nD τ).loc main_v0_3) = weightA (aA m c) (aB m c) (aC m c) (aC m c)
        ∧ r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3)
        ∧ r.2.mem ((c.tc : Thread nD τ).loc main_arg4) = m ((c.tc : Thread nD τ).loc main_arg4)
        ∧ r.2.mem ((c.tc : Thread nD τ).loc main_arg5) = m ((c.tc : Thread nD τ).loc main_arg5) := by
  refine (run_main m g).mono fun r h c => ?_
  refine ⟨((h c).1 6).trans (final6 m c), ((h c).1 7).trans (final7 m c), ((h c).1 8).trans (final8 m c),
    ((h c).1 9).trans (final9 m c), ?_, ?_, ?_, ?_, ?_, ?_⟩
  · exact ((h c).1 0).trans (((dats m 0 c).arrAt_in 0 rfl _).trans ((A_eq m c 0).trans (V_main_arg0 m c)))
  · exact ((h c).1 1).trans (((dats m 0 c).arrAt_in 1 rfl _).trans ((A_eq m c 1).trans (V_main_arg1 m c)))
  · exact ((h c).1 2).trans (((dats m 0 c).arrAt_in 2 rfl _).trans ((A_eq m c 2).trans (V_main_arg2 m c)))
  · exact ((h c).1 3).trans (((dats m 0 c).arrAt_in 3 rfl _).trans ((A_eq m c 3).trans (V_main_arg3 m c)))
  · exact ((h c).1 4).trans (((dats m 0 c).arrAt_in 4 rfl _).trans ((A_eq m c 4).trans (V_main_arg4 m c)))
  · exact ((h c).1 5).trans (((dats m 0 c).arrAt_in 5 rfl _).trans ((A_eq m c 5).trans (V_main_arg5 m c)))
end

/-- The greatest of three entries from below all: the reference's running greatest. -/
theorem top_of_three (f : Fin 3 → EReal) :
    max (Ideal.ofBits FTy.f32 0xFF800000#32) ((Finset.univ : Finset (Fin 3)).fold max (Ideal.ofBits FTy.f32 0xFF800000#32) f)
      = top (f 0) (f 1) (f 2) := by
  have e : Ideal.ofBits FTy.f32 0xFF800000#32 = ⊥ := by simp [Ideal.ofBits, Ideal.ieee]
  rw [e, show (Finset.univ : Finset (Fin 3)) = {0, 1, 2} from rfl, Finset.fold_insert (by decide), Finset.fold_insert (by decide),
    Finset.fold_singleton, max_eq_right bot_le, max_eq_left (bot_le : ⊥ ≤ f 2), ← max_assoc]
  rfl

section
open Cert.MixReferenceIdeal Cert.MixReferenceIdeal.Gen Cert.MixReferenceIdeal.Read

/-- The reference stacks the three logits, and the three values. -/
theorem logits (A B C : FVec Ideal S4096x512 .f32) (s : Fin 3) (r : Fin 4096) (k : Fin 512) :
    val_main_v3 (F := Ideal) A B C (ix3 s r k) = ![A (ix2 r k), B (ix2 r k), C (ix2 r k)] s := by
  pointwise [val_main_v3, val_main_v2, val_main_v1, val_main_v0]
  fin_cases s <;> simp

theorem values (A B C : FVec Ideal S4096x512 .f32) (s : Fin 3) (r : Fin 4096) (k : Fin 512) :
    val_main_v18 (F := Ideal) A B C (ix3 s r k) = ![A (ix2 r k), B (ix2 r k), C (ix2 r k)] s := by
  pointwise [val_main_v18, val_main_v17, val_main_v16, val_main_v15]
  fin_cases s <;> simp

/-- The greatest entries of a stack, by a running greatest over its first axis. -/
theorem reduced_stack (y : FVec Ideal S3x4096x512 .f32) (r : Fin 4096) (k : Fin 512) :
    Host.reduce FloatOps.maximumf y (constant S_ .f32 0xFF800000#32) reducesTo_S3x4096x512_S4096x512_d0 h_S_ (ix2 r k)
      = (Finset.univ : Finset (Fin 3)).fold max (Ideal.ofBits FTy.f32 0xFF800000#32) fun s => y (ix3 s r k) := by
  have hr : S3x4096x512.Reduces [0] S4096x512 := by decide
  refine (congrFun (hostReduce_maximumf_eq_multiReduction y 0xFF800000#32 reducesTo_S3x4096x512_S4096x512_d0 h_S_ hr (Or.inl rfl) rfl)
    (ix2 r k)).trans ?_
  refine (Ideal.multiReduction_maximumf_single y _ hr (Or.inl rfl) rfl (ix2 r k)).trans ?_
  refine Finset.fold_congr fun s _ => congrArg y (funext fun a => Fin.ext ?_)
  match a with
  | ⟨0, _⟩ => rfl
  | ⟨1, _⟩ => rfl
  | ⟨2, _⟩ => rfl

/-- Its greatest logit, its exponentials and its weights. -/
theorem reduced (A B C : FVec Ideal S4096x512 .f32) (r : Fin 4096) (k : Fin 512) :
    val_main_v4 (F := Ideal) A B C (ix2 r k) = (Finset.univ : Finset (Fin 3)).fold max (Ideal.ofBits FTy.f32 0xFF800000#32)
      fun s => val_main_v3 (F := Ideal) A B C (ix3 s r k) := by
  unfold val_main_v4
  generalize val_main_v3 (F := Ideal) A B C = y
  exact reduced_stack y r k

theorem greatest (A B C : FVec Ideal S4096x512 .f32) (r : Fin 4096) (k : Fin 512) :
    val_main_v6 (F := Ideal) A B C (ix2 r k) = top (A (ix2 r k)) (B (ix2 r k)) (C (ix2 r k)) := by
  rw [val_main_v6_apply, val_main_v5_apply, reduced]
  refine (top_of_three _).trans ?_
  rw [logits, logits, logits]
  rfl

theorem exponential (A B C : FVec Ideal S4096x512 .f32) (s : Fin 3) (r : Fin 4096) (k : Fin 512) :
    val_main_v10 (F := Ideal) A B C (ix3 s r k)
      = Ideal.exp (![A (ix2 r k), B (ix2 r k), C (ix2 r k)] s - top (A (ix2 r k)) (B (ix2 r k)) (C (ix2 r k))) := by
  pointwise [val_main_v10, val_main_v9, val_main_v8, val_main_v7, logits, greatest]

theorem weights (A B C : FVec Ideal S4096x512 .f32) (s : Fin 3) (r : Fin 4096) (k : Fin 512) :
    val_main_v14 (F := Ideal) A B C (ix3 s r k)
      = weight (A (ix2 r k)) (B (ix2 r k)) (C (ix2 r k)) (![A (ix2 r k), B (ix2 r k), C (ix2 r k)] s) := by
  pointwise [val_main_v14, val_main_v13, val_main_v12, val_main_v11, val_main_cst_1, exponential]
  simp only [Fin.sum_univ_three, zero_add]
  rfl

/-- The reference's arrays hold the same. -/
theorem reference_mixed (P Q R A B C : FVec Ideal S4096x512 .f32) :
    val_main_v21 (F := Ideal) P Q R A B C = mixedA P Q R A B C := by
  funext j
  idx_vars j
  pointwise [val_main_v21, val_main_v20, val_main_v19, val_main_cst_2, weights, values]
  simp only [Fin.sum_univ_three, zero_add]
  rfl

theorem reference_weight0 (A B C : FVec Ideal S4096x512 .f32) : val_main_v23 (F := Ideal) A B C = weightA A B C A := by
  funext j
  idx_vars j
  pointwise [val_main_v23, val_main_v22, weights]
  rfl

theorem reference_weight1 (A B C : FVec Ideal S4096x512 .f32) : val_main_v25 (F := Ideal) A B C = weightA A B C B := by
  funext j
  idx_vars j
  pointwise [val_main_v25, val_main_v24, weights]
  rfl

theorem reference_weight2 (A B C : FVec Ideal S4096x512 .f32) : val_main_v27 (F := Ideal) A B C = weightA A B C C := by
  funext j
  idx_vars j
  pointwise [val_main_v27, val_main_v26, weights]
  rfl
end

/-- Equal arguments, so equal arrays. -/
theorem algebraic : Cert.algebraic_MixKernelIdeal_MixReferenceIdeal := by
  intro m g m' g' _ hagree
  refine ⟨_, _, _, _, kernel_run m g, (Cert.MixReferenceIdeal.Value.run m' g').mono fun r h c => ?_⟩
  obtain ⟨e0, e1, e2, e3, e4, e5⟩ := hagree c
  obtain ⟨h0, h1, h2, h3, k⟩ := h c
  have h0 := h0.trans ((Cert.MixReferenceIdeal.Read.val_main_v21_eq m' c).trans (reference_mixed _ _ _ _ _ _))
  have h1 := h1.trans ((Cert.MixReferenceIdeal.Read.val_main_v23_eq _ _ _).trans (reference_weight0 _ _ _))
  have h2 := h2.trans ((Cert.MixReferenceIdeal.Read.val_main_v25_eq _ _ _).trans (reference_weight1 _ _ _))
  have h3 := h3.trans ((Cert.MixReferenceIdeal.Read.val_main_v27_eq _ _ _).trans (reference_weight2 _ _ _))
  simp only [aP, aQ, aR, aA, aB, aC, e0, e1, e2, e3, e4, e5] at h0 h1 h2 h3 k ⊢
  exact ⟨h0, h1, h2, h3, k⟩

/-- The reference returns, keeps its arguments and leaves every counter at zero. -/
theorem frame_reference : Cert.quiescent_MixReferenceIdeal := fun m g _ =>
  (Cert.MixReferenceIdeal.Value.run m g).mono fun r h => ⟨fun c => (h c).2.2.2.2, sem_eq_zero_of_no_sems (by decide) _⟩

end Cert.Mix
-- ==== Proof.lean ====
/- Every claim of the certificate, from the modules that prove it: for each call its two frames, its reference's frame, the
   idealization without rewrites, and the equation. -/
module

public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Run
public import proofs.«01_k».proof.Proof.Gen.ReferenceIdeal.Read
public import proofs.«01_k».proof.Proof.MergeClaim
public import proofs.«01_k».proof.Proof.Gen.ActKernel
public import proofs.«01_k».proof.Proof.Gen.ActKernel.Skeleton
public import proofs.«01_k».proof.Proof.Gen.ActKernel.Launch
public import proofs.«01_k».proof.Proof.Gen.ActKernel.Points
public import proofs.«01_k».proof.Proof.Gen.ActKernel.Frame
public import proofs.«01_k».proof.Proof.Gen.ActKernelIdeal
public import proofs.«01_k».proof.Proof.Gen.ActKernelIdeal.Skeleton
public import proofs.«01_k».proof.Proof.Gen.ActKernelIdeal.Launch
public import proofs.«01_k».proof.Proof.Gen.ActKernelIdeal.Points
public import proofs.«01_k».proof.Proof.Gen.ActKernelIdeal.Frame
public import proofs.«01_k».proof.Proof.Gen.ActKernelIdeal.Value
public import proofs.«01_k».proof.Proof.Gen.ActReferenceIdeal
public import proofs.«01_k».proof.Proof.Gen.ActReferenceIdeal.Run
public import proofs.«01_k».proof.Proof.Gen.ActReferenceIdeal.Read
public import proofs.«01_k».proof.Proof.ActClaim
public import proofs.«01_k».proof.Proof.Gen.Ff2Kernel
public import proofs.«01_k».proof.Proof.Gen.Ff2Kernel.Skeleton
public import proofs.«01_k».proof.Proof.Gen.Ff2Kernel.Launch
public import proofs.«01_k».proof.Proof.Gen.Ff2Kernel.Points
public import proofs.«01_k».proof.Proof.Gen.Ff2Kernel.Frame
public import proofs.«01_k».proof.Proof.Gen.Ff2KernelIdeal
public import proofs.«01_k».proof.Proof.Gen.Ff2KernelIdeal.Skeleton
public import proofs.«01_k».proof.Proof.Gen.Ff2KernelIdeal.Launch
public import proofs.«01_k».proof.Proof.Gen.Ff2KernelIdeal.Points
public import proofs.«01_k».proof.Proof.Gen.Ff2KernelIdeal.Frame
public import proofs.«01_k».proof.Proof.Gen.Ff2KernelIdeal.Value
public import proofs.«01_k».proof.Proof.Gen.Ff2ReferenceIdeal
public import proofs.«01_k».proof.Proof.Gen.Ff2ReferenceIdeal.Run
public import proofs.«01_k».proof.Proof.Gen.Ff2ReferenceIdeal.Read
public import proofs.«01_k».proof.Proof.Ff2Claim
public import proofs.«01_k».proof.Proof.Gen.Ff1Kernel
public import proofs.«01_k».proof.Proof.Gen.Ff1Kernel.Skeleton
public import proofs.«01_k».proof.Proof.Gen.Ff1Kernel.Launch
public import proofs.«01_k».proof.Proof.Gen.Ff1Kernel.Points
public import proofs.«01_k».proof.Proof.Gen.Ff1Kernel.Frame
public import proofs.«01_k».proof.Proof.Gen.Ff1KernelIdeal
public import proofs.«01_k».proof.Proof.Gen.Ff1KernelIdeal.Skeleton
public import proofs.«01_k».proof.Proof.Gen.Ff1KernelIdeal.Launch
public import proofs.«01_k».proof.Proof.Gen.Ff1KernelIdeal.Points
public import proofs.«01_k».proof.Proof.Gen.Ff1KernelIdeal.Frame
public import proofs.«01_k».proof.Proof.Gen.Ff1KernelIdeal.Value
public import proofs.«01_k».proof.Proof.Gen.Ff1ReferenceIdeal
public import proofs.«01_k».proof.Proof.Gen.Ff1ReferenceIdeal.Run
public import proofs.«01_k».proof.Proof.Gen.Ff1ReferenceIdeal.Read
public import proofs.«01_k».proof.Proof.Ff1Claim
public import proofs.«01_k».proof.Proof.Gen.WinKernel
public import proofs.«01_k».proof.Proof.Gen.WinKernel.Skeleton
public import proofs.«01_k».proof.Proof.Gen.WinKernel.Launch
public import proofs.«01_k».proof.Proof.Gen.WinKernel.Points
public import proofs.«01_k».proof.Proof.Gen.WinKernel.Frame
public import proofs.«01_k».proof.Proof.Gen.WinKernelIdeal
public import proofs.«01_k».proof.Proof.Gen.WinKernelIdeal.Skeleton
public import proofs.«01_k».proof.Proof.Gen.WinKernelIdeal.Launch
public import proofs.«01_k».proof.Proof.Gen.WinKernelIdeal.Points
public import proofs.«01_k».proof.Proof.Gen.WinKernelIdeal.Frame
public import proofs.«01_k».proof.Proof.Gen.WinKernelIdeal.Value
public import proofs.«01_k».proof.Proof.Gen.WinReferenceIdeal
public import proofs.«01_k».proof.Proof.Gen.WinReferenceIdeal.Run
public import proofs.«01_k».proof.Proof.Gen.WinReferenceIdeal.Read
public import proofs.«01_k».proof.Proof.WinClaim
public import proofs.«01_k».proof.Proof.Gen.Dh1Kernel
public import proofs.«01_k».proof.Proof.Gen.Dh1Kernel.Skeleton
public import proofs.«01_k».proof.Proof.Gen.Dh1Kernel.Launch
public import proofs.«01_k».proof.Proof.Gen.Dh1Kernel.Points
public import proofs.«01_k».proof.Proof.Gen.Dh1Kernel.Frame
public import proofs.«01_k».proof.Proof.Gen.Dh1KernelIdeal
public import proofs.«01_k».proof.Proof.Gen.Dh1KernelIdeal.Skeleton
public import proofs.«01_k».proof.Proof.Gen.Dh1KernelIdeal.Launch
public import proofs.«01_k».proof.Proof.Gen.Dh1KernelIdeal.Points
public import proofs.«01_k».proof.Proof.Gen.Dh1KernelIdeal.Frame
public import proofs.«01_k».proof.Proof.Gen.Dh1KernelIdeal.Value
public import proofs.«01_k».proof.Proof.Gen.Dh1ReferenceIdeal
public import proofs.«01_k».proof.Proof.Gen.Dh1ReferenceIdeal.Run
public import proofs.«01_k».proof.Proof.Gen.Dh1ReferenceIdeal.Read
public import proofs.«01_k».proof.Proof.Dh1Claim
public import proofs.«01_k».proof.Proof.Gen.Dh3Kernel
public import proofs.«01_k».proof.Proof.Gen.Dh3Kernel.Skeleton
public import proofs.«01_k».proof.Proof.Gen.Dh3Kernel.Launch
public import proofs.«01_k».proof.Proof.Gen.Dh3Kernel.Points
public import proofs.«01_k».proof.Proof.Gen.Dh3Kernel.Frame
public import proofs.«01_k».proof.Proof.Gen.Dh3KernelIdeal
public import proofs.«01_k».proof.Proof.Gen.Dh3KernelIdeal.Skeleton
public import proofs.«01_k».proof.Proof.Gen.Dh3KernelIdeal.Launch
public import proofs.«01_k».proof.Proof.Gen.Dh3KernelIdeal.Points
public import proofs.«01_k».proof.Proof.Gen.Dh3KernelIdeal.Frame
public import proofs.«01_k».proof.Proof.Gen.Dh3KernelIdeal.Value
public import proofs.«01_k».proof.Proof.Gen.Dh3ReferenceIdeal
public import proofs.«01_k».proof.Proof.Gen.Dh3ReferenceIdeal.Run
public import proofs.«01_k».proof.Proof.Gen.Dh3ReferenceIdeal.Read
public import proofs.«01_k».proof.Proof.Dh3Claim
public import proofs.«01_k».proof.Proof.Gen.RmsKernel
public import proofs.«01_k».proof.Proof.Gen.RmsKernel.Skeleton
public import proofs.«01_k».proof.Proof.Gen.RmsKernel.Launch
public import proofs.«01_k».proof.Proof.Gen.RmsKernel.Points
public import proofs.«01_k».proof.Proof.Gen.RmsKernel.Frame
public import proofs.«01_k».proof.Proof.Gen.RmsKernelIdeal
public import proofs.«01_k».proof.Proof.Gen.RmsKernelIdeal.Skeleton
public import proofs.«01_k».proof.Proof.Gen.RmsKernelIdeal.Launch
public import proofs.«01_k».proof.Proof.Gen.RmsKernelIdeal.Points
public import proofs.«01_k».proof.Proof.Gen.RmsKernelIdeal.Frame
public import proofs.«01_k».proof.Proof.Gen.RmsKernelIdeal.Value
public import proofs.«01_k».proof.Proof.Gen.RmsReferenceIdeal
public import proofs.«01_k».proof.Proof.Gen.RmsReferenceIdeal.Run
public import proofs.«01_k».proof.Proof.Gen.RmsReferenceIdeal.Read
public import proofs.«01_k».proof.Proof.RmsClaim
public import proofs.«01_k».proof.Proof.Gen.PjKernel
public import proofs.«01_k».proof.Proof.Gen.PjKernel.Skeleton
public import proofs.«01_k».proof.Proof.Gen.PjKernel.Launch
public import proofs.«01_k».proof.Proof.Gen.PjKernel.Points
public import proofs.«01_k».proof.Proof.Gen.PjKernel.Frame
public import proofs.«01_k».proof.Proof.Gen.PjKernelIdeal
public import proofs.«01_k».proof.Proof.Gen.PjKernelIdeal.Skeleton
public import proofs.«01_k».proof.Proof.Gen.PjKernelIdeal.Launch
public import proofs.«01_k».proof.Proof.Gen.PjKernelIdeal.Points
public import proofs.«01_k».proof.Proof.Gen.PjKernelIdeal.Frame
public import proofs.«01_k».proof.Proof.Gen.PjKernelIdeal.Value
public import proofs.«01_k».proof.Proof.Gen.PjReferenceIdeal
public import proofs.«01_k».proof.Proof.Gen.PjReferenceIdeal.Run
public import proofs.«01_k».proof.Proof.Gen.PjReferenceIdeal.Read
public import proofs.«01_k».proof.Proof.PjClaim
public import proofs.«01_k».proof.Proof.Gen.UpKernel
public import proofs.«01_k».proof.Proof.Gen.UpKernel.Skeleton
public import proofs.«01_k».proof.Proof.Gen.UpKernel.Launch
public import proofs.«01_k».proof.Proof.Gen.UpKernel.Points
public import proofs.«01_k».proof.Proof.Gen.UpKernel.Frame
public import proofs.«01_k».proof.Proof.Gen.UpKernelIdeal
public import proofs.«01_k».proof.Proof.Gen.UpKernelIdeal.Skeleton
public import proofs.«01_k».proof.Proof.Gen.UpKernelIdeal.Launch
public import proofs.«01_k».proof.Proof.Gen.UpKernelIdeal.Points
public import proofs.«01_k».proof.Proof.Gen.UpKernelIdeal.Frame
public import proofs.«01_k».proof.Proof.Gen.UpKernelIdeal.Value
public import proofs.«01_k».proof.Proof.Gen.UpReferenceIdeal
public import proofs.«01_k».proof.Proof.Gen.UpReferenceIdeal.Run
public import proofs.«01_k».proof.Proof.Gen.UpReferenceIdeal.Read
public import proofs.«01_k».proof.Proof.UpClaim
public import proofs.«01_k».proof.Proof.Gen.DnKernel
public import proofs.«01_k».proof.Proof.Gen.DnKernel.Skeleton
public import proofs.«01_k».proof.Proof.Gen.DnKernel.Launch
public import proofs.«01_k».proof.Proof.Gen.DnKernel.Points
public import proofs.«01_k».proof.Proof.Gen.DnKernel.Frame
public import proofs.«01_k».proof.Proof.Gen.DnKernelIdeal
public import proofs.«01_k».proof.Proof.Gen.DnKernelIdeal.Skeleton
public import proofs.«01_k».proof.Proof.Gen.DnKernelIdeal.Launch
public import proofs.«01_k».proof.Proof.Gen.DnKernelIdeal.Points
public import proofs.«01_k».proof.Proof.Gen.DnKernelIdeal.Frame
public import proofs.«01_k».proof.Proof.Gen.DnKernelIdeal.Value
public import proofs.«01_k».proof.Proof.Gen.DnReferenceIdeal
public import proofs.«01_k».proof.Proof.Gen.DnReferenceIdeal.Run
public import proofs.«01_k».proof.Proof.Gen.DnReferenceIdeal.Read
public import proofs.«01_k».proof.Proof.DnClaim
public import proofs.«01_k».proof.Proof.Gen.MfKernel
public import proofs.«01_k».proof.Proof.Gen.MfKernel.Skeleton
public import proofs.«01_k».proof.Proof.Gen.MfKernel.Launch
public import proofs.«01_k».proof.Proof.Gen.MfKernel.Points
public import proofs.«01_k».proof.Proof.Gen.MfKernel.Frame
public import proofs.«01_k».proof.Proof.Gen.MfKernelIdeal
public import proofs.«01_k».proof.Proof.Gen.MfKernelIdeal.Skeleton
public import proofs.«01_k».proof.Proof.Gen.MfKernelIdeal.Launch
public import proofs.«01_k».proof.Proof.Gen.MfKernelIdeal.Points
public import proofs.«01_k».proof.Proof.Gen.MfKernelIdeal.Frame
public import proofs.«01_k».proof.Proof.Gen.MfKernelIdeal.Value
public import proofs.«01_k».proof.Proof.Gen.MfReferenceIdeal
public import proofs.«01_k».proof.Proof.Gen.MfReferenceIdeal.Run
public import proofs.«01_k».proof.Proof.Gen.MfReferenceIdeal.Read
public import proofs.«01_k».proof.Proof.MfClaim
public import proofs.«01_k».proof.Proof.Gen.WoKernel
public import proofs.«01_k».proof.Proof.Gen.WoKernel.Skeleton
public import proofs.«01_k».proof.Proof.Gen.WoKernel.Launch
public import proofs.«01_k».proof.Proof.Gen.WoKernel.Points
public import proofs.«01_k».proof.Proof.Gen.WoKernel.Frame
public import proofs.«01_k».proof.Proof.Gen.WoKernelIdeal
public import proofs.«01_k».proof.Proof.Gen.WoKernelIdeal.Skeleton
public import proofs.«01_k».proof.Proof.Gen.WoKernelIdeal.Launch
public import proofs.«01_k».proof.Proof.Gen.WoKernelIdeal.Points
public import proofs.«01_k».proof.Proof.Gen.WoKernelIdeal.Frame
public import proofs.«01_k».proof.Proof.Gen.WoKernelIdeal.Value
public import proofs.«01_k».proof.Proof.Gen.WoReferenceIdeal
public import proofs.«01_k».proof.Proof.Gen.WoReferenceIdeal.Run
public import proofs.«01_k».proof.Proof.Gen.WoReferenceIdeal.Read
public import proofs.«01_k».proof.Proof.WoClaim
public import proofs.«01_k».proof.Proof.Gen.CoKernel
public import proofs.«01_k».proof.Proof.Gen.CoKernel.Skeleton
public import proofs.«01_k».proof.Proof.Gen.CoKernel.Launch
public import proofs.«01_k».proof.Proof.Gen.CoKernel.Points
public import proofs.«01_k».proof.Proof.Gen.CoKernel.Frame
public import proofs.«01_k».proof.Proof.Gen.CoKernelIdeal
public import proofs.«01_k».proof.Proof.Gen.CoKernelIdeal.Skeleton
public import proofs.«01_k».proof.Proof.Gen.CoKernelIdeal.Launch
public import proofs.«01_k».proof.Proof.Gen.CoKernelIdeal.Points
public import proofs.«01_k».proof.Proof.Gen.CoKernelIdeal.Frame
public import proofs.«01_k».proof.Proof.Gen.CoKernelIdeal.Value
public import proofs.«01_k».proof.Proof.Gen.CoReferenceIdeal
public import proofs.«01_k».proof.Proof.Gen.CoReferenceIdeal.Run
public import proofs.«01_k».proof.Proof.Gen.CoReferenceIdeal.Read
public import proofs.«01_k».proof.Proof.CoClaim
public import proofs.«01_k».proof.Proof.Gen.CqKernel
public import proofs.«01_k».proof.Proof.Gen.CqKernel.Skeleton
public import proofs.«01_k».proof.Proof.Gen.CqKernel.Launch
public import proofs.«01_k».proof.Proof.Gen.CqKernel.Points
public import proofs.«01_k».proof.Proof.Gen.CqKernel.Frame
public import proofs.«01_k».proof.Proof.Gen.CqKernelIdeal
public import proofs.«01_k».proof.Proof.Gen.CqKernelIdeal.Skeleton
public import proofs.«01_k».proof.Proof.Gen.CqKernelIdeal.Launch
public import proofs.«01_k».proof.Proof.Gen.CqKernelIdeal.Points
public import proofs.«01_k».proof.Proof.Gen.CqKernelIdeal.Frame
public import proofs.«01_k».proof.Proof.Gen.CqKernelIdeal.Value
public import proofs.«01_k».proof.Proof.Gen.CqReferenceIdeal
public import proofs.«01_k».proof.Proof.Gen.CqReferenceIdeal.Run
public import proofs.«01_k».proof.Proof.Gen.CqReferenceIdeal.Read
public import proofs.«01_k».proof.Proof.CqClaim
public import proofs.«01_k».proof.Proof.Gen.DmKernel
public import proofs.«01_k».proof.Proof.Gen.DmKernel.Skeleton
public import proofs.«01_k».proof.Proof.Gen.DmKernel.Launch
public import proofs.«01_k».proof.Proof.Gen.DmKernel.Points
public import proofs.«01_k».proof.Proof.Gen.DmKernel.Frame
public import proofs.«01_k».proof.Proof.Gen.DmKernelIdeal
public import proofs.«01_k».proof.Proof.Gen.DmKernelIdeal.Skeleton
public import proofs.«01_k».proof.Proof.Gen.DmKernelIdeal.Launch
public import proofs.«01_k».proof.Proof.Gen.DmKernelIdeal.Points
public import proofs.«01_k».proof.Proof.Gen.DmKernelIdeal.Frame
public import proofs.«01_k».proof.Proof.Gen.DmKernelIdeal.Value
public import proofs.«01_k».proof.Proof.Gen.DmReferenceIdeal
public import proofs.«01_k».proof.Proof.Gen.DmReferenceIdeal.Run
public import proofs.«01_k».proof.Proof.Gen.DmReferenceIdeal.Read
public import proofs.«01_k».proof.Proof.DmClaim
public import proofs.«01_k».proof.Proof.Gen.DbKernel
public import proofs.«01_k».proof.Proof.Gen.DbKernel.Skeleton
public import proofs.«01_k».proof.Proof.Gen.DbKernel.Launch
public import proofs.«01_k».proof.Proof.Gen.DbKernel.Points
public import proofs.«01_k».proof.Proof.Gen.DbKernel.Frame
public import proofs.«01_k».proof.Proof.Gen.DbKernelIdeal
public import proofs.«01_k».proof.Proof.Gen.DbKernelIdeal.Skeleton
public import proofs.«01_k».proof.Proof.Gen.DbKernelIdeal.Launch
public import proofs.«01_k».proof.Proof.Gen.DbKernelIdeal.Points
public import proofs.«01_k».proof.Proof.Gen.DbKernelIdeal.Frame
public import proofs.«01_k».proof.Proof.Gen.DbKernelIdeal.Value
public import proofs.«01_k».proof.Proof.Gen.DbReferenceIdeal
public import proofs.«01_k».proof.Proof.Gen.DbReferenceIdeal.Run
public import proofs.«01_k».proof.Proof.Gen.DbReferenceIdeal.Read
public import proofs.«01_k».proof.Proof.DbClaim
public import proofs.«01_k».proof.Proof.Gen.DxKernel
public import proofs.«01_k».proof.Proof.Gen.DxKernel.Skeleton
public import proofs.«01_k».proof.Proof.Gen.DxKernel.Launch
public import proofs.«01_k».proof.Proof.Gen.DxKernel.Points
public import proofs.«01_k».proof.Proof.Gen.DxKernel.Frame
public import proofs.«01_k».proof.Proof.Gen.DxKernelIdeal
public import proofs.«01_k».proof.Proof.Gen.DxKernelIdeal.Skeleton
public import proofs.«01_k».proof.Proof.Gen.DxKernelIdeal.Launch
public import proofs.«01_k».proof.Proof.Gen.DxKernelIdeal.Points
public import proofs.«01_k».proof.Proof.Gen.DxKernelIdeal.Frame
public import proofs.«01_k».proof.Proof.Gen.DxKernelIdeal.Value
public import proofs.«01_k».proof.Proof.Gen.DxReferenceIdeal
public import proofs.«01_k».proof.Proof.Gen.DxReferenceIdeal.Run
public import proofs.«01_k».proof.Proof.Gen.DxReferenceIdeal.Read
public import proofs.«01_k».proof.Proof.DxClaim
public import proofs.«01_k».proof.Proof.Gen.WuKernel
public import proofs.«01_k».proof.Proof.Gen.WuKernel.Skeleton
public import proofs.«01_k».proof.Proof.Gen.WuKernel.Launch
public import proofs.«01_k».proof.Proof.Gen.WuKernel.Points
public import proofs.«01_k».proof.Proof.Gen.WuKernel.Frame
public import proofs.«01_k».proof.Proof.Gen.WuKernelIdeal
public import proofs.«01_k».proof.Proof.Gen.WuKernelIdeal.Skeleton
public import proofs.«01_k».proof.Proof.Gen.WuKernelIdeal.Launch
public import proofs.«01_k».proof.Proof.Gen.WuKernelIdeal.Points
public import proofs.«01_k».proof.Proof.Gen.WuKernelIdeal.Frame
public import proofs.«01_k».proof.Proof.Gen.WuKernelIdeal.Value
public import proofs.«01_k».proof.Proof.Gen.WuReferenceIdeal
public import proofs.«01_k».proof.Proof.Gen.WuReferenceIdeal.Run
public import proofs.«01_k».proof.Proof.Gen.WuReferenceIdeal.Read
public import proofs.«01_k».proof.Proof.WuClaim
public import proofs.«01_k».proof.Proof.Gen.DwoKernel
public import proofs.«01_k».proof.Proof.Gen.DwoKernel.Skeleton
public import proofs.«01_k».proof.Proof.Gen.DwoKernel.Launch
public import proofs.«01_k».proof.Proof.Gen.DwoKernel.Points
public import proofs.«01_k».proof.Proof.Gen.DwoKernel.Frame
public import proofs.«01_k».proof.Proof.Gen.DwoKernelIdeal
public import proofs.«01_k».proof.Proof.Gen.DwoKernelIdeal.Skeleton
public import proofs.«01_k».proof.Proof.Gen.DwoKernelIdeal.Launch
public import proofs.«01_k».proof.Proof.Gen.DwoKernelIdeal.Points
public import proofs.«01_k».proof.Proof.Gen.DwoKernelIdeal.Frame
public import proofs.«01_k».proof.Proof.Gen.DwoKernelIdeal.Value
public import proofs.«01_k».proof.Proof.Gen.DwoReferenceIdeal
public import proofs.«01_k».proof.Proof.Gen.DwoReferenceIdeal.Run
public import proofs.«01_k».proof.Proof.Gen.DwoReferenceIdeal.Read
public import proofs.«01_k».proof.Proof.DwoClaim
public import proofs.«01_k».proof.Proof.Gen.DwqKernel
public import proofs.«01_k».proof.Proof.Gen.DwqKernel.Skeleton
public import proofs.«01_k».proof.Proof.Gen.DwqKernel.Launch
public import proofs.«01_k».proof.Proof.Gen.DwqKernel.Points
public import proofs.«01_k».proof.Proof.Gen.DwqKernel.Frame
public import proofs.«01_k».proof.Proof.Gen.DwqKernelIdeal
public import proofs.«01_k».proof.Proof.Gen.DwqKernelIdeal.Skeleton
public import proofs.«01_k».proof.Proof.Gen.DwqKernelIdeal.Launch
public import proofs.«01_k».proof.Proof.Gen.DwqKernelIdeal.Points
public import proofs.«01_k».proof.Proof.Gen.DwqKernelIdeal.Frame
public import proofs.«01_k».proof.Proof.Gen.DwqKernelIdeal.Value
public import proofs.«01_k».proof.Proof.Gen.DwqReferenceIdeal
public import proofs.«01_k».proof.Proof.Gen.DwqReferenceIdeal.Run
public import proofs.«01_k».proof.Proof.Gen.DwqReferenceIdeal.Read
public import proofs.«01_k».proof.Proof.DwqClaim
public import proofs.«01_k».proof.Proof.Gen.LsKernel
public import proofs.«01_k».proof.Proof.Gen.LsKernel.Skeleton
public import proofs.«01_k».proof.Proof.Gen.LsKernel.Launch
public import proofs.«01_k».proof.Proof.Gen.LsKernel.Points
public import proofs.«01_k».proof.Proof.Gen.LsKernel.Frame
public import proofs.«01_k».proof.Proof.Gen.LsKernelIdeal
public import proofs.«01_k».proof.Proof.Gen.LsKernelIdeal.Skeleton
public import proofs.«01_k».proof.Proof.Gen.LsKernelIdeal.Launch
public import proofs.«01_k».proof.Proof.Gen.LsKernelIdeal.Points
public import proofs.«01_k».proof.Proof.Gen.LsKernelIdeal.Frame
public import proofs.«01_k».proof.Proof.Gen.LsReferenceIdeal
public import proofs.«01_k».proof.Proof.Gen.LsReferenceIdeal.Run
public import proofs.«01_k».proof.Proof.Gen.LsReferenceIdeal.Read
public import proofs.«01_k».proof.Proof.LsClaim
public import proofs.«01_k».proof.Proof.Gen.AvKernel
public import proofs.«01_k».proof.Proof.Gen.AvKernel.Skeleton
public import proofs.«01_k».proof.Proof.Gen.AvKernel.Launch
public import proofs.«01_k».proof.Proof.Gen.AvKernel.Points
public import proofs.«01_k».proof.Proof.Gen.AvKernel.Frame
public import proofs.«01_k».proof.Proof.Gen.AvKernelIdeal
public import proofs.«01_k».proof.Proof.Gen.AvKernelIdeal.Skeleton
public import proofs.«01_k».proof.Proof.Gen.AvKernelIdeal.Launch
public import proofs.«01_k».proof.Proof.Gen.AvKernelIdeal.Points
public import proofs.«01_k».proof.Proof.Gen.AvKernelIdeal.Frame
public import proofs.«01_k».proof.Proof.Gen.AvKernelIdeal.Value
public import proofs.«01_k».proof.Proof.Gen.AvReferenceIdeal
public import proofs.«01_k».proof.Proof.Gen.AvReferenceIdeal.Run
public import proofs.«01_k».proof.Proof.Gen.AvReferenceIdeal.Read
public import proofs.«01_k».proof.Proof.AvClaim
public import proofs.«01_k».proof.Proof.Gen.AhKernel
public import proofs.«01_k».proof.Proof.Gen.AhKernel.Skeleton
public import proofs.«01_k».proof.Proof.Gen.AhKernel.Launch
public import proofs.«01_k».proof.Proof.Gen.AhKernel.Points
public import proofs.«01_k».proof.Proof.Gen.AhKernel.Frame
public import proofs.«01_k».proof.Proof.Gen.AhKernelIdeal
public import proofs.«01_k».proof.Proof.Gen.AhKernelIdeal.Skeleton
public import proofs.«01_k».proof.Proof.Gen.AhKernelIdeal.Launch
public import proofs.«01_k».proof.Proof.Gen.AhKernelIdeal.Points
public import proofs.«01_k».proof.Proof.Gen.AhKernelIdeal.Frame
public import proofs.«01_k».proof.Proof.Gen.AhKernelIdeal.Value
public import proofs.«01_k».proof.Proof.Gen.AhReferenceIdeal
public import proofs.«01_k».proof.Proof.Gen.AhReferenceIdeal.Run
public import proofs.«01_k».proof.Proof.Gen.AhReferenceIdeal.Read
public import proofs.«01_k».proof.Proof.AhClaim
public import proofs.«01_k».proof.Proof.Gen.AwKernel
public import proofs.«01_k».proof.Proof.Gen.AwKernel.Skeleton
public import proofs.«01_k».proof.Proof.Gen.AwKernel.Launch
public import proofs.«01_k».proof.Proof.Gen.AwKernel.Points
public import proofs.«01_k».proof.Proof.Gen.AwKernel.Frame
public import proofs.«01_k».proof.Proof.Gen.AwKernelIdeal
public import proofs.«01_k».proof.Proof.Gen.AwKernelIdeal.Skeleton
public import proofs.«01_k».proof.Proof.Gen.AwKernelIdeal.Launch
public import proofs.«01_k».proof.Proof.Gen.AwKernelIdeal.Points
public import proofs.«01_k».proof.Proof.Gen.AwKernelIdeal.Frame
public import proofs.«01_k».proof.Proof.Gen.AwKernelIdeal.Value
public import proofs.«01_k».proof.Proof.Gen.AwReferenceIdeal
public import proofs.«01_k».proof.Proof.Gen.AwReferenceIdeal.Run
public import proofs.«01_k».proof.Proof.Gen.AwReferenceIdeal.Read
public import proofs.«01_k».proof.Proof.AwClaim
public import proofs.«01_k».proof.Proof.Gen.AfKernel
public import proofs.«01_k».proof.Proof.Gen.AfKernel.Skeleton
public import proofs.«01_k».proof.Proof.Gen.AfKernel.Launch
public import proofs.«01_k».proof.Proof.Gen.AfKernel.Points
public import proofs.«01_k».proof.Proof.Gen.AfKernel.Frame
public import proofs.«01_k».proof.Proof.Gen.AfKernelIdeal
public import proofs.«01_k».proof.Proof.Gen.AfKernelIdeal.Skeleton
public import proofs.«01_k».proof.Proof.Gen.AfKernelIdeal.Launch
public import proofs.«01_k».proof.Proof.Gen.AfKernelIdeal.Points
public import proofs.«01_k».proof.Proof.Gen.AfKernelIdeal.Frame
public import proofs.«01_k».proof.Proof.Gen.AfKernelIdeal.Value
public import proofs.«01_k».proof.Proof.Gen.AfReferenceIdeal
public import proofs.«01_k».proof.Proof.Gen.AfReferenceIdeal.Run
public import proofs.«01_k».proof.Proof.Gen.AfReferenceIdeal.Read
public import proofs.«01_k».proof.Proof.AfClaim
public import proofs.«01_k».proof.Proof.Gen.ArKernel
public import proofs.«01_k».proof.Proof.Gen.ArKernel.Skeleton
public import proofs.«01_k».proof.Proof.Gen.ArKernel.Launch
public import proofs.«01_k».proof.Proof.Gen.ArKernel.Points
public import proofs.«01_k».proof.Proof.Gen.ArKernel.Frame
public import proofs.«01_k».proof.Proof.Gen.ArKernelIdeal
public import proofs.«01_k».proof.Proof.Gen.ArKernelIdeal.Skeleton
public import proofs.«01_k».proof.Proof.Gen.ArKernelIdeal.Launch
public import proofs.«01_k».proof.Proof.Gen.ArKernelIdeal.Points
public import proofs.«01_k».proof.Proof.Gen.ArKernelIdeal.Frame
public import proofs.«01_k».proof.Proof.Gen.ArKernelIdeal.Value
public import proofs.«01_k».proof.Proof.Gen.ArReferenceIdeal
public import proofs.«01_k».proof.Proof.Gen.ArReferenceIdeal.Run
public import proofs.«01_k».proof.Proof.Gen.ArReferenceIdeal.Read
public import proofs.«01_k».proof.Proof.ArClaim
public import proofs.«01_k».proof.Proof.Gen.AgKernel
public import proofs.«01_k».proof.Proof.Gen.AgKernel.Skeleton
public import proofs.«01_k».proof.Proof.Gen.AgKernel.Launch
public import proofs.«01_k».proof.Proof.Gen.AgKernel.Points
public import proofs.«01_k».proof.Proof.Gen.AgKernel.Frame
public import proofs.«01_k».proof.Proof.Gen.AgKernelIdeal
public import proofs.«01_k».proof.Proof.Gen.AgKernelIdeal.Skeleton
public import proofs.«01_k».proof.Proof.Gen.AgKernelIdeal.Launch
public import proofs.«01_k».proof.Proof.Gen.AgKernelIdeal.Points
public import proofs.«01_k».proof.Proof.Gen.AgKernelIdeal.Frame
public import proofs.«01_k».proof.Proof.Gen.AgKernelIdeal.Value
public import proofs.«01_k».proof.Proof.Gen.AgReferenceIdeal
public import proofs.«01_k».proof.Proof.Gen.AgReferenceIdeal.Run
public import proofs.«01_k».proof.Proof.Gen.AgReferenceIdeal.Read
public import proofs.«01_k».proof.Proof.AgClaim
public import proofs.«01_k».proof.Proof.Gen.ApKernel
public import proofs.«01_k».proof.Proof.Gen.ApKernel.Skeleton
public import proofs.«01_k».proof.Proof.Gen.ApKernel.Launch
public import proofs.«01_k».proof.Proof.Gen.ApKernel.Points
public import proofs.«01_k».proof.Proof.Gen.ApKernel.Frame
public import proofs.«01_k».proof.Proof.Gen.ApKernelIdeal
public import proofs.«01_k».proof.Proof.Gen.ApKernelIdeal.Skeleton
public import proofs.«01_k».proof.Proof.Gen.ApKernelIdeal.Launch
public import proofs.«01_k».proof.Proof.Gen.ApKernelIdeal.Points
public import proofs.«01_k».proof.Proof.Gen.ApKernelIdeal.Frame
public import proofs.«01_k».proof.Proof.Gen.ApKernelIdeal.Value
public import proofs.«01_k».proof.Proof.Gen.ApReferenceIdeal
public import proofs.«01_k».proof.Proof.Gen.ApReferenceIdeal.Run
public import proofs.«01_k».proof.Proof.Gen.ApReferenceIdeal.Read
public import proofs.«01_k».proof.Proof.ApClaim
public import proofs.«01_k».proof.Proof.Gen.AaKernel
public import proofs.«01_k».proof.Proof.Gen.AaKernel.Skeleton
public import proofs.«01_k».proof.Proof.Gen.AaKernel.Launch
public import proofs.«01_k».proof.Proof.Gen.AaKernel.Points
public import proofs.«01_k».proof.Proof.Gen.AaKernel.Frame
public import proofs.«01_k».proof.Proof.Gen.AaKernelIdeal
public import proofs.«01_k».proof.Proof.Gen.AaKernelIdeal.Skeleton
public import proofs.«01_k».proof.Proof.Gen.AaKernelIdeal.Launch
public import proofs.«01_k».proof.Proof.Gen.AaKernelIdeal.Points
public import proofs.«01_k».proof.Proof.Gen.AaKernelIdeal.Frame
public import proofs.«01_k».proof.Proof.Gen.AaKernelIdeal.Value
public import proofs.«01_k».proof.Proof.Gen.AaReferenceIdeal
public import proofs.«01_k».proof.Proof.Gen.AaReferenceIdeal.Run
public import proofs.«01_k».proof.Proof.Gen.AaReferenceIdeal.Read
public import proofs.«01_k».proof.Proof.AaClaim
public import proofs.«01_k».proof.Proof.Gen.AlKernel
public import proofs.«01_k».proof.Proof.Gen.AlKernel.Skeleton
public import proofs.«01_k».proof.Proof.Gen.AlKernel.Launch
public import proofs.«01_k».proof.Proof.Gen.AlKernel.Points
public import proofs.«01_k».proof.Proof.Gen.AlKernel.Frame
public import proofs.«01_k».proof.Proof.Gen.AlKernelIdeal
public import proofs.«01_k».proof.Proof.Gen.AlKernelIdeal.Skeleton
public import proofs.«01_k».proof.Proof.Gen.AlKernelIdeal.Launch
public import proofs.«01_k».proof.Proof.Gen.AlKernelIdeal.Points
public import proofs.«01_k».proof.Proof.Gen.AlKernelIdeal.Frame
public import proofs.«01_k».proof.Proof.Gen.AlKernelIdeal.Value
public import proofs.«01_k».proof.Proof.Gen.AlReferenceIdeal
public import proofs.«01_k».proof.Proof.Gen.AlReferenceIdeal.Run
public import proofs.«01_k».proof.Proof.Gen.AlReferenceIdeal.Read
public import proofs.«01_k».proof.Proof.AlClaim
public import proofs.«01_k».proof.Proof.Gen.AiKernel
public import proofs.«01_k».proof.Proof.Gen.AiKernel.Skeleton
public import proofs.«01_k».proof.Proof.Gen.AiKernel.Launch
public import proofs.«01_k».proof.Proof.Gen.AiKernel.Points
public import proofs.«01_k».proof.Proof.Gen.AiKernel.Frame
public import proofs.«01_k».proof.Proof.Gen.AiKernelIdeal
public import proofs.«01_k».proof.Proof.Gen.AiKernelIdeal.Skeleton
public import proofs.«01_k».proof.Proof.Gen.AiKernelIdeal.Launch
public import proofs.«01_k».proof.Proof.Gen.AiKernelIdeal.Points
public import proofs.«01_k».proof.Proof.Gen.AiKernelIdeal.Frame
public import proofs.«01_k».proof.Proof.Gen.AiKernelIdeal.Value
public import proofs.«01_k».proof.Proof.Gen.AiReferenceIdeal
public import proofs.«01_k».proof.Proof.Gen.AiReferenceIdeal.Run
public import proofs.«01_k».proof.Proof.Gen.AiReferenceIdeal.Read
public import proofs.«01_k».proof.Proof.AiClaim
public import proofs.«01_k».proof.Proof.Gen.AcKernel
public import proofs.«01_k».proof.Proof.Gen.AcKernel.Skeleton
public import proofs.«01_k».proof.Proof.Gen.AcKernel.Launch
public import proofs.«01_k».proof.Proof.Gen.AcKernel.Points
public import proofs.«01_k».proof.Proof.Gen.AcKernel.Frame
public import proofs.«01_k».proof.Proof.Gen.AcKernelIdeal
public import proofs.«01_k».proof.Proof.Gen.AcKernelIdeal.Skeleton
public import proofs.«01_k».proof.Proof.Gen.AcKernelIdeal.Launch
public import proofs.«01_k».proof.Proof.Gen.AcKernelIdeal.Points
public import proofs.«01_k».proof.Proof.Gen.AcKernelIdeal.Frame
public import proofs.«01_k».proof.Proof.Gen.AcKernelIdeal.Value
public import proofs.«01_k».proof.Proof.Gen.AcReferenceIdeal
public import proofs.«01_k».proof.Proof.Gen.AcReferenceIdeal.Run
public import proofs.«01_k».proof.Proof.Gen.AcReferenceIdeal.Read
public import proofs.«01_k».proof.Proof.AcClaim
public import proofs.«01_k».proof.Proof.Gen.AuKernel
public import proofs.«01_k».proof.Proof.Gen.AuKernel.Skeleton
public import proofs.«01_k».proof.Proof.Gen.AuKernel.Launch
public import proofs.«01_k».proof.Proof.Gen.AuKernel.Points
public import proofs.«01_k».proof.Proof.Gen.AuKernel.Frame
public import proofs.«01_k».proof.Proof.Gen.AuKernelIdeal
public import proofs.«01_k».proof.Proof.Gen.AuKernelIdeal.Skeleton
public import proofs.«01_k».proof.Proof.Gen.AuKernelIdeal.Launch
public import proofs.«01_k».proof.Proof.Gen.AuKernelIdeal.Points
public import proofs.«01_k».proof.Proof.Gen.AuKernelIdeal.Frame
public import proofs.«01_k».proof.Proof.Gen.AuKernelIdeal.Value
public import proofs.«01_k».proof.Proof.Gen.AuReferenceIdeal
public import proofs.«01_k».proof.Proof.Gen.AuReferenceIdeal.Run
public import proofs.«01_k».proof.Proof.Gen.AuReferenceIdeal.Read
public import proofs.«01_k».proof.Proof.AuClaim
public import proofs.«01_k».proof.Proof.Gen.AsKernel
public import proofs.«01_k».proof.Proof.Gen.AsKernel.Skeleton
public import proofs.«01_k».proof.Proof.Gen.AsKernel.Launch
public import proofs.«01_k».proof.Proof.Gen.AsKernel.Points
public import proofs.«01_k».proof.Proof.Gen.AsKernel.Frame
public import proofs.«01_k».proof.Proof.Gen.AsKernelIdeal
public import proofs.«01_k».proof.Proof.Gen.AsKernelIdeal.Skeleton
public import proofs.«01_k».proof.Proof.Gen.AsKernelIdeal.Launch
public import proofs.«01_k».proof.Proof.Gen.AsKernelIdeal.Points
public import proofs.«01_k».proof.Proof.Gen.AsKernelIdeal.Frame
public import proofs.«01_k».proof.Proof.Gen.AsKernelIdeal.Value
public import proofs.«01_k».proof.Proof.Gen.AsReferenceIdeal
public import proofs.«01_k».proof.Proof.Gen.AsReferenceIdeal.Run
public import proofs.«01_k».proof.Proof.Gen.AsReferenceIdeal.Read
public import proofs.«01_k».proof.Proof.AsClaim
public import proofs.«01_k».proof.Proof.Gen.AmKernel
public import proofs.«01_k».proof.Proof.Gen.AmKernel.Skeleton
public import proofs.«01_k».proof.Proof.Gen.AmKernel.Launch
public import proofs.«01_k».proof.Proof.Gen.AmKernel.Points
public import proofs.«01_k».proof.Proof.Gen.AmKernel.Frame
public import proofs.«01_k».proof.Proof.Gen.AmKernelIdeal
public import proofs.«01_k».proof.Proof.Gen.AmKernelIdeal.Skeleton
public import proofs.«01_k».proof.Proof.Gen.AmKernelIdeal.Launch
public import proofs.«01_k».proof.Proof.Gen.AmKernelIdeal.Points
public import proofs.«01_k».proof.Proof.Gen.AmKernelIdeal.Frame
public import proofs.«01_k».proof.Proof.Gen.AmKernelIdeal.Value
public import proofs.«01_k».proof.Proof.Gen.AmReferenceIdeal
public import proofs.«01_k».proof.Proof.Gen.AmReferenceIdeal.Run
public import proofs.«01_k».proof.Proof.Gen.AmReferenceIdeal.Read
public import proofs.«01_k».proof.Proof.AmClaim
public import proofs.«01_k».proof.Proof.Gen.AoKernel
public import proofs.«01_k».proof.Proof.Gen.AoKernel.Skeleton
public import proofs.«01_k».proof.Proof.Gen.AoKernel.Launch
public import proofs.«01_k».proof.Proof.Gen.AoKernel.Points
public import proofs.«01_k».proof.Proof.Gen.AoKernel.Frame
public import proofs.«01_k».proof.Proof.Gen.AoKernelIdeal
public import proofs.«01_k».proof.Proof.Gen.AoKernelIdeal.Skeleton
public import proofs.«01_k».proof.Proof.Gen.AoKernelIdeal.Launch
public import proofs.«01_k».proof.Proof.Gen.AoKernelIdeal.Points
public import proofs.«01_k».proof.Proof.Gen.AoKernelIdeal.Frame
public import proofs.«01_k».proof.Proof.Gen.AoKernelIdeal.Value
public import proofs.«01_k».proof.Proof.Gen.AoReferenceIdeal
public import proofs.«01_k».proof.Proof.Gen.AoReferenceIdeal.Run
public import proofs.«01_k».proof.Proof.Gen.AoReferenceIdeal.Read
public import proofs.«01_k».proof.Proof.AoClaim
public import proofs.«01_k».proof.Proof.Gen.AqKernel
public import proofs.«01_k».proof.Proof.Gen.AqKernel.Skeleton
public import proofs.«01_k».proof.Proof.Gen.AqKernel.Launch
public import proofs.«01_k».proof.Proof.Gen.AqKernel.Points
public import proofs.«01_k».proof.Proof.Gen.AqKernel.Frame
public import proofs.«01_k».proof.Proof.Gen.AqKernelIdeal
public import proofs.«01_k».proof.Proof.Gen.AqKernelIdeal.Skeleton
public import proofs.«01_k».proof.Proof.Gen.AqKernelIdeal.Launch
public import proofs.«01_k».proof.Proof.Gen.AqKernelIdeal.Points
public import proofs.«01_k».proof.Proof.Gen.AqKernelIdeal.Frame
public import proofs.«01_k».proof.Proof.Gen.AqKernelIdeal.Value
public import proofs.«01_k».proof.Proof.Gen.AqReferenceIdeal
public import proofs.«01_k».proof.Proof.Gen.AqReferenceIdeal.Run
public import proofs.«01_k».proof.Proof.Gen.AqReferenceIdeal.Read
public import proofs.«01_k».proof.Proof.AqClaim
public import proofs.«01_k».proof.Proof.Gen.AxKernel
public import proofs.«01_k».proof.Proof.Gen.AxKernel.Skeleton
public import proofs.«01_k».proof.Proof.Gen.AxKernel.Launch
public import proofs.«01_k».proof.Proof.Gen.AxKernel.Points
public import proofs.«01_k».proof.Proof.Gen.AxKernel.Frame
public import proofs.«01_k».proof.Proof.Gen.AxKernelIdeal
public import proofs.«01_k».proof.Proof.Gen.AxKernelIdeal.Skeleton
public import proofs.«01_k».proof.Proof.Gen.AxKernelIdeal.Launch
public import proofs.«01_k».proof.Proof.Gen.AxKernelIdeal.Points
public import proofs.«01_k».proof.Proof.Gen.AxKernelIdeal.Frame
public import proofs.«01_k».proof.Proof.Gen.AxKernelIdeal.Value
public import proofs.«01_k».proof.Proof.Gen.AxReferenceIdeal
public import proofs.«01_k».proof.Proof.Gen.AxReferenceIdeal.Run
public import proofs.«01_k».proof.Proof.Gen.AxReferenceIdeal.Read
public import proofs.«01_k».proof.Proof.AxClaim
public import proofs.«01_k».proof.Proof.Gen.CkvKernel
public import proofs.«01_k».proof.Proof.Gen.CkvKernel.Skeleton
public import proofs.«01_k».proof.Proof.Gen.CkvKernel.Launch
public import proofs.«01_k».proof.Proof.Gen.CkvKernel.Points
public import proofs.«01_k».proof.Proof.Gen.CkvKernel.Frame
public import proofs.«01_k».proof.Proof.Gen.CkvKernelIdeal
public import proofs.«01_k».proof.Proof.Gen.CkvKernelIdeal.Skeleton
public import proofs.«01_k».proof.Proof.Gen.CkvKernelIdeal.Launch
public import proofs.«01_k».proof.Proof.Gen.CkvKernelIdeal.Points
public import proofs.«01_k».proof.Proof.Gen.CkvKernelIdeal.Frame
public import proofs.«01_k».proof.Proof.Gen.CkvKernelIdeal.Value
public import proofs.«01_k».proof.Proof.Gen.CkvReferenceIdeal
public import proofs.«01_k».proof.Proof.Gen.CkvReferenceIdeal.Run
public import proofs.«01_k».proof.Proof.Gen.CkvReferenceIdeal.Read
public import proofs.«01_k».proof.Proof.CkvClaim
public import proofs.«01_k».proof.Proof.Gen.DwkvKernel
public import proofs.«01_k».proof.Proof.Gen.DwkvKernel.Skeleton
public import proofs.«01_k».proof.Proof.Gen.DwkvKernel.Launch
public import proofs.«01_k».proof.Proof.Gen.DwkvKernel.Points
public import proofs.«01_k».proof.Proof.Gen.DwkvKernel.Frame
public import proofs.«01_k».proof.Proof.Gen.DwkvKernelIdeal
public import proofs.«01_k».proof.Proof.Gen.DwkvKernelIdeal.Skeleton
public import proofs.«01_k».proof.Proof.Gen.DwkvKernelIdeal.Launch
public import proofs.«01_k».proof.Proof.Gen.DwkvKernelIdeal.Points
public import proofs.«01_k».proof.Proof.Gen.DwkvKernelIdeal.Frame
public import proofs.«01_k».proof.Proof.Gen.DwkvKernelIdeal.Value
public import proofs.«01_k».proof.Proof.Gen.DwkvReferenceIdeal
public import proofs.«01_k».proof.Proof.Gen.DwkvReferenceIdeal.Run
public import proofs.«01_k».proof.Proof.Gen.DwkvReferenceIdeal.Read
public import proofs.«01_k».proof.Proof.DwkvClaim
public import proofs.«01_k».proof.Proof.Gen.DmemKernel
public import proofs.«01_k».proof.Proof.Gen.DmemKernel.Skeleton
public import proofs.«01_k».proof.Proof.Gen.DmemKernel.Launch
public import proofs.«01_k».proof.Proof.Gen.DmemKernel.Points
public import proofs.«01_k».proof.Proof.Gen.DmemKernel.Frame
public import proofs.«01_k».proof.Proof.Gen.DmemKernelIdeal
public import proofs.«01_k».proof.Proof.Gen.DmemKernelIdeal.Skeleton
public import proofs.«01_k».proof.Proof.Gen.DmemKernelIdeal.Launch
public import proofs.«01_k».proof.Proof.Gen.DmemKernelIdeal.Points
public import proofs.«01_k».proof.Proof.Gen.DmemKernelIdeal.Frame
public import proofs.«01_k».proof.Proof.Gen.DmemKernelIdeal.Value
public import proofs.«01_k».proof.Proof.Gen.DmemReferenceIdeal
public import proofs.«01_k».proof.Proof.Gen.DmemReferenceIdeal.Run
public import proofs.«01_k».proof.Proof.Gen.DmemReferenceIdeal.Read
public import proofs.«01_k».proof.Proof.DmemClaim
public import proofs.«01_k».proof.Proof.Gen.Dh2Kernel
public import proofs.«01_k».proof.Proof.Gen.Dh2Kernel.Skeleton
public import proofs.«01_k».proof.Proof.Gen.Dh2Kernel.Launch
public import proofs.«01_k».proof.Proof.Gen.Dh2Kernel.Points
public import proofs.«01_k».proof.Proof.Gen.Dh2Kernel.Frame
public import proofs.«01_k».proof.Proof.Gen.Dh2KernelIdeal
public import proofs.«01_k».proof.Proof.Gen.Dh2KernelIdeal.Skeleton
public import proofs.«01_k».proof.Proof.Gen.Dh2KernelIdeal.Launch
public import proofs.«01_k».proof.Proof.Gen.Dh2KernelIdeal.Points
public import proofs.«01_k».proof.Proof.Gen.Dh2KernelIdeal.Frame
public import proofs.«01_k».proof.Proof.Gen.Dh2KernelIdeal.Value
public import proofs.«01_k».proof.Proof.Gen.Dh2ReferenceIdeal
public import proofs.«01_k».proof.Proof.Gen.Dh2ReferenceIdeal.Run
public import proofs.«01_k».proof.Proof.Gen.Dh2ReferenceIdeal.Read
public import proofs.«01_k».proof.Proof.Dh2Claim
public import proofs.«01_k».proof.Proof.Gen.FmKernel
public import proofs.«01_k».proof.Proof.Gen.FmKernel.Skeleton
public import proofs.«01_k».proof.Proof.Gen.FmKernel.Launch
public import proofs.«01_k».proof.Proof.Gen.FmKernel.Points
public import proofs.«01_k».proof.Proof.Gen.FmKernel.Frame
public import proofs.«01_k».proof.Proof.Gen.FmKernelIdeal
public import proofs.«01_k».proof.Proof.Gen.FmKernelIdeal.Skeleton
public import proofs.«01_k».proof.Proof.Gen.FmKernelIdeal.Launch
public import proofs.«01_k».proof.Proof.Gen.FmKernelIdeal.Points
public import proofs.«01_k».proof.Proof.Gen.FmKernelIdeal.Frame
public import proofs.«01_k».proof.Proof.Gen.FmKernelIdeal.Value
public import proofs.«01_k».proof.Proof.Gen.FmReferenceIdeal
public import proofs.«01_k».proof.Proof.Gen.FmReferenceIdeal.Run
public import proofs.«01_k».proof.Proof.Gen.FmReferenceIdeal.Read
public import proofs.«01_k».proof.Proof.FmClaim
public import proofs.«01_k».proof.Proof.Gen.FpKernel
public import proofs.«01_k».proof.Proof.Gen.FpKernel.Skeleton
public import proofs.«01_k».proof.Proof.Gen.FpKernel.Launch
public import proofs.«01_k».proof.Proof.Gen.FpKernel.Points
public import proofs.«01_k».proof.Proof.Gen.FpKernel.Frame
public import proofs.«01_k».proof.Proof.Gen.FpKernelIdeal
public import proofs.«01_k».proof.Proof.Gen.FpKernelIdeal.Skeleton
public import proofs.«01_k».proof.Proof.Gen.FpKernelIdeal.Launch
public import proofs.«01_k».proof.Proof.Gen.FpKernelIdeal.Points
public import proofs.«01_k».proof.Proof.Gen.FpKernelIdeal.Frame
public import proofs.«01_k».proof.Proof.Gen.FpKernelIdeal.Value
public import proofs.«01_k».proof.Proof.Gen.FpReferenceIdeal
public import proofs.«01_k».proof.Proof.Gen.FpReferenceIdeal.Run
public import proofs.«01_k».proof.Proof.Gen.FpReferenceIdeal.Read
public import proofs.«01_k».proof.Proof.FpClaim
public import proofs.«01_k».proof.Proof.Gen.RmemKernel
public import proofs.«01_k».proof.Proof.Gen.RmemKernel.Skeleton
public import proofs.«01_k».proof.Proof.Gen.RmemKernel.Launch
public import proofs.«01_k».proof.Proof.Gen.RmemKernel.Points
public import proofs.«01_k».proof.Proof.Gen.RmemKernel.Frame
public import proofs.«01_k».proof.Proof.Gen.RmemKernelIdeal
public import proofs.«01_k».proof.Proof.Gen.RmemKernelIdeal.Skeleton
public import proofs.«01_k».proof.Proof.Gen.RmemKernelIdeal.Launch
public import proofs.«01_k».proof.Proof.Gen.RmemKernelIdeal.Points
public import proofs.«01_k».proof.Proof.Gen.RmemKernelIdeal.Frame
public import proofs.«01_k».proof.Proof.Gen.RmemKernelIdeal.Value
public import proofs.«01_k».proof.Proof.Gen.RmemReferenceIdeal
public import proofs.«01_k».proof.Proof.Gen.RmemReferenceIdeal.Run
public import proofs.«01_k».proof.Proof.Gen.RmemReferenceIdeal.Read
public import proofs.«01_k».proof.Proof.RmemClaim
public import proofs.«01_k».proof.Proof.Gen.DlKernel
public import proofs.«01_k».proof.Proof.Gen.DlKernel.Skeleton
public import proofs.«01_k».proof.Proof.Gen.DlKernel.Launch
public import proofs.«01_k».proof.Proof.Gen.DlKernel.Points
public import proofs.«01_k».proof.Proof.Gen.DlKernel.Frame
public import proofs.«01_k».proof.Proof.Gen.DlKernelIdeal
public import proofs.«01_k».proof.Proof.Gen.DlKernelIdeal.Skeleton
public import proofs.«01_k».proof.Proof.Gen.DlKernelIdeal.Launch
public import proofs.«01_k».proof.Proof.Gen.DlKernelIdeal.Points
public import proofs.«01_k».proof.Proof.Gen.DlKernelIdeal.Frame
public import proofs.«01_k».proof.Proof.Gen.DlKernelIdeal.Value
public import proofs.«01_k».proof.Proof.Gen.DlReferenceIdeal
public import proofs.«01_k».proof.Proof.Gen.DlReferenceIdeal.Run
public import proofs.«01_k».proof.Proof.Gen.DlReferenceIdeal.Read
public import proofs.«01_k».proof.Proof.DlClaim
public import proofs.«01_k».proof.Proof.Gen.GluKernel
public import proofs.«01_k».proof.Proof.Gen.GluKernel.Skeleton
public import proofs.«01_k».proof.Proof.Gen.GluKernel.Launch
public import proofs.«01_k».proof.Proof.Gen.GluKernel.Points
public import proofs.«01_k».proof.Proof.Gen.GluKernel.Frame
public import proofs.«01_k».proof.Proof.Gen.GluKernelIdeal
public import proofs.«01_k».proof.Proof.Gen.GluKernelIdeal.Skeleton
public import proofs.«01_k».proof.Proof.Gen.GluKernelIdeal.Launch
public import proofs.«01_k».proof.Proof.Gen.GluKernelIdeal.Points
public import proofs.«01_k».proof.Proof.Gen.GluKernelIdeal.Frame
public import proofs.«01_k».proof.Proof.Gen.GluKernelIdeal.Value
public import proofs.«01_k».proof.Proof.Gen.GluReferenceIdeal
public import proofs.«01_k».proof.Proof.Gen.GluReferenceIdeal.Run
public import proofs.«01_k».proof.Proof.Gen.GluReferenceIdeal.Read
public import proofs.«01_k».proof.Proof.GluClaim
public import proofs.«01_k».proof.Proof.Gen.MixKernel
public import proofs.«01_k».proof.Proof.Gen.MixKernel.Skeleton
public import proofs.«01_k».proof.Proof.Gen.MixKernel.Launch
public import proofs.«01_k».proof.Proof.Gen.MixKernel.Points
public import proofs.«01_k».proof.Proof.Gen.MixKernel.Frame
public import proofs.«01_k».proof.Proof.Gen.MixKernelIdeal
public import proofs.«01_k».proof.Proof.Gen.MixKernelIdeal.Skeleton
public import proofs.«01_k».proof.Proof.Gen.MixKernelIdeal.Launch
public import proofs.«01_k».proof.Proof.Gen.MixKernelIdeal.Points
public import proofs.«01_k».proof.Proof.Gen.MixKernelIdeal.Frame
public import proofs.«01_k».proof.Proof.Gen.MixReferenceIdeal
public import proofs.«01_k».proof.Proof.Gen.MixReferenceIdeal.Run
public import proofs.«01_k».proof.Proof.Gen.MixReferenceIdeal.Read
public import proofs.«01_k».proof.Proof.MixClaim
public import proofs.«01_k».proof.Defs
public import Idealize.ShloMosaic.Adequacy
public import Idealize.ShloMosaic.Init

@[expose] public section

noncomputable section

namespace Cert.Proof

open Idealize.ShloMosaic Idealize.SL.Sem

theorem claim : Cert.Claim := ⟨Cert.Kernel.Gen.facts, Cert.KernelIdeal.Gen.facts, Cert.ReferenceIdeal.Gen.facts,
  Cert.ActKernel.Gen.facts,
  Cert.ActKernelIdeal.Gen.facts, Cert.ActReferenceIdeal.Gen.facts, Cert.Ff2Kernel.Gen.facts, Cert.Ff2KernelIdeal.Gen.facts, Cert.Ff2ReferenceIdeal.Gen.facts, Cert.Ff1Kernel.Gen.facts, Cert.Ff1KernelIdeal.Gen.facts, Cert.Ff1ReferenceIdeal.Gen.facts, Cert.WinKernel.Gen.facts, Cert.WinKernelIdeal.Gen.facts, Cert.WinReferenceIdeal.Gen.facts, Cert.Dh1Kernel.Gen.facts, Cert.Dh1KernelIdeal.Gen.facts, Cert.Dh1ReferenceIdeal.Gen.facts, Cert.Dh3Kernel.Gen.facts, Cert.Dh3KernelIdeal.Gen.facts, Cert.Dh3ReferenceIdeal.Gen.facts, Cert.RmsKernel.Gen.facts, Cert.RmsKernelIdeal.Gen.facts, Cert.RmsReferenceIdeal.Gen.facts, Cert.PjKernel.Gen.facts, Cert.PjKernelIdeal.Gen.facts, Cert.PjReferenceIdeal.Gen.facts, Cert.UpKernel.Gen.facts, Cert.UpKernelIdeal.Gen.facts, Cert.UpReferenceIdeal.Gen.facts, Cert.DnKernel.Gen.facts, Cert.DnKernelIdeal.Gen.facts, Cert.DnReferenceIdeal.Gen.facts, Cert.MfKernel.Gen.facts, Cert.MfKernelIdeal.Gen.facts, Cert.MfReferenceIdeal.Gen.facts, Cert.WoKernel.Gen.facts, Cert.WoKernelIdeal.Gen.facts, Cert.WoReferenceIdeal.Gen.facts, Cert.CoKernel.Gen.facts, Cert.CoKernelIdeal.Gen.facts, Cert.CoReferenceIdeal.Gen.facts, Cert.CqKernel.Gen.facts, Cert.CqKernelIdeal.Gen.facts, Cert.CqReferenceIdeal.Gen.facts, Cert.DmKernel.Gen.facts, Cert.DmKernelIdeal.Gen.facts, Cert.DmReferenceIdeal.Gen.facts, Cert.DbKernel.Gen.facts, Cert.DbKernelIdeal.Gen.facts, Cert.DbReferenceIdeal.Gen.facts, Cert.DxKernel.Gen.facts, Cert.DxKernelIdeal.Gen.facts, Cert.DxReferenceIdeal.Gen.facts, Cert.WuKernel.Gen.facts, Cert.WuKernelIdeal.Gen.facts, Cert.WuReferenceIdeal.Gen.facts, Cert.DwoKernel.Gen.facts, Cert.DwoKernelIdeal.Gen.facts, Cert.DwoReferenceIdeal.Gen.facts, Cert.DwqKernel.Gen.facts, Cert.DwqKernelIdeal.Gen.facts, Cert.DwqReferenceIdeal.Gen.facts, Cert.LsKernel.Gen.facts, Cert.LsKernelIdeal.Gen.facts, Cert.LsReferenceIdeal.Gen.facts, Cert.AvKernel.Gen.facts, Cert.AvKernelIdeal.Gen.facts, Cert.AvReferenceIdeal.Gen.facts, Cert.AhKernel.Gen.facts, Cert.AhKernelIdeal.Gen.facts, Cert.AhReferenceIdeal.Gen.facts, Cert.AwKernel.Gen.facts, Cert.AwKernelIdeal.Gen.facts, Cert.AwReferenceIdeal.Gen.facts, Cert.AfKernel.Gen.facts, Cert.AfKernelIdeal.Gen.facts, Cert.AfReferenceIdeal.Gen.facts, Cert.ArKernel.Gen.facts, Cert.ArKernelIdeal.Gen.facts, Cert.ArReferenceIdeal.Gen.facts, Cert.AgKernel.Gen.facts, Cert.AgKernelIdeal.Gen.facts, Cert.AgReferenceIdeal.Gen.facts, Cert.ApKernel.Gen.facts, Cert.ApKernelIdeal.Gen.facts, Cert.ApReferenceIdeal.Gen.facts, Cert.AaKernel.Gen.facts, Cert.AaKernelIdeal.Gen.facts, Cert.AaReferenceIdeal.Gen.facts, Cert.AlKernel.Gen.facts, Cert.AlKernelIdeal.Gen.facts, Cert.AlReferenceIdeal.Gen.facts, Cert.AiKernel.Gen.facts, Cert.AiKernelIdeal.Gen.facts, Cert.AiReferenceIdeal.Gen.facts, Cert.AcKernel.Gen.facts, Cert.AcKernelIdeal.Gen.facts, Cert.AcReferenceIdeal.Gen.facts, Cert.AuKernel.Gen.facts, Cert.AuKernelIdeal.Gen.facts, Cert.AuReferenceIdeal.Gen.facts, Cert.AsKernel.Gen.facts, Cert.AsKernelIdeal.Gen.facts, Cert.AsReferenceIdeal.Gen.facts, Cert.AmKernel.Gen.facts, Cert.AmKernelIdeal.Gen.facts, Cert.AmReferenceIdeal.Gen.facts, Cert.AoKernel.Gen.facts, Cert.AoKernelIdeal.Gen.facts, Cert.AoReferenceIdeal.Gen.facts, Cert.AqKernel.Gen.facts, Cert.AqKernelIdeal.Gen.facts, Cert.AqReferenceIdeal.Gen.facts, Cert.AxKernel.Gen.facts, Cert.AxKernelIdeal.Gen.facts, Cert.AxReferenceIdeal.Gen.facts, Cert.CkvKernel.Gen.facts, Cert.CkvKernelIdeal.Gen.facts, Cert.CkvReferenceIdeal.Gen.facts, Cert.DwkvKernel.Gen.facts, Cert.DwkvKernelIdeal.Gen.facts, Cert.DwkvReferenceIdeal.Gen.facts, Cert.DmemKernel.Gen.facts, Cert.DmemKernelIdeal.Gen.facts, Cert.DmemReferenceIdeal.Gen.facts, Cert.Dh2Kernel.Gen.facts, Cert.Dh2KernelIdeal.Gen.facts, Cert.Dh2ReferenceIdeal.Gen.facts, Cert.FmKernel.Gen.facts, Cert.FmKernelIdeal.Gen.facts, Cert.FmReferenceIdeal.Gen.facts, Cert.FpKernel.Gen.facts, Cert.FpKernelIdeal.Gen.facts, Cert.FpReferenceIdeal.Gen.facts, Cert.RmemKernel.Gen.facts, Cert.RmemKernelIdeal.Gen.facts, Cert.RmemReferenceIdeal.Gen.facts, Cert.DlKernel.Gen.facts, Cert.DlKernelIdeal.Gen.facts, Cert.DlReferenceIdeal.Gen.facts, Cert.GluKernel.Gen.facts, Cert.GluKernelIdeal.Gen.facts, Cert.GluReferenceIdeal.Gen.facts, Cert.MixKernel.Gen.facts, Cert.MixKernelIdeal.Gen.facts, Cert.MixReferenceIdeal.Gen.facts,
  fun m ρ _ => Cert.Kernel.Gen.frame m ρ,
  fun m ρ _ => Cert.KernelIdeal.Gen.frame m ρ,
  Cert.Merge.frame_reference,
  fun m ρ _ => Cert.ActKernel.Gen.frame m ρ,
  fun m ρ _ => Cert.ActKernelIdeal.Gen.frame m ρ,
  Cert.Act.frame_reference,
  fun m ρ _ => Cert.Ff2Kernel.Gen.frame m ρ,
  fun m ρ _ => Cert.Ff2KernelIdeal.Gen.frame m ρ,
  Cert.Ff2.frame_reference,
  fun m ρ _ => Cert.Ff1Kernel.Gen.frame m ρ,
  fun m ρ _ => Cert.Ff1KernelIdeal.Gen.frame m ρ,
  Cert.Ff1.frame_reference,
  fun m ρ _ => Cert.WinKernel.Gen.frame m ρ,
  fun m ρ _ => Cert.WinKernelIdeal.Gen.frame m ρ,
  Cert.Win.frame_reference,
  fun m ρ _ => Cert.Dh1Kernel.Gen.frame m ρ,
  fun m ρ _ => Cert.Dh1KernelIdeal.Gen.frame m ρ,
  Cert.Dh1.frame_reference,
  fun m ρ _ => Cert.Dh3Kernel.Gen.frame m ρ,
  fun m ρ _ => Cert.Dh3KernelIdeal.Gen.frame m ρ,
  Cert.Dh3.frame_reference,
  fun m ρ _ => Cert.RmsKernel.Gen.frame m ρ,
  fun m ρ _ => Cert.RmsKernelIdeal.Gen.frame m ρ,
  Cert.Rms.frame_reference,
  fun m ρ _ => Cert.PjKernel.Gen.frame m ρ,
  fun m ρ _ => Cert.PjKernelIdeal.Gen.frame m ρ,
  Cert.Pj.frame_reference,
  fun m ρ _ => Cert.UpKernel.Gen.frame m ρ,
  fun m ρ _ => Cert.UpKernelIdeal.Gen.frame m ρ,
  Cert.Up.frame_reference,
  fun m ρ _ => Cert.DnKernel.Gen.frame m ρ,
  fun m ρ _ => Cert.DnKernelIdeal.Gen.frame m ρ,
  Cert.Dn.frame_reference,
  fun m ρ _ => Cert.MfKernel.Gen.frame m ρ,
  fun m ρ _ => Cert.MfKernelIdeal.Gen.frame m ρ,
  Cert.Mf.frame_reference,
  fun m ρ _ => Cert.WoKernel.Gen.frame m ρ,
  fun m ρ _ => Cert.WoKernelIdeal.Gen.frame m ρ,
  Cert.Wo.frame_reference,
  fun m ρ _ => Cert.CoKernel.Gen.frame m ρ,
  fun m ρ _ => Cert.CoKernelIdeal.Gen.frame m ρ,
  Cert.Co.frame_reference,
  fun m ρ _ => Cert.CqKernel.Gen.frame m ρ,
  fun m ρ _ => Cert.CqKernelIdeal.Gen.frame m ρ,
  Cert.Cq.frame_reference,
  fun m ρ _ => Cert.DmKernel.Gen.frame m ρ,
  fun m ρ _ => Cert.DmKernelIdeal.Gen.frame m ρ,
  Cert.Dm.frame_reference,
  fun m ρ _ => Cert.DbKernel.Gen.frame m ρ,
  fun m ρ _ => Cert.DbKernelIdeal.Gen.frame m ρ,
  Cert.Db.frame_reference,
  fun m ρ _ => Cert.DxKernel.Gen.frame m ρ,
  fun m ρ _ => Cert.DxKernelIdeal.Gen.frame m ρ,
  Cert.Dx.frame_reference,
  fun m ρ _ => Cert.WuKernel.Gen.frame m ρ,
  fun m ρ _ => Cert.WuKernelIdeal.Gen.frame m ρ,
  Cert.Wu.frame_reference,
  fun m ρ _ => Cert.DwoKernel.Gen.frame m ρ,
  fun m ρ _ => Cert.DwoKernelIdeal.Gen.frame m ρ,
  Cert.Dwo.frame_reference,
  fun m ρ _ => Cert.DwqKernel.Gen.frame m ρ,
  fun m ρ _ => Cert.DwqKernelIdeal.Gen.frame m ρ,
  Cert.Dwq.frame_reference,
  fun m ρ _ => Cert.LsKernel.Gen.frame m ρ,
  fun m ρ _ => Cert.LsKernelIdeal.Gen.frame m ρ,
  Cert.Ls.frame_reference,
  fun m ρ _ => Cert.AvKernel.Gen.frame m ρ,
  fun m ρ _ => Cert.AvKernelIdeal.Gen.frame m ρ,
  Cert.Av.frame_reference,
  fun m ρ _ => Cert.AhKernel.Gen.frame m ρ,
  fun m ρ _ => Cert.AhKernelIdeal.Gen.frame m ρ,
  Cert.Ah.frame_reference,
  fun m ρ _ => Cert.AwKernel.Gen.frame m ρ,
  fun m ρ _ => Cert.AwKernelIdeal.Gen.frame m ρ,
  Cert.Aw.frame_reference,
  fun m ρ _ => Cert.AfKernel.Gen.frame m ρ,
  fun m ρ _ => Cert.AfKernelIdeal.Gen.frame m ρ,
  Cert.Af.frame_reference,
  fun m ρ _ => Cert.ArKernel.Gen.frame m ρ,
  fun m ρ _ => Cert.ArKernelIdeal.Gen.frame m ρ,
  Cert.Ar.frame_reference,
  fun m ρ _ => Cert.AgKernel.Gen.frame m ρ,
  fun m ρ _ => Cert.AgKernelIdeal.Gen.frame m ρ,
  Cert.Ag.frame_reference,
  fun m ρ _ => Cert.ApKernel.Gen.frame m ρ,
  fun m ρ _ => Cert.ApKernelIdeal.Gen.frame m ρ,
  Cert.Ap.frame_reference,
  fun m ρ _ => Cert.AaKernel.Gen.frame m ρ,
  fun m ρ _ => Cert.AaKernelIdeal.Gen.frame m ρ,
  Cert.Aa.frame_reference,
  fun m ρ _ => Cert.AlKernel.Gen.frame m ρ,
  fun m ρ _ => Cert.AlKernelIdeal.Gen.frame m ρ,
  Cert.Al.frame_reference,
  fun m ρ _ => Cert.AiKernel.Gen.frame m ρ,
  fun m ρ _ => Cert.AiKernelIdeal.Gen.frame m ρ,
  Cert.Ai.frame_reference,
  fun m ρ _ => Cert.AcKernel.Gen.frame m ρ,
  fun m ρ _ => Cert.AcKernelIdeal.Gen.frame m ρ,
  Cert.Ac.frame_reference,
  fun m ρ _ => Cert.AuKernel.Gen.frame m ρ,
  fun m ρ _ => Cert.AuKernelIdeal.Gen.frame m ρ,
  Cert.Au.frame_reference,
  fun m ρ _ => Cert.AsKernel.Gen.frame m ρ,
  fun m ρ _ => Cert.AsKernelIdeal.Gen.frame m ρ,
  Cert.As.frame_reference,
  fun m ρ _ => Cert.AmKernel.Gen.frame m ρ,
  fun m ρ _ => Cert.AmKernelIdeal.Gen.frame m ρ,
  Cert.Am.frame_reference,
  fun m ρ _ => Cert.AoKernel.Gen.frame m ρ,
  fun m ρ _ => Cert.AoKernelIdeal.Gen.frame m ρ,
  Cert.Ao.frame_reference,
  fun m ρ _ => Cert.AqKernel.Gen.frame m ρ,
  fun m ρ _ => Cert.AqKernelIdeal.Gen.frame m ρ,
  Cert.Aq.frame_reference,
  fun m ρ _ => Cert.AxKernel.Gen.frame m ρ,
  fun m ρ _ => Cert.AxKernelIdeal.Gen.frame m ρ,
  Cert.Ax.frame_reference,
  fun m ρ _ => Cert.CkvKernel.Gen.frame m ρ,
  fun m ρ _ => Cert.CkvKernelIdeal.Gen.frame m ρ,
  Cert.Ckv.frame_reference,
  fun m ρ _ => Cert.DwkvKernel.Gen.frame m ρ,
  fun m ρ _ => Cert.DwkvKernelIdeal.Gen.frame m ρ,
  Cert.Dwkv.frame_reference,
  fun m ρ _ => Cert.DmemKernel.Gen.frame m ρ,
  fun m ρ _ => Cert.DmemKernelIdeal.Gen.frame m ρ,
  Cert.Dmem.frame_reference,
  fun m ρ _ => Cert.Dh2Kernel.Gen.frame m ρ,
  fun m ρ _ => Cert.Dh2KernelIdeal.Gen.frame m ρ,
  Cert.Dh2.frame_reference,
  fun m ρ _ => Cert.FmKernel.Gen.frame m ρ,
  fun m ρ _ => Cert.FmKernelIdeal.Gen.frame m ρ,
  Cert.Fm.frame_reference,
  fun m ρ _ => Cert.FpKernel.Gen.frame m ρ,
  fun m ρ _ => Cert.FpKernelIdeal.Gen.frame m ρ,
  Cert.Fp.frame_reference,
  fun m ρ _ => Cert.RmemKernel.Gen.frame m ρ,
  fun m ρ _ => Cert.RmemKernelIdeal.Gen.frame m ρ,
  Cert.Rmem.frame_reference,
  fun m ρ _ => Cert.DlKernel.Gen.frame m ρ,
  fun m ρ _ => Cert.DlKernelIdeal.Gen.frame m ρ,
  Cert.Dl.frame_reference,
  fun m ρ _ => Cert.GluKernel.Gen.frame m ρ,
  fun m ρ _ => Cert.GluKernelIdeal.Gen.frame m ρ,
  Cert.Glu.frame_reference,
  fun m ρ _ => Cert.MixKernel.Gen.frame m ρ,
  fun m ρ _ => Cert.MixKernelIdeal.Gen.frame m ρ,
  Cert.Mix.frame_reference,
  trivial,
  Cert.Merge.algebraic,
  trivial,
  Cert.Act.algebraic,
  trivial,
  Cert.Ff2.algebraic,
  trivial,
  Cert.Ff1.algebraic,
  trivial,
  Cert.Win.algebraic,
  trivial,
  Cert.Dh1.algebraic,
  trivial,
  Cert.Dh3.algebraic,
  trivial,
  Cert.Rms.algebraic,
  trivial,
  Cert.Pj.algebraic,
  trivial,
  Cert.Up.algebraic,
  trivial,
  Cert.Dn.algebraic,
  trivial,
  Cert.Mf.algebraic,
  trivial,
  Cert.Wo.algebraic,
  trivial,
  Cert.Co.algebraic,
  trivial,
  Cert.Cq.algebraic,
  trivial,
  Cert.Dm.algebraic,
  trivial,
  Cert.Db.algebraic,
  trivial,
  Cert.Dx.algebraic,
  trivial,
  Cert.Wu.algebraic,
  trivial,
  Cert.Dwo.algebraic,
  trivial,
  Cert.Dwq.algebraic,
  trivial,
  Cert.Ls.algebraic,
  trivial,
  Cert.Av.algebraic,
  trivial,
  Cert.Ah.algebraic,
  trivial,
  Cert.Aw.algebraic,
  trivial,
  Cert.Af.algebraic,
  trivial,
  Cert.Ar.algebraic,
  trivial,
  Cert.Ag.algebraic,
  trivial,
  Cert.Ap.algebraic,
  trivial,
  Cert.Aa.algebraic,
  trivial,
  Cert.Al.algebraic,
  trivial,
  Cert.Ai.algebraic,
  trivial,
  Cert.Ac.algebraic,
  trivial,
  Cert.Au.algebraic,
  trivial,
  Cert.As.algebraic,
  trivial,
  Cert.Am.algebraic,
  trivial,
  Cert.Ao.algebraic,
  trivial,
  Cert.Aq.algebraic,
  trivial,
  Cert.Ax.algebraic,
  trivial,
  Cert.Ckv.algebraic,
  trivial,
  Cert.Dwkv.algebraic,
  trivial,
  Cert.Dmem.algebraic,
  trivial,
  Cert.Dh2.algebraic,
  trivial,
  Cert.Fm.algebraic,
  trivial,
  Cert.Fp.algebraic,
  trivial,
  Cert.Rmem.algebraic,
  trivial,
  Cert.Dl.algebraic,
  trivial,
  Cert.Glu.algebraic,
  trivial,
  Cert.Mix.algebraic⟩

end Cert.Proof

end
